-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal [hPre_finite : Cert.Pre_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdIdeal_none (m : (ℓ : Loc Cert.FfnBwdIdeal.nD Cert.FfnBwdIdeal.τ Cert.FfnBwdIdeal.sig) → Buf (Elt Ideal) ℓ) : Prop :=
  True

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite [hPre_finite : Cert.Pre_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_FfnHalves (m : (ℓ : Loc Cert.FfnHalves.nD Cert.FfnHalves.τ Cert.FfnHalves.sig) → Buf (Elt Bits) ℓ) : Prop :=
  True

def Pre_FfnHalvesIdeal (m : (ℓ : Loc Cert.FfnHalvesIdeal.nD Cert.FfnHalvesIdeal.τ Cert.FfnHalvesIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradRefIdeal (m : (ℓ : Loc Cert.InputGradRefIdeal.nD Cert.InputGradRefIdeal.τ Cert.InputGradRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))) = (fun _ => 1#1)

def Pre_NormIdeal_none (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))) = (fun _ => 1#1)

def Pre_NormWhole (m : (ℓ : Loc Cert.NormWhole.nD Cert.NormWhole.τ Cert.NormWhole.sig) → Buf (Elt Bits) ℓ) : Prop :=
  True

def Pre_NormWholeIdeal [hPre_norm_finite : Cert.Pre_norm_finite.Facts] (m : (ℓ : Loc Cert.NormWholeIdeal.nD Cert.NormWholeIdeal.τ Cert.NormWholeIdeal.sig) → Buf (Elt Ideal) ℓ) : Prop :=
  ∀ c : Dev Cert.NormWholeIdeal.nD,
    (Cert.Pre_norm_finite.fn (F := Ideal) (m ((c.tc : Thread Cert.NormWholeIdeal.nD Cert.NormWholeIdeal.τ).loc Cert.NormWholeIdeal.main_arg0)) (m ((c.tc : Thread Cert.NormWholeIdeal.nD Cert.NormWholeIdeal.τ).loc Cert.NormWholeIdeal.main_arg1)) (m ((c.tc : Thread Cert.NormWholeIdeal.nD Cert.NormWholeIdeal.τ).loc Cert.NormWholeIdeal.main_arg2)) (m ((c.tc : Thread Cert.NormWholeIdeal.nD Cert.NormWholeIdeal.τ).loc Cert.NormWholeIdeal.main_arg3)) (m ((c.tc : Thread Cert.NormWholeIdeal.nD Cert.NormWholeIdeal.τ).loc Cert.NormWholeIdeal.main_arg4)) (m ((c.tc : Thread Cert.NormWholeIdeal.nD Cert.NormWholeIdeal.τ).loc Cert.NormWholeIdeal.main_arg5))) = (fun _ => 1#1)

def Pre_NormWholeIdeal_none (m : (ℓ : Loc Cert.NormWholeIdeal.nD Cert.NormWholeIdeal.τ Cert.NormWholeIdeal.sig) → Buf (Elt Ideal) ℓ) : Prop :=
  True

def Pre_NormWholeRefIdeal (m : (ℓ : Loc Cert.NormWholeRefIdeal.nD Cert.NormWholeRefIdeal.τ Cert.NormWholeRefIdeal.sig) → Buf (Elt Ideal) ℓ) : Prop :=
  True

def Pre_NormWholeRefIdeal_norm_finite [hPre_norm_finite : Cert.Pre_norm_finite.Facts] (m : (ℓ : Loc Cert.NormWholeRefIdeal.nD Cert.NormWholeRefIdeal.τ Cert.NormWholeRefIdeal.sig) → Buf (Elt Ideal) ℓ) : Prop :=
  ∀ c : Dev Cert.NormWholeRefIdeal.nD,
    (Cert.Pre_norm_finite.fn (F := Ideal) (m ((c.tc : Thread Cert.NormWholeRefIdeal.nD Cert.NormWholeRefIdeal.τ).loc Cert.NormWholeRefIdeal.main_arg0)) (m ((c.tc : Thread Cert.NormWholeRefIdeal.nD Cert.NormWholeRefIdeal.τ).loc Cert.NormWholeRefIdeal.main_arg1)) (m ((c.tc : Thread Cert.NormWholeRefIdeal.nD Cert.NormWholeRefIdeal.τ).loc Cert.NormWholeRefIdeal.main_arg2)) (m ((c.tc : Thread Cert.NormWholeRefIdeal.nD Cert.NormWholeRefIdeal.τ).loc Cert.NormWholeRefIdeal.main_arg3)) (m ((c.tc : Thread Cert.NormWholeRefIdeal.nD Cert.NormWholeRefIdeal.τ).loc Cert.NormWholeRefIdeal.main_arg4)) (m ((c.tc : Thread Cert.NormWholeRefIdeal.nD Cert.NormWholeRefIdeal.τ).loc Cert.NormWholeRefIdeal.main_arg5))) = (fun _ => 1#1)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_none [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_none m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite [hFfnBwdRefIdeal : Cert.FfnBwdRefIdeal.Facts] [hPre_finite : Cert.Pre_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8))
      ∧ r.2.sem = fun _ => 0)

def quiescent_FfnHalves [hFfnHalves : Cert.FfnHalves.Facts] : Prop :=
  ∀ (m : (ℓ : Loc Cert.FfnHalves.nD Cert.FfnHalves.τ Cert.FfnHalves.sig) → Buf (Elt Bits) ℓ) (g : Dev Cert.FfnHalves.nD → PrngReg), Pre_FfnHalves m →
    θ_run (Cert.FfnHalves.defs (F := Bits)) (onTc (τ := Cert.FfnHalves.τ) (Cert.FfnHalves.main (F := Bits))) ⟨m, fun _ => 0, g⟩ (fun r => (∀ c : Dev Cert.FfnHalves.nD,
      r.2.mem ((c.tc : Thread Cert.FfnHalves.nD Cert.FfnHalves.τ).loc Cert.FfnHalves.main_arg0) = m ((c.tc : Thread Cert.FfnHalves.nD Cert.FfnHalves.τ).loc Cert.FfnHalves.main_arg0)
      ∧ r.2.mem ((c.tc : Thread Cert.FfnHalves.nD Cert.FfnHalves.τ).loc Cert.FfnHalves.main_arg1) = m ((c.tc : Thread Cert.FfnHalves.nD Cert.FfnHalves.τ).loc Cert.FfnHalves.main_arg1)
      ∧ r.2.mem ((c.tc : Thread Cert.FfnHalves.nD Cert.FfnHalves.τ).loc Cert.FfnHalves.main_arg2) = m ((c.tc : Thread Cert.FfnHalves.nD Cert.FfnHalves.τ).loc Cert.FfnHalves.main_arg2))
      ∧ r.2.sem = fun _ => 0)

def quiescent_FfnHalvesIdeal [hFfnHalvesIdeal : Cert.FfnHalvesIdeal.Facts] : Prop :=
  ∀ (m : (ℓ : Loc Cert.FfnHalvesIdeal.nD Cert.FfnHalvesIdeal.τ Cert.FfnHalvesIdeal.sig) → Buf (Elt Ideal) ℓ) (g : Dev Cert.FfnHalvesIdeal.nD → PrngReg), Pre_FfnHalvesIdeal m →
    θ_run (Cert.FfnHalvesIdeal.defs (F := Ideal)) (onTc (τ := Cert.FfnHalvesIdeal.τ) (Cert.FfnHalvesIdeal.main (F := Ideal))) ⟨m, fun _ => 0, g⟩ (fun r => (∀ c : Dev Cert.FfnHalvesIdeal.nD,
      r.2.mem ((c.tc : Thread Cert.FfnHalvesIdeal.nD Cert.FfnHalvesIdeal.τ).loc Cert.FfnHalvesIdeal.main_arg0) = m ((c.tc : Thread Cert.FfnHalvesIdeal.nD Cert.FfnHalvesIdeal.τ).loc Cert.FfnHalvesIdeal.main_arg0)
      ∧ r.2.mem ((c.tc : Thread Cert.FfnHalvesIdeal.nD Cert.FfnHalvesIdeal.τ).loc Cert.FfnHalvesIdeal.main_arg1) = m ((c.tc : Thread Cert.FfnHalvesIdeal.nD Cert.FfnHalvesIdeal.τ).loc Cert.FfnHalvesIdeal.main_arg1)
      ∧ r.2.mem ((c.tc : Thread Cert.FfnHalvesIdeal.nD Cert.FfnHalvesIdeal.τ).loc Cert.FfnHalvesIdeal.main_arg2) = m ((c.tc : Thread Cert.FfnHalvesIdeal.nD Cert.FfnHalvesIdeal.τ).loc Cert.FfnHalvesIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1))
      ∧ r.2.sem = fun _ => 0)

def quiescent_InputGradRefIdeal [hInputGradRefIdeal : Cert.InputGradRefIdeal.Facts] : Prop :=
  ∀ (m : (ℓ : Loc Cert.InputGradRefIdeal.nD Cert.InputGradRefIdeal.τ Cert.InputGradRefIdeal.sig) → Buf (Elt Ideal) ℓ) (g : Dev Cert.InputGradRefIdeal.nD → PrngReg), Pre_InputGradRefIdeal m →
    θ_run (Cert.InputGradRefIdeal.defs (F := Ideal)) (onTc (τ := Cert.InputGradRefIdeal.τ) (Cert.InputGradRefIdeal.main (F := Ideal))) ⟨m, fun _ => 0, g⟩ (fun r => (∀ c : Dev Cert.InputGradRefIdeal.nD,
      r.2.mem ((c.tc : Thread Cert.InputGradRefIdeal.nD Cert.InputGradRefIdeal.τ).loc Cert.InputGradRefIdeal.main_arg0) = m ((c.tc : Thread Cert.InputGradRefIdeal.nD Cert.InputGradRefIdeal.τ).loc Cert.InputGradRefIdeal.main_arg0)
      ∧ r.2.mem ((c.tc : Thread Cert.InputGradRefIdeal.nD Cert.InputGradRefIdeal.τ).loc Cert.InputGradRefIdeal.main_arg1) = m ((c.tc : Thread Cert.InputGradRefIdeal.nD Cert.InputGradRefIdeal.τ).loc Cert.InputGradRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_none [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal_none m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormWhole [hNormWhole : Cert.NormWhole.Facts] : Prop :=
  ∀ (m : (ℓ : Loc Cert.NormWhole.nD Cert.NormWhole.τ Cert.NormWhole.sig) → Buf (Elt Bits) ℓ) (g : Dev Cert.NormWhole.nD → PrngReg), Pre_NormWhole m →
    θ_run (Cert.NormWhole.defs (F := Bits)) (onTc (τ := Cert.NormWhole.τ) (Cert.NormWhole.main (F := Bits))) ⟨m, fun _ => 0, g⟩ (fun r => (∀ c : Dev Cert.NormWhole.nD,
      r.2.mem ((c.tc : Thread Cert.NormWhole.nD Cert.NormWhole.τ).loc Cert.NormWhole.main_arg0) = m ((c.tc : Thread Cert.NormWhole.nD Cert.NormWhole.τ).loc Cert.NormWhole.main_arg0)
      ∧ r.2.mem ((c.tc : Thread Cert.NormWhole.nD Cert.NormWhole.τ).loc Cert.NormWhole.main_arg1) = m ((c.tc : Thread Cert.NormWhole.nD Cert.NormWhole.τ).loc Cert.NormWhole.main_arg1)
      ∧ r.2.mem ((c.tc : Thread Cert.NormWhole.nD Cert.NormWhole.τ).loc Cert.NormWhole.main_arg2) = m ((c.tc : Thread Cert.NormWhole.nD Cert.NormWhole.τ).loc Cert.NormWhole.main_arg2)
      ∧ r.2.mem ((c.tc : Thread Cert.NormWhole.nD Cert.NormWhole.τ).loc Cert.NormWhole.main_arg3) = m ((c.tc : Thread Cert.NormWhole.nD Cert.NormWhole.τ).loc Cert.NormWhole.main_arg3)
      ∧ r.2.mem ((c.tc : Thread Cert.NormWhole.nD Cert.NormWhole.τ).loc Cert.NormWhole.main_arg4) = m ((c.tc : Thread Cert.NormWhole.nD Cert.NormWhole.τ).loc Cert.NormWhole.main_arg4)
      ∧ r.2.mem ((c.tc : Thread Cert.NormWhole.nD Cert.NormWhole.τ).loc Cert.NormWhole.main_arg5) = m ((c.tc : Thread Cert.NormWhole.nD Cert.NormWhole.τ).loc Cert.NormWhole.main_arg5))
      ∧ r.2.sem = fun _ => 0)

def quiescent_NormWholeIdeal [hNormWholeIdeal : Cert.NormWholeIdeal.Facts] [hPre_norm_finite : Cert.Pre_norm_finite.Facts] : Prop :=
  ∀ (m : (ℓ : Loc Cert.NormWholeIdeal.nD Cert.NormWholeIdeal.τ Cert.NormWholeIdeal.sig) → Buf (Elt Ideal) ℓ) (g : Dev Cert.NormWholeIdeal.nD → PrngReg), Pre_NormWholeIdeal m →
    θ_run (Cert.NormWholeIdeal.defs (F := Ideal)) (onTc (τ := Cert.NormWholeIdeal.τ) (Cert.NormWholeIdeal.main (F := Ideal))) ⟨m, fun _ => 0, g⟩ (fun r => (∀ c : Dev Cert.NormWholeIdeal.nD,
      r.2.mem ((c.tc : Thread Cert.NormWholeIdeal.nD Cert.NormWholeIdeal.τ).loc Cert.NormWholeIdeal.main_arg0) = m ((c.tc : Thread Cert.NormWholeIdeal.nD Cert.NormWholeIdeal.τ).loc Cert.NormWholeIdeal.main_arg0)
      ∧ r.2.mem ((c.tc : Thread Cert.NormWholeIdeal.nD Cert.NormWholeIdeal.τ).loc Cert.NormWholeIdeal.main_arg1) = m ((c.tc : Thread Cert.NormWholeIdeal.nD Cert.NormWholeIdeal.τ).loc Cert.NormWholeIdeal.main_arg1)
      ∧ r.2.mem ((c.tc : Thread Cert.NormWholeIdeal.nD Cert.NormWholeIdeal.τ).loc Cert.NormWholeIdeal.main_arg2) = m ((c.tc : Thread Cert.NormWholeIdeal.nD Cert.NormWholeIdeal.τ).loc Cert.NormWholeIdeal.main_arg2)
      ∧ r.2.mem ((c.tc : Thread Cert.NormWholeIdeal.nD Cert.NormWholeIdeal.τ).loc Cert.NormWholeIdeal.main_arg3) = m ((c.tc : Thread Cert.NormWholeIdeal.nD Cert.NormWholeIdeal.τ).loc Cert.NormWholeIdeal.main_arg3)
      ∧ r.2.mem ((c.tc : Thread Cert.NormWholeIdeal.nD Cert.NormWholeIdeal.τ).loc Cert.NormWholeIdeal.main_arg4) = m ((c.tc : Thread Cert.NormWholeIdeal.nD Cert.NormWholeIdeal.τ).loc Cert.NormWholeIdeal.main_arg4)
      ∧ r.2.mem ((c.tc : Thread Cert.NormWholeIdeal.nD Cert.NormWholeIdeal.τ).loc Cert.NormWholeIdeal.main_arg5) = m ((c.tc : Thread Cert.NormWholeIdeal.nD Cert.NormWholeIdeal.τ).loc Cert.NormWholeIdeal.main_arg5))
      ∧ r.2.sem = fun _ => 0)

def quiescent_NormWholeIdeal_pre_none [hNormWholeIdeal : Cert.NormWholeIdeal.Facts] : Prop :=
  ∀ (m : (ℓ : Loc Cert.NormWholeIdeal.nD Cert.NormWholeIdeal.τ Cert.NormWholeIdeal.sig) → Buf (Elt Ideal) ℓ) (g : Dev Cert.NormWholeIdeal.nD → PrngReg), Pre_NormWholeIdeal_none m →
    θ_run (Cert.NormWholeIdeal.defs (F := Ideal)) (onTc (τ := Cert.NormWholeIdeal.τ) (Cert.NormWholeIdeal.main (F := Ideal))) ⟨m, fun _ => 0, g⟩ (fun r => (∀ c : Dev Cert.NormWholeIdeal.nD,
      r.2.mem ((c.tc : Thread Cert.NormWholeIdeal.nD Cert.NormWholeIdeal.τ).loc Cert.NormWholeIdeal.main_arg0) = m ((c.tc : Thread Cert.NormWholeIdeal.nD Cert.NormWholeIdeal.τ).loc Cert.NormWholeIdeal.main_arg0)
      ∧ r.2.mem ((c.tc : Thread Cert.NormWholeIdeal.nD Cert.NormWholeIdeal.τ).loc Cert.NormWholeIdeal.main_arg1) = m ((c.tc : Thread Cert.NormWholeIdeal.nD Cert.NormWholeIdeal.τ).loc Cert.NormWholeIdeal.main_arg1)
      ∧ r.2.mem ((c.tc : Thread Cert.NormWholeIdeal.nD Cert.NormWholeIdeal.τ).loc Cert.NormWholeIdeal.main_arg2) = m ((c.tc : Thread Cert.NormWholeIdeal.nD Cert.NormWholeIdeal.τ).loc Cert.NormWholeIdeal.main_arg2)
      ∧ r.2.mem ((c.tc : Thread Cert.NormWholeIdeal.nD Cert.NormWholeIdeal.τ).loc Cert.NormWholeIdeal.main_arg3) = m ((c.tc : Thread Cert.NormWholeIdeal.nD Cert.NormWholeIdeal.τ).loc Cert.NormWholeIdeal.main_arg3)
      ∧ r.2.mem ((c.tc : Thread Cert.NormWholeIdeal.nD Cert.NormWholeIdeal.τ).loc Cert.NormWholeIdeal.main_arg4) = m ((c.tc : Thread Cert.NormWholeIdeal.nD Cert.NormWholeIdeal.τ).loc Cert.NormWholeIdeal.main_arg4)
      ∧ r.2.mem ((c.tc : Thread Cert.NormWholeIdeal.nD Cert.NormWholeIdeal.τ).loc Cert.NormWholeIdeal.main_arg5) = m ((c.tc : Thread Cert.NormWholeIdeal.nD Cert.NormWholeIdeal.τ).loc Cert.NormWholeIdeal.main_arg5))
      ∧ r.2.sem = fun _ => 0)

def quiescent_NormWholeRefIdeal [hNormWholeRefIdeal : Cert.NormWholeRefIdeal.Facts] : Prop :=
  ∀ (m : (ℓ : Loc Cert.NormWholeRefIdeal.nD Cert.NormWholeRefIdeal.τ Cert.NormWholeRefIdeal.sig) → Buf (Elt Ideal) ℓ) (g : Dev Cert.NormWholeRefIdeal.nD → PrngReg), Pre_NormWholeRefIdeal m →
    θ_run (Cert.NormWholeRefIdeal.defs (F := Ideal)) (onTc (τ := Cert.NormWholeRefIdeal.τ) (Cert.NormWholeRefIdeal.main (F := Ideal))) ⟨m, fun _ => 0, g⟩ (fun r => (∀ c : Dev Cert.NormWholeRefIdeal.nD,
      r.2.mem ((c.tc : Thread Cert.NormWholeRefIdeal.nD Cert.NormWholeRefIdeal.τ).loc Cert.NormWholeRefIdeal.main_arg0) = m ((c.tc : Thread Cert.NormWholeRefIdeal.nD Cert.NormWholeRefIdeal.τ).loc Cert.NormWholeRefIdeal.main_arg0)
      ∧ r.2.mem ((c.tc : Thread Cert.NormWholeRefIdeal.nD Cert.NormWholeRefIdeal.τ).loc Cert.NormWholeRefIdeal.main_arg1) = m ((c.tc : Thread Cert.NormWholeRefIdeal.nD Cert.NormWholeRefIdeal.τ).loc Cert.NormWholeRefIdeal.main_arg1)
      ∧ r.2.mem ((c.tc : Thread Cert.NormWholeRefIdeal.nD Cert.NormWholeRefIdeal.τ).loc Cert.NormWholeRefIdeal.main_arg2) = m ((c.tc : Thread Cert.NormWholeRefIdeal.nD Cert.NormWholeRefIdeal.τ).loc Cert.NormWholeRefIdeal.main_arg2)
      ∧ r.2.mem ((c.tc : Thread Cert.NormWholeRefIdeal.nD Cert.NormWholeRefIdeal.τ).loc Cert.NormWholeRefIdeal.main_arg3) = m ((c.tc : Thread Cert.NormWholeRefIdeal.nD Cert.NormWholeRefIdeal.τ).loc Cert.NormWholeRefIdeal.main_arg3)
      ∧ r.2.mem ((c.tc : Thread Cert.NormWholeRefIdeal.nD Cert.NormWholeRefIdeal.τ).loc Cert.NormWholeRefIdeal.main_arg4) = m ((c.tc : Thread Cert.NormWholeRefIdeal.nD Cert.NormWholeRefIdeal.τ).loc Cert.NormWholeRefIdeal.main_arg4)
      ∧ r.2.mem ((c.tc : Thread Cert.NormWholeRefIdeal.nD Cert.NormWholeRefIdeal.τ).loc Cert.NormWholeRefIdeal.main_arg5) = m ((c.tc : Thread Cert.NormWholeRefIdeal.nD Cert.NormWholeRefIdeal.τ).loc Cert.NormWholeRefIdeal.main_arg5))
      ∧ r.2.sem = fun _ => 0)

def quiescent_NormWholeRefIdeal_pre_norm_finite [hNormWholeRefIdeal : Cert.NormWholeRefIdeal.Facts] [hPre_norm_finite : Cert.Pre_norm_finite.Facts] : Prop :=
  ∀ (m : (ℓ : Loc Cert.NormWholeRefIdeal.nD Cert.NormWholeRefIdeal.τ Cert.NormWholeRefIdeal.sig) → Buf (Elt Ideal) ℓ) (g : Dev Cert.NormWholeRefIdeal.nD → PrngReg), Pre_NormWholeRefIdeal_norm_finite m →
    θ_run (Cert.NormWholeRefIdeal.defs (F := Ideal)) (onTc (τ := Cert.NormWholeRefIdeal.τ) (Cert.NormWholeRefIdeal.main (F := Ideal))) ⟨m, fun _ => 0, g⟩ (fun r => (∀ c : Dev Cert.NormWholeRefIdeal.nD,
      r.2.mem ((c.tc : Thread Cert.NormWholeRefIdeal.nD Cert.NormWholeRefIdeal.τ).loc Cert.NormWholeRefIdeal.main_arg0) = m ((c.tc : Thread Cert.NormWholeRefIdeal.nD Cert.NormWholeRefIdeal.τ).loc Cert.NormWholeRefIdeal.main_arg0)
      ∧ r.2.mem ((c.tc : Thread Cert.NormWholeRefIdeal.nD Cert.NormWholeRefIdeal.τ).loc Cert.NormWholeRefIdeal.main_arg1) = m ((c.tc : Thread Cert.NormWholeRefIdeal.nD Cert.NormWholeRefIdeal.τ).loc Cert.NormWholeRefIdeal.main_arg1)
      ∧ r.2.mem ((c.tc : Thread Cert.NormWholeRefIdeal.nD Cert.NormWholeRefIdeal.τ).loc Cert.NormWholeRefIdeal.main_arg2) = m ((c.tc : Thread Cert.NormWholeRefIdeal.nD Cert.NormWholeRefIdeal.τ).loc Cert.NormWholeRefIdeal.main_arg2)
      ∧ r.2.mem ((c.tc : Thread Cert.NormWholeRefIdeal.nD Cert.NormWholeRefIdeal.τ).loc Cert.NormWholeRefIdeal.main_arg3) = m ((c.tc : Thread Cert.NormWholeRefIdeal.nD Cert.NormWholeRefIdeal.τ).loc Cert.NormWholeRefIdeal.main_arg3)
      ∧ r.2.mem ((c.tc : Thread Cert.NormWholeRefIdeal.nD Cert.NormWholeRefIdeal.τ).loc Cert.NormWholeRefIdeal.main_arg4) = m ((c.tc : Thread Cert.NormWholeRefIdeal.nD Cert.NormWholeRefIdeal.τ).loc Cert.NormWholeRefIdeal.main_arg4)
      ∧ r.2.mem ((c.tc : Thread Cert.NormWholeRefIdeal.nD Cert.NormWholeRefIdeal.τ).loc Cert.NormWholeRefIdeal.main_arg5) = m ((c.tc : Thread Cert.NormWholeRefIdeal.nD Cert.NormWholeRefIdeal.τ).loc Cert.NormWholeRefIdeal.main_arg5))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)) (v3 : (c : Dev Cert.ConvBwdIdeal.nD) → Buf (Elt Ideal) ((c.tc : Thread Cert.ConvBwdIdeal.nD Cert.ConvBwdIdeal.τ).loc Cert.ConvBwdIdeal.main_v0_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_v0_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v69) = v0 c
          ∧ r.2.mem ((c.tc : Thread Cert.ConvRefIdeal.nD Cert.ConvRefIdeal.τ).loc Cert.ConvRefIdeal.main_v71) = v1 c
          ∧ r.2.mem ((c.tc : Thread Cert.ConvRefIdeal.nD Cert.ConvRefIdeal.τ).loc Cert.ConvRefIdeal.main_v73) = v2 c
          ∧ r.2.mem ((c.tc : Thread Cert.ConvRefIdeal.nD Cert.ConvRefIdeal.τ).loc Cert.ConvRefIdeal.main_v61) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v3) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v8) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def preserves_FfnBwd_FfnBwdIdeal : Prop :=
  True

def algebraic_FfnBwdIdeal_FfnBwdRefIdeal [hFfnBwdIdeal : Cert.FfnBwdIdeal.Facts] [hFfnBwdRefIdeal : Cert.FfnBwdRefIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v11)) (v1 : (c : Dev Cert.FfnBwdIdeal.nD) → Buf (Elt Ideal) ((c.tc : Thread Cert.FfnBwdIdeal.nD Cert.FfnBwdIdeal.τ).loc Cert.FfnBwdIdeal.main_v3)) (v2 : (c : Dev Cert.FfnBwdIdeal.nD) → Buf (Elt Ideal) ((c.tc : Thread Cert.FfnBwdIdeal.nD Cert.FfnBwdIdeal.τ).loc Cert.FfnBwdIdeal.main_v5)) (v3 : (c : Dev Cert.FfnBwdIdeal.nD) → Buf (Elt Ideal) ((c.tc : Thread Cert.FfnBwdIdeal.nD Cert.FfnBwdIdeal.τ).loc Cert.FfnBwdIdeal.main_v6)) (v4 : (c : Dev Cert.FfnBwdIdeal.nD) → Buf (Elt Ideal) ((c.tc : Thread Cert.FfnBwdIdeal.nD Cert.FfnBwdIdeal.τ).loc Cert.FfnBwdIdeal.main_v7)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v11) = v0 c
          ∧ r.2.mem ((c.tc : Thread Cert.FfnBwdIdeal.nD Cert.FfnBwdIdeal.τ).loc Cert.FfnBwdIdeal.main_v3) = v1 c
          ∧ r.2.mem ((c.tc : Thread Cert.FfnBwdIdeal.nD Cert.FfnBwdIdeal.τ).loc Cert.FfnBwdIdeal.main_v5) = v2 c
          ∧ r.2.mem ((c.tc : Thread Cert.FfnBwdIdeal.nD Cert.FfnBwdIdeal.τ).loc Cert.FfnBwdIdeal.main_v6) = v3 c
          ∧ r.2.mem ((c.tc : Thread Cert.FfnBwdIdeal.nD Cert.FfnBwdIdeal.τ).loc Cert.FfnBwdIdeal.main_v7) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v19) = v0 c
          ∧ r.2.mem ((c.tc : Thread Cert.FfnBwdRefIdeal.nD Cert.FfnBwdRefIdeal.τ).loc Cert.FfnBwdRefIdeal.main_v21) = v1 c
          ∧ r.2.mem ((c.tc : Thread Cert.FfnBwdRefIdeal.nD Cert.FfnBwdRefIdeal.τ).loc Cert.FfnBwdRefIdeal.main_v25) = v2 c
          ∧ r.2.mem ((c.tc : Thread Cert.FfnBwdRefIdeal.nD Cert.FfnBwdRefIdeal.τ).loc Cert.FfnBwdRefIdeal.main_v27) = v3 c
          ∧ r.2.mem ((c.tc : Thread Cert.FfnBwdRefIdeal.nD Cert.FfnBwdRefIdeal.τ).loc Cert.FfnBwdRefIdeal.main_v31) = v4 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)) →
    ∃ (v0 : (c : Dev Cert.MixerIdeal.nD) → Buf (Elt Ideal) ((c.tc : Thread Cert.MixerIdeal.nD Cert.MixerIdeal.τ).loc Cert.MixerIdeal.main_v4)) (v1 : (c : Dev Cert.MixerIdeal.nD) → Buf (Elt Ideal) ((c.tc : Thread Cert.MixerIdeal.nD Cert.MixerIdeal.τ).loc Cert.MixerIdeal.main_v13)) (v2 : (c : Dev Cert.MixerIdeal.nD) → Buf (Elt Ideal) ((c.tc : Thread Cert.MixerIdeal.nD Cert.MixerIdeal.τ).loc Cert.MixerIdeal.main_v7_3)) (v3 : (c : Dev Cert.MixerIdeal.nD) → Buf (Elt Ideal) ((c.tc : Thread Cert.MixerIdeal.nD Cert.MixerIdeal.τ).loc Cert.MixerIdeal.main_v8_1)) (v4 : (c : Dev Cert.MixerIdeal.nD) → Buf (Elt Ideal) ((c.tc : Thread Cert.MixerIdeal.nD Cert.MixerIdeal.τ).loc Cert.MixerIdeal.main_v8_2)) (v5 : (c : Dev Cert.MixerIdeal.nD) → Buf (Elt Ideal) ((c.tc : Thread Cert.MixerIdeal.nD Cert.MixerIdeal.τ).loc Cert.MixerIdeal.main_v6)) (v6 : (c : Dev Cert.MixerIdeal.nD) → Buf (Elt Ideal) ((c.tc : Thread Cert.MixerIdeal.nD Cert.MixerIdeal.τ).loc Cert.MixerIdeal.main_v10)) (v7 : (c : Dev Cert.MixerIdeal.nD) → Buf (Elt Ideal) ((c.tc : Thread Cert.MixerIdeal.nD Cert.MixerIdeal.τ).loc Cert.MixerIdeal.main_v11)) (v8 : (c : Dev Cert.MixerIdeal.nD) → Buf (Elt Ideal) ((c.tc : Thread Cert.MixerIdeal.nD Cert.MixerIdeal.τ).loc Cert.MixerIdeal.main_v14)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v4) = v0 c
          ∧ r.2.mem ((c.tc : Thread Cert.MixerIdeal.nD Cert.MixerIdeal.τ).loc Cert.MixerIdeal.main_v13) = v1 c
          ∧ r.2.mem ((c.tc : Thread Cert.MixerIdeal.nD Cert.MixerIdeal.τ).loc Cert.MixerIdeal.main_v7_3) = v2 c
          ∧ r.2.mem ((c.tc : Thread Cert.MixerIdeal.nD Cert.MixerIdeal.τ).loc Cert.MixerIdeal.main_v8_1) = v3 c
          ∧ r.2.mem ((c.tc : Thread Cert.MixerIdeal.nD Cert.MixerIdeal.τ).loc Cert.MixerIdeal.main_v8_2) = v4 c
          ∧ r.2.mem ((c.tc : Thread Cert.MixerIdeal.nD Cert.MixerIdeal.τ).loc Cert.MixerIdeal.main_v6) = v5 c
          ∧ r.2.mem ((c.tc : Thread Cert.MixerIdeal.nD Cert.MixerIdeal.τ).loc Cert.MixerIdeal.main_v10) = v6 c
          ∧ r.2.mem ((c.tc : Thread Cert.MixerIdeal.nD Cert.MixerIdeal.τ).loc Cert.MixerIdeal.main_v11) = v7 c
          ∧ r.2.mem ((c.tc : Thread Cert.MixerIdeal.nD Cert.MixerIdeal.τ).loc Cert.MixerIdeal.main_v14) = v8 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v81) = v0 c
          ∧ r.2.mem ((c.tc : Thread Cert.MixerRefIdeal.nD Cert.MixerRefIdeal.τ).loc Cert.MixerRefIdeal.main_v156) = v1 c
          ∧ r.2.mem ((c.tc : Thread Cert.MixerRefIdeal.nD Cert.MixerRefIdeal.τ).loc Cert.MixerRefIdeal.main_v140) = v2 c
          ∧ r.2.mem ((c.tc : Thread Cert.MixerRefIdeal.nD Cert.MixerRefIdeal.τ).loc Cert.MixerRefIdeal.main_v158) = v3 c
          ∧ r.2.mem ((c.tc : Thread Cert.MixerRefIdeal.nD Cert.MixerRefIdeal.τ).loc Cert.MixerRefIdeal.main_v90) = v4 c
          ∧ r.2.mem ((c.tc : Thread Cert.MixerRefIdeal.nD Cert.MixerRefIdeal.τ).loc Cert.MixerRefIdeal.main_v160) = v5 c
          ∧ r.2.mem ((c.tc : Thread Cert.MixerRefIdeal.nD Cert.MixerRefIdeal.τ).loc Cert.MixerRefIdeal.main_v164) = v6 c
          ∧ r.2.mem ((c.tc : Thread Cert.MixerRefIdeal.nD Cert.MixerRefIdeal.τ).loc Cert.MixerRefIdeal.main_v166) = v7 c
          ∧ r.2.mem ((c.tc : Thread Cert.MixerRefIdeal.nD Cert.MixerRefIdeal.τ).loc Cert.MixerRefIdeal.main_v170) = v8 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8))

def preserves_FfnHalves_FfnHalvesIdeal : Prop :=
  True

def algebraic_FfnHalvesIdeal_FfnFwdRefIdeal [hFfnHalvesIdeal : Cert.FfnHalvesIdeal.Facts] [hFfnFwdRefIdeal : Cert.FfnFwdRefIdeal.Facts] : Prop :=
  ∀ (m : (ℓ : Loc Cert.FfnHalvesIdeal.nD Cert.FfnHalvesIdeal.τ Cert.FfnHalvesIdeal.sig) → Buf (Elt Ideal) ℓ) (g : Dev Cert.FfnHalvesIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnHalvesIdeal m →
    (∀ c : Dev Cert.FfnHalvesIdeal.nD,
      m' ((c.tc : Thread Cert.FfnFwdRefIdeal.nD Cert.FfnFwdRefIdeal.τ).loc Cert.FfnFwdRefIdeal.main_arg0) = m ((c.tc : Thread Cert.FfnHalvesIdeal.nD Cert.FfnHalvesIdeal.τ).loc Cert.FfnHalvesIdeal.main_arg0)
      ∧ m' ((c.tc : Thread Cert.FfnFwdRefIdeal.nD Cert.FfnFwdRefIdeal.τ).loc Cert.FfnFwdRefIdeal.main_arg1) = m ((c.tc : Thread Cert.FfnHalvesIdeal.nD Cert.FfnHalvesIdeal.τ).loc Cert.FfnHalvesIdeal.main_arg1)
      ∧ m' ((c.tc : Thread Cert.FfnFwdRefIdeal.nD Cert.FfnFwdRefIdeal.τ).loc Cert.FfnFwdRefIdeal.main_arg2) = m ((c.tc : Thread Cert.FfnHalvesIdeal.nD Cert.FfnHalvesIdeal.τ).loc Cert.FfnHalvesIdeal.main_arg2)) →
    ∃ (v0 : (c : Dev Cert.FfnHalvesIdeal.nD) → Buf (Elt Ideal) ((c.tc : Thread Cert.FfnHalvesIdeal.nD Cert.FfnHalvesIdeal.τ).loc Cert.FfnHalvesIdeal.main_v4)),
      θ_run (Cert.FfnHalvesIdeal.defs (F := Ideal)) (onTc (τ := Cert.FfnHalvesIdeal.τ) (Cert.FfnHalvesIdeal.main (F := Ideal))) ⟨m, fun _ => 0, g⟩ (fun r => ∀ c : Dev Cert.FfnHalvesIdeal.nD,
          r.2.mem ((c.tc : Thread Cert.FfnHalvesIdeal.nD Cert.FfnHalvesIdeal.τ).loc Cert.FfnHalvesIdeal.main_v4) = v0 c
          ∧ r.2.mem ((c.tc : Thread Cert.FfnHalvesIdeal.nD Cert.FfnHalvesIdeal.τ).loc Cert.FfnHalvesIdeal.main_arg0) = m ((c.tc : Thread Cert.FfnHalvesIdeal.nD Cert.FfnHalvesIdeal.τ).loc Cert.FfnHalvesIdeal.main_arg0)
          ∧ r.2.mem ((c.tc : Thread Cert.FfnHalvesIdeal.nD Cert.FfnHalvesIdeal.τ).loc Cert.FfnHalvesIdeal.main_arg1) = m ((c.tc : Thread Cert.FfnHalvesIdeal.nD Cert.FfnHalvesIdeal.τ).loc Cert.FfnHalvesIdeal.main_arg1)
          ∧ r.2.mem ((c.tc : Thread Cert.FfnHalvesIdeal.nD Cert.FfnHalvesIdeal.τ).loc Cert.FfnHalvesIdeal.main_arg2) = m ((c.tc : Thread Cert.FfnHalvesIdeal.nD Cert.FfnHalvesIdeal.τ).loc Cert.FfnHalvesIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v8) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg1) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_InputGrad_InputGradIdeal : Prop :=
  True

def algebraic_InputGradIdeal_InputGradRefIdeal [hInputGradIdeal : Cert.InputGradIdeal.Facts] [hInputGradRefIdeal : Cert.InputGradRefIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradRefIdeal.nD Cert.InputGradRefIdeal.τ Cert.InputGradRefIdeal.sig) → Buf (Elt Ideal) ℓ) (g' : Dev Cert.InputGradRefIdeal.nD → PrngReg), Pre_InputGradIdeal m →
    (∀ c : Dev Cert.InputGradIdeal.nD,
      m' ((c.tc : Thread Cert.InputGradRefIdeal.nD Cert.InputGradRefIdeal.τ).loc Cert.InputGradRefIdeal.main_arg0) = m ((c.tc : Thread Cert.InputGradIdeal.nD Cert.InputGradIdeal.τ).loc Cert.InputGradIdeal.main_arg0)
      ∧ m' ((c.tc : Thread Cert.InputGradRefIdeal.nD Cert.InputGradRefIdeal.τ).loc Cert.InputGradRefIdeal.main_arg1) = m ((c.tc : Thread Cert.InputGradIdeal.nD Cert.InputGradIdeal.τ).loc Cert.InputGradIdeal.main_arg1)) →
    ∃ (v0 : (c : Dev Cert.InputGradIdeal.nD) → Buf (Elt Ideal) ((c.tc : Thread Cert.InputGradIdeal.nD Cert.InputGradIdeal.τ).loc Cert.InputGradIdeal.main_v0_0)) (v1 : (c : Dev Cert.InputGradIdeal.nD) → Buf (Elt Ideal) ((c.tc : Thread Cert.InputGradIdeal.nD Cert.InputGradIdeal.τ).loc Cert.InputGradIdeal.main_v0_1)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v0_0) = v0 c
          ∧ r.2.mem ((c.tc : Thread Cert.InputGradIdeal.nD Cert.InputGradIdeal.τ).loc Cert.InputGradIdeal.main_v0_1) = v1 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1))
      ∧ θ_run (Cert.InputGradRefIdeal.defs (F := Ideal)) (onTc (τ := Cert.InputGradRefIdeal.τ) (Cert.InputGradRefIdeal.main (F := Ideal))) ⟨m', fun _ => 0, g'⟩ (fun r => ∀ c : Dev Cert.InputGradRefIdeal.nD,
          r.2.mem ((c.tc : Thread Cert.InputGradRefIdeal.nD Cert.InputGradRefIdeal.τ).loc Cert.InputGradRefIdeal.main_v4) = v0 c
          ∧ r.2.mem ((c.tc : Thread Cert.InputGradRefIdeal.nD Cert.InputGradRefIdeal.τ).loc Cert.InputGradRefIdeal.main_v5) = v1 c
          ∧ r.2.mem ((c.tc : Thread Cert.InputGradRefIdeal.nD Cert.InputGradRefIdeal.τ).loc Cert.InputGradRefIdeal.main_arg0) = m' ((c.tc : Thread Cert.InputGradRefIdeal.nD Cert.InputGradRefIdeal.τ).loc Cert.InputGradRefIdeal.main_arg0)
          ∧ r.2.mem ((c.tc : Thread Cert.InputGradRefIdeal.nD Cert.InputGradRefIdeal.τ).loc Cert.InputGradRefIdeal.main_arg1) = m' ((c.tc : Thread Cert.InputGradRefIdeal.nD Cert.InputGradRefIdeal.τ).loc Cert.InputGradRefIdeal.main_arg1))

def preserves_Norm_NormIdeal : Prop :=
  True

def algebraic_NormIdeal_NormRefIdeal [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v1_0)) (v3 : (c : Dev Cert.NormIdeal.nD) → Buf (Elt Ideal) ((c.tc : Thread Cert.NormIdeal.nD Cert.NormIdeal.τ).loc Cert.NormIdeal.main_v1_1)) (v4 : (c : Dev Cert.NormIdeal.nD) → Buf (Elt Ideal) ((c.tc : Thread Cert.NormIdeal.nD Cert.NormIdeal.τ).loc Cert.NormIdeal.main_v1_2)) (v5 : (c : Dev Cert.NormIdeal.nD) → Buf (Elt Ideal) ((c.tc : Thread Cert.NormIdeal.nD Cert.NormIdeal.τ).loc Cert.NormIdeal.main_v1_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v1_0) = v2 c
          ∧ r.2.mem ((c.tc : Thread Cert.NormIdeal.nD Cert.NormIdeal.τ).loc Cert.NormIdeal.main_v1_1) = v3 c
          ∧ r.2.mem ((c.tc : Thread Cert.NormIdeal.nD Cert.NormIdeal.τ).loc Cert.NormIdeal.main_v1_2) = v4 c
          ∧ r.2.mem ((c.tc : Thread Cert.NormIdeal.nD Cert.NormIdeal.τ).loc Cert.NormIdeal.main_v1_3) = v5 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v29) = v0 c
          ∧ r.2.mem ((c.tc : Thread Cert.NormRefIdeal.nD Cert.NormRefIdeal.τ).loc Cert.NormRefIdeal.main_v60) = v1 c
          ∧ r.2.mem ((c.tc : Thread Cert.NormRefIdeal.nD Cert.NormRefIdeal.τ).loc Cert.NormRefIdeal.main_v59) = v2 c
          ∧ r.2.mem ((c.tc : Thread Cert.NormRefIdeal.nD Cert.NormRefIdeal.τ).loc Cert.NormRefIdeal.main_v63) = v3 c
          ∧ r.2.mem ((c.tc : Thread Cert.NormRefIdeal.nD Cert.NormRefIdeal.τ).loc Cert.NormRefIdeal.main_v37) = v4 c
          ∧ r.2.mem ((c.tc : Thread Cert.NormRefIdeal.nD Cert.NormRefIdeal.τ).loc Cert.NormRefIdeal.main_v34) = v5 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_NormWhole_NormWholeIdeal : Prop :=
  True

def algebraic_NormWholeIdeal_NormWholeRefIdeal [hNormWholeIdeal : Cert.NormWholeIdeal.Facts] [hNormWholeRefIdeal : Cert.NormWholeRefIdeal.Facts] [hPre_norm_finite : Cert.Pre_norm_finite.Facts] : Prop :=
  ∀ (m : (ℓ : Loc Cert.NormWholeIdeal.nD Cert.NormWholeIdeal.τ Cert.NormWholeIdeal.sig) → Buf (Elt Ideal) ℓ) (g : Dev Cert.NormWholeIdeal.nD → PrngReg)
    (m' : (ℓ : Loc Cert.NormWholeRefIdeal.nD Cert.NormWholeRefIdeal.τ Cert.NormWholeRefIdeal.sig) → Buf (Elt Ideal) ℓ) (g' : Dev Cert.NormWholeRefIdeal.nD → PrngReg), Pre_NormWholeIdeal m →
    (∀ c : Dev Cert.NormWholeIdeal.nD,
      m' ((c.tc : Thread Cert.NormWholeRefIdeal.nD Cert.NormWholeRefIdeal.τ).loc Cert.NormWholeRefIdeal.main_arg0) = m ((c.tc : Thread Cert.NormWholeIdeal.nD Cert.NormWholeIdeal.τ).loc Cert.NormWholeIdeal.main_arg0)
      ∧ m' ((c.tc : Thread Cert.NormWholeRefIdeal.nD Cert.NormWholeRefIdeal.τ).loc Cert.NormWholeRefIdeal.main_arg1) = m ((c.tc : Thread Cert.NormWholeIdeal.nD Cert.NormWholeIdeal.τ).loc Cert.NormWholeIdeal.main_arg1)
      ∧ m' ((c.tc : Thread Cert.NormWholeRefIdeal.nD Cert.NormWholeRefIdeal.τ).loc Cert.NormWholeRefIdeal.main_arg2) = m ((c.tc : Thread Cert.NormWholeIdeal.nD Cert.NormWholeIdeal.τ).loc Cert.NormWholeIdeal.main_arg2)
      ∧ m' ((c.tc : Thread Cert.NormWholeRefIdeal.nD Cert.NormWholeRefIdeal.τ).loc Cert.NormWholeRefIdeal.main_arg3) = m ((c.tc : Thread Cert.NormWholeIdeal.nD Cert.NormWholeIdeal.τ).loc Cert.NormWholeIdeal.main_arg3)
      ∧ m' ((c.tc : Thread Cert.NormWholeRefIdeal.nD Cert.NormWholeRefIdeal.τ).loc Cert.NormWholeRefIdeal.main_arg4) = m ((c.tc : Thread Cert.NormWholeIdeal.nD Cert.NormWholeIdeal.τ).loc Cert.NormWholeIdeal.main_arg4)
      ∧ m' ((c.tc : Thread Cert.NormWholeRefIdeal.nD Cert.NormWholeRefIdeal.τ).loc Cert.NormWholeRefIdeal.main_arg5) = m ((c.tc : Thread Cert.NormWholeIdeal.nD Cert.NormWholeIdeal.τ).loc Cert.NormWholeIdeal.main_arg5)) →
    ∃ (v0 : (c : Dev Cert.NormWholeIdeal.nD) → Buf (Elt Ideal) ((c.tc : Thread Cert.NormWholeIdeal.nD Cert.NormWholeIdeal.τ).loc Cert.NormWholeIdeal.main_v0_0)) (v1 : (c : Dev Cert.NormWholeIdeal.nD) → Buf (Elt Ideal) ((c.tc : Thread Cert.NormWholeIdeal.nD Cert.NormWholeIdeal.τ).loc Cert.NormWholeIdeal.main_v0_1)) (v2 : (c : Dev Cert.NormWholeIdeal.nD) → Buf (Elt Ideal) ((c.tc : Thread Cert.NormWholeIdeal.nD Cert.NormWholeIdeal.τ).loc Cert.NormWholeIdeal.main_v1_0)) (v3 : (c : Dev Cert.NormWholeIdeal.nD) → Buf (Elt Ideal) ((c.tc : Thread Cert.NormWholeIdeal.nD Cert.NormWholeIdeal.τ).loc Cert.NormWholeIdeal.main_v1_1)) (v4 : (c : Dev Cert.NormWholeIdeal.nD) → Buf (Elt Ideal) ((c.tc : Thread Cert.NormWholeIdeal.nD Cert.NormWholeIdeal.τ).loc Cert.NormWholeIdeal.main_v1_2)) (v5 : (c : Dev Cert.NormWholeIdeal.nD) → Buf (Elt Ideal) ((c.tc : Thread Cert.NormWholeIdeal.nD Cert.NormWholeIdeal.τ).loc Cert.NormWholeIdeal.main_v1_3)),
      θ_run (Cert.NormWholeIdeal.defs (F := Ideal)) (onTc (τ := Cert.NormWholeIdeal.τ) (Cert.NormWholeIdeal.main (F := Ideal))) ⟨m, fun _ => 0, g⟩ (fun r => ∀ c : Dev Cert.NormWholeIdeal.nD,
          r.2.mem ((c.tc : Thread Cert.NormWholeIdeal.nD Cert.NormWholeIdeal.τ).loc Cert.NormWholeIdeal.main_v0_0) = v0 c
          ∧ r.2.mem ((c.tc : Thread Cert.NormWholeIdeal.nD Cert.NormWholeIdeal.τ).loc Cert.NormWholeIdeal.main_v0_1) = v1 c
          ∧ r.2.mem ((c.tc : Thread Cert.NormWholeIdeal.nD Cert.NormWholeIdeal.τ).loc Cert.NormWholeIdeal.main_v1_0) = v2 c
          ∧ r.2.mem ((c.tc : Thread Cert.NormWholeIdeal.nD Cert.NormWholeIdeal.τ).loc Cert.NormWholeIdeal.main_v1_1) = v3 c
          ∧ r.2.mem ((c.tc : Thread Cert.NormWholeIdeal.nD Cert.NormWholeIdeal.τ).loc Cert.NormWholeIdeal.main_v1_2) = v4 c
          ∧ r.2.mem ((c.tc : Thread Cert.NormWholeIdeal.nD Cert.NormWholeIdeal.τ).loc Cert.NormWholeIdeal.main_v1_3) = v5 c
          ∧ r.2.mem ((c.tc : Thread Cert.NormWholeIdeal.nD Cert.NormWholeIdeal.τ).loc Cert.NormWholeIdeal.main_arg0) = m ((c.tc : Thread Cert.NormWholeIdeal.nD Cert.NormWholeIdeal.τ).loc Cert.NormWholeIdeal.main_arg0)
          ∧ r.2.mem ((c.tc : Thread Cert.NormWholeIdeal.nD Cert.NormWholeIdeal.τ).loc Cert.NormWholeIdeal.main_arg1) = m ((c.tc : Thread Cert.NormWholeIdeal.nD Cert.NormWholeIdeal.τ).loc Cert.NormWholeIdeal.main_arg1)
          ∧ r.2.mem ((c.tc : Thread Cert.NormWholeIdeal.nD Cert.NormWholeIdeal.τ).loc Cert.NormWholeIdeal.main_arg2) = m ((c.tc : Thread Cert.NormWholeIdeal.nD Cert.NormWholeIdeal.τ).loc Cert.NormWholeIdeal.main_arg2)
          ∧ r.2.mem ((c.tc : Thread Cert.NormWholeIdeal.nD Cert.NormWholeIdeal.τ).loc Cert.NormWholeIdeal.main_arg3) = m ((c.tc : Thread Cert.NormWholeIdeal.nD Cert.NormWholeIdeal.τ).loc Cert.NormWholeIdeal.main_arg3)
          ∧ r.2.mem ((c.tc : Thread Cert.NormWholeIdeal.nD Cert.NormWholeIdeal.τ).loc Cert.NormWholeIdeal.main_arg4) = m ((c.tc : Thread Cert.NormWholeIdeal.nD Cert.NormWholeIdeal.τ).loc Cert.NormWholeIdeal.main_arg4)
          ∧ r.2.mem ((c.tc : Thread Cert.NormWholeIdeal.nD Cert.NormWholeIdeal.τ).loc Cert.NormWholeIdeal.main_arg5) = m ((c.tc : Thread Cert.NormWholeIdeal.nD Cert.NormWholeIdeal.τ).loc Cert.NormWholeIdeal.main_arg5))
      ∧ θ_run (Cert.NormWholeRefIdeal.defs (F := Ideal)) (onTc (τ := Cert.NormWholeRefIdeal.τ) (Cert.NormWholeRefIdeal.main (F := Ideal))) ⟨m', fun _ => 0, g'⟩ (fun r => ∀ c : Dev Cert.NormWholeRefIdeal.nD,
          r.2.mem ((c.tc : Thread Cert.NormWholeRefIdeal.nD Cert.NormWholeRefIdeal.τ).loc Cert.NormWholeRefIdeal.main_v27) = v0 c
          ∧ r.2.mem ((c.tc : Thread Cert.NormWholeRefIdeal.nD Cert.NormWholeRefIdeal.τ).loc Cert.NormWholeRefIdeal.main_v58) = v1 c
          ∧ r.2.mem ((c.tc : Thread Cert.NormWholeRefIdeal.nD Cert.NormWholeRefIdeal.τ).loc Cert.NormWholeRefIdeal.main_v57) = v2 c
          ∧ r.2.mem ((c.tc : Thread Cert.NormWholeRefIdeal.nD Cert.NormWholeRefIdeal.τ).loc Cert.NormWholeRefIdeal.main_v59) = v3 c
          ∧ r.2.mem ((c.tc : Thread Cert.NormWholeRefIdeal.nD Cert.NormWholeRefIdeal.τ).loc Cert.NormWholeRefIdeal.main_v35) = v4 c
          ∧ r.2.mem ((c.tc : Thread Cert.NormWholeRefIdeal.nD Cert.NormWholeRefIdeal.τ).loc Cert.NormWholeRefIdeal.main_v32) = v5 c
          ∧ r.2.mem ((c.tc : Thread Cert.NormWholeRefIdeal.nD Cert.NormWholeRefIdeal.τ).loc Cert.NormWholeRefIdeal.main_arg0) = m' ((c.tc : Thread Cert.NormWholeRefIdeal.nD Cert.NormWholeRefIdeal.τ).loc Cert.NormWholeRefIdeal.main_arg0)
          ∧ r.2.mem ((c.tc : Thread Cert.NormWholeRefIdeal.nD Cert.NormWholeRefIdeal.τ).loc Cert.NormWholeRefIdeal.main_arg1) = m' ((c.tc : Thread Cert.NormWholeRefIdeal.nD Cert.NormWholeRefIdeal.τ).loc Cert.NormWholeRefIdeal.main_arg1)
          ∧ r.2.mem ((c.tc : Thread Cert.NormWholeRefIdeal.nD Cert.NormWholeRefIdeal.τ).loc Cert.NormWholeRefIdeal.main_arg2) = m' ((c.tc : Thread Cert.NormWholeRefIdeal.nD Cert.NormWholeRefIdeal.τ).loc Cert.NormWholeRefIdeal.main_arg2)
          ∧ r.2.mem ((c.tc : Thread Cert.NormWholeRefIdeal.nD Cert.NormWholeRefIdeal.τ).loc Cert.NormWholeRefIdeal.main_arg3) = m' ((c.tc : Thread Cert.NormWholeRefIdeal.nD Cert.NormWholeRefIdeal.τ).loc Cert.NormWholeRefIdeal.main_arg3)
          ∧ r.2.mem ((c.tc : Thread Cert.NormWholeRefIdeal.nD Cert.NormWholeRefIdeal.τ).loc Cert.NormWholeRefIdeal.main_arg4) = m' ((c.tc : Thread Cert.NormWholeRefIdeal.nD Cert.NormWholeRefIdeal.τ).loc Cert.NormWholeRefIdeal.main_arg4)
          ∧ r.2.mem ((c.tc : Thread Cert.NormWholeRefIdeal.nD Cert.NormWholeRefIdeal.τ).loc Cert.NormWholeRefIdeal.main_arg5) = m' ((c.tc : Thread Cert.NormWholeRefIdeal.nD Cert.NormWholeRefIdeal.τ).loc Cert.NormWholeRefIdeal.main_arg5))

def Claim : Prop :=
  ∃ (hConvBwd : Cert.ConvBwd.Facts) (hConvBwdIdeal : Cert.ConvBwdIdeal.Facts) (hConvRefIdeal : Cert.ConvRefIdeal.Facts) (hFfnFwd : Cert.FfnFwd.Facts) (hFfnFwdIdeal : Cert.FfnFwdIdeal.Facts) (hFfnFwdRefIdeal : Cert.FfnFwdRefIdeal.Facts) (hFfnBwd : Cert.FfnBwd.Facts) (hFfnBwdIdeal : Cert.FfnBwdIdeal.Facts) (hFfnBwdRefIdeal : Cert.FfnBwdRefIdeal.Facts) (hMixer : Cert.Mixer.Facts) (hMixerIdeal : Cert.MixerIdeal.Facts) (hMixerRefIdeal : Cert.MixerRefIdeal.Facts) (hFfnHalves : Cert.FfnHalves.Facts) (hFfnHalvesIdeal : Cert.FfnHalvesIdeal.Facts) (hAdamW : Cert.AdamW.Facts) (hAdamWIdeal : Cert.AdamWIdeal.Facts) (hAdamWRefIdeal : Cert.AdamWRefIdeal.Facts) (hInputGrad : Cert.InputGrad.Facts) (hInputGradIdeal : Cert.InputGradIdeal.Facts) (hInputGradRefIdeal : Cert.InputGradRefIdeal.Facts) (hNorm : Cert.Norm.Facts) (hNormIdeal : Cert.NormIdeal.Facts) (hNormRefIdeal : Cert.NormRefIdeal.Facts) (hNormWhole : Cert.NormWhole.Facts) (hNormWholeIdeal : Cert.NormWholeIdeal.Facts) (hNormWholeRefIdeal : Cert.NormWholeRefIdeal.Facts) (hPre_finite : Cert.Pre_finite.Facts) (hPre_norm_finite : Cert.Pre_norm_finite.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnBwd (hFfnBwd := hFfnBwd)
    ∧ quiescent_FfnBwdIdeal (hFfnBwdIdeal := hFfnBwdIdeal) (hPre_finite := hPre_finite)
    ∧ quiescent_FfnBwdIdeal_pre_none (hFfnBwdIdeal := hFfnBwdIdeal)
    ∧ quiescent_FfnBwdRefIdeal (hFfnBwdRefIdeal := hFfnBwdRefIdeal)
    ∧ quiescent_FfnBwdRefIdeal_pre_finite (hFfnBwdRefIdeal := hFfnBwdRefIdeal) (hPre_finite := hPre_finite)
    ∧ quiescent_Mixer (hMixer := hMixer)
    ∧ quiescent_MixerIdeal (hMixerIdeal := hMixerIdeal)
    ∧ quiescent_MixerRefIdeal (hMixerRefIdeal := hMixerRefIdeal)
    ∧ quiescent_FfnHalves (hFfnHalves := hFfnHalves)
    ∧ quiescent_FfnHalvesIdeal (hFfnHalvesIdeal := hFfnHalvesIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_InputGrad (hInputGrad := hInputGrad)
    ∧ quiescent_InputGradIdeal (hInputGradIdeal := hInputGradIdeal)
    ∧ quiescent_InputGradRefIdeal (hInputGradRefIdeal := hInputGradRefIdeal)
    ∧ quiescent_Norm (hNorm := hNorm)
    ∧ quiescent_NormIdeal (hNormIdeal := hNormIdeal) (hPre_norm_finite := hPre_norm_finite)
    ∧ quiescent_NormIdeal_pre_none (hNormIdeal := hNormIdeal)
    ∧ quiescent_NormRefIdeal (hNormRefIdeal := hNormRefIdeal)
    ∧ quiescent_NormRefIdeal_pre_norm_finite (hNormRefIdeal := hNormRefIdeal) (hPre_norm_finite := hPre_norm_finite)
    ∧ quiescent_NormWhole (hNormWhole := hNormWhole)
    ∧ quiescent_NormWholeIdeal (hNormWholeIdeal := hNormWholeIdeal) (hPre_norm_finite := hPre_norm_finite)
    ∧ quiescent_NormWholeIdeal_pre_none (hNormWholeIdeal := hNormWholeIdeal)
    ∧ quiescent_NormWholeRefIdeal (hNormWholeRefIdeal := hNormWholeRefIdeal)
    ∧ quiescent_NormWholeRefIdeal_pre_norm_finite (hNormWholeRefIdeal := hNormWholeRefIdeal) (hPre_norm_finite := hPre_norm_finite)
    ∧ preserves_ConvBwd_ConvBwdIdeal
    ∧ algebraic_ConvBwdIdeal_ConvRefIdeal (hConvBwdIdeal := hConvBwdIdeal) (hConvRefIdeal := hConvRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnBwd_FfnBwdIdeal
    ∧ algebraic_FfnBwdIdeal_FfnBwdRefIdeal (hFfnBwdIdeal := hFfnBwdIdeal) (hFfnBwdRefIdeal := hFfnBwdRefIdeal) (hPre_finite := hPre_finite)
    ∧ preserves_Mixer_MixerIdeal
    ∧ algebraic_MixerIdeal_MixerRefIdeal (hMixerIdeal := hMixerIdeal) (hMixerRefIdeal := hMixerRefIdeal)
    ∧ preserves_FfnHalves_FfnHalvesIdeal
    ∧ algebraic_FfnHalvesIdeal_FfnFwdRefIdeal (hFfnHalvesIdeal := hFfnHalvesIdeal) (hFfnFwdRefIdeal := hFfnFwdRefIdeal)
    ∧ preserves_AdamW_AdamWIdeal
    ∧ algebraic_AdamWIdeal_AdamWRefIdeal (hAdamWIdeal := hAdamWIdeal) (hAdamWRefIdeal := hAdamWRefIdeal)
    ∧ preserves_InputGrad_InputGradIdeal
    ∧ algebraic_InputGradIdeal_InputGradRefIdeal (hInputGradIdeal := hInputGradIdeal) (hInputGradRefIdeal := hInputGradRefIdeal)
    ∧ preserves_Norm_NormIdeal
    ∧ algebraic_NormIdeal_NormRefIdeal (hNormIdeal := hNormIdeal) (hNormRefIdeal := hNormRefIdeal) (hPre_norm_finite := hPre_norm_finite)
    ∧ preserves_NormWhole_NormWholeIdeal
    ∧ algebraic_NormWholeIdeal_NormWholeRefIdeal (hNormWholeIdeal := hNormWholeIdeal) (hNormWholeRefIdeal := hNormWholeRefIdeal) (hPre_norm_finite := hPre_norm_finite)
-- ==== Pre_finite.lean ====
abbrev S4128x4096 : Shape := ⟨2, ![4128, 4096]⟩
abbrev S4096x22016 : Shape := ⟨2, ![4096, 22016]⟩
abbrev S11008x4096 : Shape := ⟨2, ![11008, 4096]⟩
abbrev S11008x2048 : Shape := ⟨2, ![11008, 2048]⟩
abbrev S2048x22016 : Shape := ⟨2, ![2048, 22016]⟩
abbrev S_ : Shape := ⟨0, ![]⟩

class Facts : Prop where
  bitsLt_bf16_f32 : FTy.bits .bf16 < FTy.bits .f32
  bcast_S_S4128x4096 : S_.BroadcastsInDim S4128x4096 (![] : Fin 0 → Fin S4128x4096.rank)
  reducesTo_S4128x4096_S_d0_1 : S4128x4096.ReducesTo [0, 1] S_
  h_S_ : 0 < S_.numel
  bcast_S_S4096x22016 : S_.BroadcastsInDim S4096x22016 (![] : Fin 0 → Fin S4096x22016.rank)
  reducesTo_S4096x22016_S_d0_1 : S4096x22016.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_v4 : IVec S_ 1) (main_v9 : IVec S_ 1) (main_v14 : IVec S_ 1) (main_v16 : FVec F S11008x4096 .f32) (main_cst_4 : FVec F S_ .f32) : IVec S_ 1 :=
  let main_v17 : FVec F S11008x4096 .f32 := broadcastInDim S11008x4096 ![] bcast_S_S11008x4096 main_cst_4
  let main_v18 : IVec S11008x4096 1 := cmpf .olt main_v16 main_v17
  let main_c_5 : IVec S_ 1 := constantI S_ 1 1#1
  let main_v19 : IVec S_ 1 := (fun x v => Host.reduce IntOp.andi x v reducesTo_S11008x4096_S_d0_1 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S4128x4096 .bf16) (main_arg1 : FVec F S4128x4096 .bf16) (main_arg2 : FVec F S4096x22016 .bf16) (main_arg3 : FVec F S11008x4096 .bf16) (main_arg4 : FVec F S11008x2048 .bf16) (main_arg5 : FVec F S2048x22016 .bf16) : IVec S_ 1 :=
  let main_v0 : FVec F S4128x4096 .f32 := (extf .f32 · bitsLt_bf16_f32) main_arg0
  let main_v1 : FVec F S4128x4096 .f32 := Host.absf main_v0
  let main_cst : FVec F S_ .f32 := constant S_ .f32 0x7F800000#32
  let main_v2 : FVec F S4128x4096 .f32 := broadcastInDim S4128x4096 ![] bcast_S_S4128x4096 main_cst
  let main_v3 : IVec S4128x4096 1 := cmpf .olt main_v1 main_v2
  let main_c : IVec S_ 1 := constantI S_ 1 1#1
  let main_v4 : IVec S_ 1 := (fun x v => Host.reduce IntOp.andi x v reducesTo_S4128x4096_S_d0_1 h_S_) main_v3 main_c
  let main_v5 : FVec F S4128x4096 .f32 := (extf .f32 · bitsLt_bf16_f32) main_arg1
  let main_v6 : FVec F S4128x4096 .f32 := Host.absf main_v5
  let main_cst_0 : FVec F S_ .f32 := constant S_ .f32 0x7F800000#32
  let main_v7 : FVec F S4128x4096 .f32 := broadcastInDim S4128x4096 ![] bcast_S_S4128x4096 main_cst_0
  let main_v8 : IVec S4128x4096 1 := cmpf .olt main_v6 main_v7
  let main_c_1 : IVec S_ 1 := constantI S_ 1 1#1
  let main_v9 : IVec S_ 1 := (fun x v => Host.reduce IntOp.andi x v reducesTo_S4128x4096_S_d0_1 h_S_) main_v8 main_c_1
  let main_v10 : FVec F S4096x22016 .f32 := (extf .f32 · bitsLt_bf16_f32) main_arg2
  let main_v11 : FVec F S4096x22016 .f32 := Host.absf main_v10
  let main_cst_2 : FVec F S_ .f32 := constant S_ .f32 0x7F800000#32
  let main_v12 : FVec F S4096x22016 .f32 := broadcastInDim S4096x22016 ![] bcast_S_S4096x22016 main_cst_2
  let main_v13 : IVec S4096x22016 1 := cmpf .olt main_v11 main_v12
  let main_c_3 : IVec S_ 1 := constantI S_ 1 1#1
  let main_v14 : IVec S_ 1 := (fun x v => Host.reduce IntOp.andi x v reducesTo_S4096x22016_S_d0_1 h_S_) main_v13 main_c_3
  let main_v15 : FVec F S11008x4096 .f32 := (extf .f32 · bitsLt_bf16_f32) main_arg3
  let main_v16 : FVec F S11008x4096 .f32 := Host.absf main_v15
  let main_cst_4 : FVec F S_ .f32 := constant S_ .f32 0x7F800000#32
  fn_part1 (F := F) main_v4 main_v9 main_v14 main_v16 main_cst_4
-- ==== Pre_norm_finite.lean ====
abbrev S4128x4096 : Shape := ⟨2, ![4128, 4096]⟩
abbrev S1x4096 : Shape := ⟨2, ![1, 4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4128x4096 : S_.BroadcastsInDim S4128x4096 (![] : Fin 0 → Fin S4128x4096.rank)
  reducesTo_S4128x4096_S_d0_1 : S4128x4096.ReducesTo [0, 1] S_

variable [Facts]

def fn {F : FTy → Type} [FloatOps F] (main_arg0 : FVec F S4128x4096 .f32) (main_arg1 : FVec F S4128x4096 .f32) (main_arg2 : FVec F S1x4096 .f32) (main_arg3 : FVec F S1x4096 .f32) (main_arg4 : FVec F S4128x4096 .f32) (main_arg5 : FVec F S4128x4096 .f32) : IVec S_ 1 :=
  let main_v0 : FVec F S1x4096 .f32 := Host.absf main_arg2
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S4128x4096 .f32 := Host.absf main_arg4
  let main_cst_0 : FVec F S_ .f32 := constant S_ .f32 0x7F800000#32
  let main_v5 : FVec F S4128x4096 .f32 := broadcastInDim S4128x4096 ![] bcast_S_S4128x4096 main_cst_0
  let main_v6 : IVec S4128x4096 1 := cmpf .olt main_v4 main_v5
  let main_c_1 : IVec S_ 1 := constantI S_ 1 1#1
  let main_v7 : IVec S_ 1 := (fun x v => Host.reduce IntOp.andi x v reducesTo_S4128x4096_S_d0_1 h_S_) main_v6 main_c_1
  let main_v8 : FVec F S4128x4096 .f32 := Host.absf main_arg5
  let main_cst_2 : FVec F S_ .f32 := constant S_ .f32 0x7F800000#32
  let main_v9 : FVec F S4128x4096 .f32 := broadcastInDim S4128x4096 ![] bcast_S_S4128x4096 main_cst_2
  let main_v10 : IVec S4128x4096 1 := cmpf .olt main_v8 main_v9
  let main_c_3 : IVec S_ 1 := constantI S_ 1 1#1
  let main_v11 : IVec S_ 1 := (fun x v => Host.reduce IntOp.andi x v reducesTo_S4128x4096_S_d0_1 h_S_) main_v10 main_c_3
  let main_v12 : IVec S_ 1 := andi main_v3 main_v7
  let main_v13 : IVec S_ 1 := andi main_v12 main_v11
  main_v13
-- ==== ConvBwd.lean ====
abbrev S4128x8192 : Shape := ⟨2, ![4128, 8192]⟩
abbrev S4128x4096 : Shape := ⟨2, ![4128, 4096]⟩
abbrev S3x2048 : Shape := ⟨2, ![3, 2048]⟩
abbrev S4128x2048 : Shape := ⟨2, ![4128, 2048]⟩
abbrev S2064x256 : Shape := ⟨2, ![2064, 256]⟩
abbrev S3x256 : Shape := ⟨2, ![3, 256]⟩
abbrev S1x256 : Shape := ⟨2, ![1, 256]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S4128x8192, .f32⟩
  | .hbm, ⟨1, _⟩ => ⟨S4128x4096, .f32⟩
  | .hbm, ⟨2, _⟩ => ⟨S3x2048, .f32⟩
  | .hbm, ⟨3, _⟩ => ⟨S4128x2048, .bf16⟩
  | .hbm, ⟨4, _⟩ => ⟨S4128x2048, .bf16⟩
  | .hbm, ⟨5, _⟩ => ⟨S4128x2048, .bf16⟩
  | .hbm, ⟨6, _⟩ => ⟨S3x2048, .f32⟩
  | .local _ .vmem, ⟨0, _⟩ => ⟨S2064x256, .f32⟩
  | .local _ .vmem, ⟨1, _⟩ => ⟨S2064x256, .f32⟩
  | .local _ .vmem, ⟨2, _⟩ => ⟨S2064x256, .f32⟩
  | .local _ .vmem, ⟨3, _⟩ => ⟨S2064x256, .f32⟩
  | .local _ .vmem, ⟨4, _⟩ => ⟨S2064x256, .f32⟩
  | .local _ .vmem, ⟨5, _⟩ => ⟨S2064x256, .f32⟩
  | .local _ .vmem, ⟨6, _⟩ => ⟨S2064x256, .f32⟩
  | .local _ .vmem, ⟨7, _⟩ => ⟨S2064x256, .f32⟩
  | .local _ .vmem, ⟨8, _⟩ => ⟨S3x256, .f32⟩
  | .local _ .vmem, ⟨9, _⟩ => ⟨S3x256, .f32⟩
  | .local _ .vmem, ⟨10, _⟩ => ⟨S2064x256, .bf16⟩
  | .local _ .vmem, ⟨11, _⟩ => ⟨S2064x256, .bf16⟩
  | .local _ .vmem, ⟨12, _⟩ => ⟨S2064x256, .bf16⟩
  | .local _ .vmem, ⟨13, _⟩ => ⟨S2064x256, .bf16⟩
  | .local _ .vmem, ⟨14, _⟩ => ⟨S2064x256, .bf16⟩
  | .local _ .vmem, ⟨15, _⟩ => ⟨S2064x256, .bf16⟩
  | .local _ .vmem, ⟨16, _⟩ => ⟨S3x256, .f32⟩
  | .local _ .vmem, ⟨17, _⟩ => ⟨S3x256, .f32⟩
  | _, _ => ⟨S4128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2064x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2064x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2064x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2064x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2064x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvRefIdeal.lean ====
abbrev S4128x8192 : Shape := ⟨2, ![4128, 8192]⟩
abbrev S4128x4096 : Shape := ⟨2, ![4128, 4096]⟩
abbrev S3x2048 : Shape := ⟨2, ![3, 2048]⟩
abbrev S2x2064x8192 : Shape := ⟨3, ![2, 2064, 8192]⟩
abbrev S2x2064x2048 : Shape := ⟨3, ![2, 2064, 2048]⟩
abbrev S_ : Shape := ⟨0, ![]⟩
abbrev S2x2x2048 : Shape := ⟨3, ![2, 2, 2048]⟩
abbrev S2x2066x2048 : Shape := ⟨3, ![2, 2066, 2048]⟩
abbrev S1x2048 : Shape := ⟨2, ![1, 2048]⟩
abbrev S2048 : Shape := ⟨1, ![2048]⟩
abbrev S1x1x2048 : Shape := ⟨3, ![1, 1, 2048]⟩
abbrev S2x2064x4096 : Shape := ⟨3, ![2, 2064, 4096]⟩
abbrev S4128x2048 : Shape := ⟨2, ![4128, 2048]⟩

abbrev nBuf : Space → Nat
  | .hbm => 91
  | .vmem => 0
  | .smem => 0
  | _ => 0

abbrev bufTy : (tb : Table) → Fin (tcTables nBuf tb) → BufTy
  | .hbm, ⟨0, _⟩ => ⟨S4128x8192, .f32⟩
  | .hbm, ⟨1, _⟩ => ⟨S4128x4096, .f32⟩
  | .hbm, ⟨2, _⟩ => ⟨S3x2048, .f32⟩
  | .hbm, ⟨3, _⟩ => ⟨S2x2064x8192, .f32⟩
  | .hbm, ⟨4, _⟩ => ⟨S2x2064x2048, .f32⟩
  | .hbm, ⟨5, _⟩ => ⟨S2x2064x2048, .f32⟩
  | .hbm, ⟨6, _⟩ => ⟨S2x2064x2048, .f32⟩
  | .hbm, ⟨7, _⟩ => ⟨S2x2064x2048, .f32⟩
  | .hbm, ⟨8, _⟩ => ⟨S_, .f32⟩
  | .hbm, ⟨9, _⟩ => ⟨S2x2x2048, .f32⟩
  | .hbm, ⟨10, _⟩ => ⟨S2x2066x2048, .f32⟩
  | .hbm, ⟨11, _⟩ => ⟨S_, .f32⟩
  | .hbm, ⟨12, _⟩ => ⟨S2x2x2048, .f32⟩
  | .hbm, ⟨13, _⟩ => ⟨S2x2064x2048, .f32⟩
  | .hbm, ⟨14, _⟩ => ⟨S1x2048, .f32⟩
  | .hbm, ⟨15, _⟩ => ⟨S2048, .f32⟩
  | .hbm, ⟨16, _⟩ => ⟨S1x1x2048, .f32⟩
  | .hbm, ⟨17, _⟩ => ⟨S2x2064x2048, .f32⟩
  | .hbm, ⟨18, _⟩ => ⟨S2x2064x2048, .f32⟩
  | .hbm, ⟨19, _⟩ => ⟨S2x2064x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S2x2064x2048, .f32⟩
  | .hbm, ⟨24, _⟩ => ⟨S2x2064x2048, .f32⟩
  | .hbm, ⟨25, _⟩ => ⟨S2x2064x2048, .f32⟩
  | .hbm, ⟨26, _⟩ => ⟨S2x2064x2048, .f32⟩
  | .hbm, ⟨27, _⟩ => ⟨S1x2048, .f32⟩
  | .hbm, ⟨28, _⟩ => ⟨S2048, .f32⟩
  | .hbm, ⟨29, _⟩ => ⟨S1x1x2048, .f32⟩
  | .hbm, ⟨30, _⟩ => ⟨S2x2064x2048, .f32⟩
  | .hbm, ⟨31, _⟩ => ⟨S2x2064x2048, .f32⟩
  | .hbm, ⟨32, _⟩ => ⟨S2x2064x2048, .f32⟩
  | .hbm, ⟨33, _⟩ => ⟨S2x2064x2048, .f32⟩
  | .hbm, ⟨34, _⟩ => ⟨S2x2064x4096, .f32⟩
  | .hbm, ⟨35, _⟩ => ⟨S2x2064x2048, .f32⟩
  | .hbm, ⟨36, _⟩ => ⟨S2x2064x2048, .f32⟩
  | .hbm, ⟨37, _⟩ => ⟨S2x2064x2048, .f32⟩
  | .hbm, ⟨38, _⟩ => ⟨S2x2064x2048, .f32⟩
  | .hbm, ⟨39, _⟩ => ⟨S_, .f32⟩
  | .hbm, ⟨40, _⟩ => ⟨S2048, .f32⟩
  | .hbm, ⟨41, _⟩ => ⟨S1x1x2048, .f32⟩
  | .hbm, ⟨42, _⟩ => ⟨S2x2064x2048, .f32⟩
  | .hbm, ⟨43, _⟩ => ⟨S2x2064x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S3x2048, .f32⟩
  | .hbm, ⟨49, _⟩ => ⟨S_, .f32⟩
  | .hbm, ⟨50, _⟩ => ⟨S2x2066x2048, .f32⟩
  | .hbm, ⟨51, _⟩ => ⟨S2x2064x2048, .f32⟩
  | .hbm, ⟨52, _⟩ => ⟨S_, .f32⟩
  | .hbm, ⟨53, _⟩ => ⟨S2048, .f32⟩
  | .hbm, ⟨54, _⟩ => ⟨S1x1x2048, .f32⟩
  | .hbm, ⟨55, _⟩ => ⟨S2x2064x2048, .f32⟩
  | .hbm, ⟨56, _⟩ => ⟨S2x2064x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S_, .f32⟩
  | .hbm, ⟨61, _⟩ => ⟨S3x2048, .f32⟩
  | .hbm, ⟨62, _⟩ => ⟨S3x2048, .f32⟩
  | .hbm, ⟨63, _⟩ => ⟨S_, .f32⟩
  | .hbm, ⟨64, _⟩ => ⟨S2x2066x2048, .f32⟩
  | .hbm, ⟨65, _⟩ => ⟨S2x2066x2048, .f32⟩
  | .hbm, ⟨66, _⟩ => ⟨S2x2064x2048, .f32⟩
  | .hbm, ⟨67, _⟩ => ⟨S_, .f32⟩
  | .hbm, ⟨68, _⟩ => ⟨S2048, .f32⟩
  | .hbm, ⟨69, _⟩ => ⟨S1x1x2048, .f32⟩
  | .hbm, ⟨70, _⟩ => ⟨S2x2064x2048, .f32⟩
  | .hbm, ⟨71, _⟩ => ⟨S2x2064x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S_, .f32⟩
  | .hbm, ⟨76, _⟩ => ⟨S3x2048, .f32⟩
  | .hbm, ⟨77, _⟩ => ⟨S3x2048, .f32⟩
  | .hbm, ⟨78, _⟩ => ⟨S_, .f32⟩
  | .hbm, ⟨79, _⟩ => ⟨S2x2066x2048, .f32⟩
  | .hbm, ⟨80, _⟩ => ⟨S2x2066x2048, .f32⟩
  | .hbm, ⟨81, _⟩ => ⟨S2x2x2048, .f32⟩
  | .hbm, ⟨82, _⟩ => ⟨S2x2064x2048, .f32⟩
  | .hbm, ⟨83, _⟩ => ⟨S2x2064x2048, .f32⟩
  | .hbm, ⟨84, _⟩ => ⟨S2x2064x2048, .f32⟩
  | .hbm, ⟨85, _⟩ => ⟨S4128x2048, .f32⟩
  | .hbm, ⟨86, _⟩ => ⟨S4128x2048, .bf16⟩
  | .hbm, ⟨87, _⟩ => ⟨S4128x2048, .f32⟩
  | .hbm, ⟨88, _⟩ => ⟨S4128x2048, .bf16⟩
  | .hbm, ⟨89, _⟩ => ⟨S4128x2048, .f32⟩
  | .hbm, ⟨90, _⟩ => ⟨S4128x2048, .bf16⟩
  | _, _ => ⟨S4128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== FfnFwd.lean ====
abbrev S4128x4096 : Shape := ⟨2, ![4128, 4096]⟩
abbrev S4096x22016 : Shape := ⟨2, ![4096, 22016]⟩
abbrev S11008x4096 : Shape := ⟨2, ![11008, 4096]⟩
abbrev S4128x22016 : Shape := ⟨2, ![4128, 22016]⟩
abbrev S1376x4096 : Shape := ⟨2, ![1376, 4096]⟩
abbrev S4096x512 : Shape := ⟨2, ![4096, 512]⟩
abbrev S1376x512 : Shape := ⟨2, ![1376, 512]⟩
abbrev S4128x11008 : Shape := ⟨2, ![4128, 11008]⟩
abbrev S48x11008 : Shape := ⟨2, ![48, 11008]⟩
abbrev S1376x5504 : Shape := ⟨2, ![1376, 5504]⟩
abbrev S5504x512 : Shape := ⟨2, ![5504, 512]⟩

abbrev nBuf : Space → Nat
  | .hbm => 7
  | .vmem => 26
  | .smem => 0
  | _ => 0

abbrev bufTy : (tb : Table) → Fin (tcTables nBuf tb) → BufTy
  | .hbm, ⟨0, _⟩ => ⟨S4128x4096, .bf16⟩
  | .hbm, ⟨1, _⟩ => ⟨S4096x22016, .bf16⟩
  | .hbm, ⟨2, _⟩ => ⟨S11008x4096, .bf16⟩
  | .hbm, ⟨3, _⟩ => ⟨S4128x22016, .bf16⟩
  | .hbm, ⟨4, _⟩ => ⟨S4128x11008, .bf16⟩
  | .hbm, ⟨5, _⟩ => ⟨S4128x4096, .f32⟩
  | .hbm, ⟨6, _⟩ => ⟨S4128x4096, .f32⟩
  | .local _ .vmem, ⟨0, _⟩ => ⟨S1376x4096, .bf16⟩
  | .local _ .vmem, ⟨1, _⟩ => ⟨S1376x4096, .bf16⟩
  | .local _ .vmem, ⟨2, _⟩ => ⟨S4096x512, .bf16⟩
  | .local _ .vmem, ⟨3, _⟩ => ⟨S4096x512, .bf16⟩
  | .local _ .vmem, ⟨4, _⟩ => ⟨S1376x512, .bf16⟩
  | .local _ .vmem, ⟨5, _⟩ => ⟨S1376x512, .bf16⟩
  | .local _ .vmem, ⟨6, _⟩ => ⟨S48x11008, .bf16⟩
  | .local _ .vmem, ⟨7, _⟩ => ⟨S48x11008, .bf16⟩
  | .local _ .vmem, ⟨8, _⟩ => ⟨S48x11008, .bf16⟩
  | .local _ .vmem, ⟨9, _⟩ => ⟨S48x11008, .bf16⟩
  | .local _ .vmem, ⟨10, _⟩ => ⟨S48x11008, .bf16⟩
  | .local _ .vmem, ⟨11, _⟩ => ⟨S48x11008, .bf16⟩
  | .local _ .vmem, ⟨12, _⟩ => ⟨S1376x5504, .bf16⟩
  | .local _ .vmem, ⟨13, _⟩ => ⟨S1376x5504, .bf16⟩
  | .local _ .vmem, ⟨14, _⟩ => ⟨S5504x512, .bf16⟩
  | .local _ .vmem, ⟨15, _⟩ => ⟨S5504x512, .bf16⟩
  | .local _ .vmem, ⟨16, _⟩ => ⟨S1376x512, .f32⟩
  | .local _ .vmem, ⟨17, _⟩ => ⟨S1376x512, .f32⟩
  | .local _ .vmem, ⟨18, _⟩ => ⟨S1376x5504, .bf16⟩
  | .local _ .vmem, ⟨19, _⟩ => ⟨S1376x5504, .bf16⟩
  | .local _ .vmem, ⟨20, _⟩ => ⟨S5504x512, .bf16⟩
  | .local _ .vmem, ⟨21, _⟩ => ⟨S5504x512, .bf16⟩
  | .local _ .vmem, ⟨22, _⟩ => ⟨S1376x512, .f32⟩
  | .local _ .vmem, ⟨23, _⟩ => ⟨S1376x512, .f32⟩
  | .local _ .vmem, ⟨24, _⟩ => ⟨S1376x512, .f32⟩
  | .local _ .vmem, ⟨25, _⟩ => ⟨S1376x512, .f32⟩
  | _, _ => ⟨S4128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨3, ![3, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![86], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S48x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S48x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S48x11008 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![3, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1376x5504 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S5504x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1376x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![3, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg2 c1_i32
  let c0_i32_0 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1376x5504 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S5504x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1376x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1376x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== FfnFwdRefIdeal.lean ====
abbrev S4128x4096 : Shape := ⟨2, ![4128, 4096]⟩
abbrev S4096x22016 : Shape := ⟨2, ![4096, 22016]⟩
abbrev S11008x4096 : Shape := ⟨2, ![11008, 4096]⟩
abbrev S4128x22016 : Shape := ⟨2, ![4128, 22016]⟩
abbrev S4128x11008 : Shape := ⟨2, ![4128, 11008]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4128x4096, .bf16⟩
  | .hbm, ⟨1, _⟩ => ⟨S4096x22016, .bf16⟩
  | .hbm, ⟨2, _⟩ => ⟨S11008x4096, .bf16⟩
  | .hbm, ⟨3, _⟩ => ⟨S4128x4096, .f32⟩
  | .hbm, ⟨4, _⟩ => ⟨S4096x22016, .f32⟩
  | .hbm, ⟨5, _⟩ => ⟨S11008x4096, .f32⟩
  | .hbm, ⟨6, _⟩ => ⟨S4128x22016, .f32⟩
  | .hbm, ⟨7, _⟩ => ⟨S4128x11008, .f32⟩
  | .hbm, ⟨8, _⟩ => ⟨S4128x11008, .f32⟩
  | .hbm, ⟨9, _⟩ => ⟨S4128x11008, .f32⟩
  | .hbm, ⟨10, _⟩ => ⟨S4128x11008, .f32⟩
  | .hbm, ⟨11, _⟩ => ⟨S_, .f32⟩
  | .hbm, ⟨12, _⟩ => ⟨S4128x11008, .f32⟩
  | .hbm, ⟨13, _⟩ => ⟨S4128x11008, .f32⟩
  | .hbm, ⟨14, _⟩ => ⟨S_, .f32⟩
  | .hbm, ⟨15, _⟩ => ⟨S4128x11008, .f32⟩
  | .hbm, ⟨16, _⟩ => ⟨S4128x11008, .f32⟩
  | .hbm, ⟨17, _⟩ => ⟨S4128x11008, .f32⟩
  | .hbm, ⟨18, _⟩ => ⟨S4128x11008, .f32⟩
  | .hbm, ⟨19, _⟩ => ⟨S4128x4096, .f32⟩
  | _, _ => ⟨S4128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== FfnBwd.lean ====
abbrev S4128x4096 : Shape := ⟨2, ![4128, 4096]⟩
abbrev S4096x22016 : Shape := ⟨2, ![4096, 22016]⟩
abbrev S11008x4096 : Shape := ⟨2, ![11008, 4096]⟩
abbrev S11008x2048 : Shape := ⟨2, ![11008, 2048]⟩
abbrev S2048x22016 : Shape := ⟨2, ![2048, 22016]⟩
abbrev S4128x22016 : Shape := ⟨2, ![4128, 22016]⟩
abbrev S1376x4096 : Shape := ⟨2, ![1376, 4096]⟩
abbrev S4096x512 : Shape := ⟨2, ![4096, 512]⟩
abbrev S1376x512 : Shape := ⟨2, ![1376, 512]⟩
abbrev S4128x11008 : Shape := ⟨2, ![4128, 11008]⟩
abbrev S48x11008 : Shape := ⟨2, ![48, 11008]⟩
abbrev S256x4096 : Shape := ⟨2, ![256, 4096]⟩
abbrev S1376x256 : Shape := ⟨2, ![1376, 256]⟩
abbrev S4128x256 : Shape := ⟨2, ![4128, 256]⟩
abbrev S4128x2048 : Shape := ⟨2, ![4128, 2048]⟩
abbrev S256x2048 : Shape := ⟨2, ![256, 2048]⟩
abbrev S48x22016 : Shape := ⟨2, ![48, 22016]⟩
abbrev S4128x512 : Shape := ⟨2, ![4128, 512]⟩
abbrev S2048x512 : Shape := ⟨2, ![2048, 512]⟩
abbrev S1376x5504 : Shape := ⟨2, ![1376, 5504]⟩
abbrev S512x5504 : Shape := ⟨2, ![512, 5504]⟩

abbrev nBuf : Space → Nat
  | .hbm => 18
  | .vmem => 80
  | .smem => 0
  | _ => 0

abbrev bufTy : (tb : Table) → Fin (tcTables nBuf tb) → BufTy
  | .hbm, ⟨0, _⟩ => ⟨S4128x4096, .bf16⟩
  | .hbm, ⟨1, _⟩ => ⟨S4128x4096, .bf16⟩
  | .hbm, ⟨2, _⟩ => ⟨S4096x22016, .bf16⟩
  | .hbm, ⟨3, _⟩ => ⟨S11008x4096, .bf16⟩
  | .hbm, ⟨4, _⟩ => ⟨S11008x2048, .bf16⟩
  | .hbm, ⟨5, _⟩ => ⟨S2048x22016, .bf16⟩
  | .hbm, ⟨6, _⟩ => ⟨S4128x22016, .bf16⟩
  | .hbm, ⟨7, _⟩ => ⟨S4128x11008, .bf16⟩
  | .hbm, ⟨8, _⟩ => ⟨S4128x11008, .bf16⟩
  | .hbm, ⟨9, _⟩ => ⟨S11008x2048, .bf16⟩
  | .hbm, ⟨10, _⟩ => ⟨S4128x22016, .bf16⟩
  | .hbm, ⟨11, _⟩ => ⟨S11008x2048, .bf16⟩
  | .hbm, ⟨12, _⟩ => ⟨S2048x22016, .bf16⟩
  | .hbm, ⟨13, _⟩ => ⟨S2048x22016, .bf16⟩
  | .hbm, ⟨14, _⟩ => ⟨S4128x4096, .f32⟩
  | .hbm, ⟨15, _⟩ => ⟨S4128x4096, .f32⟩
  | .hbm, ⟨16, _⟩ => ⟨S4128x4096, .f32⟩
  | .hbm, ⟨17, _⟩ => ⟨S4128x4096, .f32⟩
  | .local _ .vmem, ⟨0, _⟩ => ⟨S1376x4096, .bf16⟩
  | .local _ .vmem, ⟨1, _⟩ => ⟨S1376x4096, .bf16⟩
  | .local _ .vmem, ⟨2, _⟩ => ⟨S4096x512, .bf16⟩
  | .local _ .vmem, ⟨3, _⟩ => ⟨S4096x512, .bf16⟩
  | .local _ .vmem, ⟨4, _⟩ => ⟨S1376x512, .bf16⟩
  | .local _ .vmem, ⟨5, _⟩ => ⟨S1376x512, .bf16⟩
  | .local _ .vmem, ⟨6, _⟩ => ⟨S48x11008, .bf16⟩
  | .local _ .vmem, ⟨7, _⟩ => ⟨S48x11008, .bf16⟩
  | .local _ .vmem, ⟨8, _⟩ => ⟨S48x11008, .bf16⟩
  | .local _ .vmem, ⟨9, _⟩ => ⟨S48x11008, .bf16⟩
  | .local _ .vmem, ⟨10, _⟩ => ⟨S48x11008, .bf16⟩
  | .local _ .vmem, ⟨11, _⟩ => ⟨S48x11008, .bf16⟩
  | .local _ .vmem, ⟨12, _⟩ => ⟨S1376x4096, .bf16⟩
  | .local _ .vmem, ⟨13, _⟩ => ⟨S1376x4096, .bf16⟩
  | .local _ .vmem, ⟨14, _⟩ => ⟨S256x4096, .bf16⟩
  | .local _ .vmem, ⟨15, _⟩ => ⟨S256x4096, .bf16⟩
  | .local _ .vmem, ⟨16, _⟩ => ⟨S1376x256, .bf16⟩
  | .local _ .vmem, ⟨17, _⟩ => ⟨S1376x256, .bf16⟩
  | .local _ .vmem, ⟨18, _⟩ => ⟨S4128x256, .bf16⟩
  | .local _ .vmem, ⟨19, _⟩ => ⟨S4128x256, .bf16⟩
  | .local _ .vmem, ⟨20, _⟩ => ⟨S4128x2048, .bf16⟩
  | .local _ .vmem, ⟨21, _⟩ => ⟨S256x2048, .bf16⟩
  | .local _ .vmem, ⟨22, _⟩ => ⟨S256x2048, .bf16⟩
  | .local _ .vmem, ⟨23, _⟩ => ⟨S48x11008, .bf16⟩
  | .local _ .vmem, ⟨24, _⟩ => ⟨S48x11008, .bf16⟩
  | .local _ .vmem, ⟨25, _⟩ => ⟨S48x11008, .bf16⟩
  | .local _ .vmem, ⟨26, _⟩ => ⟨S48x11008, .bf16⟩
  | .local _ .vmem, ⟨27, _⟩ => ⟨S48x11008, .bf16⟩
  | .local _ .vmem, ⟨28, _⟩ => ⟨S48x11008, .bf16⟩
  | .local _ .vmem, ⟨29, _⟩ => ⟨S48x22016, .bf16⟩
  | .local _ .vmem, ⟨30, _⟩ => ⟨S48x22016, .bf16⟩
  | .local _ .vmem, ⟨31, _⟩ => ⟨S4128x256, .bf16⟩
  | .local _ .vmem, ⟨32, _⟩ => ⟨S4128x256, .bf16⟩
  | .local _ .vmem, ⟨33, _⟩ => ⟨S4128x2048, .bf16⟩
  | .local _ .vmem, ⟨34, _⟩ => ⟨S256x2048, .bf16⟩
  | .local _ .vmem, ⟨35, _⟩ => ⟨S256x2048, .bf16⟩
  | .local _ .vmem, ⟨36, _⟩ => ⟨S256x2048, .bf16⟩
  | .local _ .vmem, ⟨37, _⟩ => ⟨S256x2048, .bf16⟩
  | .local _ .vmem, ⟨38, _⟩ => ⟨S4128x2048, .bf16⟩
  | .local _ .vmem, ⟨39, _⟩ => ⟨S4128x512, .bf16⟩
  | .local _ .vmem, ⟨40, _⟩ => ⟨S4128x512, .bf16⟩
  | .local _ .vmem, ⟨41, _⟩ => ⟨S2048x512, .bf16⟩
  | .local _ .vmem, ⟨42, _⟩ => ⟨S2048x512, .bf16⟩
  | .local _ .vmem, ⟨43, _⟩ => ⟨S4128x2048, .bf16⟩
  | .local _ .vmem, ⟨44, _⟩ => ⟨S4128x512, .bf16⟩
  | .local _ .vmem, ⟨45, _⟩ => ⟨S4128x512, .bf16⟩
  | .local _ .vmem, ⟨46, _⟩ => ⟨S2048x512, .bf16⟩
  | .local _ .vmem, ⟨47, _⟩ => ⟨S2048x512, .bf16⟩
  | .local _ .vmem, ⟨48, _⟩ => ⟨S2048x512, .bf16⟩
  | .local _ .vmem, ⟨49, _⟩ => ⟨S2048x512, .bf16⟩
  | .local _ .vmem, ⟨50, _⟩ => ⟨S1376x5504, .bf16⟩
  | .local _ .vmem, ⟨51, _⟩ => ⟨S1376x5504, .bf16⟩
  | .local _ .vmem, ⟨52, _⟩ => ⟨S512x5504, .bf16⟩
  | .local _ .vmem, ⟨53, _⟩ => ⟨S512x5504, .bf16⟩
  | .local _ .vmem, ⟨54, _⟩ => ⟨S1376x512, .f32⟩
  | .local _ .vmem, ⟨55, _⟩ => ⟨S1376x512, .f32⟩
  | .local _ .vmem, ⟨56, _⟩ => ⟨S1376x5504, .bf16⟩
  | .local _ .vmem, ⟨57, _⟩ => ⟨S1376x5504, .bf16⟩
  | .local _ .vmem, ⟨58, _⟩ => ⟨S512x5504, .bf16⟩
  | .local _ .vmem, ⟨59, _⟩ => ⟨S512x5504, .bf16⟩
  | .local _ .vmem, ⟨60, _⟩ => ⟨S1376x512, .f32⟩
  | .local _ .vmem, ⟨61, _⟩ => ⟨S1376x512, .f32⟩
  | .local _ .vmem, ⟨62, _⟩ => ⟨S1376x512, .f32⟩
  | .local _ .vmem, ⟨63, _⟩ => ⟨S1376x512, .f32⟩
  | .local _ .vmem, ⟨64, _⟩ => ⟨S1376x5504, .bf16⟩
  | .local _ .vmem, ⟨65, _⟩ => ⟨S1376x5504, .bf16⟩
  | .local _ .vmem, ⟨66, _⟩ => ⟨S512x5504, .bf16⟩
  | .local _ .vmem, ⟨67, _⟩ => ⟨S512x5504, .bf16⟩
  | .local _ .vmem, ⟨68, _⟩ => ⟨S1376x512, .f32⟩
  | .local _ .vmem, ⟨69, _⟩ => ⟨S1376x512, .f32⟩
  | .local _ .vmem, ⟨70, _⟩ => ⟨S1376x512, .f32⟩
  | .local _ .vmem, ⟨71, _⟩ => ⟨S1376x512, .f32⟩
  | .local _ .vmem, ⟨72, _⟩ => ⟨S1376x5504, .bf16⟩
  | .local _ .vmem, ⟨73, _⟩ => ⟨S1376x5504, .bf16⟩
  | .local _ .vmem, ⟨74, _⟩ => ⟨S512x5504, .bf16⟩
  | .local _ .vmem, ⟨75, _⟩ => ⟨S512x5504, .bf16⟩
  | .local _ .vmem, ⟨76, _⟩ => ⟨S1376x512, .f32⟩
  | .local _ .vmem, ⟨77, _⟩ => ⟨S1376x512, .f32⟩
  | .local _ .vmem, ⟨78, _⟩ => ⟨S1376x512, .f32⟩
  | .local _ .vmem, ⟨79, _⟩ => ⟨S1376x512, .f32⟩
  | _, _ => ⟨S4128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc7_stg3_0 : Ref sig .tc := ⟨.vmem, 48, rfl⟩
abbrev cc7_stg3_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc9_stg3_0 : Ref sig .tc := ⟨.vmem, 62, rfl⟩
abbrev cc9_stg3_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg1_1 : Ref sig .tc := ⟨.vmem, 67, rfl⟩
abbrev cc10_stg2_0 : Ref sig .tc := ⟨.vmem, 68, rfl⟩
abbrev cc10_stg2_1 : Ref sig .tc := ⟨.vmem, 69, rfl⟩
abbrev cc10_stg3_0 : Ref sig .tc := ⟨.vmem, 70, rfl⟩
abbrev cc10_stg3_1 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg1_1 : Ref sig .tc := ⟨.vmem, 75, rfl⟩
abbrev cc11_stg2_0 : Ref sig .tc := ⟨.vmem, 76, rfl⟩
abbrev cc11_stg2_1 : Ref sig .tc := ⟨.vmem, 77, rfl⟩
abbrev cc11_stg3_0 : Ref sig .tc := ⟨.vmem, 78, rfl⟩
abbrev cc11_stg3_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc5_sem3_0 : DmaSem sig := 36
abbrev cc5_sem3_1 : DmaSem sig := 37
abbrev cc6_sem0_0 : DmaSem sig := 38
abbrev cc6_sem1_0 : DmaSem sig := 39
abbrev cc6_sem1_1 : DmaSem sig := 40
abbrev cc6_sem2_0 : DmaSem sig := 41
abbrev cc6_sem2_1 : DmaSem sig := 42
abbrev cc7_sem0_0 : DmaSem sig := 43
abbrev cc7_sem1_0 : DmaSem sig := 44
abbrev cc7_sem1_1 : DmaSem sig := 45
abbrev cc7_sem2_0 : DmaSem sig := 46
abbrev cc7_sem2_1 : DmaSem sig := 47
abbrev cc7_sem3_0 : DmaSem sig := 48
abbrev cc7_sem3_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc9_sem3_0 : DmaSem sig := 62
abbrev cc9_sem3_1 : DmaSem sig := 63
abbrev cc10_sem0_0 : DmaSem sig := 64
abbrev cc10_sem0_1 : DmaSem sig := 65
abbrev cc10_sem1_0 : DmaSem sig := 66
abbrev cc10_sem1_1 : DmaSem sig := 67
abbrev cc10_sem2_0 : DmaSem sig := 68
abbrev cc10_sem2_1 : DmaSem sig := 69
abbrev cc10_sem3_0 : DmaSem sig := 70
abbrev cc10_sem3_1 : DmaSem sig := 71
abbrev cc11_sem0_0 : DmaSem sig := 72
abbrev cc11_sem0_1 : DmaSem sig := 73
abbrev cc11_sem1_0 : DmaSem sig := 74
abbrev cc11_sem1_1 : DmaSem sig := 75
abbrev cc11_sem2_0 : DmaSem sig := 76
abbrev cc11_sem2_1 : DmaSem sig := 77
abbrev cc11_sem3_0 : DmaSem sig := 78
abbrev cc11_sem3_1 : DmaSem sig := 79

abbrev nD : Nat := 1
abbrev τ : Topo := Topo.v7x

variable {F : FTy → Type} [FloatOps F]

abbrev grid0 : Pipeline.Grid := ⟨3, ![3, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![86], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S48x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S48x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S48x11008 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![3, 43, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1376x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1376x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 43, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.addi arg0 c1_i32
  let c0_i32_0 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S4128x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S4128x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![86], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c1_i32 : BitVec 32 := 1#32
  let c0_i32 : BitVec 32 := 0#32
  ![arg0.toNat, c1_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S48x11008 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S48x11008 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S48x11008 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S48x22016 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨3, ![1, 43, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S4128x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 1 → Memref sig .tc .vmem S4128x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false, true]

abbrev stage5_2 : Fin 2 → Memref sig .tc .vmem S256x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S256x2048 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![1, 43, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.addi arg0 c1_i32
  let c0_i32_0 : BitVec 32 := 0#32
  ![v0.toNat, v1.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S4128x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S4128x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S2048x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 43, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S4128x2048 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S4128x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S2048x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S2048x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨3, ![3, 8, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1376x5504 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S512x5504 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1376x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![3, 8, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg2 c1_i32
  let c0_i32_0 : BitVec 32 := 0#32
  ![v0.toNat, v1.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.addi arg2 c1_i32
  let c0_i32_0 : BitVec 32 := 0#32
  ![v0.toNat, v1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1376x5504 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S512x5504 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1376x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev stage9_3 : Fin 2 → Memref sig .tc .vmem S1376x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

abbrev grid10 : Pipeline.Grid := ⟨3, ![3, 8, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.addi arg2 c2_i32
  let c0_i32_0 : BitVec 32 := 0#32
  ![v0.toNat, v1.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let v1 : BitVec 32 := Scalar.addi arg2 c2_i32
  let c0_i32_0 : BitVec 32 := 0#32
  ![v0.toNat, v1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc10_transform_3 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1376x5504 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S512x5504 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1376x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev stage10_3 : Fin 2 → Memref sig .tc .vmem S1376x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true, false]

abbrev grid11 : Pipeline.Grid := ⟨3, ![3, 8, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c3_i32 : BitVec 32 := 3#32
  let v1 : BitVec 32 := Scalar.addi arg2 c3_i32
  let c0_i32_0 : BitVec 32 := 0#32
  ![v0.toNat, v1.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c3_i32 : BitVec 32 := 3#32
  let v1 : BitVec 32 := Scalar.addi arg2 c3_i32
  let c0_i32_0 : BitVec 32 := 0#32
  ![v0.toNat, v1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc11_transform_3 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S1376x5504 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S512x5504 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S1376x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev stage11_3 : Fin 2 → Memref sig .tc .vmem S1376x512 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true, false]
-- ==== FfnBwdRefIdeal.lean ====
abbrev S4128x4096 : Shape := ⟨2, ![4128, 4096]⟩
abbrev S4096x22016 : Shape := ⟨2, ![4096, 22016]⟩
abbrev S11008x4096 : Shape := ⟨2, ![11008, 4096]⟩
abbrev S11008x2048 : Shape := ⟨2, ![11008, 2048]⟩
abbrev S2048x22016 : Shape := ⟨2, ![2048, 22016]⟩
abbrev S4128x22016 : Shape := ⟨2, ![4128, 22016]⟩
abbrev S4128x11008 : Shape := ⟨2, ![4128, 11008]⟩
abbrev S_ : Shape := ⟨0, ![]⟩
abbrev S4096x11008 : Shape := ⟨2, ![4096, 11008]⟩
abbrev S22016x4096 : Shape := ⟨2, ![22016, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4128x4096, .bf16⟩
  | .hbm, ⟨1, _⟩ => ⟨S4128x4096, .bf16⟩
  | .hbm, ⟨2, _⟩ => ⟨S4096x22016, .bf16⟩
  | .hbm, ⟨3, _⟩ => ⟨S11008x4096, .bf16⟩
  | .hbm, ⟨4, _⟩ => ⟨S11008x2048, .bf16⟩
  | .hbm, ⟨5, _⟩ => ⟨S2048x22016, .bf16⟩
  | .hbm, ⟨6, _⟩ => ⟨S4128x4096, .f32⟩
  | .hbm, ⟨7, _⟩ => ⟨S4096x22016, .f32⟩
  | .hbm, ⟨8, _⟩ => ⟨S11008x4096, .f32⟩
  | .hbm, ⟨9, _⟩ => ⟨S4128x22016, .f32⟩
  | .hbm, ⟨10, _⟩ => ⟨S4128x11008, .f32⟩
  | .hbm, ⟨11, _⟩ => ⟨S4128x11008, .f32⟩
  | .hbm, ⟨12, _⟩ => ⟨S4128x11008, .f32⟩
  | .hbm, ⟨13, _⟩ => ⟨S4128x11008, .f32⟩
  | .hbm, ⟨14, _⟩ => ⟨S_, .f32⟩
  | .hbm, ⟨15, _⟩ => ⟨S4128x11008, .f32⟩
  | .hbm, ⟨16, _⟩ => ⟨S4128x11008, .f32⟩
  | .hbm, ⟨17, _⟩ => ⟨S_, .f32⟩
  | .hbm, ⟨18, _⟩ => ⟨S4128x11008, .f32⟩
  | .hbm, ⟨19, _⟩ => ⟨S4128x11008, .f32⟩
  | .hbm, ⟨20, _⟩ => ⟨S_, .f32⟩
  | .hbm, ⟨21, _⟩ => ⟨S4128x11008, .f32⟩
  | .hbm, ⟨22, _⟩ => ⟨S4128x11008, .f32⟩
  | .hbm, ⟨23, _⟩ => ⟨S4128x11008, .f32⟩
  | .hbm, ⟨24, _⟩ => ⟨S4128x11008, .f32⟩
  | .hbm, ⟨25, _⟩ => ⟨S4128x11008, .f32⟩
  | .hbm, ⟨26, _⟩ => ⟨S4128x4096, .f32⟩
  | .hbm, ⟨27, _⟩ => ⟨S4128x4096, .f32⟩
  | .hbm, ⟨28, _⟩ => ⟨S4096x11008, .f32⟩
  | .hbm, ⟨29, _⟩ => ⟨S11008x4096, .f32⟩
  | .hbm, ⟨30, _⟩ => ⟨S4128x11008, .f32⟩
  | .hbm, ⟨31, _⟩ => ⟨S4128x11008, .f32⟩
  | .hbm, ⟨32, _⟩ => ⟨S4128x11008, .f32⟩
  | .hbm, ⟨33, _⟩ => ⟨S4128x11008, .f32⟩
  | .hbm, ⟨34, _⟩ => ⟨S4128x11008, .f32⟩
  | .hbm, ⟨35, _⟩ => ⟨S4128x11008, .f32⟩
  | .hbm, ⟨36, _⟩ => ⟨S4128x11008, .f32⟩
  | .hbm, ⟨37, _⟩ => ⟨S4128x22016, .f32⟩
  | .hbm, ⟨38, _⟩ => ⟨S22016x4096, .f32⟩
  | .hbm, ⟨39, _⟩ => ⟨S4096x22016, .f32⟩
  | .hbm, ⟨40, _⟩ => ⟨S4128x4096, .f32⟩
  | .hbm, ⟨41, _⟩ => ⟨S11008x2048, .f32⟩
  | .hbm, ⟨42, _⟩ => ⟨S11008x2048, .bf16⟩
  | .hbm, ⟨43, _⟩ => ⟨S11008x2048, .f32⟩
  | .hbm, ⟨44, _⟩ => ⟨S11008x2048, .f32⟩
  | .hbm, ⟨45, _⟩ => ⟨S11008x2048, .f32⟩
  | .hbm, ⟨46, _⟩ => ⟨S11008x2048, .bf16⟩
  | .hbm, ⟨47, _⟩ => ⟨S2048x22016, .f32⟩
  | .hbm, ⟨48, _⟩ => ⟨S2048x22016, .bf16⟩
  | .hbm, ⟨49, _⟩ => ⟨S2048x22016, .f32⟩
  | .hbm, ⟨50, _⟩ => ⟨S2048x22016, .f32⟩
  | .hbm, ⟨51, _⟩ => ⟨S2048x22016, .f32⟩
  | .hbm, ⟨52, _⟩ => ⟨S2048x22016, .bf16⟩
  | _, _ => ⟨S4128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v6_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v6_1 : Ref sig .tc := ⟨.hbm, 23, rfl⟩
abbrev main_v6_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Mixer.lean ====
abbrev S4128x4096 : Shape := ⟨2, ![4128, 4096]⟩
abbrev S4096x8192 : Shape := ⟨2, ![4096, 8192]⟩
abbrev S3x2048 : Shape := ⟨2, ![3, 2048]⟩
abbrev S4x512x512 : Shape := ⟨3, ![4, 512, 512]⟩
abbrev S1x2048 : Shape := ⟨2, ![1, 2048]⟩
abbrev S4096x4096 : Shape := ⟨2, ![4096, 4096]⟩
abbrev S4096x2048 : Shape := ⟨2, ![4096, 2048]⟩
abbrev S2048x8192 : Shape := ⟨2, ![2048, 8192]⟩
abbrev S4128x8192 : Shape := ⟨2, ![4128, 8192]⟩
abbrev S1376x4096 : Shape := ⟨2, ![1376, 4096]⟩
abbrev S4096x512 : Shape := ⟨2, ![4096, 512]⟩
abbrev S1376x512 : Shape := ⟨2, ![1376, 512]⟩
abbrev S4128x2048 : Shape := ⟨2, ![4128, 2048]⟩
abbrev S2064x256 : Shape := ⟨2, ![2064, 256]⟩
abbrev S3x256 : Shape := ⟨2, ![3, 256]⟩
abbrev S1x256 : Shape := ⟨2, ![1, 256]⟩
abbrev S2064x512 : Shape := ⟨2, ![2064, 512]⟩
abbrev S1x512x512 : Shape := ⟨3, ![1, 512, 512]⟩
abbrev S1x512 : Shape := ⟨2, ![1, 512]⟩
abbrev S512x512 : Shape := ⟨2, ![512, 512]⟩
abbrev S512x4096 : Shape := ⟨2, ![512, 4096]⟩
abbrev S4128x512 : Shape := ⟨2, ![4128, 512]⟩
abbrev S2048x512 : Shape := ⟨2, ![2048, 512]⟩
abbrev S256 : Shape := ⟨1, ![256]⟩
abbrev S4x4x128x512 : Shape := ⟨4, ![4, 4, 128, 512]⟩
abbrev S4x1x128x512 : Shape := ⟨4, ![4, 1, 128, 512]⟩
abbrev S4x128x512 : Shape := ⟨3, ![4, 128, 512]⟩
abbrev S1x1x128x512 : Shape := ⟨4, ![1, 1, 128, 512]⟩
abbrev S128x512 : Shape := ⟨2, ![128, 512]⟩
abbrev S512 : Shape := ⟨1, ![512]⟩

abbrev nBuf : Space → Nat
  | .hbm => 30
  | .vmem => 110
  | .smem => 0
  | _ => 0

abbrev bufTy : (tb : Table) → Fin (tcTables nBuf tb) → BufTy
  | .hbm, ⟨0, _⟩ => ⟨S4128x4096, .bf16⟩
  | .hbm, ⟨1, _⟩ => ⟨S4128x4096, .bf16⟩
  | .hbm, ⟨2, _⟩ => ⟨S4096x8192, .bf16⟩
  | .hbm, ⟨3, _⟩ => ⟨S3x2048, .f32⟩
  | .hbm, ⟨4, _⟩ => ⟨S4x512x512, .bf16⟩
  | .hbm, ⟨5, _⟩ => ⟨S1x2048, .f32⟩
  | .hbm, ⟨6, _⟩ => ⟨S4096x4096, .bf16⟩
  | .hbm, ⟨7, _⟩ => ⟨S4096x2048, .bf16⟩
  | .hbm, ⟨8, _⟩ => ⟨S2048x8192, .bf16⟩
  | .hbm, ⟨9, _⟩ => ⟨S4128x8192, .f32⟩
  | .hbm, ⟨10, _⟩ => ⟨S4128x2048, .bf16⟩
  | .hbm, ⟨11, _⟩ => ⟨S4128x2048, .bf16⟩
  | .hbm, ⟨12, _⟩ => ⟨S4128x2048, .bf16⟩
  | .hbm, ⟨13, _⟩ => ⟨S4128x4096, .bf16⟩
  | .hbm, ⟨14, _⟩ => ⟨S4128x4096, .f32⟩
  | .hbm, ⟨15, _⟩ => ⟨S4128x4096, .f32⟩
  | .hbm, ⟨16, _⟩ => ⟨S4096x2048, .bf16⟩
  | .hbm, ⟨17, _⟩ => ⟨S4128x2048, .bf16⟩
  | .hbm, ⟨18, _⟩ => ⟨S4128x2048, .bf16⟩
  | .hbm, ⟨19, _⟩ => ⟨S4128x2048, .bf16⟩
  | .hbm, ⟨20, _⟩ => ⟨S3x2048, .f32⟩
  | .hbm, ⟨21, _⟩ => ⟨S4128x2048, .bf16⟩
  | .hbm, ⟨22, _⟩ => ⟨S4x4x128x512, .f32⟩
  | .hbm, ⟨23, _⟩ => ⟨S1x2048, .f32⟩
  | .hbm, ⟨24, _⟩ => ⟨S4128x8192, .bf16⟩
  | .hbm, ⟨25, _⟩ => ⟨S4096x2048, .bf16⟩
  | .hbm, ⟨26, _⟩ => ⟨S2048x8192, .bf16⟩
  | .hbm, ⟨27, _⟩ => ⟨S4128x4096, .f32⟩
  | .hbm, ⟨28, _⟩ => ⟨S4128x4096, .f32⟩
  | .hbm, ⟨29, _⟩ => ⟨S2048x8192, .bf16⟩
  | .local _ .vmem, ⟨0, _⟩ => ⟨S1376x4096, .bf16⟩
  | .local _ .vmem, ⟨1, _⟩ => ⟨S1376x4096, .bf16⟩
  | .local _ .vmem, ⟨2, _⟩ => ⟨S4096x512, .bf16⟩
  | .local _ .vmem, ⟨3, _⟩ => ⟨S4096x512, .bf16⟩
  | .local _ .vmem, ⟨4, _⟩ => ⟨S1376x512, .f32⟩
  | .local _ .vmem, ⟨5, _⟩ => ⟨S1376x512, .f32⟩
  | .local _ .vmem, ⟨6, _⟩ => ⟨S2064x256, .f32⟩
  | .local _ .vmem, ⟨7, _⟩ => ⟨S2064x256, .f32⟩
  | .local _ .vmem, ⟨8, _⟩ => ⟨S2064x256, .f32⟩
  | .local _ .vmem, ⟨9, _⟩ => ⟨S2064x256, .f32⟩
  | .local _ .vmem, ⟨10, _⟩ => ⟨S2064x256, .f32⟩
  | .local _ .vmem, ⟨11, _⟩ => ⟨S2064x256, .f32⟩
  | .local _ .vmem, ⟨12, _⟩ => ⟨S3x256, .f32⟩
  | .local _ .vmem, ⟨13, _⟩ => ⟨S3x256, .f32⟩
  | .local _ .vmem, ⟨14, _⟩ => ⟨S2064x256, .bf16⟩
  | .local _ .vmem, ⟨15, _⟩ => ⟨S2064x256, .bf16⟩
  | .local _ .vmem, ⟨16, _⟩ => ⟨S2064x512, .f32⟩
  | .local _ .vmem, ⟨17, _⟩ => ⟨S2064x512, .f32⟩
  | .local _ .vmem, ⟨18, _⟩ => ⟨S1x512x512, .bf16⟩
  | .local _ .vmem, ⟨19, _⟩ => ⟨S1x512x512, .bf16⟩
  | .local _ .vmem, ⟨20, _⟩ => ⟨S1x512, .f32⟩
  | .local _ .vmem, ⟨21, _⟩ => ⟨S1x512, .f32⟩
  | .local _ .vmem, ⟨22, _⟩ => ⟨S2064x512, .bf16⟩
  | .local _ .vmem, ⟨23, _⟩ => ⟨S2064x512, .bf16⟩
  | .local _ .vmem, ⟨24, _⟩ => ⟨S2064x512, .bf16⟩
  | .local _ .vmem, ⟨25, _⟩ => ⟨S2064x512, .bf16⟩
  | .local _ .vmem, ⟨26, _⟩ => ⟨S1376x4096, .bf16⟩
  | .local _ .vmem, ⟨27, _⟩ => ⟨S1376x4096, .bf16⟩
  | .local _ .vmem, ⟨28, _⟩ => ⟨S4096x512, .bf16⟩
  | .local _ .vmem, ⟨29, _⟩ => ⟨S4096x512, .bf16⟩
  | .local _ .vmem, ⟨30, _⟩ => ⟨S1376x512, .f32⟩
  | .local _ .vmem, ⟨31, _⟩ => ⟨S1376x512, .f32⟩
  | .local _ .vmem, ⟨32, _⟩ => ⟨S1376x4096, .bf16⟩
  | .local _ .vmem, ⟨33, _⟩ => ⟨S1376x4096, .bf16⟩
  | .local _ .vmem, ⟨34, _⟩ => ⟨S512x4096, .bf16⟩
  | .local _ .vmem, ⟨35, _⟩ => ⟨S512x4096, .bf16⟩
  | .local _ .vmem, ⟨36, _⟩ => ⟨S1376x512, .f32⟩
  | .local _ .vmem, ⟨37, _⟩ => ⟨S1376x512, .f32⟩
  | .local _ .vmem, ⟨38, _⟩ => ⟨S4128x2048, .bf16⟩
  | .local _ .vmem, ⟨39, _⟩ => ⟨S4128x2048, .bf16⟩
  | .local _ .vmem, ⟨40, _⟩ => ⟨S4128x512, .bf16⟩
  | .local _ .vmem, ⟨41, _⟩ => ⟨S4128x512, .bf16⟩
  | .local _ .vmem, ⟨42, _⟩ => ⟨S2048x512, .bf16⟩
  | .local _ .vmem, ⟨43, _⟩ => ⟨S2048x512, .bf16⟩
  | .local _ .vmem, ⟨44, _⟩ => ⟨S2064x256, .f32⟩
  | .local _ .vmem, ⟨45, _⟩ => ⟨S2064x256, .f32⟩
  | .local _ .vmem, ⟨46, _⟩ => ⟨S2064x256, .f32⟩
  | .local _ .vmem, ⟨47, _⟩ => ⟨S2064x256, .f32⟩
  | .local _ .vmem, ⟨48, _⟩ => ⟨S2064x256, .f32⟩
  | .local _ .vmem, ⟨49, _⟩ => ⟨S2064x256, .f32⟩
  | .local _ .vmem, ⟨50, _⟩ => ⟨S2064x256, .f32⟩
  | .local _ .vmem, ⟨51, _⟩ => ⟨S2064x256, .f32⟩
  | .local _ .vmem, ⟨52, _⟩ => ⟨S3x256, .f32⟩
  | .local _ .vmem, ⟨53, _⟩ => ⟨S3x256, .f32⟩
  | .local _ .vmem, ⟨54, _⟩ => ⟨S2064x256, .bf16⟩
  | .local _ .vmem, ⟨55, _⟩ => ⟨S2064x256, .bf16⟩
  | .local _ .vmem, ⟨56, _⟩ => ⟨S2064x256, .bf16⟩
  | .local _ .vmem, ⟨57, _⟩ => ⟨S2064x256, .bf16⟩
  | .local _ .vmem, ⟨58, _⟩ => ⟨S2064x256, .bf16⟩
  | .local _ .vmem, ⟨59, _⟩ => ⟨S2064x256, .bf16⟩
  | .local _ .vmem, ⟨60, _⟩ => ⟨S3x256, .f32⟩
  | .local _ .vmem, ⟨61, _⟩ => ⟨S3x256, .f32⟩
  | .local _ .vmem, ⟨62, _⟩ => ⟨S2064x512, .bf16⟩
  | .local _ .vmem, ⟨63, _⟩ => ⟨S2064x512, .bf16⟩
  | .local _ .vmem, ⟨64, _⟩ => ⟨S2064x512, .f32⟩
  | .local _ .vmem, ⟨65, _⟩ => ⟨S2064x512, .f32⟩
  | .local _ .vmem, ⟨66, _⟩ => ⟨S1x512x512, .bf16⟩
  | .local _ .vmem, ⟨67, _⟩ => ⟨S1x512x512, .bf16⟩
  | .local _ .vmem, ⟨68, _⟩ => ⟨S1x512, .f32⟩
  | .local _ .vmem, ⟨69, _⟩ => ⟨S1x512, .f32⟩
  | .local _ .vmem, ⟨70, _⟩ => ⟨S2064x512, .bf16⟩
  | .local _ .vmem, ⟨71, _⟩ => ⟨S2064x512, .bf16⟩
  | .local _ .vmem, ⟨72, _⟩ => ⟨S4x1x128x512, .f32⟩
  | .local _ .vmem, ⟨73, _⟩ => ⟨S4x1x128x512, .f32⟩
  | .local _ .vmem, ⟨74, _⟩ => ⟨S1x512, .f32⟩
  | .local _ .vmem, ⟨75, _⟩ => ⟨S1x512, .f32⟩
  | .local _ .vmem, ⟨76, _⟩ => ⟨S4128x2048, .bf16⟩
  | .local _ .vmem, ⟨77, _⟩ => ⟨S4128x2048, .bf16⟩
  | .local _ .vmem, ⟨78, _⟩ => ⟨S4128x512, .bf16⟩
  | .local _ .vmem, ⟨79, _⟩ => ⟨S4128x512, .bf16⟩
  | .local _ .vmem, ⟨80, _⟩ => ⟨S2048x512, .bf16⟩
  | .local _ .vmem, ⟨81, _⟩ => ⟨S2048x512, .bf16⟩
  | .local _ .vmem, ⟨82, _⟩ => ⟨S2048x512, .bf16⟩
  | .local _ .vmem, ⟨83, _⟩ => ⟨S2048x512, .bf16⟩
  | .local _ .vmem, ⟨84, _⟩ => ⟨S4128x2048, .bf16⟩
  | .local _ .vmem, ⟨85, _⟩ => ⟨S4128x512, .bf16⟩
  | .local _ .vmem, ⟨86, _⟩ => ⟨S4128x512, .bf16⟩
  | .local _ .vmem, ⟨87, _⟩ => ⟨S2048x512, .bf16⟩
  | .local _ .vmem, ⟨88, _⟩ => ⟨S2048x512, .bf16⟩
  | .local _ .vmem, ⟨89, _⟩ => ⟨S1376x4096, .bf16⟩
  | .local _ .vmem, ⟨90, _⟩ => ⟨S1376x4096, .bf16⟩
  | .local _ .vmem, ⟨91, _⟩ => ⟨S512x4096, .bf16⟩
  | .local _ .vmem, ⟨92, _⟩ => ⟨S512x4096, .bf16⟩
  | .local _ .vmem, ⟨93, _⟩ => ⟨S1376x512, .f32⟩
  | .local _ .vmem, ⟨94, _⟩ => ⟨S1376x512, .f32⟩
  | .local _ .vmem, ⟨95, _⟩ => ⟨S1376x4096, .bf16⟩
  | .local _ .vmem, ⟨96, _⟩ => ⟨S1376x4096, .bf16⟩
  | .local _ .vmem, ⟨97, _⟩ => ⟨S512x4096, .bf16⟩
  | .local _ .vmem, ⟨98, _⟩ => ⟨S512x4096, .bf16⟩
  | .local _ .vmem, ⟨99, _⟩ => ⟨S1376x512, .f32⟩
  | .local _ .vmem, ⟨100, _⟩ => ⟨S1376x512, .f32⟩
  | .local _ .vmem, ⟨101, _⟩ => ⟨S1376x512, .f32⟩
  | .local _ .vmem, ⟨102, _⟩ => ⟨S1376x512, .f32⟩
  | .local _ .vmem, ⟨103, _⟩ => ⟨S4128x2048, .bf16⟩
  | .local _ .vmem, ⟨104, _⟩ => ⟨S4128x512, .bf16⟩
  | .local _ .vmem, ⟨105, _⟩ => ⟨S4128x512, .bf16⟩
  | .local _ .vmem, ⟨106, _⟩ => ⟨S2048x512, .bf16⟩
  | .local _ .vmem, ⟨107, _⟩ => ⟨S2048x512, .bf16⟩
  | .local _ .vmem, ⟨108, _⟩ => ⟨S2048x512, .bf16⟩
  | .local _ .vmem, ⟨109, _⟩ => ⟨S2048x512, .bf16⟩
  | _, _ => ⟨S4128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | _, _ => false

abbrev semScoped : Fin 0 → Bool
  | ⟨_, h⟩ => absurd h (Nat.not_lt_zero _)

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  ofTc nBuf bufTy 0 110 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg4_1 : Ref sig .tc := ⟨.vmem, 53, rfl⟩
abbrev cc6_stg5_0 : Ref sig .tc := ⟨.vmem, 54, rfl⟩
abbrev cc6_stg5_1 : Ref sig .tc := ⟨.vmem, 55, rfl⟩
abbrev cc6_stg6_0 : Ref sig .tc := ⟨.vmem, 56, rfl⟩
abbrev cc6_stg6_1 : Ref sig .tc := ⟨.vmem, 57, rfl⟩
abbrev cc6_stg7_0 : Ref sig .tc := ⟨.vmem, 58, rfl⟩
abbrev cc6_stg7_1 : Ref sig .tc := ⟨.vmem, 59, rfl⟩
abbrev cc6_stg8_0 : Ref sig .tc := ⟨.vmem, 60, rfl⟩
abbrev cc6_stg8_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg3_1 : Ref sig .tc := ⟨.vmem, 69, rfl⟩
abbrev cc7_stg4_0 : Ref sig .tc := ⟨.vmem, 70, rfl⟩
abbrev cc7_stg4_1 : Ref sig .tc := ⟨.vmem, 71, rfl⟩
abbrev cc7_stg5_0 : Ref sig .tc := ⟨.vmem, 72, rfl⟩
abbrev cc7_stg5_1 : Ref sig .tc := ⟨.vmem, 73, rfl⟩
abbrev cc7_stg6_0 : Ref sig .tc := ⟨.vmem, 74, rfl⟩
abbrev cc7_stg6_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg2_1 : Ref sig .tc := ⟨.vmem, 81, rfl⟩
abbrev cc8_stg3_0 : Ref sig .tc := ⟨.vmem, 82, rfl⟩
abbrev cc8_stg3_1 : Ref sig .tc := ⟨.vmem, 83, rfl⟩
abbrev cc9_stg0_0 : Ref sig .tc := ⟨.vmem, 84, rfl⟩
abbrev cc9_stg1_0 : Ref sig .tc := ⟨.vmem, 85, rfl⟩
abbrev cc9_stg1_1 : Ref sig .tc := ⟨.vmem, 86, rfl⟩
abbrev cc9_stg2_0 : Ref sig .tc := ⟨.vmem, 87, rfl⟩
abbrev cc9_stg2_1 : Ref sig .tc := ⟨.vmem, 88, rfl⟩
abbrev cc10_stg0_0 : Ref sig .tc := ⟨.vmem, 89, rfl⟩
abbrev cc10_stg0_1 : Ref sig .tc := ⟨.vmem, 90, rfl⟩
abbrev cc10_stg1_0 : Ref sig .tc := ⟨.vmem, 91, rfl⟩
abbrev cc10_stg1_1 : Ref sig .tc := ⟨.vmem, 92, rfl⟩
abbrev cc10_stg2_0 : Ref sig .tc := ⟨.vmem, 93, rfl⟩
abbrev cc10_stg2_1 : Ref sig .tc := ⟨.vmem, 94, rfl⟩
abbrev cc11_stg0_0 : Ref sig .tc := ⟨.vmem, 95, rfl⟩
abbrev cc11_stg0_1 : Ref sig .tc := ⟨.vmem, 96, rfl⟩
abbrev cc11_stg1_0 : Ref sig .tc := ⟨.vmem, 97, rfl⟩
abbrev cc11_stg1_1 : Ref sig .tc := ⟨.vmem, 98, rfl⟩
abbrev cc11_stg2_0 : Ref sig .tc := ⟨.vmem, 99, rfl⟩
abbrev cc11_stg2_1 : Ref sig .tc := ⟨.vmem, 100, rfl⟩
abbrev cc11_stg3_0 : Ref sig .tc := ⟨.vmem, 101, rfl⟩
abbrev cc11_stg3_1 : Ref sig .tc := ⟨.vmem, 102, rfl⟩
abbrev cc12_stg0_0 : Ref sig .tc := ⟨.vmem, 103, rfl⟩
abbrev cc12_stg1_0 : Ref sig .tc := ⟨.vmem, 104, rfl⟩
abbrev cc12_stg1_1 : Ref sig .tc := ⟨.vmem, 105, rfl⟩
abbrev cc12_stg2_0 : Ref sig .tc := ⟨.vmem, 106, rfl⟩
abbrev cc12_stg2_1 : Ref sig .tc := ⟨.vmem, 107, rfl⟩
abbrev cc12_stg3_0 : Ref sig .tc := ⟨.vmem, 108, rfl⟩
abbrev cc12_stg3_1 : Ref sig .tc := ⟨.vmem, 109, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem3_1 : DmaSem sig := 51
abbrev cc6_sem4_0 : DmaSem sig := 52
abbrev cc6_sem4_1 : DmaSem sig := 53
abbrev cc6_sem5_0 : DmaSem sig := 54
abbrev cc6_sem5_1 : DmaSem sig := 55
abbrev cc6_sem6_0 : DmaSem sig := 56
abbrev cc6_sem6_1 : DmaSem sig := 57
abbrev cc6_sem7_0 : DmaSem sig := 58
abbrev cc6_sem7_1 : DmaSem sig := 59
abbrev cc6_sem8_0 : DmaSem sig := 60
abbrev cc6_sem8_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc7_sem3_0 : DmaSem sig := 68
abbrev cc7_sem3_1 : DmaSem sig := 69
abbrev cc7_sem4_0 : DmaSem sig := 70
abbrev cc7_sem4_1 : DmaSem sig := 71
abbrev cc7_sem5_0 : DmaSem sig := 72
abbrev cc7_sem5_1 : DmaSem sig := 73
abbrev cc7_sem6_0 : DmaSem sig := 74
abbrev cc7_sem6_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem2_1 : DmaSem sig := 81
abbrev cc8_sem3_0 : DmaSem sig := 82
abbrev cc8_sem3_1 : DmaSem sig := 83
abbrev cc9_sem0_0 : DmaSem sig := 84
abbrev cc9_sem1_0 : DmaSem sig := 85
abbrev cc9_sem1_1 : DmaSem sig := 86
abbrev cc9_sem2_0 : DmaSem sig := 87
abbrev cc9_sem2_1 : DmaSem sig := 88
abbrev cc10_sem0_0 : DmaSem sig := 89
abbrev cc10_sem0_1 : DmaSem sig := 90
abbrev cc10_sem1_0 : DmaSem sig := 91
abbrev cc10_sem1_1 : DmaSem sig := 92
abbrev cc10_sem2_0 : DmaSem sig := 93
abbrev cc10_sem2_1 : DmaSem sig := 94
abbrev cc11_sem0_0 : DmaSem sig := 95
abbrev cc11_sem0_1 : DmaSem sig := 96
abbrev cc11_sem1_0 : DmaSem sig := 97
abbrev cc11_sem1_1 : DmaSem sig := 98
abbrev cc11_sem2_0 : DmaSem sig := 99
abbrev cc11_sem2_1 : DmaSem sig := 100
abbrev cc11_sem3_0 : DmaSem sig := 101
abbrev cc11_sem3_1 : DmaSem sig := 102
abbrev cc12_sem0_0 : DmaSem sig := 103
abbrev cc12_sem1_0 : DmaSem sig := 104
abbrev cc12_sem1_1 : DmaSem sig := 105
abbrev cc12_sem2_0 : DmaSem sig := 106
abbrev cc12_sem2_1 : DmaSem sig := 107
abbrev cc12_sem3_0 : DmaSem sig := 108
abbrev cc12_sem3_1 : DmaSem sig := 109

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2064x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2064x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2064x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S3x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2064x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2064x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2064x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2064x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨3, ![3, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1376x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1376x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![3, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1376x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1376x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c4_i32 : BitVec 32 := 4#32
  let v1 : BitVec 32 := Scalar.addi arg1 c4_i32
  let c0_i32_0 : BitVec 32 := 0#32
  ![v0.toNat, v1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4128x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4128x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨2, ![8, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc6_transform_1 (i : grid6.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc6_transform_2 (i : grid6.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![arg1.toNat, v0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S2064x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2064x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S2064x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S2064x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S3x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S2064x256 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S2064x256 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S2064x256 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev stage6_8 : Fin 2 → Memref sig .tc .vmem S3x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, false]

abbrev grid7 : Pipeline.Grid := ⟨2, ![4, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_1 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_5 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage7_0 : Fin 2 → Memref sig .tc .vmem S2064x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2064x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x512x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev stage7_4 : Fin 2 → Memref sig .tc .vmem S2064x512 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S4x1x128x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev stage7_6 : Fin 2 → Memref sig .tc .vmem S1x512 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, false]

abbrev grid8 : Pipeline.Grid := ⟨3, ![2, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S4128x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S4128x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S2048x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev stage8_3 : Fin 2 → Memref sig .tc .vmem S2048x512 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]

abbrev grid9 : Pipeline.Grid := ⟨3, ![1, 16, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.addi arg0 c1_i32
  let c0_i32_0 : BitVec 32 := 0#32
  ![v0.toNat, v1.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S4128x2048 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 2 → Memref sig .tc .vmem S4128x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S2048x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![3, 8, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1376x4096 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S512x4096 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1376x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![3, 8, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg2 c1_i32
  let c0_i32_0 : BitVec 32 := 0#32
  ![v0.toNat, v1.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.addi arg2 c1_i32
  let c0_i32_0 : BitVec 32 := 0#32
  ![v0.toNat, v1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc11_transform_3 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S1376x4096 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S512x4096 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S1376x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev stage11_3 : Fin 2 → Memref sig .tc .vmem S1376x512 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true, false]

abbrev grid12 : Pipeline.Grid := ⟨3, ![1, 16, 1], ![false, false, false]⟩

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc12_transform_3 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 1 → Memref sig .tc .vmem S4128x2048 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true, false, true]

abbrev stage12_1 : Fin 2 → Memref sig .tc .vmem S4128x512 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, true]

abbrev stage12_2 : Fin 2 → Memref sig .tc .vmem S2048x512 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev stage12_3 : Fin 2 → Memref sig .tc .vmem S2048x512 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true, false]
-- ==== MixerRefIdeal.lean ====
abbrev S4128x4096 : Shape := ⟨2, ![4128, 4096]⟩
abbrev S4096x8192 : Shape := ⟨2, ![4096, 8192]⟩
abbrev S3x2048 : Shape := ⟨2, ![3, 2048]⟩
abbrev S4x512x512 : Shape := ⟨3, ![4, 512, 512]⟩
abbrev S1x2048 : Shape := ⟨2, ![1, 2048]⟩
abbrev S4096x4096 : Shape := ⟨2, ![4096, 4096]⟩
abbrev S4096x2048 : Shape := ⟨2, ![4096, 2048]⟩
abbrev S2048x8192 : Shape := ⟨2, ![2048, 8192]⟩
abbrev S4128x8192 : Shape := ⟨2, ![4128, 8192]⟩
abbrev S2x2064x8192 : Shape := ⟨3, ![2, 2064, 8192]⟩
abbrev S2x2064x2048 : Shape := ⟨3, ![2, 2064, 2048]⟩
abbrev S_ : Shape := ⟨0, ![]⟩
abbrev S2x2x2048 : Shape := ⟨3, ![2, 2, 2048]⟩
abbrev S2x2066x2048 : Shape := ⟨3, ![2, 2066, 2048]⟩
abbrev S2048 : Shape := ⟨1, ![2048]⟩
abbrev S1x1x2048 : Shape := ⟨3, ![1, 1, 2048]⟩
abbrev S4128x2048 : Shape := ⟨2, ![4128, 2048]⟩
abbrev S2x2064x4x512 : Shape := ⟨4, ![2, 2064, 4, 512]⟩
abbrev S4 : Shape := ⟨1, ![4]⟩
abbrev S4x1x1 : Shape := ⟨3, ![4, 1, 1]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S1x2064x2064 : Shape := ⟨3, ![1, 2064, 2064]⟩
abbrev S4x2064x2064 : Shape := ⟨3, ![4, 2064, 2064]⟩
abbrev S1x4 : Shape := ⟨2, ![1, 4]⟩
abbrev S2064x4 : Shape := ⟨2, ![2064, 4]⟩
abbrev S4x2x512x2064 : Shape := ⟨4, ![4, 2, 512, 2064]⟩
abbrev S1x2064x4x1 : Shape := ⟨4, ![1, 2064, 4, 1]⟩
abbrev S4128x4x512 : Shape := ⟨3, ![4128, 4, 512]⟩
abbrev S4x512x4128 : Shape := ⟨3, ![4, 512, 4128]⟩
abbrev S4x4128x512 : Shape := ⟨3, ![4, 4128, 512]⟩
abbrev S8192x4096 : Shape := ⟨2, ![8192, 4096]⟩
abbrev S4x4x128x512 : Shape := ⟨4, ![4, 4, 128, 512]⟩

abbrev nBuf : Space → Nat
  | .hbm => 202
  | .vmem => 0
  | .smem => 0
  | _ => 0

abbrev hbmTy0_0 (i : Nat) : BufTy := match i % 128 with
  | 0 => ⟨S4128x4096, .bf16⟩
  | 1 => ⟨S4128x4096, .bf16⟩
  | 2 => ⟨S4096x8192, .bf16⟩
  | 3 => ⟨S3x2048, .f32⟩
  | 4 => ⟨S4x512x512, .bf16⟩
  | 5 => ⟨S1x2048, .f32⟩
  | 6 => ⟨S4096x4096, .bf16⟩
  | 7 => ⟨S4096x2048, .bf16⟩
  | 8 => ⟨S2048x8192, .bf16⟩
  | 9 => ⟨S4128x4096, .f32⟩
  | 10 => ⟨S4096x8192, .f32⟩
  | 11 => ⟨S4x512x512, .f32⟩
  | 12 => ⟨S4096x4096, .f32⟩
  | 13 => ⟨S4128x8192, .f32⟩
  | 14 => ⟨S2x2064x8192, .f32⟩
  | 15 => ⟨S2x2064x2048, .f32⟩
  | 16 => ⟨S2x2064x2048, .f32⟩
  | 17 => ⟨S2x2064x2048, .f32⟩
  | 18 => ⟨S2x2064x2048, .f32⟩
  | 19 => ⟨S_, .f32⟩
  | 20 => ⟨S2x2x2048, .f32⟩
  | 21 => ⟨S2x2066x2048, .f32⟩
  | 22 => ⟨S_, .f32⟩
  | 23 => ⟨S2x2x2048, .f32⟩
  | 24 => ⟨S2x2064x2048, .f32⟩
  | 25 => ⟨S1x2048, .f32⟩
  | 26 => ⟨S2048, .f32⟩
  | 27 => ⟨S1x1x2048, .f32⟩
  | 28 => ⟨S2x2064x2048, .f32⟩
  | 29 => ⟨S2x2064x2048, .f32⟩
  | 30 => ⟨S2x2064x2048, .f32⟩
  | 31 => ⟨S1x2048, .f32⟩
  | 32 => ⟨S2048, .f32⟩
  | 33 => ⟨S1x1x2048, .f32⟩
  | 34 => ⟨S2x2064x2048, .f32⟩
  | 35 => ⟨S2x2064x2048, .f32⟩
  | 36 => ⟨S2x2064x2048, .f32⟩
  | 37 => ⟨S2x2064x2048, .f32⟩
  | 38 => ⟨S1x2048, .f32⟩
  | 39 => ⟨S2048, .f32⟩
  | 40 => ⟨S1x1x2048, .f32⟩
  | 41 => ⟨S2x2064x2048, .f32⟩
  | 42 => ⟨S2x2064x2048, .f32⟩
  | 43 => ⟨S2x2064x2048, .f32⟩
  | 44 => ⟨S2x2064x2048, .f32⟩
  | 45 => ⟨S4128x2048, .f32⟩
  | 46 => ⟨S2x2064x2048, .f32⟩
  | 47 => ⟨S2x2064x4x512, .f32⟩
  | 48 => ⟨S4, .i32⟩
  | 49 => ⟨S_, .i32⟩
  | 50 => ⟨S4, .i32⟩
  | 51 => ⟨S4, .i32⟩
  | 52 => ⟨S4x1x1, .i32⟩
  | 53 => ⟨S2064, .i32⟩
  | 54 => ⟨S2064x1, .i32⟩
  | 55 => ⟨S2064, .i32⟩
  | 56 => ⟨S1x2064, .i32⟩
  | 57 => ⟨S2064x2064, .i32⟩
  | 58 => ⟨S2064x2064, .i32⟩
  | 59 => ⟨S2064x2064, .i32⟩
  | 60 => ⟨S_, .i32⟩
  | 61 => ⟨S2064x2064, .i32⟩
  | 62 => ⟨S2064x2064, .i1⟩
  | 63 => ⟨S1x2064x2064, .i32⟩
  | 64 => ⟨S4x2064x2064, .i32⟩
  | 65 => ⟨S4x2064x2064, .i32⟩
  | 66 => ⟨S4x2064x2064, .i1⟩
  | 67 => ⟨S1x2064x2064, .i1⟩
  | 68 => ⟨S4x2064x2064, .i1⟩
  | 69 => ⟨S4x2064x2064, .i1⟩
  | 70 => ⟨S4x2064x2064, .f32⟩
  | 71 => ⟨S2064, .i32⟩
  | 72 => ⟨S_, .i32⟩
  | 73 => ⟨S2064, .i32⟩
  | 74 => ⟨S2064, .i32⟩
  | 75 => ⟨S2064x1, .i32⟩
  | 76 => ⟨S4, .i32⟩
  | 77 => ⟨S1x4, .i32⟩
  | 78 => ⟨S2064x4, .i32⟩
  | 79 => ⟨S2064x4, .i32⟩
  | 80 => ⟨S2064x4, .i32⟩
  | 81 => ⟨S2064x4, .f32⟩
  | 82 => ⟨S4x2x512x2064, .f32⟩
  | 83 => ⟨S2x2064x4x512, .f32⟩
  | 84 => ⟨S1x2064x4x1, .f32⟩
  | 85 => ⟨S2x2064x4x512, .f32⟩
  | 86 => ⟨S2x2064x4x512, .f32⟩
  | 87 => ⟨S2x2064x4x512, .f32⟩
  | 88 => ⟨S4128x4x512, .f32⟩
  | 89 => ⟨S4x512x4128, .f32⟩
  | 90 => ⟨S4128x4x512, .f32⟩
  | 91 => ⟨S4128x2048, .f32⟩
  | 92 => ⟨S4128x2048, .f32⟩
  | 93 => ⟨S4128x2048, .f32⟩
  | 94 => ⟨S4128x4096, .f32⟩
  | 95 => ⟨S4128x4096, .f32⟩
  | 96 => ⟨S4128x4096, .f32⟩
  | 97 => ⟨S4096x4096, .f32⟩
  | 98 => ⟨S4096x4096, .f32⟩
  | 99 => ⟨S4128x4096, .f32⟩
  | 100 => ⟨S4128x2048, .f32⟩
  | 101 => ⟨S4128x2048, .f32⟩
  | 102 => ⟨S4128x2048, .f32⟩
  | 103 => ⟨S_, .f32⟩
  | 104 => ⟨S2048, .f32⟩
  | 105 => ⟨S1x2048, .f32⟩
  | 106 => ⟨S4128x2048, .f32⟩
  | 107 => ⟨S4128x2048, .f32⟩
  | 108 => ⟨S4128x4x512, .f32⟩
  | 109 => ⟨S4x512x4128, .f32⟩
  | 110 => ⟨S4x4128x512, .f32⟩
  | 111 => ⟨S4128x4x512, .f32⟩
  | 112 => ⟨S4x512x512, .f32⟩
  | 113 => ⟨S4x512x512, .f32⟩
  | 114 => ⟨S2x2064x4x512, .f32⟩
  | 115 => ⟨S2x2064x4x512, .f32⟩
  | 116 => ⟨S2x2064x4x512, .f32⟩
  | 117 => ⟨S2x2064x4x512, .f32⟩
  | 118 => ⟨S4x2x512x2064, .f32⟩
  | 119 => ⟨S4x2x512x2064, .f32⟩
  | 120 => ⟨S2x2064x4x512, .f32⟩
  | 121 => ⟨S2x2064x4x512, .f32⟩
  | 122 => ⟨S2x2064x2048, .f32⟩
  | 123 => ⟨S_, .f32⟩
  | 124 => ⟨S2x2064x8192, .f32⟩
  | 125 => ⟨S2x2064x2048, .f32⟩
  | 126 => ⟨S2x2064x2048, .f32⟩
  | 127 => ⟨S2x2064x2048, .f32⟩
  | _ => ⟨S4128x4096, .bf16⟩

abbrev hbmTy0_1 (i : Nat) : BufTy := match i % 128 with
  | 0 => ⟨S2x2064x2048, .f32⟩
  | 1 => ⟨S_, .f32⟩
  | 2 => ⟨S2048, .f32⟩
  | 3 => ⟨S1x1x2048, .f32⟩
  | 4 => ⟨S2x2064x2048, .f32⟩
  | 5 => ⟨S2x2064x2048, .f32⟩
  | 6 => ⟨S_, .f32⟩
  | 7 => ⟨S2048, .f32⟩
  | 8 => ⟨S1x2048, .f32⟩
  | 9 => ⟨S_, .f32⟩
  | 10 => ⟨S3x2048, .f32⟩
  | 11 => ⟨S_, .f32⟩
  | 12 => ⟨S2x2066x2048, .f32⟩
  | 13 => ⟨S2x2064x2048, .f32⟩
  | 14 => ⟨S_, .f32⟩
  | 15 => ⟨S2048, .f32⟩
  | 16 => ⟨S1x1x2048, .f32⟩
  | 17 => ⟨S2x2064x2048, .f32⟩
  | 18 => ⟨S2x2064x2048, .f32⟩
  | 19 => ⟨S_, .f32⟩
  | 20 => ⟨S2048, .f32⟩
  | 21 => ⟨S1x2048, .f32⟩
  | 22 => ⟨S_, .f32⟩
  | 23 => ⟨S3x2048, .f32⟩
  | 24 => ⟨S3x2048, .f32⟩
  | 25 => ⟨S_, .f32⟩
  | 26 => ⟨S2x2066x2048, .f32⟩
  | 27 => ⟨S2x2066x2048, .f32⟩
  | 28 => ⟨S2x2064x2048, .f32⟩
  | 29 => ⟨S_, .f32⟩
  | 30 => ⟨S2048, .f32⟩
  | 31 => ⟨S1x1x2048, .f32⟩
  | 32 => ⟨S2x2064x2048, .f32⟩
  | 33 => ⟨S2x2064x2048, .f32⟩
  | 34 => ⟨S_, .f32⟩
  | 35 => ⟨S2048, .f32⟩
  | 36 => ⟨S1x2048, .f32⟩
  | 37 => ⟨S_, .f32⟩
  | 38 => ⟨S3x2048, .f32⟩
  | 39 => ⟨S3x2048, .f32⟩
  | 40 => ⟨S_, .f32⟩
  | 41 => ⟨S2x2066x2048, .f32⟩
  | 42 => ⟨S2x2066x2048, .f32⟩
  | 43 => ⟨S2x2x2048, .f32⟩
  | 44 => ⟨S2x2064x2048, .f32⟩
  | 45 => ⟨S2x2064x2048, .f32⟩
  | 46 => ⟨S2x2064x2048, .f32⟩
  | 47 => ⟨S_, .f32⟩
  | 48 => ⟨S2x2064x8192, .f32⟩
  | 49 => ⟨S2x2064x8192, .f32⟩
  | 50 => ⟨S_, .f32⟩
  | 51 => ⟨S2x2064x8192, .f32⟩
  | 52 => ⟨S2x2064x8192, .f32⟩
  | 53 => ⟨S_, .f32⟩
  | 54 => ⟨S2x2064x8192, .f32⟩
  | 55 => ⟨S2x2064x8192, .f32⟩
  | 56 => ⟨S4128x8192, .f32⟩
  | 57 => ⟨S8192x4096, .f32⟩
  | 58 => ⟨S4096x8192, .f32⟩
  | 59 => ⟨S4128x4096, .f32⟩
  | 60 => ⟨S4x4x128x512, .f32⟩
  | 61 => ⟨S4x4x128x512, .f32⟩
  | 62 => ⟨S4096x2048, .f32⟩
  | 63 => ⟨S4096x2048, .bf16⟩
  | 64 => ⟨S4096x2048, .f32⟩
  | 65 => ⟨S4096x2048, .f32⟩
  | 66 => ⟨S4096x2048, .f32⟩
  | 67 => ⟨S4096x2048, .bf16⟩
  | 68 => ⟨S2048x8192, .f32⟩
  | 69 => ⟨S2048x8192, .bf16⟩
  | 70 => ⟨S2048x8192, .f32⟩
  | 71 => ⟨S2048x8192, .f32⟩
  | 72 => ⟨S2048x8192, .f32⟩
  | 73 => ⟨S2048x8192, .bf16⟩
  | _ => ⟨S4128x4096, .bf16⟩

abbrev hbmTy (i : Nat) : BufTy := match i / 128 with
  | 0 => hbmTy0_0 i
  | 1 => hbmTy0_1 i
  | _ => ⟨S4128x4096, .bf16⟩

abbrev bufTy : (tb : Table) → Fin (tcTables nBuf tb) → BufTy
  | .hbm, ⟨i, _⟩ => hbmTy i
  | _, _ => ⟨S4128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_1 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_2 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_3 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_4 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_5 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_cst_6 : Ref sig .tc := ⟨.hbm, 134, rfl⟩
abbrev main_v117 : Ref sig .tc := ⟨.hbm, 135, rfl⟩
abbrev main_v118 : Ref sig .tc := ⟨.hbm, 136, rfl⟩
abbrev main_cst_7 : Ref sig .tc := ⟨.hbm, 137, rfl⟩
abbrev main_v119 : Ref sig .tc := ⟨.hbm, 138, rfl⟩
abbrev main_cst_8 : Ref sig .tc := ⟨.hbm, 139, rfl⟩
abbrev main_v120 : Ref sig .tc := ⟨.hbm, 140, rfl⟩
abbrev main_v121 : Ref sig .tc := ⟨.hbm, 141, rfl⟩
abbrev main_cst_9 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_10 : Ref sig .tc := ⟨.hbm, 147, rfl⟩
abbrev main_v126 : Ref sig .tc := ⟨.hbm, 148, rfl⟩
abbrev main_v127 : Ref sig .tc := ⟨.hbm, 149, rfl⟩
abbrev main_cst_11 : Ref sig .tc := ⟨.hbm, 150, rfl⟩
abbrev main_v128 : Ref sig .tc := ⟨.hbm, 151, rfl⟩
abbrev main_v129 : Ref sig .tc := ⟨.hbm, 152, rfl⟩
abbrev main_cst_12 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_cst_13 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_14 : Ref sig .tc := ⟨.hbm, 162, rfl⟩
abbrev main_v137 : Ref sig .tc := ⟨.hbm, 163, rfl⟩
abbrev main_v138 : Ref sig .tc := ⟨.hbm, 164, rfl⟩
abbrev main_cst_15 : Ref sig .tc := ⟨.hbm, 165, rfl⟩
abbrev main_v139 : Ref sig .tc := ⟨.hbm, 166, rfl⟩
abbrev main_v140 : Ref sig .tc := ⟨.hbm, 167, rfl⟩
abbrev main_cst_16 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_cst_17 : Ref sig .tc := ⟨.hbm, 175, rfl⟩
abbrev main_v147 : Ref sig .tc := ⟨.hbm, 176, rfl⟩
abbrev main_v148 : Ref sig .tc := ⟨.hbm, 177, rfl⟩
abbrev main_cst_18 : Ref sig .tc := ⟨.hbm, 178, rfl⟩
abbrev main_v149 : Ref sig .tc := ⟨.hbm, 179, rfl⟩
abbrev main_v150 : Ref sig .tc := ⟨.hbm, 180, rfl⟩
abbrev main_cst_19 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩

abbrev nD : Nat := 1
abbrev τ : Topo := Topo.v7x

variable {F : FTy → Type} [FloatOps F]
-- ==== FfnHalves.lean ====
abbrev S4128x4096 : Shape := ⟨2, ![4128, 4096]⟩
abbrev S4096x22016 : Shape := ⟨2, ![4096, 22016]⟩
abbrev S11008x4096 : Shape := ⟨2, ![11008, 4096]⟩
abbrev S4128x22016 : Shape := ⟨2, ![4128, 22016]⟩
abbrev S1376x2048 : Shape := ⟨2, ![1376, 2048]⟩
abbrev S2048x512 : Shape := ⟨2, ![2048, 512]⟩
abbrev S1376x512 : Shape := ⟨2, ![1376, 512]⟩
abbrev S4128x11008 : Shape := ⟨2, ![4128, 11008]⟩
abbrev S48x11008 : Shape := ⟨2, ![48, 11008]⟩
abbrev S1376x5504 : Shape := ⟨2, ![1376, 5504]⟩
abbrev S5504x512 : Shape := ⟨2, ![5504, 512]⟩

abbrev nBuf : Space → Nat
  | .hbm => 8
  | .vmem => 34
  | .smem => 0
  | _ => 0

abbrev bufTy : (tb : Table) → Fin (tcTables nBuf tb) → BufTy
  | .hbm, ⟨0, _⟩ => ⟨S4128x4096, .bf16⟩
  | .hbm, ⟨1, _⟩ => ⟨S4096x22016, .bf16⟩
  | .hbm, ⟨2, _⟩ => ⟨S11008x4096, .bf16⟩
  | .hbm, ⟨3, _⟩ => ⟨S4128x22016, .f32⟩
  | .hbm, ⟨4, _⟩ => ⟨S4128x22016, .bf16⟩
  | .hbm, ⟨5, _⟩ => ⟨S4128x11008, .bf16⟩
  | .hbm, ⟨6, _⟩ => ⟨S4128x4096, .f32⟩
  | .hbm, ⟨7, _⟩ => ⟨S4128x4096, .f32⟩
  | .local _ .vmem, ⟨0, _⟩ => ⟨S1376x2048, .bf16⟩
  | .local _ .vmem, ⟨1, _⟩ => ⟨S1376x2048, .bf16⟩
  | .local _ .vmem, ⟨2, _⟩ => ⟨S2048x512, .bf16⟩
  | .local _ .vmem, ⟨3, _⟩ => ⟨S2048x512, .bf16⟩
  | .local _ .vmem, ⟨4, _⟩ => ⟨S1376x512, .f32⟩
  | .local _ .vmem, ⟨5, _⟩ => ⟨S1376x512, .f32⟩
  | .local _ .vmem, ⟨6, _⟩ => ⟨S1376x2048, .bf16⟩
  | .local _ .vmem, ⟨7, _⟩ => ⟨S1376x2048, .bf16⟩
  | .local _ .vmem, ⟨8, _⟩ => ⟨S2048x512, .bf16⟩
  | .local _ .vmem, ⟨9, _⟩ => ⟨S2048x512, .bf16⟩
  | .local _ .vmem, ⟨10, _⟩ => ⟨S1376x512, .f32⟩
  | .local _ .vmem, ⟨11, _⟩ => ⟨S1376x512, .f32⟩
  | .local _ .vmem, ⟨12, _⟩ => ⟨S1376x512, .bf16⟩
  | .local _ .vmem, ⟨13, _⟩ => ⟨S1376x512, .bf16⟩
  | .local _ .vmem, ⟨14, _⟩ => ⟨S48x11008, .bf16⟩
  | .local _ .vmem, ⟨15, _⟩ => ⟨S48x11008, .bf16⟩
  | .local _ .vmem, ⟨16, _⟩ => ⟨S48x11008, .bf16⟩
  | .local _ .vmem, ⟨17, _⟩ => ⟨S48x11008, .bf16⟩
  | .local _ .vmem, ⟨18, _⟩ => ⟨S48x11008, .bf16⟩
  | .local _ .vmem, ⟨19, _⟩ => ⟨S48x11008, .bf16⟩
  | .local _ .vmem, ⟨20, _⟩ => ⟨S1376x5504, .bf16⟩
  | .local _ .vmem, ⟨21, _⟩ => ⟨S1376x5504, .bf16⟩
  | .local _ .vmem, ⟨22, _⟩ => ⟨S5504x512, .bf16⟩
  | .local _ .vmem, ⟨23, _⟩ => ⟨S5504x512, .bf16⟩
  | .local _ .vmem, ⟨24, _⟩ => ⟨S1376x512, .f32⟩
  | .local _ .vmem, ⟨25, _⟩ => ⟨S1376x512, .f32⟩
  | .local _ .vmem, ⟨26, _⟩ => ⟨S1376x5504, .bf16⟩
  | .local _ .vmem, ⟨27, _⟩ => ⟨S1376x5504, .bf16⟩
  | .local _ .vmem, ⟨28, _⟩ => ⟨S5504x512, .bf16⟩
  | .local _ .vmem, ⟨29, _⟩ => ⟨S5504x512, .bf16⟩
  | .local _ .vmem, ⟨30, _⟩ => ⟨S1376x512, .f32⟩
  | .local _ .vmem, ⟨31, _⟩ => ⟨S1376x512, .f32⟩
  | .local _ .vmem, ⟨32, _⟩ => ⟨S1376x512, .f32⟩
  | .local _ .vmem, ⟨33, _⟩ => ⟨S1376x512, .f32⟩
  | _, _ => ⟨S4128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨3, ![3, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![3, 43, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg2 c1_i32
  let c0_i32_0 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1376x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1376x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1376x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![86], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S48x11008 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S48x11008 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S48x11008 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![3, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1376x5504 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S5504x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1376x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![3, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg2 c1_i32
  let c0_i32_0 : BitVec 32 := 0#32
  ![v0.toNat, v1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1376x5504 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S5504x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1376x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1376x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]
-- ==== AdamW.lean ====
abbrev S2752x4096 : Shape := ⟨2, ![2752, 4096]⟩
abbrev S64x4096 : Shape := ⟨2, ![64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S2752x4096, .f32⟩
  | .hbm, ⟨1, _⟩ => ⟨S2752x4096, .f32⟩
  | .hbm, ⟨2, _⟩ => ⟨S2752x4096, .f32⟩
  | .hbm, ⟨3, _⟩ => ⟨S2752x4096, .f32⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S2752x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S2752x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S2752x4096 : Shape := ⟨2, ![2752, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2752x4096, .f32⟩
  | .hbm, ⟨1, _⟩ => ⟨S2752x4096, .f32⟩
  | .hbm, ⟨2, _⟩ => ⟨S2752x4096, .f32⟩
  | .hbm, ⟨3, _⟩ => ⟨S2752x4096, .f32⟩
  | .hbm, ⟨4, _⟩ => ⟨S_, .f32⟩
  | .hbm, ⟨5, _⟩ => ⟨S2752x4096, .f32⟩
  | .hbm, ⟨6, _⟩ => ⟨S2752x4096, .f32⟩
  | .hbm, ⟨7, _⟩ => ⟨S_, .f32⟩
  | .hbm, ⟨8, _⟩ => ⟨S2752x4096, .f32⟩
  | .hbm, ⟨9, _⟩ => ⟨S2752x4096, .f32⟩
  | .hbm, ⟨10, _⟩ => ⟨S2752x4096, .f32⟩
  | .hbm, ⟨11, _⟩ => ⟨S_, .f32⟩
  | .hbm, ⟨12, _⟩ => ⟨S2752x4096, .f32⟩
  | .hbm, ⟨13, _⟩ => ⟨S2752x4096, .f32⟩
  | .hbm, ⟨14, _⟩ => ⟨S2752x4096, .f32⟩
  | .hbm, ⟨15, _⟩ => ⟨S_, .f32⟩
  | .hbm, ⟨16, _⟩ => ⟨S2752x4096, .f32⟩
  | .hbm, ⟨17, _⟩ => ⟨S2752x4096, .f32⟩
  | .hbm, ⟨18, _⟩ => ⟨S2752x4096, .f32⟩
  | .hbm, ⟨19, _⟩ => ⟨S_, .f32⟩
  | .hbm, ⟨20, _⟩ => ⟨S2752x4096, .f32⟩
  | .hbm, ⟨21, _⟩ => ⟨S2752x4096, .f32⟩
  | .hbm, ⟨22, _⟩ => ⟨S_, .f32⟩
  | .hbm, ⟨23, _⟩ => ⟨S2752x4096, .f32⟩
  | .hbm, ⟨24, _⟩ => ⟨S2752x4096, .f32⟩
  | .hbm, ⟨25, _⟩ => ⟨S2752x4096, .f32⟩
  | .hbm, ⟨26, _⟩ => ⟨S_, .f32⟩
  | .hbm, ⟨27, _⟩ => ⟨S2752x4096, .f32⟩
  | .hbm, ⟨28, _⟩ => ⟨S2752x4096, .f32⟩
  | .hbm, ⟨29, _⟩ => ⟨S2752x4096, .f32⟩
  | .hbm, ⟨30, _⟩ => ⟨S_, .f32⟩
  | .hbm, ⟨31, _⟩ => ⟨S2752x4096, .f32⟩
  | .hbm, ⟨32, _⟩ => ⟨S2752x4096, .f32⟩
  | .hbm, ⟨33, _⟩ => ⟨S2752x4096, .f32⟩
  | .hbm, ⟨34, _⟩ => ⟨S_, .f32⟩
  | .hbm, ⟨35, _⟩ => ⟨S2752x4096, .f32⟩
  | .hbm, ⟨36, _⟩ => ⟨S2752x4096, .f32⟩
  | _, _ => ⟨S2752x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InputGrad.lean ====
abbrev S4128x4096 : Shape := ⟨2, ![4128, 4096]⟩
abbrev S2x2048x4096 : Shape := ⟨3, ![2, 2048, 4096]⟩
abbrev S2x16x4096 : Shape := ⟨3, ![2, 16, 4096]⟩
abbrev S2064x512 : Shape := ⟨2, ![2064, 512]⟩
abbrev S1x2048x512 : Shape := ⟨3, ![1, 2048, 512]⟩
abbrev S1x16x512 : Shape := ⟨3, ![1, 16, 512]⟩
abbrev S16x512 : Shape := ⟨2, ![16, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4128x4096, .f32⟩
  | .hbm, ⟨1, _⟩ => ⟨S4128x4096, .f32⟩
  | .hbm, ⟨2, _⟩ => ⟨S2x2048x4096, .f32⟩
  | .hbm, ⟨3, _⟩ => ⟨S2x16x4096, .f32⟩
  | .local _ .vmem, ⟨0, _⟩ => ⟨S2064x512, .f32⟩
  | .local _ .vmem, ⟨1, _⟩ => ⟨S2064x512, .f32⟩
  | .local _ .vmem, ⟨2, _⟩ => ⟨S2064x512, .f32⟩
  | .local _ .vmem, ⟨3, _⟩ => ⟨S2064x512, .f32⟩
  | .local _ .vmem, ⟨4, _⟩ => ⟨S1x2048x512, .f32⟩
  | .local _ .vmem, ⟨5, _⟩ => ⟨S1x2048x512, .f32⟩
  | .local _ .vmem, ⟨6, _⟩ => ⟨S1x16x512, .f32⟩
  | .local _ .vmem, ⟨7, _⟩ => ⟨S1x16x512, .f32⟩
  | _, _ => ⟨S4128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2064x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InputGradRefIdeal.lean ====
abbrev S4128x4096 : Shape := ⟨2, ![4128, 4096]⟩
abbrev S_ : Shape := ⟨0, ![]⟩
abbrev S2x2064x4096 : Shape := ⟨3, ![2, 2064, 4096]⟩
abbrev S2x2048x4096 : Shape := ⟨3, ![2, 2048, 4096]⟩
abbrev S2x16x4096 : Shape := ⟨3, ![2, 16, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4128x4096, .f32⟩
  | .hbm, ⟨1, _⟩ => ⟨S4128x4096, .f32⟩
  | .hbm, ⟨2, _⟩ => ⟨S_, .f32⟩
  | .hbm, ⟨3, _⟩ => ⟨S4128x4096, .f32⟩
  | .hbm, ⟨4, _⟩ => ⟨S4128x4096, .f32⟩
  | .hbm, ⟨5, _⟩ => ⟨S4128x4096, .f32⟩
  | .hbm, ⟨6, _⟩ => ⟨S2x2064x4096, .f32⟩
  | .hbm, ⟨7, _⟩ => ⟨S2x2048x4096, .f32⟩
  | .hbm, ⟨8, _⟩ => ⟨S2x16x4096, .f32⟩
  | _, _ => ⟨S4128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm.lean ====
abbrev S4128x4096 : Shape := ⟨2, ![4128, 4096]⟩
abbrev S1x4096 : Shape := ⟨2, ![1, 4096]⟩
abbrev S4128x1 : Shape := ⟨2, ![4128, 1]⟩
abbrev S96x4096 : Shape := ⟨2, ![96, 4096]⟩
abbrev S96x1 : Shape := ⟨2, ![96, 1]⟩
abbrev S96 : Shape := ⟨1, ![96]⟩
abbrev S4096 : Shape := ⟨1, ![4096]⟩

abbrev nBuf : Space → Nat
  | .hbm => 14
  | .vmem => 29
  | .smem => 0
  | _ => 0

abbrev bufTy : (tb : Table) → Fin (tcTables nBuf tb) → BufTy
  | .hbm, ⟨0, _⟩ => ⟨S4128x4096, .f32⟩
  | .hbm, ⟨1, _⟩ => ⟨S4128x4096, .f32⟩
  | .hbm, ⟨2, _⟩ => ⟨S1x4096, .f32⟩
  | .hbm, ⟨3, _⟩ => ⟨S1x4096, .f32⟩
  | .hbm, ⟨4, _⟩ => ⟨S4128x4096, .f32⟩
  | .hbm, ⟨5, _⟩ => ⟨S4128x4096, .f32⟩
  | .hbm, ⟨6, _⟩ => ⟨S4128x4096, .f32⟩
  | .hbm, ⟨7, _⟩ => ⟨S4128x4096, .bf16⟩
  | .hbm, ⟨8, _⟩ => ⟨S4128x4096, .f32⟩
  | .hbm, ⟨9, _⟩ => ⟨S4128x1, .f32⟩
  | .hbm, ⟨10, _⟩ => ⟨S4128x4096, .f32⟩
  | .hbm, ⟨11, _⟩ => ⟨S4128x4096, .bf16⟩
  | .hbm, ⟨12, _⟩ => ⟨S1x4096, .f32⟩
  | .hbm, ⟨13, _⟩ => ⟨S1x4096, .f32⟩
  | .local _ .vmem, ⟨0, _⟩ => ⟨S96x4096, .f32⟩
  | .local _ .vmem, ⟨1, _⟩ => ⟨S96x4096, .f32⟩
  | .local _ .vmem, ⟨2, _⟩ => ⟨S96x4096, .f32⟩
  | .local _ .vmem, ⟨3, _⟩ => ⟨S96x4096, .f32⟩
  | .local _ .vmem, ⟨4, _⟩ => ⟨S1x4096, .f32⟩
  | .local _ .vmem, ⟨5, _⟩ => ⟨S1x4096, .f32⟩
  | .local _ .vmem, ⟨6, _⟩ => ⟨S96x4096, .f32⟩
  | .local _ .vmem, ⟨7, _⟩ => ⟨S96x4096, .f32⟩
  | .local _ .vmem, ⟨8, _⟩ => ⟨S96x4096, .bf16⟩
  | .local _ .vmem, ⟨9, _⟩ => ⟨S96x4096, .bf16⟩
  | .local _ .vmem, ⟨10, _⟩ => ⟨S96x4096, .f32⟩
  | .local _ .vmem, ⟨11, _⟩ => ⟨S96x4096, .f32⟩
  | .local _ .vmem, ⟨12, _⟩ => ⟨S96x1, .f32⟩
  | .local _ .vmem, ⟨13, _⟩ => ⟨S96x1, .f32⟩
  | .local _ .vmem, ⟨14, _⟩ => ⟨S96x4096, .f32⟩
  | .local _ .vmem, ⟨15, _⟩ => ⟨S96x4096, .f32⟩
  | .local _ .vmem, ⟨16, _⟩ => ⟨S96x4096, .f32⟩
  | .local _ .vmem, ⟨17, _⟩ => ⟨S96x4096, .f32⟩
  | .local _ .vmem, ⟨18, _⟩ => ⟨S96x4096, .f32⟩
  | .local _ .vmem, ⟨19, _⟩ => ⟨S96x4096, .f32⟩
  | .local _ .vmem, ⟨20, _⟩ => ⟨S96x1, .f32⟩
  | .local _ .vmem, ⟨21, _⟩ => ⟨S96x1, .f32⟩
  | .local _ .vmem, ⟨22, _⟩ => ⟨S1x4096, .f32⟩
  | .local _ .vmem, ⟨23, _⟩ => ⟨S96x4096, .f32⟩
  | .local _ .vmem, ⟨24, _⟩ => ⟨S96x4096, .f32⟩
  | .local _ .vmem, ⟨25, _⟩ => ⟨S96x4096, .bf16⟩
  | .local _ .vmem, ⟨26, _⟩ => ⟨S96x4096, .bf16⟩
  | .local _ .vmem, ⟨27, _⟩ => ⟨S1x4096, .f32⟩
  | .local _ .vmem, ⟨28, _⟩ => ⟨S1x4096, .f32⟩
  | _, _ => ⟨S4128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg8_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem8_0 : DmaSem sig := 28

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![43], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S96x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S96x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S96x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S96x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S96x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S96x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== NormRefIdeal.lean ====
abbrev S4128x4096 : Shape := ⟨2, ![4128, 4096]⟩
abbrev S1x4096 : Shape := ⟨2, ![1, 4096]⟩
abbrev S_ : Shape := ⟨0, ![]⟩
abbrev S4128 : Shape := ⟨1, ![4128]⟩
abbrev S4128x1 : Shape := ⟨2, ![4128, 1]⟩
abbrev S4096 : Shape := ⟨1, ![4096]⟩

abbrev nBuf : Space → Nat
  | .hbm => 89
  | .vmem => 0
  | .smem => 0
  | _ => 0

abbrev bufTy : (tb : Table) → Fin (tcTables nBuf tb) → BufTy
  | .hbm, ⟨0, _⟩ => ⟨S4128x4096, .f32⟩
  | .hbm, ⟨1, _⟩ => ⟨S4128x4096, .f32⟩
  | .hbm, ⟨2, _⟩ => ⟨S1x4096, .f32⟩
  | .hbm, ⟨3, _⟩ => ⟨S1x4096, .f32⟩
  | .hbm, ⟨4, _⟩ => ⟨S4128x4096, .f32⟩
  | .hbm, ⟨5, _⟩ => ⟨S4128x4096, .f32⟩
  | .hbm, ⟨6, _⟩ => ⟨S_, .f32⟩
  | .hbm, ⟨7, _⟩ => ⟨S4128x4096, .f32⟩
  | .hbm, ⟨8, _⟩ => ⟨S4128x4096, .f32⟩
  | .hbm, ⟨9, _⟩ => ⟨S_, .f32⟩
  | .hbm, ⟨10, _⟩ => ⟨S4128x4096, .f32⟩
  | .hbm, ⟨11, _⟩ => ⟨S4128x4096, .f32⟩
  | .hbm, ⟨12, _⟩ => ⟨S4128x4096, .f32⟩
  | .hbm, ⟨13, _⟩ => ⟨S_, .f32⟩
  | .hbm, ⟨14, _⟩ => ⟨S4128, .f32⟩
  | .hbm, ⟨15, _⟩ => ⟨S4128x1, .f32⟩
  | .hbm, ⟨16, _⟩ => ⟨S_, .f32⟩
  | .hbm, ⟨17, _⟩ => ⟨S4128x1, .f32⟩
  | .hbm, ⟨18, _⟩ => ⟨S4128x1, .f32⟩
  | .hbm, ⟨19, _⟩ => ⟨S4128x4096, .f32⟩
  | .hbm, ⟨20, _⟩ => ⟨S4128x4096, .f32⟩
  | .hbm, ⟨21, _⟩ => ⟨S4128x4096, .f32⟩
  | .hbm, ⟨22, _⟩ => ⟨S_, .f32⟩
  | .hbm, ⟨23, _⟩ => ⟨S4128x4096, .f32⟩
  | .hbm, ⟨24, _⟩ => ⟨S4128x4096, .f32⟩
  | .hbm, ⟨25, _⟩ => ⟨S_, .f32⟩
  | .hbm, ⟨26, _⟩ => ⟨S4128, .f32⟩
  | .hbm, ⟨27, _⟩ => ⟨S4128x1, .f32⟩
  | .hbm, ⟨28, _⟩ => ⟨S_, .f32⟩
  | .hbm, ⟨29, _⟩ => ⟨S4128x1, .f32⟩
  | .hbm, ⟨30, _⟩ => ⟨S4128x1, .f32⟩
  | .hbm, ⟨31, _⟩ => ⟨S_, .f32⟩
  | .hbm, ⟨32, _⟩ => ⟨S4128x1, .f32⟩
  | .hbm, ⟨33, _⟩ => ⟨S4128x1, .f32⟩
  | .hbm, ⟨34, _⟩ => ⟨S4128x1, .f32⟩
  | .hbm, ⟨35, _⟩ => ⟨S4128x1, .f32⟩
  | .hbm, ⟨36, _⟩ => ⟨S_, .f32⟩
  | .hbm, ⟨37, _⟩ => ⟨S4128x1, .f32⟩
  | .hbm, ⟨38, _⟩ => ⟨S4128x1, .f32⟩
  | .hbm, ⟨39, _⟩ => ⟨S4128x4096, .f32⟩
  | .hbm, ⟨40, _⟩ => ⟨S4128x4096, .f32⟩
  | .hbm, ⟨41, _⟩ => ⟨S4128x4096, .f32⟩
  | .hbm, ⟨42, _⟩ => ⟨S4128x4096, .f32⟩
  | .hbm, ⟨43, _⟩ => ⟨S4128x4096, .f32⟩
  | .hbm, ⟨44, _⟩ => ⟨S4128x4096, .f32⟩
  | .hbm, ⟨45, _⟩ => ⟨S_, .f32⟩
  | .hbm, ⟨46, _⟩ => ⟨S4128x4096, .f32⟩
  | .hbm, ⟨47, _⟩ => ⟨S4128x4096, .f32⟩
  | .hbm, ⟨48, _⟩ => ⟨S4128x4096, .f32⟩
  | .hbm, ⟨49, _⟩ => ⟨S_, .f32⟩
  | .hbm, ⟨50, _⟩ => ⟨S4096, .f32⟩
  | .hbm, ⟨51, _⟩ => ⟨S1x4096, .f32⟩
  | .hbm, ⟨52, _⟩ => ⟨S4128x4096, .f32⟩
  | .hbm, ⟨53, _⟩ => ⟨S_, .f32⟩
  | .hbm, ⟨54, _⟩ => ⟨S4096, .f32⟩
  | .hbm, ⟨55, _⟩ => ⟨S1x4096, .f32⟩
  | .hbm, ⟨56, _⟩ => ⟨S4128x4096, .f32⟩
  | .hbm, ⟨57, _⟩ => ⟨S4128x4096, .f32⟩
  | .hbm, ⟨58, _⟩ => ⟨S4128x4096, .f32⟩
  | .hbm, ⟨59, _⟩ => ⟨S_, .f32⟩
  | .hbm, ⟨60, _⟩ => ⟨S4128, .f32⟩
  | .hbm, ⟨61, _⟩ => ⟨S4128x1, .f32⟩
  | .hbm, ⟨62, _⟩ => ⟨S4128x4096, .f32⟩
  | .hbm, ⟨63, _⟩ => ⟨S4128x4096, .f32⟩
  | .hbm, ⟨64, _⟩ => ⟨S4128x1, .f32⟩
  | .hbm, ⟨65, _⟩ => ⟨S_, .f32⟩
  | .hbm, ⟨66, _⟩ => ⟨S4128x1, .f32⟩
  | .hbm, ⟨67, _⟩ => ⟨S4128x1, .f32⟩
  | .hbm, ⟨68, _⟩ => ⟨S_, .f32⟩
  | .hbm, ⟨69, _⟩ => ⟨S4128, .f32⟩
  | .hbm, ⟨70, _⟩ => ⟨S4128x4096, .f32⟩
  | .hbm, ⟨71, _⟩ => ⟨S4128x4096, .f32⟩
  | .hbm, ⟨72, _⟩ => ⟨S4128x4096, .f32⟩
  | .hbm, ⟨73, _⟩ => ⟨S4128x4096, .f32⟩
  | .hbm, ⟨74, _⟩ => ⟨S_, .f32⟩
  | .hbm, ⟨75, _⟩ => ⟨S4128, .f32⟩
  | .hbm, ⟨76, _⟩ => ⟨S4128x1, .f32⟩
  | .hbm, ⟨77, _⟩ => ⟨S_, .f32⟩
  | .hbm, ⟨78, _⟩ => ⟨S4128x1, .f32⟩
  | .hbm, ⟨79, _⟩ => ⟨S4128x1, .f32⟩
  | .hbm, ⟨80, _⟩ => ⟨S_, .f32⟩
  | .hbm, ⟨81, _⟩ => ⟨S4128, .f32⟩
  | .hbm, ⟨82, _⟩ => ⟨S4128x4096, .f32⟩
  | .hbm, ⟨83, _⟩ => ⟨S4128x4096, .f32⟩
  | .hbm, ⟨84, _⟩ => ⟨S4128x4096, .bf16⟩
  | .hbm, ⟨85, _⟩ => ⟨S_, .f32⟩
  | .hbm, ⟨86, _⟩ => ⟨S4128x4096, .f32⟩
  | .hbm, ⟨87, _⟩ => ⟨S4128x4096, .f32⟩
  | .hbm, ⟨88, _⟩ => ⟨S4128x4096, .bf16⟩
  | _, _ => ⟨S4128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_17 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== NormWhole.lean ====
abbrev S4128x4096 : Shape := ⟨2, ![4128, 4096]⟩
abbrev S1x4096 : Shape := ⟨2, ![1, 4096]⟩
abbrev S4128x1 : Shape := ⟨2, ![4128, 1]⟩
abbrev S96x4096 : Shape := ⟨2, ![96, 4096]⟩
abbrev S96x1 : Shape := ⟨2, ![96, 1]⟩
abbrev S96 : Shape := ⟨1, ![96]⟩
abbrev S4096 : Shape := ⟨1, ![4096]⟩

abbrev nBuf : Space → Nat
  | .hbm => 14
  | .vmem => 29
  | .smem => 0
  | _ => 0

abbrev bufTy : (tb : Table) → Fin (tcTables nBuf tb) → BufTy
  | .hbm, ⟨0, _⟩ => ⟨S4128x4096, .f32⟩
  | .hbm, ⟨1, _⟩ => ⟨S4128x4096, .f32⟩
  | .hbm, ⟨2, _⟩ => ⟨S1x4096, .f32⟩
  | .hbm, ⟨3, _⟩ => ⟨S1x4096, .f32⟩
  | .hbm, ⟨4, _⟩ => ⟨S4128x4096, .f32⟩
  | .hbm, ⟨5, _⟩ => ⟨S4128x4096, .f32⟩
  | .hbm, ⟨6, _⟩ => ⟨S4128x4096, .f32⟩
  | .hbm, ⟨7, _⟩ => ⟨S4128x4096, .bf16⟩
  | .hbm, ⟨8, _⟩ => ⟨S4128x4096, .f32⟩
  | .hbm, ⟨9, _⟩ => ⟨S4128x1, .f32⟩
  | .hbm, ⟨10, _⟩ => ⟨S4128x4096, .f32⟩
  | .hbm, ⟨11, _⟩ => ⟨S4128x4096, .bf16⟩
  | .hbm, ⟨12, _⟩ => ⟨S1x4096, .f32⟩
  | .hbm, ⟨13, _⟩ => ⟨S1x4096, .f32⟩
  | .local _ .vmem, ⟨0, _⟩ => ⟨S96x4096, .f32⟩
  | .local _ .vmem, ⟨1, _⟩ => ⟨S96x4096, .f32⟩
  | .local _ .vmem, ⟨2, _⟩ => ⟨S96x4096, .f32⟩
  | .local _ .vmem, ⟨3, _⟩ => ⟨S96x4096, .f32⟩
  | .local _ .vmem, ⟨4, _⟩ => ⟨S1x4096, .f32⟩
  | .local _ .vmem, ⟨5, _⟩ => ⟨S1x4096, .f32⟩
  | .local _ .vmem, ⟨6, _⟩ => ⟨S96x4096, .f32⟩
  | .local _ .vmem, ⟨7, _⟩ => ⟨S96x4096, .f32⟩
  | .local _ .vmem, ⟨8, _⟩ => ⟨S96x4096, .bf16⟩
  | .local _ .vmem, ⟨9, _⟩ => ⟨S96x4096, .bf16⟩
  | .local _ .vmem, ⟨10, _⟩ => ⟨S96x4096, .f32⟩
  | .local _ .vmem, ⟨11, _⟩ => ⟨S96x4096, .f32⟩
  | .local _ .vmem, ⟨12, _⟩ => ⟨S96x1, .f32⟩
  | .local _ .vmem, ⟨13, _⟩ => ⟨S96x1, .f32⟩
  | .local _ .vmem, ⟨14, _⟩ => ⟨S96x4096, .f32⟩
  | .local _ .vmem, ⟨15, _⟩ => ⟨S96x4096, .f32⟩
  | .local _ .vmem, ⟨16, _⟩ => ⟨S96x4096, .f32⟩
  | .local _ .vmem, ⟨17, _⟩ => ⟨S96x4096, .f32⟩
  | .local _ .vmem, ⟨18, _⟩ => ⟨S96x4096, .f32⟩
  | .local _ .vmem, ⟨19, _⟩ => ⟨S96x4096, .f32⟩
  | .local _ .vmem, ⟨20, _⟩ => ⟨S96x1, .f32⟩
  | .local _ .vmem, ⟨21, _⟩ => ⟨S96x1, .f32⟩
  | .local _ .vmem, ⟨22, _⟩ => ⟨S1x4096, .f32⟩
  | .local _ .vmem, ⟨23, _⟩ => ⟨S96x4096, .f32⟩
  | .local _ .vmem, ⟨24, _⟩ => ⟨S96x4096, .f32⟩
  | .local _ .vmem, ⟨25, _⟩ => ⟨S96x4096, .bf16⟩
  | .local _ .vmem, ⟨26, _⟩ => ⟨S96x4096, .bf16⟩
  | .local _ .vmem, ⟨27, _⟩ => ⟨S1x4096, .f32⟩
  | .local _ .vmem, ⟨28, _⟩ => ⟨S1x4096, .f32⟩
  | _, _ => ⟨S4128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg8_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem8_0 : DmaSem sig := 28

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![43], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S96x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S96x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S96x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S96x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S96x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S96x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== NormWholeRefIdeal.lean ====
abbrev S4128x4096 : Shape := ⟨2, ![4128, 4096]⟩
abbrev S1x4096 : Shape := ⟨2, ![1, 4096]⟩
abbrev S_ : Shape := ⟨0, ![]⟩
abbrev S4128 : Shape := ⟨1, ![4128]⟩
abbrev S4128x1 : Shape := ⟨2, ![4128, 1]⟩
abbrev S4096 : Shape := ⟨1, ![4096]⟩

abbrev nBuf : Space → Nat
  | .hbm => 83
  | .vmem => 0
  | .smem => 0
  | _ => 0

abbrev bufTy : (tb : Table) → Fin (tcTables nBuf tb) → BufTy
  | .hbm, ⟨0, _⟩ => ⟨S4128x4096, .f32⟩
  | .hbm, ⟨1, _⟩ => ⟨S4128x4096, .f32⟩
  | .hbm, ⟨2, _⟩ => ⟨S1x4096, .f32⟩
  | .hbm, ⟨3, _⟩ => ⟨S1x4096, .f32⟩
  | .hbm, ⟨4, _⟩ => ⟨S4128x4096, .f32⟩
  | .hbm, ⟨5, _⟩ => ⟨S4128x4096, .f32⟩
  | .hbm, ⟨6, _⟩ => ⟨S_, .f32⟩
  | .hbm, ⟨7, _⟩ => ⟨S4128x4096, .f32⟩
  | .hbm, ⟨8, _⟩ => ⟨S4128x4096, .f32⟩
  | .hbm, ⟨9, _⟩ => ⟨S4128x4096, .f32⟩
  | .hbm, ⟨10, _⟩ => ⟨S_, .f32⟩
  | .hbm, ⟨11, _⟩ => ⟨S4128, .f32⟩
  | .hbm, ⟨12, _⟩ => ⟨S4128x1, .f32⟩
  | .hbm, ⟨13, _⟩ => ⟨S_, .f32⟩
  | .hbm, ⟨14, _⟩ => ⟨S4128x1, .f32⟩
  | .hbm, ⟨15, _⟩ => ⟨S4128x1, .f32⟩
  | .hbm, ⟨16, _⟩ => ⟨S4128x4096, .f32⟩
  | .hbm, ⟨17, _⟩ => ⟨S4128x4096, .f32⟩
  | .hbm, ⟨18, _⟩ => ⟨S4128x4096, .f32⟩
  | .hbm, ⟨19, _⟩ => ⟨S_, .f32⟩
  | .hbm, ⟨20, _⟩ => ⟨S4128x4096, .f32⟩
  | .hbm, ⟨21, _⟩ => ⟨S4128x4096, .f32⟩
  | .hbm, ⟨22, _⟩ => ⟨S_, .f32⟩
  | .hbm, ⟨23, _⟩ => ⟨S4128, .f32⟩
  | .hbm, ⟨24, _⟩ => ⟨S4128x1, .f32⟩
  | .hbm, ⟨25, _⟩ => ⟨S_, .f32⟩
  | .hbm, ⟨26, _⟩ => ⟨S4128x1, .f32⟩
  | .hbm, ⟨27, _⟩ => ⟨S4128x1, .f32⟩
  | .hbm, ⟨28, _⟩ => ⟨S_, .f32⟩
  | .hbm, ⟨29, _⟩ => ⟨S4128x1, .f32⟩
  | .hbm, ⟨30, _⟩ => ⟨S4128x1, .f32⟩
  | .hbm, ⟨31, _⟩ => ⟨S4128x1, .f32⟩
  | .hbm, ⟨32, _⟩ => ⟨S4128x1, .f32⟩
  | .hbm, ⟨33, _⟩ => ⟨S_, .f32⟩
  | .hbm, ⟨34, _⟩ => ⟨S4128x1, .f32⟩
  | .hbm, ⟨35, _⟩ => ⟨S4128x1, .f32⟩
  | .hbm, ⟨36, _⟩ => ⟨S4128x4096, .f32⟩
  | .hbm, ⟨37, _⟩ => ⟨S4128x4096, .f32⟩
  | .hbm, ⟨38, _⟩ => ⟨S4128x4096, .f32⟩
  | .hbm, ⟨39, _⟩ => ⟨S4128x4096, .f32⟩
  | .hbm, ⟨40, _⟩ => ⟨S4128x4096, .f32⟩
  | .hbm, ⟨41, _⟩ => ⟨S4128x4096, .f32⟩
  | .hbm, ⟨42, _⟩ => ⟨S_, .f32⟩
  | .hbm, ⟨43, _⟩ => ⟨S4128x4096, .f32⟩
  | .hbm, ⟨44, _⟩ => ⟨S4128x4096, .f32⟩
  | .hbm, ⟨45, _⟩ => ⟨S4128x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4128x4096, .f32⟩
  | .hbm, ⟨50, _⟩ => ⟨S_, .f32⟩
  | .hbm, ⟨51, _⟩ => ⟨S4096, .f32⟩
  | .hbm, ⟨52, _⟩ => ⟨S1x4096, .f32⟩
  | .hbm, ⟨53, _⟩ => ⟨S4128x4096, .f32⟩
  | .hbm, ⟨54, _⟩ => ⟨S4128x4096, .f32⟩
  | .hbm, ⟨55, _⟩ => ⟨S4128x4096, .f32⟩
  | .hbm, ⟨56, _⟩ => ⟨S_, .f32⟩
  | .hbm, ⟨57, _⟩ => ⟨S4128, .f32⟩
  | .hbm, ⟨58, _⟩ => ⟨S4128x1, .f32⟩
  | .hbm, ⟨59, _⟩ => ⟨S4128x4096, .f32⟩
  | .hbm, ⟨60, _⟩ => ⟨S4128x4096, .f32⟩
  | .hbm, ⟨61, _⟩ => ⟨S4128x1, .f32⟩
  | .hbm, ⟨62, _⟩ => ⟨S_, .f32⟩
  | .hbm, ⟨63, _⟩ => ⟨S4128x1, .f32⟩
  | .hbm, ⟨64, _⟩ => ⟨S4128x1, .f32⟩
  | .hbm, ⟨65, _⟩ => ⟨S_, .f32⟩
  | .hbm, ⟨66, _⟩ => ⟨S4128, .f32⟩
  | .hbm, ⟨67, _⟩ => ⟨S4128x4096, .f32⟩
  | .hbm, ⟨68, _⟩ => ⟨S4128x4096, .f32⟩
  | .hbm, ⟨69, _⟩ => ⟨S4128x4096, .f32⟩
  | .hbm, ⟨70, _⟩ => ⟨S4128x4096, .f32⟩
  | .hbm, ⟨71, _⟩ => ⟨S_, .f32⟩
  | .hbm, ⟨72, _⟩ => ⟨S4128, .f32⟩
  | .hbm, ⟨73, _⟩ => ⟨S4128x1, .f32⟩
  | .hbm, ⟨74, _⟩ => ⟨S_, .f32⟩
  | .hbm, ⟨75, _⟩ => ⟨S4128x1, .f32⟩
  | .hbm, ⟨76, _⟩ => ⟨S4128x1, .f32⟩
  | .hbm, ⟨77, _⟩ => ⟨S_, .f32⟩
  | .hbm, ⟨78, _⟩ => ⟨S4128, .f32⟩
  | .hbm, ⟨79, _⟩ => ⟨S4128x4096, .f32⟩
  | .hbm, ⟨80, _⟩ => ⟨S4128x4096, .f32⟩
  | .hbm, ⟨81, _⟩ => ⟨S4128x4096, .bf16⟩
  | .hbm, ⟨82, _⟩ => ⟨S4128x4096, .bf16⟩
  | _, _ => ⟨S4128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Proof.Products.lean ====
/-
  Products of matrices of extended reals, written as sums, and the pieces of a matrix that a tiled product reads. The
  kernels' calls and the reference are both read into these definitions.
-/
module

public import Idealize.ShloMosaic.PureOps.Ideal
public import Idealize.ShloMosaic.Lib.Pointwise

@[expose] public section

noncomputable section

open Idealize.ShloMosaic

namespace Cert.Products

/-- A matrix of extended reals. -/
abbrev Mat (a b : ℕ) := (⟨2, ![a, b]⟩ : Shape).Idx → EReal

/-- `A · B`. -/
def nn {M K N : ℕ} (A : Mat M K) (B : Mat K N) : Mat M N := fun i => ∑ k : Fin K, A (ix2 (i 0) k) * B (ix2 k (i 1))

/-- `A · Bᵀ`. -/
def nt {M K N : ℕ} (A : Mat M K) (B : Mat N K) : Mat M N := fun i => ∑ k : Fin K, A (ix2 (i 0) k) * B (ix2 (i 1) k)

/-- `Aᵀ · B`. -/
def tn {M K N : ℕ} (A : Mat K M) (B : Mat K N) : Mat M N := fun i => ∑ k : Fin K, A (ix2 k (i 0)) * B (ix2 k (i 1))

/-- The sum of two matrices. -/
def plus {a b : ℕ} (A B : Mat a b) : Mat a b := fun i => A i + B i

/-- The index `o` further on. -/
def shift (o : ℕ) {a b : ℕ} (h : o + a ≤ b) (k : Fin a) : Fin b := ⟨o + k.val, by omega⟩

/-- The piece of a matrix that begins at row `o` and column `p`. -/
def piece (o p : ℕ) {a b c d : ℕ} (ho : o + a ≤ c) (hp : p + b ≤ d) (A : Mat c d) : Mat a b :=
  fun i => A (ix2 (shift o ho (i 0)) (shift p hp (i 1)))

theorem nn_apply {M K N : ℕ} (A : Mat M K) (B : Mat K N) (r : Fin M) (l : Fin N) :
    nn A B (ix2 r l) = ∑ k : Fin K, A (ix2 r k) * B (ix2 k l) := rfl

theorem nt_apply {M K N : ℕ} (A : Mat M K) (B : Mat N K) (r : Fin M) (l : Fin N) :
    nt A B (ix2 r l) = ∑ k : Fin K, A (ix2 r k) * B (ix2 l k) := rfl

theorem tn_apply {M K N : ℕ} (A : Mat K M) (B : Mat K N) (r : Fin M) (l : Fin N) :
    tn A B (ix2 r l) = ∑ k : Fin K, A (ix2 k r) * B (ix2 k l) := rfl

theorem plus_apply {a b : ℕ} (A B : Mat a b) (r : Fin a) (l : Fin b) : plus A B (ix2 r l) = A (ix2 r l) + B (ix2 r l) := rfl

theorem piece_apply (o p : ℕ) {a b c d : ℕ} (ho : o + a ≤ c) (hp : p + b ≤ d) (A : Mat c d) (r : Fin a) (l : Fin b) :
    piece o p ho hp A (ix2 r l) = A (ix2 (shift o ho r) (shift p hp l)) := rfl

/-- Every index of a matrix is a row and a column. -/
theorem index_eq {a b : ℕ} (i : (⟨2, ![a, b]⟩ : Shape).Idx) : ∃ (r : Fin a) (l : Fin b), i = ix2 r l :=
  ⟨i 0, i 1, by funext x; fin_cases x <;> rfl⟩

theorem origin : (![0, 0] : Fin 2 → Nat) = fun _ => 0 := funext fun a => by fin_cases a <;> rfl

/-- Equal rows and equal columns make equal indices. -/
theorem same {n C : ℕ} {R R' : Fin n} {L L' : Fin C} (h : R.val = R'.val) (h' : L.val = L'.val) :
    (ix2 R L : (⟨2, ![n, C]⟩ : Shape).Idx) = ix2 R' L' := by
  rw [Fin.ext h, Fin.ext h']

/-- Where an entry of the block in row `p` and column `q` of blocks lies, coordinate by coordinate. -/
theorem lies {b d n C : ℕ} {at_ : Fin 2 → ℕ} {p q : ℕ} (hat : at_ 0 = p ∧ at_ 1 = q) (r : Fin b) (l : Fin d) {R : Fin n} {L : Fin C}
    (hr : R.val = p * b + r.val) (hl : L.val = q * d + l.val) (a : Fin 2) :
    at_ a * (![b, d] : Fin 2 → ℕ) a + 1 * ((ix2 r l : (⟨2, ![b, d]⟩ : Shape).Idx) a).val = ((ix2 R L : (⟨2, ![n, C]⟩ : Shape).Idx) a).val := by
  match a with
  | ⟨0, _⟩ => show at_ 0 * b + 1 * r.val = R.val; rw [hat.1, hr]; omega
  | ⟨1, _⟩ => show at_ 1 * d + 1 * l.val = L.val; rw [hat.2, hl]; omega

/-- An entry lies in the block that holds its row and its column. -/
theorem holds {b d n C : ℕ} {at_ : Fin 2 → ℕ} {p q : ℕ} (i : (⟨2, ![n, C]⟩ : Shape).Idx) (hat : at_ 0 = p ∧ at_ 1 = q)
    (hp : p = (i 0).val / b) (hq : q = (i 1).val / d) (hb : 0 < b) (hd : 0 < d) (a : Fin 2) :
    at_ a * (![b, d] : Fin 2 → ℕ) a ≤ (i a).val ∧ (i a).val < at_ a * (![b, d] : Fin 2 → ℕ) a + (![b, d] : Fin 2 → ℕ) a := by
  match a with
  | ⟨0, _⟩ =>
    show at_ 0 * b ≤ (i 0).val ∧ (i 0).val < at_ 0 * b + b
    rw [hat.1, hp]
    exact ⟨Nat.div_mul_le_self _ _, by have := Nat.lt_div_mul_add (a := (i 0).val) hb; omega⟩
  | ⟨1, _⟩ =>
    show at_ 1 * d ≤ (i 1).val ∧ (i 1).val < at_ 1 * d + d
    rw [hat.2, hq]
    exact ⟨Nat.div_mul_le_self _ _, by have := Nat.lt_div_mul_add (a := (i 1).val) hd; omega⟩

/-- A sum over `a + b` terms is the sum of the first `a` and of the other `b`. -/
theorem sum_split {a b n : ℕ} (h : a + b = n) (f : Fin n → EReal) :
    ∑ k : Fin n, f k = ∑ k : Fin a, f (shift 0 (by omega) k) + ∑ k : Fin b, f (shift a (by omega) k) := by
  subst h
  rw [Fin.sum_univ_add]
  refine congrArg₂ (fun p q : EReal => p + q) ?_ ?_
  · refine Finset.sum_congr rfl fun k _ => congrArg f (Fin.ext ?_)
    show k.val = 0 + k.val
    omega
  · exact Finset.sum_congr rfl fun k _ => congrArg f (Fin.ext rfl)

end Cert.Products

end
-- ==== Proof.ConvSpec.lean ====
/-
  The gradient of the short gated convolution, column by column, over the extended reals. One channel of one sequence
  is a column of 2064 rows; the convolution has three taps and looks back at most two rows, so its gradient looks at
  most two rows ahead. The kernel and the reference are both read into these definitions.
-/
module

public import Idealize.ShloMosaic.PureOps.Ideal
public import Idealize.ShloMosaic.Lib.Pointwise

@[expose] public section

noncomputable section

open Idealize.ShloMosaic

namespace Cert.ConvSpec

/-- The column `k` rows earlier, zero before its beginning. -/
def past (k : ℕ) (f : Fin 2064 → EReal) (r : Fin 2064) : EReal :=
  if k ≤ r.val then f ⟨r.val - k, by omega⟩ else 0

/-- The column `k` rows later, zero past its end. -/
def ahead (k : ℕ) (f : Fin 2064 → EReal) (r : Fin 2064) : EReal :=
  if h : r.val + k < 2064 then f ⟨r.val + k, h⟩ else 0

/-- The three-tap causal convolution of a column. -/
def conv (w : Fin 3 → EReal) (f : Fin 2064 → EReal) (r : Fin 2064) : EReal :=
  w 0 * past 2 f r + w 1 * past 1 f r + w 2 * f r

/-- The convolution's transpose: what a gradient at the convolution's output sends to its input. -/
def convT (w : Fin 3 → EReal) (g : Fin 2064 → EReal) (r : Fin 2064) : EReal :=
  w 2 * g r + w 1 * ahead 1 g r + w 0 * ahead 2 g r

/-- The gradient with respect to the outer gate: the incoming gradient times the convolution of `c · x`. -/
def gateGrad (w : Fin 3 → EReal) (c x dy : Fin 2064 → EReal) (r : Fin 2064) : EReal :=
  dy r * conv w (fun k => c k * x k) r

/-- The gradient with respect to one factor of `c · x`; `o` is the other factor. -/
def factorGrad (w : Fin 3 → EReal) (b dy o : Fin 2064 → EReal) (r : Fin 2064) : EReal :=
  convT w (fun k => dy k * b k) r * o r

/-- One sequence's share of the gradient with respect to the tap that looks `k` rows back. -/
def tapGrad (k : ℕ) (b c x dy : Fin 2064 → EReal) : EReal :=
  ∑ r : Fin 2064, dy r * b r * past k (fun k => c k * x k) r

theorem past_zero (f : Fin 2064 → EReal) (r : Fin 2064) : past 0 f r = f r := by
  unfold past; rw [if_pos (Nat.zero_le _)]; rfl

/-! ## Whole arrays

Both sequences lie one after the other in the rows: row `2064 s + r` is row `r` of sequence `s`. The gate and the two
factors are the first three groups of 2048 columns of one array. -/

abbrev ArrU := FVec Ideal (⟨2, ![4128, 8192]⟩ : Shape) .f32
abbrev ArrD := FVec Ideal (⟨2, ![4128, 4096]⟩ : Shape) .f32
abbrev ArrW := FVec Ideal (⟨2, ![3, 2048]⟩ : Shape) .f32

/-- Row `r` of sequence `s`. -/
def rowOf (s : Fin 2) (r : Fin 2064) : Fin 4128 := ⟨s.val * 2064 + r.val, by omega⟩

/-- A row's sequence and its place in it. -/
def rowSeq (R : Fin 4128) : Fin 2 := ⟨R.val / 2064, by omega⟩
def rowIn (R : Fin 4128) : Fin 2064 := ⟨R.val % 2064, by omega⟩

theorem rowSeq_rowOf (s : Fin 2) (r : Fin 2064) : rowSeq (rowOf s r) = s := by
  apply Fin.ext; show (s.val * 2064 + r.val) / 2064 = s.val; omega

theorem rowIn_rowOf (s : Fin 2) (r : Fin 2064) : rowIn (rowOf s r) = r := by
  apply Fin.ext; show (s.val * 2064 + r.val) % 2064 = r.val; omega

theorem rowOf_rowSeq (R : Fin 4128) : rowOf (rowSeq R) (rowIn R) = R := by
  apply Fin.ext; show R.val / 2064 * 2064 + R.val % 2064 = R.val; omega

/-- The columns of a channel: the gate, the two factors, the incoming gradient, the taps. -/
def gateCol (U : ArrU) (s : Fin 2) (d : Fin 2048) : Fin 2064 → EReal := fun r => U (ix2 (rowOf s r) ⟨d.val, by omega⟩)
def cCol (U : ArrU) (s : Fin 2) (d : Fin 2048) : Fin 2064 → EReal := fun r => U (ix2 (rowOf s r) ⟨2048 + d.val, by omega⟩)
def xCol (U : ArrU) (s : Fin 2) (d : Fin 2048) : Fin 2064 → EReal := fun r => U (ix2 (rowOf s r) ⟨4096 + d.val, by omega⟩)
def dyCol (D : ArrD) (s : Fin 2) (d : Fin 2048) : Fin 2064 → EReal := fun r => D (ix2 (rowOf s r) ⟨d.val, by omega⟩)
def tapCol (W : ArrW) (d : Fin 2048) : Fin 3 → EReal := fun k => W (ix2 k d)

/-- The gradient of the gate, as an array. -/
def gateOut (U : ArrU) (D : ArrD) (W : ArrW) : FVec Ideal (⟨2, ![4128, 2048]⟩ : Shape) .bf16 := fun i =>
  gateGrad (tapCol W (i 1)) (cCol U (rowSeq (i 0)) (i 1)) (xCol U (rowSeq (i 0)) (i 1)) (dyCol D (rowSeq (i 0)) (i 1)) (rowIn (i 0))

/-- The gradient of the factor `c`, as an array. -/
def cOut (U : ArrU) (D : ArrD) (W : ArrW) : FVec Ideal (⟨2, ![4128, 2048]⟩ : Shape) .bf16 := fun i =>
  factorGrad (tapCol W (i 1)) (gateCol U (rowSeq (i 0)) (i 1)) (dyCol D (rowSeq (i 0)) (i 1)) (xCol U (rowSeq (i 0)) (i 1)) (rowIn (i 0))

/-- The gradient of the factor `x`, as an array. -/
def xOut (U : ArrU) (D : ArrD) (W : ArrW) : FVec Ideal (⟨2, ![4128, 2048]⟩ : Shape) .bf16 := fun i =>
  factorGrad (tapCol W (i 1)) (gateCol U (rowSeq (i 0)) (i 1)) (dyCol D (rowSeq (i 0)) (i 1)) (cCol U (rowSeq (i 0)) (i 1)) (rowIn (i 0))

/-- The gradient of the taps, as an array: the sum over both sequences. Tap `k` looks `2 - k` rows back. -/
def tapOut (U : ArrU) (D : ArrD) : FVec Ideal (⟨2, ![3, 2048]⟩ : Shape) .f32 := fun i =>
  ∑ s : Fin 2, tapGrad (2 - (i 0).val) (gateCol U s (i 1)) (cCol U s (i 1)) (xCol U s (i 1)) (dyCol D s (i 1))

theorem gateOut_apply (U : ArrU) (D : ArrD) (W : ArrW) (s : Fin 2) (r : Fin 2064) (d : Fin 2048) :
    gateOut U D W (ix2 (rowOf s r) d) = gateGrad (tapCol W d) (cCol U s d) (xCol U s d) (dyCol D s d) r := by
  show gateGrad (tapCol W d) (cCol U (rowSeq (rowOf s r)) d) (xCol U (rowSeq (rowOf s r)) d) (dyCol D (rowSeq (rowOf s r)) d) (rowIn (rowOf s r)) = _
  rw [rowSeq_rowOf, rowIn_rowOf]

theorem cOut_apply (U : ArrU) (D : ArrD) (W : ArrW) (s : Fin 2) (r : Fin 2064) (d : Fin 2048) :
    cOut U D W (ix2 (rowOf s r) d) = factorGrad (tapCol W d) (gateCol U s d) (dyCol D s d) (xCol U s d) r := by
  show factorGrad (tapCol W d) (gateCol U (rowSeq (rowOf s r)) d) (dyCol D (rowSeq (rowOf s r)) d) (xCol U (rowSeq (rowOf s r)) d) (rowIn (rowOf s r)) = _
  rw [rowSeq_rowOf, rowIn_rowOf]

theorem xOut_apply (U : ArrU) (D : ArrD) (W : ArrW) (s : Fin 2) (r : Fin 2064) (d : Fin 2048) :
    xOut U D W (ix2 (rowOf s r) d) = factorGrad (tapCol W d) (gateCol U s d) (dyCol D s d) (cCol U s d) r := by
  show factorGrad (tapCol W d) (gateCol U (rowSeq (rowOf s r)) d) (dyCol D (rowSeq (rowOf s r)) d) (cCol U (rowSeq (rowOf s r)) d) (rowIn (rowOf s r)) = _
  rw [rowSeq_rowOf, rowIn_rowOf]

end Cert.ConvSpec

end
-- ==== Proof.ConvBlock.lean ====
/-
  One block of the convolution's backward kernel: what the body leaves in each output's staging buffer, read at a row
  and a lane. The gradients of the gate and of the two factors are the same whether or not the block is a channel's
  first; the taps' gradient starts from zero at the first sequence and adds to what is there at the next one.
-/
module

public import proofs.«01_k».proof.Proof.Gen.ConvBwdIdeal.Value
public import proofs.«01_k».proof.Proof.ConvSpec
public import Idealize.ShloMosaic.Lib.Pointwise
public import Idealize.ShloMosaic.Lib.Tactic
public import Idealize.ShloMosaic.Lib.WordCmp
public import Idealize.ShloMosaic.Lib.Pipeline.ReadBack

@[expose] public section

set_option maxRecDepth 16384

noncomputable section

open Idealize.ShloMosaic Idealize.ShloMosaic.TcCoe Idealize.SL.Sem

namespace Cert.ConvBwdIdeal.Block

open Cert.ConvBwdIdeal Cert.ConvBwdIdeal.Gen Cert.ConvSpec

theorem hz : (![0, 0] : Fin 2 → Nat) = fun _ => 0 := funext fun a => by fin_cases a <;> rfl

/-- Lane `l` of a block, as a column. -/
abbrev col (v : FVec Ideal S2064x256 .f32) (l : Fin 256) : Fin 2064 → EReal := fun r => v (ix2 r l)

/-- Lane `l` of the block of taps. -/
abbrev taps (v : FVec Ideal S3x256 .f32) (l : Fin 256) : Fin 3 → EReal := fun k => v (ix2 k l)

section Shifts

/-- A row index compared with a literal, from below. -/
theorem select_ge {α : Type} (r : Fin 2064) (k : ℕ) (hk : k < 2 ^ 31) (a b : α) :
    Scalar.select (IntOp.cmpi .sge (BitVec.ofNat 32 r.val) (BitVec.ofNat 32 k)) a b = if k ≤ r.val then a else b := by
  rw [WordCmp.cmpi_sge_ofNat (show r.val < 2 ^ 31 by have := r.isLt; omega) hk, WordCmp.select_decide]

/-- A row index compared with a literal, from above. -/
theorem select_lt {α : Type} (r : Fin 2064) (k : ℕ) (hk : k < 2 ^ 31) (a b : α) :
    Scalar.select (IntOp.cmpi .slt (BitVec.ofNat 32 r.val) (BitVec.ofNat 32 k)) a b = if r.val < k then a else b := by
  rw [WordCmp.cmpi_slt_ofNat (show r.val < 2 ^ 31 by have := r.isLt; omega) hk, WordCmp.select_decide]

/-- A column rotated down by `k` rows and masked above row `k` is the column `k` rows earlier. -/
theorem rotate_past (k : ℕ) (hk : k < 2064) (f : Fin 2064 → EReal) (r : Fin 2064) (h : (r.val + 2064 - k) % 2064 < 2064) :
    (if k ≤ r.val then f ⟨(r.val + 2064 - k) % 2064, h⟩ else 0) = past k f r := by
  unfold past
  split
  · congr 1; apply Fin.ext; have := r.isLt; show (r.val + 2064 - k) % 2064 = r.val - k; omega
  · rfl

/-- A column rotated up by `k` rows and masked in its last `k` rows is the column `k` rows later. -/
theorem rotate_ahead (k : ℕ) (hk : k < 2064) (f : Fin 2064 → EReal) (r : Fin 2064) (h : (r.val + 2064 - (2064 - k)) % 2064 < 2064) :
    (if r.val < 2064 - k then f ⟨(r.val + 2064 - (2064 - k)) % 2064, h⟩ else 0) = ahead k f r := by
  unfold ahead
  have hr := r.isLt
  by_cases hc : r.val < 2064 - k
  · rw [if_pos hc, dif_pos (show r.val + k < 2064 by omega)]
    congr 1; apply Fin.ext; show (r.val + 2064 - (2064 - k)) % 2064 = r.val + k; omega
  · rw [if_neg hc, dif_neg (show ¬ r.val + k < 2064 by omega)]

end Shifts

section Payloads

variable (c x b dy : FVec Ideal S2064x256 .f32) (w : FVec Ideal S3x256 .f32) (r : Fin 2064) (l : Fin 256)

theorem pay3_apply : k0_pay3 (F := Ideal) c x (ix2 r l) = col c l r * col x l r := by
  pointwise [k0_pay3]

theorem pay4_apply : k0_pay4 (F := Ideal) c x (ix2 r l) = past 1 (fun k => col c l k * col x l k) r := by
  refine Eq.trans ?_ (rotate_past 1 (by decide) _ r (Nat.mod_lt _ (by decide)))
  rw [← select_ge r 1 (by decide)]
  pointwise [k0_pay4, k0_pay3]

theorem pay5_apply : k0_pay5 (F := Ideal) c x (ix2 r l) = past 2 (fun k => col c l k * col x l k) r := by
  refine Eq.trans ?_ (rotate_past 2 (by decide) _ r (Nat.mod_lt _ (by decide)))
  rw [← select_ge r 2 (by decide)]
  pointwise [k0_pay5, k0_pay3]

theorem pay7_apply : k0_pay7 (F := Ideal) dy b (ix2 r l) = col dy l r * col b l r := by
  pointwise [k0_pay7]

/-- The gate's gradient. -/
theorem pay6_apply : k0_pay6 (F := Ideal) c x w dy (ix2 r l) = gateGrad (taps w l) (col c l) (col x l) (col dy l) r := by
  unfold gateGrad conv
  rw [← pay5_apply, ← pay4_apply]
  pointwise [k0_pay6, pay3_apply]

/-- The gradient at the product `c · x`. -/
theorem pay10_apply : k0_pay10 (F := Ideal) w (k0_pay7 dy b) (k0_pay8 w dy b) (k0_pay9 w) (iota .tc S2064x256 32 [0] iota_S2064x256_d0_w32) 2063#32 (ix2 r l)
    = convT (taps w l) (fun k => col dy l k * col b l k) r := by
  unfold convT
  rw [← rotate_ahead 1 (by decide) _ r (Nat.mod_lt _ (by decide)), ← rotate_ahead 2 (by decide) _ r (Nat.mod_lt _ (by decide))]
  simp only [Nat.reduceSub]
  rw [← select_lt r 2063 (by decide), ← select_lt r 2062 (by decide)]
  pointwise [k0_pay10, k0_pay7, k0_pay8, k0_pay9]

/-- The gradient of the factor `c`. -/
theorem pay11_apply : k0_pay11 (F := Ideal) x w (k0_pay7 dy b) (k0_pay8 w dy b) (k0_pay9 w) (iota .tc S2064x256 32 [0] iota_S2064x256_d0_w32) 2063#32 (ix2 r l)
    = factorGrad (taps w l) (col b l) (col dy l) (col x l) r := by
  unfold factorGrad
  rw [← pay10_apply]
  pointwise [k0_pay11]

/-- The gradient of the factor `x`. -/
theorem pay12_apply : k0_pay12 (F := Ideal) c w (k0_pay7 dy b) (k0_pay8 w dy b) (k0_pay9 w) (iota .tc S2064x256 32 [0] iota_S2064x256_d0_w32) 2063#32 (ix2 r l)
    = factorGrad (taps w l) (col b l) (col dy l) (col c l) r := by
  unfold factorGrad
  rw [← pay10_apply]
  pointwise [k0_pay12]

/-- The three taps' sums over a block's rows, added to what was there. -/
theorem pay14_apply (v : FVec Ideal S1x256 .f32) : k0_pay14 (F := Ideal) (k0_pay5 c x) (k0_pay7 dy b) v (ix2 0 l)
    = v (ix2 0 l) + tapGrad 2 (col b l) (col c l) (col x l) (col dy l) := by
  unfold tapGrad
  simp only [← fun r => pay5_apply c x r l, ← fun r => pay7_apply b dy r l]
  pointwise [k0_pay14]

theorem pay1_apply (v : FVec Ideal S1x256 .f32) : k0_pay1 (F := Ideal) (k0_pay15 v) (k0_pay16 (k0_pay4 c x) (k0_pay7 dy b)) (ix2 0 l)
    = v (ix2 0 l) + tapGrad 1 (col b l) (col c l) (col x l) (col dy l) := by
  unfold tapGrad
  simp only [← fun r => pay4_apply c x r l, ← fun r => pay7_apply b dy r l]
  pointwise [k0_pay1, k0_pay15, k0_pay16]

theorem pay2_apply (v : FVec Ideal S1x256 .f32) : k0_pay2 (F := Ideal) (k0_pay3 c x) (k0_pay7 dy b) v (ix2 0 l)
    = v (ix2 0 l) + tapGrad 0 (col b l) (col c l) (col x l) (col dy l) := by
  unfold tapGrad
  simp only [past_zero, ← fun r => pay3_apply c x r l, ← fun r => pay7_apply b dy r l]
  pointwise [k0_pay2]

end Payloads

/-! ## The taps' three rows -/

section Rows

variable {Val : EltTy → Type} [∀ e, Nonempty (Val e)] {e : EltTy}

/-- Row `k` of the taps, read through the rectangle that holds it. -/
theorem row_emb (k : ℕ) (hk : k < 3) (h : ∀ a, (![k, 0] : Fin 2 → ℕ) a + (![1, 256] : Fin 2 → ℕ) a ≤ S3x256.size a) (l : Fin 256) :
    (Rect.unit (s := S3x256) ![k, 0] ![1, 256] h).emb (ix2 0 l) = ix2 ⟨k, hk⟩ l := by
  funext a; apply Fin.ext; fin_cases a
  · show k + 1 * 0 = k; omega
  · show 0 + 1 * l.val = l.val; omega

/-- A row is outside the rectangle of another row. -/
theorem row_not_mem (k : ℕ) (h : ∀ a, (![k, 0] : Fin 2 → ℕ) a + (![1, 256] : Fin 2 → ℕ) a ≤ S3x256.size a) (j : Fin 3) (hj : j.val ≠ k) (l : Fin 256) :
    ix2 j l ∉ (Rect.unit (s := S3x256) ![k, 0] ![1, 256] h).set := by
  rw [Rect.mem_set_unit]
  intro hm
  have h0 : k ≤ j.val ∧ j.val < k + 1 := hm 0
  omega

/-- A store to another row is not seen. -/
theorem canon_row_ne (k : ℕ) (h : ∀ a, (![k, 0] : Fin 2 → ℕ) a + (![1, 256] : Fin 2 → ℕ) a ≤ S3x256.size a) (p : (⟨2, ![1, 256]⟩ : Shape).Idx → Val e)
    (L : List (View.Piece Val S3x256 e)) (j : Fin 3) (hj : j.val ≠ k) (l : Fin 256) :
    View.canon ((⟨Rect.unit (s := S3x256) ![k, 0] ![1, 256] h, p⟩ : View.Piece Val S3x256 e) :: L) (ix2 j l) = View.canon L (ix2 j l) := by
  rw [View.canon_cons]
  exact Rect.overlay_of_not_mem (Rect.unit (s := S3x256) ![k, 0] ![1, 256] h) _ _ (row_not_mem k h j hj l)

/-- A row reads the store made to it last. -/
theorem canon_row (k : ℕ) (hk : k < 3) (h : ∀ a, (![k, 0] : Fin 2 → ℕ) a + (![1, 256] : Fin 2 → ℕ) a ≤ S3x256.size a) (p : (⟨2, ![1, 256]⟩ : Shape).Idx → Val e)
    (L : List (View.Piece Val S3x256 e)) (l : Fin 256) :
    View.canon ((⟨Rect.unit (s := S3x256) ![k, 0] ![1, 256] h, p⟩ : View.Piece Val S3x256 e) :: L) (ix2 ⟨k, hk⟩ l) = p (ix2 0 l) := by
  rw [← row_emb k hk h l]
  exact View.canon_cons_emb (Rect.unit (s := S3x256) ![k, 0] ![1, 256] h) p L (ix2 0 l)

end Rows

/-- The zeros the taps' gradient starts from. -/
theorem zero_apply (j : S3x256.Idx) : k0_pay13 (F := Ideal) j = 0 := by
  obtain ⟨k, l, rfl⟩ : ∃ k l, j = ix2 k l := ⟨j 0, j 1, by funext a; fin_cases a <;> rfl⟩
  pointwise [k0_pay13]

/-! ## What the body leaves -/

section Outs

variable (d : Dev nD) (i : grid0.Coords)
  (a2 : Memref sig .tc .vmem S2064x256 .f32) (h2 : a2.IsWhole) (a3 : Memref sig .tc .vmem S2064x256 .f32) (h3 : a3.IsWhole)
  (a4 : Memref sig .tc .vmem S2064x256 .f32) (h4 : a4.IsWhole) (a5 : Memref sig .tc .vmem S2064x256 .f32) (h5 : a5.IsWhole)
  (a6 : Memref sig .tc .vmem S3x256 .f32) (h6 : a6.IsWhole) (a7 : Memref sig .tc .vmem S2064x256 .bf16) (h7 : a7.IsWhole)
  (a8 : Memref sig .tc .vmem S2064x256 .bf16) (h8 : a8.IsWhole) (a9 : Memref sig .tc .vmem S2064x256 .bf16) (h9 : a9.IsWhole)
  (a10 : Memref sig .tc .vmem S3x256 .f32) (h10 : a10.IsWhole)
  (b c x dy : Vec Ideal S2064x256 .f32) (w : Vec Ideal S3x256 .f32)

theorem out5_A (hc : cond0_0 i) :
    out0_A_5 (F := Ideal) d i a2 h2 a3 h3 a4 h4 a5 h5 a6 h6 a7 h7 a8 h8 a9 h9 a10 h10 hc b c x dy w = k0_pay6 c x w dy := by
  unfold out0_A_5
  rw [View.read_writes_eq_canon]; swap; · intro; apply cover0_A_5
  unfold kernelRun0_A
  dsimp only
  sl_unfold_words
  rw [View.canon_unit_zero hz]
  simp only [View.readAt_eq_ld, Memref.IsWhole.read_unread, View.ld_unit_zero (S := S2064x256) hz, View.ld_unit_zero (S := S3x256) hz]

theorem out6_A (hc : cond0_0 i) :
    out0_A_6 (F := Ideal) d i a2 h2 a3 h3 a4 h4 a5 h5 a6 h6 a7 h7 a8 h8 a9 h9 a10 h10 hc b c x dy w = k0_pay11 x w (k0_pay7 dy b) (k0_pay8 w dy b) (k0_pay9 w) (iota .tc S2064x256 32 [0] iota_S2064x256_d0_w32) 2063#32 := by
  unfold out0_A_6
  rw [View.read_writes_eq_canon]; swap; · intro; apply cover0_A_6
  unfold kernelRun0_A
  dsimp only
  sl_unfold_words
  rw [View.canon_unit_zero hz]
  simp only [View.readAt_eq_ld, Memref.IsWhole.read_unread, View.ld_unit_zero (S := S2064x256) hz, View.ld_unit_zero (S := S3x256) hz]

theorem out7_A (hc : cond0_0 i) :
    out0_A_7 (F := Ideal) d i a2 h2 a3 h3 a4 h4 a5 h5 a6 h6 a7 h7 a8 h8 a9 h9 a10 h10 hc b c x dy w = k0_pay12 c w (k0_pay7 dy b) (k0_pay8 w dy b) (k0_pay9 w) (iota .tc S2064x256 32 [0] iota_S2064x256_d0_w32) 2063#32 := by
  unfold out0_A_7
  rw [View.read_writes_eq_canon]; swap; · intro; apply cover0_A_7
  unfold kernelRun0_A
  dsimp only
  sl_unfold_words
  rw [View.canon_unit_zero hz]
  simp only [View.readAt_eq_ld, Memref.IsWhole.read_unread, View.ld_unit_zero (S := S2064x256) hz, View.ld_unit_zero (S := S3x256) hz]

theorem out5_B (hc : ¬ cond0_0 i) (o : Vec Ideal S3x256 .f32) :
    out0_B_5 (F := Ideal) d i a2 h2 a3 h3 a4 h4 a5 h5 a6 h6 a7 h7 a8 h8 a9 h9 a10 h10 hc b c x dy w o = k0_pay6 c x w dy := by
  unfold out0_B_5
  rw [View.read_writes_eq_canon]; swap; · intro; apply cover0_B_5
  unfold kernelRun0_B
  dsimp only
  sl_unfold_words
  rw [View.canon_unit_zero hz]
  simp only [View.readAt_eq_ld, Memref.IsWhole.read_unread, View.ld_unit_zero (S := S2064x256) hz, View.ld_unit_zero (S := S3x256) hz]

theorem out6_B (hc : ¬ cond0_0 i) (o : Vec Ideal S3x256 .f32) :
    out0_B_6 (F := Ideal) d i a2 h2 a3 h3 a4 h4 a5 h5 a6 h6 a7 h7 a8 h8 a9 h9 a10 h10 hc b c x dy w o = k0_pay11 x w (k0_pay7 dy b) (k0_pay8 w dy b) (k0_pay9 w) (iota .tc S2064x256 32 [0] iota_S2064x256_d0_w32) 2063#32 := by
  unfold out0_B_6
  rw [View.read_writes_eq_canon]; swap; · intro; apply cover0_B_6
  unfold kernelRun0_B
  dsimp only
  sl_unfold_words
  rw [View.canon_unit_zero hz]
  simp only [View.readAt_eq_ld, Memref.IsWhole.read_unread, View.ld_unit_zero (S := S2064x256) hz, View.ld_unit_zero (S := S3x256) hz]

theorem out7_B (hc : ¬ cond0_0 i) (o : Vec Ideal S3x256 .f32) :
    out0_B_7 (F := Ideal) d i a2 h2 a3 h3 a4 h4 a5 h5 a6 h6 a7 h7 a8 h8 a9 h9 a10 h10 hc b c x dy w o = k0_pay12 c w (k0_pay7 dy b) (k0_pay8 w dy b) (k0_pay9 w) (iota .tc S2064x256 32 [0] iota_S2064x256_d0_w32) 2063#32 := by
  unfold out0_B_7
  rw [View.read_writes_eq_canon]; swap; · intro; apply cover0_B_7
  unfold kernelRun0_B
  dsimp only
  sl_unfold_words
  rw [View.canon_unit_zero hz]
  simp only [View.readAt_eq_ld, Memref.IsWhole.read_unread, View.ld_unit_zero (S := S2064x256) hz, View.ld_unit_zero (S := S3x256) hz]

theorem out8_A0 (hc : cond0_0 i) (l : Fin 256) :
    out0_A_8 (F := Ideal) d i a2 h2 a3 h3 a4 h4 a5 h5 a6 h6 a7 h7 a8 h8 a9 h9 a10 h10 hc b c x dy w (ix2 0 l)
      = 0 + tapGrad 2 (col b l) (col c l) (col x l) (col dy l) := by
  unfold out0_A_8
  rw [View.read_writes_eq_canon]; swap; · intro; apply cover0_A_8
  unfold kernelRun0_A
  dsimp only
  sl_unfold_words
  refine (canon_row_ne 2 _ _ _ 0 (by decide) l).trans ((canon_row_ne 1 _ _ _ 0 (by decide) l).trans ((canon_row 0 (by decide) _ _ _ l).trans ?_))
  simp only [View.readAt_eq_ld, Memref.IsWhole.read_unread, View.ld_unit_zero (S := S2064x256) hz, View.ld_unit_zero (S := S3x256) hz]
  refine (pay14_apply _ _ _ _ _ _).trans (congrArg (· + _) ?_)
  rw [View.readCov_fill _ _ _ _ _ (fun a => by fin_cases a <;> rfl)]
  exact zero_apply _

theorem out8_A1 (hc : cond0_0 i) (l : Fin 256) :
    out0_A_8 (F := Ideal) d i a2 h2 a3 h3 a4 h4 a5 h5 a6 h6 a7 h7 a8 h8 a9 h9 a10 h10 hc b c x dy w (ix2 1 l)
      = 0 + tapGrad 1 (col b l) (col c l) (col x l) (col dy l) := by
  unfold out0_A_8
  rw [View.read_writes_eq_canon]; swap; · intro; apply cover0_A_8
  unfold kernelRun0_A
  dsimp only
  sl_unfold_words
  refine (canon_row_ne 2 _ _ _ 1 (by decide) l).trans ((canon_row 1 (by decide) _ _ _ l).trans ?_)
  simp only [View.readAt_eq_ld, Memref.IsWhole.read_unread, View.ld_unit_zero (S := S2064x256) hz, View.ld_unit_zero (S := S3x256) hz]
  refine (pay1_apply _ _ _ _ _ _).trans (congrArg (· + _) ?_)
  rw [View.readCov_skip _ _ _ _ _ (by decide +kernel), View.readCov_fill _ _ _ _ _ (fun a => by fin_cases a <;> rfl)]
  exact zero_apply _

theorem out8_A2 (hc : cond0_0 i) (l : Fin 256) :
    out0_A_8 (F := Ideal) d i a2 h2 a3 h3 a4 h4 a5 h5 a6 h6 a7 h7 a8 h8 a9 h9 a10 h10 hc b c x dy w (ix2 2 l)
      = 0 + tapGrad 0 (col b l) (col c l) (col x l) (col dy l) := by
  unfold out0_A_8
  rw [View.read_writes_eq_canon]; swap; · intro; apply cover0_A_8
  unfold kernelRun0_A
  dsimp only
  sl_unfold_words
  refine (canon_row 2 (by decide) _ _ _ l).trans ?_
  simp only [View.readAt_eq_ld, Memref.IsWhole.read_unread, View.ld_unit_zero (S := S2064x256) hz, View.ld_unit_zero (S := S3x256) hz]
  refine (pay2_apply _ _ _ _ _ _).trans (congrArg (· + _) ?_)
  rw [View.readCov_skip _ _ _ _ _ (by decide +kernel), View.readCov_skip _ _ _ _ _ (by decide +kernel), View.readCov_fill _ _ _ _ _ (fun a => by fin_cases a <;> rfl)]
  exact zero_apply _

theorem out8_B0 (hc : ¬ cond0_0 i) (o : Vec Ideal S3x256 .f32) (l : Fin 256) :
    out0_B_8 (F := Ideal) d i a2 h2 a3 h3 a4 h4 a5 h5 a6 h6 a7 h7 a8 h8 a9 h9 a10 h10 hc b c x dy w o (ix2 0 l)
      = o (ix2 0 l) + tapGrad 2 (col b l) (col c l) (col x l) (col dy l) := by
  unfold out0_B_8
  rw [View.read_writes_eq_canon]; swap; · intro; apply cover0_B_8
  unfold kernelRun0_B
  dsimp only
  sl_unfold_words
  refine (canon_row_ne 2 _ _ _ 0 (by decide) l).trans ((canon_row_ne 1 _ _ _ 0 (by decide) l).trans ((canon_row 0 (by decide) _ _ _ l).trans ?_))
  simp only [View.readAt_eq_ld, Memref.IsWhole.read_unread, View.ld_unit_zero (S := S2064x256) hz, View.ld_unit_zero (S := S3x256) hz]
  exact (pay14_apply _ _ _ _ _ _).trans (congrArg (· + _) (congrArg o (row_emb 0 (by decide) _ l)))

theorem out8_B1 (hc : ¬ cond0_0 i) (o : Vec Ideal S3x256 .f32) (l : Fin 256) :
    out0_B_8 (F := Ideal) d i a2 h2 a3 h3 a4 h4 a5 h5 a6 h6 a7 h7 a8 h8 a9 h9 a10 h10 hc b c x dy w o (ix2 1 l)
      = o (ix2 1 l) + tapGrad 1 (col b l) (col c l) (col x l) (col dy l) := by
  unfold out0_B_8
  rw [View.read_writes_eq_canon]; swap; · intro; apply cover0_B_8
  unfold kernelRun0_B
  dsimp only
  sl_unfold_words
  refine (canon_row_ne 2 _ _ _ 1 (by decide) l).trans ((canon_row 1 (by decide) _ _ _ l).trans ?_)
  simp only [View.readAt_eq_ld, Memref.IsWhole.read_unread, View.ld_unit_zero (S := S2064x256) hz, View.ld_unit_zero (S := S3x256) hz]
  exact (pay1_apply _ _ _ _ _ _).trans (congrArg (· + _) (congrArg o (row_emb 1 (by decide) _ l)))

theorem out8_B2 (hc : ¬ cond0_0 i) (o : Vec Ideal S3x256 .f32) (l : Fin 256) :
    out0_B_8 (F := Ideal) d i a2 h2 a3 h3 a4 h4 a5 h5 a6 h6 a7 h7 a8 h8 a9 h9 a10 h10 hc b c x dy w o (ix2 2 l)
      = o (ix2 2 l) + tapGrad 0 (col b l) (col c l) (col x l) (col dy l) := by
  unfold out0_B_8
  rw [View.read_writes_eq_canon]; swap; · intro; apply cover0_B_8
  unfold kernelRun0_B
  dsimp only
  sl_unfold_words
  refine (canon_row 2 (by decide) _ _ _ l).trans ?_
  simp only [View.readAt_eq_ld, Memref.IsWhole.read_unread, View.ld_unit_zero (S := S2064x256) hz, View.ld_unit_zero (S := S3x256) hz]
  exact (pay2_apply _ _ _ _ _ _).trans (congrArg (· + _) (congrArg o (row_emb 2 (by decide) _ l)))

end Outs

end Cert.ConvBwdIdeal.Block

end
-- ==== Proof.ConvArray.lean ====
/-
  The convolution's backward kernel, whole: what each of its four result arrays holds after the run, at every index, as
  a function of the three arguments. A grid point is a pair (channel block, sequence); the gradients of the gate and of
  the factors are written block by block, and the taps' gradient is the sum over the two sequences.
-/
module

public import proofs.«01_k».proof.Proof.Products
public import proofs.«01_k».proof.Proof.ConvBlock

@[expose] public section

set_option maxRecDepth 16384

noncomputable section

open Idealize.ShloMosaic Idealize.ShloMosaic.TcCoe Idealize.SL.Sem
open Idealize.ShloMosaic.Pipeline (Dat)

namespace Cert.ConvBwdIdeal.Array

open Cert.ConvBwdIdeal Cert.ConvBwdIdeal.Gen Cert.ConvBwdIdeal.Value Cert.ConvBwdIdeal.Block Cert.ConvSpec

variable (m : (ℓ : Loc nD τ sig) → Buf (Elt Ideal) ℓ) (ρ : Dev nD → PrngReg)

/-- The arguments, as arrays of extended reals. -/
abbrev argU (c : Dev nD) : FVec Ideal S4128x8192 .f32 := m ((c : Thread nD τ).loc main_arg0)
abbrev argD (c : Dev nD) : FVec Ideal S4128x4096 .f32 := m ((c : Thread nD τ).loc main_arg1)
abbrev argW (c : Dev nD) : FVec Ideal S3x2048 .f32 := m ((c : Thread nD τ).loc main_arg2)

/-! ## Where each block lies -/

theorem N16 (t : Fin cfg0.N) : t.val < 16 := lt_of_lt_of_eq t.isLt (show cfg0.N = 16 from N_0)

theorem at0 : ∀ t : Fin cfg0.N, win0_0.index t 0 = t.val % 2 ∧ win0_0.index t 1 = t.val / 2 :=
  show ∀ t : Fin grid0.N, _ by decide +kernel
theorem at1 : ∀ t : Fin cfg0.N, win0_1.index t 0 = t.val % 2 ∧ win0_1.index t 1 = t.val / 2 + 8 :=
  show ∀ t : Fin grid0.N, _ by decide +kernel
theorem at2 : ∀ t : Fin cfg0.N, win0_2.index t 0 = t.val % 2 ∧ win0_2.index t 1 = t.val / 2 + 16 :=
  show ∀ t : Fin grid0.N, _ by decide +kernel
theorem at3 : ∀ t : Fin cfg0.N, win0_3.index t 0 = t.val % 2 ∧ win0_3.index t 1 = t.val / 2 :=
  show ∀ t : Fin grid0.N, _ by decide +kernel
theorem at4 : ∀ t : Fin cfg0.N, win0_4.index t 0 = 0 ∧ win0_4.index t 1 = t.val / 2 :=
  show ∀ t : Fin grid0.N, _ by decide +kernel
theorem at5 : ∀ t : Fin cfg0.N, win0_5.index t 0 = t.val % 2 ∧ win0_5.index t 1 = t.val / 2 :=
  show ∀ t : Fin grid0.N, _ by decide +kernel
theorem at6 : ∀ t : Fin cfg0.N, win0_6.index t 0 = t.val % 2 ∧ win0_6.index t 1 = t.val / 2 :=
  show ∀ t : Fin grid0.N, _ by decide +kernel
theorem at7 : ∀ t : Fin cfg0.N, win0_7.index t 0 = t.val % 2 ∧ win0_7.index t 1 = t.val / 2 :=
  show ∀ t : Fin grid0.N, _ by decide +kernel
theorem at8 : ∀ t : Fin cfg0.N, win0_8.index t 0 = 0 ∧ win0_8.index t 1 = t.val / 2 :=
  show ∀ t : Fin grid0.N, _ by decide +kernel

/-- The sequence and the channel of a block's row and lane. -/
def seqOf (t : Fin cfg0.N) : Fin 2 := ⟨t.val % 2, Nat.mod_lt _ (by decide)⟩
def chan (t : Fin cfg0.N) (l : Fin 256) : Fin 2048 := ⟨t.val / 2 * 256 + l.val, by have := N16 t; have := l.isLt; omega⟩

/-- The grid point that writes an index of the gradients. -/
def pointOf (i : S4128x2048.Idx) : Fin cfg0.N :=
  ⟨(i 1 : Nat) / 256 * 2 + (i 0 : Nat) / 2064, by
    have h0 : (i 0 : Nat) < 4128 := (i 0).isLt
    have h1 : (i 1 : Nat) < 2048 := (i 1).isLt
    rw [show cfg0.N = 16 from N_0]; omega⟩

theorem point_row (i : S4128x2048.Idx) : (pointOf i).val % 2 = (i 0).val / 2064 := by
  have h : (i 0).val < 4128 := (i 0).isLt
  show ((i 1).val / 256 * 2 + (i 0).val / 2064) % 2 = _
  omega

theorem point_col (i : S4128x2048.Idx) : (pointOf i).val / 2 = (i 1).val / 256 := by
  have h : (i 0).val < 4128 := (i 0).isLt
  show ((i 1).val / 256 * 2 + (i 0).val / 2064) / 2 = _
  omega

theorem blk0 (c : Dev nD) (t : Fin cfg0.N) (l : Fin 256) :
    col (iblk m c 0 t) l = gateCol (argU m c) (seqOf t) (chan t l) := by
  funext r
  show iblk m c 0 t (ix2 r l) = argU m c _
  unfold iblk
  rw [View.read_apply]
  exact congrArg (m (c.tc.loc main_arg0)) (funext fun a => Fin.ext (Products.lies (at0 t) r l rfl rfl a))

theorem blk1 (c : Dev nD) (t : Fin cfg0.N) (l : Fin 256) :
    col (iblk m c 1 t) l = cCol (argU m c) (seqOf t) (chan t l) := by
  funext r
  show iblk m c 1 t (ix2 r l) = argU m c _
  unfold iblk
  rw [View.read_apply]
  exact congrArg (m (c.tc.loc main_arg0)) (funext fun a => Fin.ext (Products.lies (at1 t) r l rfl (show 2048 + (t.val / 2 * 256 + l.val) = (t.val / 2 + 8) * 256 + l.val by omega) a))

theorem blk2 (c : Dev nD) (t : Fin cfg0.N) (l : Fin 256) :
    col (iblk m c 2 t) l = xCol (argU m c) (seqOf t) (chan t l) := by
  funext r
  show iblk m c 2 t (ix2 r l) = argU m c _
  unfold iblk
  rw [View.read_apply]
  exact congrArg (m (c.tc.loc main_arg0)) (funext fun a => Fin.ext (Products.lies (at2 t) r l rfl (show 4096 + (t.val / 2 * 256 + l.val) = (t.val / 2 + 16) * 256 + l.val by omega) a))

theorem blk3 (c : Dev nD) (t : Fin cfg0.N) (l : Fin 256) :
    col (iblk m c 3 t) l = dyCol (argD m c) (seqOf t) (chan t l) := by
  funext r
  show iblk m c 3 t (ix2 r l) = argD m c _
  unfold iblk
  rw [View.read_apply]
  exact congrArg (m (c.tc.loc main_arg1)) (funext fun a => Fin.ext (Products.lies (at3 t) r l rfl rfl a))

theorem blk4 (c : Dev nD) (t : Fin cfg0.N) (l : Fin 256) : taps (iblk m c 4 t) l = tapCol (argW m c) (chan t l) := by
  funext k
  show iblk m c 4 t (ix2 k l) = argW m c _
  unfold iblk
  rw [View.read_apply]
  exact congrArg (m (c.tc.loc main_arg2)) (funext fun a => Fin.ext (Products.lies (at4 t) k l (show k.val = 0 * 3 + k.val by omega) rfl a))

/-! ## The three gradients written block by block -/

theorem wrote5 (c : Dev nD) (t : Fin cfg0.N) :
    (dats m 0 c).flushed 5 t = (cfg0.win 5).cut (grid0.coords t) (k0_pay6 (iblk m c 1 t) (iblk m c 2 t) (iblk m c 4 t) (iblk m c 3 t)) := by
  by_cases h0 : t.val % 2 = 0
  · rw [flushed5_A m c t h0, out5_A]
  · rw [flushed5_B m c t h0, out5_B]

theorem final5 (c : Dev nD) : (dats m 0 c).arrAt 5 cfg0.N = gateOut (argU m c) (argD m c) (argW m c) :=
  (dats m 0 c).arrAt_eq_of_cover 5 (gateOut (argU m c) (argD m c) (argW m c)) (fun t _ => by
    rw [wrote5]
    funext j
    obtain ⟨r, l, rfl⟩ : ∃ (r : Fin 2064) (l : Fin 256), j = ix2 r l := ⟨j 0, j 1, by funext a; fin_cases a <;> rfl⟩
    rw [View.read_apply]
    have hj : ((cfg0.win 5).blk t).view.emb (ix2 r l) = ix2 (rowOf (seqOf t) r) (chan t l) :=
      funext fun a => Fin.ext (Products.lies (at5 t) r l rfl rfl a)
    rw [hj, gateOut_apply]
    refine (pay6_apply (iblk m c 1 t) (iblk m c 2 t) (iblk m c 3 t) (iblk m c 4 t) r l).trans ?_
    rw [blk1 m c t l, blk2 m c t l, blk3 m c t l, blk4 m c t l]
    rfl) fun i =>
    ⟨pointOf i, flush0_5 _, by
      show i ∈ ((View.whole main_v0_0).slice (win0_5.rect (pointOf i))).set
      rw [View.set_slice_whole, Rect.mem_set_unit]
      exact Products.holds i (at5 (pointOf i)) (point_row i) (point_col i) (by decide) (by decide)⟩

theorem wrote6 (c : Dev nD) (t : Fin cfg0.N) :
    (dats m 0 c).flushed 6 t = (cfg0.win 6).cut (grid0.coords t) (k0_pay11 (iblk m c 2 t) (iblk m c 4 t) (k0_pay7 (iblk m c 3 t) (iblk m c 0 t)) (k0_pay8 (iblk m c 4 t) (iblk m c 3 t) (iblk m c 0 t)) (k0_pay9 (iblk m c 4 t)) (iota .tc S2064x256 32 [0] iota_S2064x256_d0_w32) 2063#32) := by
  by_cases h0 : t.val % 2 = 0
  · rw [flushed6_A m c t h0, out6_A]
  · rw [flushed6_B m c t h0, out6_B]

theorem final6 (c : Dev nD) : (dats m 0 c).arrAt 6 cfg0.N = cOut (argU m c) (argD m c) (argW m c) :=
  (dats m 0 c).arrAt_eq_of_cover 6 (cOut (argU m c) (argD m c) (argW m c)) (fun t _ => by
    rw [wrote6]
    funext j
    obtain ⟨r, l, rfl⟩ : ∃ (r : Fin 2064) (l : Fin 256), j = ix2 r l := ⟨j 0, j 1, by funext a; fin_cases a <;> rfl⟩
    rw [View.read_apply]
    have hj : ((cfg0.win 6).blk t).view.emb (ix2 r l) = ix2 (rowOf (seqOf t) r) (chan t l) :=
      funext fun a => Fin.ext (Products.lies (at6 t) r l rfl rfl a)
    rw [hj, cOut_apply]
    refine (pay11_apply (iblk m c 2 t) (iblk m c 0 t) (iblk m c 3 t) (iblk m c 4 t) r l).trans ?_
    rw [blk0 m c t l, blk2 m c t l, blk3 m c t l, blk4 m c t l]
    rfl) fun i =>
    ⟨pointOf i, flush0_6 _, by
      show i ∈ ((View.whole main_v0_1).slice (win0_6.rect (pointOf i))).set
      rw [View.set_slice_whole, Rect.mem_set_unit]
      exact Products.holds i (at6 (pointOf i)) (point_row i) (point_col i) (by decide) (by decide)⟩

theorem wrote7 (c : Dev nD) (t : Fin cfg0.N) :
    (dats m 0 c).flushed 7 t = (cfg0.win 7).cut (grid0.coords t) (k0_pay12 (iblk m c 1 t) (iblk m c 4 t) (k0_pay7 (iblk m c 3 t) (iblk m c 0 t)) (k0_pay8 (iblk m c 4 t) (iblk m c 3 t) (iblk m c 0 t)) (k0_pay9 (iblk m c 4 t)) (iota .tc S2064x256 32 [0] iota_S2064x256_d0_w32) 2063#32) := by
  by_cases h0 : t.val % 2 = 0
  · rw [flushed7_A m c t h0, out7_A]
  · rw [flushed7_B m c t h0, out7_B]

theorem final7 (c : Dev nD) : (dats m 0 c).arrAt 7 cfg0.N = xOut (argU m c) (argD m c) (argW m c) :=
  (dats m 0 c).arrAt_eq_of_cover 7 (xOut (argU m c) (argD m c) (argW m c)) (fun t _ => by
    rw [wrote7]
    funext j
    obtain ⟨r, l, rfl⟩ : ∃ (r : Fin 2064) (l : Fin 256), j = ix2 r l := ⟨j 0, j 1, by funext a; fin_cases a <;> rfl⟩
    rw [View.read_apply]
    have hj : ((cfg0.win 7).blk t).view.emb (ix2 r l) = ix2 (rowOf (seqOf t) r) (chan t l) :=
      funext fun a => Fin.ext (Products.lies (at7 t) r l rfl rfl a)
    rw [hj, xOut_apply]
    refine (pay12_apply (iblk m c 1 t) (iblk m c 0 t) (iblk m c 3 t) (iblk m c 4 t) r l).trans ?_
    rw [blk0 m c t l, blk1 m c t l, blk3 m c t l, blk4 m c t l]
    rfl) fun i =>
    ⟨pointOf i, flush0_7 _, by
      show i ∈ ((View.whole main_v0_2).slice (win0_7.rect (pointOf i))).set
      rw [View.set_slice_whole, Rect.mem_set_unit]
      exact Products.holds i (at7 (pointOf i)) (point_row i) (point_col i) (by decide) (by decide)⟩

/-! ## The taps' gradient: two sequences, one after the other -/

variable (d : Dev nD) (i : grid0.Coords)
  (a2 : Memref sig .tc .vmem S2064x256 .f32) (h2 : a2.IsWhole) (a3 : Memref sig .tc .vmem S2064x256 .f32) (h3 : a3.IsWhole)
  (a4 : Memref sig .tc .vmem S2064x256 .f32) (h4 : a4.IsWhole) (a5 : Memref sig .tc .vmem S2064x256 .f32) (h5 : a5.IsWhole)
  (a6 : Memref sig .tc .vmem S3x256 .f32) (h6 : a6.IsWhole) (a7 : Memref sig .tc .vmem S2064x256 .bf16) (h7 : a7.IsWhole)
  (a8 : Memref sig .tc .vmem S2064x256 .bf16) (h8 : a8.IsWhole) (a9 : Memref sig .tc .vmem S2064x256 .bf16) (h9 : a9.IsWhole)
  (a10 : Memref sig .tc .vmem S3x256 .f32) (h10 : a10.IsWhole)
  (b c x dy : Vec Ideal S2064x256 .f32) (w : Vec Ideal S3x256 .f32)

theorem taps_A (hc : cond0_0 i) (k : Fin 3) (l : Fin 256) :
    out0_A_8 (F := Ideal) d i a2 h2 a3 h3 a4 h4 a5 h5 a6 h6 a7 h7 a8 h8 a9 h9 a10 h10 hc b c x dy w (ix2 k l)
      = tapGrad (2 - k.val) (col b l) (col c l) (col x l) (col dy l) := by
  refine Eq.trans ?_ (zero_add _)
  match k with
  | 0 => exact out8_A0 d i a2 h2 a3 h3 a4 h4 a5 h5 a6 h6 a7 h7 a8 h8 a9 h9 a10 h10 b c x dy w hc l
  | 1 => exact out8_A1 d i a2 h2 a3 h3 a4 h4 a5 h5 a6 h6 a7 h7 a8 h8 a9 h9 a10 h10 b c x dy w hc l
  | 2 => exact out8_A2 d i a2 h2 a3 h3 a4 h4 a5 h5 a6 h6 a7 h7 a8 h8 a9 h9 a10 h10 b c x dy w hc l

theorem taps_B (hc : ¬ cond0_0 i) (o : Vec Ideal S3x256 .f32) (k : Fin 3) (l : Fin 256) :
    out0_B_8 (F := Ideal) d i a2 h2 a3 h3 a4 h4 a5 h5 a6 h6 a7 h7 a8 h8 a9 h9 a10 h10 hc b c x dy w o (ix2 k l)
      = o (ix2 k l) + tapGrad (2 - k.val) (col b l) (col c l) (col x l) (col dy l) := by
  match k with
  | 0 => exact out8_B0 d i a2 h2 a3 h3 a4 h4 a5 h5 a6 h6 a7 h7 a8 h8 a9 h9 a10 h10 b c x dy w hc o l
  | 1 => exact out8_B1 d i a2 h2 a3 h3 a4 h4 a5 h5 a6 h6 a7 h7 a8 h8 a9 h9 a10 h10 b c x dy w hc o l
  | 2 => exact out8_B2 d i a2 h2 a3 h3 a4 h4 a5 h5 a6 h6 a7 h7 a8 h8 a9 h9 a10 h10 b c x dy w hc o l

/-- After a channel block's first sequence. -/
theorem first (c : Dev nD) (t : Fin cfg0.N) (h0 : t.val % 2 = 0) (k : Fin 3) (l : Fin 256) :
    (outsAt0 m c t.val t.isLt).2.2.2 (ix2 k l)
      = tapGrad (2 - k.val) (gateCol (argU m c) (seqOf t) (chan t l)) (cCol (argU m c) (seqOf t) (chan t l)) (xCol (argU m c) (seqOf t) (chan t l)) (dyCol (argD m c) (seqOf t) (chan t l)) := by
  rw [outsAt0_A m c t h0]
  dsimp only
  refine (taps_A (k := k) (l := l) ..).trans ?_
  rw [blk0 m c t l, blk1 m c t l, blk2 m c t l, blk3 m c t l]

/-- After its second. -/
theorem second (c : Dev nD) (t : Fin cfg0.N) (h0 : ¬ t.val % 2 = 0) (k : Fin 3) (l : Fin 256) :
    (outsAt0 m c t.val t.isLt).2.2.2 (ix2 k l) = tapOut (argU m c) (argD m c) (ix2 k (chan t l)) := by
  have ht := N16 t
  rw [outsAt0_B m c t h0]
  dsimp only
  refine (taps_B (k := k) (l := l) ..).trans ?_
  rw [blk0 m c t l, blk1 m c t l, blk2 m c t l, blk3 m c t l]
  have e0 : seqOf t = 1 := Fin.ext (show t.val % 2 = 1 by omega)
  have hp : t.val - 1 < cfg0.N := Nat.lt_of_le_of_lt (Nat.sub_le _ _) t.isLt
  have e1 : seqOf ⟨t.val - 1, hp⟩ = 0 := Fin.ext (show (t.val - 1) % 2 = 0 by omega)
  have e2 : chan ⟨t.val - 1, hp⟩ l = chan t l := Fin.ext (show (t.val - 1) / 2 * 256 + l.val = t.val / 2 * 256 + l.val by omega)
  rw [first m c ⟨t.val - 1, hp⟩ (show (t.val - 1) % 2 = 0 by omega) k l, e0, e1, e2]
  show _ = ∑ s : Fin 2, _
  rw [Fin.sum_univ_two]
  rfl

/-- The last grid point of an index's channel block. -/
def lastOf (i : S3x2048.Idx) : Fin cfg0.N :=
  ⟨(i 1 : Nat) / 256 * 2 + 1, by
    have h1 : (i 1 : Nat) < 2048 := (i 1).isLt
    rw [show cfg0.N = 16 from N_0]; omega⟩

theorem final8 (c : Dev nD) : (dats m 0 c).arrAt 8 cfg0.N = tapOut (argU m c) (argD m c) :=
  (dats m 0 c).arrAt_eq_of_cover 8 (tapOut (argU m c) (argD m c)) (fun t hf => by
    have ht : ¬ t.val % 2 = 0 := by have := (flush0_8 t).mp hf; omega
    rw [flushed8]
    funext j
    obtain ⟨k, l, rfl⟩ : ∃ (k : Fin 3) (l : Fin 256), j = ix2 k l := ⟨j 0, j 1, by funext a; fin_cases a <;> rfl⟩
    rw [View.read_apply]
    have hj : ((cfg0.win 8).blk t).view.emb (ix2 k l) = ix2 k (chan t l) :=
      funext fun a => Fin.ext (Products.lies (at8 t) k l (show k.val = 0 * 3 + k.val by omega) rfl a)
    rw [hj]
    exact second m c t ht k l) fun i =>
    ⟨lastOf i, (flush0_8 _).mpr (by show ((i 1 : Nat) / 256 * 2 + 1) % 2 = 1; omega), by
      show i ∈ ((View.whole main_v0_3).slice (win0_8.rect (lastOf i))).set
      rw [View.set_slice_whole, Rect.mem_set_unit]
      have h0 : (i 0 : Nat) < 3 := (i 0).isLt
      have h1 : (i 1 : Nat) < 2048 := (i 1).isLt
      have hi := at8 (lastOf i)
      have hv : (lastOf i).val = (i 1 : Nat) / 256 * 2 + 1 := rfl
      intro a
      match a with
      | ⟨0, _⟩ => show win0_8.index (lastOf i) 0 * 3 ≤ (i 0 : Nat) ∧ (i 0 : Nat) < win0_8.index (lastOf i) 0 * 3 + 3; rw [hi.1]; omega
      | ⟨1, _⟩ => show win0_8.index (lastOf i) 1 * 256 ≤ (i 1 : Nat) ∧ (i 1 : Nat) < win0_8.index (lastOf i) 1 * 256 + 256; rw [hi.2, hv]; omega⟩

end Cert.ConvBwdIdeal.Array

end
-- ==== Proof.ConvReference.lean ====
/-
  The reference's gradient of the gated convolution, read at an index: the host program's operations are the column
  equations of the convolution and of its transpose, and its zero padding is the columns' zero ends.
-/
module

public import proofs.«01_k».proof.Proof.Gen.ConvRefIdeal.Run
public import proofs.«01_k».proof.Proof.Gen.ConvRefIdeal.Read
public import proofs.«01_k».proof.Proof.ConvSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ConvRefIdeal.Reference

open Cert.ConvRefIdeal Cert.ConvRefIdeal.Gen Cert.ConvRefIdeal.Read Cert.ConvSpec

variable (U : FVec Ideal S4128x8192 .f32) (D : FVec Ideal S4128x4096 .f32) (W : FVec Ideal S3x2048 .f32)
  (s : Fin 2) (r : Fin 2064) (d : Fin 2048)

/-- A sum over the two leading axes of a three-axis array. -/
theorem sum_leading {n0 n1 n2 : ℕ} (h : (⟨3, ![n0, n1, n2]⟩ : Shape).ReducesTo [0, 1] (⟨1, ![n2]⟩ : Shape))
    (v : (⟨3, ![n0, n1, n2]⟩ : Shape).Idx → EReal) (init : EReal) (d : Fin n2) :
    Ideal.hostReduceAdd h v init (ix1 d) = init + ∑ a : Fin n0, ∑ b : Fin n1, v (ix3 a b d) := by
  refine congrArg (init + ·) ?_
  have key : ∀ i : (⟨3, ![n0, n1, n2]⟩ : Shape).Idx, h.drop i = ix1 d ↔ ∃ k : Fin n0 × Fin n1, ix3 k.1 k.2 d = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b; apply Fin.ext
      match b with
      | ⟨0, _⟩ => rfl
  refine (Finset.sum_filter_eq_sum_of_fiber _ (fun k : Fin n0 × Fin n1 => ix3 k.1 k.2 d)
    (fun _ _ e => Prod.ext (congrFun e 0) (congrFun e 1)) key v).trans ?_
  rw [Fintype.sum_prod_type]

/-! ## The operands -/

theorem v1_apply : val_main_v1 (F := Ideal) U (ix3 s r d) = gateCol U s d r := by
  unfold gateCol rowOf
  pointwise [val_main_v1, val_main_v0]

theorem v2_apply : val_main_v2 (F := Ideal) U (ix3 s r d) = cCol U s d r := by
  unfold cCol rowOf
  pointwise [val_main_v2, val_main_v0]

theorem v3_apply : val_main_v3 (F := Ideal) U (ix3 s r d) = xCol U s d r := by
  unfold xCol rowOf
  pointwise [val_main_v3, val_main_v0]

theorem v4_apply : val_main_v4 (F := Ideal) U (ix3 s r d) = cCol U s d r * xCol U s d r := by
  rw [← v2_apply, ← v3_apply]
  pointwise [val_main_v4]

theorem v30_apply : val_main_v30 (F := Ideal) D (ix3 s r d) = dyCol D s d r := by
  unfold dyCol rowOf
  pointwise [val_main_v30, val_main_v29]

theorem v31_apply : val_main_v31 (F := Ideal) U D (ix3 s r d) = dyCol D s d r * gateCol U s d r := by
  rw [mul_comm, ← v1_apply, ← v30_apply]
  pointwise [val_main_v31]

/-- The product with two rows of zeros before it, read `k` rows before row `r`. -/
theorem v8_apply : val_main_v8 (F := Ideal) U (ix3 s r d) = past 2 (fun k => cCol U s d k * xCol U s d k) r := by
  unfold past
  by_cases h : r.val < 2
  · rw [if_neg (by omega)]
    pointwise [val_main_v8, val_main_v6, val_main_v5, val_main_cst]
    rw [dif_pos (by omega)]
  · rw [if_pos (by omega)]
    beta_reduce
    rw [← v4_apply]
    pointwise [val_main_v8, val_main_v6, val_main_v5, val_main_cst]
    rw [dif_neg (by omega)]

theorem v14_apply : val_main_v14 (F := Ideal) U (ix3 s r d) = past 1 (fun k => cCol U s d k * xCol U s d k) r := by
  unfold past
  by_cases h : r.val < 1
  · rw [if_neg (by omega)]
    pointwise [val_main_v14, val_main_v6, val_main_v5, val_main_cst]
    rw [dif_pos (by omega)]
  · rw [if_pos (by omega)]
    beta_reduce
    rw [← v4_apply]
    pointwise [val_main_v14, val_main_v6, val_main_v5, val_main_cst]
    rw [dif_neg (by omega)]
    exact congrArg (fun q => val_main_v4 (F := Ideal) U (ix3 s q d)) (Fin.ext (by show 1 + r.val - 2 = r.val - 1; omega))

theorem v21_apply : val_main_v21 (F := Ideal) U (ix3 s r d) = cCol U s d r * xCol U s d r := by
  rw [← v4_apply]
  pointwise [val_main_v21, val_main_v6, val_main_v5, val_main_cst]

theorem v12_apply : val_main_v12 (F := Ideal) W (ix3 s r d) = tapCol W d 0 := by
  unfold tapCol
  pointwise [val_main_v12, val_main_v11, val_main_v10, val_main_v9]

theorem v18_apply : val_main_v18 (F := Ideal) W (ix3 s r d) = tapCol W d 1 := by
  unfold tapCol
  pointwise [val_main_v18, val_main_v17, val_main_v16, val_main_v15]

theorem v25_apply : val_main_v25 (F := Ideal) W (ix3 s r d) = tapCol W d 2 := by
  unfold tapCol
  pointwise [val_main_v25, val_main_v24, val_main_v23, val_main_v22]

/-! ## The gate's gradient -/

theorem v27_apply : val_main_v27 (F := Ideal) U W (ix3 s r d) = conv (tapCol W d) (fun k => cCol U s d k * xCol U s d k) r := by
  have e : val_main_v27 (F := Ideal) U W (ix3 s r d) = (val_main_v8 (F := Ideal) U (ix3 s r d) * val_main_v12 (F := Ideal) W (ix3 s r d)
      + val_main_v14 (F := Ideal) U (ix3 s r d) * val_main_v18 (F := Ideal) W (ix3 s r d)) + val_main_v21 (F := Ideal) U (ix3 s r d) * val_main_v25 (F := Ideal) W (ix3 s r d) := by
    pointwise [val_main_v27, val_main_v20, val_main_v13, val_main_v19, val_main_v26]
  rw [e, v8_apply, v14_apply, v21_apply, v12_apply, v18_apply, v25_apply]
  exact congrArg₂ (fun p q : EReal => p + q) (congrArg₂ (fun p q : EReal => p + q) (mul_comm _ _) (mul_comm _ _)) (mul_comm _ _)

theorem v32_apply : val_main_v32 (F := Ideal) U D W (ix3 s r d) = gateGrad (tapCol W d) (cCol U s d) (xCol U s d) (dyCol D s d) r := by
  unfold gateGrad
  rw [← v27_apply, ← v30_apply]
  pointwise [val_main_v32]

theorem v69_eq_gateOut : val_main_v69 (F := Ideal) U D W = gateOut U D W := by
  funext i
  obtain ⟨R, d, rfl⟩ : ∃ (R : Fin 4128) (d : Fin 2048), i = ix2 R d := ⟨i 0, i 1, by funext a; fin_cases a <;> rfl⟩
  refine Eq.trans ?_ (v32_apply U D W (rowSeq R) (rowIn R) d)
  unfold rowSeq rowIn
  pointwise [val_main_v69, val_main_v68]

/-! ## The factors' gradients -/

theorem v37_apply : val_main_v37 (F := Ideal) U D W (ix3 s r d) = tapCol W d 2 * (dyCol D s d r * gateCol U s d r) := by
  rw [← v31_apply, ← v25_apply W s r d, mul_comm]
  pointwise [val_main_v37, val_main_v36, val_main_v25]

theorem v46_apply : val_main_v46 (F := Ideal) U D W (ix3 s r d) = tapCol W d 1 * (dyCol D s d r * gateCol U s d r) := by
  rw [← v31_apply, ← v18_apply W s r d, mul_comm]
  pointwise [val_main_v46, val_main_v45, val_main_v18]

theorem v57_apply : val_main_v57 (F := Ideal) U D W (ix3 s r d) = tapCol W d 0 * (dyCol D s d r * gateCol U s d r) := by
  rw [← v31_apply, ← v12_apply W s r d, mul_comm]
  pointwise [val_main_v57, val_main_v56, val_main_v12]

theorem v65_apply : val_main_v65 (F := Ideal) U D W (ix3 s r d) = convT (tapCol W d) (fun k => dyCol D s d k * gateCol U s d k) r := by
  have hr := r.isLt
  have e : val_main_v65 (F := Ideal) U D W (ix3 s r d)
      = (val_main_v37 (F := Ideal) U D W (ix3 s r d) + if h : 1 ≤ 2 + r.val ∧ 2 + r.val - 1 < 2064 then val_main_v46 (F := Ideal) U D W (ix3 s ⟨2 + r.val - 1, h.2⟩ d) else 0)
        + if h : 2 + r.val < 2064 then val_main_v57 (F := Ideal) U D W (ix3 s ⟨2 + r.val, h⟩ d) else 0 := by
    pointwise [val_main_v65, val_main_v64, val_main_v63, val_main_v62, val_main_v52, val_main_v51, val_main_v41, val_main_cst_8, val_main_cst_12]
  rw [e]
  unfold convT ahead
  rw [v37_apply]
  refine congrArg₂ (fun p q : EReal => p + q) (congrArg (fun p : EReal => tapCol W d 2 * (dyCol D s d r * gateCol U s d r) + p) ?_) ?_
  · by_cases h : r.val + 1 < 2064
    · rw [dif_pos ⟨by omega, by omega⟩, dif_pos h, v46_apply]
      have q : (⟨2 + r.val - 1, by omega⟩ : Fin 2064) = ⟨r.val + 1, h⟩ := Fin.ext (by show 2 + r.val - 1 = r.val + 1; omega)
      rw [q]
    · rw [dif_neg (by omega), dif_neg h, mul_zero]
  · by_cases h : r.val + 2 < 2064
    · rw [dif_pos (by omega), dif_pos h, v57_apply]
      have q : (⟨2 + r.val, by omega⟩ : Fin 2064) = ⟨r.val + 2, h⟩ := Fin.ext (by show 2 + r.val = r.val + 2; omega)
      rw [q]
    · rw [dif_neg (by omega), dif_neg h, mul_zero]

theorem v71_eq_cOut : val_main_v71 (F := Ideal) U D W = cOut U D W := by
  funext i
  obtain ⟨R, d, rfl⟩ : ∃ (R : Fin 4128) (d : Fin 2048), i = ix2 R d := ⟨i 0, i 1, by funext a; fin_cases a <;> rfl⟩
  show _ = factorGrad (tapCol W d) (gateCol U (rowSeq R) d) (dyCol D (rowSeq R) d) (xCol U (rowSeq R) d) (rowIn R)
  unfold factorGrad
  rw [← v65_apply, ← v3_apply]
  unfold rowSeq rowIn
  pointwise [val_main_v71, val_main_v70, val_main_v67]

theorem v73_eq_xOut : val_main_v73 (F := Ideal) U D W = xOut U D W := by
  funext i
  obtain ⟨R, d, rfl⟩ : ∃ (R : Fin 4128) (d : Fin 2048), i = ix2 R d := ⟨i 0, i 1, by funext a; fin_cases a <;> rfl⟩
  show _ = factorGrad (tapCol W d) (gateCol U (rowSeq R) d) (dyCol D (rowSeq R) d) (cCol U (rowSeq R) d) (rowIn R)
  unfold factorGrad
  rw [← v65_apply, ← v2_apply, mul_comm]
  unfold rowSeq rowIn
  pointwise [val_main_v73, val_main_v72, val_main_v66]

/-! ## The taps' gradient -/

/-- One tap's sum, and the second reduction the program makes over axes of length one. -/
theorem once (x : FVec Ideal S2048 .f32) :
    Ideal.hostReduceAdd reducesTo_S1x1x2048_S2048_d0_1 (shapeCast S1x1x2048 x shapeCasts_S2048_S1x1x2048) 0 (ix1 d) = x (ix1 d) := by
  rw [sum_leading, zero_add, Fin.sum_univ_one, Fin.sum_univ_one]
  pointwise []

theorem v34_apply : val_main_v34 (F := Ideal) U D (ix1 d) = ∑ s : Fin 2, tapGrad 0 (gateCol U s d) (cCol U s d) (xCol U s d) (dyCol D s d) := by
  have e : val_main_v34 (F := Ideal) U D (ix1 d) = Ideal.hostReduceAdd reducesTo_S2x2064x2048_S2048_d0_1 (val_main_v33 (F := Ideal) U D) 0 (ix1 d) := by
    pointwise [val_main_v34, val_main_cst_1]
  rw [e, sum_leading, zero_add]
  refine Finset.sum_congr rfl fun s _ => Finset.sum_congr rfl fun r _ => ?_
  rw [past_zero, ← v21_apply, ← v31_apply, mul_comm]
  pointwise [val_main_v33]

theorem v43_apply : val_main_v43 (F := Ideal) U D (ix1 d) = ∑ s : Fin 2, tapGrad 1 (gateCol U s d) (cCol U s d) (xCol U s d) (dyCol D s d) := by
  have e : val_main_v43 (F := Ideal) U D (ix1 d) = Ideal.hostReduceAdd reducesTo_S2x2064x2048_S2048_d0_1 (val_main_v42 (F := Ideal) U D) 0 (ix1 d) := by
    pointwise [val_main_v43, val_main_cst_5]
  rw [e, sum_leading, zero_add]
  refine Finset.sum_congr rfl fun s _ => Finset.sum_congr rfl fun r _ => ?_
  rw [← v14_apply, ← v31_apply, mul_comm]
  pointwise [val_main_v42]

theorem v54_apply : val_main_v54 (F := Ideal) U D (ix1 d) = ∑ s : Fin 2, tapGrad 2 (gateCol U s d) (cCol U s d) (xCol U s d) (dyCol D s d) := by
  have e : val_main_v54 (F := Ideal) U D (ix1 d) = Ideal.hostReduceAdd reducesTo_S2x2064x2048_S2048_d0_1 (val_main_v53 (F := Ideal) U D) 0 (ix1 d) := by
    pointwise [val_main_v54, val_main_cst_9]
  rw [e, sum_leading, zero_add]
  refine Finset.sum_congr rfl fun s _ => Finset.sum_congr rfl fun r _ => ?_
  rw [← v8_apply, ← v31_apply, mul_comm]
  pointwise [val_main_v53]

theorem v38_apply : val_main_v38 (F := Ideal) U D (ix1 d) = val_main_v34 (F := Ideal) U D (ix1 d) := by
  refine Eq.trans ?_ (once d (val_main_v34 (F := Ideal) U D))
  pointwise [val_main_v38, val_main_v35, val_main_cst_2]

theorem v47_apply : val_main_v47 (F := Ideal) U D (ix1 d) = val_main_v43 (F := Ideal) U D (ix1 d) := by
  refine Eq.trans ?_ (once d (val_main_v43 (F := Ideal) U D))
  pointwise [val_main_v47, val_main_v44, val_main_cst_6]

theorem v58_apply : val_main_v58 (F := Ideal) U D (ix1 d) = val_main_v54 (F := Ideal) U D (ix1 d) := by
  refine Eq.trans ?_ (once d (val_main_v54 (F := Ideal) U D))
  pointwise [val_main_v58, val_main_v55, val_main_cst_10]

theorem v61_at (k : Fin 3) : val_main_v61 (F := Ideal) U D (ix2 k d)
    = ((if 2 ≤ k.val ∧ k.val - 2 < 1 then val_main_v38 (F := Ideal) U D (ix1 d) else 0) + (if 1 ≤ k.val ∧ k.val - 1 < 1 then val_main_v47 (F := Ideal) U D (ix1 d) else 0))
      + (if k.val < 1 then val_main_v58 (F := Ideal) U D (ix1 d) else 0) := by
  pointwise [val_main_v61, val_main_v60, val_main_v50, val_main_v49, val_main_v40, val_main_v39, val_main_v48, val_main_v59, val_main_cst_3, val_main_cst_7, val_main_cst_11]
  simp only [dite_eq_ite]

theorem v61_eq_tapOut : val_main_v61 (F := Ideal) U D = tapOut U D := by
  funext i
  obtain ⟨k, d, rfl⟩ : ∃ (k : Fin 3) (d : Fin 2048), i = ix2 k d := ⟨i 0, i 1, by funext a; fin_cases a <;> rfl⟩
  rw [v61_at, v38_apply, v47_apply, v58_apply]
  show _ = ∑ s : Fin 2, tapGrad (2 - k.val) (gateCol U s d) (cCol U s d) (xCol U s d) (dyCol D s d)
  match k with
  | 0 => rw [if_neg (by decide), if_neg (by decide), if_pos (by decide), zero_add, zero_add, v54_apply]; rfl
  | 1 => rw [if_neg (by decide), if_pos (by decide), if_neg (by decide), zero_add, add_zero, v43_apply]; rfl
  | 2 => rw [if_pos (by decide), if_neg (by decide), if_neg (by decide), add_zero, add_zero, v34_apply]; rfl

end Cert.ConvRefIdeal.Reference

end
-- ==== Proof.ConvClaim.lean ====
/-
  The claims about the gated convolution's backward kernel, from its run, its four final arrays, and the reading of the
  reference's four results.
-/
module

public import proofs.«01_k».proof.Defs
public import proofs.«01_k».proof.Proof.Gen.ConvBwd.Frame
public import proofs.«01_k».proof.Proof.ConvArray
public import proofs.«01_k».proof.Proof.ConvReference
public import Idealize.ShloMosaic.Adequacy
public import Idealize.ShloMosaic.Init

@[expose] public section

set_option maxRecDepth 16384

noncomputable section

namespace Cert.Proof

open Idealize.ShloMosaic Idealize.SL.Sem

theorem convFrame : Cert.quiescent_ConvBwd := fun m ρ _ => Cert.ConvBwd.Gen.frame m ρ

theorem convIdealFrame : Cert.quiescent_ConvBwdIdeal := fun m ρ _ => Cert.ConvBwdIdeal.Gen.frame m ρ

/-- The reference is a straight-line host program with no semaphore: its run gives the arguments kept. -/
theorem convRefFrame : Cert.quiescent_ConvRefIdeal := fun m ρ _ =>
  (θ_run Cert.ConvRefIdeal.defs _ _).mono
    (fun r h => ⟨fun c => (h c).2.2.2.2, sem_eq_zero_of_no_sems (by decide) r.2⟩)
    (Cert.ConvRefIdeal.Value.run (F := Ideal) m ρ)

/-- The kernel and `jax.vjp` of the gated short convolution leave the same four gradients, over the extended reals, for
    every projection, every cotangent and every tap array. -/
theorem convValue : Cert.algebraic_ConvBwdIdeal_ConvRefIdeal := fun m ρ m' ρ' _ hag =>
  ⟨fun c => ConvSpec.gateOut (ConvBwdIdeal.Array.argU m c) (ConvBwdIdeal.Array.argD m c) (ConvBwdIdeal.Array.argW m c),
   fun c => ConvSpec.cOut (ConvBwdIdeal.Array.argU m c) (ConvBwdIdeal.Array.argD m c) (ConvBwdIdeal.Array.argW m c),
   fun c => ConvSpec.xOut (ConvBwdIdeal.Array.argU m c) (ConvBwdIdeal.Array.argD m c) (ConvBwdIdeal.Array.argW m c),
   fun c => ConvSpec.tapOut (ConvBwdIdeal.Array.argU m c) (ConvBwdIdeal.Array.argD m c),
   (θ_run Cert.ConvBwdIdeal.defs _ _).mono
     (fun r h c => ⟨(h c).1.trans (ConvBwdIdeal.Array.final5 m c), (h c).2.1.trans (ConvBwdIdeal.Array.final6 m c),
       (h c).2.2.1.trans (ConvBwdIdeal.Array.final7 m c), (h c).2.2.2.1.trans (ConvBwdIdeal.Array.final8 m c),
       (h c).2.2.2.2⟩)
     (Cert.ConvBwdIdeal.Value.run_blocks m ρ),
   (θ_run Cert.ConvRefIdeal.defs _ _).mono
     (fun r h c => by
       obtain ⟨h0, h1, h2, h3, hk⟩ := h c
       obtain ⟨e0, e1, e2⟩ := hag c
       refine ⟨h0.trans ?_, h1.trans ?_, h2.trans ?_, h3.trans ?_, hk⟩
       · rw [ConvRefIdeal.Read.val_main_v69_eq, ConvRefIdeal.Reference.v69_eq_gateOut, e0, e1, e2]
       · rw [ConvRefIdeal.Read.val_main_v71_eq, ConvRefIdeal.Reference.v71_eq_cOut, e0, e1, e2]
       · rw [ConvRefIdeal.Read.val_main_v73_eq, ConvRefIdeal.Reference.v73_eq_xOut, e0, e1, e2]
       · rw [ConvRefIdeal.Read.val_main_v61_eq, ConvRefIdeal.Reference.v61_eq_tapOut, e0, e1])
     (Cert.ConvRefIdeal.Value.run m' ρ')⟩

end Cert.Proof

end
-- ==== Proof.FfnFwdProducts.lean ====
/-
  The three products of the forward pass: the gate and up projection, and the down projection in two halves of the sum over
  the 11008 hidden columns, the second added to the first.
-/
module

public import proofs.«01_k».proof.Proof.Gen.FfnFwdIdeal.Frame
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnFwdIdeal.Products

open Cert.FfnFwdIdeal Cert.FfnFwdIdeal.Gen Cert.Products

variable (V : (c : Dev nD) → (b : Ref sig .tc) → Buf (Elt Ideal) ((c : Thread nD τ).loc b))

theorem points0 (t : Fin cfg0.N) : t.val < 129 := lt_of_lt_of_eq t.isLt (show cfg0.N = 129 from N_0)

/-! ## Where each block lies -/

theorem at0_0 : ∀ t : Fin cfg0.N, win0_0.index t 0 = t.val / 43 ∧ win0_0.index t 1 = 0 :=
  show ∀ t : Fin grid0.N, _ by decide +kernel
theorem at0_1 : ∀ t : Fin cfg0.N, win0_1.index t 0 = 0 ∧ win0_1.index t 1 = t.val % 43 :=
  show ∀ t : Fin grid0.N, _ by decide +kernel
theorem at0_2 : ∀ t : Fin cfg0.N, win0_2.index t 0 = t.val / 43 ∧ win0_2.index t 1 = t.val % 43 :=
  show ∀ t : Fin grid0.N, _ by decide +kernel

/-- A window's block, entry by entry; so for the other windows below. -/
theorem blk0_0 (c : Dev nD) (t : Fin cfg0.N) (r : Fin 1376) (l : Fin 4096) :
    iblk0 V c 0 t (ix2 r l) = V c main_arg0 (ix2 (⟨(t.val / 43) * 1376 + r.val, by have := points0 t; omega⟩ : Fin 4128) (⟨(0) * 4096 + l.val, by omega⟩ : Fin 4096)) := by
  unfold iblk0
  rw [View.read_apply]
  exact congrArg (V c main_arg0) (funext fun a => Fin.ext (lies (at0_0 t) r l rfl rfl a))

theorem blk0_1 (c : Dev nD) (t : Fin cfg0.N) (r : Fin 4096) (l : Fin 512) :
    iblk0 V c 1 t (ix2 r l) = V c main_arg1 (ix2 (⟨(0) * 4096 + r.val, by omega⟩ : Fin 4096) (⟨(t.val % 43) * 512 + l.val, by omega⟩ : Fin 22016)) := by
  unfold iblk0
  rw [View.read_apply]
  exact congrArg (V c main_arg1) (funext fun a => Fin.ext (lies (at0_1 t) r l rfl rfl a))

/-! ## One block of the result -/

/-- What the body computes: a product of two blocks. -/
theorem pay0 (a : Vec Ideal S1376x4096 .bf16) (b : Vec Ideal S4096x512 .bf16) (r : Fin 1376) (l : Fin 512) :
    k0_pay1 a b (ix2 r l) = (∑ k : Fin 4096, a (ix2 r k) * b (ix2 k l) : EReal) := by
  pointwise [k0_pay1]

/-- What the body leaves in the result's staging buffer. -/
theorem left0 (a : Vec Ideal S1376x4096 .bf16) (b : Vec Ideal S4096x512 .bf16) : out0_2 a b = k0_pay1 a b := by
  unfold out0_2
  rw [View.canon_unit_zero origin]
  simp only [View.ld_unit_zero (S := S1376x4096) origin, View.ld_unit_zero (S := S4096x512) origin]

/-! ## The whole result -/

/-- The result, as a product of the arrays the call reads. -/
def result0 (c : Dev nD) : Mat 4128 22016 := nn (V c main_arg0) (V c main_arg1)

/-- The grid point that writes an index of the result. -/
def pointOf0 (i : S4128x22016.Idx) : Fin cfg0.N :=
  ⟨(i 0 : Nat) / 1376 * 43 + (i 1 : Nat) / 512, by
    have h0 : (i 0 : Nat) < 4128 := (i 0).isLt
    have h1 : (i 1 : Nat) < 22016 := (i 1).isLt
    rw [show cfg0.N = 129 from N_0]; omega⟩

/-- What a grid point writes back is its block of the result. -/
theorem block0 (c : Dev nD) (t : Fin cfg0.N) (r : Fin 1376) (l : Fin 512) :
    k0_pay1 (iblk0 V c 0 t) (iblk0 V c 1 t) (ix2 r l) = result0 V c (ix2 (⟨(t.val / 43) * 1376 + r.val, by have := points0 t; omega⟩ : Fin 4128) (⟨(t.val % 43) * 512 + l.val, by omega⟩ : Fin 22016)) := by
  refine (pay0 (iblk0 V c 0 t) (iblk0 V c 1 t) r l).trans ?_
  show _ = result0 V c _
  simp only [result0, nn_apply, plus_apply, piece_apply]
  refine Finset.sum_congr rfl fun k _ => congrArg₂ (fun p q : EReal => p * q) ?_ ?_
  · exact (blk0_0 V c t r k).trans (congrArg (V c main_arg0) (same (by simp [shift] <;> omega) (by simp [shift] <;> omega)))
  · exact (blk0_1 V c t k l).trans (congrArg (V c main_arg1) (same (by simp [shift] <;> omega) (by simp [shift] <;> omega)))

/-- The call's result array after the run. -/
theorem final0 (c : Dev nD) : (dat0 V c).arrAt 2 cfg0.N = result0 V c :=
  (dat0 V c).arrAt_eq_of_cover 2 (result0 V c) (fun t _ => by
    show (cfg0.win 2).cut (grid0.coords t) ((dat0 V c).after 2 t) = _
    rw [after0_2, left0]
    funext j
    obtain ⟨r, l, rfl⟩ : ∃ (r : Fin 1376) (l : Fin 512), j = ix2 r l := index_eq j
    rw [View.read_apply]
    exact (block0 V c t r l).trans (congrArg (result0 V c) (funext fun a => (Fin.ext (lies (at0_2 t) r l rfl rfl a)).symm))) fun i =>
    ⟨pointOf0 i, flush0_2 _, by
      show i ∈ ((View.whole main_v0).slice (win0_2.rect (pointOf0 i))).set
      rw [View.set_slice_whole, Rect.mem_set_unit]
      have h0 : (i 0 : Nat) < 4128 := (i 0).isLt
      have h1 : (i 1 : Nat) < 22016 := (i 1).isLt
      have hv : (pointOf0 i).val = (i 0 : Nat) / 1376 * 43 + (i 1 : Nat) / 512 := rfl
      exact holds i (at0_2 _) (by omega) (by omega) (by decide) (by decide)⟩

theorem points2 (t : Fin cfg2.N) : t.val < 24 := lt_of_lt_of_eq t.isLt (show cfg2.N = 24 from N_2)

/-! ## Where each block lies -/

theorem at2_0 : ∀ t : Fin cfg2.N, win2_0.index t 0 = t.val / 8 ∧ win2_0.index t 1 = 0 :=
  show ∀ t : Fin grid2.N, _ by decide +kernel
theorem at2_1 : ∀ t : Fin cfg2.N, win2_1.index t 0 = 0 ∧ win2_1.index t 1 = t.val % 8 :=
  show ∀ t : Fin grid2.N, _ by decide +kernel
theorem at2_2 : ∀ t : Fin cfg2.N, win2_2.index t 0 = t.val / 8 ∧ win2_2.index t 1 = t.val % 8 :=
  show ∀ t : Fin grid2.N, _ by decide +kernel

theorem blk2_0 (c : Dev nD) (t : Fin cfg2.N) (r : Fin 1376) (l : Fin 5504) :
    iblk2 V c 0 t (ix2 r l) = V c main_v1 (ix2 (⟨(t.val / 8) * 1376 + r.val, by have := points2 t; omega⟩ : Fin 4128) (⟨(0) * 5504 + l.val, by omega⟩ : Fin 11008)) := by
  unfold iblk2
  rw [View.read_apply]
  exact congrArg (V c main_v1) (funext fun a => Fin.ext (lies (at2_0 t) r l rfl rfl a))

theorem blk2_1 (c : Dev nD) (t : Fin cfg2.N) (r : Fin 5504) (l : Fin 512) :
    iblk2 V c 1 t (ix2 r l) = V c main_arg2 (ix2 (⟨(0) * 5504 + r.val, by omega⟩ : Fin 11008) (⟨(t.val % 8) * 512 + l.val, by omega⟩ : Fin 4096)) := by
  unfold iblk2
  rw [View.read_apply]
  exact congrArg (V c main_arg2) (funext fun a => Fin.ext (lies (at2_1 t) r l rfl rfl a))

/-! ## One block of the result -/

/-- What the body computes: a product of two blocks. -/
theorem pay2 (a : Vec Ideal S1376x5504 .bf16) (b : Vec Ideal S5504x512 .bf16) (r : Fin 1376) (l : Fin 512) :
    k2_pay1 a b (ix2 r l) = (∑ k : Fin 5504, a (ix2 r k) * b (ix2 k l) : EReal) := by
  pointwise [k2_pay1]

/-- What the body leaves in the result's staging buffer. -/
theorem left2 (a : Vec Ideal S1376x5504 .bf16) (b : Vec Ideal S5504x512 .bf16) : out2_2 a b = k2_pay1 a b := by
  unfold out2_2
  rw [View.canon_unit_zero origin]
  simp only [View.ld_unit_zero (S := S1376x5504) origin, View.ld_unit_zero (S := S5504x512) origin]

/-! ## The whole result -/

/-- The result, as a product of the arrays the call reads. -/
def result2 (c : Dev nD) : Mat 4128 4096 := nn (piece 0 0 (a := 4128) (b := 5504) (c := 4128) (d := 11008) (by decide) (by decide) (V c main_v1)) (piece 0 0 (a := 5504) (b := 4096) (c := 11008) (d := 4096) (by decide) (by decide) (V c main_arg2))

/-- The grid point that writes an index of the result. -/
def pointOf2 (i : S4128x4096.Idx) : Fin cfg2.N :=
  ⟨(i 0 : Nat) / 1376 * 8 + (i 1 : Nat) / 512, by
    have h0 : (i 0 : Nat) < 4128 := (i 0).isLt
    have h1 : (i 1 : Nat) < 4096 := (i 1).isLt
    rw [show cfg2.N = 24 from N_2]; omega⟩

/-- What a grid point writes back is its block of the result. -/
theorem block2 (c : Dev nD) (t : Fin cfg2.N) (r : Fin 1376) (l : Fin 512) :
    k2_pay1 (iblk2 V c 0 t) (iblk2 V c 1 t) (ix2 r l) = result2 V c (ix2 (⟨(t.val / 8) * 1376 + r.val, by have := points2 t; omega⟩ : Fin 4128) (⟨(t.val % 8) * 512 + l.val, by omega⟩ : Fin 4096)) := by
  refine (pay2 (iblk2 V c 0 t) (iblk2 V c 1 t) r l).trans ?_
  show _ = result2 V c _
  simp only [result2, nn_apply, plus_apply, piece_apply]
  refine Finset.sum_congr rfl fun k _ => congrArg₂ (fun p q : EReal => p * q) ?_ ?_
  · exact (blk2_0 V c t r k).trans (congrArg (V c main_v1) (same (by simp [shift] <;> omega) (by simp [shift] <;> omega)))
  · exact (blk2_1 V c t k l).trans (congrArg (V c main_arg2) (same (by simp [shift] <;> omega) (by simp [shift] <;> omega)))

/-- The call's result array after the run. -/
theorem final2 (c : Dev nD) : (dat2 V c).arrAt 2 cfg2.N = result2 V c :=
  (dat2 V c).arrAt_eq_of_cover 2 (result2 V c) (fun t _ => by
    show (cfg2.win 2).cut (grid2.coords t) ((dat2 V c).after 2 t) = _
    rw [after2_2, left2]
    funext j
    obtain ⟨r, l, rfl⟩ : ∃ (r : Fin 1376) (l : Fin 512), j = ix2 r l := index_eq j
    rw [View.read_apply]
    exact (block2 V c t r l).trans (congrArg (result2 V c) (funext fun a => (Fin.ext (lies (at2_2 t) r l rfl rfl a)).symm))) fun i =>
    ⟨pointOf2 i, flush2_2 _, by
      show i ∈ ((View.whole main_v2).slice (win2_2.rect (pointOf2 i))).set
      rw [View.set_slice_whole, Rect.mem_set_unit]
      have h0 : (i 0 : Nat) < 4128 := (i 0).isLt
      have h1 : (i 1 : Nat) < 4096 := (i 1).isLt
      have hv : (pointOf2 i).val = (i 0 : Nat) / 1376 * 8 + (i 1 : Nat) / 512 := rfl
      exact holds i (at2_2 _) (by omega) (by omega) (by decide) (by decide)⟩

theorem points3 (t : Fin cfg3.N) : t.val < 24 := lt_of_lt_of_eq t.isLt (show cfg3.N = 24 from N_3)

/-! ## Where each block lies -/

theorem at3_0 : ∀ t : Fin cfg3.N, win3_0.index t 0 = t.val / 8 ∧ win3_0.index t 1 = 1 :=
  show ∀ t : Fin grid3.N, _ by decide +kernel
theorem at3_1 : ∀ t : Fin cfg3.N, win3_1.index t 0 = 1 ∧ win3_1.index t 1 = t.val % 8 :=
  show ∀ t : Fin grid3.N, _ by decide +kernel
theorem at3_2 : ∀ t : Fin cfg3.N, win3_2.index t 0 = t.val / 8 ∧ win3_2.index t 1 = t.val % 8 :=
  show ∀ t : Fin grid3.N, _ by decide +kernel
theorem at3_3 : ∀ t : Fin cfg3.N, win3_3.index t 0 = t.val / 8 ∧ win3_3.index t 1 = t.val % 8 :=
  show ∀ t : Fin grid3.N, _ by decide +kernel

theorem blk3_0 (c : Dev nD) (t : Fin cfg3.N) (r : Fin 1376) (l : Fin 5504) :
    iblk3 V c 0 t (ix2 r l) = V c main_v1 (ix2 (⟨(t.val / 8) * 1376 + r.val, by have := points3 t; omega⟩ : Fin 4128) (⟨(1) * 5504 + l.val, by omega⟩ : Fin 11008)) := by
  unfold iblk3
  rw [View.read_apply]
  exact congrArg (V c main_v1) (funext fun a => Fin.ext (lies (at3_0 t) r l rfl rfl a))

theorem blk3_1 (c : Dev nD) (t : Fin cfg3.N) (r : Fin 5504) (l : Fin 512) :
    iblk3 V c 1 t (ix2 r l) = V c main_arg2 (ix2 (⟨(1) * 5504 + r.val, by omega⟩ : Fin 11008) (⟨(t.val % 8) * 512 + l.val, by omega⟩ : Fin 4096)) := by
  unfold iblk3
  rw [View.read_apply]
  exact congrArg (V c main_arg2) (funext fun a => Fin.ext (lies (at3_1 t) r l rfl rfl a))

theorem blk3_2 (c : Dev nD) (t : Fin cfg3.N) (r : Fin 1376) (l : Fin 512) :
    iblk3 V c 2 t (ix2 r l) = V c main_v2 (ix2 (⟨(t.val / 8) * 1376 + r.val, by have := points3 t; omega⟩ : Fin 4128) (⟨(t.val % 8) * 512 + l.val, by omega⟩ : Fin 4096)) := by
  unfold iblk3
  rw [View.read_apply]
  exact congrArg (V c main_v2) (funext fun a => Fin.ext (lies (at3_2 t) r l rfl rfl a))

/-! ## One block of the result -/

/-- What the body computes: a product of two blocks, and the addend. -/
theorem pay3 (a : Vec Ideal S1376x5504 .bf16) (b : Vec Ideal S5504x512 .bf16) (e : Vec Ideal S1376x512 .f32) (r : Fin 1376) (l : Fin 512) :
    k3_pay1 a b e (ix2 r l) = (∑ k : Fin 5504, a (ix2 r k) * b (ix2 k l) : EReal) + e (ix2 r l) := by
  pointwise [k3_pay1]

/-- What the body leaves in the result's staging buffer. -/
theorem left3 (a : Vec Ideal S1376x5504 .bf16) (b : Vec Ideal S5504x512 .bf16) (e : Vec Ideal S1376x512 .f32) : out3_3 a b e = k3_pay1 a b e := by
  unfold out3_3
  rw [View.canon_unit_zero origin]
  simp only [View.ld_unit_zero (S := S1376x5504) origin, View.ld_unit_zero (S := S5504x512) origin, View.ld_unit_zero (S := S1376x512) origin]

/-! ## The whole result -/

/-- The result, as a product of the arrays the call reads. -/
def result3 (c : Dev nD) : Mat 4128 4096 := plus (nn (piece 0 5504 (a := 4128) (b := 5504) (c := 4128) (d := 11008) (by decide) (by decide) (V c main_v1)) (piece 5504 0 (a := 5504) (b := 4096) (c := 11008) (d := 4096) (by decide) (by decide) (V c main_arg2))) (V c main_v2)

/-- The grid point that writes an index of the result. -/
def pointOf3 (i : S4128x4096.Idx) : Fin cfg3.N :=
  ⟨(i 0 : Nat) / 1376 * 8 + (i 1 : Nat) / 512, by
    have h0 : (i 0 : Nat) < 4128 := (i 0).isLt
    have h1 : (i 1 : Nat) < 4096 := (i 1).isLt
    rw [show cfg3.N = 24 from N_3]; omega⟩

/-- What a grid point writes back is its block of the result. -/
theorem block3 (c : Dev nD) (t : Fin cfg3.N) (r : Fin 1376) (l : Fin 512) :
    k3_pay1 (iblk3 V c 0 t) (iblk3 V c 1 t) (iblk3 V c 2 t) (ix2 r l) = result3 V c (ix2 (⟨(t.val / 8) * 1376 + r.val, by have := points3 t; omega⟩ : Fin 4128) (⟨(t.val % 8) * 512 + l.val, by omega⟩ : Fin 4096)) := by
  refine (pay3 (iblk3 V c 0 t) (iblk3 V c 1 t) (iblk3 V c 2 t) r l).trans ?_
  show _ = result3 V c _
  simp only [result3, nn_apply, plus_apply, piece_apply]
  refine congrArg₂ (fun p q : EReal => p + q) ?_ ?_
  · refine Finset.sum_congr rfl fun k _ => congrArg₂ (fun p q : EReal => p * q) ?_ ?_
    · exact (blk3_0 V c t r k).trans (congrArg (V c main_v1) (same (by simp [shift] <;> omega) (by simp [shift] <;> omega)))
    · exact (blk3_1 V c t k l).trans (congrArg (V c main_arg2) (same (by simp [shift] <;> omega) (by simp [shift] <;> omega)))
  · exact blk3_2 V c t r l

/-- The call's result array after the run. -/
theorem final3 (c : Dev nD) : (dat3 V c).arrAt 3 cfg3.N = result3 V c :=
  (dat3 V c).arrAt_eq_of_cover 3 (result3 V c) (fun t _ => by
    show (cfg3.win 3).cut (grid3.coords t) ((dat3 V c).after 3 t) = _
    rw [after3_3, left3]
    funext j
    obtain ⟨r, l, rfl⟩ : ∃ (r : Fin 1376) (l : Fin 512), j = ix2 r l := index_eq j
    rw [View.read_apply]
    exact (block3 V c t r l).trans (congrArg (result3 V c) (funext fun a => (Fin.ext (lies (at3_3 t) r l rfl rfl a)).symm))) fun i =>
    ⟨pointOf3 i, flush3_3 _, by
      show i ∈ ((View.whole main_v3).slice (win3_3.rect (pointOf3 i))).set
      rw [View.set_slice_whole, Rect.mem_set_unit]
      have h0 : (i 0 : Nat) < 4128 := (i 0).isLt
      have h1 : (i 1 : Nat) < 4096 := (i 1).isLt
      have hv : (pointOf3 i).val = (i 0 : Nat) / 1376 * 8 + (i 1 : Nat) / 512 := rfl
      exact holds i (at3_3 _) (by omega) (by omega) (by decide) (by decide)⟩

end Cert.FfnFwdIdeal.Products

end
-- ==== Proof.FfnSpec.lean ====
/-
  The feed-forward block with a sigmoid-weighted gate, and its gradients, over the extended reals. The gate's and the
  up projection's columns lie side by side in one matrix: column `f` is the gate's and column `11008 + f` the up
  projection's. The kernel's calls and the reference are both read into these definitions.
-/
module

public import proofs.«01_k».proof.Proof.Products

@[expose] public section

noncomputable section

open Idealize.ShloMosaic

namespace Cert.FfnSpec

open Cert.Products

/-- The gate's column `f`, among the gate's and the up projection's columns. -/
def gateCol (f : Fin 11008) : Fin 22016 := ⟨f.val, by omega⟩

/-- The up projection's column `f`. -/
def upCol (f : Fin 11008) : Fin 22016 := ⟨f.val + 11008, by omega⟩

/-- The gated product: gate times its sigmoid times the up projection. -/
def act (gu : Mat 4128 22016) : Mat 4128 11008 := fun i =>
  gu (ix2 (i 0) (gateCol (i 1))) * Ideal.logistic (gu (ix2 (i 0) (gateCol (i 1)))) * gu (ix2 (i 0) (upCol (i 1)))

/-- The gate's gradient at one entry, from the gradient `d` of the gated product, the gate `g` and the up value `u`. -/
def gateGrad (d g u : EReal) : EReal := d * u * (Ideal.logistic g * (1 + g * (1 - Ideal.logistic g)))

/-- The up projection's gradient at one entry. -/
def upGrad (d g : EReal) : EReal := d * (g * Ideal.logistic g)

/-- The gradient at row `t` and column `j` of the gate's and the up projection's columns. -/
def dguAt (da : Mat 4128 11008) (gu : Mat 4128 22016) (t : Fin 4128) (j : Fin 22016) : EReal :=
  if h : j.val < 11008 then
    gateGrad (da (ix2 t ⟨j.val, h⟩)) (gu (ix2 t (gateCol ⟨j.val, h⟩))) (gu (ix2 t (upCol ⟨j.val, h⟩)))
  else
    upGrad (da (ix2 t ⟨j.val - 11008, by omega⟩)) (gu (ix2 t (gateCol ⟨j.val - 11008, by omega⟩)))

/-- The gradients of the gate and of the up projection, side by side. -/
def dgu (da : Mat 4128 11008) (gu : Mat 4128 22016) : Mat 4128 22016 := fun i => dguAt da gu (i 0) (i 1)

theorem act_apply (gu : Mat 4128 22016) (t : Fin 4128) (f : Fin 11008) :
    act gu (ix2 t f) = gu (ix2 t (gateCol f)) * Ideal.logistic (gu (ix2 t (gateCol f))) * gu (ix2 t (upCol f)) := rfl

theorem dgu_gate (da : Mat 4128 11008) (gu : Mat 4128 22016) (t : Fin 4128) (f : Fin 11008) :
    dgu da gu (ix2 t (gateCol f)) = gateGrad (da (ix2 t f)) (gu (ix2 t (gateCol f))) (gu (ix2 t (upCol f))) :=
  dif_pos f.isLt

theorem dgu_up (da : Mat 4128 11008) (gu : Mat 4128 22016) (t : Fin 4128) (f : Fin 11008) :
    dgu da gu (ix2 t (upCol f)) = upGrad (da (ix2 t f)) (gu (ix2 t (gateCol f))) := by
  have no : ¬ (upCol f).val < 11008 := Nat.not_lt.mpr (Nat.le_add_left 11008 f.val)
  have e : ∀ h, (⟨(upCol f).val - 11008, h⟩ : Fin 11008) = f := fun h => Fin.ext (Nat.add_sub_cancel f.val 11008)
  show dguAt da gu t (upCol f) = _
  unfold dguAt
  rw [dif_neg no, e]

/-- A column of the two is the gate's or the up projection's. -/
theorem col_cases (j : Fin 22016) : (∃ f, j = gateCol f) ∨ (∃ f, j = upCol f) := by
  by_cases h : j.val < 11008
  · exact .inl ⟨⟨j.val, h⟩, rfl⟩
  · exact .inr ⟨⟨j.val - 11008, by omega⟩, Fin.ext (by show j.val = j.val - 11008 + 11008; omega)⟩

end Cert.FfnSpec

end
-- ==== Proof.FfnFwdAct.lean ====
/-
  The gated product of the gate and the up projection, 48 rows at a grid point.
-/
module

public import proofs.«01_k».proof.Proof.Gen.FfnFwdIdeal.Frame
public import proofs.«01_k».proof.Proof.FfnSpec
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnFwdIdeal.Act

open Cert.FfnFwdIdeal Cert.FfnFwdIdeal.Gen Cert.Products Cert.FfnSpec

variable (V : (c : Dev nD) → (b : Ref sig .tc) → Buf (Elt Ideal) ((c : Thread nD τ).loc b))

theorem points1 (t : Fin cfg1.N) : t.val < 86 := lt_of_lt_of_eq t.isLt (show cfg1.N = 86 from N_1)

/-- Row `r` of a grid point's block. -/
def rowOf1 (t : Fin cfg1.N) (r : Fin 48) : Fin 4128 := ⟨t.val * 48 + r.val, by have := points1 t; omega⟩

theorem at1_0 : ∀ t : Fin cfg1.N, win1_0.index t 0 = t.val ∧ win1_0.index t 1 = 0 :=
  (by decide +kernel : ∀ t : Fin grid1.N, win1_0.index t 0 = t.val ∧ win1_0.index t 1 = 0)
theorem at1_1 : ∀ t : Fin cfg1.N, win1_1.index t 0 = t.val ∧ win1_1.index t 1 = 1 :=
  (by decide +kernel : ∀ t : Fin grid1.N, win1_1.index t 0 = t.val ∧ win1_1.index t 1 = 1)
theorem at1_2 : ∀ t : Fin cfg1.N, win1_2.index t 0 = t.val ∧ win1_2.index t 1 = 0 :=
  (by decide +kernel : ∀ t : Fin grid1.N, win1_2.index t 0 = t.val ∧ win1_2.index t 1 = 0)

/-- A window's block, entry by entry; so for the other windows below. -/
theorem blk1_0 (c : Dev nD) (t : Fin cfg1.N) (r : Fin 48) (l : Fin 11008) :
    iblk1 V c 0 t (ix2 r l) = V c main_v0 (ix2 (rowOf1 t r) (gateCol l)) := by
  unfold iblk1
  rw [View.read_apply]
  show V c main_v0 _ = V c main_v0 _
  congr 1
  funext a
  apply Fin.ext
  have hi := at1_0 t
  match a with
  | ⟨0, _⟩ => show win1_0.index t 0 * 48 + 1 * r.val = t.val * 48 + r.val; rw [hi.1]; omega
  | ⟨1, _⟩ => show win1_0.index t 1 * 11008 + 1 * l.val = l.val; rw [hi.2]; omega

theorem blk1_1 (c : Dev nD) (t : Fin cfg1.N) (r : Fin 48) (l : Fin 11008) :
    iblk1 V c 1 t (ix2 r l) = V c main_v0 (ix2 (rowOf1 t r) (upCol l)) := by
  unfold iblk1
  rw [View.read_apply]
  show V c main_v0 _ = V c main_v0 _
  congr 1
  funext a
  apply Fin.ext
  have hi := at1_1 t
  match a with
  | ⟨0, _⟩ => show win1_1.index t 0 * 48 + 1 * r.val = t.val * 48 + r.val; rw [hi.1]; omega
  | ⟨1, _⟩ => show win1_1.index t 1 * 11008 + 1 * l.val = l.val + 11008; rw [hi.2]; omega

/-- What the body computes at one entry. -/
theorem pay1 (a b : Vec Ideal S48x11008 .bf16) (r : Fin 48) (l : Fin 11008) :
    k1_pay1 a b (ix2 r l) = a (ix2 r l) * Ideal.logistic (a (ix2 r l)) * b (ix2 r l) := by
  pointwise [k1_pay1]

/-- What the body leaves in the result's staging buffer. -/
theorem left1 (a b : Vec Ideal S48x11008 .bf16) : out1_2 a b = k1_pay1 a b := by
  unfold out1_2
  rw [View.canon_unit_zero origin]
  simp only [View.ld_unit_zero (S := S48x11008) origin]

/-- The result, from the array the call reads. -/
def result1 (c : Dev nD) : Mat 4128 11008 := act (V c main_v0)

/-- The grid point that writes an index of the result. -/
def pointOf1 (i : S4128x11008.Idx) : Fin cfg1.N :=
  ⟨(i 0 : Nat) / 48, by
    have h0 : (i 0 : Nat) < 4128 := (i 0).isLt
    rw [show cfg1.N = 86 from N_1]; omega⟩

/-- What a grid point leaves is its block of the result. -/
theorem block1 (c : Dev nD) (t : Fin cfg1.N) (r : Fin 48) (l : Fin 11008) :
    out1_2 (iblk1 V c 0 t) (iblk1 V c 1 t) (ix2 r l) = result1 V c (ix2 (rowOf1 t r) l) := by
  rw [left1]
  refine (pay1 (iblk1 V c 0 t) (iblk1 V c 1 t) r l).trans ?_
  rw [blk1_0 V c t r l, blk1_1 V c t r l]
  rfl

/-- The call's result array after the run. -/
theorem final1 (c : Dev nD) : (dat1 V c).arrAt 2 cfg1.N = result1 V c :=
  (dat1 V c).arrAt_eq_of_cover 2 (result1 V c) (fun t _ => by
    rw [show (dat1 V c).flushed 2 t = (cfg1.win 2).cut (grid1.coords t) ((dat1 V c).after 2 t) from rfl, after1_2]
    funext j
    obtain ⟨r, l, rfl⟩ : ∃ (r : Fin 48) (l : Fin 11008), j = ix2 r l := index_eq j
    rw [View.read_apply]
    have hi := at1_2 t
    have hj : ((cfg1.win 2).blk t).view.emb (ix2 r l) = ix2 (rowOf1 t r) l := by
      funext a
      apply Fin.ext
      match a with
      | ⟨0, _⟩ => show win1_2.index t 0 * 48 + 1 * r.val = t.val * 48 + r.val; rw [hi.1]; omega
      | ⟨1, _⟩ => show win1_2.index t 1 * 11008 + 1 * l.val = l.val; rw [hi.2]; omega
    rw [hj]
    exact block1 V c t r l) fun i =>
    ⟨pointOf1 i, flush1_2 _, by
      show i ∈ ((View.whole main_v1).slice (win1_2.rect (pointOf1 i))).set
      rw [View.set_slice_whole, Rect.mem_set_unit]
      have h0 : (i 0 : Nat) < 4128 := (i 0).isLt
      have h1 : (i 1 : Nat) < 11008 := (i 1).isLt
      have hi := at1_2 (pointOf1 i)
      have hv : (pointOf1 i).val = (i 0 : Nat) / 48 := rfl
      intro a
      match a with
      | ⟨0, _⟩ => show win1_2.index (pointOf1 i) 0 * 48 ≤ (i 0 : Nat) ∧ (i 0 : Nat) < win1_2.index (pointOf1 i) 0 * 48 + 48; rw [hi.1, hv]; omega
      | ⟨1, _⟩ => show win1_2.index (pointOf1 i) 1 * 11008 ≤ (i 1 : Nat) ∧ (i 1 : Nat) < win1_2.index (pointOf1 i) 1 * 11008 + 11008; rw [hi.2]; omega⟩

end Cert.FfnFwdIdeal.Act

end
-- ==== Proof.FfnFwdRun.lean ====
/-
  The run of the feed-forward block's forward pass: four calls, each array followed from the call that writes it to the
  calls that read it.
-/
module

public import proofs.«01_k».proof.Proof.FfnFwdProducts
public import proofs.«01_k».proof.Proof.FfnFwdAct
public import Idealize.ShloMosaic.Lib.Tactic

@[expose] public section

set_option maxRecDepth 16384

noncomputable section

namespace Cert.FfnFwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FfnFwdIdeal Cert.FfnFwdIdeal.Gen Cert.Products Cert.FfnSpec

local notation "𝕄" => MT nD τ sig Unit (Elt Ideal) ℕ (UR sig nD τ) ℕ

variable (m : (ℓ : Loc nD τ sig) → Buf (Elt Ideal) ℓ) (ρ : Dev nD → PrngReg)

/-! ## The arguments, and what the calls leave, from the arguments -/

abbrev arg0 (c : Dev nD) : Mat 4128 4096 := m (c.tc.loc main_arg0)
abbrev arg1 (c : Dev nD) : Mat 4096 22016 := m (c.tc.loc main_arg1)
abbrev arg2 (c : Dev nD) : Mat 11008 4096 := m (c.tc.loc main_arg2)
/-- The gate and up projection. -/
def gu (c : Dev nD) : Mat 4128 22016 := nn (arg0 m c) (arg1 m c)

/-- The gated product. -/
def acts (c : Dev nD) : Mat 4128 11008 := act (gu m c)

/-- The first half of the down projection. -/
def down0 (c : Dev nD) : Mat 4128 4096 := nn (piece 0 0 (a := 4128) (b := 5504) (c := 4128) (d := 11008) (by decide) (by decide) (acts m c)) (piece 0 0 (a := 5504) (b := 4096) (c := 11008) (d := 4096) (by decide) (by decide) (arg2 m c))

/-- The second half, added to the first. -/
def down1 (c : Dev nD) : Mat 4128 4096 := plus (nn (piece 0 5504 (a := 4128) (b := 5504) (c := 4128) (d := 11008) (by decide) (by decide) (acts m c)) (piece 5504 0 (a := 5504) (b := 4096) (c := 11008) (d := 4096) (by decide) (by decide) (arg2 m c))) (down0 m c)

/-! ## What each array holds when a call begins -/

theorem v0_1 (c : Dev nD) : W1 m ρ c (Proc.devRef .tc main_v0) = gu m c := by
  refine (W1_arr m ρ c 2).trans ((Products.final0 (V0 m ρ) c).trans ?_)
  unfold Products.result0 gu
  rfl

theorem v1_2 (c : Dev nD) : W2 m ρ c (Proc.devRef .tc main_v1) = acts m c := by
  refine (W2_arr m ρ c 2).trans ((Act.final1 (V1 m ρ) c).trans ?_)
  unfold Act.result1 acts
  rw [show V1 m ρ c main_v0 = _ from v0_1 m ρ c]
theorem v1_3 (c : Dev nD) : W3 m ρ c (Proc.devRef .tc main_v1) = acts m c :=
  (W3_of m ρ c main_v1 (by decide +kernel)).trans (v1_2 m ρ c)

theorem v2_3 (c : Dev nD) : W3 m ρ c (Proc.devRef .tc main_v2) = down0 m c := by
  refine (W3_arr m ρ c 2).trans ((Products.final2 (V2 m ρ) c).trans ?_)
  unfold Products.result2 down0
  rw [show V2 m ρ c main_v1 = _ from v1_2 m ρ c]
  rw [show V2 m ρ c main_arg2 = arg2 m c from W2_args m ρ c main_arg2 (by simp [argRefs])]

theorem v3_4 (c : Dev nD) : W4 m ρ c (Proc.devRef .tc main_v3) = down1 m c := by
  refine (W4_arr m ρ c 3).trans ((Products.final3 (V3 m ρ) c).trans ?_)
  unfold Products.result3 down1
  rw [show V3 m ρ c main_v1 = _ from v1_3 m ρ c]
  rw [show V3 m ρ c main_arg2 = arg2 m c from W3_args m ρ c main_arg2 (by simp [argRefs])]
  rw [show V3 m ρ c main_v2 = _ from v2_3 m ρ c]

/-! ## The run -/

set_option backward.isDefEq.respectTransparency.types false in
/-- Every run ends, with the results at these functions of the arguments and the arguments kept. -/
theorem run : θ_run defs (onTc (τ := τ) (main (F := Ideal))) ⟨m, fun _ => 0, ρ⟩ (fun r => ∀ c : Dev nD,
      r.2.mem (c.tc.loc main_v3) = down1 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v3 (by decide))).trans (v3_4 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.FfnFwdIdeal.Run

end
-- ==== Proof.FfnFwdReference.lean ====
/-
  What the reference of the forward pass computes: the feed-forward block, stage by stage.
-/
module

public import proofs.«01_k».proof.Proof.Gen.FfnFwdRefIdeal.Read
public import proofs.«01_k».proof.Proof.FfnSpec
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.FfnFwdRefIdeal.Reference

open Cert.FfnFwdRefIdeal Cert.FfnFwdRefIdeal.Read Cert.Products Cert.FfnSpec

variable (x0 : FVec Ideal S4128x4096 .bf16) (x1 : FVec Ideal S4096x22016 .bf16) (x2 : FVec Ideal S11008x4096 .bf16)

/-- The gate and up projection. -/
abbrev gu : Mat 4128 22016 := nn x0 x1

theorem v3_at (t : Fin 4128) (j : Fin 22016) : val_main_v3 (F := Ideal) x0 x1 (ix2 t j) = gu x0 x1 (ix2 t j) := by
  rw [val_main_v3_apply]
  refine Finset.sum_congr rfl fun k _ => congrArg₂ (fun p q : EReal => p * q) (congrArg x0 ?_) (congrArg x1 ?_)
    <;> (funext a; fin_cases a <;> rfl)

theorem v4_at (t : Fin 4128) (f : Fin 11008) : val_main_v4 (F := Ideal) x0 x1 (ix2 t f) = gu x0 x1 (ix2 t (gateCol f)) := by
  rw [val_main_v4_apply]
  refine (congrArg (val_main_v3 (F := Ideal) x0 x1) ?_).trans (v3_at x0 x1 t (gateCol f))
  funext a
  apply Fin.ext
  match a with
  | ⟨0, _⟩ => simp [idx_main_v4]
  | ⟨1, _⟩ => simp [idx_main_v4, gateCol]

theorem v5_at (t : Fin 4128) (f : Fin 11008) : val_main_v5 (F := Ideal) x0 x1 (ix2 t f) = gu x0 x1 (ix2 t (upCol f)) := by
  rw [val_main_v5_apply]
  refine (congrArg (val_main_v3 (F := Ideal) x0 x1) ?_).trans (v3_at x0 x1 t (upCol f))
  funext a
  apply Fin.ext
  match a with
  | ⟨0, _⟩ => simp [idx_main_v5]
  | ⟨1, _⟩ => simp [idx_main_v5, upCol]; try omega

/-- The sigmoid of the gate, which the reference writes as one over one plus an exponential. -/
theorem sigmoid_at (t : Fin 4128) (f : Fin 11008) :
    val_main_call0_v5 (F := Ideal) x0 x1 (ix2 t f) = Ideal.logistic (gu x0 x1 (ix2 t (gateCol f))) := by
  rw [← v4_at]
  rw [val_main_call0_v5_apply, val_main_call0_v4_apply, val_main_call0_v3_apply, val_main_call0_v2_apply, val_main_call0_v1_apply, val_main_call0_v0_apply]
  show Ideal.div (Ideal.ofBits .f32 0x3F800000#32) (Ideal.ofBits .f32 0x3F800000#32 + Ideal.exp (-(val_main_v4 (F := Ideal) x0 x1 (ix2 t f)))) = _
  rw [Ideal.ofBits_one_f32]
  rfl

theorem v7_at (t : Fin 4128) (f : Fin 11008) : val_main_v7 (F := Ideal) x0 x1 (ix2 t f) = act (gu x0 x1) (ix2 t f) := by
  rw [val_main_v7_apply, val_main_v6_apply, v4_at, v5_at, sigmoid_at]
  rfl

/-- The block's value. -/
theorem value : val_main_v8 (F := Ideal) x0 x1 x2 = nn (act (gu x0 x1)) x2 := by
  funext i
  obtain ⟨t, j, rfl⟩ := index_eq i
  rw [val_main_v8_apply]
  refine Finset.sum_congr rfl fun k _ => congrArg₂ (fun p q : EReal => p * q)
    ((congrArg (val_main_v7 (F := Ideal) x0 x1) (show _ = ix2 t k from ?_)).trans (v7_at x0 x1 t k)) (congrArg x2 ?_)
  · funext a; fin_cases a <;> rfl
  · funext a; fin_cases a <;> rfl

end Cert.FfnFwdRefIdeal.Reference

end
-- ==== Proof.FfnMath.lean ====
/-
  Where the kernel's and the reference's forms of the feed-forward gradients differ. The derivative of the gate's
  activation is `s + g · (s · (1 − s))` in the reference and `s · (1 + g · (1 − s))` in the kernel: one number when
  everything is a real number. The gradient at the input is one sum over all gate and up columns in the reference and
  four partial sums in the kernel.
-/
module

public import proofs.«01_k».proof.Proof.FfnSpec

@[expose] public section

set_option maxRecDepth 16384

noncomputable section

open Idealize.ShloMosaic

namespace Cert.FfnMath

open Cert.Products Cert.FfnSpec

/-! ## Real numbers among the extended reals -/

/-- An extended real that is a real number. -/
def Fin' (x : EReal) : Prop := ∃ r : ℝ, x = (r : EReal)

theorem Fin'.mul {x y : EReal} : Fin' x → Fin' y → Fin' (x * y) := fun ⟨a, ha⟩ ⟨b, hb⟩ => ⟨a * b, by rw [ha, hb, EReal.coe_mul]⟩

theorem Fin'.add {x y : EReal} : Fin' x → Fin' y → Fin' (x + y) := fun ⟨a, ha⟩ ⟨b, hb⟩ => ⟨a + b, by rw [ha, hb, EReal.coe_add]⟩

theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

/-- A matrix of real numbers. -/
def RealMat {a b : ℕ} (A : Mat a b) : Prop := ∀ i, Fin' (A i)

theorem RealMat.nn {M K N : ℕ} {A : Mat M K} {B : Mat K N} (hA : RealMat A) (hB : RealMat B) : RealMat (nn A B) :=
  fun _ => Fin'.sum _ _ fun _ => (hA _).mul (hB _)

theorem RealMat.nt {M K N : ℕ} {A : Mat M K} {B : Mat N K} (hA : RealMat A) (hB : RealMat B) : RealMat (nt A B) :=
  fun _ => Fin'.sum _ _ fun _ => (hA _).mul (hB _)

/-! ## The derivative of the activation -/

/-- The gate's gradient as automatic differentiation writes it: `p · s + (g · p) · (s · (1 − s))` with `p = d · u`. -/
theorem gateGrad_eq {d g u : EReal} (hd : Fin' d) (hg : Fin' g) (hu : Fin' u) :
    d * u * Ideal.logistic g + g * (d * u) * (Ideal.logistic g * (1 - Ideal.logistic g)) = gateGrad d g u := by
  obtain ⟨d, rfl⟩ := hd
  obtain ⟨g, rfl⟩ := hg
  obtain ⟨u, rfl⟩ := hu
  unfold gateGrad
  rw [Ideal.logistic_coe]
  generalize (1 + Real.exp (-g))⁻¹ = s
  norm_cast
  ring

/-! ## The four partial sums -/

/-- The part of the product of `D` and the transpose of `W` over the 5504 columns from `o` on. -/
def dhPart (o : ℕ) (ho : o + 5504 ≤ 22016) (D : Mat 4128 22016) (W : Mat 4096 22016) : Mat 4128 4096 :=
  nt (piece 0 o (a := 4128) (b := 5504) (by decide) ho D) (piece 0 o (a := 4096) (b := 5504) (by decide) ho W)

theorem zero_shift {a b c : ℕ} (o : ℕ) (h : o + a ≤ b) (h' : 0 + b ≤ c) (k : Fin a) :
    shift 0 h' (shift o h k) = shift o (h.trans ((Nat.zero_add b).symm.le.trans h')) k := Fin.ext (Nat.zero_add _)

theorem sum_quarters (f : Fin 22016 → EReal) :
    (∑ k : Fin 5504, f (shift 16512 (by decide) k) + (∑ k : Fin 5504, f (shift 11008 (by decide) k)
      + (∑ k : Fin 5504, f (shift 5504 (by decide) k) + ∑ k : Fin 5504, f (shift 0 (by decide) k))))
      = ∑ k : Fin 22016, f k := by
  rw [sum_split (a := 16512) (b := 5504) (n := 22016) (by decide) f, sum_split (a := 11008) (b := 5504) (n := 16512) (by decide),
    sum_split (a := 5504) (b := 5504) (n := 11008) (by decide)]
  simp only [zero_shift]
  rw [add_comm (∑ k : Fin 5504, f (shift 5504 _ k)), add_comm (∑ k : Fin 5504, f (shift 11008 _ k)),
    add_comm (∑ k : Fin 5504, f (shift 16512 _ k))]

/-- The four parts, each added to the ones before, make the whole product. -/
theorem dh_parts (D : Mat 4128 22016) (W : Mat 4096 22016) :
    plus (dhPart 16512 (by decide) D W) (plus (dhPart 11008 (by decide) D W)
      (plus (dhPart 5504 (by decide) D W) (dhPart 0 (by decide) D W))) = nt D W := by
  funext i
  obtain ⟨r, l, rfl⟩ := index_eq i
  refine Eq.trans ?_ (sum_quarters fun k => D (ix2 r k) * W (ix2 l k))
  have z : ∀ {b : ℕ} (h : 0 + b ≤ b) (k : Fin b), shift 0 h k = k := fun h k => Fin.ext (Nat.zero_add _)
  simp only [plus_apply, dhPart, nt_apply, piece_apply, z]

/-- The two halves of the down projection's sum make the whole product. -/
theorem down_parts (A : Mat 4128 11008) (W : Mat 11008 4096) :
    plus (nn (piece 0 5504 (a := 4128) (b := 5504) (c := 4128) (d := 11008) (by decide) (by decide) A)
        (piece 5504 0 (a := 5504) (b := 4096) (c := 11008) (d := 4096) (by decide) (by decide) W))
      (nn (piece 0 0 (a := 4128) (b := 5504) (c := 4128) (d := 11008) (by decide) (by decide) A)
        (piece 0 0 (a := 5504) (b := 4096) (c := 11008) (d := 4096) (by decide) (by decide) W)) = nn A W := by
  funext i
  obtain ⟨r, l, rfl⟩ := index_eq i
  have z : ∀ {b : ℕ} (h : 0 + b ≤ b) (k : Fin b), shift 0 h k = k := fun h k => Fin.ext (Nat.zero_add _)
  refine Eq.trans ?_ (sum_split (a := 5504) (b := 5504) (n := 11008) (by decide) fun k => A (ix2 r k) * W (ix2 k l)).symm
  simp only [plus_apply, nn_apply, piece_apply, z]
  exact add_comm _ _

/-! ## Half of a weight gradient

The columns of `Aᵀ · B` from `p` on are the product with the columns of `B`, and its rows from `p` on the product with the
columns of `A`. -/

theorem shift_zero {a : ℕ} (h : 0 + a ≤ a) (k : Fin a) : shift 0 h k = k := Fin.ext (Nat.zero_add _)

theorem tn_cols {M K N n : ℕ} (p : ℕ) (hK : 0 + K ≤ K) (hM : 0 + M ≤ M) (hp : p + n ≤ N) (A : Mat K M) (B : Mat K N) :
    tn A (piece 0 p (a := K) (b := n) hK hp B) = piece 0 p (a := M) (b := n) hM hp (tn A B) := by
  funext i
  obtain ⟨r, l, rfl⟩ := index_eq i
  simp only [tn_apply, piece_apply, shift_zero]

theorem tn_rows {M m K N : ℕ} (p : ℕ) (hK : 0 + K ≤ K) (hN : 0 + N ≤ N) (hp : p + m ≤ M) (A : Mat K M) (B : Mat K N) :
    tn (piece 0 p (a := K) (b := m) hK hp A) B = piece p 0 (a := m) (b := N) hp hN (tn A B) := by
  funext i
  obtain ⟨r, l, rfl⟩ := index_eq i
  simp only [tn_apply, piece_apply, shift_zero]

end Cert.FfnMath

end
-- ==== Proof.FfnFwdClaim.lean ====
/-
  The claims about the feed-forward block's forward pass, from its run and the reading of the reference.
-/
module

public import proofs.«01_k».proof.Defs
public import proofs.«01_k».proof.Proof.Gen.FfnFwd.Frame
public import proofs.«01_k».proof.Proof.FfnFwdRun
public import proofs.«01_k».proof.Proof.FfnFwdReference
public import proofs.«01_k».proof.Proof.FfnMath
public import Idealize.ShloMosaic.Adequacy
public import Idealize.ShloMosaic.Init

@[expose] public section

set_option maxRecDepth 16384

noncomputable section

namespace Cert.Proof

open Idealize.ShloMosaic Idealize.SL.Sem

theorem ffnFwdFrame : Cert.quiescent_FfnFwd := fun m ρ _ => Cert.FfnFwd.Gen.frame m ρ

theorem ffnFwdIdealFrame : Cert.quiescent_FfnFwdIdeal := fun m ρ _ => Cert.FfnFwdIdeal.Gen.frame m ρ

theorem ffnFwdRefFrame : Cert.quiescent_FfnFwdRefIdeal := fun m ρ _ =>
  (θ_run Cert.FfnFwdRefIdeal.defs _ _).mono
    (fun r h => ⟨fun c => (h c).2, sem_eq_zero_of_no_sems (by decide) r.2⟩)
    (Cert.FfnFwdRefIdeal.Value.run (F := Ideal) m ρ)

/-- The kernel's four calls and the plain block leave the same value, over the extended reals. -/
theorem ffnFwdValue : Cert.algebraic_FfnFwdIdeal_FfnFwdRefIdeal := fun m ρ m' ρ' _ hag =>
  ⟨fun c => FfnFwdIdeal.Run.down1 m c,
   (θ_run Cert.FfnFwdIdeal.defs _ _).mono (fun r h c => h c) (Cert.FfnFwdIdeal.Run.run m ρ),
   (θ_run Cert.FfnFwdRefIdeal.defs _ _).mono
     (fun r h c => by
       obtain ⟨h0, hk⟩ := h c
       obtain ⟨e0, e1, e2⟩ := hag c
       refine ⟨h0.trans ?_, hk⟩
       rw [FfnFwdRefIdeal.Read.val_main_v8_eq, FfnFwdRefIdeal.Reference.value, e0, e1, e2]
       exact (FfnMath.down_parts _ _).symm)
     (Cert.FfnFwdRefIdeal.Value.run m' ρ')⟩

end Cert.Proof

end
-- ==== Proof.FfnBwdGu.lean ====
/-
  The gate and up projection recomputed in the backward pass: `h · wgu`, tile by tile.
-/
module

public import proofs.«01_k».proof.Proof.Gen.FfnBwdIdeal.Frame.Region0
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.Gu

open Cert.FfnBwdIdeal Cert.FfnBwdIdeal.Gen Cert.Products

variable (V : (c : Dev nD) → (b : Ref sig .tc) → Buf (Elt Ideal) ((c : Thread nD τ).loc b))

theorem points0 (t : Fin cfg0.N) : t.val < 129 := lt_of_lt_of_eq t.isLt (show cfg0.N = 129 from N_0)

/-! ## Where each block lies -/

theorem at0_0 : ∀ t : Fin cfg0.N, win0_0.index t 0 = t.val / 43 ∧ win0_0.index t 1 = 0 :=
  show ∀ t : Fin grid0.N, _ by decide +kernel
theorem at0_1 : ∀ t : Fin cfg0.N, win0_1.index t 0 = 0 ∧ win0_1.index t 1 = t.val % 43 :=
  show ∀ t : Fin grid0.N, _ by decide +kernel
theorem at0_2 : ∀ t : Fin cfg0.N, win0_2.index t 0 = t.val / 43 ∧ win0_2.index t 1 = t.val % 43 :=
  show ∀ t : Fin grid0.N, _ by decide +kernel

/-- A window's block, entry by entry; so for the other windows below. -/
theorem blk0_0 (c : Dev nD) (t : Fin cfg0.N) (r : Fin 1376) (l : Fin 4096) :
    iblk0 V c 0 t (ix2 r l) = V c main_arg1 (ix2 (⟨(t.val / 43) * 1376 + r.val, by have := points0 t; omega⟩ : Fin 4128) (⟨(0) * 4096 + l.val, by omega⟩ : Fin 4096)) := by
  unfold iblk0
  rw [View.read_apply]
  exact congrArg (V c main_arg1) (funext fun a => Fin.ext (lies (at0_0 t) r l rfl rfl a))

theorem blk0_1 (c : Dev nD) (t : Fin cfg0.N) (r : Fin 4096) (l : Fin 512) :
    iblk0 V c 1 t (ix2 r l) = V c main_arg2 (ix2 (⟨(0) * 4096 + r.val, by omega⟩ : Fin 4096) (⟨(t.val % 43) * 512 + l.val, by omega⟩ : Fin 22016)) := by
  unfold iblk0
  rw [View.read_apply]
  exact congrArg (V c main_arg2) (funext fun a => Fin.ext (lies (at0_1 t) r l rfl rfl a))

/-! ## One block of the result -/

/-- What the body computes: a product of two blocks. -/
theorem pay0 (a : Vec Ideal S1376x4096 .bf16) (b : Vec Ideal S4096x512 .bf16) (r : Fin 1376) (l : Fin 512) :
    k0_pay1 a b (ix2 r l) = (∑ k : Fin 4096, a (ix2 r k) * b (ix2 k l) : EReal) := by
  pointwise [k0_pay1]

/-- What the body leaves in the result's staging buffer. -/
theorem left0 (a : Vec Ideal S1376x4096 .bf16) (b : Vec Ideal S4096x512 .bf16) : out0_2 a b = k0_pay1 a b := by
  unfold out0_2
  rw [View.canon_unit_zero origin]
  simp only [View.ld_unit_zero (S := S1376x4096) origin, View.ld_unit_zero (S := S4096x512) origin]

/-! ## The whole result -/

/-- The result, as a product of the arrays the call reads. -/
def result0 (c : Dev nD) : Mat 4128 22016 := nn (V c main_arg1) (V c main_arg2)

/-- The grid point that writes an index of the result. -/
def pointOf0 (i : S4128x22016.Idx) : Fin cfg0.N :=
  ⟨(i 0 : Nat) / 1376 * 43 + (i 1 : Nat) / 512, by
    have h0 : (i 0 : Nat) < 4128 := (i 0).isLt
    have h1 : (i 1 : Nat) < 22016 := (i 1).isLt
    rw [show cfg0.N = 129 from N_0]; omega⟩

/-- What a grid point writes back is its block of the result. -/
theorem block0 (c : Dev nD) (t : Fin cfg0.N) (r : Fin 1376) (l : Fin 512) :
    k0_pay1 (iblk0 V c 0 t) (iblk0 V c 1 t) (ix2 r l) = result0 V c (ix2 (⟨(t.val / 43) * 1376 + r.val, by have := points0 t; omega⟩ : Fin 4128) (⟨(t.val % 43) * 512 + l.val, by omega⟩ : Fin 22016)) := by
  refine (pay0 (iblk0 V c 0 t) (iblk0 V c 1 t) r l).trans ?_
  show _ = result0 V c _
  simp only [result0, nn_apply, plus_apply, piece_apply]
  refine Finset.sum_congr rfl fun k _ => congrArg₂ (fun p q : EReal => p * q) ?_ ?_
  · exact (blk0_0 V c t r k).trans (congrArg (V c main_arg1) (same (by simp [shift] <;> omega) (by simp [shift] <;> omega)))
  · exact (blk0_1 V c t k l).trans (congrArg (V c main_arg2) (same (by simp [shift] <;> omega) (by simp [shift] <;> omega)))

/-- The call's result array after the run. -/
theorem final0 (c : Dev nD) : (dat0 V c).arrAt 2 cfg0.N = result0 V c :=
  (dat0 V c).arrAt_eq_of_cover 2 (result0 V c) (fun t _ => by
    show (cfg0.win 2).cut (grid0.coords t) ((dat0 V c).after 2 t) = _
    rw [after0_2, left0]
    funext j
    obtain ⟨r, l, rfl⟩ : ∃ (r : Fin 1376) (l : Fin 512), j = ix2 r l := index_eq j
    rw [View.read_apply]
    exact (block0 V c t r l).trans (congrArg (result0 V c) (funext fun a => (Fin.ext (lies (at0_2 t) r l rfl rfl a)).symm))) fun i =>
    ⟨pointOf0 i, flush0_2 _, by
      show i ∈ ((View.whole main_v0).slice (win0_2.rect (pointOf0 i))).set
      rw [View.set_slice_whole, Rect.mem_set_unit]
      have h0 : (i 0 : Nat) < 4128 := (i 0).isLt
      have h1 : (i 1 : Nat) < 22016 := (i 1).isLt
      have hv : (pointOf0 i).val = (i 0 : Nat) / 1376 * 43 + (i 1 : Nat) / 512 := rfl
      exact holds i (at0_2 _) (by omega) (by omega) (by decide) (by decide)⟩

end Cert.FfnBwdIdeal.Gu

end
-- ==== Proof.FfnBwdAct.lean ====
/-
  The gated product of the gate and the up projection, 48 rows at a grid point.
-/
module

public import proofs.«01_k».proof.Proof.Gen.FfnBwdIdeal.Frame.Region1
public import proofs.«01_k».proof.Proof.FfnSpec
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.Act

open Cert.FfnBwdIdeal Cert.FfnBwdIdeal.Gen Cert.Products Cert.FfnSpec

variable (V : (c : Dev nD) → (b : Ref sig .tc) → Buf (Elt Ideal) ((c : Thread nD τ).loc b))

theorem points1 (t : Fin cfg1.N) : t.val < 86 := lt_of_lt_of_eq t.isLt (show cfg1.N = 86 from N_1)

/-- Row `r` of a grid point's block. -/
def rowOf1 (t : Fin cfg1.N) (r : Fin 48) : Fin 4128 := ⟨t.val * 48 + r.val, by have := points1 t; omega⟩

theorem at1_0 : ∀ t : Fin cfg1.N, win1_0.index t 0 = t.val ∧ win1_0.index t 1 = 0 :=
  (by decide +kernel : ∀ t : Fin grid1.N, win1_0.index t 0 = t.val ∧ win1_0.index t 1 = 0)
theorem at1_1 : ∀ t : Fin cfg1.N, win1_1.index t 0 = t.val ∧ win1_1.index t 1 = 1 :=
  (by decide +kernel : ∀ t : Fin grid1.N, win1_1.index t 0 = t.val ∧ win1_1.index t 1 = 1)
theorem at1_2 : ∀ t : Fin cfg1.N, win1_2.index t 0 = t.val ∧ win1_2.index t 1 = 0 :=
  (by decide +kernel : ∀ t : Fin grid1.N, win1_2.index t 0 = t.val ∧ win1_2.index t 1 = 0)

/-- A window's block, entry by entry; so for the other windows below. -/
theorem blk1_0 (c : Dev nD) (t : Fin cfg1.N) (r : Fin 48) (l : Fin 11008) :
    iblk1 V c 0 t (ix2 r l) = V c main_v0 (ix2 (rowOf1 t r) (gateCol l)) := by
  unfold iblk1
  rw [View.read_apply]
  show V c main_v0 _ = V c main_v0 _
  congr 1
  funext a
  apply Fin.ext
  have hi := at1_0 t
  match a with
  | ⟨0, _⟩ => show win1_0.index t 0 * 48 + 1 * r.val = t.val * 48 + r.val; rw [hi.1]; omega
  | ⟨1, _⟩ => show win1_0.index t 1 * 11008 + 1 * l.val = l.val; rw [hi.2]; omega

theorem blk1_1 (c : Dev nD) (t : Fin cfg1.N) (r : Fin 48) (l : Fin 11008) :
    iblk1 V c 1 t (ix2 r l) = V c main_v0 (ix2 (rowOf1 t r) (upCol l)) := by
  unfold iblk1
  rw [View.read_apply]
  show V c main_v0 _ = V c main_v0 _
  congr 1
  funext a
  apply Fin.ext
  have hi := at1_1 t
  match a with
  | ⟨0, _⟩ => show win1_1.index t 0 * 48 + 1 * r.val = t.val * 48 + r.val; rw [hi.1]; omega
  | ⟨1, _⟩ => show win1_1.index t 1 * 11008 + 1 * l.val = l.val + 11008; rw [hi.2]; omega

/-- What the body computes at one entry. -/
theorem pay1 (a b : Vec Ideal S48x11008 .bf16) (r : Fin 48) (l : Fin 11008) :
    k1_pay1 a b (ix2 r l) = a (ix2 r l) * Ideal.logistic (a (ix2 r l)) * b (ix2 r l) := by
  pointwise [k1_pay1]

/-- What the body leaves in the result's staging buffer. -/
theorem left1 (a b : Vec Ideal S48x11008 .bf16) : out1_2 a b = k1_pay1 a b := by
  unfold out1_2
  rw [View.canon_unit_zero origin]
  simp only [View.ld_unit_zero (S := S48x11008) origin]

/-- The result, from the array the call reads. -/
def result1 (c : Dev nD) : Mat 4128 11008 := act (V c main_v0)

/-- The grid point that writes an index of the result. -/
def pointOf1 (i : S4128x11008.Idx) : Fin cfg1.N :=
  ⟨(i 0 : Nat) / 48, by
    have h0 : (i 0 : Nat) < 4128 := (i 0).isLt
    rw [show cfg1.N = 86 from N_1]; omega⟩

/-- What a grid point leaves is its block of the result. -/
theorem block1 (c : Dev nD) (t : Fin cfg1.N) (r : Fin 48) (l : Fin 11008) :
    out1_2 (iblk1 V c 0 t) (iblk1 V c 1 t) (ix2 r l) = result1 V c (ix2 (rowOf1 t r) l) := by
  rw [left1]
  refine (pay1 (iblk1 V c 0 t) (iblk1 V c 1 t) r l).trans ?_
  rw [blk1_0 V c t r l, blk1_1 V c t r l]
  rfl

/-- The call's result array after the run. -/
theorem final1 (c : Dev nD) : (dat1 V c).arrAt 2 cfg1.N = result1 V c :=
  (dat1 V c).arrAt_eq_of_cover 2 (result1 V c) (fun t _ => by
    rw [show (dat1 V c).flushed 2 t = (cfg1.win 2).cut (grid1.coords t) ((dat1 V c).after 2 t) from rfl, after1_2]
    funext j
    obtain ⟨r, l, rfl⟩ : ∃ (r : Fin 48) (l : Fin 11008), j = ix2 r l := index_eq j
    rw [View.read_apply]
    have hi := at1_2 t
    have hj : ((cfg1.win 2).blk t).view.emb (ix2 r l) = ix2 (rowOf1 t r) l := by
      funext a
      apply Fin.ext
      match a with
      | ⟨0, _⟩ => show win1_2.index t 0 * 48 + 1 * r.val = t.val * 48 + r.val; rw [hi.1]; omega
      | ⟨1, _⟩ => show win1_2.index t 1 * 11008 + 1 * l.val = l.val; rw [hi.2]; omega
    rw [hj]
    exact block1 V c t r l) fun i =>
    ⟨pointOf1 i, flush1_2 _, by
      show i ∈ ((View.whole main_v1).slice (win1_2.rect (pointOf1 i))).set
      rw [View.set_slice_whole, Rect.mem_set_unit]
      have h0 : (i 0 : Nat) < 4128 := (i 0).isLt
      have h1 : (i 1 : Nat) < 11008 := (i 1).isLt
      have hi := at1_2 (pointOf1 i)
      have hv : (pointOf1 i).val = (i 0 : Nat) / 48 := rfl
      intro a
      match a with
      | ⟨0, _⟩ => show win1_2.index (pointOf1 i) 0 * 48 ≤ (i 0 : Nat) ∧ (i 0 : Nat) < win1_2.index (pointOf1 i) 0 * 48 + 48; rw [hi.1, hv]; omega
      | ⟨1, _⟩ => show win1_2.index (pointOf1 i) 1 * 11008 ≤ (i 1 : Nat) ∧ (i 1 : Nat) < win1_2.index (pointOf1 i) 1 * 11008 + 11008; rw [hi.2]; omega⟩

end Cert.FfnBwdIdeal.Act

end
-- ==== Proof.FfnBwdDa.lean ====
/-
  The gradient at the gated product: the incoming gradient times the down projection transposed.
-/
module

public import proofs.«01_k».proof.Proof.Gen.FfnBwdIdeal.Frame.Region2
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.Da

open Cert.FfnBwdIdeal Cert.FfnBwdIdeal.Gen Cert.Products

variable (V : (c : Dev nD) → (b : Ref sig .tc) → Buf (Elt Ideal) ((c : Thread nD τ).loc b))

theorem points2 (t : Fin cfg2.N) : t.val < 129 := lt_of_lt_of_eq t.isLt (show cfg2.N = 129 from N_2)

/-! ## Where each block lies -/

theorem at2_0 : ∀ t : Fin cfg2.N, win2_0.index t 0 = t.val / 43 ∧ win2_0.index t 1 = 0 :=
  show ∀ t : Fin grid2.N, _ by decide +kernel
theorem at2_1 : ∀ t : Fin cfg2.N, win2_1.index t 0 = t.val % 43 ∧ win2_1.index t 1 = 0 :=
  show ∀ t : Fin grid2.N, _ by decide +kernel
theorem at2_2 : ∀ t : Fin cfg2.N, win2_2.index t 0 = t.val / 43 ∧ win2_2.index t 1 = t.val % 43 :=
  show ∀ t : Fin grid2.N, _ by decide +kernel

/-- A window's block, entry by entry; so for the other windows below. -/
theorem blk2_0 (c : Dev nD) (t : Fin cfg2.N) (r : Fin 1376) (l : Fin 4096) :
    iblk2 V c 0 t (ix2 r l) = V c main_arg0 (ix2 (⟨(t.val / 43) * 1376 + r.val, by have := points2 t; omega⟩ : Fin 4128) (⟨(0) * 4096 + l.val, by omega⟩ : Fin 4096)) := by
  unfold iblk2
  rw [View.read_apply]
  exact congrArg (V c main_arg0) (funext fun a => Fin.ext (lies (at2_0 t) r l rfl rfl a))

theorem blk2_1 (c : Dev nD) (t : Fin cfg2.N) (r : Fin 256) (l : Fin 4096) :
    iblk2 V c 1 t (ix2 r l) = V c main_arg3 (ix2 (⟨(t.val % 43) * 256 + r.val, by omega⟩ : Fin 11008) (⟨(0) * 4096 + l.val, by omega⟩ : Fin 4096)) := by
  unfold iblk2
  rw [View.read_apply]
  exact congrArg (V c main_arg3) (funext fun a => Fin.ext (lies (at2_1 t) r l rfl rfl a))

/-! ## One block of the result -/

/-- What the body computes: a product of two blocks. -/
theorem pay2 (a : Vec Ideal S1376x4096 .bf16) (b : Vec Ideal S256x4096 .bf16) (r : Fin 1376) (l : Fin 256) :
    k2_pay1 a b (ix2 r l) = (∑ k : Fin 4096, a (ix2 r k) * b (ix2 l k) : EReal) := by
  pointwise [k2_pay1]

/-- What the body leaves in the result's staging buffer. -/
theorem left2 (a : Vec Ideal S1376x4096 .bf16) (b : Vec Ideal S256x4096 .bf16) : out2_2 a b = k2_pay1 a b := by
  unfold out2_2
  rw [View.canon_unit_zero origin]
  simp only [View.ld_unit_zero (S := S1376x4096) origin, View.ld_unit_zero (S := S256x4096) origin]

/-! ## The whole result -/

/-- The result, as a product of the arrays the call reads. -/
def result2 (c : Dev nD) : Mat 4128 11008 := nt (V c main_arg0) (V c main_arg3)

/-- The grid point that writes an index of the result. -/
def pointOf2 (i : S4128x11008.Idx) : Fin cfg2.N :=
  ⟨(i 0 : Nat) / 1376 * 43 + (i 1 : Nat) / 256, by
    have h0 : (i 0 : Nat) < 4128 := (i 0).isLt
    have h1 : (i 1 : Nat) < 11008 := (i 1).isLt
    rw [show cfg2.N = 129 from N_2]; omega⟩

/-- What a grid point writes back is its block of the result. -/
theorem block2 (c : Dev nD) (t : Fin cfg2.N) (r : Fin 1376) (l : Fin 256) :
    k2_pay1 (iblk2 V c 0 t) (iblk2 V c 1 t) (ix2 r l) = result2 V c (ix2 (⟨(t.val / 43) * 1376 + r.val, by have := points2 t; omega⟩ : Fin 4128) (⟨(t.val % 43) * 256 + l.val, by omega⟩ : Fin 11008)) := by
  refine (pay2 (iblk2 V c 0 t) (iblk2 V c 1 t) r l).trans ?_
  show _ = result2 V c _
  simp only [result2, nt_apply, plus_apply, piece_apply]
  refine Finset.sum_congr rfl fun k _ => congrArg₂ (fun p q : EReal => p * q) ?_ ?_
  · exact (blk2_0 V c t r k).trans (congrArg (V c main_arg0) (same (by simp [shift] <;> omega) (by simp [shift] <;> omega)))
  · exact (blk2_1 V c t l k).trans (congrArg (V c main_arg3) (same (by simp [shift] <;> omega) (by simp [shift] <;> omega)))

/-- The call's result array after the run. -/
theorem final2 (c : Dev nD) : (dat2 V c).arrAt 2 cfg2.N = result2 V c :=
  (dat2 V c).arrAt_eq_of_cover 2 (result2 V c) (fun t _ => by
    show (cfg2.win 2).cut (grid2.coords t) ((dat2 V c).after 2 t) = _
    rw [after2_2, left2]
    funext j
    obtain ⟨r, l, rfl⟩ : ∃ (r : Fin 1376) (l : Fin 256), j = ix2 r l := index_eq j
    rw [View.read_apply]
    exact (block2 V c t r l).trans (congrArg (result2 V c) (funext fun a => (Fin.ext (lies (at2_2 t) r l rfl rfl a)).symm))) fun i =>
    ⟨pointOf2 i, flush2_2 _, by
      show i ∈ ((View.whole main_v2).slice (win2_2.rect (pointOf2 i))).set
      rw [View.set_slice_whole, Rect.mem_set_unit]
      have h0 : (i 0 : Nat) < 4128 := (i 0).isLt
      have h1 : (i 1 : Nat) < 11008 := (i 1).isLt
      have hv : (pointOf2 i).val = (i 0 : Nat) / 1376 * 43 + (i 1 : Nat) / 256 := rfl
      exact holds i (at2_2 _) (by omega) (by omega) (by decide) (by decide)⟩

end Cert.FfnBwdIdeal.Da

end
-- ==== Proof.FfnBwdDwdTheirs.lean ====
/-
  The down projection's gradient, the half of the columns that the sibling device keeps.
-/
module

public import proofs.«01_k».proof.Proof.Gen.FfnBwdIdeal.Frame.Region3
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.DwdTheirs

open Cert.FfnBwdIdeal Cert.FfnBwdIdeal.Gen Cert.Products

variable (V : (c : Dev nD) → (b : Ref sig .tc) → Buf (Elt Ideal) ((c : Thread nD τ).loc b))

theorem points3 (t : Fin cfg3.N) : t.val < 43 := lt_of_lt_of_eq t.isLt (show cfg3.N = 43 from N_3)

/-! ## Where each block lies -/

theorem at3_0 : ∀ t : Fin cfg3.N, win3_0.index t 0 = 0 ∧ win3_0.index t 1 = t.val / 1 :=
  show ∀ t : Fin grid3.N, _ by decide +kernel
theorem at3_1 : ∀ t : Fin cfg3.N, win3_1.index t 0 = 0 ∧ win3_1.index t 1 = t.val % 1 + 1 :=
  show ∀ t : Fin grid3.N, _ by decide +kernel
theorem at3_2 : ∀ t : Fin cfg3.N, win3_2.index t 0 = t.val / 1 ∧ win3_2.index t 1 = t.val % 1 :=
  show ∀ t : Fin grid3.N, _ by decide +kernel

/-- A window's block, entry by entry; so for the other windows below. -/
theorem blk3_0 (c : Dev nD) (t : Fin cfg3.N) (r : Fin 4128) (l : Fin 256) :
    iblk3 V c 0 t (ix2 r l) = V c main_v1 (ix2 (⟨(0) * 4128 + r.val, by omega⟩ : Fin 4128) (⟨(t.val / 1) * 256 + l.val, by have := points3 t; omega⟩ : Fin 11008)) := by
  unfold iblk3
  rw [View.read_apply]
  exact congrArg (V c main_v1) (funext fun a => Fin.ext (lies (at3_0 t) r l rfl rfl a))

theorem blk3_1 (c : Dev nD) (t : Fin cfg3.N) (r : Fin 4128) (l : Fin 2048) :
    iblk3 V c 1 t (ix2 r l) = V c main_arg0 (ix2 (⟨(0) * 4128 + r.val, by omega⟩ : Fin 4128) (⟨(t.val % 1 + 1) * 2048 + l.val, by have := points3 t; omega⟩ : Fin 4096)) := by
  unfold iblk3
  rw [View.read_apply]
  exact congrArg (V c main_arg0) (funext fun a => Fin.ext (lies (at3_1 t) r l rfl rfl a))

/-! ## One block of the result -/

/-- What the body computes: a product of two blocks. -/
theorem pay3 (a : Vec Ideal S4128x256 .bf16) (b : Vec Ideal S4128x2048 .bf16) (r : Fin 256) (l : Fin 2048) :
    k3_pay1 a b (ix2 r l) = (∑ k : Fin 4128, a (ix2 k r) * b (ix2 k l) : EReal) := by
  pointwise [k3_pay1]

/-- What the body leaves in the result's staging buffer. -/
theorem left3 (a : Vec Ideal S4128x256 .bf16) (b : Vec Ideal S4128x2048 .bf16) : out3_2 a b = k3_pay1 a b := by
  unfold out3_2
  rw [View.canon_unit_zero origin]
  simp only [View.ld_unit_zero (S := S4128x256) origin, View.ld_unit_zero (S := S4128x2048) origin]

/-! ## The whole result -/

/-- The result, as a product of the arrays the call reads. -/
def result3 (c : Dev nD) : Mat 11008 2048 := tn (V c main_v1) (piece 0 2048 (a := 4128) (b := 2048) (c := 4128) (d := 4096) (by decide) (by decide) (V c main_arg0))

/-- The grid point that writes an index of the result. -/
def pointOf3 (i : S11008x2048.Idx) : Fin cfg3.N :=
  ⟨(i 0 : Nat) / 256 * 1 + (i 1 : Nat) / 2048, by
    have h0 : (i 0 : Nat) < 11008 := (i 0).isLt
    have h1 : (i 1 : Nat) < 2048 := (i 1).isLt
    rw [show cfg3.N = 43 from N_3]; omega⟩

/-- What a grid point writes back is its block of the result. -/
theorem block3 (c : Dev nD) (t : Fin cfg3.N) (r : Fin 256) (l : Fin 2048) :
    k3_pay1 (iblk3 V c 0 t) (iblk3 V c 1 t) (ix2 r l) = result3 V c (ix2 (⟨(t.val / 1) * 256 + r.val, by have := points3 t; omega⟩ : Fin 11008) (⟨(t.val % 1) * 2048 + l.val, by omega⟩ : Fin 2048)) := by
  refine (pay3 (iblk3 V c 0 t) (iblk3 V c 1 t) r l).trans ?_
  show _ = result3 V c _
  simp only [result3, tn_apply, plus_apply, piece_apply]
  refine Finset.sum_congr rfl fun k _ => congrArg₂ (fun p q : EReal => p * q) ?_ ?_
  · exact (blk3_0 V c t k r).trans (congrArg (V c main_v1) (same (by simp [shift] <;> omega) (by simp [shift] <;> omega)))
  · exact (blk3_1 V c t k l).trans (congrArg (V c main_arg0) (same (by simp [shift] <;> omega) (by simp [shift] <;> omega)))

/-- The call's result array after the run. -/
theorem final3 (c : Dev nD) : (dat3 V c).arrAt 2 cfg3.N = result3 V c :=
  (dat3 V c).arrAt_eq_of_cover 2 (result3 V c) (fun t _ => by
    show (cfg3.win 2).cut (grid3.coords t) ((dat3 V c).after 2 t) = _
    rw [after3_2, left3]
    funext j
    obtain ⟨r, l, rfl⟩ : ∃ (r : Fin 256) (l : Fin 2048), j = ix2 r l := index_eq j
    rw [View.read_apply]
    exact (block3 V c t r l).trans (congrArg (result3 V c) (funext fun a => (Fin.ext (lies (at3_2 t) r l rfl rfl a)).symm))) fun i =>
    ⟨pointOf3 i, flush3_2 _, by
      show i ∈ ((View.whole main_v3).slice (win3_2.rect (pointOf3 i))).set
      rw [View.set_slice_whole, Rect.mem_set_unit]
      have h0 : (i 0 : Nat) < 11008 := (i 0).isLt
      have h1 : (i 1 : Nat) < 2048 := (i 1).isLt
      have hv : (pointOf3 i).val = (i 0 : Nat) / 256 * 1 + (i 1 : Nat) / 2048 := rfl
      exact holds i (at3_2 _) (by omega) (by omega) (by decide) (by decide)⟩

end Cert.FfnBwdIdeal.DwdTheirs

end
-- ==== Proof.FfnBwdDgu.lean ====
/-
  The gradients of the gate and of the up projection, 48 rows at a grid point.
-/
module

public import proofs.«01_k».proof.Proof.Gen.FfnBwdIdeal.Frame.Region4
public import proofs.«01_k».proof.Proof.FfnSpec
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.Dgu

open Cert.FfnBwdIdeal Cert.FfnBwdIdeal.Gen Cert.Products Cert.FfnSpec

variable (V : (c : Dev nD) → (b : Ref sig .tc) → Buf (Elt Ideal) ((c : Thread nD τ).loc b))

theorem points4 (t : Fin cfg4.N) : t.val < 86 := lt_of_lt_of_eq t.isLt (show cfg4.N = 86 from N_4)

/-- Row `r` of a grid point's block. -/
def rowOf4 (t : Fin cfg4.N) (r : Fin 48) : Fin 4128 := ⟨t.val * 48 + r.val, by have := points4 t; omega⟩

theorem at4_0 : ∀ t : Fin cfg4.N, win4_0.index t 0 = t.val ∧ win4_0.index t 1 = 0 :=
  show ∀ t : Fin grid4.N, _ by decide +kernel
theorem at4_1 : ∀ t : Fin cfg4.N, win4_1.index t 0 = t.val ∧ win4_1.index t 1 = 0 :=
  show ∀ t : Fin grid4.N, _ by decide +kernel
theorem at4_2 : ∀ t : Fin cfg4.N, win4_2.index t 0 = t.val ∧ win4_2.index t 1 = 1 :=
  show ∀ t : Fin grid4.N, _ by decide +kernel
theorem at4_3 : ∀ t : Fin cfg4.N, win4_3.index t 0 = t.val ∧ win4_3.index t 1 = 0 :=
  show ∀ t : Fin grid4.N, _ by decide +kernel

/-- A window's block, entry by entry; so for the other windows below. -/
theorem blk4_0 (c : Dev nD) (t : Fin cfg4.N) (r : Fin 48) (l : Fin 11008) :
    iblk4 V c 0 t (ix2 r l) = V c main_v2 (ix2 (rowOf4 t r) l) := by
  unfold iblk4
  rw [View.read_apply]
  show V c main_v2 _ = V c main_v2 _
  congr 1
  funext a
  apply Fin.ext
  have hi := at4_0 t
  match a with
  | ⟨0, _⟩ => show win4_0.index t 0 * 48 + 1 * r.val = t.val * 48 + r.val; rw [hi.1]; omega
  | ⟨1, _⟩ => show win4_0.index t 1 * 11008 + 1 * l.val = l.val; rw [hi.2]; omega

theorem blk4_1 (c : Dev nD) (t : Fin cfg4.N) (r : Fin 48) (l : Fin 11008) :
    iblk4 V c 1 t (ix2 r l) = V c main_v0 (ix2 (rowOf4 t r) (gateCol l)) := by
  unfold iblk4
  rw [View.read_apply]
  show V c main_v0 _ = V c main_v0 _
  congr 1
  funext a
  apply Fin.ext
  have hi := at4_1 t
  match a with
  | ⟨0, _⟩ => show win4_1.index t 0 * 48 + 1 * r.val = t.val * 48 + r.val; rw [hi.1]; omega
  | ⟨1, _⟩ => show win4_1.index t 1 * 11008 + 1 * l.val = l.val; rw [hi.2]; omega

theorem blk4_2 (c : Dev nD) (t : Fin cfg4.N) (r : Fin 48) (l : Fin 11008) :
    iblk4 V c 2 t (ix2 r l) = V c main_v0 (ix2 (rowOf4 t r) (upCol l)) := by
  unfold iblk4
  rw [View.read_apply]
  show V c main_v0 _ = V c main_v0 _
  congr 1
  funext a
  apply Fin.ext
  have hi := at4_2 t
  match a with
  | ⟨0, _⟩ => show win4_2.index t 0 * 48 + 1 * r.val = t.val * 48 + r.val; rw [hi.1]; omega
  | ⟨1, _⟩ => show win4_2.index t 1 * 11008 + 1 * l.val = l.val + 11008; rw [hi.2]; omega

/-- What the body computes for the gate's columns. -/
theorem payGate (g d u : Vec Ideal S48x11008 .bf16) (r : Fin 48) (l : Fin 11008) :
    k4_pay4 g d u (ix2 r l) = gateGrad (d (ix2 r l)) (g (ix2 r l)) (u (ix2 r l)) := by
  unfold gateGrad
  pointwise [k4_pay1, k4_pay2, k4_pay3, k4_pay4]

/-- What the body computes for the up projection's columns. -/
theorem payUp (g d : Vec Ideal S48x11008 .bf16) (r : Fin 48) (l : Fin 11008) :
    k4_pay5 g d (ix2 r l) = upGrad (d (ix2 r l)) (g (ix2 r l)) := by
  unfold upGrad
  pointwise [k4_pay1, k4_pay2, k4_pay3, k4_pay5]

theorem in_up (r : Fin 48) (l : Fin 11008) : r4_2.emb (ix2 r l) = (ix2 r (upCol l) : S48x22016.Idx) := by
  funext a
  apply Fin.ext
  match a with
  | ⟨0, _⟩ => show 0 + 1 * r.val = r.val; omega
  | ⟨1, _⟩ => show 11008 + 1 * l.val = l.val + 11008; omega

theorem in_gate (r : Fin 48) (l : Fin 11008) : r4_1.emb (ix2 r l) = (ix2 r (gateCol l) : S48x22016.Idx) := by
  funext a
  apply Fin.ext
  match a with
  | ⟨0, _⟩ => show 0 + 1 * r.val = r.val; omega
  | ⟨1, _⟩ => show 0 + 1 * l.val = l.val; omega

theorem not_in_up (r : Fin 48) (l : Fin 11008) : (ix2 r (gateCol l) : S48x22016.Idx) ∉ r4_2.set := by
  rw [Rect.mem_set_unit]
  intro h
  exact Nat.not_lt.mpr (h 1).1 l.isLt

/-- The staging buffer at one of the gate's columns. -/
theorem left_gate (d g u : Vec Ideal S48x11008 .bf16) (r : Fin 48) (l : Fin 11008) :
    out4_3 d g u (ix2 r (gateCol l)) = k4_pay4 g d u (ix2 r l) := by
  unfold out4_3
  simp only [View.ld_unit_zero (S := S48x11008) origin]
  have off := View.canon_cons_of_not_mem (⟨r4_2, k4_pay5 g d⟩ : View.Piece (Elt Ideal) S48x22016 .bf16) [⟨r4_1, k4_pay4 g d u⟩] (not_in_up r l)
  have on := View.canon_cons_emb (Val := Elt Ideal) (e := .bf16) r4_1 (k4_pay4 g d u) [] (ix2 r l)
  rw [in_gate r l] at on
  exact off.trans on

/-- The staging buffer at one of the up projection's columns. -/
theorem left_up (d g u : Vec Ideal S48x11008 .bf16) (r : Fin 48) (l : Fin 11008) :
    out4_3 d g u (ix2 r (upCol l)) = k4_pay5 g d (ix2 r l) := by
  unfold out4_3
  simp only [View.ld_unit_zero (S := S48x11008) origin]
  rw [← in_up r l]
  exact View.canon_cons_emb _ _ _ _

/-- The result, from the arrays the call reads. -/
def result4 (c : Dev nD) : Mat 4128 22016 := dgu (V c main_v2) (V c main_v0)

/-- The grid point that writes an index of the result. -/
def pointOf4 (i : S4128x22016.Idx) : Fin cfg4.N :=
  ⟨(i 0 : Nat) / 48, by
    have h0 : (i 0 : Nat) < 4128 := (i 0).isLt
    rw [show cfg4.N = 86 from N_4]; omega⟩

/-- What a grid point leaves is its block of the result. -/
theorem block4 (c : Dev nD) (t : Fin cfg4.N) (r : Fin 48) (l : Fin 22016) :
    out4_3 (iblk4 V c 0 t) (iblk4 V c 1 t) (iblk4 V c 2 t) (ix2 r l) = result4 V c (ix2 (rowOf4 t r) l) := by
  show _ = dgu (V c main_v2) (V c main_v0) (ix2 (rowOf4 t r) l)
  rcases col_cases l with ⟨f, rfl⟩ | ⟨f, rfl⟩
  · rw [dgu_gate, left_gate]
    refine (payGate (iblk4 V c 1 t) (iblk4 V c 0 t) (iblk4 V c 2 t) r f).trans ?_
    rw [blk4_0 V c t r f, blk4_1 V c t r f, blk4_2 V c t r f]
  · rw [dgu_up, left_up]
    refine (payUp (iblk4 V c 1 t) (iblk4 V c 0 t) r f).trans ?_
    rw [blk4_0 V c t r f, blk4_1 V c t r f]

/-- The call's result array after the run. -/
theorem final4 (c : Dev nD) : (dat4 V c).arrAt 3 cfg4.N = result4 V c :=
  (dat4 V c).arrAt_eq_of_cover 3 (result4 V c) (fun t _ => by
    show (cfg4.win 3).cut (grid4.coords t) ((dat4 V c).after 3 t) = _
    rw [after4_3]
    funext j
    obtain ⟨r, l, rfl⟩ : ∃ (r : Fin 48) (l : Fin 22016), j = ix2 r l := index_eq j
    rw [View.read_apply]
    have hi := at4_3 t
    have hj : ((cfg4.win 3).blk t).view.emb (ix2 r l) = ix2 (rowOf4 t r) l := by
      funext a
      apply Fin.ext
      match a with
      | ⟨0, _⟩ => show win4_3.index t 0 * 48 + 1 * r.val = t.val * 48 + r.val; rw [hi.1]; omega
      | ⟨1, _⟩ => show win4_3.index t 1 * 22016 + 1 * l.val = l.val; rw [hi.2]; omega
    rw [hj]
    exact block4 V c t r l) fun i =>
    ⟨pointOf4 i, flush4_3 _, by
      show i ∈ ((View.whole main_v4).slice (win4_3.rect (pointOf4 i))).set
      rw [View.set_slice_whole, Rect.mem_set_unit]
      have h0 : (i 0 : Nat) < 4128 := (i 0).isLt
      have h1 : (i 1 : Nat) < 22016 := (i 1).isLt
      have hv : (pointOf4 i).val = (i 0 : Nat) / 48 := rfl
      exact holds i (at4_3 _) (by omega) (by omega) (by decide) (by decide)⟩

end Cert.FfnBwdIdeal.Dgu

end
-- ==== Proof.FfnBwdDwdMine.lean ====
/-
  The down projection's gradient, the half of the columns that this device keeps, with the sibling's share added.
-/
module

public import proofs.«01_k».proof.Proof.Gen.FfnBwdIdeal.Frame.Region5
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.DwdMine

open Cert.FfnBwdIdeal Cert.FfnBwdIdeal.Gen Cert.Products

variable (V : (c : Dev nD) → (b : Ref sig .tc) → Buf (Elt Ideal) ((c : Thread nD τ).loc b))

theorem points5 (t : Fin cfg5.N) : t.val < 43 := lt_of_lt_of_eq t.isLt (show cfg5.N = 43 from N_5)

/-! ## Where each block lies -/

theorem at5_0 : ∀ t : Fin cfg5.N, win5_0.index t 0 = 0 ∧ win5_0.index t 1 = t.val / 1 :=
  show ∀ t : Fin grid5.N, _ by decide +kernel
theorem at5_1 : ∀ t : Fin cfg5.N, win5_1.index t 0 = 0 ∧ win5_1.index t 1 = t.val % 1 :=
  show ∀ t : Fin grid5.N, _ by decide +kernel
theorem at5_2 : ∀ t : Fin cfg5.N, win5_2.index t 0 = t.val / 1 ∧ win5_2.index t 1 = t.val % 1 :=
  show ∀ t : Fin grid5.N, _ by decide +kernel
theorem at5_3 : ∀ t : Fin cfg5.N, win5_3.index t 0 = t.val / 1 ∧ win5_3.index t 1 = t.val % 1 :=
  show ∀ t : Fin grid5.N, _ by decide +kernel

/-- A window's block, entry by entry; so for the other windows below. -/
theorem blk5_0 (c : Dev nD) (t : Fin cfg5.N) (r : Fin 4128) (l : Fin 256) :
    iblk5 V c 0 t (ix2 r l) = V c main_v1 (ix2 (⟨(0) * 4128 + r.val, by omega⟩ : Fin 4128) (⟨(t.val / 1) * 256 + l.val, by have := points5 t; omega⟩ : Fin 11008)) := by
  unfold iblk5
  rw [View.read_apply]
  exact congrArg (V c main_v1) (funext fun a => Fin.ext (lies (at5_0 t) r l rfl rfl a))

theorem blk5_1 (c : Dev nD) (t : Fin cfg5.N) (r : Fin 4128) (l : Fin 2048) :
    iblk5 V c 1 t (ix2 r l) = V c main_arg0 (ix2 (⟨(0) * 4128 + r.val, by omega⟩ : Fin 4128) (⟨(t.val % 1) * 2048 + l.val, by omega⟩ : Fin 4096)) := by
  unfold iblk5
  rw [View.read_apply]
  exact congrArg (V c main_arg0) (funext fun a => Fin.ext (lies (at5_1 t) r l rfl rfl a))

theorem blk5_2 (c : Dev nD) (t : Fin cfg5.N) (r : Fin 256) (l : Fin 2048) :
    iblk5 V c 2 t (ix2 r l) = V c main_arg4 (ix2 (⟨(t.val / 1) * 256 + r.val, by have := points5 t; omega⟩ : Fin 11008) (⟨(t.val % 1) * 2048 + l.val, by omega⟩ : Fin 2048)) := by
  unfold iblk5
  rw [View.read_apply]
  exact congrArg (V c main_arg4) (funext fun a => Fin.ext (lies (at5_2 t) r l rfl rfl a))

/-! ## One block of the result -/

/-- What the body computes: a product of two blocks, and the addend. -/
theorem pay5 (a : Vec Ideal S4128x256 .bf16) (b : Vec Ideal S4128x2048 .bf16) (e : Vec Ideal S256x2048 .bf16) (r : Fin 256) (l : Fin 2048) :
    k5_pay1 a b e (ix2 r l) = (∑ k : Fin 4128, a (ix2 k r) * b (ix2 k l) : EReal) + e (ix2 r l) := by
  pointwise [k5_pay1]

/-- What the body leaves in the result's staging buffer. -/
theorem left5 (a : Vec Ideal S4128x256 .bf16) (b : Vec Ideal S4128x2048 .bf16) (e : Vec Ideal S256x2048 .bf16) : out5_3 a b e = k5_pay1 a b e := by
  unfold out5_3
  rw [View.canon_unit_zero origin]
  simp only [View.ld_unit_zero (S := S4128x256) origin, View.ld_unit_zero (S := S4128x2048) origin, View.ld_unit_zero (S := S256x2048) origin]

/-! ## The whole result -/

/-- The result, as a product of the arrays the call reads. -/
def result5 (c : Dev nD) : Mat 11008 2048 := plus (tn (V c main_v1) (piece 0 0 (a := 4128) (b := 2048) (c := 4128) (d := 4096) (by decide) (by decide) (V c main_arg0))) (V c main_arg4)

/-- The grid point that writes an index of the result. -/
def pointOf5 (i : S11008x2048.Idx) : Fin cfg5.N :=
  ⟨(i 0 : Nat) / 256 * 1 + (i 1 : Nat) / 2048, by
    have h0 : (i 0 : Nat) < 11008 := (i 0).isLt
    have h1 : (i 1 : Nat) < 2048 := (i 1).isLt
    rw [show cfg5.N = 43 from N_5]; omega⟩

/-- What a grid point writes back is its block of the result. -/
theorem block5 (c : Dev nD) (t : Fin cfg5.N) (r : Fin 256) (l : Fin 2048) :
    k5_pay1 (iblk5 V c 0 t) (iblk5 V c 1 t) (iblk5 V c 2 t) (ix2 r l) = result5 V c (ix2 (⟨(t.val / 1) * 256 + r.val, by have := points5 t; omega⟩ : Fin 11008) (⟨(t.val % 1) * 2048 + l.val, by omega⟩ : Fin 2048)) := by
  refine (pay5 (iblk5 V c 0 t) (iblk5 V c 1 t) (iblk5 V c 2 t) r l).trans ?_
  show _ = result5 V c _
  simp only [result5, tn_apply, plus_apply, piece_apply]
  refine congrArg₂ (fun p q : EReal => p + q) ?_ ?_
  · refine Finset.sum_congr rfl fun k _ => congrArg₂ (fun p q : EReal => p * q) ?_ ?_
    · exact (blk5_0 V c t k r).trans (congrArg (V c main_v1) (same (by simp [shift] <;> omega) (by simp [shift] <;> omega)))
    · exact (blk5_1 V c t k l).trans (congrArg (V c main_arg0) (same (by simp [shift] <;> omega) (by simp [shift] <;> omega)))
  · exact blk5_2 V c t r l

/-- The call's result array after the run. -/
theorem final5 (c : Dev nD) : (dat5 V c).arrAt 3 cfg5.N = result5 V c :=
  (dat5 V c).arrAt_eq_of_cover 3 (result5 V c) (fun t _ => by
    show (cfg5.win 3).cut (grid5.coords t) ((dat5 V c).after 3 t) = _
    rw [after5_3, left5]
    funext j
    obtain ⟨r, l, rfl⟩ : ∃ (r : Fin 256) (l : Fin 2048), j = ix2 r l := index_eq j
    rw [View.read_apply]
    exact (block5 V c t r l).trans (congrArg (result5 V c) (funext fun a => (Fin.ext (lies (at5_3 t) r l rfl rfl a)).symm))) fun i =>
    ⟨pointOf5 i, flush5_3 _, by
      show i ∈ ((View.whole main_v5).slice (win5_3.rect (pointOf5 i))).set
      rw [View.set_slice_whole, Rect.mem_set_unit]
      have h0 : (i 0 : Nat) < 11008 := (i 0).isLt
      have h1 : (i 1 : Nat) < 2048 := (i 1).isLt
      have hv : (pointOf5 i).val = (i 0 : Nat) / 256 * 1 + (i 1 : Nat) / 2048 := rfl
      exact holds i (at5_3 _) (by omega) (by omega) (by decide) (by decide)⟩

end Cert.FfnBwdIdeal.DwdMine

end
-- ==== Proof.FfnBwdDwguTheirs.lean ====
/-
  The gate and up projection's gradient, the half of the rows that the sibling device keeps.
-/
module

public import proofs.«01_k».proof.Proof.Gen.FfnBwdIdeal.Frame.Region6
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.DwguTheirs

open Cert.FfnBwdIdeal Cert.FfnBwdIdeal.Gen Cert.Products

variable (V : (c : Dev nD) → (b : Ref sig .tc) → Buf (Elt Ideal) ((c : Thread nD τ).loc b))

theorem points6 (t : Fin cfg6.N) : t.val < 43 := lt_of_lt_of_eq t.isLt (show cfg6.N = 43 from N_6)

/-! ## Where each block lies -/

theorem at6_0 : ∀ t : Fin cfg6.N, win6_0.index t 0 = 0 ∧ win6_0.index t 1 = t.val / 43 + 1 :=
  show ∀ t : Fin grid6.N, _ by decide +kernel
theorem at6_1 : ∀ t : Fin cfg6.N, win6_1.index t 0 = 0 ∧ win6_1.index t 1 = t.val % 43 :=
  show ∀ t : Fin grid6.N, _ by decide +kernel
theorem at6_2 : ∀ t : Fin cfg6.N, win6_2.index t 0 = t.val / 43 ∧ win6_2.index t 1 = t.val % 43 :=
  show ∀ t : Fin grid6.N, _ by decide +kernel

/-- A window's block, entry by entry; so for the other windows below. -/
theorem blk6_0 (c : Dev nD) (t : Fin cfg6.N) (r : Fin 4128) (l : Fin 2048) :
    iblk6 V c 0 t (ix2 r l) = V c main_arg1 (ix2 (⟨(0) * 4128 + r.val, by omega⟩ : Fin 4128) (⟨(t.val / 43 + 1) * 2048 + l.val, by have := points6 t; omega⟩ : Fin 4096)) := by
  unfold iblk6
  rw [View.read_apply]
  exact congrArg (V c main_arg1) (funext fun a => Fin.ext (lies (at6_0 t) r l rfl rfl a))

theorem blk6_1 (c : Dev nD) (t : Fin cfg6.N) (r : Fin 4128) (l : Fin 512) :
    iblk6 V c 1 t (ix2 r l) = V c main_v4 (ix2 (⟨(0) * 4128 + r.val, by omega⟩ : Fin 4128) (⟨(t.val % 43) * 512 + l.val, by omega⟩ : Fin 22016)) := by
  unfold iblk6
  rw [View.read_apply]
  exact congrArg (V c main_v4) (funext fun a => Fin.ext (lies (at6_1 t) r l rfl rfl a))

/-! ## One block of the result -/

/-- What the body computes: a product of two blocks. -/
theorem pay6 (a : Vec Ideal S4128x2048 .bf16) (b : Vec Ideal S4128x512 .bf16) (r : Fin 2048) (l : Fin 512) :
    k6_pay1 a b (ix2 r l) = (∑ k : Fin 4128, a (ix2 k r) * b (ix2 k l) : EReal) := by
  pointwise [k6_pay1]

/-- What the body leaves in the result's staging buffer. -/
theorem left6 (a : Vec Ideal S4128x2048 .bf16) (b : Vec Ideal S4128x512 .bf16) : out6_2 a b = k6_pay1 a b := by
  unfold out6_2
  rw [View.canon_unit_zero origin]
  simp only [View.ld_unit_zero (S := S4128x2048) origin, View.ld_unit_zero (S := S4128x512) origin]

/-! ## The whole result -/

/-- The result, as a product of the arrays the call reads. -/
def result6 (c : Dev nD) : Mat 2048 22016 := tn (piece 0 2048 (a := 4128) (b := 2048) (c := 4128) (d := 4096) (by decide) (by decide) (V c main_arg1)) (V c main_v4)

/-- The grid point that writes an index of the result. -/
def pointOf6 (i : S2048x22016.Idx) : Fin cfg6.N :=
  ⟨(i 0 : Nat) / 2048 * 43 + (i 1 : Nat) / 512, by
    have h0 : (i 0 : Nat) < 2048 := (i 0).isLt
    have h1 : (i 1 : Nat) < 22016 := (i 1).isLt
    rw [show cfg6.N = 43 from N_6]; omega⟩

/-- What a grid point writes back is its block of the result. -/
theorem block6 (c : Dev nD) (t : Fin cfg6.N) (r : Fin 2048) (l : Fin 512) :
    k6_pay1 (iblk6 V c 0 t) (iblk6 V c 1 t) (ix2 r l) = result6 V c (ix2 (⟨(t.val / 43) * 2048 + r.val, by have := points6 t; omega⟩ : Fin 2048) (⟨(t.val % 43) * 512 + l.val, by omega⟩ : Fin 22016)) := by
  refine (pay6 (iblk6 V c 0 t) (iblk6 V c 1 t) r l).trans ?_
  show _ = result6 V c _
  simp only [result6, tn_apply, plus_apply, piece_apply]
  refine Finset.sum_congr rfl fun k _ => congrArg₂ (fun p q : EReal => p * q) ?_ ?_
  · exact (blk6_0 V c t k r).trans (congrArg (V c main_arg1) (same (by simp [shift] <;> omega) (by simp [shift] <;> omega)))
  · exact (blk6_1 V c t k l).trans (congrArg (V c main_v4) (same (by simp [shift] <;> omega) (by simp [shift] <;> omega)))

/-- The call's result array after the run. -/
theorem final6 (c : Dev nD) : (dat6 V c).arrAt 2 cfg6.N = result6 V c :=
  (dat6 V c).arrAt_eq_of_cover 2 (result6 V c) (fun t _ => by
    show (cfg6.win 2).cut (grid6.coords t) ((dat6 V c).after 2 t) = _
    rw [after6_2, left6]
    funext j
    obtain ⟨r, l, rfl⟩ : ∃ (r : Fin 2048) (l : Fin 512), j = ix2 r l := index_eq j
    rw [View.read_apply]
    exact (block6 V c t r l).trans (congrArg (result6 V c) (funext fun a => (Fin.ext (lies (at6_2 t) r l rfl rfl a)).symm))) fun i =>
    ⟨pointOf6 i, flush6_2 _, by
      show i ∈ ((View.whole main_v6).slice (win6_2.rect (pointOf6 i))).set
      rw [View.set_slice_whole, Rect.mem_set_unit]
      have h0 : (i 0 : Nat) < 2048 := (i 0).isLt
      have h1 : (i 1 : Nat) < 22016 := (i 1).isLt
      have hv : (pointOf6 i).val = (i 0 : Nat) / 2048 * 43 + (i 1 : Nat) / 512 := rfl
      exact holds i (at6_2 _) (by omega) (by omega) (by decide) (by decide)⟩

end Cert.FfnBwdIdeal.DwguTheirs

end
-- ==== Proof.FfnBwdDwguMine.lean ====
/-
  The gate and up projection's gradient, the half of the rows that this device keeps, with the sibling's share added.
-/
module

public import proofs.«01_k».proof.Proof.Gen.FfnBwdIdeal.Frame.Region7
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.DwguMine

open Cert.FfnBwdIdeal Cert.FfnBwdIdeal.Gen Cert.Products

variable (V : (c : Dev nD) → (b : Ref sig .tc) → Buf (Elt Ideal) ((c : Thread nD τ).loc b))

theorem points7 (t : Fin cfg7.N) : t.val < 43 := lt_of_lt_of_eq t.isLt (show cfg7.N = 43 from N_7)

/-! ## Where each block lies -/

theorem at7_0 : ∀ t : Fin cfg7.N, win7_0.index t 0 = 0 ∧ win7_0.index t 1 = t.val / 43 :=
  show ∀ t : Fin grid7.N, _ by decide +kernel
theorem at7_1 : ∀ t : Fin cfg7.N, win7_1.index t 0 = 0 ∧ win7_1.index t 1 = t.val % 43 :=
  show ∀ t : Fin grid7.N, _ by decide +kernel
theorem at7_2 : ∀ t : Fin cfg7.N, win7_2.index t 0 = t.val / 43 ∧ win7_2.index t 1 = t.val % 43 :=
  show ∀ t : Fin grid7.N, _ by decide +kernel
theorem at7_3 : ∀ t : Fin cfg7.N, win7_3.index t 0 = t.val / 43 ∧ win7_3.index t 1 = t.val % 43 :=
  show ∀ t : Fin grid7.N, _ by decide +kernel

/-- A window's block, entry by entry; so for the other windows below. -/
theorem blk7_0 (c : Dev nD) (t : Fin cfg7.N) (r : Fin 4128) (l : Fin 2048) :
    iblk7 V c 0 t (ix2 r l) = V c main_arg1 (ix2 (⟨(0) * 4128 + r.val, by omega⟩ : Fin 4128) (⟨(t.val / 43) * 2048 + l.val, by have := points7 t; omega⟩ : Fin 4096)) := by
  unfold iblk7
  rw [View.read_apply]
  exact congrArg (V c main_arg1) (funext fun a => Fin.ext (lies (at7_0 t) r l rfl rfl a))

theorem blk7_1 (c : Dev nD) (t : Fin cfg7.N) (r : Fin 4128) (l : Fin 512) :
    iblk7 V c 1 t (ix2 r l) = V c main_v4 (ix2 (⟨(0) * 4128 + r.val, by omega⟩ : Fin 4128) (⟨(t.val % 43) * 512 + l.val, by omega⟩ : Fin 22016)) := by
  unfold iblk7
  rw [View.read_apply]
  exact congrArg (V c main_v4) (funext fun a => Fin.ext (lies (at7_1 t) r l rfl rfl a))

theorem blk7_2 (c : Dev nD) (t : Fin cfg7.N) (r : Fin 2048) (l : Fin 512) :
    iblk7 V c 2 t (ix2 r l) = V c main_arg5 (ix2 (⟨(t.val / 43) * 2048 + r.val, by have := points7 t; omega⟩ : Fin 2048) (⟨(t.val % 43) * 512 + l.val, by omega⟩ : Fin 22016)) := by
  unfold iblk7
  rw [View.read_apply]
  exact congrArg (V c main_arg5) (funext fun a => Fin.ext (lies (at7_2 t) r l rfl rfl a))

/-! ## One block of the result -/

/-- What the body computes: a product of two blocks, and the addend. -/
theorem pay7 (a : Vec Ideal S4128x2048 .bf16) (b : Vec Ideal S4128x512 .bf16) (e : Vec Ideal S2048x512 .bf16) (r : Fin 2048) (l : Fin 512) :
    k7_pay1 a b e (ix2 r l) = (∑ k : Fin 4128, a (ix2 k r) * b (ix2 k l) : EReal) + e (ix2 r l) := by
  pointwise [k7_pay1]

/-- What the body leaves in the result's staging buffer. -/
theorem left7 (a : Vec Ideal S4128x2048 .bf16) (b : Vec Ideal S4128x512 .bf16) (e : Vec Ideal S2048x512 .bf16) : out7_3 a b e = k7_pay1 a b e := by
  unfold out7_3
  rw [View.canon_unit_zero origin]
  simp only [View.ld_unit_zero (S := S4128x2048) origin, View.ld_unit_zero (S := S4128x512) origin, View.ld_unit_zero (S := S2048x512) origin]

/-! ## The whole result -/

/-- The result, as a product of the arrays the call reads. -/
def result7 (c : Dev nD) : Mat 2048 22016 := plus (tn (piece 0 0 (a := 4128) (b := 2048) (c := 4128) (d := 4096) (by decide) (by decide) (V c main_arg1)) (V c main_v4)) (V c main_arg5)

/-- The grid point that writes an index of the result. -/
def pointOf7 (i : S2048x22016.Idx) : Fin cfg7.N :=
  ⟨(i 0 : Nat) / 2048 * 43 + (i 1 : Nat) / 512, by
    have h0 : (i 0 : Nat) < 2048 := (i 0).isLt
    have h1 : (i 1 : Nat) < 22016 := (i 1).isLt
    rw [show cfg7.N = 43 from N_7]; omega⟩

/-- What a grid point writes back is its block of the result. -/
theorem block7 (c : Dev nD) (t : Fin cfg7.N) (r : Fin 2048) (l : Fin 512) :
    k7_pay1 (iblk7 V c 0 t) (iblk7 V c 1 t) (iblk7 V c 2 t) (ix2 r l) = result7 V c (ix2 (⟨(t.val / 43) * 2048 + r.val, by have := points7 t; omega⟩ : Fin 2048) (⟨(t.val % 43) * 512 + l.val, by omega⟩ : Fin 22016)) := by
  refine (pay7 (iblk7 V c 0 t) (iblk7 V c 1 t) (iblk7 V c 2 t) r l).trans ?_
  show _ = result7 V c _
  simp only [result7, tn_apply, plus_apply, piece_apply]
  refine congrArg₂ (fun p q : EReal => p + q) ?_ ?_
  · refine Finset.sum_congr rfl fun k _ => congrArg₂ (fun p q : EReal => p * q) ?_ ?_
    · exact (blk7_0 V c t k r).trans (congrArg (V c main_arg1) (same (by simp [shift] <;> omega) (by simp [shift] <;> omega)))
    · exact (blk7_1 V c t k l).trans (congrArg (V c main_v4) (same (by simp [shift] <;> omega) (by simp [shift] <;> omega)))
  · exact blk7_2 V c t r l

/-- The call's result array after the run. -/
theorem final7 (c : Dev nD) : (dat7 V c).arrAt 3 cfg7.N = result7 V c :=
  (dat7 V c).arrAt_eq_of_cover 3 (result7 V c) (fun t _ => by
    show (cfg7.win 3).cut (grid7.coords t) ((dat7 V c).after 3 t) = _
    rw [after7_3, left7]
    funext j
    obtain ⟨r, l, rfl⟩ : ∃ (r : Fin 2048) (l : Fin 512), j = ix2 r l := index_eq j
    rw [View.read_apply]
    exact (block7 V c t r l).trans (congrArg (result7 V c) (funext fun a => (Fin.ext (lies (at7_3 t) r l rfl rfl a)).symm))) fun i =>
    ⟨pointOf7 i, flush7_3 _, by
      show i ∈ ((View.whole main_v7).slice (win7_3.rect (pointOf7 i))).set
      rw [View.set_slice_whole, Rect.mem_set_unit]
      have h0 : (i 0 : Nat) < 2048 := (i 0).isLt
      have h1 : (i 1 : Nat) < 22016 := (i 1).isLt
      have hv : (pointOf7 i).val = (i 0 : Nat) / 2048 * 43 + (i 1 : Nat) / 512 := rfl
      exact holds i (at7_3 _) (by omega) (by omega) (by decide) (by decide)⟩

end Cert.FfnBwdIdeal.DwguMine

end
-- ==== Proof.FfnBwdDh0.lean ====
/-
  The gradient at the FFN's input, part 0 of four of the sum over the gate and up columns.
-/
module

public import proofs.«01_k».proof.Proof.Gen.FfnBwdIdeal.Frame.Region8
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.Dh0

open Cert.FfnBwdIdeal Cert.FfnBwdIdeal.Gen Cert.Products

variable (V : (c : Dev nD) → (b : Ref sig .tc) → Buf (Elt Ideal) ((c : Thread nD τ).loc b))

theorem points8 (t : Fin cfg8.N) : t.val < 24 := lt_of_lt_of_eq t.isLt (show cfg8.N = 24 from N_8)

/-! ## Where each block lies -/

theorem at8_0 : ∀ t : Fin cfg8.N, win8_0.index t 0 = t.val / 8 ∧ win8_0.index t 1 = 0 :=
  show ∀ t : Fin grid8.N, _ by decide +kernel
theorem at8_1 : ∀ t : Fin cfg8.N, win8_1.index t 0 = t.val % 8 ∧ win8_1.index t 1 = 0 :=
  show ∀ t : Fin grid8.N, _ by decide +kernel
theorem at8_2 : ∀ t : Fin cfg8.N, win8_2.index t 0 = t.val / 8 ∧ win8_2.index t 1 = t.val % 8 :=
  show ∀ t : Fin grid8.N, _ by decide +kernel

/-- A window's block, entry by entry; so for the other windows below. -/
theorem blk8_0 (c : Dev nD) (t : Fin cfg8.N) (r : Fin 1376) (l : Fin 5504) :
    iblk8 V c 0 t (ix2 r l) = V c main_v4 (ix2 (⟨(t.val / 8) * 1376 + r.val, by have := points8 t; omega⟩ : Fin 4128) (⟨(0) * 5504 + l.val, by omega⟩ : Fin 22016)) := by
  unfold iblk8
  rw [View.read_apply]
  exact congrArg (V c main_v4) (funext fun a => Fin.ext (lies (at8_0 t) r l rfl rfl a))

theorem blk8_1 (c : Dev nD) (t : Fin cfg8.N) (r : Fin 512) (l : Fin 5504) :
    iblk8 V c 1 t (ix2 r l) = V c main_arg2 (ix2 (⟨(t.val % 8) * 512 + r.val, by omega⟩ : Fin 4096) (⟨(0) * 5504 + l.val, by omega⟩ : Fin 22016)) := by
  unfold iblk8
  rw [View.read_apply]
  exact congrArg (V c main_arg2) (funext fun a => Fin.ext (lies (at8_1 t) r l rfl rfl a))

/-! ## One block of the result -/

/-- What the body computes: a product of two blocks. -/
theorem pay8 (a : Vec Ideal S1376x5504 .bf16) (b : Vec Ideal S512x5504 .bf16) (r : Fin 1376) (l : Fin 512) :
    k8_pay1 a b (ix2 r l) = (∑ k : Fin 5504, a (ix2 r k) * b (ix2 l k) : EReal) := by
  pointwise [k8_pay1]

/-- What the body leaves in the result's staging buffer. -/
theorem left8 (a : Vec Ideal S1376x5504 .bf16) (b : Vec Ideal S512x5504 .bf16) : out8_2 a b = k8_pay1 a b := by
  unfold out8_2
  rw [View.canon_unit_zero origin]
  simp only [View.ld_unit_zero (S := S1376x5504) origin, View.ld_unit_zero (S := S512x5504) origin]

/-! ## The whole result -/

/-- The result, as a product of the arrays the call reads. -/
def result8 (c : Dev nD) : Mat 4128 4096 := nt (piece 0 0 (a := 4128) (b := 5504) (c := 4128) (d := 22016) (by decide) (by decide) (V c main_v4)) (piece 0 0 (a := 4096) (b := 5504) (c := 4096) (d := 22016) (by decide) (by decide) (V c main_arg2))

/-- The grid point that writes an index of the result. -/
def pointOf8 (i : S4128x4096.Idx) : Fin cfg8.N :=
  ⟨(i 0 : Nat) / 1376 * 8 + (i 1 : Nat) / 512, by
    have h0 : (i 0 : Nat) < 4128 := (i 0).isLt
    have h1 : (i 1 : Nat) < 4096 := (i 1).isLt
    rw [show cfg8.N = 24 from N_8]; omega⟩

/-- What a grid point writes back is its block of the result. -/
theorem block8 (c : Dev nD) (t : Fin cfg8.N) (r : Fin 1376) (l : Fin 512) :
    k8_pay1 (iblk8 V c 0 t) (iblk8 V c 1 t) (ix2 r l) = result8 V c (ix2 (⟨(t.val / 8) * 1376 + r.val, by have := points8 t; omega⟩ : Fin 4128) (⟨(t.val % 8) * 512 + l.val, by omega⟩ : Fin 4096)) := by
  refine (pay8 (iblk8 V c 0 t) (iblk8 V c 1 t) r l).trans ?_
  show _ = result8 V c _
  simp only [result8, nt_apply, plus_apply, piece_apply]
  refine Finset.sum_congr rfl fun k _ => congrArg₂ (fun p q : EReal => p * q) ?_ ?_
  · exact (blk8_0 V c t r k).trans (congrArg (V c main_v4) (same (by simp [shift] <;> omega) (by simp [shift] <;> omega)))
  · exact (blk8_1 V c t l k).trans (congrArg (V c main_arg2) (same (by simp [shift] <;> omega) (by simp [shift] <;> omega)))

/-- The call's result array after the run. -/
theorem final8 (c : Dev nD) : (dat8 V c).arrAt 2 cfg8.N = result8 V c :=
  (dat8 V c).arrAt_eq_of_cover 2 (result8 V c) (fun t _ => by
    show (cfg8.win 2).cut (grid8.coords t) ((dat8 V c).after 2 t) = _
    rw [after8_2, left8]
    funext j
    obtain ⟨r, l, rfl⟩ : ∃ (r : Fin 1376) (l : Fin 512), j = ix2 r l := index_eq j
    rw [View.read_apply]
    exact (block8 V c t r l).trans (congrArg (result8 V c) (funext fun a => (Fin.ext (lies (at8_2 t) r l rfl rfl a)).symm))) fun i =>
    ⟨pointOf8 i, flush8_2 _, by
      show i ∈ ((View.whole main_v8).slice (win8_2.rect (pointOf8 i))).set
      rw [View.set_slice_whole, Rect.mem_set_unit]
      have h0 : (i 0 : Nat) < 4128 := (i 0).isLt
      have h1 : (i 1 : Nat) < 4096 := (i 1).isLt
      have hv : (pointOf8 i).val = (i 0 : Nat) / 1376 * 8 + (i 1 : Nat) / 512 := rfl
      exact holds i (at8_2 _) (by omega) (by omega) (by decide) (by decide)⟩

end Cert.FfnBwdIdeal.Dh0

end
-- ==== Proof.FfnBwdDh1.lean ====
/-
  The gradient at the FFN's input, part 1 of four of the sum over the gate and up columns, added to the parts before.
-/
module

public import proofs.«01_k».proof.Proof.Gen.FfnBwdIdeal.Frame.Region9
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.Dh1

open Cert.FfnBwdIdeal Cert.FfnBwdIdeal.Gen Cert.Products

variable (V : (c : Dev nD) → (b : Ref sig .tc) → Buf (Elt Ideal) ((c : Thread nD τ).loc b))

theorem points9 (t : Fin cfg9.N) : t.val < 24 := lt_of_lt_of_eq t.isLt (show cfg9.N = 24 from N_9)

/-! ## Where each block lies -/

theorem at9_0 : ∀ t : Fin cfg9.N, win9_0.index t 0 = t.val / 8 ∧ win9_0.index t 1 = 1 :=
  show ∀ t : Fin grid9.N, _ by decide +kernel
theorem at9_1 : ∀ t : Fin cfg9.N, win9_1.index t 0 = t.val % 8 ∧ win9_1.index t 1 = 1 :=
  show ∀ t : Fin grid9.N, _ by decide +kernel
theorem at9_2 : ∀ t : Fin cfg9.N, win9_2.index t 0 = t.val / 8 ∧ win9_2.index t 1 = t.val % 8 :=
  show ∀ t : Fin grid9.N, _ by decide +kernel
theorem at9_3 : ∀ t : Fin cfg9.N, win9_3.index t 0 = t.val / 8 ∧ win9_3.index t 1 = t.val % 8 :=
  show ∀ t : Fin grid9.N, _ by decide +kernel

/-- A window's block, entry by entry; so for the other windows below. -/
theorem blk9_0 (c : Dev nD) (t : Fin cfg9.N) (r : Fin 1376) (l : Fin 5504) :
    iblk9 V c 0 t (ix2 r l) = V c main_v4 (ix2 (⟨(t.val / 8) * 1376 + r.val, by have := points9 t; omega⟩ : Fin 4128) (⟨(1) * 5504 + l.val, by omega⟩ : Fin 22016)) := by
  unfold iblk9
  rw [View.read_apply]
  exact congrArg (V c main_v4) (funext fun a => Fin.ext (lies (at9_0 t) r l rfl rfl a))

theorem blk9_1 (c : Dev nD) (t : Fin cfg9.N) (r : Fin 512) (l : Fin 5504) :
    iblk9 V c 1 t (ix2 r l) = V c main_arg2 (ix2 (⟨(t.val % 8) * 512 + r.val, by omega⟩ : Fin 4096) (⟨(1) * 5504 + l.val, by omega⟩ : Fin 22016)) := by
  unfold iblk9
  rw [View.read_apply]
  exact congrArg (V c main_arg2) (funext fun a => Fin.ext (lies (at9_1 t) r l rfl rfl a))

theorem blk9_2 (c : Dev nD) (t : Fin cfg9.N) (r : Fin 1376) (l : Fin 512) :
    iblk9 V c 2 t (ix2 r l) = V c main_v8 (ix2 (⟨(t.val / 8) * 1376 + r.val, by have := points9 t; omega⟩ : Fin 4128) (⟨(t.val % 8) * 512 + l.val, by omega⟩ : Fin 4096)) := by
  unfold iblk9
  rw [View.read_apply]
  exact congrArg (V c main_v8) (funext fun a => Fin.ext (lies (at9_2 t) r l rfl rfl a))

/-! ## One block of the result -/

/-- What the body computes: a product of two blocks, and the addend. -/
theorem pay9 (a : Vec Ideal S1376x5504 .bf16) (b : Vec Ideal S512x5504 .bf16) (e : Vec Ideal S1376x512 .f32) (r : Fin 1376) (l : Fin 512) :
    k9_pay1 a b e (ix2 r l) = (∑ k : Fin 5504, a (ix2 r k) * b (ix2 l k) : EReal) + e (ix2 r l) := by
  pointwise [k9_pay1]

/-- What the body leaves in the result's staging buffer. -/
theorem left9 (a : Vec Ideal S1376x5504 .bf16) (b : Vec Ideal S512x5504 .bf16) (e : Vec Ideal S1376x512 .f32) : out9_3 a b e = k9_pay1 a b e := by
  unfold out9_3
  rw [View.canon_unit_zero origin]
  simp only [View.ld_unit_zero (S := S1376x5504) origin, View.ld_unit_zero (S := S512x5504) origin, View.ld_unit_zero (S := S1376x512) origin]

/-! ## The whole result -/

/-- The result, as a product of the arrays the call reads. -/
def result9 (c : Dev nD) : Mat 4128 4096 := plus (nt (piece 0 5504 (a := 4128) (b := 5504) (c := 4128) (d := 22016) (by decide) (by decide) (V c main_v4)) (piece 0 5504 (a := 4096) (b := 5504) (c := 4096) (d := 22016) (by decide) (by decide) (V c main_arg2))) (V c main_v8)

/-- The grid point that writes an index of the result. -/
def pointOf9 (i : S4128x4096.Idx) : Fin cfg9.N :=
  ⟨(i 0 : Nat) / 1376 * 8 + (i 1 : Nat) / 512, by
    have h0 : (i 0 : Nat) < 4128 := (i 0).isLt
    have h1 : (i 1 : Nat) < 4096 := (i 1).isLt
    rw [show cfg9.N = 24 from N_9]; omega⟩

/-- What a grid point writes back is its block of the result. -/
theorem block9 (c : Dev nD) (t : Fin cfg9.N) (r : Fin 1376) (l : Fin 512) :
    k9_pay1 (iblk9 V c 0 t) (iblk9 V c 1 t) (iblk9 V c 2 t) (ix2 r l) = result9 V c (ix2 (⟨(t.val / 8) * 1376 + r.val, by have := points9 t; omega⟩ : Fin 4128) (⟨(t.val % 8) * 512 + l.val, by omega⟩ : Fin 4096)) := by
  refine (pay9 (iblk9 V c 0 t) (iblk9 V c 1 t) (iblk9 V c 2 t) r l).trans ?_
  show _ = result9 V c _
  simp only [result9, nt_apply, plus_apply, piece_apply]
  refine congrArg₂ (fun p q : EReal => p + q) ?_ ?_
  · refine Finset.sum_congr rfl fun k _ => congrArg₂ (fun p q : EReal => p * q) ?_ ?_
    · exact (blk9_0 V c t r k).trans (congrArg (V c main_v4) (same (by simp [shift] <;> omega) (by simp [shift] <;> omega)))
    · exact (blk9_1 V c t l k).trans (congrArg (V c main_arg2) (same (by simp [shift] <;> omega) (by simp [shift] <;> omega)))
  · exact blk9_2 V c t r l

/-- The call's result array after the run. -/
theorem final9 (c : Dev nD) : (dat9 V c).arrAt 3 cfg9.N = result9 V c :=
  (dat9 V c).arrAt_eq_of_cover 3 (result9 V c) (fun t _ => by
    show (cfg9.win 3).cut (grid9.coords t) ((dat9 V c).after 3 t) = _
    rw [after9_3, left9]
    funext j
    obtain ⟨r, l, rfl⟩ : ∃ (r : Fin 1376) (l : Fin 512), j = ix2 r l := index_eq j
    rw [View.read_apply]
    exact (block9 V c t r l).trans (congrArg (result9 V c) (funext fun a => (Fin.ext (lies (at9_3 t) r l rfl rfl a)).symm))) fun i =>
    ⟨pointOf9 i, flush9_3 _, by
      show i ∈ ((View.whole main_v9).slice (win9_3.rect (pointOf9 i))).set
      rw [View.set_slice_whole, Rect.mem_set_unit]
      have h0 : (i 0 : Nat) < 4128 := (i 0).isLt
      have h1 : (i 1 : Nat) < 4096 := (i 1).isLt
      have hv : (pointOf9 i).val = (i 0 : Nat) / 1376 * 8 + (i 1 : Nat) / 512 := rfl
      exact holds i (at9_3 _) (by omega) (by omega) (by decide) (by decide)⟩

end Cert.FfnBwdIdeal.Dh1

end
-- ==== Proof.FfnBwdDh2.lean ====
/-
  The gradient at the FFN's input, part 2 of four of the sum over the gate and up columns, added to the parts before.
-/
module

public import proofs.«01_k».proof.Proof.Gen.FfnBwdIdeal.Frame.Region10
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.Dh2

open Cert.FfnBwdIdeal Cert.FfnBwdIdeal.Gen Cert.Products

variable (V : (c : Dev nD) → (b : Ref sig .tc) → Buf (Elt Ideal) ((c : Thread nD τ).loc b))

theorem points10 (t : Fin cfg10.N) : t.val < 24 := lt_of_lt_of_eq t.isLt (show cfg10.N = 24 from N_10)

/-! ## Where each block lies -/

theorem at10_0 : ∀ t : Fin cfg10.N, win10_0.index t 0 = t.val / 8 ∧ win10_0.index t 1 = 2 :=
  show ∀ t : Fin grid10.N, _ by decide +kernel
theorem at10_1 : ∀ t : Fin cfg10.N, win10_1.index t 0 = t.val % 8 ∧ win10_1.index t 1 = 2 :=
  show ∀ t : Fin grid10.N, _ by decide +kernel
theorem at10_2 : ∀ t : Fin cfg10.N, win10_2.index t 0 = t.val / 8 ∧ win10_2.index t 1 = t.val % 8 :=
  show ∀ t : Fin grid10.N, _ by decide +kernel
theorem at10_3 : ∀ t : Fin cfg10.N, win10_3.index t 0 = t.val / 8 ∧ win10_3.index t 1 = t.val % 8 :=
  show ∀ t : Fin grid10.N, _ by decide +kernel

/-- A window's block, entry by entry; so for the other windows below. -/
theorem blk10_0 (c : Dev nD) (t : Fin cfg10.N) (r : Fin 1376) (l : Fin 5504) :
    iblk10 V c 0 t (ix2 r l) = V c main_v4 (ix2 (⟨(t.val / 8) * 1376 + r.val, by have := points10 t; omega⟩ : Fin 4128) (⟨(2) * 5504 + l.val, by omega⟩ : Fin 22016)) := by
  unfold iblk10
  rw [View.read_apply]
  exact congrArg (V c main_v4) (funext fun a => Fin.ext (lies (at10_0 t) r l rfl rfl a))

theorem blk10_1 (c : Dev nD) (t : Fin cfg10.N) (r : Fin 512) (l : Fin 5504) :
    iblk10 V c 1 t (ix2 r l) = V c main_arg2 (ix2 (⟨(t.val % 8) * 512 + r.val, by omega⟩ : Fin 4096) (⟨(2) * 5504 + l.val, by omega⟩ : Fin 22016)) := by
  unfold iblk10
  rw [View.read_apply]
  exact congrArg (V c main_arg2) (funext fun a => Fin.ext (lies (at10_1 t) r l rfl rfl a))

theorem blk10_2 (c : Dev nD) (t : Fin cfg10.N) (r : Fin 1376) (l : Fin 512) :
    iblk10 V c 2 t (ix2 r l) = V c main_v9 (ix2 (⟨(t.val / 8) * 1376 + r.val, by have := points10 t; omega⟩ : Fin 4128) (⟨(t.val % 8) * 512 + l.val, by omega⟩ : Fin 4096)) := by
  unfold iblk10
  rw [View.read_apply]
  exact congrArg (V c main_v9) (funext fun a => Fin.ext (lies (at10_2 t) r l rfl rfl a))

/-! ## One block of the result -/

/-- What the body computes: a product of two blocks, and the addend. -/
theorem pay10 (a : Vec Ideal S1376x5504 .bf16) (b : Vec Ideal S512x5504 .bf16) (e : Vec Ideal S1376x512 .f32) (r : Fin 1376) (l : Fin 512) :
    k10_pay1 a b e (ix2 r l) = (∑ k : Fin 5504, a (ix2 r k) * b (ix2 l k) : EReal) + e (ix2 r l) := by
  pointwise [k10_pay1]

/-- What the body leaves in the result's staging buffer. -/
theorem left10 (a : Vec Ideal S1376x5504 .bf16) (b : Vec Ideal S512x5504 .bf16) (e : Vec Ideal S1376x512 .f32) : out10_3 a b e = k10_pay1 a b e := by
  unfold out10_3
  rw [View.canon_unit_zero origin]
  simp only [View.ld_unit_zero (S := S1376x5504) origin, View.ld_unit_zero (S := S512x5504) origin, View.ld_unit_zero (S := S1376x512) origin]

/-! ## The whole result -/

/-- The result, as a product of the arrays the call reads. -/
def result10 (c : Dev nD) : Mat 4128 4096 := plus (nt (piece 0 11008 (a := 4128) (b := 5504) (c := 4128) (d := 22016) (by decide) (by decide) (V c main_v4)) (piece 0 11008 (a := 4096) (b := 5504) (c := 4096) (d := 22016) (by decide) (by decide) (V c main_arg2))) (V c main_v9)

/-- The grid point that writes an index of the result. -/
def pointOf10 (i : S4128x4096.Idx) : Fin cfg10.N :=
  ⟨(i 0 : Nat) / 1376 * 8 + (i 1 : Nat) / 512, by
    have h0 : (i 0 : Nat) < 4128 := (i 0).isLt
    have h1 : (i 1 : Nat) < 4096 := (i 1).isLt
    rw [show cfg10.N = 24 from N_10]; omega⟩

/-- What a grid point writes back is its block of the result. -/
theorem block10 (c : Dev nD) (t : Fin cfg10.N) (r : Fin 1376) (l : Fin 512) :
    k10_pay1 (iblk10 V c 0 t) (iblk10 V c 1 t) (iblk10 V c 2 t) (ix2 r l) = result10 V c (ix2 (⟨(t.val / 8) * 1376 + r.val, by have := points10 t; omega⟩ : Fin 4128) (⟨(t.val % 8) * 512 + l.val, by omega⟩ : Fin 4096)) := by
  refine (pay10 (iblk10 V c 0 t) (iblk10 V c 1 t) (iblk10 V c 2 t) r l).trans ?_
  show _ = result10 V c _
  simp only [result10, nt_apply, plus_apply, piece_apply]
  refine congrArg₂ (fun p q : EReal => p + q) ?_ ?_
  · refine Finset.sum_congr rfl fun k _ => congrArg₂ (fun p q : EReal => p * q) ?_ ?_
    · exact (blk10_0 V c t r k).trans (congrArg (V c main_v4) (same (by simp [shift] <;> omega) (by simp [shift] <;> omega)))
    · exact (blk10_1 V c t l k).trans (congrArg (V c main_arg2) (same (by simp [shift] <;> omega) (by simp [shift] <;> omega)))
  · exact blk10_2 V c t r l

/-- The call's result array after the run. -/
theorem final10 (c : Dev nD) : (dat10 V c).arrAt 3 cfg10.N = result10 V c :=
  (dat10 V c).arrAt_eq_of_cover 3 (result10 V c) (fun t _ => by
    show (cfg10.win 3).cut (grid10.coords t) ((dat10 V c).after 3 t) = _
    rw [after10_3, left10]
    funext j
    obtain ⟨r, l, rfl⟩ : ∃ (r : Fin 1376) (l : Fin 512), j = ix2 r l := index_eq j
    rw [View.read_apply]
    exact (block10 V c t r l).trans (congrArg (result10 V c) (funext fun a => (Fin.ext (lies (at10_3 t) r l rfl rfl a)).symm))) fun i =>
    ⟨pointOf10 i, flush10_3 _, by
      show i ∈ ((View.whole main_v10).slice (win10_3.rect (pointOf10 i))).set
      rw [View.set_slice_whole, Rect.mem_set_unit]
      have h0 : (i 0 : Nat) < 4128 := (i 0).isLt
      have h1 : (i 1 : Nat) < 4096 := (i 1).isLt
      have hv : (pointOf10 i).val = (i 0 : Nat) / 1376 * 8 + (i 1 : Nat) / 512 := rfl
      exact holds i (at10_3 _) (by omega) (by omega) (by decide) (by decide)⟩

end Cert.FfnBwdIdeal.Dh2

end
-- ==== Proof.FfnBwdDh3.lean ====
/-
  The gradient at the FFN's input, part 3 of four of the sum over the gate and up columns, added to the parts before.
-/
module

public import proofs.«01_k».proof.Proof.Gen.FfnBwdIdeal.Frame.Region11
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnBwdIdeal.Dh3

open Cert.FfnBwdIdeal Cert.FfnBwdIdeal.Gen Cert.Products

variable (V : (c : Dev nD) → (b : Ref sig .tc) → Buf (Elt Ideal) ((c : Thread nD τ).loc b))

theorem points11 (t : Fin cfg11.N) : t.val < 24 := lt_of_lt_of_eq t.isLt (show cfg11.N = 24 from N_11)

/-! ## Where each block lies -/

theorem at11_0 : ∀ t : Fin cfg11.N, win11_0.index t 0 = t.val / 8 ∧ win11_0.index t 1 = 3 :=
  show ∀ t : Fin grid11.N, _ by decide +kernel
theorem at11_1 : ∀ t : Fin cfg11.N, win11_1.index t 0 = t.val % 8 ∧ win11_1.index t 1 = 3 :=
  show ∀ t : Fin grid11.N, _ by decide +kernel
theorem at11_2 : ∀ t : Fin cfg11.N, win11_2.index t 0 = t.val / 8 ∧ win11_2.index t 1 = t.val % 8 :=
  show ∀ t : Fin grid11.N, _ by decide +kernel
theorem at11_3 : ∀ t : Fin cfg11.N, win11_3.index t 0 = t.val / 8 ∧ win11_3.index t 1 = t.val % 8 :=
  show ∀ t : Fin grid11.N, _ by decide +kernel

/-- A window's block, entry by entry; so for the other windows below. -/
theorem blk11_0 (c : Dev nD) (t : Fin cfg11.N) (r : Fin 1376) (l : Fin 5504) :
    iblk11 V c 0 t (ix2 r l) = V c main_v4 (ix2 (⟨(t.val / 8) * 1376 + r.val, by have := points11 t; omega⟩ : Fin 4128) (⟨(3) * 5504 + l.val, by omega⟩ : Fin 22016)) := by
  unfold iblk11
  rw [View.read_apply]
  exact congrArg (V c main_v4) (funext fun a => Fin.ext (lies (at11_0 t) r l rfl rfl a))

theorem blk11_1 (c : Dev nD) (t : Fin cfg11.N) (r : Fin 512) (l : Fin 5504) :
    iblk11 V c 1 t (ix2 r l) = V c main_arg2 (ix2 (⟨(t.val % 8) * 512 + r.val, by omega⟩ : Fin 4096) (⟨(3) * 5504 + l.val, by omega⟩ : Fin 22016)) := by
  unfold iblk11
  rw [View.read_apply]
  exact congrArg (V c main_arg2) (funext fun a => Fin.ext (lies (at11_1 t) r l rfl rfl a))

theorem blk11_2 (c : Dev nD) (t : Fin cfg11.N) (r : Fin 1376) (l : Fin 512) :
    iblk11 V c 2 t (ix2 r l) = V c main_v10 (ix2 (⟨(t.val / 8) * 1376 + r.val, by have := points11 t; omega⟩ : Fin 4128) (⟨(t.val % 8) * 512 + l.val, by omega⟩ : Fin 4096)) := by
  unfold iblk11
  rw [View.read_apply]
  exact congrArg (V c main_v10) (funext fun a => Fin.ext (lies (at11_2 t) r l rfl rfl a))

/-! ## One block of the result -/

/-- What the body computes: a product of two blocks, and the addend. -/
theorem pay11 (a : Vec Ideal S1376x5504 .bf16) (b : Vec Ideal S512x5504 .bf16) (e : Vec Ideal S1376x512 .f32) (r : Fin 1376) (l : Fin 512) :
    k11_pay1 a b e (ix2 r l) = (∑ k : Fin 5504, a (ix2 r k) * b (ix2 l k) : EReal) + e (ix2 r l) := by
  pointwise [k11_pay1]

/-- What the body leaves in the result's staging buffer. -/
theorem left11 (a : Vec Ideal S1376x5504 .bf16) (b : Vec Ideal S512x5504 .bf16) (e : Vec Ideal S1376x512 .f32) : out11_3 a b e = k11_pay1 a b e := by
  unfold out11_3
  rw [View.canon_unit_zero origin]
  simp only [View.ld_unit_zero (S := S1376x5504) origin, View.ld_unit_zero (S := S512x5504) origin, View.ld_unit_zero (S := S1376x512) origin]

/-! ## The whole result -/

/-- The result, as a product of the arrays the call reads. -/
def result11 (c : Dev nD) : Mat 4128 4096 := plus (nt (piece 0 16512 (a := 4128) (b := 5504) (c := 4128) (d := 22016) (by decide) (by decide) (V c main_v4)) (piece 0 16512 (a := 4096) (b := 5504) (c := 4096) (d := 22016) (by decide) (by decide) (V c main_arg2))) (V c main_v10)

/-- The grid point that writes an index of the result. -/
def pointOf11 (i : S4128x4096.Idx) : Fin cfg11.N :=
  ⟨(i 0 : Nat) / 1376 * 8 + (i 1 : Nat) / 512, by
    have h0 : (i 0 : Nat) < 4128 := (i 0).isLt
    have h1 : (i 1 : Nat) < 4096 := (i 1).isLt
    rw [show cfg11.N = 24 from N_11]; omega⟩

/-- What a grid point writes back is its block of the result. -/
theorem block11 (c : Dev nD) (t : Fin cfg11.N) (r : Fin 1376) (l : Fin 512) :
    k11_pay1 (iblk11 V c 0 t) (iblk11 V c 1 t) (iblk11 V c 2 t) (ix2 r l) = result11 V c (ix2 (⟨(t.val / 8) * 1376 + r.val, by have := points11 t; omega⟩ : Fin 4128) (⟨(t.val % 8) * 512 + l.val, by omega⟩ : Fin 4096)) := by
  refine (pay11 (iblk11 V c 0 t) (iblk11 V c 1 t) (iblk11 V c 2 t) r l).trans ?_
  show _ = result11 V c _
  simp only [result11, nt_apply, plus_apply, piece_apply]
  refine congrArg₂ (fun p q : EReal => p + q) ?_ ?_
  · refine Finset.sum_congr rfl fun k _ => congrArg₂ (fun p q : EReal => p * q) ?_ ?_
    · exact (blk11_0 V c t r k).trans (congrArg (V c main_v4) (same (by simp [shift] <;> omega) (by simp [shift] <;> omega)))
    · exact (blk11_1 V c t l k).trans (congrArg (V c main_arg2) (same (by simp [shift] <;> omega) (by simp [shift] <;> omega)))
  · exact blk11_2 V c t r l

/-- The call's result array after the run. -/
theorem final11 (c : Dev nD) : (dat11 V c).arrAt 3 cfg11.N = result11 V c :=
  (dat11 V c).arrAt_eq_of_cover 3 (result11 V c) (fun t _ => by
    show (cfg11.win 3).cut (grid11.coords t) ((dat11 V c).after 3 t) = _
    rw [after11_3, left11]
    funext j
    obtain ⟨r, l, rfl⟩ : ∃ (r : Fin 1376) (l : Fin 512), j = ix2 r l := index_eq j
    rw [View.read_apply]
    exact (block11 V c t r l).trans (congrArg (result11 V c) (funext fun a => (Fin.ext (lies (at11_3 t) r l rfl rfl a)).symm))) fun i =>
    ⟨pointOf11 i, flush11_3 _, by
      show i ∈ ((View.whole main_v11).slice (win11_3.rect (pointOf11 i))).set
      rw [View.set_slice_whole, Rect.mem_set_unit]
      have h0 : (i 0 : Nat) < 4128 := (i 0).isLt
      have h1 : (i 1 : Nat) < 4096 := (i 1).isLt
      have hv : (pointOf11 i).val = (i 0 : Nat) / 1376 * 8 + (i 1 : Nat) / 512 := rfl
      exact holds i (at11_3 _) (by omega) (by omega) (by decide) (by decide)⟩

end Cert.FfnBwdIdeal.Dh3

end
-- ==== Proof.FfnBwdRun.lean ====
/-
  The run of the feed-forward block's backward pass: twelve calls, each array followed from the call that writes it to the
  calls that read it.
-/
module

public import proofs.«01_k».proof.Proof.FfnBwdGu
public import proofs.«01_k».proof.Proof.FfnBwdAct
public import proofs.«01_k».proof.Proof.FfnBwdDa
public import proofs.«01_k».proof.Proof.FfnBwdDwdTheirs
public import proofs.«01_k».proof.Proof.FfnBwdDgu
public import proofs.«01_k».proof.Proof.FfnBwdDwdMine
public import proofs.«01_k».proof.Proof.FfnBwdDwguTheirs
public import proofs.«01_k».proof.Proof.FfnBwdDwguMine
public import proofs.«01_k».proof.Proof.FfnBwdDh0
public import proofs.«01_k».proof.Proof.FfnBwdDh1
public import proofs.«01_k».proof.Proof.FfnBwdDh2
public import proofs.«01_k».proof.Proof.FfnBwdDh3
public import proofs.«01_k».proof.Proof.Gen.FfnBwdIdeal.Frame
public import Idealize.ShloMosaic.Lib.Tactic

@[expose] public section

set_option maxRecDepth 16384

noncomputable section

namespace Cert.FfnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FfnBwdIdeal Cert.FfnBwdIdeal.Gen Cert.Products Cert.FfnSpec

local notation "𝕄" => MT nD τ sig Unit (Elt Ideal) ℕ (UR sig nD τ) ℕ

variable (m : (ℓ : Loc nD τ sig) → Buf (Elt Ideal) ℓ) (ρ : Dev nD → PrngReg)

/-! ## The arguments, and what the calls leave, from the arguments -/

abbrev arg0 (c : Dev nD) : Mat 4128 4096 := m (c.tc.loc main_arg0)
abbrev arg1 (c : Dev nD) : Mat 4128 4096 := m (c.tc.loc main_arg1)
abbrev arg2 (c : Dev nD) : Mat 4096 22016 := m (c.tc.loc main_arg2)
abbrev arg3 (c : Dev nD) : Mat 11008 4096 := m (c.tc.loc main_arg3)
abbrev arg4 (c : Dev nD) : Mat 11008 2048 := m (c.tc.loc main_arg4)
abbrev arg5 (c : Dev nD) : Mat 2048 22016 := m (c.tc.loc main_arg5)
/-- The gate and up projection. -/
def gu (c : Dev nD) : Mat 4128 22016 := nn (arg1 m c) (arg2 m c)

/-- The gated product. -/
def acts (c : Dev nD) : Mat 4128 11008 := act (gu m c)

/-- The gradient at the gated product. -/
def da (c : Dev nD) : Mat 4128 11008 := nt (arg0 m c) (arg3 m c)

/-- The half of the down projection's gradient sent away. -/
def dwdTheirs (c : Dev nD) : Mat 11008 2048 := tn (acts m c) (piece 0 2048 (a := 4128) (b := 2048) (c := 4128) (d := 4096) (by decide) (by decide) (arg0 m c))

/-- The gradient at the gate and up projection. -/
def dgus (c : Dev nD) : Mat 4128 22016 := dgu (da m c) (gu m c)

/-- The half kept, with the neighbour's share. -/
def dwdMine (c : Dev nD) : Mat 11008 2048 := plus (tn (acts m c) (piece 0 0 (a := 4128) (b := 2048) (c := 4128) (d := 4096) (by decide) (by decide) (arg0 m c))) (arg4 m c)

/-- The half of the gate and up projection's gradient sent away. -/
def dwguTheirs (c : Dev nD) : Mat 2048 22016 := tn (piece 0 2048 (a := 4128) (b := 2048) (c := 4128) (d := 4096) (by decide) (by decide) (arg1 m c)) (dgus m c)

/-- The half kept, with the neighbour's share. -/
def dwguMine (c : Dev nD) : Mat 2048 22016 := plus (tn (piece 0 0 (a := 4128) (b := 2048) (c := 4128) (d := 4096) (by decide) (by decide) (arg1 m c)) (dgus m c)) (arg5 m c)

/-- The gradient at the input, after part 0 of the sum. -/
def dh0 (c : Dev nD) : Mat 4128 4096 := nt (piece 0 0 (a := 4128) (b := 5504) (c := 4128) (d := 22016) (by decide) (by decide) (dgus m c)) (piece 0 0 (a := 4096) (b := 5504) (c := 4096) (d := 22016) (by decide) (by decide) (arg2 m c))

/-- The gradient at the input, after part 1 of the sum. -/
def dh1 (c : Dev nD) : Mat 4128 4096 := plus (nt (piece 0 5504 (a := 4128) (b := 5504) (c := 4128) (d := 22016) (by decide) (by decide) (dgus m c)) (piece 0 5504 (a := 4096) (b := 5504) (c := 4096) (d := 22016) (by decide) (by decide) (arg2 m c))) (dh0 m c)

/-- The gradient at the input, after part 2 of the sum. -/
def dh2 (c : Dev nD) : Mat 4128 4096 := plus (nt (piece 0 11008 (a := 4128) (b := 5504) (c := 4128) (d := 22016) (by decide) (by decide) (dgus m c)) (piece 0 11008 (a := 4096) (b := 5504) (c := 4096) (d := 22016) (by decide) (by decide) (arg2 m c))) (dh1 m c)

/-- The gradient at the input, after part 3 of the sum. -/
def dh3 (c : Dev nD) : Mat 4128 4096 := plus (nt (piece 0 16512 (a := 4128) (b := 5504) (c := 4128) (d := 22016) (by decide) (by decide) (dgus m c)) (piece 0 16512 (a := 4096) (b := 5504) (c := 4096) (d := 22016) (by decide) (by decide) (arg2 m c))) (dh2 m c)

/-! ## What each array holds when a call begins -/

theorem v0_1 (c : Dev nD) : W1 m ρ c (Proc.devRef .tc main_v0) = gu m c := by
  refine (W1_arr m ρ c 2).trans ((Gu.final0 (V0 m ρ) c).trans ?_)
  unfold Gu.result0 gu
  rfl
theorem v0_4 (c : Dev nD) : W4 m ρ c (Proc.devRef .tc main_v0) = gu m c :=
  (W4_of m ρ c main_v0 (by decide +kernel)).trans <| (W3_of m ρ c main_v0 (by decide +kernel)).trans <|
    (W2_of m ρ c main_v0 (by decide +kernel)).trans <| v0_1 m ρ c

theorem v1_2 (c : Dev nD) : W2 m ρ c (Proc.devRef .tc main_v1) = acts m c := by
  refine (W2_arr m ρ c 2).trans ((Act.final1 (V1 m ρ) c).trans ?_)
  unfold Act.result1 acts
  rw [show V1 m ρ c main_v0 = _ from v0_1 m ρ c]
theorem v1_3 (c : Dev nD) : W3 m ρ c (Proc.devRef .tc main_v1) = acts m c :=
  (W3_of m ρ c main_v1 (by decide +kernel)).trans (v1_2 m ρ c)
theorem v1_5 (c : Dev nD) : W5 m ρ c (Proc.devRef .tc main_v1) = acts m c :=
  (W5_of m ρ c main_v1 (by decide +kernel)).trans <| (W4_of m ρ c main_v1 (by decide +kernel)).trans <| v1_3 m ρ c

theorem v2_3 (c : Dev nD) : W3 m ρ c (Proc.devRef .tc main_v2) = da m c := by
  refine (W3_arr m ρ c 2).trans ((Da.final2 (V2 m ρ) c).trans ?_)
  unfold Da.result2 da
  rw [show V2 m ρ c main_arg0 = arg0 m c from W2_args m ρ c main_arg0 (by simp [argRefs])]
  rw [show V2 m ρ c main_arg3 = arg3 m c from W2_args m ρ c main_arg3 (by simp [argRefs])]
theorem v2_4 (c : Dev nD) : W4 m ρ c (Proc.devRef .tc main_v2) = da m c :=
  (W4_of m ρ c main_v2 (by decide +kernel)).trans (v2_3 m ρ c)

theorem v3_4 (c : Dev nD) : W4 m ρ c (Proc.devRef .tc main_v3) = dwdTheirs m c := by
  refine (W4_arr m ρ c 2).trans ((DwdTheirs.final3 (V3 m ρ) c).trans ?_)
  unfold DwdTheirs.result3 dwdTheirs
  rw [show V3 m ρ c main_v1 = _ from v1_3 m ρ c]
  rw [show V3 m ρ c main_arg0 = arg0 m c from W3_args m ρ c main_arg0 (by simp [argRefs])]
theorem v3_12 (c : Dev nD) : W12 m ρ c (Proc.devRef .tc main_v3) = dwdTheirs m c :=
  (W12_of m ρ c main_v3 (by decide +kernel)).trans <| (W11_of m ρ c main_v3 (by decide +kernel)).trans <|
    (W10_of m ρ c main_v3 (by decide +kernel)).trans <| (W9_of m ρ c main_v3 (by decide +kernel)).trans <|
    (W8_of m ρ c main_v3 (by decide +kernel)).trans <| (W7_of m ρ c main_v3 (by decide +kernel)).trans <|
    (W6_of m ρ c main_v3 (by decide +kernel)).trans <| (W5_of m ρ c main_v3 (by decide +kernel)).trans <| v3_4 m ρ c

theorem v4_5 (c : Dev nD) : W5 m ρ c (Proc.devRef .tc main_v4) = dgus m c := by
  refine (W5_arr m ρ c 3).trans ((Dgu.final4 (V4 m ρ) c).trans ?_)
  unfold Dgu.result4 dgus
  rw [show V4 m ρ c main_v2 = _ from v2_4 m ρ c]
  rw [show V4 m ρ c main_v0 = _ from v0_4 m ρ c]
theorem v4_6 (c : Dev nD) : W6 m ρ c (Proc.devRef .tc main_v4) = dgus m c :=
  (W6_of m ρ c main_v4 (by decide +kernel)).trans (v4_5 m ρ c)
theorem v4_7 (c : Dev nD) : W7 m ρ c (Proc.devRef .tc main_v4) = dgus m c :=
  (W7_of m ρ c main_v4 (by decide +kernel)).trans (v4_6 m ρ c)
theorem v4_8 (c : Dev nD) : W8 m ρ c (Proc.devRef .tc main_v4) = dgus m c :=
  (W8_of m ρ c main_v4 (by decide +kernel)).trans (v4_7 m ρ c)
theorem v4_9 (c : Dev nD) : W9 m ρ c (Proc.devRef .tc main_v4) = dgus m c :=
  (W9_of m ρ c main_v4 (by decide +kernel)).trans (v4_8 m ρ c)
theorem v4_10 (c : Dev nD) : W10 m ρ c (Proc.devRef .tc main_v4) = dgus m c :=
  (W10_of m ρ c main_v4 (by decide +kernel)).trans (v4_9 m ρ c)
theorem v4_11 (c : Dev nD) : W11 m ρ c (Proc.devRef .tc main_v4) = dgus m c :=
  (W11_of m ρ c main_v4 (by decide +kernel)).trans (v4_10 m ρ c)

theorem v5_6 (c : Dev nD) : W6 m ρ c (Proc.devRef .tc main_v5) = dwdMine m c := by
  refine (W6_arr m ρ c 3).trans ((DwdMine.final5 (V5 m ρ) c).trans ?_)
  unfold DwdMine.result5 dwdMine
  rw [show V5 m ρ c main_v1 = _ from v1_5 m ρ c]
  rw [show V5 m ρ c main_arg0 = arg0 m c from W5_args m ρ c main_arg0 (by simp [argRefs])]
  rw [show V5 m ρ c main_arg4 = arg4 m c from W5_args m ρ c main_arg4 (by simp [argRefs])]
theorem v5_12 (c : Dev nD) : W12 m ρ c (Proc.devRef .tc main_v5) = dwdMine m c :=
  (W12_of m ρ c main_v5 (by decide +kernel)).trans <| (W11_of m ρ c main_v5 (by decide +kernel)).trans <|
    (W10_of m ρ c main_v5 (by decide +kernel)).trans <| (W9_of m ρ c main_v5 (by decide +kernel)).trans <|
    (W8_of m ρ c main_v5 (by decide +kernel)).trans <| (W7_of m ρ c main_v5 (by decide +kernel)).trans <| v5_6 m ρ c

theorem v6_7 (c : Dev nD) : W7 m ρ c (Proc.devRef .tc main_v6) = dwguTheirs m c := by
  refine (W7_arr m ρ c 2).trans ((DwguTheirs.final6 (V6 m ρ) c).trans ?_)
  unfold DwguTheirs.result6 dwguTheirs
  rw [show V6 m ρ c main_arg1 = arg1 m c from W6_args m ρ c main_arg1 (by simp [argRefs])]
  rw [show V6 m ρ c main_v4 = _ from v4_6 m ρ c]
theorem v6_12 (c : Dev nD) : W12 m ρ c (Proc.devRef .tc main_v6) = dwguTheirs m c :=
  (W12_of m ρ c main_v6 (by decide +kernel)).trans <| (W11_of m ρ c main_v6 (by decide +kernel)).trans <|
    (W10_of m ρ c main_v6 (by decide +kernel)).trans <| (W9_of m ρ c main_v6 (by decide +kernel)).trans <|
    (W8_of m ρ c main_v6 (by decide +kernel)).trans <| v6_7 m ρ c

theorem v7_8 (c : Dev nD) : W8 m ρ c (Proc.devRef .tc main_v7) = dwguMine m c := by
  refine (W8_arr m ρ c 3).trans ((DwguMine.final7 (V7 m ρ) c).trans ?_)
  unfold DwguMine.result7 dwguMine
  rw [show V7 m ρ c main_arg1 = arg1 m c from W7_args m ρ c main_arg1 (by simp [argRefs])]
  rw [show V7 m ρ c main_v4 = _ from v4_7 m ρ c]
  rw [show V7 m ρ c main_arg5 = arg5 m c from W7_args m ρ c main_arg5 (by simp [argRefs])]
theorem v7_12 (c : Dev nD) : W12 m ρ c (Proc.devRef .tc main_v7) = dwguMine m c :=
  (W12_of m ρ c main_v7 (by decide +kernel)).trans <| (W11_of m ρ c main_v7 (by decide +kernel)).trans <|
    (W10_of m ρ c main_v7 (by decide +kernel)).trans <| (W9_of m ρ c main_v7 (by decide +kernel)).trans <| v7_8 m ρ c

theorem v8_9 (c : Dev nD) : W9 m ρ c (Proc.devRef .tc main_v8) = dh0 m c := by
  refine (W9_arr m ρ c 2).trans ((Dh0.final8 (V8 m ρ) c).trans ?_)
  unfold Dh0.result8 dh0
  rw [show V8 m ρ c main_v4 = _ from v4_8 m ρ c]
  rw [show V8 m ρ c main_arg2 = arg2 m c from W8_args m ρ c main_arg2 (by simp [argRefs])]

theorem v9_10 (c : Dev nD) : W10 m ρ c (Proc.devRef .tc main_v9) = dh1 m c := by
  refine (W10_arr m ρ c 3).trans ((Dh1.final9 (V9 m ρ) c).trans ?_)
  unfold Dh1.result9 dh1
  rw [show V9 m ρ c main_v4 = _ from v4_9 m ρ c]
  rw [show V9 m ρ c main_arg2 = arg2 m c from W9_args m ρ c main_arg2 (by simp [argRefs])]
  rw [show V9 m ρ c main_v8 = _ from v8_9 m ρ c]

theorem v10_11 (c : Dev nD) : W11 m ρ c (Proc.devRef .tc main_v10) = dh2 m c := by
  refine (W11_arr m ρ c 3).trans ((Dh2.final10 (V10 m ρ) c).trans ?_)
  unfold Dh2.result10 dh2
  rw [show V10 m ρ c main_v4 = _ from v4_10 m ρ c]
  rw [show V10 m ρ c main_arg2 = arg2 m c from W10_args m ρ c main_arg2 (by simp [argRefs])]
  rw [show V10 m ρ c main_v9 = _ from v9_10 m ρ c]

theorem v11_12 (c : Dev nD) : W12 m ρ c (Proc.devRef .tc main_v11) = dh3 m c := by
  refine (W12_arr m ρ c 3).trans ((Dh3.final11 (V11 m ρ) c).trans ?_)
  unfold Dh3.result11 dh3
  rw [show V11 m ρ c main_v4 = _ from v4_11 m ρ c]
  rw [show V11 m ρ c main_arg2 = arg2 m c from W11_args m ρ c main_arg2 (by simp [argRefs])]
  rw [show V11 m ρ c main_v10 = _ from v10_11 m ρ c]

/-! ## The run -/

set_option backward.isDefEq.respectTransparency.types false in
/-- Every run ends, with the results at these functions of the arguments and the arguments kept. -/
theorem run : θ_run defs (onTc (τ := τ) (main (F := Ideal))) ⟨m, fun _ => 0, ρ⟩ (fun r => ∀ c : Dev nD,
      r.2.mem (c.tc.loc main_v11) = dh3 m c
      ∧ r.2.mem (c.tc.loc main_v3) = dwdTheirs m c
      ∧ r.2.mem (c.tc.loc main_v5) = dwdMine m c
      ∧ r.2.mem (c.tc.loc main_v6) = dwguTheirs m c
      ∧ r.2.mem (c.tc.loc main_v7) = dwguMine m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨(h c _ (mem_uc main_v11 (by decide))).trans (v11_12 m ρ c),
       (h c _ (mem_uc main_v3 (by decide))).trans (v3_12 m ρ c),
       (h c _ (mem_uc main_v5 (by decide))).trans (v5_12 m ρ c),
       (h c _ (mem_uc main_v6 (by decide))).trans (v6_12 m ρ c),
       (h c _ (mem_uc main_v7 (by decide))).trans (v7_12 m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.FfnBwdIdeal.Run

end
-- ==== Proof.FfnBwdReference.lean ====
/-
  What the reference of the backward pass computes: `jax.vjp` of the feed-forward block, stage by stage.
-/
module

public import proofs.«01_k».proof.Proof.Gen.FfnBwdRefIdeal.Read
public import proofs.«01_k».proof.Proof.FfnMath
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.FfnBwdRefIdeal.Reference

open Cert.FfnBwdRefIdeal Cert.FfnBwdRefIdeal.Read Cert.Products Cert.FfnSpec Cert.FfnMath

variable (x0 x1 : FVec Ideal S4128x4096 .bf16) (x2 : FVec Ideal S4096x22016 .bf16) (x3 : FVec Ideal S11008x4096 .bf16)
  (x4 : FVec Ideal S11008x2048 .bf16) (x5 : FVec Ideal S2048x22016 .bf16)

/-- The gate and up projection. -/
abbrev gu : Mat 4128 22016 := nn x1 x2

/-- The gradient at the gated product. -/
abbrev da : Mat 4128 11008 := nt x0 x3

theorem v3_at (t : Fin 4128) (j : Fin 22016) : val_main_v3 (F := Ideal) x1 x2 (ix2 t j) = gu x1 x2 (ix2 t j) := by
  rw [val_main_v3_apply]
  refine Finset.sum_congr rfl fun k _ => congrArg₂ (fun p q : EReal => p * q) (congrArg x1 ?_) (congrArg x2 ?_)
    <;> (funext a; fin_cases a <;> rfl)

theorem v4_at (t : Fin 4128) (f : Fin 11008) : val_main_v4 (F := Ideal) x1 x2 (ix2 t f) = gu x1 x2 (ix2 t (gateCol f)) := by
  rw [val_main_v4_apply]
  refine (congrArg (val_main_v3 (F := Ideal) x1 x2) ?_).trans (v3_at x1 x2 t (gateCol f))
  funext a
  apply Fin.ext
  match a with
  | ⟨0, _⟩ => simp [idx_main_v4]
  | ⟨1, _⟩ => simp [idx_main_v4, gateCol]

theorem v5_at (t : Fin 4128) (f : Fin 11008) : val_main_v5 (F := Ideal) x1 x2 (ix2 t f) = gu x1 x2 (ix2 t (upCol f)) := by
  rw [val_main_v5_apply]
  refine (congrArg (val_main_v3 (F := Ideal) x1 x2) ?_).trans (v3_at x1 x2 t (upCol f))
  funext a
  apply Fin.ext
  match a with
  | ⟨0, _⟩ => simp [idx_main_v5]
  | ⟨1, _⟩ => simp [idx_main_v5, upCol]; try omega

/-- The sigmoid of the gate, which the reference writes as one over one plus an exponential. -/
theorem v6_2_at (t : Fin 4128) (f : Fin 11008) :
    val_main_v6_2 (F := Ideal) x1 x2 (ix2 t f) = Ideal.logistic (gu x1 x2 (ix2 t (gateCol f))) := by
  rw [← v4_at]
  rw [val_main_v6_2_apply, val_main_call0_v4_apply, val_main_call0_v3_apply, val_main_call0_v2_apply, val_main_call0_v1_apply, val_main_call0_v0_apply]
  show Ideal.div (Ideal.ofBits .f32 0x3F800000#32) (Ideal.ofBits .f32 0x3F800000#32 + Ideal.exp (-(val_main_v4 (F := Ideal) x1 x2 (ix2 t f)))) = _
  rw [Ideal.ofBits_one_f32]
  rfl

theorem v7_at (t : Fin 4128) (f : Fin 11008) : val_main_v7 (F := Ideal) x1 x2 (ix2 t f) = act (gu x1 x2) (ix2 t f) := by
  rw [val_main_v7_apply, val_main_v6_0_apply, v4_at, v5_at, v6_2_at]
  rfl

theorem v12_at (t : Fin 4128) (f : Fin 11008) : val_main_v12 (F := Ideal) x0 x3 (ix2 t f) = da x0 x3 (ix2 t f) := by
  rw [val_main_v12_apply]
  refine Finset.sum_congr rfl fun k _ => congrArg₂ (fun p q : EReal => p * q) (congrArg x0 ?_) (congrArg x3 ?_)
    <;> (funext a; fin_cases a <;> rfl)

theorem v13_at (t : Fin 4128) (f : Fin 11008) :
    val_main_v13 (F := Ideal) x0 x1 x2 x3 (ix2 t f) = dgu (da x0 x3) (gu x1 x2) (ix2 t (upCol f)) := by
  rw [val_main_v13_apply, val_main_v6_0_apply, v4_at, v6_2_at, v12_at, dgu_up]
  exact mul_comm (_ : EReal) _

theorem v15_at (h0 : RealMat (a := 4128) (b := 4096) x0) (h1 : RealMat (a := 4128) (b := 4096) x1)
    (h2 : RealMat (a := 4096) (b := 22016) x2) (h3 : RealMat (a := 11008) (b := 4096) x3) (t : Fin 4128) (f : Fin 11008) :
    val_main_v15 (F := Ideal) x0 x1 x2 x3 (ix2 t f) = dgu (da x0 x3) (gu x1 x2) (ix2 t (gateCol f)) := by
  rw [val_main_v15_apply, val_main_call1_v1_apply, val_main_call1_v2_apply, val_main_call1_v0_apply, val_main_v14_apply,
    val_main_v6_1_apply, val_main_call0_v7_apply, val_main_call0_v6_apply, v4_at, v5_at, v6_2_at, v12_at, dgu_gate,
    ← gateGrad_eq (h0.nt h3 _) (h1.nn h2 _) (h1.nn h2 _)]
  show (_ : EReal) + _ * (_ * (Ideal.ofBits .f32 0x3F800000#32 - _)) = _
  rw [Ideal.ofBits_one_f32]
  rfl

/-- The gradients of the gate and of the up projection, side by side. -/
theorem v16_at (h0 : RealMat (a := 4128) (b := 4096) x0) (h1 : RealMat (a := 4128) (b := 4096) x1)
    (h2 : RealMat (a := 4096) (b := 22016) x2) (h3 : RealMat (a := 11008) (b := 4096) x3) (t : Fin 4128) (j : Fin 22016) :
    val_main_v16 (F := Ideal) x0 x1 x2 x3 (ix2 t j) = dgu (da x0 x3) (gu x1 x2) (ix2 t j) := by
  rcases col_cases j with ⟨f, rfl⟩ | ⟨f, rfl⟩
  · rw [← v15_at x0 x1 x2 x3 h0 h1 h2 h3]
    pointwise [val_main_v16]
    exact dif_pos f.isLt
  · rw [← v13_at]
    pointwise [val_main_v16]
    have up : ¬ (upCol f).val < 11008 := Nat.not_lt.mpr (Nat.le_add_left 11008 f.val)
    rw [dif_neg up]
    exact congrArg (fun q => val_main_v13 (F := Ideal) x0 x1 x2 x3 (ix2 t q)) (Fin.ext (Nat.add_sub_cancel f.val 11008))

/-- The gradient of the down projection's weights. -/
theorem v11_at (f : Fin 11008) (i : Fin 4096) :
    val_main_v11 (F := Ideal) x0 x1 x2 (ix2 f i) = tn (act (gu x1 x2)) x0 (ix2 f i) := by
  rw [val_main_v11_apply]
  refine (congrArg (val_main_v10 (F := Ideal) x0 x1 x2) (show _ = ix2 i f from ?_)).trans ?_
  · funext a; fin_cases a <;> rfl
  rw [val_main_v10_apply]
  refine Finset.sum_congr rfl fun k _ => ?_
  refine (congrArg₂ (fun p q : EReal => p * q) (show _ = x0 (ix2 k i) from congrArg x0 ?_)
    ((congrArg (val_main_v7 (F := Ideal) x1 x2) (show _ = ix2 k f from ?_)).trans (v7_at x1 x2 k f))).trans (mul_comm _ _)
  · funext a; fin_cases a <;> rfl
  · funext a; fin_cases a <;> rfl

section
variable (h0 : RealMat (a := 4128) (b := 4096) x0) (h1 : RealMat (a := 4128) (b := 4096) x1)
  (h2 : RealMat (a := 4096) (b := 22016) x2) (h3 : RealMat (a := 11008) (b := 4096) x3)
include h0 h1 h2 h3

/-- The gradient of the gate and up projection's weights. -/
theorem v18_at (i : Fin 4096) (j : Fin 22016) :
    val_main_v18 (F := Ideal) x0 x1 x2 x3 (ix2 i j) = tn x1 (dgu (da x0 x3) (gu x1 x2)) (ix2 i j) := by
  rw [val_main_v18_apply]
  refine (congrArg (val_main_v17 (F := Ideal) x0 x1 x2 x3) (show _ = ix2 j i from ?_)).trans ?_
  · funext a; fin_cases a <;> rfl
  rw [val_main_v17_apply]
  refine Finset.sum_congr rfl fun k _ => ?_
  refine (congrArg₂ (fun p q : EReal => p * q)
    ((congrArg (val_main_v16 (F := Ideal) x0 x1 x2 x3) (show _ = ix2 k j from ?_)).trans (v16_at x0 x1 x2 x3 h0 h1 h2 h3 k j))
    (show _ = x1 (ix2 k i) from congrArg x1 ?_)).trans (mul_comm _ _)
  · funext a; fin_cases a <;> rfl
  · funext a; fin_cases a <;> rfl

/-- The gradient at the block's input. -/
theorem dh : val_main_v19 (F := Ideal) x0 x1 x2 x3 = nt (dgu (da x0 x3) (gu x1 x2)) x2 := by
  funext i
  obtain ⟨t, j, rfl⟩ := index_eq i
  rw [val_main_v19_apply]
  refine Finset.sum_congr rfl fun k _ => congrArg₂ (fun p q : EReal => p * q)
    ((congrArg (val_main_v16 (F := Ideal) x0 x1 x2 x3) (show _ = ix2 t k from ?_)).trans (v16_at x0 x1 x2 x3 h0 h1 h2 h3 t k))
    (congrArg x2 ?_)
  · funext a; fin_cases a <;> rfl
  · funext a; fin_cases a <;> rfl

/-- The half of the projection's gradient sent to the neighbour. -/
theorem dwgu_theirs : val_main_v27 (F := Ideal) x0 x1 x2 x3
    = piece 2048 0 (a := 2048) (b := 22016) (by decide) (by decide) (tn x1 (dgu (da x0 x3) (gu x1 x2))) := by
  funext i
  obtain ⟨t, j, rfl⟩ := index_eq i
  rw [val_main_v27_apply, val_main_v26_apply, piece_apply, ← v18_at x0 x1 x2 x3 h0 h1 h2 h3]
  show val_main_v18 (F := Ideal) x0 x1 x2 x3 _ = _
  refine congrArg _ ?_
  funext a
  apply Fin.ext
  fin_cases a <;> simp [idx_main_v26, shift]

/-- The half kept, added to what the neighbour sent. -/
theorem dwgu_mine : val_main_v31 (F := Ideal) x0 x1 x2 x3 x5
    = plus (piece 0 0 (a := 2048) (b := 22016) (by decide) (by decide) (tn x1 (dgu (da x0 x3) (gu x1 x2)))) x5 := by
  funext i
  obtain ⟨t, j, rfl⟩ := index_eq i
  rw [val_main_v31_apply, val_main_v30_apply, val_main_v29_apply, val_main_v28_apply, plus_apply, piece_apply,
    ← v18_at x0 x1 x2 x3 h0 h1 h2 h3]
  refine congrArg₂ (fun p q : EReal => p + q) (congrArg (val_main_v18 (F := Ideal) x0 x1 x2 x3) ?_) rfl
  funext a
  apply Fin.ext
  fin_cases a <;> simp [idx_main_v28, shift]

end

/-- The half of the down projection's gradient sent to the neighbour. -/
theorem dwd_theirs : val_main_v21 (F := Ideal) x0 x1 x2
    = piece 0 2048 (a := 11008) (b := 2048) (by decide) (by decide) (tn (act (gu x1 x2)) x0) := by
  funext i
  obtain ⟨t, j, rfl⟩ := index_eq i
  rw [val_main_v21_apply, val_main_v20_apply, piece_apply, ← v11_at]
  show val_main_v11 (F := Ideal) x0 x1 x2 _ = _
  refine congrArg _ ?_
  funext a
  apply Fin.ext
  fin_cases a <;> simp [idx_main_v20, shift]

/-- The half kept, added to what the neighbour sent. -/
theorem dwd_mine : val_main_v25 (F := Ideal) x0 x1 x2 x4
    = plus (piece 0 0 (a := 11008) (b := 2048) (by decide) (by decide) (tn (act (gu x1 x2)) x0)) x4 := by
  funext i
  obtain ⟨t, j, rfl⟩ := index_eq i
  rw [val_main_v25_apply, val_main_v24_apply, val_main_v23_apply, val_main_v22_apply, plus_apply, piece_apply, ← v11_at]
  refine congrArg₂ (fun p q : EReal => p + q) (congrArg (val_main_v11 (F := Ideal) x0 x1 x2) ?_) rfl
  funext a
  apply Fin.ext
  fin_cases a <;> simp [idx_main_v22, shift]

end Cert.FfnBwdRefIdeal.Reference

end
-- ==== Proof.FfnPre.lean ====
/-
  What the precondition says: every entry of the incoming gradient, of the block's input and of the two weight
  matrices is a real number. The precondition is one bit per matrix, "every entry's magnitude is below infinity".
-/
module

public import proofs.«01_k».proof.Proof.Gen.Pre_finite
public import proofs.«01_k».proof.Proof.FfnMath
public import Idealize.ShloMosaic.Lib.ReduceAll
public import Idealize.ShloMosaic.Lib.Affine
public import Idealize.ShloMosaic.Lib.Pointwise

@[expose] public section

set_option maxRecDepth 16384

noncomputable section

open Idealize.ShloMosaic

namespace Cert.FfnPre

open Cert.Products Cert.FfnMath Cert.Pre_finite

/-- A magnitude below infinity is a real number's. -/
theorem real_of_below {x : EReal} (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  have h := (Ideal.cmp_olt_eq_one _ _).1 h
  rw [max_lt_iff] at h
  induction x with
  | bot => simp at h
  | coe r => exact ⟨r, rfl⟩
  | top => simp at h

instance : Subsingleton S_.Idx := ⟨fun a b => funext fun k => k.elim0⟩

theorem of_pre [Cert.Pre_finite.Facts] (x0 : FVec Ideal S4128x4096 .bf16) (x1 : FVec Ideal S4128x4096 .bf16)
    (x2 : FVec Ideal S4096x22016 .bf16) (x3 : FVec Ideal S11008x4096 .bf16) (x4 : FVec Ideal S11008x2048 .bf16)
    (x5 : FVec Ideal S2048x22016 .bf16) (h : Cert.Pre_finite.fn (F := Ideal) x0 x1 x2 x3 x4 x5 = fun _ => 1#1) :
    RealMat (a := 4128) (b := 4096) x0 ∧ RealMat (a := 4128) (b := 4096) x1 ∧ RealMat (a := 4096) (b := 22016) x2
      ∧ RealMat (a := 11008) (b := 4096) x3 := by
  have h := congrFun h (fun a => a.elim0)
  simp only [Cert.Pre_finite.fn, Cert.Pre_finite.fn_part1] at h
  obtain ⟨h012, h3⟩ := IntOp.andi_eq_one.1 h
  obtain ⟨h01, h2⟩ := IntOp.andi_eq_one.1 h012
  obtain ⟨h0, h1⟩ := IntOp.andi_eq_one.1 h01
  exact ⟨fun i => real_of_below (Host.reduce_andi_all _ _ _ _ _ h0 i), fun i => real_of_below (Host.reduce_andi_all _ _ _ _ _ h1 i),
    fun i => real_of_below (Host.reduce_andi_all _ _ _ _ _ h2 i), fun i => real_of_below (Host.reduce_andi_all _ _ _ _ _ h3 i)⟩

end Cert.FfnPre

end
-- ==== Proof.FfnBwdClaim.lean ====
/-
  The claims about the feed-forward block's backward pass, from its run, the reading of the reference, and the
  precondition that the incoming gradient, the input and the weights are real numbers.
-/
module

public import proofs.«01_k».proof.Defs
public import proofs.«01_k».proof.Proof.Gen.FfnBwd.Frame
public import proofs.«01_k».proof.Proof.FfnBwdRun
public import proofs.«01_k».proof.Proof.FfnBwdReference
public import proofs.«01_k».proof.Proof.FfnPre
public import Idealize.ShloMosaic.Adequacy
public import Idealize.ShloMosaic.Init

@[expose] public section

set_option maxRecDepth 16384

noncomputable section

namespace Cert.Proof

open Idealize.ShloMosaic Idealize.SL.Sem

theorem ffnBwdFrame : Cert.quiescent_FfnBwd := fun m ρ _ => Cert.FfnBwd.Gen.frame m ρ

theorem ffnBwdIdealFrame : Cert.quiescent_FfnBwdIdeal := fun m ρ _ => Cert.FfnBwdIdeal.Gen.frame m ρ

theorem ffnBwdIdealFrameNone : Cert.quiescent_FfnBwdIdeal_pre_none := fun m ρ _ => Cert.FfnBwdIdeal.Gen.frame m ρ

theorem ffnBwdRefFrame : Cert.quiescent_FfnBwdRefIdeal := fun m ρ _ =>
  (θ_run Cert.FfnBwdRefIdeal.defs _ _).mono
    (fun r h => ⟨fun c => (h c).2.2.2.2.2, sem_eq_zero_of_no_sems (by decide) r.2⟩)
    (Cert.FfnBwdRefIdeal.Value.run (F := Ideal) m ρ)

theorem ffnBwdRefFramePre : Cert.quiescent_FfnBwdRefIdeal_pre_finite := fun m ρ _ =>
  (θ_run Cert.FfnBwdRefIdeal.defs _ _).mono
    (fun r h => ⟨fun c => (h c).2.2.2.2.2, sem_eq_zero_of_no_sems (by decide) r.2⟩)
    (Cert.FfnBwdRefIdeal.Value.run (F := Ideal) m ρ)

/-- The kernel's twelve calls and `jax.vjp` of the block leave the same five results, over the extended reals, where
    the incoming gradient, the input and the weights are real numbers. -/
theorem ffnBwdValue : Cert.algebraic_FfnBwdIdeal_FfnBwdRefIdeal := fun m ρ m' ρ' hpre hag =>
  ⟨fun c => FfnBwdIdeal.Run.dh3 m c, fun c => FfnBwdIdeal.Run.dwdTheirs m c, fun c => FfnBwdIdeal.Run.dwdMine m c,
   fun c => FfnBwdIdeal.Run.dwguTheirs m c, fun c => FfnBwdIdeal.Run.dwguMine m c,
   (θ_run Cert.FfnBwdIdeal.defs _ _).mono (fun r h c => h c) (Cert.FfnBwdIdeal.Run.run m ρ),
   (θ_run Cert.FfnBwdRefIdeal.defs _ _).mono
     (fun r h c => by
       obtain ⟨h0, h1, h2, h3, h4, hk⟩ := h c
       obtain ⟨e0, e1, e2, e3, e4, e5⟩ := hag c
       obtain ⟨f0, f1, f2, f3⟩ := FfnPre.of_pre _ _ _ _ _ _ (hpre c)
       refine ⟨h0.trans ?_, h1.trans ?_, h2.trans ?_, h3.trans ?_, h4.trans ?_, hk⟩
       · rw [FfnBwdRefIdeal.Read.val_main_v19_eq, e0, e1, e2, e3, FfnBwdRefIdeal.Reference.dh _ _ _ _ f0 f1 f2 f3]
         exact (FfnMath.dh_parts _ _).symm
       · rw [FfnBwdRefIdeal.Read.val_main_v21_eq, e0, e1, e2, FfnBwdRefIdeal.Reference.dwd_theirs]
         exact (FfnMath.tn_cols 2048 _ _ _ _ _).symm
       · rw [FfnBwdRefIdeal.Read.val_main_v25_eq, e0, e1, e2, e4, FfnBwdRefIdeal.Reference.dwd_mine]
         exact congrArg (fun q => Products.plus q _) (FfnMath.tn_cols 0 _ _ _ _ _).symm
       · rw [FfnBwdRefIdeal.Read.val_main_v27_eq, e0, e1, e2, e3, FfnBwdRefIdeal.Reference.dwgu_theirs _ _ _ _ f0 f1 f2 f3]
         exact (FfnMath.tn_rows 2048 _ _ _ _ _).symm
       · rw [FfnBwdRefIdeal.Read.val_main_v31_eq, e0, e1, e2, e3, e5, FfnBwdRefIdeal.Reference.dwgu_mine _ _ _ _ _ f0 f1 f2 f3]
         exact congrArg (fun q => Products.plus q _) (FfnMath.tn_rows 0 _ _ _ _ _).symm)
     (Cert.FfnBwdRefIdeal.Value.run m' ρ')⟩

end Cert.Proof

end
-- ==== Proof.MixerInOut.lean ====
/-
  The mixer's two projections: the input projection `h · w_in` and the output projection of the two concatenated branches.
-/
module

public import proofs.«01_k».proof.Proof.Gen.MixerIdeal.Frame.Region0
public import proofs.«01_k».proof.Proof.Gen.MixerIdeal.Frame.Region3
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MixerIdeal.InOut

open Cert.MixerIdeal Cert.MixerIdeal.Gen Cert.Products

variable (V : (c : Dev nD) → (b : Ref sig .tc) → Buf (Elt Ideal) ((c : Thread nD τ).loc b))

theorem points0 (t : Fin cfg0.N) : t.val < 48 := lt_of_lt_of_eq t.isLt (show cfg0.N = 48 from N_0)

/-! ## Where each block lies -/

theorem at0_0 : ∀ t : Fin cfg0.N, win0_0.index t 0 = t.val / 16 ∧ win0_0.index t 1 = 0 :=
  show ∀ t : Fin grid0.N, _ by decide +kernel
theorem at0_1 : ∀ t : Fin cfg0.N, win0_1.index t 0 = 0 ∧ win0_1.index t 1 = t.val % 16 :=
  show ∀ t : Fin grid0.N, _ by decide +kernel
theorem at0_2 : ∀ t : Fin cfg0.N, win0_2.index t 0 = t.val / 16 ∧ win0_2.index t 1 = t.val % 16 :=
  show ∀ t : Fin grid0.N, _ by decide +kernel

/-- A window's block, entry by entry; so for the other windows below. -/
theorem blk0_0 (c : Dev nD) (t : Fin cfg0.N) (r : Fin 1376) (l : Fin 4096) :
    iblk0 V c 0 t (ix2 r l) = V c main_arg0 (ix2 (⟨(t.val / 16) * 1376 + r.val, by have := points0 t; omega⟩ : Fin 4128) (⟨(0) * 4096 + l.val, by omega⟩ : Fin 4096)) := by
  unfold iblk0
  rw [View.read_apply]
  exact congrArg (V c main_arg0) (funext fun a => Fin.ext (lies (at0_0 t) r l rfl rfl a))

theorem blk0_1 (c : Dev nD) (t : Fin cfg0.N) (r : Fin 4096) (l : Fin 512) :
    iblk0 V c 1 t (ix2 r l) = V c main_arg2 (ix2 (⟨(0) * 4096 + r.val, by omega⟩ : Fin 4096) (⟨(t.val % 16) * 512 + l.val, by omega⟩ : Fin 8192)) := by
  unfold iblk0
  rw [View.read_apply]
  exact congrArg (V c main_arg2) (funext fun a => Fin.ext (lies (at0_1 t) r l rfl rfl a))

/-! ## One block of the result -/

/-- What the body computes: a product of two blocks. -/
theorem pay0 (a : Vec Ideal S1376x4096 .bf16) (b : Vec Ideal S4096x512 .bf16) (r : Fin 1376) (l : Fin 512) :
    k0_pay1 a b (ix2 r l) = (∑ k : Fin 4096, a (ix2 r k) * b (ix2 k l) : EReal) := by
  pointwise [k0_pay1]

/-- What the body leaves in the result's staging buffer. -/
theorem left0 (a : Vec Ideal S1376x4096 .bf16) (b : Vec Ideal S4096x512 .bf16) : out0_2 a b = k0_pay1 a b := by
  unfold out0_2
  rw [View.canon_unit_zero origin]
  simp only [View.ld_unit_zero (S := S1376x4096) origin, View.ld_unit_zero (S := S4096x512) origin]

/-! ## The whole result -/

/-- The result, as a product of the arrays the call reads. -/
def result0 (c : Dev nD) : Mat 4128 8192 := nn (V c main_arg0) (V c main_arg2)

/-- The grid point that writes an index of the result. -/
def pointOf0 (i : S4128x8192.Idx) : Fin cfg0.N :=
  ⟨(i 0 : Nat) / 1376 * 16 + (i 1 : Nat) / 512, by
    have h0 : (i 0 : Nat) < 4128 := (i 0).isLt
    have h1 : (i 1 : Nat) < 8192 := (i 1).isLt
    rw [show cfg0.N = 48 from N_0]; omega⟩

/-- What a grid point writes back is its block of the result. -/
theorem block0 (c : Dev nD) (t : Fin cfg0.N) (r : Fin 1376) (l : Fin 512) :
    k0_pay1 (iblk0 V c 0 t) (iblk0 V c 1 t) (ix2 r l) = result0 V c (ix2 (⟨(t.val / 16) * 1376 + r.val, by have := points0 t; omega⟩ : Fin 4128) (⟨(t.val % 16) * 512 + l.val, by omega⟩ : Fin 8192)) := by
  refine (pay0 (iblk0 V c 0 t) (iblk0 V c 1 t) r l).trans ?_
  show _ = result0 V c _
  simp only [result0, nn_apply, plus_apply, piece_apply]
  refine Finset.sum_congr rfl fun k _ => congrArg₂ (fun p q : EReal => p * q) ?_ ?_
  · exact (blk0_0 V c t r k).trans (congrArg (V c main_arg0) (same (by simp [shift] <;> omega) (by simp [shift] <;> omega)))
  · exact (blk0_1 V c t k l).trans (congrArg (V c main_arg2) (same (by simp [shift] <;> omega) (by simp [shift] <;> omega)))

/-- The call's result array after the run. -/
theorem final0 (c : Dev nD) : (dat0 V c).arrAt 2 cfg0.N = result0 V c :=
  (dat0 V c).arrAt_eq_of_cover 2 (result0 V c) (fun t _ => by
    show (cfg0.win 2).cut (grid0.coords t) ((dat0 V c).after 2 t) = _
    rw [after0_2, left0]
    funext j
    obtain ⟨r, l, rfl⟩ : ∃ (r : Fin 1376) (l : Fin 512), j = ix2 r l := index_eq j
    rw [View.read_apply]
    exact (block0 V c t r l).trans (congrArg (result0 V c) (funext fun a => (Fin.ext (lies (at0_2 t) r l rfl rfl a)).symm))) fun i =>
    ⟨pointOf0 i, flush0_2 _, by
      show i ∈ ((View.whole main_v0).slice (win0_2.rect (pointOf0 i))).set
      rw [View.set_slice_whole, Rect.mem_set_unit]
      have h0 : (i 0 : Nat) < 4128 := (i 0).isLt
      have h1 : (i 1 : Nat) < 8192 := (i 1).isLt
      have hv : (pointOf0 i).val = (i 0 : Nat) / 1376 * 16 + (i 1 : Nat) / 512 := rfl
      exact holds i (at0_2 _) (by omega) (by omega) (by decide) (by decide)⟩

theorem points3 (t : Fin cfg3.N) : t.val < 24 := lt_of_lt_of_eq t.isLt (show cfg3.N = 24 from N_3)

/-! ## Where each block lies -/

theorem at3_0 : ∀ t : Fin cfg3.N, win3_0.index t 0 = t.val / 8 ∧ win3_0.index t 1 = 0 :=
  show ∀ t : Fin grid3.N, _ by decide +kernel
theorem at3_1 : ∀ t : Fin cfg3.N, win3_1.index t 0 = 0 ∧ win3_1.index t 1 = t.val % 8 :=
  show ∀ t : Fin grid3.N, _ by decide +kernel
theorem at3_2 : ∀ t : Fin cfg3.N, win3_2.index t 0 = t.val / 8 ∧ win3_2.index t 1 = t.val % 8 :=
  show ∀ t : Fin grid3.N, _ by decide +kernel

theorem blk3_0 (c : Dev nD) (t : Fin cfg3.N) (r : Fin 1376) (l : Fin 4096) :
    iblk3 V c 0 t (ix2 r l) = V c main_v3 (ix2 (⟨(t.val / 8) * 1376 + r.val, by have := points3 t; omega⟩ : Fin 4128) (⟨(0) * 4096 + l.val, by omega⟩ : Fin 4096)) := by
  unfold iblk3
  rw [View.read_apply]
  exact congrArg (V c main_v3) (funext fun a => Fin.ext (lies (at3_0 t) r l rfl rfl a))

theorem blk3_1 (c : Dev nD) (t : Fin cfg3.N) (r : Fin 4096) (l : Fin 512) :
    iblk3 V c 1 t (ix2 r l) = V c main_arg6 (ix2 (⟨(0) * 4096 + r.val, by omega⟩ : Fin 4096) (⟨(t.val % 8) * 512 + l.val, by omega⟩ : Fin 4096)) := by
  unfold iblk3
  rw [View.read_apply]
  exact congrArg (V c main_arg6) (funext fun a => Fin.ext (lies (at3_1 t) r l rfl rfl a))

/-! ## One block of the result -/

/-- What the body computes: a product of two blocks. -/
theorem pay3 (a : Vec Ideal S1376x4096 .bf16) (b : Vec Ideal S4096x512 .bf16) (r : Fin 1376) (l : Fin 512) :
    k3_pay1 a b (ix2 r l) = (∑ k : Fin 4096, a (ix2 r k) * b (ix2 k l) : EReal) := by
  pointwise [k3_pay1]

/-- What the body leaves in the result's staging buffer. -/
theorem left3 (a : Vec Ideal S1376x4096 .bf16) (b : Vec Ideal S4096x512 .bf16) : out3_2 a b = k3_pay1 a b := by
  unfold out3_2
  rw [View.canon_unit_zero origin]
  simp only [View.ld_unit_zero (S := S1376x4096) origin, View.ld_unit_zero (S := S4096x512) origin]

/-! ## The whole result -/

/-- The result, as a product of the arrays the call reads. -/
def result3 (c : Dev nD) : Mat 4128 4096 := nn (V c main_v3) (V c main_arg6)

/-- The grid point that writes an index of the result. -/
def pointOf3 (i : S4128x4096.Idx) : Fin cfg3.N :=
  ⟨(i 0 : Nat) / 1376 * 8 + (i 1 : Nat) / 512, by
    have h0 : (i 0 : Nat) < 4128 := (i 0).isLt
    have h1 : (i 1 : Nat) < 4096 := (i 1).isLt
    rw [show cfg3.N = 24 from N_3]; omega⟩

/-- What a grid point writes back is its block of the result. -/
theorem block3 (c : Dev nD) (t : Fin cfg3.N) (r : Fin 1376) (l : Fin 512) :
    k3_pay1 (iblk3 V c 0 t) (iblk3 V c 1 t) (ix2 r l) = result3 V c (ix2 (⟨(t.val / 8) * 1376 + r.val, by have := points3 t; omega⟩ : Fin 4128) (⟨(t.val % 8) * 512 + l.val, by omega⟩ : Fin 4096)) := by
  refine (pay3 (iblk3 V c 0 t) (iblk3 V c 1 t) r l).trans ?_
  show _ = result3 V c _
  simp only [result3, nn_apply, plus_apply, piece_apply]
  refine Finset.sum_congr rfl fun k _ => congrArg₂ (fun p q : EReal => p * q) ?_ ?_
  · exact (blk3_0 V c t r k).trans (congrArg (V c main_v3) (same (by simp [shift] <;> omega) (by simp [shift] <;> omega)))
  · exact (blk3_1 V c t k l).trans (congrArg (V c main_arg6) (same (by simp [shift] <;> omega) (by simp [shift] <;> omega)))

/-- The call's result array after the run. -/
theorem final3 (c : Dev nD) : (dat3 V c).arrAt 2 cfg3.N = result3 V c :=
  (dat3 V c).arrAt_eq_of_cover 2 (result3 V c) (fun t _ => by
    show (cfg3.win 2).cut (grid3.coords t) ((dat3 V c).after 2 t) = _
    rw [after3_2, left3]
    funext j
    obtain ⟨r, l, rfl⟩ : ∃ (r : Fin 1376) (l : Fin 512), j = ix2 r l := index_eq j
    rw [View.read_apply]
    exact (block3 V c t r l).trans (congrArg (result3 V c) (funext fun a => (Fin.ext (lies (at3_2 t) r l rfl rfl a)).symm))) fun i =>
    ⟨pointOf3 i, flush3_2 _, by
      show i ∈ ((View.whole main_v4).slice (win3_2.rect (pointOf3 i))).set
      rw [View.set_slice_whole, Rect.mem_set_unit]
      have h0 : (i 0 : Nat) < 4128 := (i 0).isLt
      have h1 : (i 1 : Nat) < 4096 := (i 1).isLt
      have hv : (pointOf3 i).val = (i 0 : Nat) / 1376 * 8 + (i 1 : Nat) / 512 := rfl
      exact holds i (at3_2 _) (by omega) (by omega) (by decide) (by decide)⟩

end Cert.MixerIdeal.InOut

end
-- ==== Proof.MixerSpec.lean ====
/-
  The mixer over the extended reals, written plainly. Its columns come in two kinds: the gated short convolution's
  (Proof/ConvSpec.lean) and the causal pooling's. The pooling takes a sequence's trailing window mean minus the sequence
  itself, multiplies it by the group's matrix and scales each column; the four groups of 512 columns look back over
  windows of 2, 4, 8 and 16 rows. The kernel and the reference are both read into these definitions.
-/
module

public import proofs.«01_k».proof.Proof.ConvSpec
public import proofs.«01_k».proof.Proof.Products

@[expose] public section

noncomputable section

open Idealize.ShloMosaic

namespace Cert.MixerSpec

open Cert.ConvSpec Cert.Products

/-! ## Columns -/

/-- The sum over the window of `n` rows that ends at row `r`. -/
def behind (n : ℕ) (f : Fin 2064 → EReal) (r : Fin 2064) : EReal := ∑ j ∈ Finset.range n, past j f r

/-- The sum over the window of `n` rows that begins at row `r`. -/
def beyond (n : ℕ) (f : Fin 2064 → EReal) (r : Fin 2064) : EReal := ∑ j ∈ Finset.range n, ahead j f r

theorem past_add (a b : ℕ) (f : Fin 2064 → EReal) (r : Fin 2064) : past (a + b) f r = past a (past b f) r := by
  unfold past
  by_cases h : a + b ≤ r.val
  · rw [if_pos h, if_pos (show a ≤ r.val by omega), if_pos (show b ≤ r.val - a by omega)]
    congr 1; apply Fin.ext; show r.val - (a + b) = r.val - a - b; omega
  · rw [if_neg h]
    by_cases ha : a ≤ r.val
    · rw [if_pos ha, if_neg (show ¬ b ≤ r.val - a by omega)]
    · rw [if_neg ha]

theorem ahead_add (a b : ℕ) (f : Fin 2064 → EReal) (r : Fin 2064) : ahead (a + b) f r = ahead a (ahead b f) r := by
  unfold ahead
  by_cases h : r.val + (a + b) < 2064
  · rw [dif_pos h, dif_pos (show r.val + a < 2064 by omega), dif_pos (show r.val + a + b < 2064 by omega)]
    congr 1; apply Fin.ext; show r.val + (a + b) = r.val + a + b; omega
  · rw [dif_neg h]
    by_cases ha : r.val + a < 2064
    · rw [dif_pos ha, dif_neg (show ¬ r.val + a + b < 2064 by omega)]
    · rw [dif_neg ha]

theorem past_sum (k n : ℕ) (f : ℕ → Fin 2064 → EReal) (r : Fin 2064) :
    past k (fun r => ∑ j ∈ Finset.range n, f j r) r = ∑ j ∈ Finset.range n, past k (f j) r := by
  unfold past
  split
  · rfl
  · exact (Finset.sum_const_zero).symm

theorem ahead_sum (k n : ℕ) (f : ℕ → Fin 2064 → EReal) (r : Fin 2064) :
    ahead k (fun r => ∑ j ∈ Finset.range n, f j r) r = ∑ j ∈ Finset.range n, ahead k (f j) r := by
  unfold ahead
  split
  · rfl
  · exact (Finset.sum_const_zero).symm

theorem ahead_zero (f : Fin 2064 → EReal) (r : Fin 2064) : ahead 0 f r = f r := by
  unfold ahead; rw [dif_pos (show r.val + 0 < 2064 from r.isLt)]; rfl

/-- A window's sum doubled: the window, and the same window as many rows earlier. -/
theorem behind_double (n : ℕ) (f : Fin 2064 → EReal) (r : Fin 2064) :
    behind n f r + past n (behind n f) r = behind (n + n) f r := by
  unfold behind
  rw [Finset.sum_range_add, past_sum]
  simp only [past_add]

theorem beyond_double (n : ℕ) (f : Fin 2064 → EReal) (r : Fin 2064) :
    beyond n f r + ahead n (beyond n f) r = beyond (n + n) f r := by
  unfold beyond
  rw [Finset.sum_range_add, ahead_sum]
  simp only [ahead_add]

theorem behind_two (f : Fin 2064 → EReal) (r : Fin 2064) : f r + past 1 f r = behind 2 f r := by
  unfold behind
  rw [Finset.sum_range_succ, Finset.sum_range_one, past_zero]

theorem beyond_two (f : Fin 2064 → EReal) (r : Fin 2064) : f r + ahead 1 f r = beyond 2 f r := by
  unfold beyond
  rw [Finset.sum_range_succ, Finset.sum_range_one, ahead_zero]

/-! ## Groups of columns -/

/-- A group's window, in rows. -/
def window (g : Fin 4) : ℕ := 2 ^ (g.val + 1)

/-- How many rows of the window lie in the sequence. -/
def count (g : Fin 4) (r : Fin 2064) : EReal := ((min (r.val + 1) (window g) : ℕ) : ℝ)

/-- Column `l` of group `g`, and a column's group and place in it. -/
def colOf (g : Fin 4) (l : Fin 512) : Fin 2048 := ⟨g.val * 512 + l.val, by omega⟩
def groupOf (d : Fin 2048) : Fin 4 := ⟨d.val / 512, by omega⟩
def laneOf (d : Fin 2048) : Fin 512 := ⟨d.val % 512, by omega⟩

theorem groupOf_colOf (g : Fin 4) (l : Fin 512) : groupOf (colOf g l) = g := by
  apply Fin.ext; show (g.val * 512 + l.val) / 512 = g.val; omega
theorem laneOf_colOf (g : Fin 4) (l : Fin 512) : laneOf (colOf g l) = l := by
  apply Fin.ext; show (g.val * 512 + l.val) % 512 = l.val; omega
theorem colOf_groupOf (d : Fin 2048) : colOf (groupOf d) (laneOf d) = d := by
  apply Fin.ext; show d.val / 512 * 512 + d.val % 512 = d.val; omega

/-- A column among the last 2048 of 8192 (the pooling's input), and among the last 2048 of 4096 (its output). -/
def zCol (d : Fin 2048) : Fin 8192 := ⟨6144 + d.val, by omega⟩
def yCol (d : Fin 2048) : Fin 4096 := ⟨2048 + d.val, by omega⟩

abbrev ArrP := FVec Ideal (⟨3, ![4, 512, 512]⟩ : Shape) .bf16
abbrev ArrS := FVec Ideal (⟨2, ![1, 2048]⟩ : Shape) .f32

/-! ## The forward pass -/

/-- The gated convolution. -/
def convFwd (U : Mat 4128 8192) (W : ArrW) : Mat 4128 2048 := fun i =>
  gateCol U (rowSeq (i 0)) (i 1) (rowIn (i 0))
    * conv (tapCol W (i 1)) (fun k => cCol U (rowSeq (i 0)) (i 1) k * xCol U (rowSeq (i 0)) (i 1) k) (rowIn (i 0))

/-- The pooled columns: the trailing window mean minus the column. -/
def poolDiff (U : Mat 4128 8192) : Mat 4128 2048 := fun i =>
  Ideal.div (behind (window (groupOf (i 1))) (fun r => U (ix2 (rowOf (rowSeq (i 0)) r) (zCol (i 1)))) (rowIn (i 0))) (count (groupOf (i 1)) (rowIn (i 0)))
    - U (ix2 (i 0) (zCol (i 1)))

/-- Their product with the group's matrix. -/
def poolProd (dp : Mat 4128 2048) (P : ArrP) : Mat 4128 2048 := fun i =>
  ∑ k : Fin 512, dp (ix2 (i 0) (colOf (groupOf (i 1)) k)) * P (ix3 (groupOf (i 1)) k (laneOf (i 1)))

/-- Scaled column by column. -/
def poolOut (dp : Mat 4128 2048) (P : ArrP) (S : ArrS) : Mat 4128 2048 := fun i => poolProd dp P i * S (ix2 0 (i 1))

/-- Two arrays side by side. -/
def beside (a b : Mat 4128 2048) : Mat 4128 4096 := fun i =>
  if h : (i 1 : ℕ) < 2048 then a (ix2 (i 0) ⟨(i 1 : ℕ), h⟩) else b (ix2 (i 0) ⟨(i 1 : ℕ) - 2048, by have : (i 1 : ℕ) < 4096 := (i 1).isLt; omega⟩)

/-! ## The backward pass -/

/-- The gradient at the group's product: the incoming gradient, scaled. -/
def poolDq (dy : Mat 4128 4096) (S : ArrS) : Mat 4128 2048 := fun i => dy (ix2 (i 0) (yCol (i 1))) * S (ix2 0 (i 1))

/-- The gradient at the pooled columns. -/
def poolDd (dy : Mat 4128 4096) (P : ArrP) (S : ArrS) : Mat 4128 2048 := fun i =>
  ∑ k : Fin 512, poolDq dy S (ix2 (i 0) (colOf (groupOf (i 1)) k)) * P (ix3 (groupOf (i 1)) (laneOf (i 1)) k)

/-- The gradient at the pooling's input. -/
def poolDz (dy : Mat 4128 4096) (P : ArrP) (S : ArrS) : Mat 4128 2048 := fun i =>
  beyond (window (groupOf (i 1)))
      (fun r => Ideal.div (poolDd dy P S (ix2 (rowOf (rowSeq (i 0)) r) (i 1))) (count (groupOf (i 1)) r)) (rowIn (i 0))
    - poolDd dy P S i

/-- The gradient of the groups' matrices, the rows of each in four parts. -/
def poolDw (dp : Mat 4128 2048) (dy : Mat 4128 4096) (S : ArrS) : FVec Ideal (⟨4, ![4, 4, 128, 512]⟩ : Shape) .f32 := fun i =>
  ∑ t : Fin 4128, dp (ix2 t (colOf (i 1) ⟨(i 0).val * 128 + (i 2).val, by have h0 : (i 0 : ℕ) < 4 := (i 0).isLt; have h2 : (i 2 : ℕ) < 128 := (i 2).isLt; omega⟩))
    * poolDq dy S (ix2 t (colOf (i 1) (i 3)))

/-- The gradient of the scale. -/
def poolDs (dp : Mat 4128 2048) (dy : Mat 4128 4096) (P : ArrP) : ArrS := fun i =>
  ∑ t : Fin 4128, dy (ix2 t (yCol (i 1))) * poolProd dp P (ix2 t (i 1))

/-- The four gradients at the input projection's columns, side by side. -/
def beside4 (a b c d : Mat 4128 2048) : Mat 4128 8192 := fun i =>
  if h0 : (i 1 : ℕ) < 2048 then a (ix2 (i 0) ⟨(i 1 : ℕ), h0⟩)
  else if h1 : (i 1 : ℕ) < 4096 then b (ix2 (i 0) ⟨(i 1 : ℕ) - 2048, by omega⟩)
  else if h2 : (i 1 : ℕ) < 6144 then c (ix2 (i 0) ⟨(i 1 : ℕ) - 4096, by omega⟩)
  else d (ix2 (i 0) ⟨(i 1 : ℕ) - 6144, by have : (i 1 : ℕ) < 8192 := (i 1).isLt; omega⟩)

/-- A sum over all rows is the sum over the two sequences' rows. -/
theorem sum_rows (f : Fin 4128 → EReal) : ∑ t : Fin 4128, f t = ∑ r : Fin 2064, f (rowOf 0 r) + ∑ r : Fin 2064, f (rowOf 1 r) := by
  refine (sum_split (show 2064 + 2064 = 4128 from rfl) f).trans (congrArg₂ (fun p q : EReal => p + q) ?_ ?_)
  · exact Finset.sum_congr rfl fun r _ => congrArg f (Fin.ext (show 0 + r.val = 0 * 2064 + r.val by omega))
  · exact Finset.sum_congr rfl fun r _ => congrArg f (Fin.ext (show 2064 + r.val = 1 * 2064 + r.val by omega))

end Cert.MixerSpec

end
-- ==== Proof.MixerConvFwd.lean ====
/-
  The convolution's forward call: its body, and what its result array holds after its run, at every index, as a function
  of the two arrays it reads. A grid point is a pair (sequence, channel block).
-/
module

public import proofs.«01_k».proof.Proof.Products
public import proofs.«01_k».proof.Proof.Gen.MixerIdeal.Frame.Region1
public import proofs.«01_k».proof.Proof.MixerSpec
public import proofs.«01_k».proof.Proof.ConvBlock
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MixerIdeal.ConvFwd

open Cert.MixerIdeal Cert.MixerIdeal.Gen Cert.ConvSpec Cert.MixerSpec
open Cert.ConvBwdIdeal.Block (select_ge rotate_past col taps)
open Cert.Products (origin index_eq)

variable (V : (c : Dev nD) → (b : Ref sig .tc) → Buf (Elt Ideal) ((c : Thread nD τ).loc b))

/-- The arrays it reads, as arrays of extended reals. -/
abbrev argU (c : Dev nD) : FVec Ideal S4128x8192 .f32 := V c main_v0
abbrev argW (c : Dev nD) : FVec Ideal S3x2048 .f32 := V c main_arg3

/-- What the body computes at a row and a lane. -/
theorem pay_apply (c x b : FVec Ideal S2064x256 .f32) (w : FVec Ideal S3x256 .f32) (r : Fin 2064) (l : Fin 256) :
    k1_pay1 (F := Ideal) c x w b (ix2 r l) = col b l r * conv (taps w l) (fun k => col c l k * col x l k) r := by
  unfold conv
  rw [← rotate_past 1 (by decide) _ r (Nat.mod_lt _ (by decide)), ← rotate_past 2 (by decide) _ r (Nat.mod_lt _ (by decide))]
  rw [← select_ge r 1 (by decide), ← select_ge r 2 (by decide)]
  pointwise [k1_pay1]

theorem left4 (b c x : Vec Ideal S2064x256 .f32) (w : Vec Ideal S3x256 .f32) : out1_4 (F := Ideal) b c x w = k1_pay1 c x w b := by
  unfold out1_4
  rw [View.canon_unit_zero origin]
  simp only [View.ld_unit_zero (S := S2064x256) origin, View.ld_unit_zero (S := S3x256) origin]

theorem points (t : Fin cfg1.N) : t.val < 16 := lt_of_lt_of_eq t.isLt (show cfg1.N = 16 from N_1)

/-! ## Where each block lies -/

theorem at1_0 : ∀ t : Fin cfg1.N, win1_0.index t 0 = t.val / 8 ∧ win1_0.index t 1 = t.val % 8 :=
  show ∀ t : Fin grid1.N, _ by decide +kernel
theorem at1_1 : ∀ t : Fin cfg1.N, win1_1.index t 0 = t.val / 8 ∧ win1_1.index t 1 = t.val % 8 + 8 :=
  show ∀ t : Fin grid1.N, _ by decide +kernel
theorem at1_2 : ∀ t : Fin cfg1.N, win1_2.index t 0 = t.val / 8 ∧ win1_2.index t 1 = t.val % 8 + 16 :=
  show ∀ t : Fin grid1.N, _ by decide +kernel
theorem at1_3 : ∀ t : Fin cfg1.N, win1_3.index t 0 = 0 ∧ win1_3.index t 1 = t.val % 8 :=
  show ∀ t : Fin grid1.N, _ by decide +kernel
theorem at1_4 : ∀ t : Fin cfg1.N, win1_4.index t 0 = t.val / 8 ∧ win1_4.index t 1 = t.val % 8 :=
  show ∀ t : Fin grid1.N, _ by decide +kernel

/-- The sequence and the channel of a block's row and lane. -/
def seqOf (t : Fin cfg1.N) : Fin 2 := ⟨t.val / 8, by have := points t; omega⟩
def chan (t : Fin cfg1.N) (l : Fin 256) : Fin 2048 := ⟨t.val % 8 * 256 + l.val, by have := l.isLt; omega⟩

/-- The grid point that writes an index. -/
def pointOf (i : S4128x2048.Idx) : Fin cfg1.N :=
  ⟨(i 0 : Nat) / 2064 * 8 + (i 1 : Nat) / 256, by
    have h0 : (i 0 : Nat) < 4128 := (i 0).isLt
    have h1 : (i 1 : Nat) < 2048 := (i 1).isLt
    rw [show cfg1.N = 16 from N_1]; omega⟩

theorem blk0 (c : Dev nD) (t : Fin cfg1.N) (l : Fin 256) : col (iblk1 V c 0 t) l = gateCol (argU V c) (seqOf t) (chan t l) := by
  funext r
  show iblk1 V c 0 t (ix2 r l) = argU V c _
  unfold iblk1
  rw [View.read_apply]
  exact congrArg (V c main_v0) (funext fun a => Fin.ext (Products.lies (at1_0 t) r l rfl (show (t.val % 8 * 256 + l.val) = t.val % 8 * 256 + l.val by omega) a))

theorem blk1 (c : Dev nD) (t : Fin cfg1.N) (l : Fin 256) : col (iblk1 V c 1 t) l = cCol (argU V c) (seqOf t) (chan t l) := by
  funext r
  show iblk1 V c 1 t (ix2 r l) = argU V c _
  unfold iblk1
  rw [View.read_apply]
  exact congrArg (V c main_v0) (funext fun a => Fin.ext (Products.lies (at1_1 t) r l rfl (show 2048 + (t.val % 8 * 256 + l.val) = (t.val % 8 + 8) * 256 + l.val by omega) a))

theorem blk2 (c : Dev nD) (t : Fin cfg1.N) (l : Fin 256) : col (iblk1 V c 2 t) l = xCol (argU V c) (seqOf t) (chan t l) := by
  funext r
  show iblk1 V c 2 t (ix2 r l) = argU V c _
  unfold iblk1
  rw [View.read_apply]
  exact congrArg (V c main_v0) (funext fun a => Fin.ext (Products.lies (at1_2 t) r l rfl (show 4096 + (t.val % 8 * 256 + l.val) = (t.val % 8 + 16) * 256 + l.val by omega) a))

theorem blk3 (c : Dev nD) (t : Fin cfg1.N) (l : Fin 256) : taps (iblk1 V c 3 t) l = tapCol (argW V c) (chan t l) := by
  funext k
  show iblk1 V c 3 t (ix2 k l) = argW V c _
  unfold iblk1
  rw [View.read_apply]
  exact congrArg (V c main_arg3) (funext fun a => Fin.ext (Products.lies (at1_3 t) k l (show k.val = 0 * 3 + k.val by omega) rfl a))

theorem convFwd_apply (U : ArrU) (W : ArrW) (s : Fin 2) (r : Fin 2064) (d : Fin 2048) :
    convFwd U W (ix2 (rowOf s r) d) = gateCol U s d r * conv (tapCol W d) (fun k => cCol U s d k * xCol U s d k) r := by
  show gateCol U (rowSeq (rowOf s r)) d (rowIn (rowOf s r)) * conv (tapCol W d) (fun k => cCol U (rowSeq (rowOf s r)) d k * xCol U (rowSeq (rowOf s r)) d k) (rowIn (rowOf s r)) = _
  rw [rowSeq_rowOf, rowIn_rowOf]

/-- The convolution's result after the run. -/
theorem final4 (c : Dev nD) : (dat1 V c).arrAt 4 cfg1.N = convFwd (argU V c) (argW V c) :=
  (dat1 V c).arrAt_eq_of_cover 4 (convFwd (argU V c) (argW V c)) (fun t _ => by
    rw [show (dat1 V c).flushed 4 t = (cfg1.win 4).cut (grid1.coords t) ((dat1 V c).after 4 t) from rfl, after1_4, left4]
    funext j
    obtain ⟨r, l, rfl⟩ : ∃ (r : Fin 2064) (l : Fin 256), j = ix2 r l := index_eq j
    rw [View.read_apply]
    have hj : ((cfg1.win 4).blk t).view.emb (ix2 r l) = ix2 (rowOf (seqOf t) r) (chan t l) :=
      funext fun a => Fin.ext (Products.lies (at1_4 t) r l rfl rfl a)
    rw [hj]
    rw [convFwd_apply]
    refine (pay_apply (iblk1 V c 1 t) (iblk1 V c 2 t) (iblk1 V c 0 t) (iblk1 V c 3 t) r l).trans ?_
    rw [blk0 V c t l, blk1 V c t l, blk2 V c t l, blk3 V c t l]
    rfl) fun i =>
    ⟨pointOf i, flush1_4 _, by
      show i ∈ ((View.whole main_v1).slice (win1_4.rect (pointOf i))).set
      rw [View.set_slice_whole, Rect.mem_set_unit]
      have h0 : (i 0 : Nat) < 4128 := (i 0).isLt
      have h1 : (i 1 : Nat) < 2048 := (i 1).isLt
      have hi := at1_4 (pointOf i)
      have hv : (pointOf i).val = (i 0 : Nat) / 2064 * 8 + (i 1 : Nat) / 256 := rfl
      intro a
      match a with
      | ⟨0, _⟩ => show win1_4.index (pointOf i) 0 * 2064 ≤ (i 0 : Nat) ∧ (i 0 : Nat) < win1_4.index (pointOf i) 0 * 2064 + 2064; rw [hi.1, hv]; omega
      | ⟨1, _⟩ => show win1_4.index (pointOf i) 1 * 256 ≤ (i 1 : Nat) ∧ (i 1 : Nat) < win1_4.index (pointOf i) 1 * 256 + 256; rw [hi.2, hv]; omega⟩

end Cert.MixerIdeal.ConvFwd

end
-- ==== Proof.MixerPoolWords.lean ====
/-
  The words the pooling's kernels compute with: the choice of a group's window sum, and the number of rows of a window
  that lie in the sequence.
-/
module

public import proofs.«01_k».proof.Proof.MixerSpec
public import Idealize.ShloMosaic.Lib.WordCmp
public import Idealize.ShloMosaic.Lib.Tactic

@[expose] public section

noncomputable section

open Idealize.ShloMosaic Idealize.ShloMosaic.TcCoe

namespace Cert.MixerSpec

open Cert.ConvSpec

/-- The choice among the groups' four values. -/
theorem pick {α : Type} (g : Fin 4) (f : Fin 4 → α) :
    Scalar.select (Scalar.cmpi .eq (BitVec.ofNat 32 g.val) 0#32) (f 0)
      (Scalar.select (Scalar.cmpi .eq (BitVec.ofNat 32 g.val) 1#32) (f 1)
        (Scalar.select (Scalar.cmpi .eq (BitVec.ofNat 32 g.val) 2#32) (f 2) (f 3))) = f g := by
  fin_cases g <;> rfl

/-- A group's window as the kernel's word. -/
theorem window_word (g : Fin 4) : Scalar.shli 2#32 (BitVec.ofNat 32 g.val) = BitVec.ofNat 32 (window g) := by
  fin_cases g <;> rfl

/-- The smaller of two words of small numbers. -/
theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  rw [BitVec.slt_eq_decide, WordCmp.toInt_ofNat_of_lt (w := 32) ha, WordCmp.toInt_ofNat_of_lt (w := 32) hb]
  by_cases h : a < b
  · rw [if_pos (by simpa using h), min_eq_left h.le]
  · rw [if_neg (by simpa using h), min_eq_right (by omega)]

/-- The number of rows as the kernel's word, converted. -/
theorem count_word (g : Fin 4) (r : Fin 2064) :
    (((IntOp.minsi (IntOp.addi (BitVec.ofNat 32 r.val) 1#32) (BitVec.ofNat 32 (window g))).toInt : ℝ) : EReal) = count g r := by
  have hr := r.isLt
  have hw : window g < 2 ^ 31 := by fin_cases g <;> decide
  have hm : min (r.val + 1) (window g) < 2 ^ 31 := lt_of_le_of_lt (min_le_right _ _) hw
  rw [show (1#32 : BitVec 32) = BitVec.ofNat 32 1 from rfl, WordCmp.addi_ofNat, minsi_ofNat (by omega) hw, WordCmp.toInt_ofNat_of_lt (w := 32) hm]
  rfl

end Cert.MixerSpec

end
-- ==== Proof.MixerPoolFwdBlock.lean ====
/-
  One block of the pooling's forward call: what its body computes from a block of the pooled columns, the group's matrix
  and the group's scale.
-/
module

public import proofs.«01_k».proof.Proof.Gen.MixerIdeal.Skeleton
public import proofs.«01_k».proof.Proof.MixerPoolWords
public import proofs.«01_k».proof.Proof.ConvBlock
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MixerIdeal.PoolFwd

open Cert.MixerIdeal Cert.MixerIdeal.Gen Cert.ConvSpec Cert.MixerSpec
open Cert.ConvBwdIdeal.Block (select_ge rotate_past)

/-- Lane `l` of a block, as a column. -/
abbrev lane (v : FVec Ideal S2064x512 .f32) (l : Fin 512) : Fin 2064 → EReal := fun r => v (ix2 r l)

/-- The column's rows `k` earlier, as the body takes them: rotated and masked. -/
def earlier (k : BitVec 32) (v : FVec Ideal S2064x512 .f32) : FVec Ideal S2064x512 .f32 :=
  select (cmpi .sge (iota .tc S2064x512 32 [0] iota_S2064x512_d0_w32) (broadcast S2064x512 k)) (dynamicRotate 0 k none v rotates_S2064x512_d0)
    (broadcast S2064x512 (Scalar.ofBits .f32 0x00000000#32 : Ideal .f32))

theorem earlier_1 (v : FVec Ideal S2064x512 .f32) (r : Fin 2064) (l : Fin 512) : earlier 1#32 v (ix2 r l) = past 1 (lane v l) r := by
  refine Eq.trans ?_ (rotate_past 1 (by decide) _ r (Nat.mod_lt _ (by decide)))
  rw [← select_ge r 1 (by decide)]
  pointwise [earlier]

theorem earlier_2 (v : FVec Ideal S2064x512 .f32) (r : Fin 2064) (l : Fin 512) : earlier 2#32 v (ix2 r l) = past 2 (lane v l) r := by
  refine Eq.trans ?_ (rotate_past 2 (by decide) _ r (Nat.mod_lt _ (by decide)))
  rw [← select_ge r 2 (by decide)]
  pointwise [earlier]

theorem earlier_4 (v : FVec Ideal S2064x512 .f32) (r : Fin 2064) (l : Fin 512) : earlier 4#32 v (ix2 r l) = past 4 (lane v l) r := by
  refine Eq.trans ?_ (rotate_past 4 (by decide) _ r (Nat.mod_lt _ (by decide)))
  rw [← select_ge r 4 (by decide)]
  pointwise [earlier]

theorem earlier_8 (v : FVec Ideal S2064x512 .f32) (r : Fin 2064) (l : Fin 512) : earlier 8#32 v (ix2 r l) = past 8 (lane v l) r := by
  refine Eq.trans ?_ (rotate_past 8 (by decide) _ r (Nat.mod_lt _ (by decide)))
  rw [← select_ge r 8 (by decide)]
  pointwise [earlier]

/-- The four groups' window sums, each twice the window before. -/
def sums (z : FVec Ideal S2064x512 .f32) : Fin 4 → FVec Ideal S2064x512 .f32
  | 0 => addf z (earlier 1#32 z)
  | 1 => addf (addf z (earlier 1#32 z)) (earlier 2#32 (addf z (earlier 1#32 z)))
  | 2 => addf (addf (addf z (earlier 1#32 z)) (earlier 2#32 (addf z (earlier 1#32 z)))) (earlier 4#32 (addf (addf z (earlier 1#32 z)) (earlier 2#32 (addf z (earlier 1#32 z)))))
  | 3 => addf (addf (addf (addf z (earlier 1#32 z)) (earlier 2#32 (addf z (earlier 1#32 z)))) (earlier 4#32 (addf (addf z (earlier 1#32 z)) (earlier 2#32 (addf z (earlier 1#32 z))))))
      (earlier 8#32 (addf (addf (addf z (earlier 1#32 z)) (earlier 2#32 (addf z (earlier 1#32 z)))) (earlier 4#32 (addf (addf z (earlier 1#32 z)) (earlier 2#32 (addf z (earlier 1#32 z)))))))

theorem sums_0 (z : FVec Ideal S2064x512 .f32) (l : Fin 512) : lane (sums z 0) l = behind 2 (lane z l) := by
  funext r
  show (lane z l r + earlier 1#32 z (ix2 r l) : EReal) = _
  rw [earlier_1]
  exact behind_two (lane z l) r

theorem sums_1 (z : FVec Ideal S2064x512 .f32) (l : Fin 512) : lane (sums z 1) l = behind 4 (lane z l) := by
  funext r
  show lane (sums z 0) l r + earlier 2#32 (sums z 0) (ix2 r l) = _
  rw [earlier_2, sums_0]
  exact behind_double 2 _ _

theorem sums_2 (z : FVec Ideal S2064x512 .f32) (l : Fin 512) : lane (sums z 2) l = behind 8 (lane z l) := by
  funext r
  show lane (sums z 1) l r + earlier 4#32 (sums z 1) (ix2 r l) = _
  rw [earlier_4, sums_1]
  exact behind_double 4 _ _

theorem sums_3 (z : FVec Ideal S2064x512 .f32) (l : Fin 512) : lane (sums z 3) l = behind 16 (lane z l) := by
  funext r
  show lane (sums z 2) l r + earlier 8#32 (sums z 2) (ix2 r l) = _
  rw [earlier_8, sums_2]
  exact behind_double 8 _ _

theorem sums_apply (z : FVec Ideal S2064x512 .f32) (g : Fin 4) (r : Fin 2064) (l : Fin 512) : sums z g (ix2 r l) = behind (window g) (lane z l) r := by
  fin_cases g
  · exact congrFun (sums_0 z l) r
  · exact congrFun (sums_1 z l) r
  · exact congrFun (sums_2 z l) r
  · exact congrFun (sums_3 z l) r

variable (z : FVec Ideal S2064x512 .f32) (w : Vec Ideal S1x512x512 .bf16) (sc : FVec Ideal S1x512 .f32) (r : Fin 2064) (l : Fin 512)

theorem same : k2_pay3 (F := Ideal) z = z := by
  funext j
  obtain ⟨r, l, rfl⟩ := Cert.Products.index_eq j
  pointwise [k2_pay3]

/-- The window sum the body takes. -/
theorem picked (i : grid2.Coords) (g : Fin 4) (hg : (i 1).val = g.val) : k2_pay4 (F := Ideal) i z = sums z g := by
  refine Eq.trans ?_ (pick g (sums z))
  unfold k2_pay4
  rw [same, hg]
  rfl

/-- The pooled columns. -/
theorem diff_apply (g : Fin 4) :
    k2_pay1 (F := Ideal) z (sums z g) (iota .tc S2064x512 32 [0] iota_S2064x512_d0_w32) (Scalar.shli 2#32 (BitVec.ofNat 32 g.val)) k2_pay5 (ix2 r l)
      = Ideal.div (behind (window g) (lane z l) r) (count g r) - z (ix2 r l) := by
  rw [window_word g, ← sums_apply, ← count_word]
  pointwise [k2_pay1, k2_pay5]
  rfl

/-- The pooled columns times the group's matrix, scaled. -/
theorem out_apply (v35 : FVec Ideal S2064x512 .f32) (v36 : IVec S2064x512 32) (v37 : BitVec 32) (v38 : IVec S2064x512 32) :
    k2_pay2 (F := Ideal) z v35 v36 v37 v38 w sc (ix2 r l)
      = (∑ k : Fin 512, k2_pay1 (F := Ideal) z v35 v36 v37 v38 (ix2 r k) * w (ix3 0 k l)) * sc (ix2 0 l) := by
  pointwise [k2_pay2]

end Cert.MixerIdeal.PoolFwd

end
-- ==== Proof.MixerPoolFwd.lean ====
/-
  The pooling's forward call, whole: what its two result arrays hold after its run, at every index, as a function of the
  arrays it reads. A grid point is a pair (sequence, group), and each of its two results is written block by block.
-/
module

public import proofs.«01_k».proof.Proof.Products
public import proofs.«01_k».proof.Proof.Gen.MixerIdeal.Frame.Region2
public import proofs.«01_k».proof.Proof.MixerPoolFwdBlock
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MixerIdeal.PoolFwd

open Cert.MixerIdeal Cert.MixerIdeal.Gen Cert.ConvSpec Cert.MixerSpec
open Cert.Products (origin index_eq)

variable (V : (c : Dev nD) → (b : Ref sig .tc) → Buf (Elt Ideal) ((c : Thread nD τ).loc b))

/-- The arrays it reads, as arrays of extended reals. -/
abbrev argU (c : Dev nD) : FVec Ideal S4128x8192 .f32 := V c main_v0
abbrev argP (c : Dev nD) : FVec Ideal S4x512x512 .bf16 := V c main_arg4
abbrev argS (c : Dev nD) : FVec Ideal S1x2048 .f32 := V c main_arg5

theorem points (t : Fin cfg2.N) : t.val < 8 := lt_of_lt_of_eq t.isLt (show cfg2.N = 8 from N_2)

theorem origin3 : (![0, 0, 0] : Fin 3 → Nat) = fun _ => 0 := funext fun a => by fin_cases a <;> rfl

/-! ## Where each block lies -/

theorem at2_0 : ∀ t : Fin cfg2.N, win2_0.index t 0 = t.val / 4 ∧ win2_0.index t 1 = t.val % 4 + 12 :=
  show ∀ t : Fin grid2.N, _ by decide +kernel
theorem at2_2 : ∀ t : Fin cfg2.N, win2_2.index t 0 = 0 ∧ win2_2.index t 1 = t.val % 4 :=
  show ∀ t : Fin grid2.N, _ by decide +kernel
theorem at2_3 : ∀ t : Fin cfg2.N, win2_3.index t 0 = t.val / 4 ∧ win2_3.index t 1 = t.val % 4 :=
  show ∀ t : Fin grid2.N, _ by decide +kernel
theorem at2_4 : ∀ t : Fin cfg2.N, win2_4.index t 0 = t.val / 4 ∧ win2_4.index t 1 = t.val % 4 :=
  show ∀ t : Fin grid2.N, _ by decide +kernel
theorem at2_1 : ∀ t : Fin cfg2.N, win2_1.index t 0 = t.val % 4 ∧ win2_1.index t 1 = 0 ∧ win2_1.index t 2 = 0 :=
  show ∀ t : Fin grid2.N, _ by decide +kernel
theorem group_at : ∀ t : Fin cfg2.N, (grid2.coords t 1).val = t.val % 4 :=
  show ∀ t : Fin grid2.N, _ by decide +kernel

/-- The sequence and the group of a grid point. -/
def seqOf (t : Fin cfg2.N) : Fin 2 := ⟨t.val / 4, by have := points t; omega⟩
def groupAt (t : Fin cfg2.N) : Fin 4 := ⟨t.val % 4, Nat.mod_lt _ (by decide)⟩

/-- The grid point that writes an index. -/
def pointOf (i : S4128x2048.Idx) : Fin cfg2.N :=
  ⟨(i 0 : Nat) / 2064 * 4 + (i 1 : Nat) / 512, by
    have h0 : (i 0 : Nat) < 4128 := (i 0).isLt
    have h1 : (i 1 : Nat) < 2048 := (i 1).isLt
    rw [show cfg2.N = 8 from N_2]; omega⟩

theorem blk0 (c : Dev nD) (t : Fin cfg2.N) (l : Fin 512) :
    lane (iblk2 V c 0 t) l = fun r => argU V c (ix2 (rowOf (seqOf t) r) (zCol (colOf (groupAt t) l))) := by
  funext r
  show iblk2 V c 0 t (ix2 r l) = _
  unfold iblk2
  rw [View.read_apply]
  exact congrArg (V c main_v0) (funext fun a => Fin.ext (Products.lies (at2_0 t) r l rfl (show 6144 + (t.val % 4 * 512 + l.val) = (t.val % 4 + 12) * 512 + l.val by omega) a))

theorem blk1 (c : Dev nD) (t : Fin cfg2.N) (k l : Fin 512) : iblk2 V c 1 t (ix3 0 k l) = argP V c (ix3 (groupAt t) k l) := by
  unfold iblk2
  rw [View.read_apply]
  show V c main_arg4 _ = V c main_arg4 _
  congr 1
  funext a
  apply Fin.ext
  have hi := at2_1 t
  match a with
  | ⟨0, _⟩ => show win2_1.index t 0 * 1 + 1 * 0 = t.val % 4; rw [hi.1]; omega
  | ⟨1, _⟩ => show win2_1.index t 1 * 512 + 1 * k.val = k.val; rw [hi.2.1]; omega
  | ⟨2, _⟩ => show win2_1.index t 2 * 512 + 1 * l.val = l.val; rw [hi.2.2]; omega

theorem blk2 (c : Dev nD) (t : Fin cfg2.N) (l : Fin 512) : iblk2 V c 2 t (ix2 0 l) = argS V c (ix2 0 (colOf (groupAt t) l)) := by
  unfold iblk2
  rw [View.read_apply]
  exact congrArg (V c main_arg5) (funext fun a => Fin.ext (Products.lies (at2_2 t) 0 l (show 0 = 0 * 1 + 0 by omega) rfl a))

/-! ## One block -/

theorem poolDiff_apply (U : ArrU) (s : Fin 2) (r : Fin 2064) (g : Fin 4) (l : Fin 512) :
    poolDiff U (ix2 (rowOf s r) (colOf g l))
      = Ideal.div (behind (window g) (fun r => U (ix2 (rowOf s r) (zCol (colOf g l)))) r) (count g r) - U (ix2 (rowOf s r) (zCol (colOf g l))) := by
  show Ideal.div (behind (window (groupOf (colOf g l))) (fun k => U (ix2 (rowOf (rowSeq (rowOf s r)) k) (zCol (colOf g l)))) (rowIn (rowOf s r))) (count (groupOf (colOf g l)) (rowIn (rowOf s r))) - _ = _
  rw [rowSeq_rowOf, rowIn_rowOf, groupOf_colOf]
  rfl

/-- The pooled columns a grid point leaves. -/
theorem diff_block (c : Dev nD) (t : Fin cfg2.N) (r : Fin 2064) (l : Fin 512) :
    k2_pay1 (F := Ideal) (iblk2 V c 0 t) (sums (iblk2 V c 0 t) (groupAt t)) (iota .tc S2064x512 32 [0] iota_S2064x512_d0_w32) (Scalar.shli 2#32 (BitVec.ofNat 32 (groupAt t).val)) k2_pay5 (ix2 r l)
      = poolDiff (argU V c) (ix2 (rowOf (seqOf t) r) (colOf (groupAt t) l)) := by
  refine (diff_apply (iblk2 V c 0 t) r l (groupAt t)).trans ?_
  rw [poolDiff_apply, blk0 V c t l]
  exact congrArg (fun x : EReal => _ - x) (congrFun (blk0 V c t l) r)

theorem left4 (i : grid2.Coords) (z : Vec Ideal S2064x512 .f32) (w : Vec Ideal S1x512x512 .bf16) (sc : Vec Ideal S1x512 .f32) (g : Fin 4) (hg : (i 1).val = g.val) :
    out2_4 (F := Ideal) i z w sc = k2_pay1 z (sums z g) (iota .tc S2064x512 32 [0] iota_S2064x512_d0_w32) (Scalar.shli 2#32 (BitVec.ofNat 32 g.val)) k2_pay5 := by
  unfold_out out2_4
  rw [View.canon_unit_zero origin]
  simp only [View.ld_unit_zero (S := S2064x512) origin, same, picked z i g hg, hg]

theorem left3 (i : grid2.Coords) (z : Vec Ideal S2064x512 .f32) (w : Vec Ideal S1x512x512 .bf16) (sc : Vec Ideal S1x512 .f32) (g : Fin 4) (hg : (i 1).val = g.val) :
    out2_3 (F := Ideal) i z w sc = k2_pay2 z (sums z g) (iota .tc S2064x512 32 [0] iota_S2064x512_d0_w32) (Scalar.shli 2#32 (BitVec.ofNat 32 g.val)) k2_pay5 w sc := by
  unfold_out out2_3
  rw [View.canon_unit_zero origin]
  simp only [View.ld_unit_zero (S := S2064x512) origin, View.ld_unit_zero (S := S1x512x512) origin3, View.ld_unit_zero (S := S1x512) origin, same, picked z i g hg, hg]

theorem poolOut_apply (dp : Cert.Products.Mat 4128 2048) (P : ArrP) (S : ArrS) (R : Fin 4128) (g : Fin 4) (l : Fin 512) :
    poolOut dp P S (ix2 R (colOf g l)) = (∑ k : Fin 512, dp (ix2 R (colOf g k)) * P (ix3 g k l)) * S (ix2 0 (colOf g l)) := by
  show (∑ k : Fin 512, dp (ix2 R (colOf (groupOf (colOf g l)) k)) * P (ix3 (groupOf (colOf g l)) k (laneOf (colOf g l)))) * _ = _
  rw [groupOf_colOf, laneOf_colOf]
  rfl

/-! ## The whole results -/

/-- The pooled columns after the run. -/
theorem final4 (c : Dev nD) : (dat2 V c).arrAt 4 cfg2.N = poolDiff (argU V c) :=
  (dat2 V c).arrAt_eq_of_cover 4 (poolDiff (argU V c)) (fun t _ => by
    rw [show (dat2 V c).flushed 4 t = (cfg2.win 4).cut (grid2.coords t) ((dat2 V c).after 4 t) from rfl, after2_4, left4 _ _ _ _ (groupAt t) (group_at t)]
    funext j
    obtain ⟨r, l, rfl⟩ : ∃ (r : Fin 2064) (l : Fin 512), j = ix2 r l := index_eq j
    rw [View.read_apply]
    have hj : ((cfg2.win 4).blk t).view.emb (ix2 r l) = ix2 (rowOf (seqOf t) r) (colOf (groupAt t) l) :=
      funext fun a => Fin.ext (Products.lies (at2_4 t) r l rfl rfl a)
    rw [hj]
    exact diff_block V c t r l) fun i =>
    ⟨pointOf i, flush2_4 _, by
      show i ∈ ((View.whole main_v2_1).slice (win2_4.rect (pointOf i))).set
      rw [View.set_slice_whole, Rect.mem_set_unit]
      have h0 : (i 0 : Nat) < 4128 := (i 0).isLt
      have h1 : (i 1 : Nat) < 2048 := (i 1).isLt
      have hi := at2_4 (pointOf i)
      have hv : (pointOf i).val = (i 0 : Nat) / 2064 * 4 + (i 1 : Nat) / 512 := rfl
      intro a
      match a with
      | ⟨0, _⟩ => show win2_4.index (pointOf i) 0 * 2064 ≤ (i 0 : Nat) ∧ (i 0 : Nat) < win2_4.index (pointOf i) 0 * 2064 + 2064; rw [hi.1, hv]; omega
      | ⟨1, _⟩ => show win2_4.index (pointOf i) 1 * 512 ≤ (i 1 : Nat) ∧ (i 1 : Nat) < win2_4.index (pointOf i) 1 * 512 + 512; rw [hi.2, hv]; omega⟩

/-- The pooling's result after the run. -/
theorem final3 (c : Dev nD) : (dat2 V c).arrAt 3 cfg2.N = poolOut (poolDiff (argU V c)) (argP V c) (argS V c) :=
  (dat2 V c).arrAt_eq_of_cover 3 (poolOut (poolDiff (argU V c)) (argP V c) (argS V c)) (fun t _ => by
    rw [show (dat2 V c).flushed 3 t = (cfg2.win 3).cut (grid2.coords t) ((dat2 V c).after 3 t) from rfl, after2_3, left3 _ _ _ _ (groupAt t) (group_at t)]
    funext j
    obtain ⟨r, l, rfl⟩ : ∃ (r : Fin 2064) (l : Fin 512), j = ix2 r l := index_eq j
    rw [View.read_apply]
    have hj : ((cfg2.win 3).blk t).view.emb (ix2 r l) = ix2 (rowOf (seqOf t) r) (colOf (groupAt t) l) :=
      funext fun a => Fin.ext (Products.lies (at2_3 t) r l rfl rfl a)
    rw [hj]
    rw [poolOut_apply]
    refine (out_apply (iblk2 V c 0 t) (iblk2 V c 1 t) (iblk2 V c 2 t) r l _ _ _ _).trans ?_
    exact congrArg₂ (fun p q : EReal => p * q) (Finset.sum_congr rfl fun k _ => congrArg₂ (fun p q : EReal => p * q) (diff_block V c t r k) (blk1 V c t k l)) (blk2 V c t l)) fun i =>
    ⟨pointOf i, flush2_3 _, by
      show i ∈ ((View.whole main_v2_0).slice (win2_3.rect (pointOf i))).set
      rw [View.set_slice_whole, Rect.mem_set_unit]
      have h0 : (i 0 : Nat) < 4128 := (i 0).isLt
      have h1 : (i 1 : Nat) < 2048 := (i 1).isLt
      have hi := at2_3 (pointOf i)
      have hv : (pointOf i).val = (i 0 : Nat) / 2064 * 4 + (i 1 : Nat) / 512 := rfl
      intro a
      match a with
      | ⟨0, _⟩ => show win2_3.index (pointOf i) 0 * 2064 ≤ (i 0 : Nat) ∧ (i 0 : Nat) < win2_3.index (pointOf i) 0 * 2064 + 2064; rw [hi.1, hv]; omega
      | ⟨1, _⟩ => show win2_3.index (pointOf i) 1 * 512 ≤ (i 1 : Nat) ∧ (i 1 : Nat) < win2_3.index (pointOf i) 1 * 512 + 512; rw [hi.2, hv]; omega⟩

end Cert.MixerIdeal.PoolFwd

end
-- ==== Proof.MixerDy.lean ====
/-
  The gradient at the output projection's input: the incoming gradient times the output projection transposed.
-/
module

public import proofs.«01_k».proof.Proof.Gen.MixerIdeal.Frame.Region4
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MixerIdeal.Dy

open Cert.MixerIdeal Cert.MixerIdeal.Gen Cert.Products

variable (V : (c : Dev nD) → (b : Ref sig .tc) → Buf (Elt Ideal) ((c : Thread nD τ).loc b))

theorem points4 (t : Fin cfg4.N) : t.val < 24 := lt_of_lt_of_eq t.isLt (show cfg4.N = 24 from N_4)

/-! ## Where each block lies -/

theorem at4_0 : ∀ t : Fin cfg4.N, win4_0.index t 0 = t.val / 8 ∧ win4_0.index t 1 = 0 :=
  show ∀ t : Fin grid4.N, _ by decide +kernel
theorem at4_1 : ∀ t : Fin cfg4.N, win4_1.index t 0 = t.val % 8 ∧ win4_1.index t 1 = 0 :=
  show ∀ t : Fin grid4.N, _ by decide +kernel
theorem at4_2 : ∀ t : Fin cfg4.N, win4_2.index t 0 = t.val / 8 ∧ win4_2.index t 1 = t.val % 8 :=
  show ∀ t : Fin grid4.N, _ by decide +kernel

/-- A window's block, entry by entry; so for the other windows below. -/
theorem blk4_0 (c : Dev nD) (t : Fin cfg4.N) (r : Fin 1376) (l : Fin 4096) :
    iblk4 V c 0 t (ix2 r l) = V c main_arg1 (ix2 (⟨(t.val / 8) * 1376 + r.val, by have := points4 t; omega⟩ : Fin 4128) (⟨(0) * 4096 + l.val, by omega⟩ : Fin 4096)) := by
  unfold iblk4
  rw [View.read_apply]
  exact congrArg (V c main_arg1) (funext fun a => Fin.ext (lies (at4_0 t) r l rfl rfl a))

theorem blk4_1 (c : Dev nD) (t : Fin cfg4.N) (r : Fin 512) (l : Fin 4096) :
    iblk4 V c 1 t (ix2 r l) = V c main_arg6 (ix2 (⟨(t.val % 8) * 512 + r.val, by omega⟩ : Fin 4096) (⟨(0) * 4096 + l.val, by omega⟩ : Fin 4096)) := by
  unfold iblk4
  rw [View.read_apply]
  exact congrArg (V c main_arg6) (funext fun a => Fin.ext (lies (at4_1 t) r l rfl rfl a))

/-! ## One block of the result -/

/-- What the body computes: a product of two blocks. -/
theorem pay4 (a : Vec Ideal S1376x4096 .bf16) (b : Vec Ideal S512x4096 .bf16) (r : Fin 1376) (l : Fin 512) :
    k4_pay1 a b (ix2 r l) = (∑ k : Fin 4096, a (ix2 r k) * b (ix2 l k) : EReal) := by
  pointwise [k4_pay1]

/-- What the body leaves in the result's staging buffer. -/
theorem left4 (a : Vec Ideal S1376x4096 .bf16) (b : Vec Ideal S512x4096 .bf16) : out4_2 a b = k4_pay1 a b := by
  unfold out4_2
  rw [View.canon_unit_zero origin]
  simp only [View.ld_unit_zero (S := S1376x4096) origin, View.ld_unit_zero (S := S512x4096) origin]

/-! ## The whole result -/

/-- The result, as a product of the arrays the call reads. -/
def result4 (c : Dev nD) : Mat 4128 4096 := nt (V c main_arg1) (V c main_arg6)

/-- The grid point that writes an index of the result. -/
def pointOf4 (i : S4128x4096.Idx) : Fin cfg4.N :=
  ⟨(i 0 : Nat) / 1376 * 8 + (i 1 : Nat) / 512, by
    have h0 : (i 0 : Nat) < 4128 := (i 0).isLt
    have h1 : (i 1 : Nat) < 4096 := (i 1).isLt
    rw [show cfg4.N = 24 from N_4]; omega⟩

/-- What a grid point writes back is its block of the result. -/
theorem block4 (c : Dev nD) (t : Fin cfg4.N) (r : Fin 1376) (l : Fin 512) :
    k4_pay1 (iblk4 V c 0 t) (iblk4 V c 1 t) (ix2 r l) = result4 V c (ix2 (⟨(t.val / 8) * 1376 + r.val, by have := points4 t; omega⟩ : Fin 4128) (⟨(t.val % 8) * 512 + l.val, by omega⟩ : Fin 4096)) := by
  refine (pay4 (iblk4 V c 0 t) (iblk4 V c 1 t) r l).trans ?_
  show _ = result4 V c _
  simp only [result4, nt_apply, plus_apply, piece_apply]
  refine Finset.sum_congr rfl fun k _ => congrArg₂ (fun p q : EReal => p * q) ?_ ?_
  · exact (blk4_0 V c t r k).trans (congrArg (V c main_arg1) (same (by simp [shift] <;> omega) (by simp [shift] <;> omega)))
  · exact (blk4_1 V c t l k).trans (congrArg (V c main_arg6) (same (by simp [shift] <;> omega) (by simp [shift] <;> omega)))

/-- The call's result array after the run. -/
theorem final4 (c : Dev nD) : (dat4 V c).arrAt 2 cfg4.N = result4 V c :=
  (dat4 V c).arrAt_eq_of_cover 2 (result4 V c) (fun t _ => by
    show (cfg4.win 2).cut (grid4.coords t) ((dat4 V c).after 2 t) = _
    rw [after4_2, left4]
    funext j
    obtain ⟨r, l, rfl⟩ : ∃ (r : Fin 1376) (l : Fin 512), j = ix2 r l := index_eq j
    rw [View.read_apply]
    exact (block4 V c t r l).trans (congrArg (result4 V c) (funext fun a => (Fin.ext (lies (at4_2 t) r l rfl rfl a)).symm))) fun i =>
    ⟨pointOf4 i, flush4_2 _, by
      show i ∈ ((View.whole main_v5).slice (win4_2.rect (pointOf4 i))).set
      rw [View.set_slice_whole, Rect.mem_set_unit]
      have h0 : (i 0 : Nat) < 4128 := (i 0).isLt
      have h1 : (i 1 : Nat) < 4096 := (i 1).isLt
      have hv : (pointOf4 i).val = (i 0 : Nat) / 1376 * 8 + (i 1 : Nat) / 512 := rfl
      exact holds i (at4_2 _) (by omega) (by omega) (by decide) (by decide)⟩

end Cert.MixerIdeal.Dy

end
-- ==== Proof.MixerDwout.lean ====
/-
  The output projection's gradient: the half of the columns that the sibling device keeps, then the half that this device
  keeps, with the sibling's share added.
-/
module

public import proofs.«01_k».proof.Proof.Gen.MixerIdeal.Frame.Region5
public import proofs.«01_k».proof.Proof.Gen.MixerIdeal.Frame.Region8
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MixerIdeal.Dwout

open Cert.MixerIdeal Cert.MixerIdeal.Gen Cert.Products

variable (V : (c : Dev nD) → (b : Ref sig .tc) → Buf (Elt Ideal) ((c : Thread nD τ).loc b))

theorem points5 (t : Fin cfg5.N) : t.val < 8 := lt_of_lt_of_eq t.isLt (show cfg5.N = 8 from N_5)

/-! ## Where each block lies -/

theorem at5_0 : ∀ t : Fin cfg5.N, win5_0.index t 0 = 0 ∧ win5_0.index t 1 = t.val / 4 :=
  show ∀ t : Fin grid5.N, _ by decide +kernel
theorem at5_1 : ∀ t : Fin cfg5.N, win5_1.index t 0 = 0 ∧ win5_1.index t 1 = t.val % 4 + 4 :=
  show ∀ t : Fin grid5.N, _ by decide +kernel
theorem at5_2 : ∀ t : Fin cfg5.N, win5_2.index t 0 = t.val / 4 ∧ win5_2.index t 1 = t.val % 4 :=
  show ∀ t : Fin grid5.N, _ by decide +kernel

/-- A window's block, entry by entry; so for the other windows below. -/
theorem blk5_0 (c : Dev nD) (t : Fin cfg5.N) (r : Fin 4128) (l : Fin 2048) :
    iblk5 V c 0 t (ix2 r l) = V c main_v3 (ix2 (⟨(0) * 4128 + r.val, by omega⟩ : Fin 4128) (⟨(t.val / 4) * 2048 + l.val, by have := points5 t; omega⟩ : Fin 4096)) := by
  unfold iblk5
  rw [View.read_apply]
  exact congrArg (V c main_v3) (funext fun a => Fin.ext (lies (at5_0 t) r l rfl rfl a))

theorem blk5_1 (c : Dev nD) (t : Fin cfg5.N) (r : Fin 4128) (l : Fin 512) :
    iblk5 V c 1 t (ix2 r l) = V c main_arg1 (ix2 (⟨(0) * 4128 + r.val, by omega⟩ : Fin 4128) (⟨(t.val % 4 + 4) * 512 + l.val, by have := points5 t; omega⟩ : Fin 4096)) := by
  unfold iblk5
  rw [View.read_apply]
  exact congrArg (V c main_arg1) (funext fun a => Fin.ext (lies (at5_1 t) r l rfl rfl a))

/-! ## One block of the result -/

/-- What the body computes: a product of two blocks. -/
theorem pay5 (a : Vec Ideal S4128x2048 .bf16) (b : Vec Ideal S4128x512 .bf16) (r : Fin 2048) (l : Fin 512) :
    k5_pay1 a b (ix2 r l) = (∑ k : Fin 4128, a (ix2 k r) * b (ix2 k l) : EReal) := by
  pointwise [k5_pay1]

/-- What the body leaves in the result's staging buffer. -/
theorem left5 (a : Vec Ideal S4128x2048 .bf16) (b : Vec Ideal S4128x512 .bf16) : out5_2 a b = k5_pay1 a b := by
  unfold out5_2
  rw [View.canon_unit_zero origin]
  simp only [View.ld_unit_zero (S := S4128x2048) origin, View.ld_unit_zero (S := S4128x512) origin]

/-! ## The whole result -/

/-- The result, as a product of the arrays the call reads. -/
def result5 (c : Dev nD) : Mat 4096 2048 := tn (V c main_v3) (piece 0 2048 (a := 4128) (b := 2048) (c := 4128) (d := 4096) (by decide) (by decide) (V c main_arg1))

/-- The grid point that writes an index of the result. -/
def pointOf5 (i : S4096x2048.Idx) : Fin cfg5.N :=
  ⟨(i 0 : Nat) / 2048 * 4 + (i 1 : Nat) / 512, by
    have h0 : (i 0 : Nat) < 4096 := (i 0).isLt
    have h1 : (i 1 : Nat) < 2048 := (i 1).isLt
    rw [show cfg5.N = 8 from N_5]; omega⟩

/-- What a grid point writes back is its block of the result. -/
theorem block5 (c : Dev nD) (t : Fin cfg5.N) (r : Fin 2048) (l : Fin 512) :
    k5_pay1 (iblk5 V c 0 t) (iblk5 V c 1 t) (ix2 r l) = result5 V c (ix2 (⟨(t.val / 4) * 2048 + r.val, by have := points5 t; omega⟩ : Fin 4096) (⟨(t.val % 4) * 512 + l.val, by omega⟩ : Fin 2048)) := by
  refine (pay5 (iblk5 V c 0 t) (iblk5 V c 1 t) r l).trans ?_
  show _ = result5 V c _
  simp only [result5, tn_apply, plus_apply, piece_apply]
  refine Finset.sum_congr rfl fun k _ => congrArg₂ (fun p q : EReal => p * q) ?_ ?_
  · exact (blk5_0 V c t k r).trans (congrArg (V c main_v3) (same (by simp [shift] <;> omega) (by simp [shift] <;> omega)))
  · exact (blk5_1 V c t k l).trans (congrArg (V c main_arg1) (same (by simp [shift] <;> omega) (by simp [shift] <;> omega)))

/-- The call's result array after the run. -/
theorem final5 (c : Dev nD) : (dat5 V c).arrAt 2 cfg5.N = result5 V c :=
  (dat5 V c).arrAt_eq_of_cover 2 (result5 V c) (fun t _ => by
    show (cfg5.win 2).cut (grid5.coords t) ((dat5 V c).after 2 t) = _
    rw [after5_2, left5]
    funext j
    obtain ⟨r, l, rfl⟩ : ∃ (r : Fin 2048) (l : Fin 512), j = ix2 r l := index_eq j
    rw [View.read_apply]
    exact (block5 V c t r l).trans (congrArg (result5 V c) (funext fun a => (Fin.ext (lies (at5_2 t) r l rfl rfl a)).symm))) fun i =>
    ⟨pointOf5 i, flush5_2 _, by
      show i ∈ ((View.whole main_v6).slice (win5_2.rect (pointOf5 i))).set
      rw [View.set_slice_whole, Rect.mem_set_unit]
      have h0 : (i 0 : Nat) < 4096 := (i 0).isLt
      have h1 : (i 1 : Nat) < 2048 := (i 1).isLt
      have hv : (pointOf5 i).val = (i 0 : Nat) / 2048 * 4 + (i 1 : Nat) / 512 := rfl
      exact holds i (at5_2 _) (by omega) (by omega) (by decide) (by decide)⟩

theorem points8 (t : Fin cfg8.N) : t.val < 8 := lt_of_lt_of_eq t.isLt (show cfg8.N = 8 from N_8)

/-! ## Where each block lies -/

theorem at8_0 : ∀ t : Fin cfg8.N, win8_0.index t 0 = 0 ∧ win8_0.index t 1 = t.val / 4 :=
  show ∀ t : Fin grid8.N, _ by decide +kernel
theorem at8_1 : ∀ t : Fin cfg8.N, win8_1.index t 0 = 0 ∧ win8_1.index t 1 = t.val % 4 :=
  show ∀ t : Fin grid8.N, _ by decide +kernel
theorem at8_2 : ∀ t : Fin cfg8.N, win8_2.index t 0 = t.val / 4 ∧ win8_2.index t 1 = t.val % 4 :=
  show ∀ t : Fin grid8.N, _ by decide +kernel
theorem at8_3 : ∀ t : Fin cfg8.N, win8_3.index t 0 = t.val / 4 ∧ win8_3.index t 1 = t.val % 4 :=
  show ∀ t : Fin grid8.N, _ by decide +kernel

theorem blk8_0 (c : Dev nD) (t : Fin cfg8.N) (r : Fin 4128) (l : Fin 2048) :
    iblk8 V c 0 t (ix2 r l) = V c main_v3 (ix2 (⟨(0) * 4128 + r.val, by omega⟩ : Fin 4128) (⟨(t.val / 4) * 2048 + l.val, by have := points8 t; omega⟩ : Fin 4096)) := by
  unfold iblk8
  rw [View.read_apply]
  exact congrArg (V c main_v3) (funext fun a => Fin.ext (lies (at8_0 t) r l rfl rfl a))

theorem blk8_1 (c : Dev nD) (t : Fin cfg8.N) (r : Fin 4128) (l : Fin 512) :
    iblk8 V c 1 t (ix2 r l) = V c main_arg1 (ix2 (⟨(0) * 4128 + r.val, by omega⟩ : Fin 4128) (⟨(t.val % 4) * 512 + l.val, by omega⟩ : Fin 4096)) := by
  unfold iblk8
  rw [View.read_apply]
  exact congrArg (V c main_arg1) (funext fun a => Fin.ext (lies (at8_1 t) r l rfl rfl a))

theorem blk8_2 (c : Dev nD) (t : Fin cfg8.N) (r : Fin 2048) (l : Fin 512) :
    iblk8 V c 2 t (ix2 r l) = V c main_arg7 (ix2 (⟨(t.val / 4) * 2048 + r.val, by have := points8 t; omega⟩ : Fin 4096) (⟨(t.val % 4) * 512 + l.val, by omega⟩ : Fin 2048)) := by
  unfold iblk8
  rw [View.read_apply]
  exact congrArg (V c main_arg7) (funext fun a => Fin.ext (lies (at8_2 t) r l rfl rfl a))

/-! ## One block of the result -/

/-- What the body computes: a product of two blocks, and the addend. -/
theorem pay8 (a : Vec Ideal S4128x2048 .bf16) (b : Vec Ideal S4128x512 .bf16) (e : Vec Ideal S2048x512 .bf16) (r : Fin 2048) (l : Fin 512) :
    k8_pay1 a b e (ix2 r l) = (∑ k : Fin 4128, a (ix2 k r) * b (ix2 k l) : EReal) + e (ix2 r l) := by
  pointwise [k8_pay1]

/-- What the body leaves in the result's staging buffer. -/
theorem left8 (a : Vec Ideal S4128x2048 .bf16) (b : Vec Ideal S4128x512 .bf16) (e : Vec Ideal S2048x512 .bf16) : out8_3 a b e = k8_pay1 a b e := by
  unfold out8_3
  rw [View.canon_unit_zero origin]
  simp only [View.ld_unit_zero (S := S4128x2048) origin, View.ld_unit_zero (S := S4128x512) origin, View.ld_unit_zero (S := S2048x512) origin]

/-! ## The whole result -/

/-- The result, as a product of the arrays the call reads. -/
def result8 (c : Dev nD) : Mat 4096 2048 := plus (tn (V c main_v3) (piece 0 0 (a := 4128) (b := 2048) (c := 4128) (d := 4096) (by decide) (by decide) (V c main_arg1))) (V c main_arg7)

/-- The grid point that writes an index of the result. -/
def pointOf8 (i : S4096x2048.Idx) : Fin cfg8.N :=
  ⟨(i 0 : Nat) / 2048 * 4 + (i 1 : Nat) / 512, by
    have h0 : (i 0 : Nat) < 4096 := (i 0).isLt
    have h1 : (i 1 : Nat) < 2048 := (i 1).isLt
    rw [show cfg8.N = 8 from N_8]; omega⟩

/-- What a grid point writes back is its block of the result. -/
theorem block8 (c : Dev nD) (t : Fin cfg8.N) (r : Fin 2048) (l : Fin 512) :
    k8_pay1 (iblk8 V c 0 t) (iblk8 V c 1 t) (iblk8 V c 2 t) (ix2 r l) = result8 V c (ix2 (⟨(t.val / 4) * 2048 + r.val, by have := points8 t; omega⟩ : Fin 4096) (⟨(t.val % 4) * 512 + l.val, by omega⟩ : Fin 2048)) := by
  refine (pay8 (iblk8 V c 0 t) (iblk8 V c 1 t) (iblk8 V c 2 t) r l).trans ?_
  show _ = result8 V c _
  simp only [result8, tn_apply, plus_apply, piece_apply]
  refine congrArg₂ (fun p q : EReal => p + q) ?_ ?_
  · refine Finset.sum_congr rfl fun k _ => congrArg₂ (fun p q : EReal => p * q) ?_ ?_
    · exact (blk8_0 V c t k r).trans (congrArg (V c main_v3) (same (by simp [shift] <;> omega) (by simp [shift] <;> omega)))
    · exact (blk8_1 V c t k l).trans (congrArg (V c main_arg1) (same (by simp [shift] <;> omega) (by simp [shift] <;> omega)))
  · exact blk8_2 V c t r l

/-- The call's result array after the run. -/
theorem final8 (c : Dev nD) : (dat8 V c).arrAt 3 cfg8.N = result8 V c :=
  (dat8 V c).arrAt_eq_of_cover 3 (result8 V c) (fun t _ => by
    show (cfg8.win 3).cut (grid8.coords t) ((dat8 V c).after 3 t) = _
    rw [after8_3, left8]
    funext j
    obtain ⟨r, l, rfl⟩ : ∃ (r : Fin 2048) (l : Fin 512), j = ix2 r l := index_eq j
    rw [View.read_apply]
    exact (block8 V c t r l).trans (congrArg (result8 V c) (funext fun a => (Fin.ext (lies (at8_3 t) r l rfl rfl a)).symm))) fun i =>
    ⟨pointOf8 i, flush8_3 _, by
      show i ∈ ((View.whole main_v10).slice (win8_3.rect (pointOf8 i))).set
      rw [View.set_slice_whole, Rect.mem_set_unit]
      have h0 : (i 0 : Nat) < 4096 := (i 0).isLt
      have h1 : (i 1 : Nat) < 2048 := (i 1).isLt
      have hv : (pointOf8 i).val = (i 0 : Nat) / 2048 * 4 + (i 1 : Nat) / 512 := rfl
      exact holds i (at8_3 _) (by omega) (by omega) (by decide) (by decide)⟩

end Cert.MixerIdeal.Dwout

end
-- ==== Proof.MixerConvBlock.lean ====
/-
  One block of the mixer's convolution backward call: what the body leaves in each output's staging buffer, read at a
  row and a lane, as in Proof/ConvBlock.lean. The gradients of the gate and of the two factors are the same whether or
  not the block is a channel's first; the taps' gradient starts from zero at the first sequence and adds to what is
  there at the next one.
-/
module

public import proofs.«01_k».proof.Proof.Gen.MixerIdeal.Frame.Region6
public import proofs.«01_k».proof.Proof.ConvBlock
public import proofs.«01_k».proof.Proof.Products

@[expose] public section

set_option maxRecDepth 16384

noncomputable section

open Idealize.ShloMosaic Idealize.ShloMosaic.TcCoe Idealize.SL.Sem

namespace Cert.MixerIdeal.ConvB

open Cert.MixerIdeal Cert.MixerIdeal.Gen Cert.ConvSpec
open Cert.ConvBwdIdeal.Block (select_ge select_lt rotate_past rotate_ahead canon_row_ne canon_row row_emb col taps)
open Cert.Products (origin)

section Payloads

variable (c x b dy : FVec Ideal S2064x256 .f32) (w : FVec Ideal S3x256 .f32) (r : Fin 2064) (l : Fin 256)

theorem prod_apply : k6_pay5 (F := Ideal) c x (ix2 r l) = col c l r * col x l r := by
  pointwise [k6_pay5, k6_pay3, k6_pay4]

theorem prod1_apply : k6_pay6 (F := Ideal) c x (ix2 r l) = past 1 (fun k => col c l k * col x l k) r := by
  refine Eq.trans ?_ (rotate_past 1 (by decide) _ r (Nat.mod_lt _ (by decide)))
  rw [← select_ge r 1 (by decide)]
  pointwise [k6_pay6, k6_pay5, k6_pay3, k6_pay4]

theorem prod2_apply : k6_pay7 (F := Ideal) c x (ix2 r l) = past 2 (fun k => col c l k * col x l k) r := by
  refine Eq.trans ?_ (rotate_past 2 (by decide) _ r (Nat.mod_lt _ (by decide)))
  rw [← select_ge r 2 (by decide)]
  pointwise [k6_pay7, k6_pay5, k6_pay3, k6_pay4]

theorem grad_apply : k6_pay10 (F := Ideal) dy b (ix2 r l) = col dy l r * col b l r := by
  pointwise [k6_pay10, k6_pay8]

/-- The gate's gradient. -/
theorem gate_apply : k6_pay9 (F := Ideal) c x w dy (ix2 r l) = gateGrad (taps w l) (col c l) (col x l) (col dy l) r := by
  unfold gateGrad conv
  rw [← prod2_apply, ← prod1_apply]
  pointwise [k6_pay9, k6_pay8, prod_apply]

/-- The gradient at the product `c · x`. -/
theorem convT_apply : k6_pay12 (F := Ideal) w (k6_pay10 dy b) (k6_pay11 w) (ix2 r l) = convT (taps w l) (fun k => col dy l k * col b l k) r := by
  unfold convT
  rw [← rotate_ahead 1 (by decide) _ r (Nat.mod_lt _ (by decide)), ← rotate_ahead 2 (by decide) _ r (Nat.mod_lt _ (by decide))]
  simp only [Nat.reduceSub]
  rw [← select_lt r 2063 (by decide), ← select_lt r 2062 (by decide)]
  pointwise [k6_pay12, k6_pay10, k6_pay11, k6_pay8]

/-- The gradient of the factor `c`. -/
theorem c_apply : k6_pay13 (F := Ideal) (k6_pay4 x) w (k6_pay10 dy b) (k6_pay11 w) (ix2 r l) = factorGrad (taps w l) (col b l) (col dy l) (col x l) r := by
  unfold factorGrad
  rw [← convT_apply]
  pointwise [k6_pay13, k6_pay4]

/-- The gradient of the factor `x`. -/
theorem x_apply : k6_pay14 (F := Ideal) (k6_pay3 c) w (k6_pay10 dy b) (k6_pay11 w) (ix2 r l) = factorGrad (taps w l) (col b l) (col dy l) (col c l) r := by
  unfold factorGrad
  rw [← convT_apply]
  pointwise [k6_pay14, k6_pay3]

/-- The three taps' sums over a block's rows, added to what was there. -/
theorem tap2_apply (v : FVec Ideal S1x256 .f32) : k6_pay16 (F := Ideal) (k6_pay7 c x) (k6_pay10 dy b) v (ix2 0 l)
    = v (ix2 0 l) + tapGrad 2 (col b l) (col c l) (col x l) (col dy l) := by
  unfold tapGrad
  simp only [← fun r => prod2_apply c x r l, ← fun r => grad_apply b dy r l]
  pointwise [k6_pay16]

theorem tap1_apply (v : FVec Ideal S1x256 .f32) : k6_pay1 (F := Ideal) (k6_pay6 c x) (k6_pay10 dy b) v (ix2 0 l)
    = v (ix2 0 l) + tapGrad 1 (col b l) (col c l) (col x l) (col dy l) := by
  unfold tapGrad
  simp only [← fun r => prod1_apply c x r l, ← fun r => grad_apply b dy r l]
  pointwise [k6_pay1]

theorem tap0_apply (v : FVec Ideal S1x256 .f32) : k6_pay2 (F := Ideal) (k6_pay5 c x) (k6_pay10 dy b) v (ix2 0 l)
    = v (ix2 0 l) + tapGrad 0 (col b l) (col c l) (col x l) (col dy l) := by
  unfold tapGrad
  simp only [past_zero, ← fun r => prod_apply c x r l, ← fun r => grad_apply b dy r l]
  pointwise [k6_pay2]

end Payloads

/-- The zeros the taps' gradient starts from. -/
theorem zero_apply (j : S3x256.Idx) : k6_pay15 (F := Ideal) j = 0 := by
  obtain ⟨k, l, rfl⟩ : ∃ k l, j = ix2 k l := ⟨j 0, j 1, by funext a; fin_cases a <;> rfl⟩
  pointwise [k6_pay15]

/-! ## What the body leaves -/

section Outs

variable (d : Dev nD) (i : grid6.Coords)
  (a2 : Memref sig .tc .vmem S2064x256 .f32) (h2 : a2.IsWhole) (a3 : Memref sig .tc .vmem S2064x256 .f32) (h3 : a3.IsWhole)
  (a4 : Memref sig .tc .vmem S2064x256 .f32) (h4 : a4.IsWhole) (a5 : Memref sig .tc .vmem S2064x256 .f32) (h5 : a5.IsWhole)
  (a6 : Memref sig .tc .vmem S3x256 .f32) (h6 : a6.IsWhole) (a7 : Memref sig .tc .vmem S2064x256 .bf16) (h7 : a7.IsWhole)
  (a8 : Memref sig .tc .vmem S2064x256 .bf16) (h8 : a8.IsWhole) (a9 : Memref sig .tc .vmem S2064x256 .bf16) (h9 : a9.IsWhole)
  (a10 : Memref sig .tc .vmem S3x256 .f32) (h10 : a10.IsWhole)
  (b c x dy : Vec Ideal S2064x256 .f32) (w : Vec Ideal S3x256 .f32)

theorem out5_A (hc : cond6_0 i) :
    out6_A_5 (F := Ideal) d i a2 h2 a3 h3 a4 h4 a5 h5 a6 h6 a7 h7 a8 h8 a9 h9 a10 h10 hc b c x dy w = k6_pay9 c x w dy := by
  unfold out6_A_5
  rw [View.read_writes_eq_canon]; swap; · intro; apply cover6_A_5
  unfold kernelRun6_A
  dsimp only
  sl_unfold_words
  rw [View.canon_unit_zero origin]
  simp only [View.readAt_eq_ld, Memref.IsWhole.read_unread, View.ld_unit_zero (S := S2064x256) origin, View.ld_unit_zero (S := S3x256) origin]

theorem out6_A (hc : cond6_0 i) :
    out6_A_6 (F := Ideal) d i a2 h2 a3 h3 a4 h4 a5 h5 a6 h6 a7 h7 a8 h8 a9 h9 a10 h10 hc b c x dy w = k6_pay13 (k6_pay4 x) w (k6_pay10 dy b) (k6_pay11 w) := by
  unfold out6_A_6
  rw [View.read_writes_eq_canon]; swap; · intro; apply cover6_A_6
  unfold kernelRun6_A
  dsimp only
  sl_unfold_words
  rw [View.canon_unit_zero origin]
  simp only [View.readAt_eq_ld, Memref.IsWhole.read_unread, View.ld_unit_zero (S := S2064x256) origin, View.ld_unit_zero (S := S3x256) origin]

theorem out7_A (hc : cond6_0 i) :
    out6_A_7 (F := Ideal) d i a2 h2 a3 h3 a4 h4 a5 h5 a6 h6 a7 h7 a8 h8 a9 h9 a10 h10 hc b c x dy w = k6_pay14 (k6_pay3 c) w (k6_pay10 dy b) (k6_pay11 w) := by
  unfold out6_A_7
  rw [View.read_writes_eq_canon]; swap; · intro; apply cover6_A_7
  unfold kernelRun6_A
  dsimp only
  sl_unfold_words
  rw [View.canon_unit_zero origin]
  simp only [View.readAt_eq_ld, Memref.IsWhole.read_unread, View.ld_unit_zero (S := S2064x256) origin, View.ld_unit_zero (S := S3x256) origin]

theorem out5_B (hc : ¬ cond6_0 i) (o : Vec Ideal S3x256 .f32) :
    out6_B_5 (F := Ideal) d i a2 h2 a3 h3 a4 h4 a5 h5 a6 h6 a7 h7 a8 h8 a9 h9 a10 h10 hc b c x dy w o = k6_pay9 c x w dy := by
  unfold out6_B_5
  rw [View.read_writes_eq_canon]; swap; · intro; apply cover6_B_5
  unfold kernelRun6_B
  dsimp only
  sl_unfold_words
  rw [View.canon_unit_zero origin]
  simp only [View.readAt_eq_ld, Memref.IsWhole.read_unread, View.ld_unit_zero (S := S2064x256) origin, View.ld_unit_zero (S := S3x256) origin]

theorem out6_B (hc : ¬ cond6_0 i) (o : Vec Ideal S3x256 .f32) :
    out6_B_6 (F := Ideal) d i a2 h2 a3 h3 a4 h4 a5 h5 a6 h6 a7 h7 a8 h8 a9 h9 a10 h10 hc b c x dy w o = k6_pay13 (k6_pay4 x) w (k6_pay10 dy b) (k6_pay11 w) := by
  unfold out6_B_6
  rw [View.read_writes_eq_canon]; swap; · intro; apply cover6_B_6
  unfold kernelRun6_B
  dsimp only
  sl_unfold_words
  rw [View.canon_unit_zero origin]
  simp only [View.readAt_eq_ld, Memref.IsWhole.read_unread, View.ld_unit_zero (S := S2064x256) origin, View.ld_unit_zero (S := S3x256) origin]

theorem out7_B (hc : ¬ cond6_0 i) (o : Vec Ideal S3x256 .f32) :
    out6_B_7 (F := Ideal) d i a2 h2 a3 h3 a4 h4 a5 h5 a6 h6 a7 h7 a8 h8 a9 h9 a10 h10 hc b c x dy w o = k6_pay14 (k6_pay3 c) w (k6_pay10 dy b) (k6_pay11 w) := by
  unfold out6_B_7
  rw [View.read_writes_eq_canon]; swap; · intro; apply cover6_B_7
  unfold kernelRun6_B
  dsimp only
  sl_unfold_words
  rw [View.canon_unit_zero origin]
  simp only [View.readAt_eq_ld, Memref.IsWhole.read_unread, View.ld_unit_zero (S := S2064x256) origin, View.ld_unit_zero (S := S3x256) origin]

theorem out8_A0 (hc : cond6_0 i) (l : Fin 256) :
    out6_A_8 (F := Ideal) d i a2 h2 a3 h3 a4 h4 a5 h5 a6 h6 a7 h7 a8 h8 a9 h9 a10 h10 hc b c x dy w (ix2 0 l)
      = 0 + tapGrad 2 (col b l) (col c l) (col x l) (col dy l) := by
  unfold out6_A_8
  rw [View.read_writes_eq_canon]; swap; · intro; apply cover6_A_8
  unfold kernelRun6_A
  dsimp only
  sl_unfold_words
  refine (canon_row_ne 2 _ _ _ 0 (by decide) l).trans ((canon_row_ne 1 _ _ _ 0 (by decide) l).trans ((canon_row 0 (by decide) _ _ _ l).trans ?_))
  simp only [View.readAt_eq_ld, Memref.IsWhole.read_unread, View.ld_unit_zero (S := S2064x256) origin, View.ld_unit_zero (S := S3x256) origin]
  refine (tap2_apply _ _ _ _ _ _).trans (congrArg (· + _) ?_)
  rw [View.readCov_fill _ _ _ _ _ (fun a => by fin_cases a <;> rfl)]
  exact zero_apply _

theorem out8_A1 (hc : cond6_0 i) (l : Fin 256) :
    out6_A_8 (F := Ideal) d i a2 h2 a3 h3 a4 h4 a5 h5 a6 h6 a7 h7 a8 h8 a9 h9 a10 h10 hc b c x dy w (ix2 1 l)
      = 0 + tapGrad 1 (col b l) (col c l) (col x l) (col dy l) := by
  unfold out6_A_8
  rw [View.read_writes_eq_canon]; swap; · intro; apply cover6_A_8
  unfold kernelRun6_A
  dsimp only
  sl_unfold_words
  refine (canon_row_ne 2 _ _ _ 1 (by decide) l).trans ((canon_row 1 (by decide) _ _ _ l).trans ?_)
  simp only [View.readAt_eq_ld, Memref.IsWhole.read_unread, View.ld_unit_zero (S := S2064x256) origin, View.ld_unit_zero (S := S3x256) origin]
  refine (tap1_apply _ _ _ _ _ _).trans (congrArg (· + _) ?_)
  rw [View.readCov_skip _ _ _ _ _ (by decide +kernel), View.readCov_fill _ _ _ _ _ (fun a => by fin_cases a <;> rfl)]
  exact zero_apply _

theorem out8_A2 (hc : cond6_0 i) (l : Fin 256) :
    out6_A_8 (F := Ideal) d i a2 h2 a3 h3 a4 h4 a5 h5 a6 h6 a7 h7 a8 h8 a9 h9 a10 h10 hc b c x dy w (ix2 2 l)
      = 0 + tapGrad 0 (col b l) (col c l) (col x l) (col dy l) := by
  unfold out6_A_8
  rw [View.read_writes_eq_canon]; swap; · intro; apply cover6_A_8
  unfold kernelRun6_A
  dsimp only
  sl_unfold_words
  refine (canon_row 2 (by decide) _ _ _ l).trans ?_
  simp only [View.readAt_eq_ld, Memref.IsWhole.read_unread, View.ld_unit_zero (S := S2064x256) origin, View.ld_unit_zero (S := S3x256) origin]
  refine (tap0_apply _ _ _ _ _ _).trans (congrArg (· + _) ?_)
  rw [View.readCov_skip _ _ _ _ _ (by decide +kernel), View.readCov_skip _ _ _ _ _ (by decide +kernel), View.readCov_fill _ _ _ _ _ (fun a => by fin_cases a <;> rfl)]
  exact zero_apply _

theorem out8_B0 (hc : ¬ cond6_0 i) (o : Vec Ideal S3x256 .f32) (l : Fin 256) :
    out6_B_8 (F := Ideal) d i a2 h2 a3 h3 a4 h4 a5 h5 a6 h6 a7 h7 a8 h8 a9 h9 a10 h10 hc b c x dy w o (ix2 0 l)
      = o (ix2 0 l) + tapGrad 2 (col b l) (col c l) (col x l) (col dy l) := by
  unfold out6_B_8
  rw [View.read_writes_eq_canon]; swap; · intro; apply cover6_B_8
  unfold kernelRun6_B
  dsimp only
  sl_unfold_words
  refine (canon_row_ne 2 _ _ _ 0 (by decide) l).trans ((canon_row_ne 1 _ _ _ 0 (by decide) l).trans ((canon_row 0 (by decide) _ _ _ l).trans ?_))
  simp only [View.readAt_eq_ld, Memref.IsWhole.read_unread, View.ld_unit_zero (S := S2064x256) origin, View.ld_unit_zero (S := S3x256) origin]
  exact (tap2_apply _ _ _ _ _ _).trans (congrArg (· + _) (congrArg o (row_emb 0 (by decide) _ l)))

theorem out8_B1 (hc : ¬ cond6_0 i) (o : Vec Ideal S3x256 .f32) (l : Fin 256) :
    out6_B_8 (F := Ideal) d i a2 h2 a3 h3 a4 h4 a5 h5 a6 h6 a7 h7 a8 h8 a9 h9 a10 h10 hc b c x dy w o (ix2 1 l)
      = o (ix2 1 l) + tapGrad 1 (col b l) (col c l) (col x l) (col dy l) := by
  unfold out6_B_8
  rw [View.read_writes_eq_canon]; swap; · intro; apply cover6_B_8
  unfold kernelRun6_B
  dsimp only
  sl_unfold_words
  refine (canon_row_ne 2 _ _ _ 1 (by decide) l).trans ((canon_row 1 (by decide) _ _ _ l).trans ?_)
  simp only [View.readAt_eq_ld, Memref.IsWhole.read_unread, View.ld_unit_zero (S := S2064x256) origin, View.ld_unit_zero (S := S3x256) origin]
  exact (tap1_apply _ _ _ _ _ _).trans (congrArg (· + _) (congrArg o (row_emb 1 (by decide) _ l)))

theorem out8_B2 (hc : ¬ cond6_0 i) (o : Vec Ideal S3x256 .f32) (l : Fin 256) :
    out6_B_8 (F := Ideal) d i a2 h2 a3 h3 a4 h4 a5 h5 a6 h6 a7 h7 a8 h8 a9 h9 a10 h10 hc b c x dy w o (ix2 2 l)
      = o (ix2 2 l) + tapGrad 0 (col b l) (col c l) (col x l) (col dy l) := by
  unfold out6_B_8
  rw [View.read_writes_eq_canon]; swap; · intro; apply cover6_B_8
  unfold kernelRun6_B
  dsimp only
  sl_unfold_words
  refine (canon_row 2 (by decide) _ _ _ l).trans ?_
  simp only [View.readAt_eq_ld, Memref.IsWhole.read_unread, View.ld_unit_zero (S := S2064x256) origin, View.ld_unit_zero (S := S3x256) origin]
  exact (tap0_apply _ _ _ _ _ _).trans (congrArg (· + _) (congrArg o (row_emb 2 (by decide) _ l)))

end Outs

end Cert.MixerIdeal.ConvB

end
-- ==== Proof.MixerConvArray.lean ====
/-
  The mixer's convolution backward call, whole: what each of its four result arrays holds after its run, at every index,
  as a function of the three arrays it reads, as in Proof/ConvArray.lean. A grid point is a pair (channel block, sequence); the gradients of the gate and of
  the factors are written block by block, and the taps' gradient is the sum over the two sequences.
-/
module

public import proofs.«01_k».proof.Proof.Products
public import proofs.«01_k».proof.Proof.MixerConvBlock

@[expose] public section

set_option maxRecDepth 16384

noncomputable section

open Idealize.ShloMosaic Idealize.ShloMosaic.TcCoe Idealize.SL.Sem
open Idealize.ShloMosaic.Pipeline (Dat)

namespace Cert.MixerIdeal.ConvB

open Cert.MixerIdeal Cert.MixerIdeal.Gen Cert.ConvSpec
open Cert.ConvBwdIdeal.Block (col taps)

variable (V : (c : Dev nD) → (b : Ref sig .tc) → Buf (Elt Ideal) ((c : Thread nD τ).loc b))

/-- The arrays it reads, as arrays of extended reals. -/
abbrev argU (c : Dev nD) : FVec Ideal S4128x8192 .f32 := V c main_v0
abbrev argD (c : Dev nD) : FVec Ideal S4128x4096 .f32 := V c main_v5
abbrev argW (c : Dev nD) : FVec Ideal S3x2048 .f32 := V c main_arg3

/-! ## Where each block lies -/

theorem N16 (t : Fin cfg6.N) : t.val < 16 := lt_of_lt_of_eq t.isLt (show cfg6.N = 16 from N_6)

theorem at0 : ∀ t : Fin cfg6.N, win6_0.index t 0 = t.val % 2 ∧ win6_0.index t 1 = t.val / 2 :=
  show ∀ t : Fin grid6.N, _ by decide +kernel
theorem at1 : ∀ t : Fin cfg6.N, win6_1.index t 0 = t.val % 2 ∧ win6_1.index t 1 = t.val / 2 + 8 :=
  show ∀ t : Fin grid6.N, _ by decide +kernel
theorem at2 : ∀ t : Fin cfg6.N, win6_2.index t 0 = t.val % 2 ∧ win6_2.index t 1 = t.val / 2 + 16 :=
  show ∀ t : Fin grid6.N, _ by decide +kernel
theorem at3 : ∀ t : Fin cfg6.N, win6_3.index t 0 = t.val % 2 ∧ win6_3.index t 1 = t.val / 2 :=
  show ∀ t : Fin grid6.N, _ by decide +kernel
theorem at4 : ∀ t : Fin cfg6.N, win6_4.index t 0 = 0 ∧ win6_4.index t 1 = t.val / 2 :=
  show ∀ t : Fin grid6.N, _ by decide +kernel
theorem at5 : ∀ t : Fin cfg6.N, win6_5.index t 0 = t.val % 2 ∧ win6_5.index t 1 = t.val / 2 :=
  show ∀ t : Fin grid6.N, _ by decide +kernel
theorem at6 : ∀ t : Fin cfg6.N, win6_6.index t 0 = t.val % 2 ∧ win6_6.index t 1 = t.val / 2 :=
  show ∀ t : Fin grid6.N, _ by decide +kernel
theorem at7 : ∀ t : Fin cfg6.N, win6_7.index t 0 = t.val % 2 ∧ win6_7.index t 1 = t.val / 2 :=
  show ∀ t : Fin grid6.N, _ by decide +kernel
theorem at8 : ∀ t : Fin cfg6.N, win6_8.index t 0 = 0 ∧ win6_8.index t 1 = t.val / 2 :=
  show ∀ t : Fin grid6.N, _ by decide +kernel

/-- The sequence and the channel of a block's row and lane. -/
def seqOf (t : Fin cfg6.N) : Fin 2 := ⟨t.val % 2, Nat.mod_lt _ (by decide)⟩
def chan (t : Fin cfg6.N) (l : Fin 256) : Fin 2048 := ⟨t.val / 2 * 256 + l.val, by have := N16 t; have := l.isLt; omega⟩

/-- The grid point that writes an index of the gradients. -/
def pointOf (i : S4128x2048.Idx) : Fin cfg6.N :=
  ⟨(i 1 : Nat) / 256 * 2 + (i 0 : Nat) / 2064, by
    have h0 : (i 0 : Nat) < 4128 := (i 0).isLt
    have h1 : (i 1 : Nat) < 2048 := (i 1).isLt
    rw [show cfg6.N = 16 from N_6]; omega⟩

theorem point_row (i : S4128x2048.Idx) : (pointOf i).val % 2 = (i 0).val / 2064 := by
  have h : (i 0).val < 4128 := (i 0).isLt
  show ((i 1).val / 256 * 2 + (i 0).val / 2064) % 2 = _
  omega

theorem point_col (i : S4128x2048.Idx) : (pointOf i).val / 2 = (i 1).val / 256 := by
  have h : (i 0).val < 4128 := (i 0).isLt
  show ((i 1).val / 256 * 2 + (i 0).val / 2064) / 2 = _
  omega

theorem blk0 (c : Dev nD) (t : Fin cfg6.N) (l : Fin 256) :
    col (iblk6 V c 0 t) l = gateCol (argU V c) (seqOf t) (chan t l) := by
  funext r
  show iblk6 V c 0 t (ix2 r l) = argU V c _
  unfold iblk6
  rw [View.read_apply]
  exact congrArg (V c main_v0) (funext fun a => Fin.ext (Products.lies (at0 t) r l rfl rfl a))

theorem blk1 (c : Dev nD) (t : Fin cfg6.N) (l : Fin 256) :
    col (iblk6 V c 1 t) l = cCol (argU V c) (seqOf t) (chan t l) := by
  funext r
  show iblk6 V c 1 t (ix2 r l) = argU V c _
  unfold iblk6
  rw [View.read_apply]
  exact congrArg (V c main_v0) (funext fun a => Fin.ext (Products.lies (at1 t) r l rfl (show 2048 + (t.val / 2 * 256 + l.val) = (t.val / 2 + 8) * 256 + l.val by omega) a))

theorem blk2 (c : Dev nD) (t : Fin cfg6.N) (l : Fin 256) :
    col (iblk6 V c 2 t) l = xCol (argU V c) (seqOf t) (chan t l) := by
  funext r
  show iblk6 V c 2 t (ix2 r l) = argU V c _
  unfold iblk6
  rw [View.read_apply]
  exact congrArg (V c main_v0) (funext fun a => Fin.ext (Products.lies (at2 t) r l rfl (show 4096 + (t.val / 2 * 256 + l.val) = (t.val / 2 + 16) * 256 + l.val by omega) a))

theorem blk3 (c : Dev nD) (t : Fin cfg6.N) (l : Fin 256) :
    col (iblk6 V c 3 t) l = dyCol (argD V c) (seqOf t) (chan t l) := by
  funext r
  show iblk6 V c 3 t (ix2 r l) = argD V c _
  unfold iblk6
  rw [View.read_apply]
  exact congrArg (V c main_v5) (funext fun a => Fin.ext (Products.lies (at3 t) r l rfl rfl a))

theorem blk4 (c : Dev nD) (t : Fin cfg6.N) (l : Fin 256) : taps (iblk6 V c 4 t) l = tapCol (argW V c) (chan t l) := by
  funext k
  show iblk6 V c 4 t (ix2 k l) = argW V c _
  unfold iblk6
  rw [View.read_apply]
  exact congrArg (V c main_arg3) (funext fun a => Fin.ext (Products.lies (at4 t) k l (show k.val = 0 * 3 + k.val by omega) rfl a))

/-! ## The three gradients written block by block -/

theorem wrote5 (c : Dev nD) (t : Fin cfg6.N) :
    (dat6 V c).flushed 5 t = (cfg6.win 5).cut (grid6.coords t) (k6_pay9 (iblk6 V c 1 t) (iblk6 V c 2 t) (iblk6 V c 4 t) (iblk6 V c 3 t)) := by
  by_cases h0 : t.val % 2 = 0
  · show (cfg6.win 5).cut (grid6.coords t) ((dat6 V c).after 5 t) = _
    rw [after6_5, outsAt6_A V c t h0]
    dsimp only
    rw [out5_A]
  · show (cfg6.win 5).cut (grid6.coords t) ((dat6 V c).after 5 t) = _
    rw [after6_5, outsAt6_B V c t h0]
    dsimp only
    rw [out5_B]

theorem final5 (c : Dev nD) : (dat6 V c).arrAt 5 cfg6.N = gateOut (argU V c) (argD V c) (argW V c) :=
  (dat6 V c).arrAt_eq_of_cover 5 (gateOut (argU V c) (argD V c) (argW V c)) (fun t _ => by
    rw [wrote5]
    funext j
    obtain ⟨r, l, rfl⟩ : ∃ (r : Fin 2064) (l : Fin 256), j = ix2 r l := ⟨j 0, j 1, by funext a; fin_cases a <;> rfl⟩
    rw [View.read_apply]
    have hj : ((cfg6.win 5).blk t).view.emb (ix2 r l) = ix2 (rowOf (seqOf t) r) (chan t l) :=
      funext fun a => Fin.ext (Products.lies (at5 t) r l rfl rfl a)
    rw [hj, gateOut_apply]
    refine (gate_apply (iblk6 V c 1 t) (iblk6 V c 2 t) (iblk6 V c 3 t) (iblk6 V c 4 t) r l).trans ?_
    rw [blk1 V c t l, blk2 V c t l, blk3 V c t l, blk4 V c t l]
    rfl) fun i =>
    ⟨pointOf i, flush6_5 _, by
      show i ∈ ((View.whole main_v7_0).slice (win6_5.rect (pointOf i))).set
      rw [View.set_slice_whole, Rect.mem_set_unit]
      exact Products.holds i (at5 (pointOf i)) (point_row i) (point_col i) (by decide) (by decide)⟩

theorem wrote6 (c : Dev nD) (t : Fin cfg6.N) :
    (dat6 V c).flushed 6 t = (cfg6.win 6).cut (grid6.coords t) (k6_pay13 (k6_pay4 (iblk6 V c 2 t)) (iblk6 V c 4 t) (k6_pay10 (iblk6 V c 3 t) (iblk6 V c 0 t)) (k6_pay11 (iblk6 V c 4 t))) := by
  by_cases h0 : t.val % 2 = 0
  · show (cfg6.win 6).cut (grid6.coords t) ((dat6 V c).after 6 t) = _
    rw [after6_6, outsAt6_A V c t h0]
    dsimp only
    rw [out6_A]
  · show (cfg6.win 6).cut (grid6.coords t) ((dat6 V c).after 6 t) = _
    rw [after6_6, outsAt6_B V c t h0]
    dsimp only
    rw [out6_B]

theorem final6 (c : Dev nD) : (dat6 V c).arrAt 6 cfg6.N = cOut (argU V c) (argD V c) (argW V c) :=
  (dat6 V c).arrAt_eq_of_cover 6 (cOut (argU V c) (argD V c) (argW V c)) (fun t _ => by
    rw [wrote6]
    funext j
    obtain ⟨r, l, rfl⟩ : ∃ (r : Fin 2064) (l : Fin 256), j = ix2 r l := ⟨j 0, j 1, by funext a; fin_cases a <;> rfl⟩
    rw [View.read_apply]
    have hj : ((cfg6.win 6).blk t).view.emb (ix2 r l) = ix2 (rowOf (seqOf t) r) (chan t l) :=
      funext fun a => Fin.ext (Products.lies (at6 t) r l rfl rfl a)
    rw [hj, cOut_apply]
    refine (c_apply (iblk6 V c 2 t) (iblk6 V c 0 t) (iblk6 V c 3 t) (iblk6 V c 4 t) r l).trans ?_
    rw [blk0 V c t l, blk2 V c t l, blk3 V c t l, blk4 V c t l]
    rfl) fun i =>
    ⟨pointOf i, flush6_6 _, by
      show i ∈ ((View.whole main_v7_1).slice (win6_6.rect (pointOf i))).set
      rw [View.set_slice_whole, Rect.mem_set_unit]
      exact Products.holds i (at6 (pointOf i)) (point_row i) (point_col i) (by decide) (by decide)⟩

theorem wrote7 (c : Dev nD) (t : Fin cfg6.N) :
    (dat6 V c).flushed 7 t = (cfg6.win 7).cut (grid6.coords t) (k6_pay14 (k6_pay3 (iblk6 V c 1 t)) (iblk6 V c 4 t) (k6_pay10 (iblk6 V c 3 t) (iblk6 V c 0 t)) (k6_pay11 (iblk6 V c 4 t))) := by
  by_cases h0 : t.val % 2 = 0
  · show (cfg6.win 7).cut (grid6.coords t) ((dat6 V c).after 7 t) = _
    rw [after6_7, outsAt6_A V c t h0]
    dsimp only
    rw [out7_A]
  · show (cfg6.win 7).cut (grid6.coords t) ((dat6 V c).after 7 t) = _
    rw [after6_7, outsAt6_B V c t h0]
    dsimp only
    rw [out7_B]

theorem final7 (c : Dev nD) : (dat6 V c).arrAt 7 cfg6.N = xOut (argU V c) (argD V c) (argW V c) :=
  (dat6 V c).arrAt_eq_of_cover 7 (xOut (argU V c) (argD V c) (argW V c)) (fun t _ => by
    rw [wrote7]
    funext j
    obtain ⟨r, l, rfl⟩ : ∃ (r : Fin 2064) (l : Fin 256), j = ix2 r l := ⟨j 0, j 1, by funext a; fin_cases a <;> rfl⟩
    rw [View.read_apply]
    have hj : ((cfg6.win 7).blk t).view.emb (ix2 r l) = ix2 (rowOf (seqOf t) r) (chan t l) :=
      funext fun a => Fin.ext (Products.lies (at7 t) r l rfl rfl a)
    rw [hj, xOut_apply]
    refine (x_apply (iblk6 V c 1 t) (iblk6 V c 0 t) (iblk6 V c 3 t) (iblk6 V c 4 t) r l).trans ?_
    rw [blk0 V c t l, blk1 V c t l, blk3 V c t l, blk4 V c t l]
    rfl) fun i =>
    ⟨pointOf i, flush6_7 _, by
      show i ∈ ((View.whole main_v7_2).slice (win6_7.rect (pointOf i))).set
      rw [View.set_slice_whole, Rect.mem_set_unit]
      exact Products.holds i (at7 (pointOf i)) (point_row i) (point_col i) (by decide) (by decide)⟩

/-! ## The taps' gradient: two sequences, one after the other -/

variable (d : Dev nD) (i : grid6.Coords)
  (a2 : Memref sig .tc .vmem S2064x256 .f32) (h2 : a2.IsWhole) (a3 : Memref sig .tc .vmem S2064x256 .f32) (h3 : a3.IsWhole)
  (a4 : Memref sig .tc .vmem S2064x256 .f32) (h4 : a4.IsWhole) (a5 : Memref sig .tc .vmem S2064x256 .f32) (h5 : a5.IsWhole)
  (a6 : Memref sig .tc .vmem S3x256 .f32) (h6 : a6.IsWhole) (a7 : Memref sig .tc .vmem S2064x256 .bf16) (h7 : a7.IsWhole)
  (a8 : Memref sig .tc .vmem S2064x256 .bf16) (h8 : a8.IsWhole) (a9 : Memref sig .tc .vmem S2064x256 .bf16) (h9 : a9.IsWhole)
  (a10 : Memref sig .tc .vmem S3x256 .f32) (h10 : a10.IsWhole)
  (b c x dy : Vec Ideal S2064x256 .f32) (w : Vec Ideal S3x256 .f32)

theorem taps_A (hc : cond6_0 i) (k : Fin 3) (l : Fin 256) :
    out6_A_8 (F := Ideal) d i a2 h2 a3 h3 a4 h4 a5 h5 a6 h6 a7 h7 a8 h8 a9 h9 a10 h10 hc b c x dy w (ix2 k l)
      = tapGrad (2 - k.val) (col b l) (col c l) (col x l) (col dy l) := by
  refine Eq.trans ?_ (zero_add _)
  match k with
  | 0 => exact out8_A0 d i a2 h2 a3 h3 a4 h4 a5 h5 a6 h6 a7 h7 a8 h8 a9 h9 a10 h10 b c x dy w hc l
  | 1 => exact out8_A1 d i a2 h2 a3 h3 a4 h4 a5 h5 a6 h6 a7 h7 a8 h8 a9 h9 a10 h10 b c x dy w hc l
  | 2 => exact out8_A2 d i a2 h2 a3 h3 a4 h4 a5 h5 a6 h6 a7 h7 a8 h8 a9 h9 a10 h10 b c x dy w hc l

theorem taps_B (hc : ¬ cond6_0 i) (o : Vec Ideal S3x256 .f32) (k : Fin 3) (l : Fin 256) :
    out6_B_8 (F := Ideal) d i a2 h2 a3 h3 a4 h4 a5 h5 a6 h6 a7 h7 a8 h8 a9 h9 a10 h10 hc b c x dy w o (ix2 k l)
      = o (ix2 k l) + tapGrad (2 - k.val) (col b l) (col c l) (col x l) (col dy l) := by
  match k with
  | 0 => exact out8_B0 d i a2 h2 a3 h3 a4 h4 a5 h5 a6 h6 a7 h7 a8 h8 a9 h9 a10 h10 b c x dy w hc o l
  | 1 => exact out8_B1 d i a2 h2 a3 h3 a4 h4 a5 h5 a6 h6 a7 h7 a8 h8 a9 h9 a10 h10 b c x dy w hc o l
  | 2 => exact out8_B2 d i a2 h2 a3 h3 a4 h4 a5 h5 a6 h6 a7 h7 a8 h8 a9 h9 a10 h10 b c x dy w hc o l

/-- After a channel block's first sequence. -/
theorem first (c : Dev nD) (t : Fin cfg6.N) (h0 : t.val % 2 = 0) (k : Fin 3) (l : Fin 256) :
    (outsAt6 V c t.val t.isLt).2.2.2 (ix2 k l)
      = tapGrad (2 - k.val) (gateCol (argU V c) (seqOf t) (chan t l)) (cCol (argU V c) (seqOf t) (chan t l)) (xCol (argU V c) (seqOf t) (chan t l)) (dyCol (argD V c) (seqOf t) (chan t l)) := by
  rw [outsAt6_A V c t h0]
  dsimp only
  refine (taps_A (k := k) (l := l) ..).trans ?_
  rw [blk0 V c t l, blk1 V c t l, blk2 V c t l, blk3 V c t l]

/-- After its second. -/
theorem second (c : Dev nD) (t : Fin cfg6.N) (h0 : ¬ t.val % 2 = 0) (k : Fin 3) (l : Fin 256) :
    (outsAt6 V c t.val t.isLt).2.2.2 (ix2 k l) = tapOut (argU V c) (argD V c) (ix2 k (chan t l)) := by
  have ht := N16 t
  rw [outsAt6_B V c t h0]
  dsimp only
  refine (taps_B (k := k) (l := l) ..).trans ?_
  rw [blk0 V c t l, blk1 V c t l, blk2 V c t l, blk3 V c t l]
  have e0 : seqOf t = 1 := Fin.ext (show t.val % 2 = 1 by omega)
  have hp : t.val - 1 < cfg6.N := Nat.lt_of_le_of_lt (Nat.sub_le _ _) t.isLt
  have e1 : seqOf ⟨t.val - 1, hp⟩ = 0 := Fin.ext (show (t.val - 1) % 2 = 0 by omega)
  have e2 : chan ⟨t.val - 1, hp⟩ l = chan t l := Fin.ext (show (t.val - 1) / 2 * 256 + l.val = t.val / 2 * 256 + l.val by omega)
  rw [first V c ⟨t.val - 1, hp⟩ (show (t.val - 1) % 2 = 0 by omega) k l, e0, e1, e2]
  show _ = ∑ s : Fin 2, _
  rw [Fin.sum_univ_two]
  rfl

/-- The last grid point of an index's channel block. -/
def lastOf (i : S3x2048.Idx) : Fin cfg6.N :=
  ⟨(i 1 : Nat) / 256 * 2 + 1, by
    have h1 : (i 1 : Nat) < 2048 := (i 1).isLt
    rw [show cfg6.N = 16 from N_6]; omega⟩

theorem final8 (c : Dev nD) : (dat6 V c).arrAt 8 cfg6.N = tapOut (argU V c) (argD V c) :=
  (dat6 V c).arrAt_eq_of_cover 8 (tapOut (argU V c) (argD V c)) (fun t hf => by
    have ht : ¬ t.val % 2 = 0 := by have := (flush6_8 t).mp hf; omega
    show (cfg6.win 8).cut (grid6.coords t) ((dat6 V c).after 8 t) = _
    rw [after6_8]
    funext j
    obtain ⟨k, l, rfl⟩ : ∃ (k : Fin 3) (l : Fin 256), j = ix2 k l := ⟨j 0, j 1, by funext a; fin_cases a <;> rfl⟩
    rw [View.read_apply]
    have hj : ((cfg6.win 8).blk t).view.emb (ix2 k l) = ix2 k (chan t l) :=
      funext fun a => Fin.ext (Products.lies (at8 t) k l (show k.val = 0 * 3 + k.val by omega) rfl a)
    rw [hj]
    exact second V c t ht k l) fun i =>
    ⟨lastOf i, (flush6_8 _).mpr (by show ((i 1 : Nat) / 256 * 2 + 1) % 2 = 1; omega), by
      show i ∈ ((View.whole main_v7_3).slice (win6_8.rect (lastOf i))).set
      rw [View.set_slice_whole, Rect.mem_set_unit]
      have h0 : (i 0 : Nat) < 3 := (i 0).isLt
      have h1 : (i 1 : Nat) < 2048 := (i 1).isLt
      have hi := at8 (lastOf i)
      have hv : (lastOf i).val = (i 1 : Nat) / 256 * 2 + 1 := rfl
      intro a
      match a with
      | ⟨0, _⟩ => show win6_8.index (lastOf i) 0 * 3 ≤ (i 0 : Nat) ∧ (i 0 : Nat) < win6_8.index (lastOf i) 0 * 3 + 3; rw [hi.1]; omega
      | ⟨1, _⟩ => show win6_8.index (lastOf i) 1 * 256 ≤ (i 1 : Nat) ∧ (i 1 : Nat) < win6_8.index (lastOf i) 1 * 256 + 256; rw [hi.2, hv]; omega⟩

end Cert.MixerIdeal.ConvB

end
-- ==== Proof.MixerPoolBwdBlock.lean ====
/-
  One block of the pooling's backward call: what its body computes from a block of the pooled columns, a block of the
  incoming gradient, the group's matrix and the group's scale.
-/
module

public import proofs.«01_k».proof.Proof.Gen.MixerIdeal.Skeleton
public import proofs.«01_k».proof.Proof.MixerPoolWords
public import proofs.«01_k».proof.Proof.ConvBlock
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MixerIdeal.PoolBwd

open Cert.MixerIdeal Cert.MixerIdeal.Gen Cert.ConvSpec Cert.MixerSpec
open Cert.ConvBwdIdeal.Block (select_lt rotate_ahead)

/-- Lane `l` of a block, as a column. -/
abbrev lane (v : FVec Ideal S2064x512 .f32) (l : Fin 512) : Fin 2064 → EReal := fun r => v (ix2 r l)

/-! ## The sums over the windows ahead -/

/-- The column's rows later on, as the body takes them: rotated and masked. -/
def later (k : BitVec 32) (v : FVec Ideal S2064x512 .f32) : FVec Ideal S2064x512 .f32 :=
  select (cmpi .slt (iota .tc S2064x512 32 [0] iota_S2064x512_d0_w32) (broadcast S2064x512 k)) (dynamicRotate 0 k none v rotates_S2064x512_d0)
    (broadcast S2064x512 (Scalar.ofBits .f32 0x00000000#32 : Ideal .f32))

theorem later_1 (v : FVec Ideal S2064x512 .f32) (r : Fin 2064) (l : Fin 512) : later 2063#32 v (ix2 r l) = ahead 1 (lane v l) r := by
  refine Eq.trans ?_ (rotate_ahead 1 (by decide) _ r (Nat.mod_lt _ (by decide)))
  simp only [Nat.reduceSub]
  rw [← select_lt r 2063 (by decide)]
  pointwise [later]

theorem later_2 (v : FVec Ideal S2064x512 .f32) (r : Fin 2064) (l : Fin 512) : later 2062#32 v (ix2 r l) = ahead 2 (lane v l) r := by
  refine Eq.trans ?_ (rotate_ahead 2 (by decide) _ r (Nat.mod_lt _ (by decide)))
  simp only [Nat.reduceSub]
  rw [← select_lt r 2062 (by decide)]
  pointwise [later]

theorem later_4 (v : FVec Ideal S2064x512 .f32) (r : Fin 2064) (l : Fin 512) : later 2060#32 v (ix2 r l) = ahead 4 (lane v l) r := by
  refine Eq.trans ?_ (rotate_ahead 4 (by decide) _ r (Nat.mod_lt _ (by decide)))
  simp only [Nat.reduceSub]
  rw [← select_lt r 2060 (by decide)]
  pointwise [later]

theorem later_8 (v : FVec Ideal S2064x512 .f32) (r : Fin 2064) (l : Fin 512) : later 2056#32 v (ix2 r l) = ahead 8 (lane v l) r := by
  refine Eq.trans ?_ (rotate_ahead 8 (by decide) _ r (Nat.mod_lt _ (by decide)))
  simp only [Nat.reduceSub]
  rw [← select_lt r 2056 (by decide)]
  pointwise [later]

/-- The sum over the windows of 2, 4, 8 and 16 rows, each twice the window before. -/
def sum1 (e : FVec Ideal S2064x512 .f32) : FVec Ideal S2064x512 .f32 := addf e (later 2063#32 e)
def sum2 (e : FVec Ideal S2064x512 .f32) : FVec Ideal S2064x512 .f32 := addf (sum1 e) (later 2062#32 (sum1 e))
def sum3 (e : FVec Ideal S2064x512 .f32) : FVec Ideal S2064x512 .f32 := addf (sum2 e) (later 2060#32 (sum2 e))
def sum4 (e : FVec Ideal S2064x512 .f32) : FVec Ideal S2064x512 .f32 := addf (sum3 e) (later 2056#32 (sum3 e))

/-- The four groups' sums. -/
def sums (e : FVec Ideal S2064x512 .f32) : Fin 4 → FVec Ideal S2064x512 .f32 := ![sum1 e, sum2 e, sum3 e, sum4 e]

theorem sum1_lane (e : FVec Ideal S2064x512 .f32) (l : Fin 512) : lane (sum1 e) l = beyond 2 (lane e l) := by
  funext r
  show (lane e l r + later 2063#32 e (ix2 r l) : EReal) = _
  rw [later_1]
  exact beyond_two (lane e l) r

theorem sum2_lane (e : FVec Ideal S2064x512 .f32) (l : Fin 512) : lane (sum2 e) l = beyond 4 (lane e l) := by
  funext r
  show (lane (sum1 e) l r + later 2062#32 (sum1 e) (ix2 r l) : EReal) = _
  rw [later_2, sum1_lane]
  exact beyond_double 2 _ _

theorem sum3_lane (e : FVec Ideal S2064x512 .f32) (l : Fin 512) : lane (sum3 e) l = beyond 8 (lane e l) := by
  funext r
  show (lane (sum2 e) l r + later 2060#32 (sum2 e) (ix2 r l) : EReal) = _
  rw [later_4, sum2_lane]
  exact beyond_double 4 _ _

theorem sum4_lane (e : FVec Ideal S2064x512 .f32) (l : Fin 512) : lane (sum4 e) l = beyond 16 (lane e l) := by
  funext r
  show (lane (sum3 e) l r + later 2056#32 (sum3 e) (ix2 r l) : EReal) = _
  rw [later_8, sum3_lane]
  exact beyond_double 8 _ _

theorem sums_apply (e : FVec Ideal S2064x512 .f32) (g : Fin 4) (r : Fin 2064) (l : Fin 512) : sums e g (ix2 r l) = beyond (window g) (lane e l) r := by
  fin_cases g
  · exact congrFun (sum1_lane e l) r
  · exact congrFun (sum2_lane e l) r
  · exact congrFun (sum3_lane e l) r
  · exact congrFun (sum4_lane e l) r

/-! ## The payloads -/

variable (d : FVec Ideal S2064x512 .bf16) (dy : FVec Ideal S2064x512 .f32) (w : Vec Ideal S1x512x512 .bf16) (sc : FVec Ideal S1x512 .f32) (r : Fin 2064) (l : Fin 512)

theorem same_d : k7_pay5 (F := Ideal) d = d := by
  funext j
  obtain ⟨r, l, rfl⟩ := Cert.Products.index_eq j
  pointwise [k7_pay5]

theorem same_dy : k7_pay7 (F := Ideal) dy = dy := by
  funext j
  obtain ⟨r, l, rfl⟩ := Cert.Products.index_eq j
  pointwise [k7_pay7]

/-- The forward product. -/
theorem prod_apply : k7_pay8 (F := Ideal) d w (ix2 r l) = ∑ k : Fin 512, d (ix2 r k) * w (ix3 0 k l) := by
  pointwise [k7_pay8, same_d, k7_pay6]

/-- The scaled gradient. -/
theorem dq_apply : k7_pay9 (F := Ideal) dy sc (ix2 r l) = dy (ix2 r l) * sc (ix2 0 l) := by
  pointwise [k7_pay9, same_dy]

/-- The gradient at the pooled columns. -/
theorem dd_apply : k7_pay10 (F := Ideal) w dy sc (ix2 r l) = ∑ k : Fin 512, k7_pay9 (F := Ideal) dy sc (ix2 r k) * w (ix3 0 l k) := by
  pointwise [k7_pay10, k7_pay6]

/-- That gradient divided by the number of rows in the window. -/
def quot (g : Fin 4) (dd : FVec Ideal S2064x512 .f32) : FVec Ideal S2064x512 .f32 :=
  divf dd (sitofp .f32 (minsi (addi (iota .tc S2064x512 32 [0] iota_S2064x512_d0_w32) (broadcast S2064x512 1#32)) (broadcast S2064x512 (Scalar.shli 2#32 (BitVec.ofNat 32 g.val)))))

theorem quot_apply (g : Fin 4) (dd : FVec Ideal S2064x512 .f32) : quot g dd (ix2 r l) = Ideal.div (dd (ix2 r l)) (count g r) := by
  rw [← count_word, ← window_word]
  pointwise [quot]
  rfl

theorem first_sum (i : grid7.Coords) (g : Fin 4) (hg : (i 0).val = g.val) : k7_pay11 (F := Ideal) i w dy sc = sum1 (quot g (k7_pay10 w dy sc)) := by
  unfold k7_pay11
  rw [hg]
  rfl

theorem second_sum (i : grid7.Coords) (g : Fin 4) (hg : (i 0).val = g.val) : k7_pay12 (F := Ideal) i w dy sc = sum2 (quot g (k7_pay10 w dy sc)) := by
  unfold k7_pay12
  rw [first_sum dy w sc i g hg]
  rfl

/-- The gradient at the pooling's input. -/
theorem dz_apply (i : grid7.Coords) (g : Fin 4) (hg : (i 0).val = g.val) :
    k7_pay14 (F := Ideal) (BitVec.ofNat 32 (i 0).val) (k7_pay10 w dy sc) (k7_pay11 i w dy sc) (k7_pay12 i w dy sc) k7_pay13 2060#32 (ix2 r l)
      = beyond (window g) (fun r => Ideal.div (k7_pay10 (F := Ideal) w dy sc (ix2 r l)) (count g r)) r - k7_pay10 (F := Ideal) w dy sc (ix2 r l) := by
  have h : k7_pay14 (F := Ideal) (BitVec.ofNat 32 (i 0).val) (k7_pay10 w dy sc) (k7_pay11 i w dy sc) (k7_pay12 i w dy sc) k7_pay13 2060#32 (ix2 r l)
      = sums (quot g (k7_pay10 w dy sc)) g (ix2 r l) - k7_pay10 (F := Ideal) w dy sc (ix2 r l) := by
    rw [← pick g (sums (quot g (k7_pay10 w dy sc))), first_sum dy w sc i g hg, second_sum dy w sc i g hg, hg]
    rfl
  rw [h, sums_apply]
  exact congrArg (fun f : Fin 2064 → EReal => beyond (window g) f r - k7_pay10 (F := Ideal) w dy sc (ix2 r l)) (funext fun r => quot_apply r l g _)

/-- The four parts of the matrix's gradient, added to what was there. -/
theorem dw0_apply (q : FVec Ideal S2064x512 .bf16) (v : Vec Ideal S1x1x128x512 .f32) (a : Fin 128) :
    k7_pay18 (F := Ideal) d q v (ix4 0 0 a l) = v (ix4 0 0 a l) + ∑ r : Fin 2064, d (ix2 r ⟨0 * 128 + a.val, by omega⟩) * q (ix2 r l) := by
  pointwise [k7_pay18, k7_pay17]

theorem dw1_apply (q : FVec Ideal S2064x512 .bf16) (v : Vec Ideal S1x1x128x512 .f32) (a : Fin 128) :
    k7_pay1 (F := Ideal) (k7_pay17 d q) (k7_pay19 v) (ix4 0 0 a l) = v (ix4 0 0 a l) + ∑ r : Fin 2064, d (ix2 r ⟨1 * 128 + a.val, by omega⟩) * q (ix2 r l) := by
  pointwise [k7_pay1, k7_pay17, k7_pay19]

theorem dw2_apply (q : FVec Ideal S2064x512 .bf16) (v : Vec Ideal S1x1x128x512 .f32) (a : Fin 128) :
    k7_pay2 (F := Ideal) (k7_pay17 d q) v (ix4 0 0 a l) = v (ix4 0 0 a l) + ∑ r : Fin 2064, d (ix2 r ⟨2 * 128 + a.val, by omega⟩) * q (ix2 r l) := by
  pointwise [k7_pay2, k7_pay17]

theorem dw3_apply (q : FVec Ideal S2064x512 .bf16) (v : Vec Ideal S1x1x128x512 .f32) (a : Fin 128) :
    k7_pay3 (F := Ideal) (k7_pay17 d q) v (ix4 0 0 a l) = v (ix4 0 0 a l) + ∑ r : Fin 2064, d (ix2 r ⟨3 * 128 + a.val, by omega⟩) * q (ix2 r l) := by
  pointwise [k7_pay3, k7_pay17]

/-- The scale's gradient, added to what was there. -/
theorem ds_apply (q : FVec Ideal S2064x512 .f32) (v : Vec Ideal S1x512 .f32) :
    k7_pay4 (F := Ideal) dy q v (ix2 0 l) = v (ix2 0 l) + ∑ r : Fin 2064, dy (ix2 r l) * q (ix2 r l) := by
  pointwise [k7_pay4]

/-- The zeros the two sums start from. -/
theorem zero_dw (k : Fin 4) (a : Fin 128) : k7_pay15 (F := Ideal) (ix4 k 0 a l) = 0 := by
  pointwise [k7_pay15]

theorem zero_ds : k7_pay16 (F := Ideal) (ix2 0 l) = 0 := by
  pointwise [k7_pay16]

end Cert.MixerIdeal.PoolBwd

end
-- ==== Proof.MixerPoolBwdLeft.lean ====
/-
  What the pooling's backward body leaves in each output's staging buffer. The gradient at the pooling's input does not
  depend on the point; the gradients of the matrix and of the scale start from zero at a group's first sequence and add
  to what is there at the next one.
-/
module

public import proofs.«01_k».proof.Proof.Gen.MixerIdeal.Frame.Region7
public import proofs.«01_k».proof.Proof.MixerPoolBwdBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixerIdeal.PoolBwd

open Cert.MixerIdeal Cert.MixerIdeal.Gen Cert.ConvSpec Cert.MixerSpec
open Cert.Products (origin index_eq)

theorem origin3 : (![0, 0, 0] : Fin 3 → Nat) = fun _ => 0 := funext fun a => by fin_cases a <;> rfl

/-! ## The four parts of the matrix's gradient -/

section Parts

variable {Val : EltTy → Type} [∀ e, Nonempty (Val e)] {e : EltTy}

/-- Part `k`, read through the rectangle that holds it. -/
theorem part_emb (k : ℕ) (hk : k < 4) (h : ∀ a, (![k, 0, 0, 0] : Fin 4 → ℕ) a + (![1, 1, 128, 512] : Fin 4 → ℕ) a ≤ S4x1x128x512.size a) (a : Fin 128) (l : Fin 512) :
    (Rect.unit (s := S4x1x128x512) ![k, 0, 0, 0] ![1, 1, 128, 512] h).emb (ix4 0 0 a l) = ix4 ⟨k, hk⟩ 0 a l := by
  funext x; apply Fin.ext; fin_cases x
  · show k + 1 * 0 = k; omega
  · show 0 + 1 * 0 = 0; omega
  · show 0 + 1 * a.val = a.val; omega
  · show 0 + 1 * l.val = l.val; omega

/-- A part is outside the rectangle of another part. -/
theorem part_not_mem (k : ℕ) (h : ∀ a, (![k, 0, 0, 0] : Fin 4 → ℕ) a + (![1, 1, 128, 512] : Fin 4 → ℕ) a ≤ S4x1x128x512.size a) (j : Fin 4) (hj : j.val ≠ k) (a : Fin 128) (l : Fin 512) :
    ix4 j 0 a l ∉ (Rect.unit (s := S4x1x128x512) ![k, 0, 0, 0] ![1, 1, 128, 512] h).set := by
  rw [Rect.mem_set_unit]
  intro hm
  have h0 : k ≤ j.val ∧ j.val < k + 1 := hm 0
  omega

/-- A store to another part is not seen. -/
theorem canon_part_ne (k : ℕ) (h : ∀ a, (![k, 0, 0, 0] : Fin 4 → ℕ) a + (![1, 1, 128, 512] : Fin 4 → ℕ) a ≤ S4x1x128x512.size a) (p : (⟨4, ![1, 1, 128, 512]⟩ : Shape).Idx → Val e)
    (L : List (View.Piece Val S4x1x128x512 e)) (j : Fin 4) (hj : j.val ≠ k) (a : Fin 128) (l : Fin 512) :
    View.canon ((⟨Rect.unit (s := S4x1x128x512) ![k, 0, 0, 0] ![1, 1, 128, 512] h, p⟩ : View.Piece Val S4x1x128x512 e) :: L) (ix4 j 0 a l) = View.canon L (ix4 j 0 a l) := by
  rw [View.canon_cons]
  exact Rect.overlay_of_not_mem (Rect.unit (s := S4x1x128x512) ![k, 0, 0, 0] ![1, 1, 128, 512] h) _ _ (part_not_mem k h j hj a l)

/-- A part reads the store made to it last. -/
theorem canon_part (k : ℕ) (hk : k < 4) (h : ∀ a, (![k, 0, 0, 0] : Fin 4 → ℕ) a + (![1, 1, 128, 512] : Fin 4 → ℕ) a ≤ S4x1x128x512.size a) (p : (⟨4, ![1, 1, 128, 512]⟩ : Shape).Idx → Val e)
    (L : List (View.Piece Val S4x1x128x512 e)) (a : Fin 128) (l : Fin 512) :
    View.canon ((⟨Rect.unit (s := S4x1x128x512) ![k, 0, 0, 0] ![1, 1, 128, 512] h, p⟩ : View.Piece Val S4x1x128x512 e) :: L) (ix4 ⟨k, hk⟩ 0 a l) = p (ix4 0 0 a l) := by
  rw [← part_emb k hk h a l]
  exact View.canon_cons_emb (Rect.unit (s := S4x1x128x512) ![k, 0, 0, 0] ![1, 1, 128, 512] h) p L (ix4 0 0 a l)

/-- A row of 512 columns, read through the rectangle that holds all of it. -/
theorem row_emb (h : ∀ a, (![0, 0] : Fin 2 → ℕ) a + (![1, 512] : Fin 2 → ℕ) a ≤ S1x512.size a) (l : Fin 512) :
    (Rect.unit (s := S1x512) ![0, 0] ![1, 512] h).emb (ix2 0 l) = ix2 0 l := by
  funext x; apply Fin.ext; fin_cases x
  · rfl
  · show 0 + 1 * l.val = l.val; omega

/-- It reads the store made to it last. -/
theorem canon_row (h : ∀ a, (![0, 0] : Fin 2 → ℕ) a + (![1, 512] : Fin 2 → ℕ) a ≤ S1x512.size a) (p : (⟨2, ![1, 512]⟩ : Shape).Idx → Val e)
    (L : List (View.Piece Val S1x512 e)) (l : Fin 512) :
    View.canon ((⟨Rect.unit (s := S1x512) ![0, 0] ![1, 512] h, p⟩ : View.Piece Val S1x512 e) :: L) (ix2 0 l) = p (ix2 0 l) :=
  (congrArg (View.canon _) (row_emb h l).symm).trans (View.canon_cons_emb (Rect.unit (s := S1x512) ![0, 0] ![1, 512] h) p L (ix2 0 l))

end Parts

/-! ## What the body leaves -/

section Outs

variable (d0 : Dev nD) (i : grid7.Coords)
  (a2 : Memref sig .tc .vmem S2064x512 .bf16) (h2 : a2.IsWhole) (a3 : Memref sig .tc .vmem S2064x512 .f32) (h3 : a3.IsWhole)
  (a4 : Memref sig .tc .vmem S1x512x512 .bf16) (h4 : a4.IsWhole) (a5 : Memref sig .tc .vmem S1x512 .f32) (h5 : a5.IsWhole)
  (a6 : Memref sig .tc .vmem S2064x512 .bf16) (h6 : a6.IsWhole) (a7 : Memref sig .tc .vmem S4x1x128x512 .f32) (h7 : a7.IsWhole)
  (a8 : Memref sig .tc .vmem S1x512 .f32) (h8 : a8.IsWhole)
  (d : Vec Ideal S2064x512 .bf16) (dy : Vec Ideal S2064x512 .f32) (w : Vec Ideal S1x512x512 .bf16) (sc : Vec Ideal S1x512 .f32)

theorem out4_A (hc : cond7_0 i) :
    out7_A_4 (F := Ideal) d0 i a2 h2 a3 h3 a4 h4 a5 h5 a6 h6 a7 h7 a8 h8 hc d dy w sc = k7_pay14 (BitVec.ofNat 32 (i 0).val) (k7_pay10 w dy sc) (k7_pay11 i w dy sc) (k7_pay12 i w dy sc) k7_pay13 2060#32 := by
  unfold out7_A_4
  rw [View.read_writes_eq_canon]; swap; · intro; apply cover7_A_4
  unfold kernelRun7_A
  dsimp only
  sl_unfold_words
  rw [View.canon_unit_zero origin]
  simp only [View.readAt_eq_ld, Memref.IsWhole.read_unread, View.ld_unit_zero (S := S2064x512) origin, View.ld_unit_zero (S := S1x512x512) origin3, View.ld_unit_zero (S := S1x512) origin, same_d, same_dy]

theorem out4_B (hc : ¬ cond7_0 i) (o5 : Vec Ideal S4x1x128x512 .f32) (o6 : Vec Ideal S1x512 .f32) :
    out7_B_4 (F := Ideal) d0 i a2 h2 a3 h3 a4 h4 a5 h5 a6 h6 a7 h7 a8 h8 hc d dy w sc o5 o6 = k7_pay14 (BitVec.ofNat 32 (i 0).val) (k7_pay10 w dy sc) (k7_pay11 i w dy sc) (k7_pay12 i w dy sc) k7_pay13 2060#32 := by
  unfold out7_B_4
  rw [View.read_writes_eq_canon]; swap; · intro; apply cover7_B_4
  unfold kernelRun7_B
  dsimp only
  sl_unfold_words
  rw [View.canon_unit_zero origin]
  simp only [View.readAt_eq_ld, Memref.IsWhole.read_unread, View.ld_unit_zero (S := S2064x512) origin, View.ld_unit_zero (S := S1x512x512) origin3, View.ld_unit_zero (S := S1x512) origin, same_d, same_dy]

theorem out5_A0 (hc : cond7_0 i) (a : Fin 128) (l : Fin 512) :
    out7_A_5 (F := Ideal) d0 i a2 h2 a3 h3 a4 h4 a5 h5 a6 h6 a7 h7 a8 h8 hc d dy w sc (ix4 0 0 a l)
      = 0 + ∑ r : Fin 2064, d (ix2 r ⟨0 * 128 + a.val, by omega⟩) * k7_pay9 (F := Ideal) dy sc (ix2 r l) := by
  unfold out7_A_5
  rw [View.read_writes_eq_canon]; swap; · intro; apply cover7_A_5
  unfold kernelRun7_A
  dsimp only
  sl_unfold_words
  refine (canon_part_ne 3 _ _ _ 0 (by decide) a l).trans ((canon_part_ne 2 _ _ _ 0 (by decide) a l).trans ((canon_part_ne 1 _ _ _ 0 (by decide) a l).trans ((canon_part 0 (by decide) _ _ _ a l).trans ?_)))
  simp only [View.readAt_eq_ld, Memref.IsWhole.read_unread, View.ld_unit_zero (S := S2064x512) origin, View.ld_unit_zero (S := S1x512x512) origin3, View.ld_unit_zero (S := S1x512) origin, same_d, same_dy]
  refine (dw0_apply _ _ _ _ _).trans (congrArg (· + _) ?_)
  rw [View.readCov_fill _ _ _ _ _ (fun a => by fin_cases a <;> rfl)]
  exact (congrArg (k7_pay15 (F := Ideal)) (part_emb 0 (by decide) _ a l)).trans (zero_dw l 0 a)

theorem out5_A1 (hc : cond7_0 i) (a : Fin 128) (l : Fin 512) :
    out7_A_5 (F := Ideal) d0 i a2 h2 a3 h3 a4 h4 a5 h5 a6 h6 a7 h7 a8 h8 hc d dy w sc (ix4 1 0 a l)
      = 0 + ∑ r : Fin 2064, d (ix2 r ⟨1 * 128 + a.val, by omega⟩) * k7_pay9 (F := Ideal) dy sc (ix2 r l) := by
  unfold out7_A_5
  rw [View.read_writes_eq_canon]; swap; · intro; apply cover7_A_5
  unfold kernelRun7_A
  dsimp only
  sl_unfold_words
  refine (canon_part_ne 3 _ _ _ 1 (by decide) a l).trans ((canon_part_ne 2 _ _ _ 1 (by decide) a l).trans ((canon_part 1 (by decide) _ _ _ a l).trans ?_))
  simp only [View.readAt_eq_ld, Memref.IsWhole.read_unread, View.ld_unit_zero (S := S2064x512) origin, View.ld_unit_zero (S := S1x512x512) origin3, View.ld_unit_zero (S := S1x512) origin, same_d, same_dy]
  refine (dw1_apply _ _ _ _ _).trans (congrArg (· + _) ?_)
  rw [View.readCov_skip _ _ _ _ _ (by decide +kernel), View.readCov_fill _ _ _ _ _ (fun a => by fin_cases a <;> rfl)]
  exact (congrArg (k7_pay15 (F := Ideal)) (part_emb 1 (by decide) _ a l)).trans (zero_dw l 1 a)

theorem out5_A2 (hc : cond7_0 i) (a : Fin 128) (l : Fin 512) :
    out7_A_5 (F := Ideal) d0 i a2 h2 a3 h3 a4 h4 a5 h5 a6 h6 a7 h7 a8 h8 hc d dy w sc (ix4 2 0 a l)
      = 0 + ∑ r : Fin 2064, d (ix2 r ⟨2 * 128 + a.val, by omega⟩) * k7_pay9 (F := Ideal) dy sc (ix2 r l) := by
  unfold out7_A_5
  rw [View.read_writes_eq_canon]; swap; · intro; apply cover7_A_5
  unfold kernelRun7_A
  dsimp only
  sl_unfold_words
  refine (canon_part_ne 3 _ _ _ 2 (by decide) a l).trans ((canon_part 2 (by decide) _ _ _ a l).trans ?_)
  simp only [View.readAt_eq_ld, Memref.IsWhole.read_unread, View.ld_unit_zero (S := S2064x512) origin, View.ld_unit_zero (S := S1x512x512) origin3, View.ld_unit_zero (S := S1x512) origin, same_d, same_dy]
  refine (dw2_apply _ _ _ _ _).trans (congrArg (· + _) ?_)
  rw [View.readCov_skip _ _ _ _ _ (by decide +kernel), View.readCov_skip _ _ _ _ _ (by decide +kernel), View.readCov_fill _ _ _ _ _ (fun a => by fin_cases a <;> rfl)]
  exact (congrArg (k7_pay15 (F := Ideal)) (part_emb 2 (by decide) _ a l)).trans (zero_dw l 2 a)

theorem out5_A3 (hc : cond7_0 i) (a : Fin 128) (l : Fin 512) :
    out7_A_5 (F := Ideal) d0 i a2 h2 a3 h3 a4 h4 a5 h5 a6 h6 a7 h7 a8 h8 hc d dy w sc (ix4 3 0 a l)
      = 0 + ∑ r : Fin 2064, d (ix2 r ⟨3 * 128 + a.val, by omega⟩) * k7_pay9 (F := Ideal) dy sc (ix2 r l) := by
  unfold out7_A_5
  rw [View.read_writes_eq_canon]; swap; · intro; apply cover7_A_5
  unfold kernelRun7_A
  dsimp only
  sl_unfold_words
  refine (canon_part 3 (by decide) _ _ _ a l).trans ?_
  simp only [View.readAt_eq_ld, Memref.IsWhole.read_unread, View.ld_unit_zero (S := S2064x512) origin, View.ld_unit_zero (S := S1x512x512) origin3, View.ld_unit_zero (S := S1x512) origin, same_d, same_dy]
  refine (dw3_apply _ _ _ _ _).trans (congrArg (· + _) ?_)
  rw [View.readCov_skip _ _ _ _ _ (by decide +kernel), View.readCov_skip _ _ _ _ _ (by decide +kernel), View.readCov_skip _ _ _ _ _ (by decide +kernel), View.readCov_fill _ _ _ _ _ (fun a => by fin_cases a <;> rfl)]
  exact (congrArg (k7_pay15 (F := Ideal)) (part_emb 3 (by decide) _ a l)).trans (zero_dw l 3 a)

theorem out5_B0 (hc : ¬ cond7_0 i) (o5 : Vec Ideal S4x1x128x512 .f32) (o6 : Vec Ideal S1x512 .f32) (a : Fin 128) (l : Fin 512) :
    out7_B_5 (F := Ideal) d0 i a2 h2 a3 h3 a4 h4 a5 h5 a6 h6 a7 h7 a8 h8 hc d dy w sc o5 o6 (ix4 0 0 a l)
      = o5 (ix4 0 0 a l) + ∑ r : Fin 2064, d (ix2 r ⟨0 * 128 + a.val, by omega⟩) * k7_pay9 (F := Ideal) dy sc (ix2 r l) := by
  unfold out7_B_5
  rw [View.read_writes_eq_canon]; swap; · intro; apply cover7_B_5
  unfold kernelRun7_B
  dsimp only
  sl_unfold_words
  refine (canon_part_ne 3 _ _ _ 0 (by decide) a l).trans ((canon_part_ne 2 _ _ _ 0 (by decide) a l).trans ((canon_part_ne 1 _ _ _ 0 (by decide) a l).trans ((canon_part 0 (by decide) _ _ _ a l).trans ?_)))
  simp only [View.readAt_eq_ld, Memref.IsWhole.read_unread, View.ld_unit_zero (S := S2064x512) origin, View.ld_unit_zero (S := S1x512x512) origin3, View.ld_unit_zero (S := S1x512) origin, same_d, same_dy]
  exact (dw0_apply _ _ _ _ _).trans (congrArg (· + _) (congrArg o5 (part_emb 0 (by decide) _ a l)))

theorem out5_B1 (hc : ¬ cond7_0 i) (o5 : Vec Ideal S4x1x128x512 .f32) (o6 : Vec Ideal S1x512 .f32) (a : Fin 128) (l : Fin 512) :
    out7_B_5 (F := Ideal) d0 i a2 h2 a3 h3 a4 h4 a5 h5 a6 h6 a7 h7 a8 h8 hc d dy w sc o5 o6 (ix4 1 0 a l)
      = o5 (ix4 1 0 a l) + ∑ r : Fin 2064, d (ix2 r ⟨1 * 128 + a.val, by omega⟩) * k7_pay9 (F := Ideal) dy sc (ix2 r l) := by
  unfold out7_B_5
  rw [View.read_writes_eq_canon]; swap; · intro; apply cover7_B_5
  unfold kernelRun7_B
  dsimp only
  sl_unfold_words
  refine (canon_part_ne 3 _ _ _ 1 (by decide) a l).trans ((canon_part_ne 2 _ _ _ 1 (by decide) a l).trans ((canon_part 1 (by decide) _ _ _ a l).trans ?_))
  simp only [View.readAt_eq_ld, Memref.IsWhole.read_unread, View.ld_unit_zero (S := S2064x512) origin, View.ld_unit_zero (S := S1x512x512) origin3, View.ld_unit_zero (S := S1x512) origin, same_d, same_dy]
  exact (dw1_apply _ _ _ _ _).trans (congrArg (· + _) (congrArg o5 (part_emb 1 (by decide) _ a l)))

theorem out5_B2 (hc : ¬ cond7_0 i) (o5 : Vec Ideal S4x1x128x512 .f32) (o6 : Vec Ideal S1x512 .f32) (a : Fin 128) (l : Fin 512) :
    out7_B_5 (F := Ideal) d0 i a2 h2 a3 h3 a4 h4 a5 h5 a6 h6 a7 h7 a8 h8 hc d dy w sc o5 o6 (ix4 2 0 a l)
      = o5 (ix4 2 0 a l) + ∑ r : Fin 2064, d (ix2 r ⟨2 * 128 + a.val, by omega⟩) * k7_pay9 (F := Ideal) dy sc (ix2 r l) := by
  unfold out7_B_5
  rw [View.read_writes_eq_canon]; swap; · intro; apply cover7_B_5
  unfold kernelRun7_B
  dsimp only
  sl_unfold_words
  refine (canon_part_ne 3 _ _ _ 2 (by decide) a l).trans ((canon_part 2 (by decide) _ _ _ a l).trans ?_)
  simp only [View.readAt_eq_ld, Memref.IsWhole.read_unread, View.ld_unit_zero (S := S2064x512) origin, View.ld_unit_zero (S := S1x512x512) origin3, View.ld_unit_zero (S := S1x512) origin, same_d, same_dy]
  exact (dw2_apply _ _ _ _ _).trans (congrArg (· + _) (congrArg o5 (part_emb 2 (by decide) _ a l)))

theorem out5_B3 (hc : ¬ cond7_0 i) (o5 : Vec Ideal S4x1x128x512 .f32) (o6 : Vec Ideal S1x512 .f32) (a : Fin 128) (l : Fin 512) :
    out7_B_5 (F := Ideal) d0 i a2 h2 a3 h3 a4 h4 a5 h5 a6 h6 a7 h7 a8 h8 hc d dy w sc o5 o6 (ix4 3 0 a l)
      = o5 (ix4 3 0 a l) + ∑ r : Fin 2064, d (ix2 r ⟨3 * 128 + a.val, by omega⟩) * k7_pay9 (F := Ideal) dy sc (ix2 r l) := by
  unfold out7_B_5
  rw [View.read_writes_eq_canon]; swap; · intro; apply cover7_B_5
  unfold kernelRun7_B
  dsimp only
  sl_unfold_words
  refine (canon_part 3 (by decide) _ _ _ a l).trans ?_
  simp only [View.readAt_eq_ld, Memref.IsWhole.read_unread, View.ld_unit_zero (S := S2064x512) origin, View.ld_unit_zero (S := S1x512x512) origin3, View.ld_unit_zero (S := S1x512) origin, same_d, same_dy]
  exact (dw3_apply _ _ _ _ _).trans (congrArg (· + _) (congrArg o5 (part_emb 3 (by decide) _ a l)))

theorem out6_A (hc : cond7_0 i) (l : Fin 512) :
    out7_A_6 (F := Ideal) d0 i a2 h2 a3 h3 a4 h4 a5 h5 a6 h6 a7 h7 a8 h8 hc d dy w sc (ix2 0 l)
      = 0 + ∑ r : Fin 2064, dy (ix2 r l) * k7_pay8 (F := Ideal) d w (ix2 r l) := by
  unfold out7_A_6
  rw [View.read_writes_eq_canon]; swap; · intro; apply cover7_A_6
  unfold kernelRun7_A
  dsimp only
  sl_unfold_words
  refine (canon_row _ _ _ l).trans ?_
  simp only [View.readAt_eq_ld, Memref.IsWhole.read_unread, View.ld_unit_zero (S := S2064x512) origin, View.ld_unit_zero (S := S1x512x512) origin3, View.ld_unit_zero (S := S1x512) origin, same_d, same_dy]
  refine (ds_apply _ _ _ _).trans (congrArg (· + _) ?_)
  rw [View.readCov_fill _ _ _ _ _ (fun a => by fin_cases a <;> rfl)]
  exact (congrArg (k7_pay16 (F := Ideal)) (row_emb _ l)).trans (zero_ds l)

theorem out6_B (hc : ¬ cond7_0 i) (o5 : Vec Ideal S4x1x128x512 .f32) (o6 : Vec Ideal S1x512 .f32) (l : Fin 512) :
    out7_B_6 (F := Ideal) d0 i a2 h2 a3 h3 a4 h4 a5 h5 a6 h6 a7 h7 a8 h8 hc d dy w sc o5 o6 (ix2 0 l)
      = o6 (ix2 0 l) + ∑ r : Fin 2064, dy (ix2 r l) * k7_pay8 (F := Ideal) d w (ix2 r l) := by
  unfold out7_B_6
  rw [View.read_writes_eq_canon]; swap; · intro; apply cover7_B_6
  unfold kernelRun7_B
  dsimp only
  sl_unfold_words
  refine (canon_row _ _ _ l).trans ?_
  simp only [View.readAt_eq_ld, Memref.IsWhole.read_unread, View.ld_unit_zero (S := S2064x512) origin, View.ld_unit_zero (S := S1x512x512) origin3, View.ld_unit_zero (S := S1x512) origin, same_d, same_dy]
  exact ds_apply _ _ _ _

end Outs

end Cert.MixerIdeal.PoolBwd

end
-- ==== Proof.MixerPoolBwd.lean ====
/-
  The pooling's backward call, whole: what each of its three result arrays holds after its run, at every index, as a
  function of the four arrays it reads. A grid point is a pair (group, sequence); the gradient at the pooling's input is
  written block by block, and the gradients of the matrices and of the scale are sums over the two sequences.
-/
module

public import proofs.«01_k».proof.Proof.Products
public import proofs.«01_k».proof.Proof.MixerPoolBwdLeft
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MixerIdeal.PoolBwd

open Cert.MixerIdeal Cert.MixerIdeal.Gen Cert.ConvSpec Cert.MixerSpec
open Cert.Products (origin index_eq)

variable (V : (c : Dev nD) → (b : Ref sig .tc) → Buf (Elt Ideal) ((c : Thread nD τ).loc b))

/-- The arrays it reads, as arrays of extended reals. -/
abbrev argD (c : Dev nD) : FVec Ideal S4128x2048 .bf16 := V c main_v2_1
abbrev argY (c : Dev nD) : FVec Ideal S4128x4096 .f32 := V c main_v5
abbrev argP (c : Dev nD) : FVec Ideal S4x512x512 .bf16 := V c main_arg4
abbrev argS (c : Dev nD) : FVec Ideal S1x2048 .f32 := V c main_arg5

theorem points (t : Fin cfg7.N) : t.val < 8 := lt_of_lt_of_eq t.isLt (show cfg7.N = 8 from N_7)

/-! ## Where each block lies -/

theorem at0 : ∀ t : Fin cfg7.N, win7_0.index t 0 = t.val % 2 ∧ win7_0.index t 1 = t.val / 2 :=
  show ∀ t : Fin grid7.N, _ by decide +kernel
theorem at1 : ∀ t : Fin cfg7.N, win7_1.index t 0 = t.val % 2 ∧ win7_1.index t 1 = t.val / 2 + 4 :=
  show ∀ t : Fin grid7.N, _ by decide +kernel
theorem at3 : ∀ t : Fin cfg7.N, win7_3.index t 0 = 0 ∧ win7_3.index t 1 = t.val / 2 :=
  show ∀ t : Fin grid7.N, _ by decide +kernel
theorem at4 : ∀ t : Fin cfg7.N, win7_4.index t 0 = t.val % 2 ∧ win7_4.index t 1 = t.val / 2 :=
  show ∀ t : Fin grid7.N, _ by decide +kernel
theorem at6 : ∀ t : Fin cfg7.N, win7_6.index t 0 = 0 ∧ win7_6.index t 1 = t.val / 2 :=
  show ∀ t : Fin grid7.N, _ by decide +kernel
theorem at2 : ∀ t : Fin cfg7.N, win7_2.index t 0 = t.val / 2 ∧ win7_2.index t 1 = 0 ∧ win7_2.index t 2 = 0 :=
  show ∀ t : Fin grid7.N, _ by decide +kernel
theorem at5 : ∀ t : Fin cfg7.N, win7_5.index t 0 = 0 ∧ win7_5.index t 1 = t.val / 2 ∧ win7_5.index t 2 = 0 ∧ win7_5.index t 3 = 0 :=
  show ∀ t : Fin grid7.N, _ by decide +kernel
theorem group_at : ∀ t : Fin cfg7.N, (grid7.coords t 0).val = t.val / 2 :=
  show ∀ t : Fin grid7.N, _ by decide +kernel

/-- The sequence and the group of a grid point. -/
def seqOf (t : Fin cfg7.N) : Fin 2 := ⟨t.val % 2, Nat.mod_lt _ (by decide)⟩
def groupAt (t : Fin cfg7.N) : Fin 4 := ⟨t.val / 2, by have := points t; omega⟩

/-- The grid point that writes an index of the gradient at the input. -/
def pointOf (i : S4128x2048.Idx) : Fin cfg7.N :=
  ⟨(i 1 : Nat) / 512 * 2 + (i 0 : Nat) / 2064, by
    have h0 : (i 0 : Nat) < 4128 := (i 0).isLt
    have h1 : (i 1 : Nat) < 2048 := (i 1).isLt
    rw [show cfg7.N = 8 from N_7]; omega⟩

theorem point_row (i : S4128x2048.Idx) : (pointOf i).val % 2 = (i 0).val / 2064 := by
  have h : (i 0).val < 4128 := (i 0).isLt
  show ((i 1).val / 512 * 2 + (i 0).val / 2064) % 2 = _
  omega

theorem point_col (i : S4128x2048.Idx) : (pointOf i).val / 2 = (i 1).val / 512 := by
  have h : (i 0).val < 4128 := (i 0).isLt
  show ((i 1).val / 512 * 2 + (i 0).val / 2064) / 2 = _
  omega

/-- The last grid point of a group. -/
def lastOf (g : ℕ) (h : g < 4) : Fin cfg7.N := ⟨g * 2 + 1, by rw [show cfg7.N = 8 from N_7]; omega⟩

theorem blk0 (c : Dev nD) (t : Fin cfg7.N) (r : Fin 2064) (l : Fin 512) : iblk7 V c 0 t (ix2 r l) = argD V c (ix2 (rowOf (seqOf t) r) (colOf (groupAt t) l)) := by
  unfold iblk7
  rw [View.read_apply]
  exact congrArg (V c main_v2_1) (funext fun a => Fin.ext (Products.lies (at0 t) r l rfl rfl a))

theorem blk1 (c : Dev nD) (t : Fin cfg7.N) (r : Fin 2064) (l : Fin 512) : iblk7 V c 1 t (ix2 r l) = argY V c (ix2 (rowOf (seqOf t) r) (yCol (colOf (groupAt t) l))) := by
  unfold iblk7
  rw [View.read_apply]
  exact congrArg (V c main_v5) (funext fun a => Fin.ext (Products.lies (at1 t) r l rfl (show 2048 + (t.val / 2 * 512 + l.val) = (t.val / 2 + 4) * 512 + l.val by omega) a))

theorem blk2 (c : Dev nD) (t : Fin cfg7.N) (k l : Fin 512) : iblk7 V c 2 t (ix3 0 k l) = argP V c (ix3 (groupAt t) k l) := by
  unfold iblk7
  rw [View.read_apply]
  show V c main_arg4 _ = V c main_arg4 _
  congr 1
  funext a
  apply Fin.ext
  have hi := at2 t
  match a with
  | ⟨0, _⟩ => show win7_2.index t 0 * 1 + 1 * 0 = t.val / 2; rw [hi.1]; omega
  | ⟨1, _⟩ => show win7_2.index t 1 * 512 + 1 * k.val = k.val; rw [hi.2.1]; omega
  | ⟨2, _⟩ => show win7_2.index t 2 * 512 + 1 * l.val = l.val; rw [hi.2.2]; omega

theorem blk3 (c : Dev nD) (t : Fin cfg7.N) (l : Fin 512) : iblk7 V c 3 t (ix2 0 l) = argS V c (ix2 0 (colOf (groupAt t) l)) := by
  unfold iblk7
  rw [View.read_apply]
  exact congrArg (V c main_arg5) (funext fun a => Fin.ext (Products.lies (at3 t) 0 l (show 0 = 0 * 1 + 0 by omega) rfl a))

/-! ## One block -/

theorem poolDd_apply (dy : Cert.Products.Mat 4128 4096) (P : ArrP) (S : ArrS) (R : Fin 4128) (g : Fin 4) (l : Fin 512) :
    poolDd dy P S (ix2 R (colOf g l)) = ∑ k : Fin 512, poolDq dy S (ix2 R (colOf g k)) * P (ix3 g l k) := by
  show (∑ k : Fin 512, poolDq dy S (ix2 R (colOf (groupOf (colOf g l)) k)) * P (ix3 (groupOf (colOf g l)) (laneOf (colOf g l)) k)) = _
  rw [groupOf_colOf, laneOf_colOf]

theorem poolProd_apply (dp : Cert.Products.Mat 4128 2048) (P : ArrP) (R : Fin 4128) (g : Fin 4) (l : Fin 512) :
    poolProd dp P (ix2 R (colOf g l)) = ∑ k : Fin 512, dp (ix2 R (colOf g k)) * P (ix3 g k l) := by
  show (∑ k : Fin 512, dp (ix2 R (colOf (groupOf (colOf g l)) k)) * P (ix3 (groupOf (colOf g l)) k (laneOf (colOf g l)))) = _
  rw [groupOf_colOf, laneOf_colOf]

theorem poolDz_apply (dy : Cert.Products.Mat 4128 4096) (P : ArrP) (S : ArrS) (s : Fin 2) (r : Fin 2064) (g : Fin 4) (l : Fin 512) :
    poolDz dy P S (ix2 (rowOf s r) (colOf g l))
      = beyond (window g) (fun r => Ideal.div (poolDd dy P S (ix2 (rowOf s r) (colOf g l))) (count g r)) r - poolDd dy P S (ix2 (rowOf s r) (colOf g l)) := by
  show beyond (window (groupOf (colOf g l))) (fun k => Ideal.div (poolDd dy P S (ix2 (rowOf (rowSeq (rowOf s r)) k) (colOf g l))) (count (groupOf (colOf g l)) k)) (rowIn (rowOf s r)) - _ = _
  rw [rowSeq_rowOf, rowIn_rowOf, groupOf_colOf]

theorem dq_block (c : Dev nD) (t : Fin cfg7.N) (r : Fin 2064) (l : Fin 512) :
    k7_pay9 (F := Ideal) (iblk7 V c 1 t) (iblk7 V c 3 t) (ix2 r l) = poolDq (argY V c) (argS V c) (ix2 (rowOf (seqOf t) r) (colOf (groupAt t) l)) :=
  (dq_apply _ _ r l).trans (congrArg₂ (fun p q : EReal => p * q) (blk1 V c t r l) (blk3 V c t l))

theorem dd_block (c : Dev nD) (t : Fin cfg7.N) (r : Fin 2064) (l : Fin 512) :
    k7_pay10 (F := Ideal) (iblk7 V c 2 t) (iblk7 V c 1 t) (iblk7 V c 3 t) (ix2 r l) = poolDd (argY V c) (argP V c) (argS V c) (ix2 (rowOf (seqOf t) r) (colOf (groupAt t) l)) := by
  rw [poolDd_apply]
  exact (dd_apply _ _ _ r l).trans (Finset.sum_congr rfl fun k _ => congrArg₂ (fun p q : EReal => p * q) (dq_block V c t r k) (blk2 V c t l k))

theorem prod_block (c : Dev nD) (t : Fin cfg7.N) (r : Fin 2064) (l : Fin 512) :
    k7_pay8 (F := Ideal) (iblk7 V c 0 t) (iblk7 V c 2 t) (ix2 r l) = poolProd (argD V c) (argP V c) (ix2 (rowOf (seqOf t) r) (colOf (groupAt t) l)) := by
  rw [poolProd_apply]
  exact (prod_apply _ _ r l).trans (Finset.sum_congr rfl fun k _ => congrArg₂ (fun p q : EReal => p * q) (blk0 V c t r k) (blk2 V c t k l))

/-! ## The gradient at the input -/

theorem wrote4 (c : Dev nD) (t : Fin cfg7.N) :
    (dat7 V c).flushed 4 t = (cfg7.win 4).cut (grid7.coords t) (k7_pay14 (BitVec.ofNat 32 (grid7.coords t 0).val) (k7_pay10 (iblk7 V c 2 t) (iblk7 V c 1 t) (iblk7 V c 3 t))
      (k7_pay11 (grid7.coords t) (iblk7 V c 2 t) (iblk7 V c 1 t) (iblk7 V c 3 t)) (k7_pay12 (grid7.coords t) (iblk7 V c 2 t) (iblk7 V c 1 t) (iblk7 V c 3 t)) k7_pay13 2060#32) := by
  by_cases h0 : t.val % 2 = 0
  · show (cfg7.win 4).cut (grid7.coords t) ((dat7 V c).after 4 t) = _
    rw [after7_4, outsAt7_A V c t h0]
    dsimp only
    rw [out4_A]
  · show (cfg7.win 4).cut (grid7.coords t) ((dat7 V c).after 4 t) = _
    rw [after7_4, outsAt7_B V c t h0]
    dsimp only
    rw [out4_B]

/-- The gradient at the pooling's input after the run. -/
theorem final4 (c : Dev nD) : (dat7 V c).arrAt 4 cfg7.N = poolDz (argY V c) (argP V c) (argS V c) :=
  (dat7 V c).arrAt_eq_of_cover 4 (poolDz (argY V c) (argP V c) (argS V c)) (fun t _ => by
    rw [wrote4]
    funext j
    obtain ⟨r, l, rfl⟩ : ∃ (r : Fin 2064) (l : Fin 512), j = ix2 r l := index_eq j
    rw [View.read_apply]
    have hj : ((cfg7.win 4).blk t).view.emb (ix2 r l) = ix2 (rowOf (seqOf t) r) (colOf (groupAt t) l) :=
      funext fun a => Fin.ext (Products.lies (at4 t) r l rfl rfl a)
    rw [hj, poolDz_apply]
    refine (dz_apply _ _ _ r l (grid7.coords t) (groupAt t) (group_at t)).trans ?_
    have h : ∀ r : Fin 2064, k7_pay10 (F := Ideal) (iblk7 V c 2 t) (iblk7 V c 1 t) (iblk7 V c 3 t) (ix2 r l) = poolDd (argY V c) (argP V c) (argS V c) (ix2 (rowOf (seqOf t) r) (colOf (groupAt t) l)) :=
      fun r => dd_block V c t r l
    rw [h r, funext fun r => congrArg (fun x : EReal => Ideal.div x (count (groupAt t) r)) (h r)]
    rfl) fun i =>
    ⟨pointOf i, flush7_4 _, by
      show i ∈ ((View.whole main_v8_0).slice (win7_4.rect (pointOf i))).set
      rw [View.set_slice_whole, Rect.mem_set_unit]
      exact Products.holds i (at4 (pointOf i)) (point_row i) (point_col i) (by decide) (by decide)⟩

/-! ## The matrices' gradient: two sequences, one after the other -/

/-- What one sequence adds to an entry of the matrices' gradient. -/
def dwPart (dp : Cert.Products.Mat 4128 2048) (dy : Cert.Products.Mat 4128 4096) (S : ArrS) (s : Fin 2) (g k : Fin 4) (a : Fin 128) (l : Fin 512) : EReal :=
  ∑ r : Fin 2064, dp (ix2 (rowOf s r) (colOf g ⟨k.val * 128 + a.val, by omega⟩)) * poolDq dy S (ix2 (rowOf s r) (colOf g l))

/-- What one sequence adds to an entry of the scale's gradient. -/
def dsPart (dp : Cert.Products.Mat 4128 2048) (dy : Cert.Products.Mat 4128 4096) (P : ArrP) (s : Fin 2) (g : Fin 4) (l : Fin 512) : EReal :=
  ∑ r : Fin 2064, dy (ix2 (rowOf s r) (yCol (colOf g l))) * poolProd dp P (ix2 (rowOf s r) (colOf g l))

theorem poolDw_apply (dp : Cert.Products.Mat 4128 2048) (dy : Cert.Products.Mat 4128 4096) (S : ArrS) (g k : Fin 4) (a : Fin 128) (l : Fin 512) :
    poolDw dp dy S (ix4 k g a l) = dwPart dp dy S 0 g k a l + dwPart dp dy S 1 g k a l :=
  sum_rows _

theorem poolDs_apply (dp : Cert.Products.Mat 4128 2048) (dy : Cert.Products.Mat 4128 4096) (P : ArrP) (g : Fin 4) (l : Fin 512) :
    poolDs dp dy P (ix2 0 (colOf g l)) = dsPart dp dy P 0 g l + dsPart dp dy P 1 g l :=
  sum_rows _

/-- The same sums over a block's rows, as the body takes them. -/
abbrev dwSum (d : Vec Ideal S2064x512 .bf16) (dy : Vec Ideal S2064x512 .f32) (sc : Vec Ideal S1x512 .f32) (k : Fin 4) (a : Fin 128) (l : Fin 512) : EReal :=
  ∑ r : Fin 2064, d (ix2 r ⟨k.val * 128 + a.val, by omega⟩) * k7_pay9 (F := Ideal) dy sc (ix2 r l)
abbrev dsSum (d : Vec Ideal S2064x512 .bf16) (dy : Vec Ideal S2064x512 .f32) (w : Vec Ideal S1x512x512 .bf16) (l : Fin 512) : EReal :=
  ∑ r : Fin 2064, dy (ix2 r l) * k7_pay8 (F := Ideal) d w (ix2 r l)

theorem dw_block (c : Dev nD) (t : Fin cfg7.N) (k : Fin 4) (a : Fin 128) (l : Fin 512) :
    dwSum (iblk7 V c 0 t) (iblk7 V c 1 t) (iblk7 V c 3 t) k a l
      = dwPart (argD V c) (argY V c) (argS V c) (seqOf t) (groupAt t) k a l :=
  Finset.sum_congr rfl fun r _ => congrArg₂ (fun p q : EReal => p * q) (blk0 V c t r _) (dq_block V c t r l)

theorem ds_block (c : Dev nD) (t : Fin cfg7.N) (l : Fin 512) :
    dsSum (iblk7 V c 0 t) (iblk7 V c 1 t) (iblk7 V c 2 t) l
      = dsPart (argD V c) (argY V c) (argP V c) (seqOf t) (groupAt t) l :=
  Finset.sum_congr rfl fun r _ => congrArg₂ (fun p q : EReal => p * q) (blk1 V c t r l) (prod_block V c t r l)

section Body

variable (d0 : Dev nD) (i : grid7.Coords)
  (a2 : Memref sig .tc .vmem S2064x512 .bf16) (h2 : a2.IsWhole) (a3 : Memref sig .tc .vmem S2064x512 .f32) (h3 : a3.IsWhole)
  (a4 : Memref sig .tc .vmem S1x512x512 .bf16) (h4 : a4.IsWhole) (a5 : Memref sig .tc .vmem S1x512 .f32) (h5 : a5.IsWhole)
  (a6 : Memref sig .tc .vmem S2064x512 .bf16) (h6 : a6.IsWhole) (a7 : Memref sig .tc .vmem S4x1x128x512 .f32) (h7 : a7.IsWhole)
  (a8 : Memref sig .tc .vmem S1x512 .f32) (h8 : a8.IsWhole)
  (d : Vec Ideal S2064x512 .bf16) (dy : Vec Ideal S2064x512 .f32) (w : Vec Ideal S1x512x512 .bf16) (sc : Vec Ideal S1x512 .f32)

theorem parts_A (hc : cond7_0 i) (k : Fin 4) (a : Fin 128) (l : Fin 512) :
    out7_A_5 (F := Ideal) d0 i a2 h2 a3 h3 a4 h4 a5 h5 a6 h6 a7 h7 a8 h8 hc d dy w sc (ix4 k 0 a l)
      = ∑ r : Fin 2064, d (ix2 r ⟨k.val * 128 + a.val, by omega⟩) * k7_pay9 (F := Ideal) dy sc (ix2 r l) := by
  refine Eq.trans ?_ (zero_add _)
  match k with
  | 0 => exact out5_A0 d0 i a2 h2 a3 h3 a4 h4 a5 h5 a6 h6 a7 h7 a8 h8 d dy w sc hc a l
  | 1 => exact out5_A1 d0 i a2 h2 a3 h3 a4 h4 a5 h5 a6 h6 a7 h7 a8 h8 d dy w sc hc a l
  | 2 => exact out5_A2 d0 i a2 h2 a3 h3 a4 h4 a5 h5 a6 h6 a7 h7 a8 h8 d dy w sc hc a l
  | 3 => exact out5_A3 d0 i a2 h2 a3 h3 a4 h4 a5 h5 a6 h6 a7 h7 a8 h8 d dy w sc hc a l

theorem parts_B (hc : ¬ cond7_0 i) (o5 : Vec Ideal S4x1x128x512 .f32) (o6 : Vec Ideal S1x512 .f32) (k : Fin 4) (a : Fin 128) (l : Fin 512) :
    out7_B_5 (F := Ideal) d0 i a2 h2 a3 h3 a4 h4 a5 h5 a6 h6 a7 h7 a8 h8 hc d dy w sc o5 o6 (ix4 k 0 a l)
      = o5 (ix4 k 0 a l) + ∑ r : Fin 2064, d (ix2 r ⟨k.val * 128 + a.val, by omega⟩) * k7_pay9 (F := Ideal) dy sc (ix2 r l) := by
  match k with
  | 0 => exact out5_B0 d0 i a2 h2 a3 h3 a4 h4 a5 h5 a6 h6 a7 h7 a8 h8 d dy w sc hc o5 o6 a l
  | 1 => exact out5_B1 d0 i a2 h2 a3 h3 a4 h4 a5 h5 a6 h6 a7 h7 a8 h8 d dy w sc hc o5 o6 a l
  | 2 => exact out5_B2 d0 i a2 h2 a3 h3 a4 h4 a5 h5 a6 h6 a7 h7 a8 h8 d dy w sc hc o5 o6 a l
  | 3 => exact out5_B3 d0 i a2 h2 a3 h3 a4 h4 a5 h5 a6 h6 a7 h7 a8 h8 d dy w sc hc o5 o6 a l

end Body

/-- After a group's first sequence. -/
theorem first5 (c : Dev nD) (t : Fin cfg7.N) (h0 : t.val % 2 = 0) (k : Fin 4) (a : Fin 128) (l : Fin 512) :
    (outsAt7 V c t.val t.isLt).2.1 (ix4 k 0 a l) = dwPart (argD V c) (argY V c) (argS V c) (seqOf t) (groupAt t) k a l := by
  rw [outsAt7_A V c t h0]
  dsimp only
  exact (parts_A (k := k) (a := a) (l := l) ..).trans (dw_block V c t k a l)

theorem first6 (c : Dev nD) (t : Fin cfg7.N) (h0 : t.val % 2 = 0) (l : Fin 512) :
    (outsAt7 V c t.val t.isLt).2.2 (ix2 0 l) = dsPart (argD V c) (argY V c) (argP V c) (seqOf t) (groupAt t) l := by
  rw [outsAt7_A V c t h0]
  dsimp only
  exact ((out6_A (l := l) ..).trans (zero_add _)).trans (ds_block V c t l)

theorem seq_last (t : Fin cfg7.N) (h0 : ¬ t.val % 2 = 0) : seqOf t = 1 := Fin.ext (show t.val % 2 = 1 by omega)
theorem seq_before (t : Fin cfg7.N) (h0 : ¬ t.val % 2 = 0) (hp : t.val - 1 < cfg7.N) : seqOf ⟨t.val - 1, hp⟩ = 0 := Fin.ext (show (t.val - 1) % 2 = 0 by omega)
theorem group_before (t : Fin cfg7.N) (h0 : ¬ t.val % 2 = 0) (hp : t.val - 1 < cfg7.N) : groupAt ⟨t.val - 1, hp⟩ = groupAt t := Fin.ext (show (t.val - 1) / 2 = t.val / 2 by omega)

/-- After its second. -/
theorem second5 (c : Dev nD) (t : Fin cfg7.N) (h0 : ¬ t.val % 2 = 0) (k : Fin 4) (a : Fin 128) (l : Fin 512) :
    (outsAt7 V c t.val t.isLt).2.1 (ix4 k 0 a l) = poolDw (argD V c) (argY V c) (argS V c) (ix4 k (groupAt t) a l) := by
  have hp : t.val - 1 < cfg7.N := Nat.lt_of_le_of_lt (Nat.sub_le _ _) t.isLt
  rw [outsAt7_B V c t h0]
  dsimp only
  refine (parts_B (k := k) (a := a) (l := l) ..).trans ?_
  rw [poolDw_apply]
  have h := first5 V c ⟨t.val - 1, hp⟩ (show (t.val - 1) % 2 = 0 by omega) k a l
  rw [seq_before t h0 hp, group_before t h0 hp] at h
  have h' := dw_block V c t k a l
  rw [seq_last t h0] at h'
  exact congrArg₂ (fun p q : EReal => p + q) h h'

theorem second6 (c : Dev nD) (t : Fin cfg7.N) (h0 : ¬ t.val % 2 = 0) (l : Fin 512) :
    (outsAt7 V c t.val t.isLt).2.2 (ix2 0 l) = poolDs (argD V c) (argY V c) (argP V c) (ix2 0 (colOf (groupAt t) l)) := by
  have hp : t.val - 1 < cfg7.N := Nat.lt_of_le_of_lt (Nat.sub_le _ _) t.isLt
  rw [outsAt7_B V c t h0]
  dsimp only
  refine (out6_B (l := l) ..).trans ?_
  rw [poolDs_apply]
  have h := first6 V c ⟨t.val - 1, hp⟩ (show (t.val - 1) % 2 = 0 by omega) l
  rw [seq_before t h0 hp, group_before t h0 hp] at h
  have h' := ds_block V c t l
  rw [seq_last t h0] at h'
  exact congrArg₂ (fun p q : EReal => p + q) h h'

/-- The matrices' gradient after the run. -/
theorem final5 (c : Dev nD) : (dat7 V c).arrAt 5 cfg7.N = poolDw (argD V c) (argY V c) (argS V c) :=
  (dat7 V c).arrAt_eq_of_cover 5 (poolDw (argD V c) (argY V c) (argS V c)) (fun t hf => by
    have ht : ¬ t.val % 2 = 0 := by have := (flush7_5 t).mp hf; omega
    show (cfg7.win 5).cut (grid7.coords t) ((dat7 V c).after 5 t) = _
    rw [after7_5]
    funext j
    obtain ⟨k, a, l, rfl⟩ : ∃ (k : Fin 4) (a : Fin 128) (l : Fin 512), j = ix4 k 0 a l :=
      ⟨j 0, j 2, j 3, by
        funext x; apply Fin.ext
        match x with
        | ⟨0, _⟩ => rfl
        | ⟨1, _⟩ => show (j 1).val = 0; have : (j 1).val < 1 := (j 1).isLt; omega
        | ⟨2, _⟩ => rfl
        | ⟨3, _⟩ => rfl⟩
    rw [View.read_apply]
    have hi := at5 t
    have hj : ((cfg7.win 5).blk t).view.emb (ix4 k 0 a l) = ix4 k (groupAt t) a l := by
      funext x
      apply Fin.ext
      match x with
      | ⟨0, _⟩ => show win7_5.index t 0 * 4 + 1 * k.val = k.val; rw [hi.1]; omega
      | ⟨1, _⟩ => show win7_5.index t 1 * 1 + 1 * 0 = t.val / 2; rw [hi.2.1]; omega
      | ⟨2, _⟩ => show win7_5.index t 2 * 128 + 1 * a.val = a.val; rw [hi.2.2.1]; omega
      | ⟨3, _⟩ => show win7_5.index t 3 * 512 + 1 * l.val = l.val; rw [hi.2.2.2]; omega
    rw [hj]
    exact second5 V c t ht k a l) fun i =>
    ⟨lastOf (i 1) (i 1).isLt, (flush7_5 _).mpr (by show ((i 1 : Nat) * 2 + 1) % 2 = 1; omega), by
      show i ∈ ((View.whole main_v8_1).slice (win7_5.rect (lastOf (i 1) (i 1).isLt))).set
      rw [View.set_slice_whole, Rect.mem_set_unit]
      have h0 : (i 0 : Nat) < 4 := (i 0).isLt
      have h1 : (i 1 : Nat) < 4 := (i 1).isLt
      have h2 : (i 2 : Nat) < 128 := (i 2).isLt
      have h3 : (i 3 : Nat) < 512 := (i 3).isLt
      have hi := at5 (lastOf (i 1) (i 1).isLt)
      have hv : (lastOf (i 1) (i 1).isLt).val = (i 1 : Nat) * 2 + 1 := rfl
      intro x
      match x with
      | ⟨0, _⟩ => show win7_5.index (lastOf (i 1) (i 1).isLt) 0 * 4 ≤ (i 0 : Nat) ∧ (i 0 : Nat) < win7_5.index (lastOf (i 1) (i 1).isLt) 0 * 4 + 4; rw [hi.1]; omega
      | ⟨1, _⟩ => show win7_5.index (lastOf (i 1) (i 1).isLt) 1 * 1 ≤ (i 1 : Nat) ∧ (i 1 : Nat) < win7_5.index (lastOf (i 1) (i 1).isLt) 1 * 1 + 1; rw [hi.2.1, hv]; omega
      | ⟨2, _⟩ => show win7_5.index (lastOf (i 1) (i 1).isLt) 2 * 128 ≤ (i 2 : Nat) ∧ (i 2 : Nat) < win7_5.index (lastOf (i 1) (i 1).isLt) 2 * 128 + 128; rw [hi.2.2.1]; omega
      | ⟨3, _⟩ => show win7_5.index (lastOf (i 1) (i 1).isLt) 3 * 512 ≤ (i 3 : Nat) ∧ (i 3 : Nat) < win7_5.index (lastOf (i 1) (i 1).isLt) 3 * 512 + 512; rw [hi.2.2.2]; omega⟩

/-- The group of a column is one of the four. -/
theorem group_lt (i : S1x2048.Idx) : (i 1 : Nat) / 512 < 4 := by
  have h1 : (i 1 : Nat) < 2048 := (i 1).isLt
  omega

/-- The scale's gradient after the run. -/
theorem final6 (c : Dev nD) : (dat7 V c).arrAt 6 cfg7.N = poolDs (argD V c) (argY V c) (argP V c) :=
  (dat7 V c).arrAt_eq_of_cover 6 (poolDs (argD V c) (argY V c) (argP V c)) (fun t hf => by
    have ht : ¬ t.val % 2 = 0 := by have := (flush7_6 t).mp hf; omega
    show (cfg7.win 6).cut (grid7.coords t) ((dat7 V c).after 6 t) = _
    rw [after7_6]
    funext j
    obtain ⟨l, rfl⟩ : ∃ (l : Fin 512), j = ix2 0 l :=
      ⟨j 1, by
        funext x; apply Fin.ext
        match x with
        | ⟨0, _⟩ => show (j 0).val = 0; have : (j 0).val < 1 := (j 0).isLt; omega
        | ⟨1, _⟩ => rfl⟩
    rw [View.read_apply]
    have hi := at6 t
    have hj : ((cfg7.win 6).blk t).view.emb (ix2 0 l) = ix2 0 (colOf (groupAt t) l) := by
      funext x
      apply Fin.ext
      match x with
      | ⟨0, _⟩ => show win7_6.index t 0 * 1 + 1 * 0 = 0; rw [hi.1]
      | ⟨1, _⟩ => show win7_6.index t 1 * 512 + 1 * l.val = t.val / 2 * 512 + l.val; rw [hi.2]; omega
    rw [hj]
    exact second6 V c t ht l) fun i =>
    ⟨lastOf ((i 1 : Nat) / 512) (group_lt i), (flush7_6 _).mpr (by show ((i 1 : Nat) / 512 * 2 + 1) % 2 = 1; omega), by
      show i ∈ ((View.whole main_v8_2).slice (win7_6.rect (lastOf ((i 1 : Nat) / 512) (group_lt i)))).set
      rw [View.set_slice_whole, Rect.mem_set_unit]
      have h0 : (i 0 : Nat) < 1 := (i 0).isLt
      have h1 : (i 1 : Nat) < 2048 := (i 1).isLt
      have hi := at6 (lastOf ((i 1 : Nat) / 512) (group_lt i))
      have hv : (lastOf ((i 1 : Nat) / 512) (group_lt i)).val = (i 1 : Nat) / 512 * 2 + 1 := rfl
      intro x
      match x with
      | ⟨0, _⟩ => show win7_6.index (lastOf ((i 1 : Nat) / 512) (group_lt i)) 0 * 1 ≤ (i 0 : Nat) ∧ (i 0 : Nat) < win7_6.index (lastOf ((i 1 : Nat) / 512) (group_lt i)) 0 * 1 + 1; rw [hi.1]; omega
      | ⟨1, _⟩ => show win7_6.index (lastOf ((i 1 : Nat) / 512) (group_lt i)) 1 * 512 ≤ (i 1 : Nat) ∧ (i 1 : Nat) < win7_6.index (lastOf ((i 1 : Nat) / 512) (group_lt i)) 1 * 512 + 512; rw [hi.2, hv]; omega⟩

end Cert.MixerIdeal.PoolBwd

end
-- ==== Proof.MixerDwin.lean ====
/-
  The input projection's gradient: the half of the rows that the sibling device keeps, then the half that this device
  keeps, with the sibling's share added.
-/
module

public import proofs.«01_k».proof.Proof.Gen.MixerIdeal.Frame.Region9
public import proofs.«01_k».proof.Proof.Gen.MixerIdeal.Frame.Region12
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MixerIdeal.Dwin

open Cert.MixerIdeal Cert.MixerIdeal.Gen Cert.Products

variable (V : (c : Dev nD) → (b : Ref sig .tc) → Buf (Elt Ideal) ((c : Thread nD τ).loc b))

theorem points9 (t : Fin cfg9.N) : t.val < 16 := lt_of_lt_of_eq t.isLt (show cfg9.N = 16 from N_9)

/-! ## Where each block lies -/

theorem at9_0 : ∀ t : Fin cfg9.N, win9_0.index t 0 = 0 ∧ win9_0.index t 1 = t.val / 16 + 1 :=
  show ∀ t : Fin grid9.N, _ by decide +kernel
theorem at9_1 : ∀ t : Fin cfg9.N, win9_1.index t 0 = 0 ∧ win9_1.index t 1 = t.val % 16 :=
  show ∀ t : Fin grid9.N, _ by decide +kernel
theorem at9_2 : ∀ t : Fin cfg9.N, win9_2.index t 0 = t.val / 16 ∧ win9_2.index t 1 = t.val % 16 :=
  show ∀ t : Fin grid9.N, _ by decide +kernel

/-- A window's block, entry by entry; so for the other windows below. -/
theorem blk9_0 (c : Dev nD) (t : Fin cfg9.N) (r : Fin 4128) (l : Fin 2048) :
    iblk9 V c 0 t (ix2 r l) = V c main_arg0 (ix2 (⟨(0) * 4128 + r.val, by omega⟩ : Fin 4128) (⟨(t.val / 16 + 1) * 2048 + l.val, by have := points9 t; omega⟩ : Fin 4096)) := by
  unfold iblk9
  rw [View.read_apply]
  exact congrArg (V c main_arg0) (funext fun a => Fin.ext (lies (at9_0 t) r l rfl rfl a))

theorem blk9_1 (c : Dev nD) (t : Fin cfg9.N) (r : Fin 4128) (l : Fin 512) :
    iblk9 V c 1 t (ix2 r l) = V c main_v9 (ix2 (⟨(0) * 4128 + r.val, by omega⟩ : Fin 4128) (⟨(t.val % 16) * 512 + l.val, by omega⟩ : Fin 8192)) := by
  unfold iblk9
  rw [View.read_apply]
  exact congrArg (V c main_v9) (funext fun a => Fin.ext (lies (at9_1 t) r l rfl rfl a))

/-! ## One block of the result -/

/-- What the body computes: a product of two blocks. -/
theorem pay9 (a : Vec Ideal S4128x2048 .bf16) (b : Vec Ideal S4128x512 .bf16) (r : Fin 2048) (l : Fin 512) :
    k9_pay1 a b (ix2 r l) = (∑ k : Fin 4128, a (ix2 k r) * b (ix2 k l) : EReal) := by
  pointwise [k9_pay1]

/-- What the body leaves in the result's staging buffer. -/
theorem left9 (a : Vec Ideal S4128x2048 .bf16) (b : Vec Ideal S4128x512 .bf16) : out9_2 a b = k9_pay1 a b := by
  unfold out9_2
  rw [View.canon_unit_zero origin]
  simp only [View.ld_unit_zero (S := S4128x2048) origin, View.ld_unit_zero (S := S4128x512) origin]

/-! ## The whole result -/

/-- The result, as a product of the arrays the call reads. -/
def result9 (c : Dev nD) : Mat 2048 8192 := tn (piece 0 2048 (a := 4128) (b := 2048) (c := 4128) (d := 4096) (by decide) (by decide) (V c main_arg0)) (V c main_v9)

/-- The grid point that writes an index of the result. -/
def pointOf9 (i : S2048x8192.Idx) : Fin cfg9.N :=
  ⟨(i 0 : Nat) / 2048 * 16 + (i 1 : Nat) / 512, by
    have h0 : (i 0 : Nat) < 2048 := (i 0).isLt
    have h1 : (i 1 : Nat) < 8192 := (i 1).isLt
    rw [show cfg9.N = 16 from N_9]; omega⟩

/-- What a grid point writes back is its block of the result. -/
theorem block9 (c : Dev nD) (t : Fin cfg9.N) (r : Fin 2048) (l : Fin 512) :
    k9_pay1 (iblk9 V c 0 t) (iblk9 V c 1 t) (ix2 r l) = result9 V c (ix2 (⟨(t.val / 16) * 2048 + r.val, by have := points9 t; omega⟩ : Fin 2048) (⟨(t.val % 16) * 512 + l.val, by omega⟩ : Fin 8192)) := by
  refine (pay9 (iblk9 V c 0 t) (iblk9 V c 1 t) r l).trans ?_
  show _ = result9 V c _
  simp only [result9, tn_apply, plus_apply, piece_apply]
  refine Finset.sum_congr rfl fun k _ => congrArg₂ (fun p q : EReal => p * q) ?_ ?_
  · exact (blk9_0 V c t k r).trans (congrArg (V c main_arg0) (same (by simp [shift] <;> omega) (by simp [shift] <;> omega)))
  · exact (blk9_1 V c t k l).trans (congrArg (V c main_v9) (same (by simp [shift] <;> omega) (by simp [shift] <;> omega)))

/-- The call's result array after the run. -/
theorem final9 (c : Dev nD) : (dat9 V c).arrAt 2 cfg9.N = result9 V c :=
  (dat9 V c).arrAt_eq_of_cover 2 (result9 V c) (fun t _ => by
    show (cfg9.win 2).cut (grid9.coords t) ((dat9 V c).after 2 t) = _
    rw [after9_2, left9]
    funext j
    obtain ⟨r, l, rfl⟩ : ∃ (r : Fin 2048) (l : Fin 512), j = ix2 r l := index_eq j
    rw [View.read_apply]
    exact (block9 V c t r l).trans (congrArg (result9 V c) (funext fun a => (Fin.ext (lies (at9_2 t) r l rfl rfl a)).symm))) fun i =>
    ⟨pointOf9 i, flush9_2 _, by
      show i ∈ ((View.whole main_v11).slice (win9_2.rect (pointOf9 i))).set
      rw [View.set_slice_whole, Rect.mem_set_unit]
      have h0 : (i 0 : Nat) < 2048 := (i 0).isLt
      have h1 : (i 1 : Nat) < 8192 := (i 1).isLt
      have hv : (pointOf9 i).val = (i 0 : Nat) / 2048 * 16 + (i 1 : Nat) / 512 := rfl
      exact holds i (at9_2 _) (by omega) (by omega) (by decide) (by decide)⟩

theorem points12 (t : Fin cfg12.N) : t.val < 16 := lt_of_lt_of_eq t.isLt (show cfg12.N = 16 from N_12)

/-! ## Where each block lies -/

theorem at12_0 : ∀ t : Fin cfg12.N, win12_0.index t 0 = 0 ∧ win12_0.index t 1 = t.val / 16 :=
  show ∀ t : Fin grid12.N, _ by decide +kernel
theorem at12_1 : ∀ t : Fin cfg12.N, win12_1.index t 0 = 0 ∧ win12_1.index t 1 = t.val % 16 :=
  show ∀ t : Fin grid12.N, _ by decide +kernel
theorem at12_2 : ∀ t : Fin cfg12.N, win12_2.index t 0 = t.val / 16 ∧ win12_2.index t 1 = t.val % 16 :=
  show ∀ t : Fin grid12.N, _ by decide +kernel
theorem at12_3 : ∀ t : Fin cfg12.N, win12_3.index t 0 = t.val / 16 ∧ win12_3.index t 1 = t.val % 16 :=
  show ∀ t : Fin grid12.N, _ by decide +kernel

theorem blk12_0 (c : Dev nD) (t : Fin cfg12.N) (r : Fin 4128) (l : Fin 2048) :
    iblk12 V c 0 t (ix2 r l) = V c main_arg0 (ix2 (⟨(0) * 4128 + r.val, by omega⟩ : Fin 4128) (⟨(t.val / 16) * 2048 + l.val, by have := points12 t; omega⟩ : Fin 4096)) := by
  unfold iblk12
  rw [View.read_apply]
  exact congrArg (V c main_arg0) (funext fun a => Fin.ext (lies (at12_0 t) r l rfl rfl a))

theorem blk12_1 (c : Dev nD) (t : Fin cfg12.N) (r : Fin 4128) (l : Fin 512) :
    iblk12 V c 1 t (ix2 r l) = V c main_v9 (ix2 (⟨(0) * 4128 + r.val, by omega⟩ : Fin 4128) (⟨(t.val % 16) * 512 + l.val, by omega⟩ : Fin 8192)) := by
  unfold iblk12
  rw [View.read_apply]
  exact congrArg (V c main_v9) (funext fun a => Fin.ext (lies (at12_1 t) r l rfl rfl a))

theorem blk12_2 (c : Dev nD) (t : Fin cfg12.N) (r : Fin 2048) (l : Fin 512) :
    iblk12 V c 2 t (ix2 r l) = V c main_arg8 (ix2 (⟨(t.val / 16) * 2048 + r.val, by have := points12 t; omega⟩ : Fin 2048) (⟨(t.val % 16) * 512 + l.val, by omega⟩ : Fin 8192)) := by
  unfold iblk12
  rw [View.read_apply]
  exact congrArg (V c main_arg8) (funext fun a => Fin.ext (lies (at12_2 t) r l rfl rfl a))

/-! ## One block of the result -/

/-- What the body computes: a product of two blocks, and the addend. -/
theorem pay12 (a : Vec Ideal S4128x2048 .bf16) (b : Vec Ideal S4128x512 .bf16) (e : Vec Ideal S2048x512 .bf16) (r : Fin 2048) (l : Fin 512) :
    k12_pay1 a b e (ix2 r l) = (∑ k : Fin 4128, a (ix2 k r) * b (ix2 k l) : EReal) + e (ix2 r l) := by
  pointwise [k12_pay1]

/-- What the body leaves in the result's staging buffer. -/
theorem left12 (a : Vec Ideal S4128x2048 .bf16) (b : Vec Ideal S4128x512 .bf16) (e : Vec Ideal S2048x512 .bf16) : out12_3 a b e = k12_pay1 a b e := by
  unfold out12_3
  rw [View.canon_unit_zero origin]
  simp only [View.ld_unit_zero (S := S4128x2048) origin, View.ld_unit_zero (S := S4128x512) origin, View.ld_unit_zero (S := S2048x512) origin]

/-! ## The whole result -/

/-- The result, as a product of the arrays the call reads. -/
def result12 (c : Dev nD) : Mat 2048 8192 := plus (tn (piece 0 0 (a := 4128) (b := 2048) (c := 4128) (d := 4096) (by decide) (by decide) (V c main_arg0)) (V c main_v9)) (V c main_arg8)

/-- The grid point that writes an index of the result. -/
def pointOf12 (i : S2048x8192.Idx) : Fin cfg12.N :=
  ⟨(i 0 : Nat) / 2048 * 16 + (i 1 : Nat) / 512, by
    have h0 : (i 0 : Nat) < 2048 := (i 0).isLt
    have h1 : (i 1 : Nat) < 8192 := (i 1).isLt
    rw [show cfg12.N = 16 from N_12]; omega⟩

/-- What a grid point writes back is its block of the result. -/
theorem block12 (c : Dev nD) (t : Fin cfg12.N) (r : Fin 2048) (l : Fin 512) :
    k12_pay1 (iblk12 V c 0 t) (iblk12 V c 1 t) (iblk12 V c 2 t) (ix2 r l) = result12 V c (ix2 (⟨(t.val / 16) * 2048 + r.val, by have := points12 t; omega⟩ : Fin 2048) (⟨(t.val % 16) * 512 + l.val, by omega⟩ : Fin 8192)) := by
  refine (pay12 (iblk12 V c 0 t) (iblk12 V c 1 t) (iblk12 V c 2 t) r l).trans ?_
  show _ = result12 V c _
  simp only [result12, tn_apply, plus_apply, piece_apply]
  refine congrArg₂ (fun p q : EReal => p + q) ?_ ?_
  · refine Finset.sum_congr rfl fun k _ => congrArg₂ (fun p q : EReal => p * q) ?_ ?_
    · exact (blk12_0 V c t k r).trans (congrArg (V c main_arg0) (same (by simp [shift] <;> omega) (by simp [shift] <;> omega)))
    · exact (blk12_1 V c t k l).trans (congrArg (V c main_v9) (same (by simp [shift] <;> omega) (by simp [shift] <;> omega)))
  · exact blk12_2 V c t r l

/-- The call's result array after the run. -/
theorem final12 (c : Dev nD) : (dat12 V c).arrAt 3 cfg12.N = result12 V c :=
  (dat12 V c).arrAt_eq_of_cover 3 (result12 V c) (fun t _ => by
    show (cfg12.win 3).cut (grid12.coords t) ((dat12 V c).after 3 t) = _
    rw [after12_3, left12]
    funext j
    obtain ⟨r, l, rfl⟩ : ∃ (r : Fin 2048) (l : Fin 512), j = ix2 r l := index_eq j
    rw [View.read_apply]
    exact (block12 V c t r l).trans (congrArg (result12 V c) (funext fun a => (Fin.ext (lies (at12_3 t) r l rfl rfl a)).symm))) fun i =>
    ⟨pointOf12 i, flush12_3 _, by
      show i ∈ ((View.whole main_v14).slice (win12_3.rect (pointOf12 i))).set
      rw [View.set_slice_whole, Rect.mem_set_unit]
      have h0 : (i 0 : Nat) < 2048 := (i 0).isLt
      have h1 : (i 1 : Nat) < 8192 := (i 1).isLt
      have hv : (pointOf12 i).val = (i 0 : Nat) / 2048 * 16 + (i 1 : Nat) / 512 := rfl
      exact holds i (at12_3 _) (by omega) (by omega) (by decide) (by decide)⟩

end Cert.MixerIdeal.Dwin

end
-- ==== Proof.MixerDh.lean ====
/-
  The gradient at the mixer's input, in two parts of the sum over the 8192 columns, the second added to the first.
-/
module

public import proofs.«01_k».proof.Proof.Gen.MixerIdeal.Frame.Region10
public import proofs.«01_k».proof.Proof.Gen.MixerIdeal.Frame.Region11
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MixerIdeal.Dh

open Cert.MixerIdeal Cert.MixerIdeal.Gen Cert.Products

variable (V : (c : Dev nD) → (b : Ref sig .tc) → Buf (Elt Ideal) ((c : Thread nD τ).loc b))

theorem points10 (t : Fin cfg10.N) : t.val < 24 := lt_of_lt_of_eq t.isLt (show cfg10.N = 24 from N_10)

/-! ## Where each block lies -/

theorem at10_0 : ∀ t : Fin cfg10.N, win10_0.index t 0 = t.val / 8 ∧ win10_0.index t 1 = 0 :=
  show ∀ t : Fin grid10.N, _ by decide +kernel
theorem at10_1 : ∀ t : Fin cfg10.N, win10_1.index t 0 = t.val % 8 ∧ win10_1.index t 1 = 0 :=
  show ∀ t : Fin grid10.N, _ by decide +kernel
theorem at10_2 : ∀ t : Fin cfg10.N, win10_2.index t 0 = t.val / 8 ∧ win10_2.index t 1 = t.val % 8 :=
  show ∀ t : Fin grid10.N, _ by decide +kernel

/-- A window's block, entry by entry; so for the other windows below. -/
theorem blk10_0 (c : Dev nD) (t : Fin cfg10.N) (r : Fin 1376) (l : Fin 4096) :
    iblk10 V c 0 t (ix2 r l) = V c main_v9 (ix2 (⟨(t.val / 8) * 1376 + r.val, by have := points10 t; omega⟩ : Fin 4128) (⟨(0) * 4096 + l.val, by omega⟩ : Fin 8192)) := by
  unfold iblk10
  rw [View.read_apply]
  exact congrArg (V c main_v9) (funext fun a => Fin.ext (lies (at10_0 t) r l rfl rfl a))

theorem blk10_1 (c : Dev nD) (t : Fin cfg10.N) (r : Fin 512) (l : Fin 4096) :
    iblk10 V c 1 t (ix2 r l) = V c main_arg2 (ix2 (⟨(t.val % 8) * 512 + r.val, by omega⟩ : Fin 4096) (⟨(0) * 4096 + l.val, by omega⟩ : Fin 8192)) := by
  unfold iblk10
  rw [View.read_apply]
  exact congrArg (V c main_arg2) (funext fun a => Fin.ext (lies (at10_1 t) r l rfl rfl a))

/-! ## One block of the result -/

/-- What the body computes: a product of two blocks. -/
theorem pay10 (a : Vec Ideal S1376x4096 .bf16) (b : Vec Ideal S512x4096 .bf16) (r : Fin 1376) (l : Fin 512) :
    k10_pay1 a b (ix2 r l) = (∑ k : Fin 4096, a (ix2 r k) * b (ix2 l k) : EReal) := by
  pointwise [k10_pay1]

/-- What the body leaves in the result's staging buffer. -/
theorem left10 (a : Vec Ideal S1376x4096 .bf16) (b : Vec Ideal S512x4096 .bf16) : out10_2 a b = k10_pay1 a b := by
  unfold out10_2
  rw [View.canon_unit_zero origin]
  simp only [View.ld_unit_zero (S := S1376x4096) origin, View.ld_unit_zero (S := S512x4096) origin]

/-! ## The whole result -/

/-- The result, as a product of the arrays the call reads. -/
def result10 (c : Dev nD) : Mat 4128 4096 := nt (piece 0 0 (a := 4128) (b := 4096) (c := 4128) (d := 8192) (by decide) (by decide) (V c main_v9)) (piece 0 0 (a := 4096) (b := 4096) (c := 4096) (d := 8192) (by decide) (by decide) (V c main_arg2))

/-- The grid point that writes an index of the result. -/
def pointOf10 (i : S4128x4096.Idx) : Fin cfg10.N :=
  ⟨(i 0 : Nat) / 1376 * 8 + (i 1 : Nat) / 512, by
    have h0 : (i 0 : Nat) < 4128 := (i 0).isLt
    have h1 : (i 1 : Nat) < 4096 := (i 1).isLt
    rw [show cfg10.N = 24 from N_10]; omega⟩

/-- What a grid point writes back is its block of the result. -/
theorem block10 (c : Dev nD) (t : Fin cfg10.N) (r : Fin 1376) (l : Fin 512) :
    k10_pay1 (iblk10 V c 0 t) (iblk10 V c 1 t) (ix2 r l) = result10 V c (ix2 (⟨(t.val / 8) * 1376 + r.val, by have := points10 t; omega⟩ : Fin 4128) (⟨(t.val % 8) * 512 + l.val, by omega⟩ : Fin 4096)) := by
  refine (pay10 (iblk10 V c 0 t) (iblk10 V c 1 t) r l).trans ?_
  show _ = result10 V c _
  simp only [result10, nt_apply, plus_apply, piece_apply]
  refine Finset.sum_congr rfl fun k _ => congrArg₂ (fun p q : EReal => p * q) ?_ ?_
  · exact (blk10_0 V c t r k).trans (congrArg (V c main_v9) (same (by simp [shift] <;> omega) (by simp [shift] <;> omega)))
  · exact (blk10_1 V c t l k).trans (congrArg (V c main_arg2) (same (by simp [shift] <;> omega) (by simp [shift] <;> omega)))

/-- The call's result array after the run. -/
theorem final10 (c : Dev nD) : (dat10 V c).arrAt 2 cfg10.N = result10 V c :=
  (dat10 V c).arrAt_eq_of_cover 2 (result10 V c) (fun t _ => by
    show (cfg10.win 2).cut (grid10.coords t) ((dat10 V c).after 2 t) = _
    rw [after10_2, left10]
    funext j
    obtain ⟨r, l, rfl⟩ : ∃ (r : Fin 1376) (l : Fin 512), j = ix2 r l := index_eq j
    rw [View.read_apply]
    exact (block10 V c t r l).trans (congrArg (result10 V c) (funext fun a => (Fin.ext (lies (at10_2 t) r l rfl rfl a)).symm))) fun i =>
    ⟨pointOf10 i, flush10_2 _, by
      show i ∈ ((View.whole main_v12).slice (win10_2.rect (pointOf10 i))).set
      rw [View.set_slice_whole, Rect.mem_set_unit]
      have h0 : (i 0 : Nat) < 4128 := (i 0).isLt
      have h1 : (i 1 : Nat) < 4096 := (i 1).isLt
      have hv : (pointOf10 i).val = (i 0 : Nat) / 1376 * 8 + (i 1 : Nat) / 512 := rfl
      exact holds i (at10_2 _) (by omega) (by omega) (by decide) (by decide)⟩

theorem points11 (t : Fin cfg11.N) : t.val < 24 := lt_of_lt_of_eq t.isLt (show cfg11.N = 24 from N_11)

/-! ## Where each block lies -/

theorem at11_0 : ∀ t : Fin cfg11.N, win11_0.index t 0 = t.val / 8 ∧ win11_0.index t 1 = 1 :=
  show ∀ t : Fin grid11.N, _ by decide +kernel
theorem at11_1 : ∀ t : Fin cfg11.N, win11_1.index t 0 = t.val % 8 ∧ win11_1.index t 1 = 1 :=
  show ∀ t : Fin grid11.N, _ by decide +kernel
theorem at11_2 : ∀ t : Fin cfg11.N, win11_2.index t 0 = t.val / 8 ∧ win11_2.index t 1 = t.val % 8 :=
  show ∀ t : Fin grid11.N, _ by decide +kernel
theorem at11_3 : ∀ t : Fin cfg11.N, win11_3.index t 0 = t.val / 8 ∧ win11_3.index t 1 = t.val % 8 :=
  show ∀ t : Fin grid11.N, _ by decide +kernel

theorem blk11_0 (c : Dev nD) (t : Fin cfg11.N) (r : Fin 1376) (l : Fin 4096) :
    iblk11 V c 0 t (ix2 r l) = V c main_v9 (ix2 (⟨(t.val / 8) * 1376 + r.val, by have := points11 t; omega⟩ : Fin 4128) (⟨(1) * 4096 + l.val, by omega⟩ : Fin 8192)) := by
  unfold iblk11
  rw [View.read_apply]
  exact congrArg (V c main_v9) (funext fun a => Fin.ext (lies (at11_0 t) r l rfl rfl a))

theorem blk11_1 (c : Dev nD) (t : Fin cfg11.N) (r : Fin 512) (l : Fin 4096) :
    iblk11 V c 1 t (ix2 r l) = V c main_arg2 (ix2 (⟨(t.val % 8) * 512 + r.val, by omega⟩ : Fin 4096) (⟨(1) * 4096 + l.val, by omega⟩ : Fin 8192)) := by
  unfold iblk11
  rw [View.read_apply]
  exact congrArg (V c main_arg2) (funext fun a => Fin.ext (lies (at11_1 t) r l rfl rfl a))

theorem blk11_2 (c : Dev nD) (t : Fin cfg11.N) (r : Fin 1376) (l : Fin 512) :
    iblk11 V c 2 t (ix2 r l) = V c main_v12 (ix2 (⟨(t.val / 8) * 1376 + r.val, by have := points11 t; omega⟩ : Fin 4128) (⟨(t.val % 8) * 512 + l.val, by omega⟩ : Fin 4096)) := by
  unfold iblk11
  rw [View.read_apply]
  exact congrArg (V c main_v12) (funext fun a => Fin.ext (lies (at11_2 t) r l rfl rfl a))

/-! ## One block of the result -/

/-- What the body computes: a product of two blocks, and the addend. -/
theorem pay11 (a : Vec Ideal S1376x4096 .bf16) (b : Vec Ideal S512x4096 .bf16) (e : Vec Ideal S1376x512 .f32) (r : Fin 1376) (l : Fin 512) :
    k11_pay1 a b e (ix2 r l) = (∑ k : Fin 4096, a (ix2 r k) * b (ix2 l k) : EReal) + e (ix2 r l) := by
  pointwise [k11_pay1]

/-- What the body leaves in the result's staging buffer. -/
theorem left11 (a : Vec Ideal S1376x4096 .bf16) (b : Vec Ideal S512x4096 .bf16) (e : Vec Ideal S1376x512 .f32) : out11_3 a b e = k11_pay1 a b e := by
  unfold out11_3
  rw [View.canon_unit_zero origin]
  simp only [View.ld_unit_zero (S := S1376x4096) origin, View.ld_unit_zero (S := S512x4096) origin, View.ld_unit_zero (S := S1376x512) origin]

/-! ## The whole result -/

/-- The result, as a product of the arrays the call reads. -/
def result11 (c : Dev nD) : Mat 4128 4096 := plus (nt (piece 0 4096 (a := 4128) (b := 4096) (c := 4128) (d := 8192) (by decide) (by decide) (V c main_v9)) (piece 0 4096 (a := 4096) (b := 4096) (c := 4096) (d := 8192) (by decide) (by decide) (V c main_arg2))) (V c main_v12)

/-- The grid point that writes an index of the result. -/
def pointOf11 (i : S4128x4096.Idx) : Fin cfg11.N :=
  ⟨(i 0 : Nat) / 1376 * 8 + (i 1 : Nat) / 512, by
    have h0 : (i 0 : Nat) < 4128 := (i 0).isLt
    have h1 : (i 1 : Nat) < 4096 := (i 1).isLt
    rw [show cfg11.N = 24 from N_11]; omega⟩

/-- What a grid point writes back is its block of the result. -/
theorem block11 (c : Dev nD) (t : Fin cfg11.N) (r : Fin 1376) (l : Fin 512) :
    k11_pay1 (iblk11 V c 0 t) (iblk11 V c 1 t) (iblk11 V c 2 t) (ix2 r l) = result11 V c (ix2 (⟨(t.val / 8) * 1376 + r.val, by have := points11 t; omega⟩ : Fin 4128) (⟨(t.val % 8) * 512 + l.val, by omega⟩ : Fin 4096)) := by
  refine (pay11 (iblk11 V c 0 t) (iblk11 V c 1 t) (iblk11 V c 2 t) r l).trans ?_
  show _ = result11 V c _
  simp only [result11, nt_apply, plus_apply, piece_apply]
  refine congrArg₂ (fun p q : EReal => p + q) ?_ ?_
  · refine Finset.sum_congr rfl fun k _ => congrArg₂ (fun p q : EReal => p * q) ?_ ?_
    · exact (blk11_0 V c t r k).trans (congrArg (V c main_v9) (same (by simp [shift] <;> omega) (by simp [shift] <;> omega)))
    · exact (blk11_1 V c t l k).trans (congrArg (V c main_arg2) (same (by simp [shift] <;> omega) (by simp [shift] <;> omega)))
  · exact blk11_2 V c t r l

/-- The call's result array after the run. -/
theorem final11 (c : Dev nD) : (dat11 V c).arrAt 3 cfg11.N = result11 V c :=
  (dat11 V c).arrAt_eq_of_cover 3 (result11 V c) (fun t _ => by
    show (cfg11.win 3).cut (grid11.coords t) ((dat11 V c).after 3 t) = _
    rw [after11_3, left11]
    funext j
    obtain ⟨r, l, rfl⟩ : ∃ (r : Fin 1376) (l : Fin 512), j = ix2 r l := index_eq j
    rw [View.read_apply]
    exact (block11 V c t r l).trans (congrArg (result11 V c) (funext fun a => (Fin.ext (lies (at11_3 t) r l rfl rfl a)).symm))) fun i =>
    ⟨pointOf11 i, flush11_3 _, by
      show i ∈ ((View.whole main_v13).slice (win11_3.rect (pointOf11 i))).set
      rw [View.set_slice_whole, Rect.mem_set_unit]
      have h0 : (i 0 : Nat) < 4128 := (i 0).isLt
      have h1 : (i 1 : Nat) < 4096 := (i 1).isLt
      have hv : (pointOf11 i).val = (i 0 : Nat) / 1376 * 8 + (i 1 : Nat) / 512 := rfl
      exact holds i (at11_3 _) (by omega) (by omega) (by decide) (by decide)⟩

end Cert.MixerIdeal.Dh

end
-- ==== Proof.MixerBeside.lean ====
/-
  The two host concatenations of the mixer's step, read as arrays side by side (Proof/MixerSpec.lean).
-/
module

public import proofs.«01_k».proof.Proof.MixerSpec
public import Idealize.ShloMosaic.Lib.Pipeline.Value

@[expose] public section

noncomputable section

namespace Cert.MixerSpec

open Idealize.ShloMosaic Cert.Products

variable (a b c d : Mat 4128 2048)

/-- One array among those joined. -/
abbrev one (x : Mat 4128 2048) : (s : Shape) × (s.Idx → EReal) := ⟨⟨2, ![4128, 2048]⟩, x⟩

/-- Two arrays of 2048 columns joined. -/
theorem join_two (h : Shape.Concatenates ([one a, one b].map (·.1)) (⟨2, ![4128, 4096]⟩ : Shape) 1) :
    concatenate (⟨2, ![4128, 4096]⟩ : Shape) 1 [one a, one b] h = beside a b := by
  funext i
  have hi : (i 1 : ℕ) < 4096 := (i 1).isLt
  unfold beside
  split
  next h0 =>
    refine concatenate_apply_piece 1 [one a, one b] h i 0 (show 0 < 2 by decide) ⟨2, ![4128, 2048]⟩ a rfl rfl 0 rfl (ix2 (i 0) ⟨(i 1 : ℕ), h0⟩)
      (fun x hx => ?_) (show 0 + (i 1 : ℕ) = (i 1 : ℕ) from Nat.zero_add _)
    match x with
    | ⟨0, _⟩ => rfl
    | ⟨1, _⟩ => exact absurd rfl hx
  next h0 =>
    refine concatenate_apply_piece 1 [one a, one b] h i 1 (show 1 < 2 by decide) ⟨2, ![4128, 2048]⟩ b rfl rfl 2048 rfl (ix2 (i 0) ⟨(i 1 : ℕ) - 2048, by omega⟩)
      (fun x hx => ?_) (show 2048 + ((i 1 : ℕ) - 2048) = (i 1 : ℕ) by omega)
    match x with
    | ⟨0, _⟩ => rfl
    | ⟨1, _⟩ => exact absurd rfl hx

/-- Four arrays of 2048 columns joined. -/
theorem join_four (h : Shape.Concatenates ([one a, one b, one c, one d].map (·.1)) (⟨2, ![4128, 8192]⟩ : Shape) 1) :
    concatenate (⟨2, ![4128, 8192]⟩ : Shape) 1 [one a, one b, one c, one d] h = beside4 a b c d := by
  funext i
  have hi : (i 1 : ℕ) < 8192 := (i 1).isLt
  unfold beside4
  split
  next h0 =>
    refine concatenate_apply_piece 1 [one a, one b, one c, one d] h i 0 (show 0 < 4 by decide) ⟨2, ![4128, 2048]⟩ a rfl rfl 0 rfl (ix2 (i 0) ⟨(i 1 : ℕ), by omega⟩)
      (fun x hx => ?_) (show 0 + (i 1 : ℕ) = (i 1 : ℕ) from Nat.zero_add _)
    match x with
    | ⟨0, _⟩ => rfl
    | ⟨1, _⟩ => exact absurd rfl hx
  next h0 =>
    split
    next h1 =>
      refine concatenate_apply_piece 1 [one a, one b, one c, one d] h i 1 (show 1 < 4 by decide) ⟨2, ![4128, 2048]⟩ b rfl rfl 2048 rfl (ix2 (i 0) ⟨(i 1 : ℕ) - 2048, by omega⟩)
        (fun x hx => ?_) (show 2048 + ((i 1 : ℕ) - 2048) = (i 1 : ℕ) by omega)
      match x with
      | ⟨0, _⟩ => rfl
      | ⟨1, _⟩ => exact absurd rfl hx
    next h1 =>
      split
      next h2 =>
        refine concatenate_apply_piece 1 [one a, one b, one c, one d] h i 2 (show 2 < 4 by decide) ⟨2, ![4128, 2048]⟩ c rfl rfl 4096 rfl (ix2 (i 0) ⟨(i 1 : ℕ) - 4096, by omega⟩)
          (fun x hx => ?_) (show 4096 + ((i 1 : ℕ) - 4096) = (i 1 : ℕ) by omega)
        match x with
        | ⟨0, _⟩ => rfl
        | ⟨1, _⟩ => exact absurd rfl hx
      next h3 =>
        refine concatenate_apply_piece 1 [one a, one b, one c, one d] h i 3 (show 3 < 4 by decide) ⟨2, ![4128, 2048]⟩ d rfl rfl 6144 rfl (ix2 (i 0) ⟨(i 1 : ℕ) - 6144, by omega⟩)
          (fun x hx => ?_) (show 6144 + ((i 1 : ℕ) - 6144) = (i 1 : ℕ) by omega)
        match x with
        | ⟨0, _⟩ => rfl
        | ⟨1, _⟩ => exact absurd rfl hx

end Cert.MixerSpec

end
-- ==== Proof.MixerRun.lean ====
/-
  The run of the mixer's step: thirteen calls and two host concatenations, each array followed from the call that writes it
  to the calls that read it.
-/
module

public import proofs.«01_k».proof.Proof.MixerInOut
public import proofs.«01_k».proof.Proof.MixerConvFwd
public import proofs.«01_k».proof.Proof.MixerPoolFwd
public import proofs.«01_k».proof.Proof.MixerDy
public import proofs.«01_k».proof.Proof.MixerDwout
public import proofs.«01_k».proof.Proof.MixerConvArray
public import proofs.«01_k».proof.Proof.MixerPoolBwd
public import proofs.«01_k».proof.Proof.MixerDwin
public import proofs.«01_k».proof.Proof.MixerDh
public import proofs.«01_k».proof.Proof.MixerBeside
public import proofs.«01_k».proof.Proof.Gen.MixerIdeal.Frame
public import Idealize.ShloMosaic.Lib.Tactic

@[expose] public section

set_option maxRecDepth 16384

noncomputable section

namespace Cert.MixerIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.MixerIdeal Cert.MixerIdeal.Gen Cert.Products Cert.ConvSpec Cert.MixerSpec

local notation "𝕄" => MT nD τ sig Unit (Elt Ideal) ℕ (UR sig nD τ) ℕ

variable (m : (ℓ : Loc nD τ sig) → Buf (Elt Ideal) ℓ) (ρ : Dev nD → PrngReg)

/-! ## The arguments, and what the calls leave, from the arguments -/

abbrev arg0 (c : Dev nD) : Mat 4128 4096 := m (c.tc.loc main_arg0)
abbrev arg1 (c : Dev nD) : Mat 4128 4096 := m (c.tc.loc main_arg1)
abbrev arg2 (c : Dev nD) : Mat 4096 8192 := m (c.tc.loc main_arg2)
abbrev arg3 (c : Dev nD) : ArrW := m (c.tc.loc main_arg3)
abbrev arg4 (c : Dev nD) : ArrP := m (c.tc.loc main_arg4)
abbrev arg5 (c : Dev nD) : ArrS := m (c.tc.loc main_arg5)
abbrev arg6 (c : Dev nD) : Mat 4096 4096 := m (c.tc.loc main_arg6)
abbrev arg7 (c : Dev nD) : Mat 4096 2048 := m (c.tc.loc main_arg7)
abbrev arg8 (c : Dev nD) : Mat 2048 8192 := m (c.tc.loc main_arg8)
/-- The input projection: the gate, the two factors of the convolution, the pooling's input. -/
def u (c : Dev nD) : Mat 4128 8192 := nn (arg0 m c) (arg2 m c)

/-- The gated convolution. -/
def convY (c : Dev nD) : Mat 4128 2048 := convFwd (u m c) (arg3 m c)

/-- The pooled columns. -/
def dpool (c : Dev nD) : Mat 4128 2048 := poolDiff (u m c)

/-- The pooling's result. -/
def poolY (c : Dev nD) : Mat 4128 2048 := poolOut (dpool m c) (arg4 m c) (arg5 m c)

/-- The two side by side. -/
def mixed (c : Dev nD) : Mat 4128 4096 := beside (convY m c) (poolY m c)

/-- The output projection. -/
def outp (c : Dev nD) : Mat 4128 4096 := nn (mixed m c) (arg6 m c)

/-- The gradient at the two results. -/
def dyb (c : Dev nD) : Mat 4128 4096 := nt (arg1 m c) (arg6 m c)

/-- The half of the output projection's gradient sent away. -/
def dwoutTheirs (c : Dev nD) : Mat 4096 2048 := tn (mixed m c) (piece 0 2048 (a := 4128) (b := 2048) (c := 4128) (d := 4096) (by decide) (by decide) (arg1 m c))

/-- The gradient at the gate. -/
def dgate (c : Dev nD) : Mat 4128 2048 := gateOut (u m c) (dyb m c) (arg3 m c)

/-- The gradient at the first factor. -/
def dfac1 (c : Dev nD) : Mat 4128 2048 := cOut (u m c) (dyb m c) (arg3 m c)

/-- The gradient at the second factor. -/
def dfac2 (c : Dev nD) : Mat 4128 2048 := xOut (u m c) (dyb m c) (arg3 m c)

/-- The taps' gradient. -/
def dtaps (c : Dev nD) : ArrW := tapOut (u m c) (dyb m c)

/-- The gradient at the pooling's input. -/
def dzb (c : Dev nD) : Mat 4128 2048 := poolDz (dyb m c) (arg4 m c) (arg5 m c)

/-- The gradient of the groups' matrices. -/
def dpw (c : Dev nD) : FVec Ideal (⟨4, ![4, 4, 128, 512]⟩ : Shape) .f32 := poolDw (dpool m c) (dyb m c) (arg5 m c)

/-- The gradient of the scale. -/
def dps (c : Dev nD) : ArrS := poolDs (dpool m c) (dyb m c) (arg4 m c)

/-- The gradient at the input projection. -/
def dins (c : Dev nD) : Mat 4128 8192 := beside4 (dgate m c) (dfac1 m c) (dfac2 m c) (dzb m c)

/-- The half of the output projection's gradient kept, with the neighbour's share. -/
def dwoutMine (c : Dev nD) : Mat 4096 2048 := plus (tn (mixed m c) (piece 0 0 (a := 4128) (b := 2048) (c := 4128) (d := 4096) (by decide) (by decide) (arg1 m c))) (arg7 m c)

/-- The half of the input projection's gradient sent away. -/
def dwinTheirs (c : Dev nD) : Mat 2048 8192 := tn (piece 0 2048 (a := 4128) (b := 2048) (c := 4128) (d := 4096) (by decide) (by decide) (arg0 m c)) (dins m c)

/-- The gradient at the input, after the first half of the sum. -/
def dh0 (c : Dev nD) : Mat 4128 4096 := nt (piece 0 0 (a := 4128) (b := 4096) (c := 4128) (d := 8192) (by decide) (by decide) (dins m c)) (piece 0 0 (a := 4096) (b := 4096) (c := 4096) (d := 8192) (by decide) (by decide) (arg2 m c))

/-- The gradient at the input. -/
def dh1 (c : Dev nD) : Mat 4128 4096 := plus (nt (piece 0 4096 (a := 4128) (b := 4096) (c := 4128) (d := 8192) (by decide) (by decide) (dins m c)) (piece 0 4096 (a := 4096) (b := 4096) (c := 4096) (d := 8192) (by decide) (by decide) (arg2 m c))) (dh0 m c)

/-- The half of the input projection's gradient kept, with the neighbour's share. -/
def dwinMine (c : Dev nD) : Mat 2048 8192 := plus (tn (piece 0 0 (a := 4128) (b := 2048) (c := 4128) (d := 4096) (by decide) (by decide) (arg0 m c)) (dins m c)) (arg8 m c)

/-! ## What each array holds when a call begins -/

theorem v0_1 (c : Dev nD) : W1 m ρ c (Proc.devRef .tc main_v0) = u m c := by
  refine (W1_arr m ρ c 2).trans ((InOut.final0 (V0 m ρ) c).trans ?_)
  unfold InOut.result0 u
  rfl
theorem v0_2 (c : Dev nD) : W2 m ρ c (Proc.devRef .tc main_v0) = u m c :=
  (W2_of m ρ c main_v0 (by decide +kernel)).trans (v0_1 m ρ c)
theorem v0_7 (c : Dev nD) : W7 m ρ c (Proc.devRef .tc main_v0) = u m c :=
  (W7_of m ρ c main_v0 (by decide +kernel)).trans <| (W6_of m ρ c main_v0 (by decide +kernel)).trans <|
    (W5_of m ρ c main_v0 (by decide +kernel)).trans <| (W4_of m ρ c main_v0 (by decide +kernel)).trans <|
    (W3_of m ρ c main_v0 (by decide +kernel)).trans <| v0_2 m ρ c

theorem v1_2 (c : Dev nD) : W2 m ρ c (Proc.devRef .tc main_v1) = convY m c := by
  refine (W2_arr m ρ c 4).trans ((ConvFwd.final4 (V1 m ρ) c).trans ?_)
  unfold convY
  dsimp only [ConvFwd.argU, ConvFwd.argW]
  rw [show V1 m ρ c main_v0 = _ from v0_1 m ρ c]
  rw [show V1 m ρ c main_arg3 = arg3 m c from W1_args m ρ c main_arg3 (by simp [argRefs])]
theorem v1_3 (c : Dev nD) : W3 m ρ c (Proc.devRef .tc main_v1) = convY m c :=
  (W3_of m ρ c main_v1 (by decide +kernel)).trans (v1_2 m ρ c)

theorem v2_0_3 (c : Dev nD) : W3 m ρ c (Proc.devRef .tc main_v2_0) = poolY m c := by
  refine (W3_arr m ρ c 3).trans ((PoolFwd.final3 (V2 m ρ) c).trans ?_)
  unfold poolY
  dsimp only [PoolFwd.argU, PoolFwd.argP, PoolFwd.argS]
  rw [show V2 m ρ c main_v0 = _ from v0_2 m ρ c]
  rw [show V2 m ρ c main_arg4 = arg4 m c from W2_args m ρ c main_arg4 (by simp [argRefs])]
  rw [show V2 m ρ c main_arg5 = arg5 m c from W2_args m ρ c main_arg5 (by simp [argRefs])]
  rfl

theorem v2_1_3 (c : Dev nD) : W3 m ρ c (Proc.devRef .tc main_v2_1) = dpool m c := by
  refine (W3_arr m ρ c 4).trans ((PoolFwd.final4 (V2 m ρ) c).trans ?_)
  unfold dpool
  dsimp only [PoolFwd.argU, PoolFwd.argP, PoolFwd.argS]
  rw [show V2 m ρ c main_v0 = _ from v0_2 m ρ c]
theorem v2_1_8 (c : Dev nD) : W8 m ρ c (Proc.devRef .tc main_v2_1) = dpool m c :=
  (W8_of m ρ c main_v2_1 (by decide +kernel)).trans <| (W7_of m ρ c main_v2_1 (by decide +kernel)).trans <|
    (W6_of m ρ c main_v2_1 (by decide +kernel)).trans <| (W5_of m ρ c main_v2_1 (by decide +kernel)).trans <|
    (W4_of m ρ c main_v2_1 (by decide +kernel)).trans <| v2_1_3 m ρ c

theorem v3_4 (c : Dev nD) : W4 m ρ c (Proc.devRef .tc main_v3) = mixed m c := by
  show StableHlo.after hostOps3 (W3 m ρ c) (Proc.devRef .tc main_v3) = _
  unfold hostOps3
  rw [StableHlo.after_cons, StableHlo.after_nil]
  refine (StableHlo.binary_result _ _ _ _ _ _ _ _).trans ?_
  refine (join_two (W3 m ρ c (Proc.devRef .tc main_v1)) (W3 m ρ c (Proc.devRef .tc main_v2_0)) concatenates_S4128x2048_S4128x2048_S4128x4096_d1).trans ?_
  exact congrArg₂ beside (v1_3 m ρ c) (v2_0_3 m ρ c)
theorem v3_6 (c : Dev nD) : W6 m ρ c (Proc.devRef .tc main_v3) = mixed m c :=
  (W6_of m ρ c main_v3 (by decide +kernel)).trans <| (W5_of m ρ c main_v3 (by decide +kernel)).trans <| v3_4 m ρ c
theorem v3_10 (c : Dev nD) : W10 m ρ c (Proc.devRef .tc main_v3) = mixed m c :=
  (W10_of m ρ c main_v3 (by decide +kernel)).trans <| (W9_of m ρ c main_v3 (by decide +kernel)).trans <|
    (W8_of m ρ c main_v3 (by decide +kernel)).trans <| (W7_of m ρ c main_v3 (by decide +kernel)).trans <| v3_6 m ρ c

theorem v4_5 (c : Dev nD) : W5 m ρ c (Proc.devRef .tc main_v4) = outp m c := by
  refine (W5_arr m ρ c 2).trans ((InOut.final3 (V4 m ρ) c).trans ?_)
  unfold InOut.result3 outp
  rw [show V4 m ρ c main_v3 = _ from v3_4 m ρ c]
  rw [show V4 m ρ c main_arg6 = arg6 m c from W4_args m ρ c main_arg6 (by simp [argRefs])]
theorem v4_15 (c : Dev nD) : W15 m ρ c (Proc.devRef .tc main_v4) = outp m c :=
  (W15_of m ρ c main_v4 (by decide +kernel)).trans <| (W14_of m ρ c main_v4 (by decide +kernel)).trans <|
    (W13_of m ρ c main_v4 (by decide +kernel)).trans <| (W12_of m ρ c main_v4 (by decide +kernel)).trans <|
    (W11_of m ρ c main_v4 (by decide +kernel)).trans <| (W10_of m ρ c main_v4 (by decide +kernel)).trans <|
    (W9_of m ρ c main_v4 (by decide +kernel)).trans <| (W8_of m ρ c main_v4 (by decide +kernel)).trans <|
    (W7_of m ρ c main_v4 (by decide +kernel)).trans <| (W6_of m ρ c main_v4 (by decide +kernel)).trans <| v4_5 m ρ c

theorem v5_6 (c : Dev nD) : W6 m ρ c (Proc.devRef .tc main_v5) = dyb m c := by
  refine (W6_arr m ρ c 2).trans ((Dy.final4 (V5 m ρ) c).trans ?_)
  unfold Dy.result4 dyb
  rw [show V5 m ρ c main_arg1 = arg1 m c from W5_args m ρ c main_arg1 (by simp [argRefs])]
  rw [show V5 m ρ c main_arg6 = arg6 m c from W5_args m ρ c main_arg6 (by simp [argRefs])]
theorem v5_7 (c : Dev nD) : W7 m ρ c (Proc.devRef .tc main_v5) = dyb m c :=
  (W7_of m ρ c main_v5 (by decide +kernel)).trans (v5_6 m ρ c)
theorem v5_8 (c : Dev nD) : W8 m ρ c (Proc.devRef .tc main_v5) = dyb m c :=
  (W8_of m ρ c main_v5 (by decide +kernel)).trans (v5_7 m ρ c)

theorem v6_7 (c : Dev nD) : W7 m ρ c (Proc.devRef .tc main_v6) = dwoutTheirs m c := by
  refine (W7_arr m ρ c 2).trans ((Dwout.final5 (V6 m ρ) c).trans ?_)
  unfold Dwout.result5 dwoutTheirs
  rw [show V6 m ρ c main_v3 = _ from v3_6 m ρ c]
  rw [show V6 m ρ c main_arg1 = arg1 m c from W6_args m ρ c main_arg1 (by simp [argRefs])]
theorem v6_15 (c : Dev nD) : W15 m ρ c (Proc.devRef .tc main_v6) = dwoutTheirs m c :=
  (W15_of m ρ c main_v6 (by decide +kernel)).trans <| (W14_of m ρ c main_v6 (by decide +kernel)).trans <|
    (W13_of m ρ c main_v6 (by decide +kernel)).trans <| (W12_of m ρ c main_v6 (by decide +kernel)).trans <|
    (W11_of m ρ c main_v6 (by decide +kernel)).trans <| (W10_of m ρ c main_v6 (by decide +kernel)).trans <|
    (W9_of m ρ c main_v6 (by decide +kernel)).trans <| (W8_of m ρ c main_v6 (by decide +kernel)).trans <| v6_7 m ρ c

theorem v7_0_8 (c : Dev nD) : W8 m ρ c (Proc.devRef .tc main_v7_0) = dgate m c := by
  refine (W8_arr m ρ c 5).trans ((ConvB.final5 (V7 m ρ) c).trans ?_)
  unfold dgate
  dsimp only [ConvB.argU, ConvB.argD, ConvB.argW]
  rw [show V7 m ρ c main_v0 = _ from v0_7 m ρ c]
  rw [show V7 m ρ c main_v5 = _ from v5_7 m ρ c]
  rw [show V7 m ρ c main_arg3 = arg3 m c from W7_args m ρ c main_arg3 (by simp [argRefs])]
theorem v7_0_9 (c : Dev nD) : W9 m ρ c (Proc.devRef .tc main_v7_0) = dgate m c :=
  (W9_of m ρ c main_v7_0 (by decide +kernel)).trans (v7_0_8 m ρ c)

theorem v7_1_8 (c : Dev nD) : W8 m ρ c (Proc.devRef .tc main_v7_1) = dfac1 m c := by
  refine (W8_arr m ρ c 6).trans ((ConvB.final6 (V7 m ρ) c).trans ?_)
  unfold dfac1
  dsimp only [ConvB.argU, ConvB.argD, ConvB.argW]
  rw [show V7 m ρ c main_v0 = _ from v0_7 m ρ c]
  rw [show V7 m ρ c main_v5 = _ from v5_7 m ρ c]
  rw [show V7 m ρ c main_arg3 = arg3 m c from W7_args m ρ c main_arg3 (by simp [argRefs])]
theorem v7_1_9 (c : Dev nD) : W9 m ρ c (Proc.devRef .tc main_v7_1) = dfac1 m c :=
  (W9_of m ρ c main_v7_1 (by decide +kernel)).trans (v7_1_8 m ρ c)

theorem v7_2_8 (c : Dev nD) : W8 m ρ c (Proc.devRef .tc main_v7_2) = dfac2 m c := by
  refine (W8_arr m ρ c 7).trans ((ConvB.final7 (V7 m ρ) c).trans ?_)
  unfold dfac2
  dsimp only [ConvB.argU, ConvB.argD, ConvB.argW]
  rw [show V7 m ρ c main_v0 = _ from v0_7 m ρ c]
  rw [show V7 m ρ c main_v5 = _ from v5_7 m ρ c]
  rw [show V7 m ρ c main_arg3 = arg3 m c from W7_args m ρ c main_arg3 (by simp [argRefs])]
theorem v7_2_9 (c : Dev nD) : W9 m ρ c (Proc.devRef .tc main_v7_2) = dfac2 m c :=
  (W9_of m ρ c main_v7_2 (by decide +kernel)).trans (v7_2_8 m ρ c)

theorem v7_3_8 (c : Dev nD) : W8 m ρ c (Proc.devRef .tc main_v7_3) = dtaps m c := by
  refine (W8_arr m ρ c 8).trans ((ConvB.final8 (V7 m ρ) c).trans ?_)
  unfold dtaps
  dsimp only [ConvB.argU, ConvB.argD, ConvB.argW]
  rw [show V7 m ρ c main_v0 = _ from v0_7 m ρ c]
  rw [show V7 m ρ c main_v5 = _ from v5_7 m ρ c]
theorem v7_3_15 (c : Dev nD) : W15 m ρ c (Proc.devRef .tc main_v7_3) = dtaps m c :=
  (W15_of m ρ c main_v7_3 (by decide +kernel)).trans <| (W14_of m ρ c main_v7_3 (by decide +kernel)).trans <|
    (W13_of m ρ c main_v7_3 (by decide +kernel)).trans <| (W12_of m ρ c main_v7_3 (by decide +kernel)).trans <|
    (W11_of m ρ c main_v7_3 (by decide +kernel)).trans <| (W10_of m ρ c main_v7_3 (by decide +kernel)).trans <|
    (W9_of m ρ c main_v7_3 (by decide +kernel)).trans <| v7_3_8 m ρ c

theorem v8_0_9 (c : Dev nD) : W9 m ρ c (Proc.devRef .tc main_v8_0) = dzb m c := by
  refine (W9_arr m ρ c 4).trans ((PoolBwd.final4 (V8 m ρ) c).trans ?_)
  unfold dzb
  dsimp only [PoolBwd.argD, PoolBwd.argY, PoolBwd.argP, PoolBwd.argS]
  rw [show V8 m ρ c main_v5 = _ from v5_8 m ρ c]
  rw [show V8 m ρ c main_arg4 = arg4 m c from W8_args m ρ c main_arg4 (by simp [argRefs])]
  rw [show V8 m ρ c main_arg5 = arg5 m c from W8_args m ρ c main_arg5 (by simp [argRefs])]

theorem v8_1_9 (c : Dev nD) : W9 m ρ c (Proc.devRef .tc main_v8_1) = dpw m c := by
  refine (W9_arr m ρ c 5).trans ((PoolBwd.final5 (V8 m ρ) c).trans ?_)
  unfold dpw
  dsimp only [PoolBwd.argD, PoolBwd.argY, PoolBwd.argP, PoolBwd.argS]
  rw [show V8 m ρ c main_v2_1 = _ from v2_1_8 m ρ c]
  rw [show V8 m ρ c main_v5 = _ from v5_8 m ρ c]
  rw [show V8 m ρ c main_arg5 = arg5 m c from W8_args m ρ c main_arg5 (by simp [argRefs])]
theorem v8_1_15 (c : Dev nD) : W15 m ρ c (Proc.devRef .tc main_v8_1) = dpw m c :=
  (W15_of m ρ c main_v8_1 (by decide +kernel)).trans <| (W14_of m ρ c main_v8_1 (by decide +kernel)).trans <|
    (W13_of m ρ c main_v8_1 (by decide +kernel)).trans <| (W12_of m ρ c main_v8_1 (by decide +kernel)).trans <|
    (W11_of m ρ c main_v8_1 (by decide +kernel)).trans <| (W10_of m ρ c main_v8_1 (by decide +kernel)).trans <| v8_1_9 m ρ c

theorem v8_2_9 (c : Dev nD) : W9 m ρ c (Proc.devRef .tc main_v8_2) = dps m c := by
  refine (W9_arr m ρ c 6).trans ((PoolBwd.final6 (V8 m ρ) c).trans ?_)
  unfold dps
  dsimp only [PoolBwd.argD, PoolBwd.argY, PoolBwd.argP, PoolBwd.argS]
  rw [show V8 m ρ c main_v2_1 = _ from v2_1_8 m ρ c]
  rw [show V8 m ρ c main_v5 = _ from v5_8 m ρ c]
  rw [show V8 m ρ c main_arg4 = arg4 m c from W8_args m ρ c main_arg4 (by simp [argRefs])]
theorem v8_2_15 (c : Dev nD) : W15 m ρ c (Proc.devRef .tc main_v8_2) = dps m c :=
  (W15_of m ρ c main_v8_2 (by decide +kernel)).trans <| (W14_of m ρ c main_v8_2 (by decide +kernel)).trans <|
    (W13_of m ρ c main_v8_2 (by decide +kernel)).trans <| (W12_of m ρ c main_v8_2 (by decide +kernel)).trans <|
    (W11_of m ρ c main_v8_2 (by decide +kernel)).trans <| (W10_of m ρ c main_v8_2 (by decide +kernel)).trans <| v8_2_9 m ρ c

theorem v9_10 (c : Dev nD) : W10 m ρ c (Proc.devRef .tc main_v9) = dins m c := by
  show StableHlo.after hostOps8 (W9 m ρ c) (Proc.devRef .tc main_v9) = _
  unfold hostOps8
  rw [StableHlo.after_cons, StableHlo.after_nil]
  refine (StableHlo.nary_result _ _ _ _ _ _).trans ?_
  refine (join_four (W9 m ρ c (Proc.devRef .tc main_v7_0)) (W9 m ρ c (Proc.devRef .tc main_v7_1)) (W9 m ρ c (Proc.devRef .tc main_v7_2))
    (W9 m ρ c (Proc.devRef .tc main_v8_0)) concatenates_S4128x2048_S4128x2048_S4128x2048_S4128x2048_S4128x8192_d1).trans ?_
  rw [v7_0_9 m ρ c, v7_1_9 m ρ c, v7_2_9 m ρ c, v8_0_9 m ρ c]
  rfl
theorem v9_11 (c : Dev nD) : W11 m ρ c (Proc.devRef .tc main_v9) = dins m c :=
  (W11_of m ρ c main_v9 (by decide +kernel)).trans (v9_10 m ρ c)
theorem v9_12 (c : Dev nD) : W12 m ρ c (Proc.devRef .tc main_v9) = dins m c :=
  (W12_of m ρ c main_v9 (by decide +kernel)).trans (v9_11 m ρ c)
theorem v9_13 (c : Dev nD) : W13 m ρ c (Proc.devRef .tc main_v9) = dins m c :=
  (W13_of m ρ c main_v9 (by decide +kernel)).trans (v9_12 m ρ c)
theorem v9_14 (c : Dev nD) : W14 m ρ c (Proc.devRef .tc main_v9) = dins m c :=
  (W14_of m ρ c main_v9 (by decide +kernel)).trans (v9_13 m ρ c)

theorem v10_11 (c : Dev nD) : W11 m ρ c (Proc.devRef .tc main_v10) = dwoutMine m c := by
  refine (W11_arr m ρ c 3).trans ((Dwout.final8 (V10 m ρ) c).trans ?_)
  unfold Dwout.result8 dwoutMine
  rw [show V10 m ρ c main_v3 = _ from v3_10 m ρ c]
  rw [show V10 m ρ c main_arg1 = arg1 m c from W10_args m ρ c main_arg1 (by simp [argRefs])]
  rw [show V10 m ρ c main_arg7 = arg7 m c from W10_args m ρ c main_arg7 (by simp [argRefs])]
theorem v10_15 (c : Dev nD) : W15 m ρ c (Proc.devRef .tc main_v10) = dwoutMine m c :=
  (W15_of m ρ c main_v10 (by decide +kernel)).trans <| (W14_of m ρ c main_v10 (by decide +kernel)).trans <|
    (W13_of m ρ c main_v10 (by decide +kernel)).trans <| (W12_of m ρ c main_v10 (by decide +kernel)).trans <| v10_11 m ρ c

theorem v11_12 (c : Dev nD) : W12 m ρ c (Proc.devRef .tc main_v11) = dwinTheirs m c := by
  refine (W12_arr m ρ c 2).trans ((Dwin.final9 (V11 m ρ) c).trans ?_)
  unfold Dwin.result9 dwinTheirs
  rw [show V11 m ρ c main_arg0 = arg0 m c from W11_args m ρ c main_arg0 (by simp [argRefs])]
  rw [show V11 m ρ c main_v9 = _ from v9_11 m ρ c]
theorem v11_15 (c : Dev nD) : W15 m ρ c (Proc.devRef .tc main_v11) = dwinTheirs m c :=
  (W15_of m ρ c main_v11 (by decide +kernel)).trans <| (W14_of m ρ c main_v11 (by decide +kernel)).trans <|
    (W13_of m ρ c main_v11 (by decide +kernel)).trans <| v11_12 m ρ c

theorem v12_13 (c : Dev nD) : W13 m ρ c (Proc.devRef .tc main_v12) = dh0 m c := by
  refine (W13_arr m ρ c 2).trans ((Dh.final10 (V12 m ρ) c).trans ?_)
  unfold Dh.result10 dh0
  rw [show V12 m ρ c main_v9 = _ from v9_12 m ρ c]
  rw [show V12 m ρ c main_arg2 = arg2 m c from W12_args m ρ c main_arg2 (by simp [argRefs])]

theorem v13_14 (c : Dev nD) : W14 m ρ c (Proc.devRef .tc main_v13) = dh1 m c := by
  refine (W14_arr m ρ c 3).trans ((Dh.final11 (V13 m ρ) c).trans ?_)
  unfold Dh.result11 dh1
  rw [show V13 m ρ c main_v9 = _ from v9_13 m ρ c]
  rw [show V13 m ρ c main_arg2 = arg2 m c from W13_args m ρ c main_arg2 (by simp [argRefs])]
  rw [show V13 m ρ c main_v12 = _ from v12_13 m ρ c]
theorem v13_15 (c : Dev nD) : W15 m ρ c (Proc.devRef .tc main_v13) = dh1 m c :=
  (W15_of m ρ c main_v13 (by decide +kernel)).trans (v13_14 m ρ c)

theorem v14_15 (c : Dev nD) : W15 m ρ c (Proc.devRef .tc main_v14) = dwinMine m c := by
  refine (W15_arr m ρ c 3).trans ((Dwin.final12 (V14 m ρ) c).trans ?_)
  unfold Dwin.result12 dwinMine
  rw [show V14 m ρ c main_arg0 = arg0 m c from W14_args m ρ c main_arg0 (by simp [argRefs])]
  rw [show V14 m ρ c main_v9 = _ from v9_14 m ρ c]
  rw [show V14 m ρ c main_arg8 = arg8 m c from W14_args m ρ c main_arg8 (by simp [argRefs])]

/-! ## The run -/

set_option backward.isDefEq.respectTransparency.types false in
/-- Every run ends, with the results at these functions of the arguments and the arguments kept. -/
theorem run : θ_run defs (onTc (τ := τ) (main (F := Ideal))) ⟨m, fun _ => 0, ρ⟩ (fun r => ∀ c : Dev nD,
      r.2.mem (c.tc.loc main_v4) = outp m c
      ∧ r.2.mem (c.tc.loc main_v13) = dh1 m c
      ∧ r.2.mem (c.tc.loc main_v7_3) = dtaps m c
      ∧ r.2.mem (c.tc.loc main_v8_1) = dpw m c
      ∧ r.2.mem (c.tc.loc main_v8_2) = dps m c
      ∧ r.2.mem (c.tc.loc main_v6) = dwoutTheirs m c
      ∧ r.2.mem (c.tc.loc main_v10) = dwoutMine m c
      ∧ r.2.mem (c.tc.loc main_v11) = dwinTheirs m c
      ∧ r.2.mem (c.tc.loc main_v14) = dwinMine m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => fun c =>
      ⟨(h c _ (mem_uc main_v4 (by decide))).trans (v4_15 m ρ c),
       (h c _ (mem_uc main_v13 (by decide))).trans (v13_15 m ρ c),
       (h c _ (mem_uc main_v7_3 (by decide))).trans (v7_3_15 m ρ c),
       (h c _ (mem_uc main_v8_1 (by decide))).trans (v8_1_15 m ρ c),
       (h c _ (mem_uc main_v8_2 (by decide))).trans (v8_2_15 m ρ c),
       (h c _ (mem_uc main_v6 (by decide))).trans (v6_15 m ρ c),
       (h c _ (mem_uc main_v10 (by decide))).trans (v10_15 m ρ c),
       (h c _ (mem_uc main_v11 (by decide))).trans (v11_15 m ρ c),
       (h c _ (mem_uc main_v14 (by decide))).trans (v14_15 m ρ c),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.MixerIdeal.Run

end
-- ==== Proof.MixerRefConv.lean ====
/-
  The convolution's share of the mixer's reference, read at an index, over the input projection and the incoming gradient
  at the mixed columns.
-/
module

public import proofs.«01_k».proof.Proof.Gen.MixerRefIdeal.Read
public import proofs.«01_k».proof.Proof.MixerSpec
public import proofs.«01_k».proof.Proof.ConvReference
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MixerRefIdeal.Reference

open Cert.MixerRefIdeal Cert.MixerRefIdeal.Gen Cert.MixerRefIdeal.Read Cert.ConvSpec Cert.MixerSpec Cert.Products

variable (x0 x1 : FVec Ideal S4128x4096 .bf16) (x2 : FVec Ideal S4096x8192 .bf16) (x3 : FVec Ideal S3x2048 .f32)
  (x6 : FVec Ideal S4096x4096 .bf16) (s : Fin 2) (r : Fin 2064) (d : Fin 2048)

/-- The input projection. -/
abbrev uu : Mat 4128 8192 := val_main_v4 (F := Ideal) x0 x2

/-- The gradient at the mixed columns. -/
abbrev dd : Mat 4128 4096 := val_main_v85 (F := Ideal) x1 x6

/-! ## The operands -/

theorem v6_apply : val_main_v6 (F := Ideal) x0 x2 (ix3 s r d) = gateCol (uu x0 x2) s d r := by
  unfold gateCol rowOf
  pointwise [val_main_v6, val_main_v5]

theorem v7_apply : val_main_v7 (F := Ideal) x0 x2 (ix3 s r d) = cCol (uu x0 x2) s d r := by
  unfold cCol rowOf
  pointwise [val_main_v7, val_main_v5]

theorem v8_apply : val_main_v8 (F := Ideal) x0 x2 (ix3 s r d) = xCol (uu x0 x2) s d r := by
  unfold xCol rowOf
  pointwise [val_main_v8, val_main_v5]

theorem v9_apply : val_main_v9 (F := Ideal) x0 x2 (ix3 s r d) = cCol (uu x0 x2) s d r * xCol (uu x0 x2) s d r := by
  rw [← v7_apply, ← v8_apply]
  pointwise [val_main_v9]

theorem v109_apply : val_main_v109 (F := Ideal) x1 x6 (ix3 s r d) = dyCol (dd x1 x6) s d r := by
  unfold dyCol rowOf
  pointwise [val_main_v109, val_main_v86]

theorem v110_apply : val_main_v110 (F := Ideal) x0 x1 x2 x6 (ix3 s r d) = dyCol (dd x1 x6) s d r * gateCol (uu x0 x2) s d r := by
  rw [mul_comm, ← v6_apply, ← v109_apply]
  pointwise [val_main_v110]

/-- The product with two rows of zeros before it, read `k` rows before row `r`. -/
theorem v13_apply : val_main_v13 (F := Ideal) x0 x2 (ix3 s r d) = past 2 (fun k => cCol (uu x0 x2) s d k * xCol (uu x0 x2) s d k) r := by
  unfold past
  by_cases h : r.val < 2
  · rw [if_neg (by omega)]
    pointwise [val_main_v13, val_main_v11, val_main_v10, val_main_cst]
    rw [dif_pos (by omega)]
  · rw [if_pos (by omega)]
    beta_reduce
    rw [← v9_apply]
    pointwise [val_main_v13, val_main_v11, val_main_v10, val_main_cst]
    rw [dif_neg (by omega)]

theorem v19_apply : val_main_v19 (F := Ideal) x0 x2 (ix3 s r d) = past 1 (fun k => cCol (uu x0 x2) s d k * xCol (uu x0 x2) s d k) r := by
  unfold past
  by_cases h : r.val < 1
  · rw [if_neg (by omega)]
    pointwise [val_main_v19, val_main_v11, val_main_v10, val_main_cst]
    rw [dif_pos (by omega)]
  · rw [if_pos (by omega)]
    beta_reduce
    rw [← v9_apply]
    pointwise [val_main_v19, val_main_v11, val_main_v10, val_main_cst]
    rw [dif_neg (by omega)]
    exact congrArg (fun q => val_main_v9 (F := Ideal) x0 x2 (ix3 s q d)) (Fin.ext (by show 1 + r.val - 2 = r.val - 1; omega))

theorem v26_apply : val_main_v26 (F := Ideal) x0 x2 (ix3 s r d) = cCol (uu x0 x2) s d r * xCol (uu x0 x2) s d r := by
  rw [← v9_apply]
  pointwise [val_main_v26, val_main_v11, val_main_v10, val_main_cst]

theorem v17_apply : val_main_v17 (F := Ideal) x3 (ix3 s r d) = tapCol x3 d 0 := by
  unfold tapCol
  pointwise [val_main_v17, val_main_v16, val_main_v15, val_main_v14]

theorem v23_apply : val_main_v23 (F := Ideal) x3 (ix3 s r d) = tapCol x3 d 1 := by
  unfold tapCol
  pointwise [val_main_v23, val_main_v22, val_main_v21, val_main_v20]

theorem v30_apply : val_main_v30 (F := Ideal) x3 (ix3 s r d) = tapCol x3 d 2 := by
  unfold tapCol
  pointwise [val_main_v30, val_main_v29, val_main_v28, val_main_v27]

/-! ## The gate's gradient -/

theorem v32_apply : val_main_v32 (F := Ideal) x0 x2 x3 (ix3 s r d) = conv (tapCol x3 d) (fun k => cCol (uu x0 x2) s d k * xCol (uu x0 x2) s d k) r := by
  have e : val_main_v32 (F := Ideal) x0 x2 x3 (ix3 s r d) = (val_main_v13 (F := Ideal) x0 x2 (ix3 s r d) * val_main_v17 (F := Ideal) x3 (ix3 s r d)
      + val_main_v19 (F := Ideal) x0 x2 (ix3 s r d) * val_main_v23 (F := Ideal) x3 (ix3 s r d)) + val_main_v26 (F := Ideal) x0 x2 (ix3 s r d) * val_main_v30 (F := Ideal) x3 (ix3 s r d) := by
    pointwise [val_main_v32, val_main_v25, val_main_v18, val_main_v24, val_main_v31]
  rw [e, v13_apply, v19_apply, v26_apply, v17_apply, v23_apply, v30_apply]
  exact congrArg₂ (fun p q : EReal => p + q) (congrArg₂ (fun p q : EReal => p + q) (mul_comm _ _) (mul_comm _ _)) (mul_comm _ _)

theorem v111_apply : val_main_v111 (F := Ideal) x0 x1 x2 x3 x6 (ix3 s r d) = gateGrad (tapCol x3 d) (cCol (uu x0 x2) s d) (xCol (uu x0 x2) s d) (dyCol (dd x1 x6) s d) r := by
  unfold gateGrad
  rw [← v32_apply, ← v109_apply]
  pointwise [val_main_v111]

/-! ## The factors' gradients -/

theorem v116_apply : val_main_v116 (F := Ideal) x0 x1 x2 x3 x6 (ix3 s r d) = tapCol x3 d 2 * (dyCol (dd x1 x6) s d r * gateCol (uu x0 x2) s d r) := by
  rw [← v110_apply, ← v30_apply x3 s r d, mul_comm]
  pointwise [val_main_v116, val_main_v115, val_main_v30]

theorem v125_apply : val_main_v125 (F := Ideal) x0 x1 x2 x3 x6 (ix3 s r d) = tapCol x3 d 1 * (dyCol (dd x1 x6) s d r * gateCol (uu x0 x2) s d r) := by
  rw [← v110_apply, ← v23_apply x3 s r d, mul_comm]
  pointwise [val_main_v125, val_main_v124, val_main_v23]

theorem v136_apply : val_main_v136 (F := Ideal) x0 x1 x2 x3 x6 (ix3 s r d) = tapCol x3 d 0 * (dyCol (dd x1 x6) s d r * gateCol (uu x0 x2) s d r) := by
  rw [← v110_apply, ← v17_apply x3 s r d, mul_comm]
  pointwise [val_main_v136, val_main_v135, val_main_v17]

theorem v144_apply : val_main_v144 (F := Ideal) x0 x1 x2 x3 x6 (ix3 s r d) = convT (tapCol x3 d) (fun k => dyCol (dd x1 x6) s d k * gateCol (uu x0 x2) s d k) r := by
  have hr := r.isLt
  have e : val_main_v144 (F := Ideal) x0 x1 x2 x3 x6 (ix3 s r d)
      = (val_main_v116 (F := Ideal) x0 x1 x2 x3 x6 (ix3 s r d) + if h : 1 ≤ 2 + r.val ∧ 2 + r.val - 1 < 2064 then val_main_v125 (F := Ideal) x0 x1 x2 x3 x6 (ix3 s ⟨2 + r.val - 1, h.2⟩ d) else 0)
        + if h : 2 + r.val < 2064 then val_main_v136 (F := Ideal) x0 x1 x2 x3 x6 (ix3 s ⟨2 + r.val, h⟩ d) else 0 := by
    pointwise [val_main_v144, val_main_v142, val_main_v141, val_main_v131, val_main_v130, val_main_v120, val_main_cst_8, val_main_cst_12, val_main_cst_16]
  rw [e]
  unfold convT ahead
  rw [v116_apply]
  refine congrArg₂ (fun p q : EReal => p + q) (congrArg (fun p : EReal => tapCol x3 d 2 * (dyCol (dd x1 x6) s d r * gateCol (uu x0 x2) s d r) + p) ?_) ?_
  · by_cases h : r.val + 1 < 2064
    · rw [dif_pos ⟨by omega, by omega⟩, dif_pos h, v125_apply]
      have q : (⟨2 + r.val - 1, by omega⟩ : Fin 2064) = ⟨r.val + 1, h⟩ := Fin.ext (by show 2 + r.val - 1 = r.val + 1; omega)
      rw [q]
    · rw [dif_neg (by omega), dif_neg h, mul_zero]
  · by_cases h : r.val + 2 < 2064
    · rw [dif_pos (by omega), dif_pos h, v136_apply]
      have q : (⟨2 + r.val, by omega⟩ : Fin 2064) = ⟨r.val + 2, h⟩ := Fin.ext (by show 2 + r.val = r.val + 2; omega)
      rw [q]
    · rw [dif_neg (by omega), dif_neg h, mul_zero]

/-! ## The taps' gradient -/

/-- One tap's sum, and the second reduction the program makes over axes of length one. -/
theorem once (x : FVec Ideal S2048 .f32) :
    Ideal.hostReduceAdd reducesTo_S1x1x2048_S2048_d0_1 (shapeCast S1x1x2048 x shapeCasts_S2048_S1x1x2048) 0 (ix1 d) = x (ix1 d) := by
  rw [Cert.ConvRefIdeal.Reference.sum_leading, zero_add, Fin.sum_univ_one, Fin.sum_univ_one]
  pointwise []

theorem v113_apply : val_main_v113 (F := Ideal) x0 x1 x2 x6 (ix1 d) = ∑ s : Fin 2, tapGrad 0 (gateCol (uu x0 x2) s d) (cCol (uu x0 x2) s d) (xCol (uu x0 x2) s d) (dyCol (dd x1 x6) s d) := by
  have e : val_main_v113 (F := Ideal) x0 x1 x2 x6 (ix1 d) = Ideal.hostReduceAdd reducesTo_S2x2064x2048_S2048_d0_1 (val_main_v112 (F := Ideal) x0 x1 x2 x6) 0 (ix1 d) := by
    pointwise [val_main_v113, val_main_cst_5]
  rw [e, Cert.ConvRefIdeal.Reference.sum_leading, zero_add]
  refine Finset.sum_congr rfl fun s _ => Finset.sum_congr rfl fun r _ => ?_
  rw [past_zero, ← v26_apply, ← v110_apply, mul_comm]
  pointwise [val_main_v112]

theorem v122_apply : val_main_v122 (F := Ideal) x0 x1 x2 x6 (ix1 d) = ∑ s : Fin 2, tapGrad 1 (gateCol (uu x0 x2) s d) (cCol (uu x0 x2) s d) (xCol (uu x0 x2) s d) (dyCol (dd x1 x6) s d) := by
  have e : val_main_v122 (F := Ideal) x0 x1 x2 x6 (ix1 d) = Ideal.hostReduceAdd reducesTo_S2x2064x2048_S2048_d0_1 (val_main_v121 (F := Ideal) x0 x1 x2 x6) 0 (ix1 d) := by
    pointwise [val_main_v122, val_main_cst_9]
  rw [e, Cert.ConvRefIdeal.Reference.sum_leading, zero_add]
  refine Finset.sum_congr rfl fun s _ => Finset.sum_congr rfl fun r _ => ?_
  rw [← v19_apply, ← v110_apply, mul_comm]
  pointwise [val_main_v121]

theorem v133_apply : val_main_v133 (F := Ideal) x0 x1 x2 x6 (ix1 d) = ∑ s : Fin 2, tapGrad 2 (gateCol (uu x0 x2) s d) (cCol (uu x0 x2) s d) (xCol (uu x0 x2) s d) (dyCol (dd x1 x6) s d) := by
  have e : val_main_v133 (F := Ideal) x0 x1 x2 x6 (ix1 d) = Ideal.hostReduceAdd reducesTo_S2x2064x2048_S2048_d0_1 (val_main_v132 (F := Ideal) x0 x1 x2 x6) 0 (ix1 d) := by
    pointwise [val_main_v133, val_main_cst_13]
  rw [e, Cert.ConvRefIdeal.Reference.sum_leading, zero_add]
  refine Finset.sum_congr rfl fun s _ => Finset.sum_congr rfl fun r _ => ?_
  rw [← v13_apply, ← v110_apply, mul_comm]
  pointwise [val_main_v132]

theorem v117_apply : val_main_v117 (F := Ideal) x0 x1 x2 x6 (ix1 d) = val_main_v113 (F := Ideal) x0 x1 x2 x6 (ix1 d) := by
  refine Eq.trans ?_ (once d (val_main_v113 (F := Ideal) x0 x1 x2 x6))
  pointwise [val_main_v117, val_main_v114, val_main_cst_6]

theorem v126_apply : val_main_v126 (F := Ideal) x0 x1 x2 x6 (ix1 d) = val_main_v122 (F := Ideal) x0 x1 x2 x6 (ix1 d) := by
  refine Eq.trans ?_ (once d (val_main_v122 (F := Ideal) x0 x1 x2 x6))
  pointwise [val_main_v126, val_main_v123, val_main_cst_10]

theorem v137_apply : val_main_v137 (F := Ideal) x0 x1 x2 x6 (ix1 d) = val_main_v133 (F := Ideal) x0 x1 x2 x6 (ix1 d) := by
  refine Eq.trans ?_ (once d (val_main_v133 (F := Ideal) x0 x1 x2 x6))
  pointwise [val_main_v137, val_main_v134, val_main_cst_14]

theorem v140_at (k : Fin 3) : val_main_v140 (F := Ideal) x0 x1 x2 x6 (ix2 k d)
    = ((if 2 ≤ k.val ∧ k.val - 2 < 1 then val_main_v117 (F := Ideal) x0 x1 x2 x6 (ix1 d) else 0) + (if 1 ≤ k.val ∧ k.val - 1 < 1 then val_main_v126 (F := Ideal) x0 x1 x2 x6 (ix1 d) else 0))
      + (if k.val < 1 then val_main_v137 (F := Ideal) x0 x1 x2 x6 (ix1 d) else 0) := by
  pointwise [val_main_v140, val_main_v139, val_main_v138, val_main_v129, val_main_v128, val_main_v127, val_main_v119, val_main_v118, val_main_cst_7, val_main_cst_11, val_main_cst_15]
  simp only [dite_eq_ite]

theorem v140_eq_tapOut : val_main_v140 (F := Ideal) x0 x1 x2 x6 = tapOut (uu x0 x2) (dd x1 x6) := by
  funext i
  obtain ⟨k, d, rfl⟩ : ∃ (k : Fin 3) (d : Fin 2048), i = ix2 k d := ⟨i 0, i 1, by funext a; fin_cases a <;> rfl⟩
  rw [v140_at, v117_apply, v126_apply, v137_apply]
  show _ = ∑ s : Fin 2, tapGrad (2 - k.val) (gateCol (uu x0 x2) s d) (cCol (uu x0 x2) s d) (xCol (uu x0 x2) s d) (dyCol (dd x1 x6) s d)
  match k with
  | 0 => rw [if_neg (by decide), if_neg (by decide), if_pos (by decide), zero_add, zero_add, v133_apply]; rfl
  | 1 => rw [if_neg (by decide), if_pos (by decide), if_neg (by decide), zero_add, add_zero, v122_apply]; rfl
  | 2 => rw [if_pos (by decide), if_neg (by decide), if_neg (by decide), add_zero, add_zero, v113_apply]; rfl

/-- The gated convolution. -/
theorem v34_eq : val_main_v34 (F := Ideal) x0 x2 x3 = convFwd (uu x0 x2) x3 := by
  funext i
  obtain ⟨R, d, rfl⟩ := index_eq i
  show _ = gateCol (uu x0 x2) (rowSeq R) d (rowIn R)
    * conv (tapCol x3 d) (fun k => cCol (uu x0 x2) (rowSeq R) d k * xCol (uu x0 x2) (rowSeq R) d k) (rowIn R)
  rw [← v32_apply, ← v6_apply]
  unfold rowSeq rowIn
  pointwise [val_main_v34, val_main_v33]

theorem v146_apply : val_main_v146 (F := Ideal) x0 x1 x2 x3 x6 (ix3 s r d)
    = factorGrad (tapCol x3 d) (gateCol (uu x0 x2) s d) (dyCol (dd x1 x6) s d) (xCol (uu x0 x2) s d) r := by
  unfold factorGrad
  rw [← v144_apply, ← v8_apply]
  pointwise [val_main_v146]

theorem v145_apply : val_main_v145 (F := Ideal) x0 x1 x2 x3 x6 (ix3 s r d)
    = factorGrad (tapCol x3 d) (gateCol (uu x0 x2) s d) (dyCol (dd x1 x6) s d) (cCol (uu x0 x2) s d) r := by
  unfold factorGrad
  rw [← v144_apply, ← v7_apply, mul_comm]
  pointwise [val_main_v145]

end Cert.MixerRefIdeal.Reference

end
-- ==== Proof.MixerRefPool.lean ====
/-
  The pooling's share of the mixer's reference, read at an index: the product with the band of zeros and ones is the sum
  over the trailing window, and the product with its transpose the sum over the following one.
-/
module

public import proofs.«01_k».proof.Proof.MixerRefConv
public import proofs.«01_k».proof.Proof.MixerPoolWords

@[expose] public section

set_option maxRecDepth 16384

noncomputable section

open Idealize.ShloMosaic Idealize.ShloMosaic.TcCoe Idealize.SL.Sem

namespace Cert.MixerRefIdeal.Reference

open Cert.MixerRefIdeal Cert.MixerRefIdeal.Gen Cert.MixerRefIdeal.Read Cert.ConvSpec Cert.MixerSpec Cert.Products

/-! ## The band -/

/-- One where row `s` lies in the window of `w` rows that ends at row `t`, zero elsewhere. -/
def band (w : ℕ) (t s : Fin 2064) : EReal := if s.val ≤ t.val ∧ t.val < s.val + w then 1 else 0

theorem times_band (w : ℕ) (t s : Fin 2064) (x : EReal) : x * band w t s = if s.val ≤ t.val ∧ t.val < s.val + w then x else 0 := by
  unfold band
  split
  · exact mul_one x
  · exact mul_zero x

theorem past_as_sum (j : ℕ) (f : Fin 2064 → EReal) (t : Fin 2064) : past j f t = ∑ s : Fin 2064, if s.val + j = t.val then f s else 0 := by
  unfold past
  by_cases h : j ≤ t.val
  · rw [if_pos h, Finset.sum_eq_single_of_mem (⟨t.val - j, by omega⟩ : Fin 2064) (Finset.mem_univ _)
      (fun s _ hs => if_neg fun e => hs (Fin.ext (by show s.val = t.val - j; omega)))]
    exact (if_pos (by show t.val - j + j = t.val; omega)).symm
  · rw [if_neg h]
    exact (Finset.sum_eq_zero fun s _ => if_neg (by omega)).symm

theorem ahead_as_sum (j : ℕ) (f : Fin 2064 → EReal) (s : Fin 2064) : ahead j f s = ∑ t : Fin 2064, if s.val + j = t.val then f t else 0 := by
  unfold ahead
  by_cases h : s.val + j < 2064
  · rw [dif_pos h, Finset.sum_eq_single_of_mem (⟨s.val + j, h⟩ : Fin 2064) (Finset.mem_univ _)
      (fun t _ ht => if_neg fun e => ht (Fin.ext e.symm))]
    exact (if_pos rfl).symm
  · rw [dif_neg h]
    exact (Finset.sum_eq_zero fun t _ => if_neg (by have := t.isLt; omega)).symm

/-- One offset of the window at most leads from one row to another. -/
theorem offsets (w : ℕ) (t s : Fin 2064) (x : EReal) :
    (∑ j ∈ Finset.range w, if s.val + j = t.val then x else 0) = if s.val ≤ t.val ∧ t.val < s.val + w then x else 0 := by
  by_cases h : s.val ≤ t.val ∧ t.val < s.val + w
  · rw [if_pos h, Finset.sum_eq_single_of_mem (t.val - s.val) (Finset.mem_range.mpr (by omega)) (fun j _ hj => if_neg (by omega))]
    exact if_pos (by omega)
  · rw [if_neg h]
    exact Finset.sum_eq_zero fun j hj => if_neg (by have := Finset.mem_range.mp hj; omega)

theorem behind_band (w : ℕ) (f : Fin 2064 → EReal) (t : Fin 2064) : ∑ s : Fin 2064, f s * band w t s = behind w f t := by
  unfold behind
  simp only [past_as_sum]
  rw [Finset.sum_comm]
  exact Finset.sum_congr rfl fun s _ => (times_band w t s (f s)).trans (offsets w t s (f s)).symm

theorem beyond_band (w : ℕ) (f : Fin 2064 → EReal) (s : Fin 2064) : ∑ t : Fin 2064, f t * band w t s = beyond w f s := by
  unfold beyond
  simp only [ahead_as_sum]
  rw [Finset.sum_comm]
  exact Finset.sum_congr rfl fun t _ => (times_band w t s (f t)).trans (offsets w t s (f t)).symm

/-! ## The words the band is made of -/

theorem window_host (g : Fin 4) : IntOp.shli .host 2#32 (BitVec.ofNat 32 g.val) = BitVec.ofNat 32 (window g) := by
  fin_cases g <;> rfl

/-- The difference of two row numbers as a signed word. -/
theorem back_toInt (t s : Fin 2064) : (IntOp.subi (BitVec.ofNat 32 t.val) (BitVec.ofNat 32 s.val)).toInt = (t.val : ℤ) - s.val := by
  have ht := t.isLt
  have hs := s.isLt
  show (BitVec.ofNat 32 t.val - BitVec.ofNat 32 s.val).toInt = _
  rw [BitVec.toInt_sub, WordCmp.toInt_ofNat_of_lt (w := 32) (by omega), WordCmp.toInt_ofNat_of_lt (w := 32) (by omega)]
  exact Int.bmod_eq_of_le (by omega) (by omega)

theorem band_word (g : Fin 4) (t s : Fin 2064) :
    IntOp.andi (IntOp.cmpi .sge (IntOp.subi (BitVec.ofNat 32 t.val) (BitVec.ofNat 32 s.val)) 0#32)
      (IntOp.cmpi .slt (IntOp.subi (BitVec.ofNat 32 t.val) (BitVec.ofNat 32 s.val)) (BitVec.ofNat 32 (window g)))
      = if s.val ≤ t.val ∧ t.val < s.val + window g then 1#1 else 0#1 := by
  have hw : window g < 2 ^ 31 := by fin_cases g <;> decide
  have h1 : IntOp.cmpi .sge (IntOp.subi (BitVec.ofNat 32 t.val) (BitVec.ofNat 32 s.val)) 0#32 = if s.val ≤ t.val then 1#1 else 0#1 := by
    show BitVec.ofBool ((0#32).sle _) = _
    rw [BitVec.sle_eq_decide, back_toInt]
    by_cases h : s.val ≤ t.val
    · rw [if_pos h, decide_eq_true (show (0#32).toInt ≤ (t.val : ℤ) - s.val from by show (0 : ℤ) ≤ _; omega)]; rfl
    · rw [if_neg h, decide_eq_false (show ¬ (0#32).toInt ≤ (t.val : ℤ) - s.val from by show ¬ (0 : ℤ) ≤ _; omega)]; rfl
  have h2 : IntOp.cmpi .slt (IntOp.subi (BitVec.ofNat 32 t.val) (BitVec.ofNat 32 s.val)) (BitVec.ofNat 32 (window g))
      = if t.val < s.val + window g then 1#1 else 0#1 := by
    show BitVec.ofBool (BitVec.slt _ _) = _
    rw [BitVec.slt_eq_decide, back_toInt, WordCmp.toInt_ofNat_of_lt (w := 32) hw]
    by_cases h : t.val < s.val + window g
    · rw [if_pos h, decide_eq_true (show (t.val : ℤ) - s.val < (window g : ℤ) by omega)]; rfl
    · rw [if_neg h, decide_eq_false (show ¬ (t.val : ℤ) - s.val < (window g : ℤ) by omega)]; rfl
  rw [h1, h2]
  by_cases ha : s.val ≤ t.val <;> by_cases hb : t.val < s.val + window g <;> simp only [ha, hb, if_true, if_false, and_true, true_and, and_false, false_and] <;> rfl

variable (x0 x1 : FVec Ideal S4128x4096 .bf16) (x2 : FVec Ideal S4096x8192 .bf16) (x3 : FVec Ideal S3x2048 .f32)
  (x4 : FVec Ideal S4x512x512 .bf16) (x5 : FVec Ideal S1x2048 .f32)
  (x6 : FVec Ideal S4096x4096 .bf16) (s : Fin 2) (r : Fin 2064) (R : Fin 4128) (g : Fin 4) (l : Fin 512) (d : Fin 2048)

theorem v40_apply (a b : Fin 1) : val_main_v40 (F := Ideal) (ix3 g a b) = BitVec.ofNat 32 (window g) := by
  rw [← window_host]
  pointwise [val_main_v40, val_main_v39, val_main_v38, val_main_v37, val_main_c]

theorem v57_apply (t : Fin 2064) : val_main_v57 (F := Ideal) (ix3 g t r) = band (window g) t r := by
  have e : val_main_v56 (F := Ideal) (ix3 g t r) = if r.val ≤ t.val ∧ t.val < r.val + window g then 1#1 else 0#1 := by
    rw [← band_word, ← v40_apply g 0 0]
    pointwise [val_main_v56, val_main_v55, val_main_v54, val_main_v53, val_main_v52, val_main_v51, val_main_v50, val_main_v49, val_main_v48,
      val_main_v47, val_main_v46, val_main_v45, val_main_v44, val_main_v43, val_main_v42, val_main_v41, val_main_c_1]
  rw [val_main_v57_apply, e]
  unfold band
  split
  · show (((1#1 : BitVec 1).toNat : ℝ) : EReal) = 1
    simp
  · show (((0#1 : BitVec 1).toNat : ℝ) : EReal) = 0
    simp

theorem v67_apply : val_main_v67 (F := Ideal) (ix2 r g) = count g r := by
  rw [← count_word, ← v40_apply g 0 0]
  have e : val_main_v66 (F := Ideal) (ix2 r g) = IntOp.minsi (IntOp.addi (BitVec.ofNat 32 r.val) 1#32) (val_main_v40 (F := Ideal) (ix3 g 0 0)) := by
    rw [show IntOp.addi (BitVec.ofNat 32 r.val) 1#32 = IntOp.addi 1#32 (BitVec.ofNat 32 r.val) from BitVec.add_comm _ _]
    pointwise [val_main_v66, val_main_v65, val_main_v64, val_main_v63, val_main_v62, val_main_v61, val_main_v60, val_main_v59, val_main_v58, val_main_c_2]
  rw [val_main_v67_apply, e]
  rfl

theorem v71_apply : val_main_v71 (F := Ideal) (ix4 s r g l) = count g r := by
  rw [← v67_apply]
  pointwise [val_main_v71, val_main_v70]

/-! ## The forward pass -/

/-- The pooling's input at a column. -/
theorem v36_apply : val_main_v36 (F := Ideal) x0 x2 (ix4 s r g l) = uu x0 x2 (ix2 (rowOf s r) (zCol (colOf g l))) := by
  unfold uu rowOf zCol colOf
  pointwise [val_main_v36, val_main_v35, val_main_v5]

theorem v69_apply : val_main_v69 (F := Ideal) x0 x2 (ix4 s r g l) = behind (window g) (fun r => uu x0 x2 (ix2 (rowOf s r) (zCol (colOf g l)))) r := by
  rw [← behind_band]
  have e : val_main_v69 (F := Ideal) x0 x2 (ix4 s r g l) = val_main_v68 (F := Ideal) x0 x2 (ix4 g s l r) := by
    pointwise [val_main_v69]
  rw [e, val_main_v68_apply]
  refine Finset.sum_congr rfl fun k _ => ?_
  rw [← v36_apply, ← v57_apply]
  refine congrArg₂ (fun p q : EReal => p * q) (congrArg (val_main_v36 (F := Ideal) x0 x2) ?_) (congrArg (val_main_v57 (F := Ideal)) ?_)
    <;> (funext a; fin_cases a <;> rfl)

/-- The pooled columns. -/
theorem v74_apply : val_main_v74 (F := Ideal) x0 x2 (ix3 R g l) = poolDiff (uu x0 x2) (ix2 R (colOf g l)) := by
  have e : val_main_v74 (F := Ideal) x0 x2 (ix3 R g l) = Ideal.div (val_main_v69 (F := Ideal) x0 x2 (ix4 (rowSeq R) (rowIn R) g l)) (val_main_v71 (F := Ideal) (ix4 (rowSeq R) (rowIn R) g l))
      - val_main_v36 (F := Ideal) x0 x2 (ix4 (rowSeq R) (rowIn R) g l) := by
    unfold rowSeq rowIn
    pointwise [val_main_v74, val_main_v73, val_main_v72]
  rw [e, v69_apply, v71_apply, v36_apply, rowOf_rowSeq]
  show _ = Ideal.div (behind (window (groupOf (colOf g l))) (fun r => uu x0 x2 (ix2 (rowOf (rowSeq R) r) (zCol (colOf g l)))) (rowIn R)) (count (groupOf (colOf g l)) (rowIn R))
    - uu x0 x2 (ix2 R (zCol (colOf g l)))
  rw [groupOf_colOf]

/-- Their product with the group's matrix. -/
theorem v77_apply : val_main_v77 (F := Ideal) x0 x2 x4 (ix2 R d) = poolProd (poolDiff (uu x0 x2)) x4 (ix2 R d) := by
  have e : val_main_v77 (F := Ideal) x0 x2 x4 (ix2 R d) = val_main_v75 (F := Ideal) x0 x2 x4 (ix3 (groupOf d) (laneOf d) R) := by
    unfold groupOf laneOf
    pointwise [val_main_v77, val_main_v76]
  rw [e, val_main_v75_apply]
  show _ = ∑ k : Fin 512, poolDiff (uu x0 x2) (ix2 R (colOf (groupOf d) k)) * x4 (ix3 (groupOf d) k (laneOf d))
  refine Finset.sum_congr rfl fun k _ => ?_
  rw [← v74_apply, mul_comm]
  refine congrArg₂ (fun p q : EReal => p * q) (congrArg (val_main_v74 (F := Ideal) x0 x2) ?_) (show _ = x4 (ix3 (groupOf d) k (laneOf d)) from congrArg x4 ?_)
    <;> (funext a; fin_cases a <;> rfl)

theorem v79_eq : val_main_v79 (F := Ideal) x0 x2 x4 x5 = poolOut (poolDiff (uu x0 x2)) x4 x5 := by
  funext i
  obtain ⟨R, d, rfl⟩ := index_eq i
  show _ = poolProd (poolDiff (uu x0 x2)) x4 (ix2 R d) * x5 (ix2 0 d)
  rw [← v77_apply]
  pointwise [val_main_v79, val_main_v78]

/-! ## The backward pass -/

theorem v87_apply : val_main_v87 (F := Ideal) x1 x6 (ix2 R d) = dd x1 x6 (ix2 R (yCol d)) := by
  unfold dd yCol
  pointwise [val_main_v87]

/-- The gradient of the scale. -/
theorem v90_eq : val_main_v90 (F := Ideal) x0 x1 x2 x4 x6 = poolDs (poolDiff (uu x0 x2)) (dd x1 x6) x4 := by
  funext i
  obtain ⟨z, d, rfl⟩ := index_eq i
  have e : val_main_v90 (F := Ideal) x0 x1 x2 x4 x6 (ix2 z d) = val_main_v89 (F := Ideal) x0 x1 x2 x4 x6 (ix1 d) := by
    pointwise [val_main_v90]
  rw [e, val_main_v89_apply]
  show Ideal.ofBits .f32 0x00000000#32 + _ = ∑ t : Fin 4128, dd x1 x6 (ix2 t (yCol d)) * poolProd (poolDiff (uu x0 x2)) x4 (ix2 t d)
  rw [Ideal.ofBits_zero_f32, zero_add]
  refine Finset.sum_congr rfl fun t _ => ?_
  rw [← v87_apply, ← v77_apply, mul_comm]
  refine (congrArg (val_main_v88 (F := Ideal) x0 x1 x2 x4 x6) (show _ = ix2 t d from ?_)).trans ?_
  · funext a; fin_cases a <;> rfl
  pointwise [val_main_v88]

/-- The gradient at the groups' products. -/
theorem v94_apply : val_main_v94 (F := Ideal) x1 x5 x6 (ix3 g l R) = poolDq (dd x1 x6) x5 (ix2 R (colOf g l)) := by
  show _ = dd x1 x6 (ix2 R (yCol (colOf g l))) * x5 (ix2 0 (colOf g l))
  rw [← v87_apply]
  unfold colOf
  pointwise [val_main_v94, val_main_v93, val_main_v92, val_main_v91]

/-- The gradient at the pooled columns. -/
theorem v99_apply : val_main_v99 (F := Ideal) x1 x4 x5 x6 (ix4 s r g l) = poolDd (dd x1 x6) x4 x5 (ix2 (rowOf s r) (colOf g l)) := by
  have e : val_main_v99 (F := Ideal) x1 x4 x5 x6 (ix4 s r g l) = val_main_v95 (F := Ideal) x1 x4 x5 x6 (ix3 g (rowOf s r) l) := by
    unfold rowOf
    pointwise [val_main_v99, val_main_v96]
  rw [e, val_main_v95_apply]
  show _ = ∑ k : Fin 512, poolDq (dd x1 x6) x5 (ix2 (rowOf s r) (colOf (groupOf (colOf g l)) k)) * x4 (ix3 (groupOf (colOf g l)) (laneOf (colOf g l)) k)
  rw [groupOf_colOf, laneOf_colOf]
  refine Finset.sum_congr rfl fun k _ => ?_
  rw [← v94_apply]
  refine congrArg₂ (fun p q : EReal => p * q) (congrArg (val_main_v94 (F := Ideal) x1 x5 x6) ?_) (show _ = x4 (ix3 g l k) from congrArg x4 ?_)
    <;> (funext a; fin_cases a <;> rfl)

/-- The gradient of the groups' matrices. -/
theorem v158_eq : val_main_v158 (F := Ideal) x0 x1 x2 x5 x6 = poolDw (poolDiff (uu x0 x2)) (dd x1 x6) x5 := by
  funext i
  obtain ⟨p, g, a, l, rfl⟩ : ∃ (p g : Fin 4) (a : Fin 128) (l : Fin 512), i = ix4 p g a l := ⟨i 0, i 1, i 2, i 3, by funext x; fin_cases x <;> rfl⟩
  have e : val_main_v158 (F := Ideal) x0 x1 x2 x5 x6 (ix4 p g a l) = val_main_v97 (F := Ideal) x0 x1 x2 x5 x6 (ix3 g l ⟨p.val * 128 + a.val, by omega⟩) := by
    pointwise [val_main_v158, val_main_v157, val_main_v98]
  rw [e, val_main_v97_apply]
  show _ = ∑ t : Fin 4128, poolDiff (uu x0 x2) (ix2 t (colOf g ⟨p.val * 128 + a.val, _⟩)) * poolDq (dd x1 x6) x5 (ix2 t (colOf g l))
  refine Finset.sum_congr rfl fun t _ => ?_
  rw [← v94_apply, ← v74_apply, mul_comm]
  refine congrArg₂ (fun p q : EReal => p * q) (congrArg (val_main_v74 (F := Ideal) x0 x2) ?_) (congrArg (val_main_v94 (F := Ideal) x1 x5 x6) ?_)
    <;> (funext a; fin_cases a <;> rfl)

theorem v105_apply : val_main_v105 (F := Ideal) x1 x4 x5 x6 (ix4 s r g l)
    = beyond (window g) (fun r => Ideal.div (poolDd (dd x1 x6) x4 x5 (ix2 (rowOf s r) (colOf g l))) (count g r)) r := by
  rw [← beyond_band]
  have e : val_main_v105 (F := Ideal) x1 x4 x5 x6 (ix4 s r g l) = val_main_v104 (F := Ideal) x1 x4 x5 x6 (ix4 g s l r) := by
    pointwise [val_main_v105]
  rw [e, val_main_v104_apply]
  refine Finset.sum_congr rfl fun t _ => ?_
  rw [← v57_apply]
  refine congrArg₂ (fun p q : EReal => p * q) ?_ (congrArg (val_main_v57 (F := Ideal)) ?_)
  · rw [← v99_apply, ← v71_apply s t g l]
    refine (congrArg (val_main_v103 (F := Ideal) x1 x4 x5 x6) (show _ = ix4 g s l t from ?_)).trans ?_
    · funext a; fin_cases a <;> rfl
    pointwise [val_main_v103, val_main_v102, val_main_v101, val_main_v71]
  · funext a; fin_cases a <;> rfl

/-- The gradient at the pooling's input. -/
theorem v107_apply : val_main_v107 (F := Ideal) x1 x4 x5 x6 (ix3 (rowSeq R) (rowIn R) d) = poolDz (dd x1 x6) x4 x5 (ix2 R d) := by
  have e : val_main_v107 (F := Ideal) x1 x4 x5 x6 (ix3 (rowSeq R) (rowIn R) d) = -(val_main_v99 (F := Ideal) x1 x4 x5 x6 (ix4 (rowSeq R) (rowIn R) (groupOf d) (laneOf d)))
      + val_main_v105 (F := Ideal) x1 x4 x5 x6 (ix4 (rowSeq R) (rowIn R) (groupOf d) (laneOf d)) := by
    unfold groupOf laneOf
    pointwise [val_main_v107, val_main_v106, val_main_v100]
  rw [e, v99_apply, v105_apply, rowOf_rowSeq, colOf_groupOf, add_comm, ← sub_eq_add_neg]
  rfl

end Cert.MixerRefIdeal.Reference

end
-- ==== Proof.MixerReference.lean ====
/-
  The mixer's reference, result by result: its products, the mixed columns, and the gradient at the input projection's
  columns, which it adds up from four padded pieces.
-/
module

public import proofs.«01_k».proof.Proof.Gen.MixerRefIdeal.Run
public import proofs.«01_k».proof.Proof.MixerRefPool
public import proofs.«01_k».proof.Proof.MixerBeside
public import proofs.«01_k».proof.Proof.FfnMath

@[expose] public section

set_option maxRecDepth 16384

noncomputable section

open Idealize.ShloMosaic Idealize.ShloMosaic.TcCoe Idealize.SL.Sem

namespace Cert.MixerRefIdeal.Reference

open Cert.MixerRefIdeal Cert.MixerRefIdeal.Gen Cert.MixerRefIdeal.Read Cert.ConvSpec Cert.MixerSpec Cert.Products

variable (x0 x1 : FVec Ideal S4128x4096 .bf16) (x2 : FVec Ideal S4096x8192 .bf16) (x3 : FVec Ideal S3x2048 .f32)
  (x4 : FVec Ideal S4x512x512 .bf16) (x5 : FVec Ideal S1x2048 .f32)
  (x6 : FVec Ideal S4096x4096 .bf16) (x7 : FVec Ideal S4096x2048 .bf16) (x8 : FVec Ideal S2048x8192 .bf16)
  (s : Fin 2) (r : Fin 2064) (R : Fin 4128) (d : Fin 2048)

/-! ## The two products the rest is built on -/

theorem uu_eq : uu x0 x2 = nn x0 x2 := by
  funext i
  obtain ⟨t, j, rfl⟩ := index_eq i
  show val_main_v4 (F := Ideal) x0 x2 (ix2 t j) = _
  rw [val_main_v4_apply]
  refine Finset.sum_congr rfl fun k _ => congrArg₂ (fun p q : EReal => p * q) (congrArg x0 ?_) (congrArg x2 ?_)
    <;> (funext a; fin_cases a <;> rfl)

theorem dd_eq : dd x1 x6 = nt x1 x6 := by
  funext i
  obtain ⟨t, j, rfl⟩ := index_eq i
  show val_main_v85 (F := Ideal) x1 x6 (ix2 t j) = _
  rw [val_main_v85_apply]
  refine Finset.sum_congr rfl fun k _ => congrArg₂ (fun p q : EReal => p * q) (congrArg x1 ?_) (congrArg x6 ?_)
    <;> (funext a; fin_cases a <;> rfl)

/-! ## The mixed columns and the results they enter -/

/-- The mixed columns over the input projection. -/
abbrev mix : Mat 4128 4096 := beside (convFwd (uu x0 x2) x3) (poolOut (poolDiff (uu x0 x2)) x4 x5)

/-- The gradient at the input projection's columns. -/
abbrev din : Mat 4128 8192 :=
  beside4 (gateOut (uu x0 x2) (dd x1 x6) x3) (cOut (uu x0 x2) (dd x1 x6) x3) (xOut (uu x0 x2) (dd x1 x6) x3) (poolDz (dd x1 x6) x4 x5)

theorem v80_eq : val_main_v80 (F := Ideal) x0 x2 x3 x4 x5 = mix x0 x2 x3 x4 x5 := by
  refine (join_two (val_main_v34 (F := Ideal) x0 x2 x3) (val_main_v79 (F := Ideal) x0 x2 x4 x5) concatenates_S4128x2048_S4128x2048_S4128x4096_d1).trans ?_
  rw [v34_eq, v79_eq]

theorem out : val_main_v81 (F := Ideal) x0 x2 x3 x4 x5 x6 = nn (mix x0 x2 x3 x4 x5) x6 := by
  funext i
  obtain ⟨t, j, rfl⟩ := index_eq i
  rw [val_main_v81_apply, v80_eq]
  refine Finset.sum_congr rfl fun k _ => congrArg₂ (fun p q : EReal => p * q) (congrArg (mix x0 x2 x3 x4 x5) ?_) (congrArg x6 ?_)
    <;> (funext a; fin_cases a <;> rfl)

theorem v84_at (i j : Fin 4096) : val_main_v84 (F := Ideal) x0 x1 x2 x3 x4 x5 (ix2 i j) = tn (mix x0 x2 x3 x4 x5) x1 (ix2 i j) := by
  rw [val_main_v84_apply]
  refine (congrArg (val_main_v83 (F := Ideal) x0 x1 x2 x3 x4 x5) (show _ = ix2 j i from ?_)).trans ?_
  · funext a; fin_cases a <;> rfl
  rw [val_main_v83_apply, v80_eq]
  refine Finset.sum_congr rfl fun k _ => ?_
  refine (congrArg₂ (fun p q : EReal => p * q) (show _ = x1 (ix2 k j) from congrArg x1 ?_)
    (show _ = mix x0 x2 x3 x4 x5 (ix2 k i) from congrArg (mix x0 x2 x3 x4 x5) ?_)).trans (mul_comm _ _)
  · funext a; fin_cases a <;> rfl
  · funext a; fin_cases a <;> rfl

theorem dwout_theirs : val_main_v160 (F := Ideal) x0 x1 x2 x3 x4 x5 = piece 0 2048 (a := 4096) (b := 2048) (by decide) (by decide) (tn (mix x0 x2 x3 x4 x5) x1) := by
  funext i
  obtain ⟨p, q, rfl⟩ := index_eq i
  rw [piece_apply, ← v84_at]
  unfold shift
  pointwise [val_main_v160, val_main_v159]

theorem dwout_mine : val_main_v164 (F := Ideal) x0 x1 x2 x3 x4 x5 x7 = plus (piece 0 0 (a := 4096) (b := 2048) (by decide) (by decide) (tn (mix x0 x2 x3 x4 x5) x1)) x7 := by
  funext i
  obtain ⟨p, q, rfl⟩ := index_eq i
  rw [plus_apply, piece_apply, ← v84_at]
  unfold shift
  pointwise [val_main_v164, val_main_v163, val_main_v162, val_main_v161]

/-! ## The gradient at the input projection's columns -/

/-- The sum of the four padded pieces, at each of the four groups of columns. -/
theorem v152_gate (h : d.val < 8192) : val_main_v152 (F := Ideal) x0 x1 x2 x3 x4 x5 x6 (ix3 s r ⟨d.val, h⟩) = val_main_v111 (F := Ideal) x0 x1 x2 x3 x6 (ix3 s r d) := by
  have hd := d.isLt
  pointwise [val_main_v152, val_main_v151, val_main_v150, val_main_v149, val_main_v148, val_main_v147, val_main_v108,
    val_main_cst_4, val_main_cst_17, val_main_cst_18, val_main_cst_19]
  rw [dif_neg (by omega), dif_neg (by omega), dif_neg (fun h => h.1.elim), zero_add, zero_add, zero_add]

theorem v152_c (h : 2048 + d.val < 8192) : val_main_v152 (F := Ideal) x0 x1 x2 x3 x4 x5 x6 (ix3 s r ⟨2048 + d.val, h⟩) = val_main_v146 (F := Ideal) x0 x1 x2 x3 x6 (ix3 s r d) := by
  have hd := d.isLt
  pointwise [val_main_v152, val_main_v151, val_main_v150, val_main_v149, val_main_v148, val_main_v147, val_main_v108,
    val_main_cst_4, val_main_cst_17, val_main_cst_18, val_main_cst_19]
  rw [dif_neg (by omega), dif_neg (by omega), zero_add, zero_add]

theorem v152_x (h : 4096 + d.val < 8192) : val_main_v152 (F := Ideal) x0 x1 x2 x3 x4 x5 x6 (ix3 s r ⟨4096 + d.val, h⟩) = val_main_v145 (F := Ideal) x0 x1 x2 x3 x6 (ix3 s r d) := by
  have hd := d.isLt
  pointwise [val_main_v152, val_main_v151, val_main_v150, val_main_v149, val_main_v148, val_main_v147, val_main_v108,
    val_main_cst_4, val_main_cst_17, val_main_cst_18, val_main_cst_19]
  rw [dif_neg (by omega), dif_neg (by omega), dif_neg (by omega), zero_add, add_zero, add_zero]

theorem v152_z (h : 6144 + d.val < 8192) : val_main_v152 (F := Ideal) x0 x1 x2 x3 x4 x5 x6 (ix3 s r ⟨6144 + d.val, h⟩) = val_main_v107 (F := Ideal) x1 x4 x5 x6 (ix3 s r d) := by
  have hd := d.isLt
  pointwise [val_main_v152, val_main_v151, val_main_v150, val_main_v149, val_main_v148, val_main_v147, val_main_v108,
    val_main_cst_4, val_main_cst_17, val_main_cst_18, val_main_cst_19]
  rw [dif_neg (by omega), dif_neg (by omega), dif_neg (by omega), add_zero, add_zero, add_zero]

theorem v153_eq : val_main_v153 (F := Ideal) x0 x1 x2 x3 x4 x5 x6 = din x0 x1 x2 x3 x4 x5 x6 := by
  funext i
  obtain ⟨R, j, rfl⟩ := index_eq i
  have hj := j.isLt
  have e : val_main_v153 (F := Ideal) x0 x1 x2 x3 x4 x5 x6 (ix2 R j) = val_main_v152 (F := Ideal) x0 x1 x2 x3 x4 x5 x6 (ix3 (rowSeq R) (rowIn R) j) := by
    unfold rowSeq rowIn
    pointwise [val_main_v153]
  rw [e]
  show _ = beside4 _ _ _ _ (ix2 R j)
  unfold beside4
  show _ = if h0 : j.val < 2048 then _ else _
  split
  next h0 => exact (v152_gate x0 x1 x2 x3 x4 x5 x6 (rowSeq R) (rowIn R) ⟨j.val, h0⟩ hj).trans (v111_apply x0 x1 x2 x3 x6 (rowSeq R) (rowIn R) ⟨j.val, h0⟩)
  next h0 =>
    split
    next h1 =>
      have q : j = ⟨2048 + (j.val - 2048), by omega⟩ := Fin.ext (by show j.val = 2048 + (j.val - 2048); have : ¬ j.val < 2048 := h0; omega)
      refine (congrArg (fun p => val_main_v152 (F := Ideal) x0 x1 x2 x3 x4 x5 x6 (ix3 (rowSeq R) (rowIn R) p)) q).trans ?_
      exact (v152_c x0 x1 x2 x3 x4 x5 x6 (rowSeq R) (rowIn R) ⟨j.val - 2048, _⟩ _).trans (v146_apply x0 x1 x2 x3 x6 (rowSeq R) (rowIn R) ⟨j.val - 2048, _⟩)
    next h1 =>
      split
      next h2 =>
        have q : j = ⟨4096 + (j.val - 4096), by omega⟩ := Fin.ext (by show j.val = 4096 + (j.val - 4096); have : ¬ j.val < 4096 := h1; omega)
        refine (congrArg (fun p => val_main_v152 (F := Ideal) x0 x1 x2 x3 x4 x5 x6 (ix3 (rowSeq R) (rowIn R) p)) q).trans ?_
        exact (v152_x x0 x1 x2 x3 x4 x5 x6 (rowSeq R) (rowIn R) ⟨j.val - 4096, _⟩ _).trans (v145_apply x0 x1 x2 x3 x6 (rowSeq R) (rowIn R) ⟨j.val - 4096, _⟩)
      next h2 =>
        have q : j = ⟨6144 + (j.val - 6144), by omega⟩ := Fin.ext (by show j.val = 6144 + (j.val - 6144); have : ¬ j.val < 6144 := h2; omega)
        refine (congrArg (fun p => val_main_v152 (F := Ideal) x0 x1 x2 x3 x4 x5 x6 (ix3 (rowSeq R) (rowIn R) p)) q).trans ?_
        exact (v152_z x0 x1 x2 x3 x4 x5 x6 (rowSeq R) (rowIn R) ⟨j.val - 6144, _⟩ _).trans (v107_apply x1 x4 x5 x6 R ⟨j.val - 6144, _⟩)

theorem dh : val_main_v156 (F := Ideal) x0 x1 x2 x3 x4 x5 x6 = nt (din x0 x1 x2 x3 x4 x5 x6) x2 := by
  funext i
  obtain ⟨t, j, rfl⟩ := index_eq i
  rw [val_main_v156_apply, v153_eq]
  refine Finset.sum_congr rfl fun k _ => congrArg₂ (fun p q : EReal => p * q) (congrArg (din x0 x1 x2 x3 x4 x5 x6) ?_) (congrArg x2 ?_)
    <;> (funext a; fin_cases a <;> rfl)

theorem v155_at (i : Fin 4096) (j : Fin 8192) : val_main_v155 (F := Ideal) x0 x1 x2 x3 x4 x5 x6 (ix2 i j) = tn x0 (din x0 x1 x2 x3 x4 x5 x6) (ix2 i j) := by
  rw [val_main_v155_apply]
  refine (congrArg (val_main_v154 (F := Ideal) x0 x1 x2 x3 x4 x5 x6) (show _ = ix2 j i from ?_)).trans ?_
  · funext a; fin_cases a <;> rfl
  rw [val_main_v154_apply, v153_eq]
  refine Finset.sum_congr rfl fun k _ => ?_
  refine (congrArg₂ (fun p q : EReal => p * q) (show _ = din x0 x1 x2 x3 x4 x5 x6 (ix2 k j) from congrArg (din x0 x1 x2 x3 x4 x5 x6) ?_)
    (show _ = x0 (ix2 k i) from congrArg x0 ?_)).trans (mul_comm _ _)
  · funext a; fin_cases a <;> rfl
  · funext a; fin_cases a <;> rfl

theorem dwin_theirs : val_main_v166 (F := Ideal) x0 x1 x2 x3 x4 x5 x6 = piece 2048 0 (a := 2048) (b := 8192) (by decide) (by decide) (tn x0 (din x0 x1 x2 x3 x4 x5 x6)) := by
  funext i
  obtain ⟨p, q, rfl⟩ := index_eq i
  rw [piece_apply, ← v155_at]
  unfold shift
  pointwise [val_main_v166, val_main_v165]

theorem dwin_mine : val_main_v170 (F := Ideal) x0 x1 x2 x3 x4 x5 x6 x8 = plus (piece 0 0 (a := 2048) (b := 8192) (by decide) (by decide) (tn x0 (din x0 x1 x2 x3 x4 x5 x6))) x8 := by
  funext i
  obtain ⟨p, q, rfl⟩ := index_eq i
  rw [plus_apply, piece_apply, ← v155_at]
  unfold shift
  pointwise [val_main_v170, val_main_v169, val_main_v168, val_main_v167]

/-- The two halves of the sum over the input projection's columns make the whole product. -/
theorem halves (D : Mat 4128 8192) (W : Mat 4096 8192) :
    plus (nt (piece 0 4096 (a := 4128) (b := 4096) (by decide) (by decide) D) (piece 0 4096 (a := 4096) (b := 4096) (by decide) (by decide) W))
      (nt (piece 0 0 (a := 4128) (b := 4096) (by decide) (by decide) D) (piece 0 0 (a := 4096) (b := 4096) (by decide) (by decide) W)) = nt D W := by
  funext i
  obtain ⟨r, l, rfl⟩ := index_eq i
  have z : ∀ {b : ℕ} (h : 0 + b ≤ b) (k : Fin b), shift 0 h k = k := fun h k => Fin.ext (Nat.zero_add _)
  refine Eq.trans ?_ (sum_split (a := 4096) (b := 4096) (n := 8192) (by decide) fun k => D (ix2 r k) * W (ix2 l k)).symm
  simp only [plus_apply, nt_apply, piece_apply, z]
  exact add_comm _ _

end Cert.MixerRefIdeal.Reference

end
-- ==== Proof.MixerClaim.lean ====
/-
  The claims about the mixer, from its run and the reading of the reference.
-/
module

public import proofs.«01_k».proof.Defs
public import proofs.«01_k».proof.Proof.Gen.Mixer.Frame
public import proofs.«01_k».proof.Proof.MixerRun
public import proofs.«01_k».proof.Proof.MixerReference
public import Idealize.ShloMosaic.Adequacy
public import Idealize.ShloMosaic.Init

@[expose] public section

set_option maxRecDepth 16384

noncomputable section

namespace Cert.Proof

open Idealize.ShloMosaic Idealize.SL.Sem

theorem mixerFrame : Cert.quiescent_Mixer := fun m ρ _ => Cert.Mixer.Gen.frame m ρ

theorem mixerIdealFrame : Cert.quiescent_MixerIdeal := fun m ρ _ => Cert.MixerIdeal.Gen.frame m ρ

theorem mixerRefFrame : Cert.quiescent_MixerRefIdeal := fun m ρ _ =>
  (θ_run Cert.MixerRefIdeal.defs _ _).mono
    (fun r h => ⟨fun c => (h c).2.2.2.2.2.2.2.2.2, sem_eq_zero_of_no_sems (by decide) r.2⟩)
    (Cert.MixerRefIdeal.Value.run (F := Ideal) m ρ)

/-- The kernel's thirteen calls and `jax.vjp` of the mixer leave the same nine results, over the extended reals. -/
theorem mixerValue : Cert.algebraic_MixerIdeal_MixerRefIdeal := fun m ρ m' ρ' _ hag =>
  ⟨fun c => MixerIdeal.Run.outp m c, fun c => MixerIdeal.Run.dh1 m c, fun c => MixerIdeal.Run.dtaps m c, fun c => MixerIdeal.Run.dpw m c,
   fun c => MixerIdeal.Run.dps m c, fun c => MixerIdeal.Run.dwoutTheirs m c, fun c => MixerIdeal.Run.dwoutMine m c,
   fun c => MixerIdeal.Run.dwinTheirs m c, fun c => MixerIdeal.Run.dwinMine m c,
   (θ_run Cert.MixerIdeal.defs _ _).mono (fun r h c => h c) (Cert.MixerIdeal.Run.run m ρ),
   (θ_run Cert.MixerRefIdeal.defs _ _).mono
     (fun r h c => by
       obtain ⟨h0, h1, h2, h3, h4, h5, h6, h7, h8, hk⟩ := h c
       obtain ⟨e0, e1, e2, e3, e4, e5, e6, e7, e8⟩ := hag c
       replace e0 : StableHlo.launchContents m' c (Proc.devRef .tc MixerRefIdeal.main_arg0) = MixerIdeal.Run.arg0 m c := e0
       replace e1 : StableHlo.launchContents m' c (Proc.devRef .tc MixerRefIdeal.main_arg1) = MixerIdeal.Run.arg1 m c := e1
       replace e2 : StableHlo.launchContents m' c (Proc.devRef .tc MixerRefIdeal.main_arg2) = MixerIdeal.Run.arg2 m c := e2
       replace e3 : StableHlo.launchContents m' c (Proc.devRef .tc MixerRefIdeal.main_arg3) = MixerIdeal.Run.arg3 m c := e3
       replace e4 : StableHlo.launchContents m' c (Proc.devRef .tc MixerRefIdeal.main_arg4) = MixerIdeal.Run.arg4 m c := e4
       replace e5 : StableHlo.launchContents m' c (Proc.devRef .tc MixerRefIdeal.main_arg5) = MixerIdeal.Run.arg5 m c := e5
       replace e6 : StableHlo.launchContents m' c (Proc.devRef .tc MixerRefIdeal.main_arg6) = MixerIdeal.Run.arg6 m c := e6
       replace e7 : StableHlo.launchContents m' c (Proc.devRef .tc MixerRefIdeal.main_arg7) = MixerIdeal.Run.arg7 m c := e7
       replace e8 : StableHlo.launchContents m' c (Proc.devRef .tc MixerRefIdeal.main_arg8) = MixerIdeal.Run.arg8 m c := e8
       refine ⟨h0.trans ?_, h1.trans ?_, h2.trans ?_, h3.trans ?_, h4.trans ?_, h5.trans ?_, h6.trans ?_, h7.trans ?_, h8.trans ?_, hk⟩
       · rw [MixerRefIdeal.Read.val_main_v81_eq, e0, e2, e3, e4, e5, e6, MixerRefIdeal.Reference.out, MixerRefIdeal.Reference.mix,
           MixerRefIdeal.Reference.uu_eq]
         rfl
       · rw [MixerRefIdeal.Read.val_main_v156_eq, e0, e1, e2, e3, e4, e5, e6, MixerRefIdeal.Reference.dh, MixerRefIdeal.Reference.din,
           MixerRefIdeal.Reference.uu_eq, MixerRefIdeal.Reference.dd_eq]
         exact (MixerRefIdeal.Reference.halves _ _).symm
       · rw [MixerRefIdeal.Read.val_main_v140_eq, e0, e1, e2, e6, MixerRefIdeal.Reference.v140_eq_tapOut,
           MixerRefIdeal.Reference.uu_eq, MixerRefIdeal.Reference.dd_eq]
         rfl
       · rw [MixerRefIdeal.Read.val_main_v158_eq, e0, e1, e2, e5, e6, MixerRefIdeal.Reference.v158_eq,
           MixerRefIdeal.Reference.uu_eq, MixerRefIdeal.Reference.dd_eq]
         rfl
       · rw [MixerRefIdeal.Read.val_main_v90_eq, e0, e1, e2, e4, e6, MixerRefIdeal.Reference.v90_eq,
           MixerRefIdeal.Reference.uu_eq, MixerRefIdeal.Reference.dd_eq]
         rfl
       · rw [MixerRefIdeal.Read.val_main_v160_eq, e0, e1, e2, e3, e4, e5, MixerRefIdeal.Reference.dwout_theirs, MixerRefIdeal.Reference.mix,
           MixerRefIdeal.Reference.uu_eq]
         exact (FfnMath.tn_cols 2048 _ _ _ _ _).symm
       · rw [MixerRefIdeal.Read.val_main_v164_eq, e0, e1, e2, e3, e4, e5, e7, MixerRefIdeal.Reference.dwout_mine, MixerRefIdeal.Reference.mix,
           MixerRefIdeal.Reference.uu_eq]
         exact congrArg (fun q => Products.plus q _) (FfnMath.tn_cols 0 _ _ _ _ _).symm
       · rw [MixerRefIdeal.Read.val_main_v166_eq, e0, e1, e2, e3, e4, e5, e6, MixerRefIdeal.Reference.dwin_theirs, MixerRefIdeal.Reference.din,
           MixerRefIdeal.Reference.uu_eq, MixerRefIdeal.Reference.dd_eq]
         exact (FfnMath.tn_rows 2048 _ _ _ _ _).symm
       · rw [MixerRefIdeal.Read.val_main_v170_eq, e0, e1, e2, e3, e4, e5, e6, e8, MixerRefIdeal.Reference.dwin_mine, MixerRefIdeal.Reference.din,
           MixerRefIdeal.Reference.uu_eq, MixerRefIdeal.Reference.dd_eq]
         exact congrArg (fun q => Products.plus q _) (FfnMath.tn_rows 0 _ _ _ _ _).symm)
     (Cert.MixerRefIdeal.Value.run m' ρ')⟩

end Cert.Proof

end
-- ==== Proof.FfnHalvesProducts.lean ====
/-
  The four products of the forward pass whose gate and up projection comes in two calls: the projection in two halves of the
  sum over the 4096 columns, and the down projection in two halves of the sum over the 11008 hidden columns, each second half
  added to the first.
-/
module

public import proofs.«01_k».proof.Proof.Gen.FfnHalvesIdeal.Frame
public import proofs.«01_k».proof.Proof.Products
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnHalvesIdeal.Products

open Cert.FfnHalvesIdeal Cert.FfnHalvesIdeal.Gen Cert.Products

variable (V : (c : Dev nD) → (b : Ref sig .tc) → Buf (Elt Ideal) ((c : Thread nD τ).loc b))

theorem points0 (t : Fin cfg0.N) : t.val < 129 := lt_of_lt_of_eq t.isLt (show cfg0.N = 129 from N_0)

/-! ## Where each block lies -/

theorem at0_0 : ∀ t : Fin cfg0.N, win0_0.index t 0 = t.val / 43 ∧ win0_0.index t 1 = 0 :=
  show ∀ t : Fin grid0.N, _ by decide +kernel
theorem at0_1 : ∀ t : Fin cfg0.N, win0_1.index t 0 = 0 ∧ win0_1.index t 1 = t.val % 43 :=
  show ∀ t : Fin grid0.N, _ by decide +kernel
theorem at0_2 : ∀ t : Fin cfg0.N, win0_2.index t 0 = t.val / 43 ∧ win0_2.index t 1 = t.val % 43 :=
  show ∀ t : Fin grid0.N, _ by decide +kernel

/-- A window's block, entry by entry; so for the other windows below. -/
theorem blk0_0 (c : Dev nD) (t : Fin cfg0.N) (r : Fin 1376) (l : Fin 2048) :
    iblk0 V c 0 t (ix2 r l) = V c main_arg0 (ix2 (⟨(t.val / 43) * 1376 + r.val, by have := points0 t; omega⟩ : Fin 4128) (⟨(0) * 2048 + l.val, by omega⟩ : Fin 4096)) := by
  unfold iblk0
  rw [View.read_apply]
  exact congrArg (V c main_arg0) (funext fun a => Fin.ext (lies (at0_0 t) r l rfl rfl a))

theorem blk0_1 (c : Dev nD) (t : Fin cfg0.N) (r : Fin 2048) (l : Fin 512) :
    iblk0 V c 1 t (ix2 r l) = V c main_arg1 (ix2 (⟨(0) * 2048 + r.val, by omega⟩ : Fin 4096) (⟨(t.val % 43) * 512 + l.val, by omega⟩ : Fin 22016)) := by
  unfold iblk0
  rw [View.read_apply]
  exact congrArg (V c main_arg1) (funext fun a => Fin.ext (lies (at0_1 t) r l rfl rfl a))

/-! ## One block of the result -/

/-- What the body computes: a product of two blocks. -/
theorem pay0 (a : Vec Ideal S1376x2048 .bf16) (b : Vec Ideal S2048x512 .bf16) (r : Fin 1376) (l : Fin 512) :
    k0_pay1 a b (ix2 r l) = (∑ k : Fin 2048, a (ix2 r k) * b (ix2 k l) : EReal) := by
  pointwise [k0_pay1]

/-- What the body leaves in the result's staging buffer. -/
theorem left0 (a : Vec Ideal S1376x2048 .bf16) (b : Vec Ideal S2048x512 .bf16) : out0_2 a b = k0_pay1 a b := by
  unfold out0_2
  rw [View.canon_unit_zero origin]
  simp only [View.ld_unit_zero (S := S1376x2048) origin, View.ld_unit_zero (S := S2048x512) origin]

/-! ## The whole result -/

/-- The result, as a product of the arrays the call reads. -/
def result0 (c : Dev nD) : Mat 4128 22016 := nn (piece 0 0 (a := 4128) (b := 2048) (c := 4128) (d := 4096) (by decide) (by decide) (V c main_arg0)) (piece 0 0 (a := 2048) (b := 22016) (c := 4096) (d := 22016) (by decide) (by decide) (V c main_arg1))

/-- The grid point that writes an index of the result. -/
def pointOf0 (i : S4128x22016.Idx) : Fin cfg0.N :=
  ⟨(i 0 : Nat) / 1376 * 43 + (i 1 : Nat) / 512, by
    have h0 : (i 0 : Nat) < 4128 := (i 0).isLt
    have h1 : (i 1 : Nat) < 22016 := (i 1).isLt
    rw [show cfg0.N = 129 from N_0]; omega⟩

/-- What a grid point writes back is its block of the result. -/
theorem block0 (c : Dev nD) (t : Fin cfg0.N) (r : Fin 1376) (l : Fin 512) :
    k0_pay1 (iblk0 V c 0 t) (iblk0 V c 1 t) (ix2 r l) = result0 V c (ix2 (⟨(t.val / 43) * 1376 + r.val, by have := points0 t; omega⟩ : Fin 4128) (⟨(t.val % 43) * 512 + l.val, by omega⟩ : Fin 22016)) := by
  refine (pay0 (iblk0 V c 0 t) (iblk0 V c 1 t) r l).trans ?_
  show _ = result0 V c _
  simp only [result0, nn_apply, plus_apply, piece_apply]
  refine Finset.sum_congr rfl fun k _ => congrArg₂ (fun p q : EReal => p * q) ?_ ?_
  · exact (blk0_0 V c t r k).trans (congrArg (V c main_arg0) (same (by simp [shift] <;> omega) (by simp [shift] <;> omega)))
  · exact (blk0_1 V c t k l).trans (congrArg (V c main_arg1) (same (by simp [shift] <;> omega) (by simp [shift] <;> omega)))

/-- The call's result array after the run. -/
theorem final0 (c : Dev nD) : (dat0 V c).arrAt 2 cfg0.N = result0 V c :=
  (dat0 V c).arrAt_eq_of_cover 2 (result0 V c) (fun t _ => by
    show (cfg0.win 2).cut (grid0.coords t) ((dat0 V c).after 2 t) = _
    rw [after0_2, left0]
    funext j
    obtain ⟨r, l, rfl⟩ : ∃ (r : Fin 1376) (l : Fin 512), j = ix2 r l := index_eq j
    rw [View.read_apply]
    exact (block0 V c t r l).trans (congrArg (result0 V c) (funext fun a => (Fin.ext (lies (at0_2 t) r l rfl rfl a)).symm))) fun i =>
    ⟨pointOf0 i, flush0_2 _, by
      show i ∈ ((View.whole main_v0).slice (win0_2.rect (pointOf0 i))).set
      rw [View.set_slice_whole, Rect.mem_set_unit]
      have h0 : (i 0 : Nat) < 4128 := (i 0).isLt
      have h1 : (i 1 : Nat) < 22016 := (i 1).isLt
      have hv : (pointOf0 i).val = (i 0 : Nat) / 1376 * 43 + (i 1 : Nat) / 512 := rfl
      exact holds i (at0_2 _) (by omega) (by omega) (by decide) (by decide)⟩

theorem points1 (t : Fin cfg1.N) : t.val < 129 := lt_of_lt_of_eq t.isLt (show cfg1.N = 129 from N_1)

/-! ## Where each block lies -/

theorem at1_0 : ∀ t : Fin cfg1.N, win1_0.index t 0 = t.val / 43 ∧ win1_0.index t 1 = 1 :=
  show ∀ t : Fin grid1.N, _ by decide +kernel
theorem at1_1 : ∀ t : Fin cfg1.N, win1_1.index t 0 = 1 ∧ win1_1.index t 1 = t.val % 43 :=
  show ∀ t : Fin grid1.N, _ by decide +kernel
theorem at1_2 : ∀ t : Fin cfg1.N, win1_2.index t 0 = t.val / 43 ∧ win1_2.index t 1 = t.val % 43 :=
  show ∀ t : Fin grid1.N, _ by decide +kernel
theorem at1_3 : ∀ t : Fin cfg1.N, win1_3.index t 0 = t.val / 43 ∧ win1_3.index t 1 = t.val % 43 :=
  show ∀ t : Fin grid1.N, _ by decide +kernel

theorem blk1_0 (c : Dev nD) (t : Fin cfg1.N) (r : Fin 1376) (l : Fin 2048) :
    iblk1 V c 0 t (ix2 r l) = V c main_arg0 (ix2 (⟨(t.val / 43) * 1376 + r.val, by have := points1 t; omega⟩ : Fin 4128) (⟨(1) * 2048 + l.val, by omega⟩ : Fin 4096)) := by
  unfold iblk1
  rw [View.read_apply]
  exact congrArg (V c main_arg0) (funext fun a => Fin.ext (lies (at1_0 t) r l rfl rfl a))

theorem blk1_1 (c : Dev nD) (t : Fin cfg1.N) (r : Fin 2048) (l : Fin 512) :
    iblk1 V c 1 t (ix2 r l) = V c main_arg1 (ix2 (⟨(1) * 2048 + r.val, by omega⟩ : Fin 4096) (⟨(t.val % 43) * 512 + l.val, by omega⟩ : Fin 22016)) := by
  unfold iblk1
  rw [View.read_apply]
  exact congrArg (V c main_arg1) (funext fun a => Fin.ext (lies (at1_1 t) r l rfl rfl a))

theorem blk1_2 (c : Dev nD) (t : Fin cfg1.N) (r : Fin 1376) (l : Fin 512) :
    iblk1 V c 2 t (ix2 r l) = V c main_v0 (ix2 (⟨(t.val / 43) * 1376 + r.val, by have := points1 t; omega⟩ : Fin 4128) (⟨(t.val % 43) * 512 + l.val, by omega⟩ : Fin 22016)) := by
  unfold iblk1
  rw [View.read_apply]
  exact congrArg (V c main_v0) (funext fun a => Fin.ext (lies (at1_2 t) r l rfl rfl a))

/-! ## One block of the result -/

/-- What the body computes: a product of two blocks, and the addend. -/
theorem pay1 (a : Vec Ideal S1376x2048 .bf16) (b : Vec Ideal S2048x512 .bf16) (e : Vec Ideal S1376x512 .f32) (r : Fin 1376) (l : Fin 512) :
    k1_pay1 a b e (ix2 r l) = (∑ k : Fin 2048, a (ix2 r k) * b (ix2 k l) : EReal) + e (ix2 r l) := by
  pointwise [k1_pay1]

/-- What the body leaves in the result's staging buffer. -/
theorem left1 (a : Vec Ideal S1376x2048 .bf16) (b : Vec Ideal S2048x512 .bf16) (e : Vec Ideal S1376x512 .f32) : out1_3 a b e = k1_pay1 a b e := by
  unfold out1_3
  rw [View.canon_unit_zero origin]
  simp only [View.ld_unit_zero (S := S1376x2048) origin, View.ld_unit_zero (S := S2048x512) origin, View.ld_unit_zero (S := S1376x512) origin]

/-! ## The whole result -/

/-- The result, as a product of the arrays the call reads. -/
def result1 (c : Dev nD) : Mat 4128 22016 := plus (nn (piece 0 2048 (a := 4128) (b := 2048) (c := 4128) (d := 4096) (by decide) (by decide) (V c main_arg0)) (piece 2048 0 (a := 2048) (b := 22016) (c := 4096) (d := 22016) (by decide) (by decide) (V c main_arg1))) (V c main_v0)

/-- The grid point that writes an index of the result. -/
def pointOf1 (i : S4128x22016.Idx) : Fin cfg1.N :=
  ⟨(i 0 : Nat) / 1376 * 43 + (i 1 : Nat) / 512, by
    have h0 : (i 0 : Nat) < 4128 := (i 0).isLt
    have h1 : (i 1 : Nat) < 22016 := (i 1).isLt
    rw [show cfg1.N = 129 from N_1]; omega⟩

/-- What a grid point writes back is its block of the result. -/
theorem block1 (c : Dev nD) (t : Fin cfg1.N) (r : Fin 1376) (l : Fin 512) :
    k1_pay1 (iblk1 V c 0 t) (iblk1 V c 1 t) (iblk1 V c 2 t) (ix2 r l) = result1 V c (ix2 (⟨(t.val / 43) * 1376 + r.val, by have := points1 t; omega⟩ : Fin 4128) (⟨(t.val % 43) * 512 + l.val, by omega⟩ : Fin 22016)) := by
  refine (pay1 (iblk1 V c 0 t) (iblk1 V c 1 t) (iblk1 V c 2 t) r l).trans ?_
  show _ = result1 V c _
  simp only [result1, nn_apply, plus_apply, piece_apply]
  refine congrArg₂ (fun p q : EReal => p + q) ?_ ?_
  · refine Finset.sum_congr rfl fun k _ => congrArg₂ (fun p q : EReal => p * q) ?_ ?_
    · exact (blk1_0 V c t r k).trans (congrArg (V c main_arg0) (same (by simp [shift] <;> omega) (by simp [shift] <;> omega)))
    · exact (blk1_1 V c t k l).trans (congrArg (V c main_arg1) (same (by simp [shift] <;> omega) (by simp [shift] <;> omega)))
  · exact blk1_2 V c t r l

/-- The call's result array after the run. -/
theorem final1 (c : Dev nD) : (dat1 V c).arrAt 3 cfg1.N = result1 V c :=
  (dat1 V c).arrAt_eq_of_cover 3 (result1 V c) (fun t _ => by
    show (cfg1.win 3).cut (grid1.coords t) ((dat1 V c).after 3 t) = _
    rw [after1_3, left1]
    funext j
    obtain ⟨r, l, rfl⟩ : ∃ (r : Fin 1376) (l : Fin 512), j = ix2 r l := index_eq j
    rw [View.read_apply]
    exact (block1 V c t r l).trans (congrArg (result1 V c) (funext fun a => (Fin.ext (lies (at1_3 t) r l rfl rfl a)).symm))) fun i =>
    ⟨pointOf1 i, flush1_3 _, by
      show i ∈ ((View.whole main_v1).slice (win1_3.rect (pointOf1 i))).set
      rw [View.set_slice_whole, Rect.mem_set_unit]
      have h0 : (i 0 : Nat) < 4128 := (i 0).isLt
      have h1 : (i 1 : Nat) < 22016 := (i 1).isLt
      have hv : (pointOf1 i).val = (i 0 : Nat) / 1376 * 43 + (i 1 : Nat) / 512 := rfl
      exact holds i (at1_3 _) (by omega) (by omega) (by decide) (by decide)⟩

theorem points3 (t : Fin cfg3.N) : t.val < 24 := lt_of_lt_of_eq t.isLt (show cfg3.N = 24 from N_3)

/-! ## Where each block lies -/

theorem at3_0 : ∀ t : Fin cfg3.N, win3_0.index t 0 = t.val / 8 ∧ win3_0.index t 1 = 0 :=
  show ∀ t : Fin grid3.N, _ by decide +kernel
theorem at3_1 : ∀ t : Fin cfg3.N, win3_1.index t 0 = 0 ∧ win3_1.index t 1 = t.val % 8 :=
  show ∀ t : Fin grid3.N, _ by decide +kernel
theorem at3_2 : ∀ t : Fin cfg3.N, win3_2.index t 0 = t.val / 8 ∧ win3_2.index t 1 = t.val % 8 :=
  show ∀ t : Fin grid3.N, _ by decide +kernel

theorem blk3_0 (c : Dev nD) (t : Fin cfg3.N) (r : Fin 1376) (l : Fin 5504) :
    iblk3 V c 0 t (ix2 r l) = V c main_v2 (ix2 (⟨(t.val / 8) * 1376 + r.val, by have := points3 t; omega⟩ : Fin 4128) (⟨(0) * 5504 + l.val, by omega⟩ : Fin 11008)) := by
  unfold iblk3
  rw [View.read_apply]
  exact congrArg (V c main_v2) (funext fun a => Fin.ext (lies (at3_0 t) r l rfl rfl a))

theorem blk3_1 (c : Dev nD) (t : Fin cfg3.N) (r : Fin 5504) (l : Fin 512) :
    iblk3 V c 1 t (ix2 r l) = V c main_arg2 (ix2 (⟨(0) * 5504 + r.val, by omega⟩ : Fin 11008) (⟨(t.val % 8) * 512 + l.val, by omega⟩ : Fin 4096)) := by
  unfold iblk3
  rw [View.read_apply]
  exact congrArg (V c main_arg2) (funext fun a => Fin.ext (lies (at3_1 t) r l rfl rfl a))

/-! ## One block of the result -/

/-- What the body computes: a product of two blocks. -/
theorem pay3 (a : Vec Ideal S1376x5504 .bf16) (b : Vec Ideal S5504x512 .bf16) (r : Fin 1376) (l : Fin 512) :
    k3_pay1 a b (ix2 r l) = (∑ k : Fin 5504, a (ix2 r k) * b (ix2 k l) : EReal) := by
  pointwise [k3_pay1]

/-- What the body leaves in the result's staging buffer. -/
theorem left3 (a : Vec Ideal S1376x5504 .bf16) (b : Vec Ideal S5504x512 .bf16) : out3_2 a b = k3_pay1 a b := by
  unfold out3_2
  rw [View.canon_unit_zero origin]
  simp only [View.ld_unit_zero (S := S1376x5504) origin, View.ld_unit_zero (S := S5504x512) origin]

/-! ## The whole result -/

/-- The result, as a product of the arrays the call reads. -/
def result3 (c : Dev nD) : Mat 4128 4096 := nn (piece 0 0 (a := 4128) (b := 5504) (c := 4128) (d := 11008) (by decide) (by decide) (V c main_v2)) (piece 0 0 (a := 5504) (b := 4096) (c := 11008) (d := 4096) (by decide) (by decide) (V c main_arg2))

/-- The grid point that writes an index of the result. -/
def pointOf3 (i : S4128x4096.Idx) : Fin cfg3.N :=
  ⟨(i 0 : Nat) / 1376 * 8 + (i 1 : Nat) / 512, by
    have h0 : (i 0 : Nat) < 4128 := (i 0).isLt
    have h1 : (i 1 : Nat) < 4096 := (i 1).isLt
    rw [show cfg3.N = 24 from N_3]; omega⟩

/-- What a grid point writes back is its block of the result. -/
theorem block3 (c : Dev nD) (t : Fin cfg3.N) (r : Fin 1376) (l : Fin 512) :
    k3_pay1 (iblk3 V c 0 t) (iblk3 V c 1 t) (ix2 r l) = result3 V c (ix2 (⟨(t.val / 8) * 1376 + r.val, by have := points3 t; omega⟩ : Fin 4128) (⟨(t.val % 8) * 512 + l.val, by omega⟩ : Fin 4096)) := by
  refine (pay3 (iblk3 V c 0 t) (iblk3 V c 1 t) r l).trans ?_
  show _ = result3 V c _
  simp only [result3, nn_apply, plus_apply, piece_apply]
  refine Finset.sum_congr rfl fun k _ => congrArg₂ (fun p q : EReal => p * q) ?_ ?_
  · exact (blk3_0 V c t r k).trans (congrArg (V c main_v2) (same (by simp [shift] <;> omega) (by simp [shift] <;> omega)))
  · exact (blk3_1 V c t k l).trans (congrArg (V c main_arg2) (same (by simp [shift] <;> omega) (by simp [shift] <;> omega)))

/-- The call's result array after the run. -/
theorem final3 (c : Dev nD) : (dat3 V c).arrAt 2 cfg3.N = result3 V c :=
  (dat3 V c).arrAt_eq_of_cover 2 (result3 V c) (fun t _ => by
    show (cfg3.win 2).cut (grid3.coords t) ((dat3 V c).after 2 t) = _
    rw [after3_2, left3]
    funext j
    obtain ⟨r, l, rfl⟩ : ∃ (r : Fin 1376) (l : Fin 512), j = ix2 r l := index_eq j
    rw [View.read_apply]
    exact (block3 V c t r l).trans (congrArg (result3 V c) (funext fun a => (Fin.ext (lies (at3_2 t) r l rfl rfl a)).symm))) fun i =>
    ⟨pointOf3 i, flush3_2 _, by
      show i ∈ ((View.whole main_v3).slice (win3_2.rect (pointOf3 i))).set
      rw [View.set_slice_whole, Rect.mem_set_unit]
      have h0 : (i 0 : Nat) < 4128 := (i 0).isLt
      have h1 : (i 1 : Nat) < 4096 := (i 1).isLt
      have hv : (pointOf3 i).val = (i 0 : Nat) / 1376 * 8 + (i 1 : Nat) / 512 := rfl
      exact holds i (at3_2 _) (by omega) (by omega) (by decide) (by decide)⟩

theorem points4 (t : Fin cfg4.N) : t.val < 24 := lt_of_lt_of_eq t.isLt (show cfg4.N = 24 from N_4)

/-! ## Where each block lies -/

theorem at4_0 : ∀ t : Fin cfg4.N, win4_0.index t 0 = t.val / 8 ∧ win4_0.index t 1 = 1 :=
  show ∀ t : Fin grid4.N, _ by decide +kernel
theorem at4_1 : ∀ t : Fin cfg4.N, win4_1.index t 0 = 1 ∧ win4_1.index t 1 = t.val % 8 :=
  show ∀ t : Fin grid4.N, _ by decide +kernel
theorem at4_2 : ∀ t : Fin cfg4.N, win4_2.index t 0 = t.val / 8 ∧ win4_2.index t 1 = t.val % 8 :=
  show ∀ t : Fin grid4.N, _ by decide +kernel
theorem at4_3 : ∀ t : Fin cfg4.N, win4_3.index t 0 = t.val / 8 ∧ win4_3.index t 1 = t.val % 8 :=
  show ∀ t : Fin grid4.N, _ by decide +kernel

theorem blk4_0 (c : Dev nD) (t : Fin cfg4.N) (r : Fin 1376) (l : Fin 5504) :
    iblk4 V c 0 t (ix2 r l) = V c main_v2 (ix2 (⟨(t.val / 8) * 1376 + r.val, by have := points4 t; omega⟩ : Fin 4128) (⟨(1) * 5504 + l.val, by omega⟩ : Fin 11008)) := by
  unfold iblk4
  rw [View.read_apply]
  exact congrArg (V c main_v2) (funext fun a => Fin.ext (lies (at4_0 t) r l rfl rfl a))

theorem blk4_1 (c : Dev nD) (t : Fin cfg4.N) (r : Fin 5504) (l : Fin 512) :
    iblk4 V c 1 t (ix2 r l) = V c main_arg2 (ix2 (⟨(1) * 5504 + r.val, by omega⟩ : Fin 11008) (⟨(t.val % 8) * 512 + l.val, by omega⟩ : Fin 4096)) := by
  unfold iblk4
  rw [View.read_apply]
  exact congrArg (V c main_arg2) (funext fun a => Fin.ext (lies (at4_1 t) r l rfl rfl a))

theorem blk4_2 (c : Dev nD) (t : Fin cfg4.N) (r : Fin 1376) (l : Fin 512) :
    iblk4 V c 2 t (ix2 r l) = V c main_v3 (ix2 (⟨(t.val / 8) * 1376 + r.val, by have := points4 t; omega⟩ : Fin 4128) (⟨(t.val % 8) * 512 + l.val, by omega⟩ : Fin 4096)) := by
  unfold iblk4
  rw [View.read_apply]
  exact congrArg (V c main_v3) (funext fun a => Fin.ext (lies (at4_2 t) r l rfl rfl a))

/-! ## One block of the result -/

/-- What the body computes: a product of two blocks, and the addend. -/
theorem pay4 (a : Vec Ideal S1376x5504 .bf16) (b : Vec Ideal S5504x512 .bf16) (e : Vec Ideal S1376x512 .f32) (r : Fin 1376) (l : Fin 512) :
    k4_pay1 a b e (ix2 r l) = (∑ k : Fin 5504, a (ix2 r k) * b (ix2 k l) : EReal) + e (ix2 r l) := by
  pointwise [k4_pay1]

/-- What the body leaves in the result's staging buffer. -/
theorem left4 (a : Vec Ideal S1376x5504 .bf16) (b : Vec Ideal S5504x512 .bf16) (e : Vec Ideal S1376x512 .f32) : out4_3 a b e = k4_pay1 a b e := by
  unfold out4_3
  rw [View.canon_unit_zero origin]
  simp only [View.ld_unit_zero (S := S1376x5504) origin, View.ld_unit_zero (S := S5504x512) origin, View.ld_unit_zero (S := S1376x512) origin]

/-! ## The whole result -/

/-- The result, as a product of the arrays the call reads. -/
def result4 (c : Dev nD) : Mat 4128 4096 := plus (nn (piece 0 5504 (a := 4128) (b := 5504) (c := 4128) (d := 11008) (by decide) (by decide) (V c main_v2)) (piece 5504 0 (a := 5504) (b := 4096) (c := 11008) (d := 4096) (by decide) (by decide) (V c main_arg2))) (V c main_v3)

/-- The grid point that writes an index of the result. -/
def pointOf4 (i : S4128x4096.Idx) : Fin cfg4.N :=
  ⟨(i 0 : Nat) / 1376 * 8 + (i 1 : Nat) / 512, by
    have h0 : (i 0 : Nat) < 4128 := (i 0).isLt
    have h1 : (i 1 : Nat) < 4096 := (i 1).isLt
    rw [show cfg4.N = 24 from N_4]; omega⟩

/-- What a grid point writes back is its block of the result. -/
theorem block4 (c : Dev nD) (t : Fin cfg4.N) (r : Fin 1376) (l : Fin 512) :
    k4_pay1 (iblk4 V c 0 t) (iblk4 V c 1 t) (iblk4 V c 2 t) (ix2 r l) = result4 V c (ix2 (⟨(t.val / 8) * 1376 + r.val, by have := points4 t; omega⟩ : Fin 4128) (⟨(t.val % 8) * 512 + l.val, by omega⟩ : Fin 4096)) := by
  refine (pay4 (iblk4 V c 0 t) (iblk4 V c 1 t) (iblk4 V c 2 t) r l).trans ?_
  show _ = result4 V c _
  simp only [result4, nn_apply, plus_apply, piece_apply]
  refine congrArg₂ (fun p q : EReal => p + q) ?_ ?_
  · refine Finset.sum_congr rfl fun k _ => congrArg₂ (fun p q : EReal => p * q) ?_ ?_
    · exact (blk4_0 V c t r k).trans (congrArg (V c main_v2) (same (by simp [shift] <;> omega) (by simp [shift] <;> omega)))
    · exact (blk4_1 V c t k l).trans (congrArg (V c main_arg2) (same (by simp [shift] <;> omega) (by simp [shift] <;> omega)))
  · exact blk4_2 V c t r l

/-- The call's result array after the run. -/
theorem final4 (c : Dev nD) : (dat4 V c).arrAt 3 cfg4.N = result4 V c :=
  (dat4 V c).arrAt_eq_of_cover 3 (result4 V c) (fun t _ => by
    show (cfg4.win 3).cut (grid4.coords t) ((dat4 V c).after 3 t) = _
    rw [after4_3, left4]
    funext j
    obtain ⟨r, l, rfl⟩ : ∃ (r : Fin 1376) (l : Fin 512), j = ix2 r l := index_eq j
    rw [View.read_apply]
    exact (block4 V c t r l).trans (congrArg (result4 V c) (funext fun a => (Fin.ext (lies (at4_3 t) r l rfl rfl a)).symm))) fun i =>
    ⟨pointOf4 i, flush4_3 _, by
      show i ∈ ((View.whole main_v4).slice (win4_3.rect (pointOf4 i))).set
      rw [View.set_slice_whole, Rect.mem_set_unit]
      have h0 : (i 0 : Nat) < 4128 := (i 0).isLt
      have h1 : (i 1 : Nat) < 4096 := (i 1).isLt
      have hv : (pointOf4 i).val = (i 0 : Nat) / 1376 * 8 + (i 1 : Nat) / 512 := rfl
      exact holds i (at4_3 _) (by omega) (by omega) (by decide) (by decide)⟩

end Cert.FfnHalvesIdeal.Products

end
-- ==== Proof.FfnHalvesAct.lean ====
/-
  The gated product of the gate and the up projection, 48 rows at a grid point.
-/
module

public import proofs.«01_k».proof.Proof.Gen.FfnHalvesIdeal.Frame
public import proofs.«01_k».proof.Proof.FfnSpec
public import Idealize.ShloMosaic.Lib.Pointwise
public import Idealize.ShloMosaic.Lib.Tactic
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.FfnHalvesIdeal.Act

open Cert.FfnHalvesIdeal Cert.FfnHalvesIdeal.Gen Cert.Products Cert.FfnSpec

variable (V : (c : Dev nD) → (b : Ref sig .tc) → Buf (Elt Ideal) ((c : Thread nD τ).loc b))

theorem points2 (t : Fin cfg2.N) : t.val < 86 := lt_of_lt_of_eq t.isLt (show cfg2.N = 86 from N_2)

/-- Row `r` of a grid point's block. -/
def rowOf2 (t : Fin cfg2.N) (r : Fin 48) : Fin 4128 := ⟨t.val * 48 + r.val, by have := points2 t; omega⟩

theorem at2_0 : ∀ t : Fin cfg2.N, win2_0.index t 0 = t.val ∧ win2_0.index t 1 = 0 :=
  (by decide +kernel : ∀ t : Fin grid2.N, win2_0.index t 0 = t.val ∧ win2_0.index t 1 = 0)
theorem at2_1 : ∀ t : Fin cfg2.N, win2_1.index t 0 = t.val ∧ win2_1.index t 1 = 1 :=
  (by decide +kernel : ∀ t : Fin grid2.N, win2_1.index t 0 = t.val ∧ win2_1.index t 1 = 1)
theorem at2_2 : ∀ t : Fin cfg2.N, win2_2.index t 0 = t.val ∧ win2_2.index t 1 = 0 :=
  (by decide +kernel : ∀ t : Fin grid2.N, win2_2.index t 0 = t.val ∧ win2_2.index t 1 = 0)

/-- A window's block, entry by entry; so for the other windows below. -/
theorem blk2_0 (c : Dev nD) (t : Fin cfg2.N) (r : Fin 48) (l : Fin 11008) :
    iblk2 V c 0 t (ix2 r l) = V c main_v1 (ix2 (rowOf2 t r) (gateCol l)) := by
  unfold iblk2
  rw [View.read_apply]
  show V c main_v1 _ = V c main_v1 _
  congr 1
  funext a
  apply Fin.ext
  have hi := at2_0 t
  match a with
  | ⟨0, _⟩ => show win2_0.index t 0 * 48 + 1 * r.val = t.val * 48 + r.val; rw [hi.1]; omega
  | ⟨1, _⟩ => show win2_0.index t 1 * 11008 + 1 * l.val = l.val; rw [hi.2]; omega

theorem blk2_1 (c : Dev nD) (t : Fin cfg2.N) (r : Fin 48) (l : Fin 11008) :
    iblk2 V c 1 t (ix2 r l) = V c main_v1 (ix2 (rowOf2 t r) (upCol l)) := by
  unfold iblk2
  rw [View.read_apply]
  show V c main_v1 _ = V c main_v1 _
  congr 1
  funext a
  apply Fin.ext
  have hi := at2_1 t
  match a with
  | ⟨0, _⟩ => show win2_1.index t 0 * 48 + 1 * r.val = t.val * 48 + r.val; rw [hi.1]; omega
  | ⟨1, _⟩ => show win2_1.index t 1 * 11008 + 1 * l.val = l.val + 11008; rw [hi.2]; omega

/-- What the body computes at one entry. -/
theorem pay2 (a b : Vec Ideal S48x11008 .bf16) (r : Fin 48) (l : Fin 11008) :
    k2_pay1 a b (ix2 r l) = a (ix2 r l) * Ideal.logistic (a (ix2 r l)) * b (ix2 r l) := by
  pointwise [k2_pay1]

/-- What the body leaves in the result's staging buffer. -/
theorem left2 (a b : Vec Ideal S48x11008 .bf16) : out2_2 a b = k2_pay1 a b := by
  unfold out2_2
  rw [View.canon_unit_zero origin]
  simp only [View.ld_unit_zero (S := S48x11008) origin]

/-- The result, from the array the call reads. -/
def result2 (c : Dev nD) : Mat 4128 11008 := act (V c main_v1)

/-- The grid point that writes an index of the result. -/
def pointOf2 (i : S4128x11008.Idx) : Fin cfg2.N :=
  ⟨(i 0 : Nat) / 48, by
    have h0 : (i 0 : Nat) < 4128 := (i 0).isLt
    rw [show cfg2.N = 86 from N_2]; omega⟩

/-- What a grid point leaves is its block of the result. -/
theorem block2 (c : Dev nD) (t : Fin cfg2.N) (r : Fin 48) (l : Fin 11008) :
    out2_2 (iblk2 V c 0 t) (iblk2 V c 1 t) (ix2 r l) = result2 V c (ix2 (rowOf2 t r) l) := by
  rw [left2]
  refine (pay2 (iblk2 V c 0 t) (iblk2 V c 1 t) r l).trans ?_
  rw [blk2_0 V c t r l, blk2_1 V c t r l]
  rfl

/-- The call's result array after the run. -/
theorem final2 (c : Dev nD) : (dat2 V c).arrAt 2 cfg2.N = result2 V c :=
  (dat2 V c).arrAt_eq_of_cover 2 (result2 V c) (fun t _ => by
    rw [show (dat2 V c).flushed 2 t = (cfg2.win 2).cut (grid2.coords t) ((dat2 V c).after 2 t) from rfl, after2_2]
    funext j
    obtain ⟨r, l, rfl⟩ : ∃ (r : Fin 48) (l : Fin 11008), j = ix2 r l := index_eq j
    rw [View.read_apply]
    have hi := at2_2 t
    have hj : ((cfg2.win 2).blk t).view.emb (ix2 r l) = ix2 (rowOf2 t r) l := by
      funext a
      apply Fin.ext
      match a with
      | ⟨0, _⟩ => show win2_2.index t 0 * 48 + 1 * r.val = t.val * 48 + r.val; rw [hi.1]; omega
      | ⟨1, _⟩ => show win2_2.index t 1 * 11008 + 1 * l.val = l.val; rw [hi.2]; omega
    rw [hj]
    exact block2 V c t r l) fun i =>
    ⟨pointOf2 i, flush2_2 _, by
      show i ∈ ((View.whole main_v2).slice (win2_2.rect (pointOf2 i))).set
      rw [View.set_slice_whole, Rect.mem_set_unit]
      have h0 : (i 0 : Nat) < 4128 := (i 0).isLt
      have h1 : (i 1 : Nat) < 11008 := (i 1).isLt
      have hi := at2_2 (pointOf2 i)
      have hv : (pointOf2 i).val = (i 0 : Nat) / 48 := rfl
      intro a
      match a with
      | ⟨0, _⟩ => show win2_2.index (pointOf2 i) 0 * 48 ≤ (i 0 : Nat) ∧ (i 0 : Nat) < win2_2.index (pointOf2 i) 0 * 48 + 48; rw [hi.1, hv]; omega
      | ⟨1, _⟩ => show win2_2.index (pointOf2 i) 1 * 11008 ≤ (i 1 : Nat) ∧ (i 1 : Nat) < win2_2.index (pointOf2 i) 1 * 11008 + 11008; rw [hi.2]; omega⟩

end Cert.FfnHalvesIdeal.Act

end
-- ==== Proof.FfnHalvesRun.lean ====
/-
  The run of the forward pass whose gate and up projection comes in two calls: each array followed from the call that writes it
  to the calls that read it.
-/
module

public import proofs.«01_k».proof.Proof.FfnHalvesProducts
public import proofs.«01_k».proof.Proof.FfnHalvesAct
public import Idealize.ShloMosaic.Lib.Tactic

@[expose] public section

set_option maxRecDepth 16384

noncomputable section

namespace Cert.FfnHalvesIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FfnHalvesIdeal Cert.FfnHalvesIdeal.Gen Cert.Products Cert.FfnSpec

local notation "𝕄" => MT nD τ sig Unit (Elt Ideal) ℕ (UR sig nD τ) ℕ

variable (m : (ℓ : Loc nD τ sig) → Buf (Elt Ideal) ℓ) (ρ : Dev nD → PrngReg)

/-! ## The arguments, and what the calls leave, from the arguments -/

abbrev arg0 (c : Dev nD) : Mat 4128 4096 := m (c.tc.loc main_arg0)
abbrev arg1 (c : Dev nD) : Mat 4096 22016 := m (c.tc.loc main_arg1)
abbrev arg2 (c : Dev nD) : Mat 11008 4096 := m (c.tc.loc main_arg2)
/-- The first half of the gate and up projection. -/
def gu0 (c : Dev nD) : Mat 4128 22016 := nn (piece 0 0 (a := 4128) (b := 2048) (c := 4128) (d := 4096) (by decide) (by decide) (arg0 m c)) (piece 0 0 (a := 2048) (b := 22016) (c := 4096) (d := 22016) (by decide) (by decide) (arg1 m c))

/-- The second half, added to the first. -/
def gu (c : Dev nD) : Mat 4128 22016 := plus (nn (piece 0 2048 (a := 4128) (b := 2048) (c := 4128) (d := 4096) (by decide) (by decide) (arg0 m c)) (piece 2048 0 (a := 2048) (b := 22016) (c := 4096) (d := 22016) (by decide) (by decide) (arg1 m c))) (gu0 m c)

/-- The gated product. -/
def acts (c : Dev nD) : Mat 4128 11008 := act (gu m c)

/-- The first half of the down projection. -/
def down0 (c : Dev nD) : Mat 4128 4096 := nn (piece 0 0 (a := 4128) (b := 5504) (c := 4128) (d := 11008) (by decide) (by decide) (acts m c)) (piece 0 0 (a := 5504) (b := 4096) (c := 11008) (d := 4096) (by decide) (by decide) (arg2 m c))

/-- The second half, added to the first. -/
def down1 (c : Dev nD) : Mat 4128 4096 := plus (nn (piece 0 5504 (a := 4128) (b := 5504) (c := 4128) (d := 11008) (by decide) (by decide) (acts m c)) (piece 5504 0 (a := 5504) (b := 4096) (c := 11008) (d := 4096) (by decide) (by decide) (arg2 m c))) (down0 m c)

/-! ## What each array holds when a call begins -/

theorem v0_1 (c : Dev nD) : W1 m ρ c (Proc.devRef .tc main_v0) = gu0 m c := by
  refine (W1_arr m ρ c 2).trans ((Products.final0 (V0 m ρ) c).trans ?_)
  unfold Products.result0 gu0
  rfl

theorem v1_2 (c : Dev nD) : W2 m ρ c (Proc.devRef .tc main_v1) = gu m c := by
  refine (W2_arr m ρ c 3).trans ((Products.final1 (V1 m ρ) c).trans ?_)
  unfold Products.result1 gu
  rw [show V1 m ρ c main_arg0 = arg0 m c from W1_args m ρ c main_arg0 (by simp [argRefs])]
  rw [show V1 m ρ c main_arg1 = arg1 m c from W1_args m ρ c main_arg1 (by simp [argRefs])]
  rw [show V1 m ρ c main_v0 = _ from v0_1 m ρ c]

theorem v2_3 (c : Dev nD) : W3 m ρ c (Proc.devRef .tc main_v2) = acts m c := by
  refine (W3_arr m ρ c 2).trans ((Act.final2 (V2 m ρ) c).trans ?_)
  unfold Act.result2 acts
  rw [show V2 m ρ c main_v1 = _ from v1_2 m ρ c]
theorem v2_4 (c : Dev nD) : W4 m ρ c (Proc.devRef .tc main_v2) = acts m c :=
  (W4_of m ρ c main_v2 (by decide +kernel)).trans (v2_3 m ρ c)

theorem v3_4 (c : Dev nD) : W4 m ρ c (Proc.devRef .tc main_v3) = down0 m c := by
  refine (W4_arr m ρ c 2).trans ((Products.final3 (V3 m ρ) c).trans ?_)
  unfold Products.result3 down0
  rw [show V3 m ρ c main_v2 = _ from v2_3 m ρ c]
  rw [show V3 m ρ c main_arg2 = arg2 m c from W3_args m ρ c main_arg2 (by simp [argRefs])]

theorem v4_5 (c : Dev nD) : W5 m ρ c (Proc.devRef .tc main_v4) = down1 m c := by
  refine (W5_arr m ρ c 3).trans ((Products.final4 (V4 m ρ) c).trans ?_)
  unfold Products.result4 down1
  rw [show V4 m ρ c main_v2 = _ from v2_4 m ρ c]
  rw [show V4 m ρ c main_arg2 = arg2 m c from W4_args m ρ c main_arg2 (by simp [argRefs])]
  rw [show V4 m ρ c main_v3 = _ from v3_4 m ρ c]

/-! ## The run -/

set_option backward.isDefEq.respectTransparency.types false in
/-- Every run ends, with the results at these functions of the arguments and the arguments kept. -/
theorem run : θ_run defs (onTc (τ := τ) (main (F := Ideal))) ⟨m, fun _ => 0, ρ⟩ (fun r => ∀ c : Dev nD,
      r.2.mem (c.tc.loc main_v4) = down1 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨(h c _ (mem_uc main_v4 (by decide))).trans (v4_5 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.FfnHalvesIdeal.Run

end
-- ==== Proof.FfnHalvesClaim.lean ====
/-
  The claims about the forward pass whose gate and up projection comes in two calls. The reference is that of the other
  forward pass.
-/
module

public import proofs.«01_k».proof.Defs
public import proofs.«01_k».proof.Proof.Gen.FfnHalves.Frame
public import proofs.«01_k».proof.Proof.FfnHalvesRun
public import proofs.«01_k».proof.Proof.FfnFwdReference
public import proofs.«01_k».proof.Proof.FfnMath
public import Idealize.ShloMosaic.Adequacy
public import Idealize.ShloMosaic.Init

@[expose] public section

set_option maxRecDepth 16384

noncomputable section

namespace Cert.FfnHalvesMath

open Idealize.ShloMosaic Cert.Products

/-- The two halves of the gate and up projection's sum make the whole product. -/
theorem gu_parts (A : Mat 4128 4096) (W : Mat 4096 22016) :
    plus (nn (piece 0 2048 (a := 4128) (b := 2048) (c := 4128) (d := 4096) (by decide) (by decide) A)
        (piece 2048 0 (a := 2048) (b := 22016) (c := 4096) (d := 22016) (by decide) (by decide) W))
      (nn (piece 0 0 (a := 4128) (b := 2048) (c := 4128) (d := 4096) (by decide) (by decide) A)
        (piece 0 0 (a := 2048) (b := 22016) (c := 4096) (d := 22016) (by decide) (by decide) W)) = nn A W := by
  funext i
  obtain ⟨r, l, rfl⟩ := index_eq i
  refine Eq.trans ?_ (sum_split (a := 2048) (b := 2048) (n := 4096) (by decide) fun k => A (ix2 r k) * W (ix2 k l)).symm
  simp only [plus_apply, nn_apply, piece_apply, FfnMath.shift_zero]
  exact add_comm _ _

end Cert.FfnHalvesMath

namespace Cert.Proof

open Idealize.ShloMosaic Idealize.SL.Sem

theorem ffnHalvesFrame : Cert.quiescent_FfnHalves := fun m ρ _ => Cert.FfnHalves.Gen.frame m ρ

theorem ffnHalvesIdealFrame : Cert.quiescent_FfnHalvesIdeal := fun m ρ _ => Cert.FfnHalvesIdeal.Gen.frame m ρ

theorem halves_down (m) (c) : FfnHalvesIdeal.Run.down1 m c
    = Products.nn (FfnSpec.act (Products.nn (FfnHalvesIdeal.Run.arg0 m c) (FfnHalvesIdeal.Run.arg1 m c))) (FfnHalvesIdeal.Run.arg2 m c) := by
  rw [← FfnHalvesMath.gu_parts]
  exact FfnMath.down_parts (FfnHalvesIdeal.Run.acts m c) _

/-- The kernel's five calls and the plain block leave the same value, over the extended reals. -/
theorem ffnHalvesValue : Cert.algebraic_FfnHalvesIdeal_FfnFwdRefIdeal := fun m ρ m' ρ' _ hag =>
  ⟨fun c => FfnHalvesIdeal.Run.down1 m c,
   (θ_run Cert.FfnHalvesIdeal.defs _ _).mono (fun r h c => h c) (Cert.FfnHalvesIdeal.Run.run m ρ),
   (θ_run Cert.FfnFwdRefIdeal.defs _ _).mono
     (fun r h c => by
       obtain ⟨h0, hk⟩ := h c
       obtain ⟨e0, e1, e2⟩ := hag c
       refine ⟨h0.trans ?_, hk⟩
       rw [FfnFwdRefIdeal.Read.val_main_v8_eq, FfnFwdRefIdeal.Reference.value, e0, e1, e2]
       exact (halves_down m c).symm)
     (Cert.FfnFwdRefIdeal.Value.run m' ρ')⟩

end Cert.Proof

end
-- ==== Proof.RowBlocks.lean ====
/-
  An array of rows cut into blocks of consecutive rows, one per grid point: where a block's entry lies in the array, and
  which block an entry lies in. `at` is the block index that a window's map gives, `b` the rows of a block.
-/
module

public import Idealize.ShloMosaic.Lib.Pointwise

@[expose] public section

namespace Cert.RowBlocks

open Idealize.ShloMosaic

/-- Row `r` of block `t`. -/
def row {b n : ℕ} (t : ℕ) (h : t * b + b ≤ n) (r : Fin b) : Fin n := ⟨t * b + r.val, by omega⟩

/-- Where an entry of a block lies, coordinate by coordinate. -/
theorem lies {b n C : ℕ} (at_ : Fin 2 → ℕ) {t : ℕ} (h : t * b + b ≤ n) (hat : at_ 0 = t ∧ at_ 1 = 0) (r : Fin b) (l : Fin C) (a : Fin 2) :
    at_ a * (![b, C] : Fin 2 → ℕ) a + 1 * ((ix2 r l : (⟨2, ![b, C]⟩ : Shape).Idx) a).val
      = ((ix2 (row t h r) l : (⟨2, ![n, C]⟩ : Shape).Idx) a).val := by
  match a with
  | ⟨0, _⟩ => show at_ 0 * b + 1 * r.val = t * b + r.val; rw [hat.1]; omega
  | ⟨1, _⟩ => show at_ 1 * C + 1 * l.val = l.val; rw [hat.2]; omega

/-- An entry lies in the block that holds its row. -/
theorem holds {b n C : ℕ} (hb : 0 < b) (at_ : Fin 2 → ℕ) (i : (⟨2, ![n, C]⟩ : Shape).Idx) (hat : at_ 0 = (i 0).val / b ∧ at_ 1 = 0) (a : Fin 2) :
    at_ a * (![b, C] : Fin 2 → ℕ) a ≤ (i a).val ∧ (i a).val < at_ a * (![b, C] : Fin 2 → ℕ) a + (![b, C] : Fin 2 → ℕ) a := by
  match a with
  | ⟨0, _⟩ =>
    show at_ 0 * b ≤ (i 0).val ∧ (i 0).val < at_ 0 * b + b
    rw [hat.1]
    exact ⟨Nat.div_mul_le_self _ _, by have := Nat.lt_div_mul_add (a := (i 0).val) hb; omega⟩
  | ⟨1, _⟩ =>
    have h1 : (i 1).val < C := (i 1).isLt
    show at_ 1 * C ≤ (i 1).val ∧ (i 1).val < at_ 1 * C + C
    rw [hat.2]; omega

end Cert.RowBlocks
-- ==== Proof.AdamWArray.lean ====
/-
  The optimiser's call on one weight, whole: what each of its four result arrays holds after the run, at every index, as
  a function of the weight, its gradient and the two moments. A grid point holds 64 rows.
-/
module

public import proofs.«01_k».proof.Proof.Gen.AdamWIdeal.Value
public import proofs.«01_k».proof.Proof.Products
public import proofs.«01_k».proof.Proof.RowBlocks
public import Idealize.ShloMosaic.Lib.Pointwise
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamWIdeal.Array

open Cert.AdamWIdeal Cert.AdamWIdeal.Gen Cert.AdamWIdeal.Value Cert.Products

/-- The new first moment of one entry, from its gradient and the old one. -/
def first (g m : EReal) : EReal := Ideal.ofBits .f32 0x3F666666#32 * m + Ideal.ofBits .f32 0x3DCCCCCD#32 * g

/-- The new second moment of one entry. -/
def second (g v : EReal) : EReal := Ideal.ofBits .f32 0x3F7FBE77#32 * v + Ideal.ofBits .f32 0x3A83126F#32 * (g * g)

/-- The change of one entry: the first moment over the root of the second, each without its bias, and the decay. -/
def change (w g m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

variable (m : (ℓ : Loc nD τ sig) → Buf (Elt Ideal) ℓ) (ρ : Dev nD → PrngReg)

/-- The weight, its gradient and the two moments. -/
abbrev argW (c : Dev nD) : Mat 2752 4096 := m ((c : Thread nD τ).loc main_arg0)
abbrev argG (c : Dev nD) : Mat 2752 4096 := m ((c : Thread nD τ).loc main_arg1)
abbrev argM (c : Dev nD) : Mat 2752 4096 := m ((c : Thread nD τ).loc main_arg2)
abbrev argV (c : Dev nD) : Mat 2752 4096 := m ((c : Thread nD τ).loc main_arg3)

theorem points (t : Fin cfg0.N) : t.val < 43 := lt_of_lt_of_eq t.isLt (show cfg0.N = 43 from N_0)

theorem inside (t : Fin cfg0.N) : t.val * 64 + 64 ≤ 2752 := by have := points t; omega

/-- Row `r` of a grid point's block. -/
abbrev rowOf (t : Fin cfg0.N) (r : Fin 64) : Fin 2752 := RowBlocks.row t.val (inside t) r

/-- The grid point that writes an index. -/
def pointOf (i : S2752x4096.Idx) : Fin cfg0.N :=
  ⟨(i 0 : Nat) / 64, by
    have h0 : (i 0 : Nat) < 2752 := (i 0).isLt
    rw [show cfg0.N = 43 from N_0]; omega⟩

/-! ## Where each block lies -/

theorem at0 : ∀ t : Fin cfg0.N, win0_0.index t 0 = t.val ∧ win0_0.index t 1 = 0 :=
  show ∀ t : Fin grid0.N, _ by decide +kernel
theorem at1 : ∀ t : Fin cfg0.N, win0_1.index t 0 = t.val ∧ win0_1.index t 1 = 0 :=
  show ∀ t : Fin grid0.N, _ by decide +kernel
theorem at2 : ∀ t : Fin cfg0.N, win0_2.index t 0 = t.val ∧ win0_2.index t 1 = 0 :=
  show ∀ t : Fin grid0.N, _ by decide +kernel
theorem at3 : ∀ t : Fin cfg0.N, win0_3.index t 0 = t.val ∧ win0_3.index t 1 = 0 :=
  show ∀ t : Fin grid0.N, _ by decide +kernel
theorem at4 : ∀ t : Fin cfg0.N, win0_4.index t 0 = t.val ∧ win0_4.index t 1 = 0 :=
  show ∀ t : Fin grid0.N, _ by decide +kernel
theorem at5 : ∀ t : Fin cfg0.N, win0_5.index t 0 = t.val ∧ win0_5.index t 1 = 0 :=
  show ∀ t : Fin grid0.N, _ by decide +kernel
theorem at6 : ∀ t : Fin cfg0.N, win0_6.index t 0 = t.val ∧ win0_6.index t 1 = 0 :=
  show ∀ t : Fin grid0.N, _ by decide +kernel
theorem at7 : ∀ t : Fin cfg0.N, win0_7.index t 0 = t.val ∧ win0_7.index t 1 = 0 :=
  show ∀ t : Fin grid0.N, _ by decide +kernel

theorem blk0 (c : Dev nD) (t : Fin cfg0.N) (r : Fin 64) (l : Fin 4096) :
    iblk m c 0 t (ix2 r l) = argW m c (ix2 (rowOf t r) l) := by
  unfold iblk
  rw [View.read_apply]
  show V m c main_arg0 _ = m (c.tc.loc main_arg0) _
  unfold V
  congr 1
  exact funext fun a => Fin.ext (RowBlocks.lies (win0_0.index t) (inside t) (at0 t) r l a)

theorem blk1 (c : Dev nD) (t : Fin cfg0.N) (r : Fin 64) (l : Fin 4096) :
    iblk m c 1 t (ix2 r l) = argG m c (ix2 (rowOf t r) l) := by
  unfold iblk
  rw [View.read_apply]
  show V m c main_arg1 _ = m (c.tc.loc main_arg1) _
  unfold V
  congr 1
  exact funext fun a => Fin.ext (RowBlocks.lies (win0_1.index t) (inside t) (at1 t) r l a)

theorem blk2 (c : Dev nD) (t : Fin cfg0.N) (r : Fin 64) (l : Fin 4096) :
    iblk m c 2 t (ix2 r l) = argM m c (ix2 (rowOf t r) l) := by
  unfold iblk
  rw [View.read_apply]
  show V m c main_arg2 _ = m (c.tc.loc main_arg2) _
  unfold V
  congr 1
  exact funext fun a => Fin.ext (RowBlocks.lies (win0_2.index t) (inside t) (at2 t) r l a)

theorem blk3 (c : Dev nD) (t : Fin cfg0.N) (r : Fin 64) (l : Fin 4096) :
    iblk m c 3 t (ix2 r l) = argV m c (ix2 (rowOf t r) l) := by
  unfold iblk
  rw [View.read_apply]
  show V m c main_arg3 _ = m (c.tc.loc main_arg3) _
  unfold V
  congr 1
  exact funext fun a => Fin.ext (RowBlocks.lies (win0_3.index t) (inside t) (at3 t) r l a)

/-! ## What the body computes at one entry -/

theorem pay1 (g m : Vec Ideal S64x4096 .f32) (r : Fin 64) (l : Fin 4096) :
    k0_pay1 g m (ix2 r l) = first (g (ix2 r l)) (m (ix2 r l)) := by
  unfold first
  pointwise [k0_pay1]

theorem pay2 (g v : Vec Ideal S64x4096 .f32) (r : Fin 64) (l : Fin 4096) :
    k0_pay2 g v (ix2 r l) = second (g (ix2 r l)) (v (ix2 r l)) := by
  unfold second
  pointwise [k0_pay2]

theorem pay3 (g m v w : Vec Ideal S64x4096 .f32) (r : Fin 64) (l : Fin 4096) :
    k0_pay3 g m v w (ix2 r l) = change (w (ix2 r l)) (g (ix2 r l)) (m (ix2 r l)) (v (ix2 r l)) := by
  unfold change first second
  pointwise [k0_pay3, k0_pay1, k0_pay2]

/-! ## The four arrays -/

/-- The change of the weight. -/
def delta (c : Dev nD) : Mat 2752 4096 := fun i => change (argW m c i) (argG m c i) (argM m c i) (argV m c i)

theorem final4 (c : Dev nD) : (dats m 0 c).arrAt 4 cfg0.N = delta m c :=
  (dats m 0 c).arrAt_eq_of_cover 4 (delta m c) (fun t _ => by
    rw [flushed4]
    unfold out0_4
    rw [View.canon_unit_zero origin]
    simp only [View.ld_unit_zero (S := S64x4096) origin]
    funext j
    obtain ⟨r, l, rfl⟩ : ∃ (r : Fin 64) (l : Fin 4096), j = ix2 r l := index_eq j
    rw [View.read_apply]
    rw [show ((cfg0.win 4).blk t).view.emb (ix2 r l) = ix2 (rowOf t r) l from
      funext fun a => Fin.ext (RowBlocks.lies (win0_4.index t) (inside t) (at4 t) r l a)]
    refine (pay3 (iblk m c 1 t) (iblk m c 2 t) (iblk m c 3 t) (iblk m c 0 t) r l).trans ?_
    rw [blk0 m c t r l, blk1 m c t r l, blk2 m c t r l, blk3 m c t r l]
    rfl) fun i =>
    ⟨pointOf i, flush0_4 _, by
      show i ∈ ((View.whole main_v0_0).slice (win0_4.rect (pointOf i))).set
      rw [View.set_slice_whole, Rect.mem_set_unit]
      exact RowBlocks.holds (by decide) (win0_4.index (pointOf i)) i (at4 (pointOf i))⟩

/-- The new first moment. -/
def newM (c : Dev nD) : Mat 2752 4096 := fun i => first (argG m c i) (argM m c i)

theorem final5 (c : Dev nD) : (dats m 0 c).arrAt 5 cfg0.N = newM m c :=
  (dats m 0 c).arrAt_eq_of_cover 5 (newM m c) (fun t _ => by
    rw [flushed5]
    unfold out0_5
    rw [View.canon_unit_zero origin]
    simp only [View.ld_unit_zero (S := S64x4096) origin]
    funext j
    obtain ⟨r, l, rfl⟩ : ∃ (r : Fin 64) (l : Fin 4096), j = ix2 r l := index_eq j
    rw [View.read_apply]
    rw [show ((cfg0.win 5).blk t).view.emb (ix2 r l) = ix2 (rowOf t r) l from
      funext fun a => Fin.ext (RowBlocks.lies (win0_5.index t) (inside t) (at5 t) r l a)]
    refine (pay1 (iblk m c 1 t) (iblk m c 2 t) r l).trans ?_
    rw [blk1 m c t r l, blk2 m c t r l]
    rfl) fun i =>
    ⟨pointOf i, flush0_5 _, by
      show i ∈ ((View.whole main_v0_1).slice (win0_5.rect (pointOf i))).set
      rw [View.set_slice_whole, Rect.mem_set_unit]
      exact RowBlocks.holds (by decide) (win0_5.index (pointOf i)) i (at5 (pointOf i))⟩

/-- The new second moment. -/
def newV (c : Dev nD) : Mat 2752 4096 := fun i => second (argG m c i) (argV m c i)

theorem final6 (c : Dev nD) : (dats m 0 c).arrAt 6 cfg0.N = newV m c :=
  (dats m 0 c).arrAt_eq_of_cover 6 (newV m c) (fun t _ => by
    rw [flushed6]
    unfold out0_6
    rw [View.canon_unit_zero origin]
    simp only [View.ld_unit_zero (S := S64x4096) origin]
    funext j
    obtain ⟨r, l, rfl⟩ : ∃ (r : Fin 64) (l : Fin 4096), j = ix2 r l := index_eq j
    rw [View.read_apply]
    rw [show ((cfg0.win 6).blk t).view.emb (ix2 r l) = ix2 (rowOf t r) l from
      funext fun a => Fin.ext (RowBlocks.lies (win0_6.index t) (inside t) (at6 t) r l a)]
    refine (pay2 (iblk m c 1 t) (iblk m c 3 t) r l).trans ?_
    rw [blk1 m c t r l, blk3 m c t r l]
    rfl) fun i =>
    ⟨pointOf i, flush0_6 _, by
      show i ∈ ((View.whole main_v0_2).slice (win0_6.rect (pointOf i))).set
      rw [View.set_slice_whole, Rect.mem_set_unit]
      exact RowBlocks.holds (by decide) (win0_6.index (pointOf i)) i (at6 (pointOf i))⟩

/-- The gradient, handed on. -/
def sameG (c : Dev nD) : Mat 2752 4096 := fun i => argG m c i

theorem final7 (c : Dev nD) : (dats m 0 c).arrAt 7 cfg0.N = sameG m c :=
  (dats m 0 c).arrAt_eq_of_cover 7 (sameG m c) (fun t _ => by
    rw [flushed7]
    unfold out0_7
    rw [View.canon_unit_zero origin]
    simp only [View.ld_unit_zero (S := S64x4096) origin]
    funext j
    obtain ⟨r, l, rfl⟩ : ∃ (r : Fin 64) (l : Fin 4096), j = ix2 r l := index_eq j
    rw [View.read_apply]
    rw [show ((cfg0.win 7).blk t).view.emb (ix2 r l) = ix2 (rowOf t r) l from
      funext fun a => Fin.ext (RowBlocks.lies (win0_7.index t) (inside t) (at7 t) r l a)]
    exact blk1 m c t r l) fun i =>
    ⟨pointOf i, flush0_7 _, by
      show i ∈ ((View.whole main_v0_3).slice (win0_7.rect (pointOf i))).set
      rw [View.set_slice_whole, Rect.mem_set_unit]
      exact RowBlocks.holds (by decide) (win0_7.index (pointOf i)) i (at7 (pointOf i))⟩

end Cert.AdamWIdeal.Array

end
-- ==== Proof.AdamWClaim.lean ====
/-
  The claims about the optimiser's call on one weight: both sides compute the same function of each entry.
-/
module

public import proofs.«01_k».proof.Defs
public import proofs.«01_k».proof.Proof.Gen.AdamW.Frame
public import proofs.«01_k».proof.Proof.Gen.AdamWRefIdeal.Run
public import proofs.«01_k».proof.Proof.Gen.AdamWRefIdeal.Read
public import proofs.«01_k».proof.Proof.AdamWArray
public import Idealize.ShloMosaic.Adequacy
public import Idealize.ShloMosaic.Init

@[expose] public section

set_option maxRecDepth 16384

noncomputable section

namespace Cert.Proof

open Idealize.ShloMosaic Idealize.SL.Sem

theorem adamwFrame : Cert.quiescent_AdamW := fun m ρ _ => Cert.AdamW.Gen.frame m ρ

theorem adamwIdealFrame : Cert.quiescent_AdamWIdeal := fun m ρ _ => Cert.AdamWIdeal.Gen.frame m ρ

theorem adamwRefFrame : Cert.quiescent_AdamWRefIdeal := fun m ρ _ =>
  (θ_run Cert.AdamWRefIdeal.defs _ _).mono
    (fun r h => ⟨fun c => (h c).2.2.2.2, sem_eq_zero_of_no_sems (by decide) r.2⟩)
    (Cert.AdamWRefIdeal.Value.run (F := Ideal) m ρ)

open Cert.AdamWRefIdeal Cert.AdamWRefIdeal.Read in
theorem adamwRefM (g m : (⟨S2752x4096, .f32⟩ : BufTy).Contents (Elt Ideal)) (i : S2752x4096.Idx) :
    val_main_v4 (F := Ideal) g m i = AdamWIdeal.Array.first (g i) (m i) := by
  rw [val_main_v4_apply, val_main_v3_apply, val_main_v2_apply, val_main_v1_apply, val_main_v0_apply]
  rfl

open Cert.AdamWRefIdeal Cert.AdamWRefIdeal.Read in
theorem adamwRefV (g v : (⟨S2752x4096, .f32⟩ : BufTy).Contents (Elt Ideal)) (i : S2752x4096.Idx) :
    val_main_v10 (F := Ideal) g v i = AdamWIdeal.Array.second (g i) (v i) := by
  rw [val_main_v10_apply, val_main_v9_apply, val_main_v8_apply, val_main_v7_apply, val_main_v6_apply, val_main_v5_apply]
  rfl

open Cert.AdamWRefIdeal Cert.AdamWRefIdeal.Read in
theorem adamwRefChange (w g m v : (⟨S2752x4096, .f32⟩ : BufTy).Contents (Elt Ideal)) (i : S2752x4096.Idx) :
    val_main_v23 (F := Ideal) w g m v i = AdamWIdeal.Array.change (w i) (g i) (m i) (v i) := by
  rw [val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, adamwRefM, adamwRefV]
  rfl

/-- The optimiser's call leaves the change, the two moments and the gradient that the formula gives, over the extended
    reals, for every weight, gradient and moments. -/
theorem adamwValue : Cert.algebraic_AdamWIdeal_AdamWRefIdeal := fun m ρ m' ρ' _ hag =>
  ⟨fun c => AdamWIdeal.Array.delta m c, fun c => AdamWIdeal.Array.newM m c, fun c => AdamWIdeal.Array.newV m c,
   fun c => AdamWIdeal.Array.sameG m c,
   (θ_run Cert.AdamWIdeal.defs _ _).mono
     (fun r h c => ⟨(h c).1.trans (AdamWIdeal.Array.final4 m c), (h c).2.1.trans (AdamWIdeal.Array.final5 m c),
       (h c).2.2.1.trans (AdamWIdeal.Array.final6 m c), (h c).2.2.2.1.trans (AdamWIdeal.Array.final7 m c),
       (h c).2.2.2.2⟩)
     (Cert.AdamWIdeal.Value.run_blocks m ρ),
   (θ_run Cert.AdamWRefIdeal.defs _ _).mono
     (fun r h c => by
       obtain ⟨h0, h1, h2, h3, hk⟩ := h c
       obtain ⟨e0, e1, e2, e3⟩ := hag c
       refine ⟨h0.trans ?_, h1.trans ?_, h2.trans ?_, h3.trans ?_, hk⟩
       · rw [AdamWRefIdeal.Read.val_main_v23_eq, e0, e1, e2, e3]
         exact funext fun i => adamwRefChange _ _ _ _ i
       · rw [AdamWRefIdeal.Read.val_main_v4_eq, e1, e2]
         exact funext fun i => adamwRefM _ _ i
       · rw [AdamWRefIdeal.Read.val_main_v10_eq, e1, e3]
         exact funext fun i => adamwRefV _ _ i
       · rw [e1]; rfl)
     (Cert.AdamWRefIdeal.Value.run m' ρ')⟩

end Cert.Proof

end
-- ==== Proof.InputGradArray.lean ====
/-
  The call that forms the gradient at the step's input, whole: the scaled residual gradient plus the branch's, cut into the
  tokens' rows and the rows of the meta tokens that precede each sequence. A grid point is a pair (sequence, column block).
-/
module

public import proofs.«01_k».proof.Proof.Gen.InputGradIdeal.Value
public import proofs.«01_k».proof.Proof.Products
public import Idealize.ShloMosaic.Lib.Pointwise
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InputGradIdeal.Array

open Cert.InputGradIdeal Cert.InputGradIdeal.Gen Cert.InputGradIdeal.Value Cert.Products

/-- The sum of the scaled residual gradient and the branch's gradient. -/
def joined (A B : Mat 4128 4096) : Mat 4128 4096 := fun i => Ideal.ofBits .f32 0x3F9837F0#32 * A i + B i

/-- Row `r` of sequence `s` among all rows. -/
def tok (s : Fin 2) (r : Fin 2064) : Fin 4128 := ⟨s.val * 2064 + r.val, by omega⟩

/-- The `n` rows from row `o` on of each sequence. -/
def rowsFrom (o n : ℕ) (h : o + n ≤ 2064) (A B : Mat 4128 4096) : (⟨3, ![2, n, 4096]⟩ : Shape).Idx → EReal :=
  fun i => joined A B (ix2 (tok (i 0) ⟨o + (i 1).val, by have : (i 1).val < n := (i 1).isLt; omega⟩) (i 2))

variable (m : (ℓ : Loc nD τ sig) → Buf (Elt Ideal) ℓ) (ρ : Dev nD → PrngReg)

/-- The residual gradient and the branch's gradient. -/
abbrev argA (c : Dev nD) : Mat 4128 4096 := m ((c : Thread nD τ).loc main_arg0)
abbrev argB (c : Dev nD) : Mat 4128 4096 := m ((c : Thread nD τ).loc main_arg1)

/-! ## Where each block lies -/

theorem points (t : Fin cfg0.N) : t.val < 16 := lt_of_lt_of_eq t.isLt (show cfg0.N = 16 from N_0)

theorem at0 : ∀ t : Fin cfg0.N, win0_0.index t 0 = t.val / 8 ∧ win0_0.index t 1 = t.val % 8 :=
  show ∀ t : Fin grid0.N, _ by decide +kernel
theorem at1 : ∀ t : Fin cfg0.N, win0_1.index t 0 = t.val / 8 ∧ win0_1.index t 1 = t.val % 8 :=
  show ∀ t : Fin grid0.N, _ by decide +kernel
theorem at2 : ∀ t : Fin cfg0.N, win0_2.index t 0 = t.val / 8 ∧ win0_2.index t 1 = 0 ∧ win0_2.index t 2 = t.val % 8 :=
  show ∀ t : Fin grid0.N, _ by decide +kernel
theorem at3 : ∀ t : Fin cfg0.N, win0_3.index t 0 = t.val / 8 ∧ win0_3.index t 1 = 0 ∧ win0_3.index t 2 = t.val % 8 :=
  show ∀ t : Fin grid0.N, _ by decide +kernel

/-- Where an index of a grid point's input block lies in the array. -/
def under (t : Fin cfg0.N) (k : S2064x512.Idx) : S4128x4096.Idx :=
  ix2 (tok ⟨t.val / 8, by have := points t; omega⟩ (k 0))
    ⟨t.val % 8 * 512 + (k 1).val, by have h : (k 1).val < 512 := (k 1).isLt; omega⟩

theorem blk0 (c : Dev nD) (t : Fin cfg0.N) (k : S2064x512.Idx) : iblk m c 0 t k = argA m c (under t k) := by
  unfold iblk
  rw [View.read_apply]
  show V m c main_arg0 _ = m (c.tc.loc main_arg0) _
  unfold V
  congr 1
  funext a
  apply Fin.ext
  have hi := at0 t
  match a with
  | ⟨0, _⟩ => show win0_0.index t 0 * 2064 + 1 * (k 0).val = t.val / 8 * 2064 + (k 0).val; rw [hi.1]; omega
  | ⟨1, _⟩ => show win0_0.index t 1 * 512 + 1 * (k 1).val = t.val % 8 * 512 + (k 1).val; rw [hi.2]; omega

theorem blk1 (c : Dev nD) (t : Fin cfg0.N) (k : S2064x512.Idx) : iblk m c 1 t k = argB m c (under t k) := by
  unfold iblk
  rw [View.read_apply]
  show V m c main_arg1 _ = m (c.tc.loc main_arg1) _
  unfold V
  congr 1
  funext a
  apply Fin.ext
  have hi := at1 t
  match a with
  | ⟨0, _⟩ => show win0_1.index t 0 * 2064 + 1 * (k 0).val = t.val / 8 * 2064 + (k 0).val; rw [hi.1]; omega
  | ⟨1, _⟩ => show win0_1.index t 1 * 512 + 1 * (k 1).val = t.val % 8 * 512 + (k 1).val; rw [hi.2]; omega

theorem origin3 : (![0, 0, 0] : Fin 3 → Nat) = fun _ => 0 := funext fun a => by fin_cases a <;> rfl

/-! ## The gradient at the tokens' rows -/

/-- The gradient at the tokens' rows. -/
def tokens (c : Dev nD) : S2x2048x4096.Idx → EReal := rowsFrom 16 2048 (by decide) (argA m c) (argB m c)

/-- The grid point that writes an index. -/
def pointOf2 (i : S2x2048x4096.Idx) : Fin cfg0.N :=
  ⟨(i 0 : Nat) * 8 + (i 2 : Nat) / 512, by
    have h0 : (i 0 : Nat) < 2 := (i 0).isLt
    have h2 : (i 2 : Nat) < 4096 := (i 2).isLt
    rw [show cfg0.N = 16 from N_0]; omega⟩

theorem final2 (c : Dev nD) : (dats m 0 c).arrAt 2 cfg0.N = tokens m c :=
  (dats m 0 c).arrAt_eq_of_cover 2 (tokens m c) (fun t _ => by
    rw [flushed2]
    unfold out0_2
    simp only [View.ld_unit_zero (S := S2064x512) origin]
    funext j
    rw [View.read_apply]
    refine (canon2_eq (iblk m c 0 t) (iblk m c 1 t) j).trans ?_
    have hi := at2 t
    have h0 : (j 0 : Nat) < 1 := (j 0).isLt
    have hj : ix2 (tok ((((cfg0.win 2).blk t).view.emb j) 0) ⟨16 + ((((cfg0.win 2).blk t).view.emb j) 1).val, by
        have : ((((cfg0.win 2).blk t).view.emb j) 1).val < 2048 := ((((cfg0.win 2).blk t).view.emb j) 1).isLt
        omega⟩) ((((cfg0.win 2).blk t).view.emb j) 2) = under t (ix2_0 j) := by
      funext a
      apply Fin.ext
      match a with
      | ⟨0, _⟩ =>
        show (win0_2.index t 0 * 1 + 1 * (j 0).val) * 2064 + (16 + (win0_2.index t 1 * 2048 + 1 * (j 1).val)) = t.val / 8 * 2064 + ((j 1).val + 16)
        rw [hi.1, hi.2.1]; omega
      | ⟨1, _⟩ =>
        show win0_2.index t 2 * 512 + 1 * (j 2).val = t.val % 8 * 512 + (j 2).val
        rw [hi.2.2]; omega
    show Ideal.ofBits .f32 0x3F9837F0#32 * iblk m c 0 t (ix2_0 j) + iblk m c 1 t (ix2_0 j) = joined (argA m c) (argB m c) _
    rw [blk0, blk1]
    exact (congrArg (joined (argA m c) (argB m c)) hj).symm) fun i =>
    ⟨pointOf2 i, flush0_2 _, by
      show i ∈ ((View.whole main_v0_0).slice (win0_2.rect (pointOf2 i))).set
      rw [View.set_slice_whole, Rect.mem_set_unit]
      have h0 : (i 0 : Nat) < 2 := (i 0).isLt
      have h1 : (i 1 : Nat) < 2048 := (i 1).isLt
      have h2 : (i 2 : Nat) < 4096 := (i 2).isLt
      have hi := at2 (pointOf2 i)
      have hv : (pointOf2 i).val = (i 0 : Nat) * 8 + (i 2 : Nat) / 512 := rfl
      intro a
      match a with
      | ⟨0, _⟩ => show win0_2.index (pointOf2 i) 0 * 1 ≤ (i 0 : Nat) ∧ (i 0 : Nat) < win0_2.index (pointOf2 i) 0 * 1 + 1; rw [hi.1, hv]; omega
      | ⟨1, _⟩ => show win0_2.index (pointOf2 i) 1 * 2048 ≤ (i 1 : Nat) ∧ (i 1 : Nat) < win0_2.index (pointOf2 i) 1 * 2048 + 2048; rw [hi.2.1]; omega
      | ⟨2, _⟩ => show win0_2.index (pointOf2 i) 2 * 512 ≤ (i 2 : Nat) ∧ (i 2 : Nat) < win0_2.index (pointOf2 i) 2 * 512 + 512; rw [hi.2.2, hv]; omega⟩

/-! ## The gradient at the meta tokens' rows -/

/-- The gradient at the meta tokens' rows. -/
def metas (c : Dev nD) : S2x16x4096.Idx → EReal := rowsFrom 0 16 (by decide) (argA m c) (argB m c)

/-- The grid point that writes an index. -/
def pointOf3 (i : S2x16x4096.Idx) : Fin cfg0.N :=
  ⟨(i 0 : Nat) * 8 + (i 2 : Nat) / 512, by
    have h0 : (i 0 : Nat) < 2 := (i 0).isLt
    have h2 : (i 2 : Nat) < 4096 := (i 2).isLt
    rw [show cfg0.N = 16 from N_0]; omega⟩

theorem final3 (c : Dev nD) : (dats m 0 c).arrAt 3 cfg0.N = metas m c :=
  (dats m 0 c).arrAt_eq_of_cover 3 (metas m c) (fun t _ => by
    rw [flushed3]
    unfold out0_3
    simp only [View.ld_unit_zero (S := S2064x512) origin]
    funext j
    rw [View.read_apply]
    refine (canon3_eq (iblk m c 0 t) (iblk m c 1 t) j).trans ?_
    have hi := at3 t
    have h0 : (j 0 : Nat) < 1 := (j 0).isLt
    have hj : ix2 (tok ((((cfg0.win 3).blk t).view.emb j) 0) ⟨0 + ((((cfg0.win 3).blk t).view.emb j) 1).val, by
        have : ((((cfg0.win 3).blk t).view.emb j) 1).val < 16 := ((((cfg0.win 3).blk t).view.emb j) 1).isLt
        omega⟩) ((((cfg0.win 3).blk t).view.emb j) 2) = under t (ix3_0 j) := by
      funext a
      apply Fin.ext
      match a with
      | ⟨0, _⟩ =>
        show (win0_3.index t 0 * 1 + 1 * (j 0).val) * 2064 + (0 + (win0_3.index t 1 * 16 + 1 * (j 1).val)) = t.val / 8 * 2064 + ((j 1).val + 0)
        rw [hi.1, hi.2.1]; omega
      | ⟨1, _⟩ =>
        show win0_3.index t 2 * 512 + 1 * (j 2).val = t.val % 8 * 512 + (j 2).val
        rw [hi.2.2]; omega
    show Ideal.ofBits .f32 0x3F9837F0#32 * iblk m c 0 t (ix3_0 j) + iblk m c 1 t (ix3_0 j) = joined (argA m c) (argB m c) _
    rw [blk0, blk1]
    exact (congrArg (joined (argA m c) (argB m c)) hj).symm) fun i =>
    ⟨pointOf3 i, flush0_3 _, by
      show i ∈ ((View.whole main_v0_1).slice (win0_3.rect (pointOf3 i))).set
      rw [View.set_slice_whole, Rect.mem_set_unit]
      have h0 : (i 0 : Nat) < 2 := (i 0).isLt
      have h1 : (i 1 : Nat) < 16 := (i 1).isLt
      have h2 : (i 2 : Nat) < 4096 := (i 2).isLt
      have hi := at3 (pointOf3 i)
      have hv : (pointOf3 i).val = (i 0 : Nat) * 8 + (i 2 : Nat) / 512 := rfl
      intro a
      match a with
      | ⟨0, _⟩ => show win0_3.index (pointOf3 i) 0 * 1 ≤ (i 0 : Nat) ∧ (i 0 : Nat) < win0_3.index (pointOf3 i) 0 * 1 + 1; rw [hi.1, hv]; omega
      | ⟨1, _⟩ => show win0_3.index (pointOf3 i) 1 * 16 ≤ (i 1 : Nat) ∧ (i 1 : Nat) < win0_3.index (pointOf3 i) 1 * 16 + 16; rw [hi.2.1]; omega
      | ⟨2, _⟩ => show win0_3.index (pointOf3 i) 2 * 512 ≤ (i 2 : Nat) ∧ (i 2 : Nat) < win0_3.index (pointOf3 i) 2 * 512 + 512; rw [hi.2.2, hv]; omega⟩

end Cert.InputGradIdeal.Array

end
-- ==== Proof.InputGradClaim.lean ====
/-
  The claims about the call that forms the gradient at the step's input: both sides cut the same sum into rows.
-/
module

public import proofs.«01_k».proof.Defs
public import proofs.«01_k».proof.Proof.Gen.InputGrad.Frame
public import proofs.«01_k».proof.Proof.Gen.InputGradRefIdeal.Run
public import proofs.«01_k».proof.Proof.Gen.InputGradRefIdeal.Read
public import proofs.«01_k».proof.Proof.InputGradArray
public import Idealize.ShloMosaic.Adequacy
public import Idealize.ShloMosaic.Init

@[expose] public section

set_option maxRecDepth 16384

noncomputable section

namespace Cert.Proof

open Idealize.ShloMosaic Idealize.SL.Sem

theorem inputGradFrame : Cert.quiescent_InputGrad := fun m ρ _ => Cert.InputGrad.Gen.frame m ρ

theorem inputGradIdealFrame : Cert.quiescent_InputGradIdeal := fun m ρ _ => Cert.InputGradIdeal.Gen.frame m ρ

theorem inputGradRefFrame : Cert.quiescent_InputGradRefIdeal := fun m ρ _ =>
  (θ_run Cert.InputGradRefIdeal.defs _ _).mono
    (fun r h => ⟨fun c => (h c).2.2, sem_eq_zero_of_no_sems (by decide) r.2⟩)
    (Cert.InputGradRefIdeal.Value.run (F := Ideal) m ρ)

open Cert.InputGradRefIdeal Cert.InputGradRefIdeal.Read in
/-- The reference's sum, as three-dimensional array, at a sequence, a row and a column. -/
theorem inputGradRefSum (A B : (⟨S4128x4096, .f32⟩ : BufTy).Contents (Elt Ideal)) (i : S2x2064x4096.Idx) :
    val_main_v3 (F := Ideal) A B i = InputGradIdeal.Array.joined A B (ix2 (InputGradIdeal.Array.tok (i 0) (i 1)) (i 2)) := by
  rw [val_main_v3_apply, val_main_v2_apply, val_main_v1_apply, val_main_v0_apply]
  have h0 : (i 0 : Nat) < 2 := (i 0).isLt
  have h1 : (i 1 : Nat) < 2064 := (i 1).isLt
  have h2 : (i 2 : Nat) < 4096 := (i 2).isLt
  rw [show idx_main_v3 i = ix2 (InputGradIdeal.Array.tok (i 0) (i 1)) (i 2) from funext fun a => Fin.ext (by
    match a with
    | ⟨0, _⟩ =>
      show _ = (i 0).val * 2064 + (i 1).val
      simp only [idx_main_v3]; omega
    | ⟨1, _⟩ =>
      show _ = (i 2).val
      simp only [idx_main_v3]; omega)]
  rfl

/-- The call leaves the two cuts of the sum, over the extended reals, for every pair of gradients. -/
theorem inputGradValue : Cert.algebraic_InputGradIdeal_InputGradRefIdeal := fun m ρ m' ρ' _ hag =>
  ⟨fun c => InputGradIdeal.Array.tokens m c, fun c => InputGradIdeal.Array.metas m c,
   (θ_run Cert.InputGradIdeal.defs _ _).mono
     (fun r h c => ⟨(h c).1.trans (InputGradIdeal.Array.final2 m c), (h c).2.1.trans (InputGradIdeal.Array.final3 m c),
       (h c).2.2⟩)
     (Cert.InputGradIdeal.Value.run_blocks m ρ),
   (θ_run Cert.InputGradRefIdeal.defs _ _).mono
     (fun r h c => by
       obtain ⟨h0, h1, hk⟩ := h c
       obtain ⟨e0, e1⟩ := hag c
       refine ⟨h0.trans ?_, h1.trans ?_, hk⟩
       · rw [e0, e1]
         funext i
         refine (InputGradRefIdeal.Read.val_main_v4_apply (F := Ideal) _ _ i).trans ?_
         rw [inputGradRefSum]
         unfold InputGradIdeal.Array.tokens InputGradIdeal.Array.rowsFrom
         rfl
       · rw [e0, e1]
         funext i
         refine (InputGradRefIdeal.Read.val_main_v5_apply (F := Ideal) _ _ i).trans ?_
         rw [inputGradRefSum]
         unfold InputGradIdeal.Array.metas InputGradIdeal.Array.rowsFrom
         congr 1
         funext a
         apply Fin.ext
         match a with
         | ⟨0, _⟩ => simp [InputGradRefIdeal.Read.idx_main_v5, InputGradIdeal.Array.tok, ix2]
         | ⟨1, _⟩ => simp [InputGradRefIdeal.Read.idx_main_v5, InputGradIdeal.Array.tok, ix2])
     (Cert.InputGradRefIdeal.Value.run m' ρ')⟩

end Cert.Proof

end
-- ==== Proof.NormMath.lean ====
/-
  Layer normalisation of one row of 4096 numbers and its gradient, over the extended reals: the formula the training
  step uses, and the one automatic differentiation writes. They agree where the incoming row is made of real numbers.
-/
module

public import proofs.«01_k».proof.Proof.FfnMath

@[expose] public section

noncomputable section

open Idealize.ShloMosaic

namespace Cert.NormMath

open Cert.FfnMath

/-- A row of 4096 numbers. -/
abbrev Row := Fin 4096 → EReal

/-- The average of a row. -/
def mean (x : Row) : EReal := Ideal.div (∑ k : Fin 4096, x k) (Ideal.ofBits .f32 0x45800000#32)

/-- A row less its average. -/
def centred (x : Row) : Row := fun l => x l - mean x

/-- A row's variance and the small number under the square root. -/
def spread (x : Row) : EReal := mean (fun l => centred x l * centred x l) + Ideal.ofBits .f32 0x3727C5AC#32

/-- One over the standard deviation. -/
def rstd (x : Row) : EReal := Ideal.rsqrt (spread x)

/-- The normalised row. -/
def hat (x : Row) : Row := fun l => centred x l * rstd x

/-- The gradient of the row, from the gradient `d` of the normalised row: `rstd · (d − mean d − hat · mean (d · hat))`. -/
def grad (x d : Row) : Row := fun l => rstd x * (d l - mean d - hat x l * mean (fun k => d k * hat x k))

/-- The part of automatic differentiation's gradient that comes from the centred row. -/
def gradCentred (x d : Row) : Row := fun l =>
  d l * rstd x + Ideal.div ((∑ k : Fin 4096, centred x k * d k) * (Ideal.ofBits .f32 0xBF000000#32 * Ideal.div (rstd x) (spread x)))
      (Ideal.ofBits .f32 0x45800000#32) * (Ideal.ofBits .f32 0x40000000#32 * centred x l)

/-- The gradient of the row as automatic differentiation writes it. -/
def gradAuto (x d : Row) : Row := fun l =>
  gradCentred x d l + Ideal.div (∑ k : Fin 4096, -gradCentred x d k) (Ideal.ofBits .f32 0x45800000#32)

/-! ## The literals -/

/-- The small number, as a real number. -/
def eps : ℝ := 10995116 * ((2 : ℝ) ^ 40)⁻¹

theorem eps_pos : 0 < eps := by unfold eps; positivity

theorem eps_eq : Ideal.ofBits .f32 0x3727C5AC#32 = (eps : EReal) := by
  simp [Ideal.ofBits, Ideal.ieee, eps]

theorem four_eq : Ideal.ofBits .f32 0x45800000#32 = ((4096 : ℝ) : EReal) := by
  simp [Ideal.ofBits, Ideal.ieee]
  norm_cast
  norm_num

theorem two_eq : Ideal.ofBits .f32 0x40000000#32 = ((2 : ℝ) : EReal) := by
  simp [Ideal.ofBits, Ideal.ieee]
  norm_cast
  norm_num

theorem half_eq : Ideal.ofBits .f32 0xBF000000#32 = ((-(1 / 2) : ℝ) : EReal) := by
  simp [Ideal.ofBits, Ideal.ieee]
  norm_cast
  norm_num

/-! ## Rows of real numbers -/

theorem div4096 (x : EReal) : Ideal.div x (Ideal.ofBits .f32 0x45800000#32) = x * ((1 / 4096 : ℝ) : EReal) := by
  rw [four_eq]; exact Ideal.div_coe (by norm_num) x

theorem coe_sum (f : Fin 4096 → ℝ) : (∑ k : Fin 4096, (f k : EReal)) = ((∑ k : Fin 4096, f k : ℝ) : EReal) :=
  (map_sum (⟨⟨((↑) : ℝ → EReal), EReal.coe_zero⟩, EReal.coe_add⟩ : ℝ →+ EReal) f Finset.univ).symm

theorem mean_coe (x : Fin 4096 → ℝ) : mean (fun l => (x l : EReal)) = (((∑ k, x k) / 4096 : ℝ) : EReal) := by
  rw [mean, coe_sum, div4096, ← EReal.coe_mul]; congr 1; ring

/-- The centred real row. -/
def rc (x : Fin 4096 → ℝ) : Fin 4096 → ℝ := fun l => x l - (∑ k, x k) / 4096

/-- Variance and small number of a real row. -/
def rv (x : Fin 4096 → ℝ) : ℝ := (∑ l, rc x l * rc x l) / 4096 + eps

theorem rv_pos (x : Fin 4096 → ℝ) : 0 < rv x :=
  add_pos_of_nonneg_of_pos (div_nonneg (Finset.sum_nonneg fun l _ => mul_self_nonneg _) (by norm_num)) eps_pos

theorem sum_rc (x : Fin 4096 → ℝ) : ∑ l, rc x l = 0 := by
  simp only [rc, Finset.sum_sub_distrib, Finset.sum_const, Finset.card_univ, Fintype.card_fin, nsmul_eq_mul]
  push_cast; ring

theorem centred_coe (x : Fin 4096 → ℝ) : centred (fun l => (x l : EReal)) = fun l => (rc x l : EReal) := by
  funext l; rw [centred, mean_coe, ← EReal.coe_sub]; rfl

theorem spread_coe (x : Fin 4096 → ℝ) : spread (fun l => (x l : EReal)) = (rv x : EReal) := by
  rw [spread, centred_coe]
  simp only [← EReal.coe_mul]
  rw [mean_coe, eps_eq, ← EReal.coe_add]; rfl

theorem rstd_coe (x : Fin 4096 → ℝ) : rstd (fun l => (x l : EReal)) = (((Real.sqrt (rv x))⁻¹ : ℝ) : EReal) := by
  rw [rstd, spread_coe, Ideal.rsqrt_coe, if_neg (rv_pos x).le.not_gt, if_neg (rv_pos x).ne']

/-- The two gradients of a real row agree: `s² = 1/v`, and the centred row sums to nothing. -/
theorem real_grad (c d : Fin 4096 → ℝ) (s v : ℝ) (hc : ∑ l, c l = 0) (hv : s / v = s * s * s) (l : Fin 4096) :
    (d l * s + (∑ k, c k * d k) * (-(1 / 2) * (s / v)) / 4096 * (2 * c l))
        + (∑ k, -(d k * s + (∑ k, c k * d k) * (-(1 / 2) * (s / v)) / 4096 * (2 * c k))) / 4096
      = s * (d l - (∑ k, d k) / 4096 - c l * s * ((∑ k, d k * (c k * s)) / 4096)) := by
  have h1 : (∑ k, d k * (c k * s)) = (∑ k, c k * d k) * s := by
    rw [Finset.sum_mul]; exact Finset.sum_congr rfl fun k _ => by ring
  have h2 : ∀ q : ℝ, (∑ k, -(d k * s + q * (2 * c k))) = -((∑ k, d k) * s) := by
    intro q
    rw [Finset.sum_neg_distrib, Finset.sum_add_distrib, ← Finset.mul_sum, ← Finset.mul_sum, hc, ← Finset.sum_mul]
    ring
  rw [h1, h2, hv]
  ring

/-! ## A row with an infinite entry: everything is zero -/

theorem rstd_of_top {x : Row} (h : spread x = ⊤) : rstd x = 0 := by rw [rstd, h, Ideal.rsqrt_top]

theorem grad_zero {x : Row} (h : spread x = ⊤) (d : Row) (l : Fin 4096) : grad x d l = 0 := by
  rw [grad, rstd_of_top h, zero_mul]

theorem gradCentred_zero {x : Row} (h : spread x = ⊤) (d : Row) (l : Fin 4096) : gradCentred x d l = 0 := by
  have z : Ideal.div (0 : EReal) ⊤ = 0 := by simp [Ideal.div]
  rw [gradCentred, rstd_of_top h, h, z, mul_zero, mul_zero, mul_zero, div4096, zero_mul, zero_mul, add_zero]

theorem gradAuto_zero {x : Row} (h : spread x = ⊤) (d : Row) (l : Fin 4096) : gradAuto x d l = 0 := by
  rw [gradAuto]
  simp only [gradCentred_zero h, neg_zero, Finset.sum_const_zero, div4096, zero_mul, add_zero]

theorem real_of_ne {x : EReal} (h1 : x ≠ ⊤) (h2 : x ≠ ⊥) : Fin' x := ⟨x.toReal, (EReal.coe_toReal h1 h2).symm⟩

/-- A product of a number with itself is never the lowest. -/
theorem square_nonneg (x : EReal) : 0 ≤ x * x := by
  induction x with
  | bot => simp
  | coe r => exact_mod_cast mul_self_nonneg r
  | top => simp

theorem square_top {x : EReal} (h : ¬ Fin' x) : x * x = ⊤ := by
  induction x with
  | bot => simp
  | coe r => exact absurd ⟨r, rfl⟩ h
  | top => simp

theorem mean_top {f : Row} (h0 : ∀ l, 0 ≤ f l) (l : Fin 4096) (h : f l = ⊤) : mean f = ⊤ := by
  have hs : (∑ k : Fin 4096, f k) = ⊤ :=
    top_le_iff.1 (h ▸ Finset.single_le_sum (f := f) (fun k _ => h0 k) (Finset.mem_univ l))
  rw [mean, hs, div4096]
  exact EReal.top_mul_coe_of_pos (by norm_num)

/-- An entry of the centred row that isn't a real number makes the variance infinite. -/
theorem spread_top {x : Row} (l : Fin 4096) (h : ¬ Fin' (centred x l)) : spread x = ⊤ := by
  rw [spread, mean_top (fun l => square_nonneg _) l (square_top h), eps_eq]
  exact EReal.top_add_coe _

/-- A row is made of real numbers, or its variance is infinite. -/
theorem real_or_top (x : Row) : (∀ l, Fin' (x l)) ∨ spread x = ⊤ := by
  by_cases h : ∀ l, Fin' (x l)
  · exact Or.inl h
  · push Not at h
    obtain ⟨l, hl⟩ := h
    refine Or.inr (spread_top l ?_)
    rintro ⟨r, hr⟩
    rw [centred] at hr
    generalize mean x = m at hr
    revert hr hl
    generalize x l = y
    intro hl hr
    induction y with
    | coe q => exact hl ⟨q, rfl⟩
    | bot => simp at hr
    | top => induction m <;> simp at hr

/-- The two gradients of a row agree where the gradient of the normalised row is made of real numbers. -/
theorem gradAuto_eq (x d : Row) (hd : ∀ l, Fin' (d l)) : gradAuto x d = grad x d := by
  funext l
  rcases real_or_top x with hx | hx
  · choose y hy using hx
    choose e he using hd
    obtain rfl : x = fun l => (y l : EReal) := funext hy
    obtain rfl : d = fun l => (e l : EReal) := funext he
    have hv : ∀ a : ℝ, Ideal.div (a : EReal) (rv y : EReal) = ((a / rv y : ℝ) : EReal) := fun a => by
      rw [Ideal.div_coe (rv_pos y).ne', ← EReal.coe_mul]; congr 1; ring
    have key := real_grad (rc y) e ((Real.sqrt (rv y))⁻¹) (rv y) (sum_rc y)
      (by
        have h := Real.mul_self_sqrt (rv_pos y).le
        have h0 := (Real.sqrt_pos.2 (rv_pos y)).ne'
        rw [mul_assoc, ← mul_inv, h]; rfl) l
    have hdiv : ∀ a : ℝ, Ideal.div (a : EReal) (Ideal.ofBits .f32 0x45800000#32) = ((a / 4096 : ℝ) : EReal) := fun a => by
      rw [div4096, ← EReal.coe_mul]; congr 1; ring
    simp only [gradAuto, gradCentred, grad, hat, rstd_coe, spread_coe, centred_coe, two_eq, half_eq, hv, ← EReal.coe_mul, coe_sum, hdiv,
      ← EReal.coe_add, ← EReal.coe_neg, ← EReal.coe_sub, mean_coe]
    exact congrArg _ key
  · rw [gradAuto_zero hx, grad_zero hx]

/-- The normalised row is made of real numbers. -/
theorem hat_real (x : Row) (l : Fin 4096) : Fin' (hat x l) := by
  rcases real_or_top x with hx | hx
  · choose y hy using hx
    obtain rfl : x = fun l => (y l : EReal) := funext hy
    exact ⟨_, by rw [hat, rstd_coe, centred_coe, ← EReal.coe_mul]⟩
  · exact ⟨0, by rw [hat, rstd_of_top hx, mul_zero, EReal.coe_zero]⟩

end Cert.NormMath

end
-- ==== Proof.NormRows.lean ====
/-
  The rows that a normalisation's two calls compute, as formulas in whole arrays: the normalised rows, and the gradients from
  the saved rows. The branch's factor is a parameter: one half after a feed-forward block, one after the mixer.
-/
module

public import proofs.«01_k».proof.Proof.NormMath
public import proofs.«01_k».proof.Proof.Products
public import proofs.«01_k».proof.Proof.RowBlocks

@[expose] public section

set_option maxRecDepth 16384

noncomputable section

open Idealize.ShloMosaic

namespace Cert.NormRows

open Cert.NormMath Cert.Products

/-- Row `r` of the sum that is normalised: the residual, and the branch with its factor. -/
def mix {n : ℕ} (φ : EReal) (a b : Mat n 4096) (r : Fin n) : Row := fun l =>
  Ideal.ofBits .f32 0x3F9837F0#32 * a (ix2 r l) + φ * b (ix2 r l)

/-- Row `r` of the incoming gradient. -/
def incoming {n : ℕ} (d e : Mat n 4096) (r : Fin n) : Row := fun l => Ideal.ofBits .f32 0x3F9837F0#32 * d (ix2 r l) + e (ix2 r l)

/-- Row `r` of the gradient at the normalised rows. -/
def scaled {n : ℕ} (d e : Mat n 4096) (g : Mat 1 4096) (r : Fin n) : Row := fun l => incoming d e r l * g (ix2 0 l)

/-- A row's gradient from its normalised row and one over its deviation. -/
def gradOf (x : Row) (s : EReal) (d : Row) : Row := fun l => s * (d l - mean d - x l * mean (fun k => d k * x k))

/-- The normalised rows, scaled and shifted. -/
def normed (φ : EReal) (A B : Mat 4128 4096) (g o : Mat 1 4096) : Mat 4128 4096 := fun i => hat (mix φ A B (i 0)) (i 1) * g (ix2 0 (i 1)) + o (ix2 0 (i 1))

/-- The normalised rows. -/
def hats (φ : EReal) (A B : Mat 4128 4096) : Mat 4128 4096 := fun i => hat (mix φ A B (i 0)) (i 1)

/-- One over each row's deviation. -/
def rstds (φ : EReal) (A B : Mat 4128 4096) : Mat 4128 1 := fun i => rstd (mix φ A B (i 0))

/-- The gradient at the sum, from the normalised rows and one over their deviations. -/
def back (d e x : Mat 4128 4096) (s : Mat 4128 1) (g : Mat 1 4096) : Mat 4128 4096 := fun i =>
  gradOf (fun l => x (ix2 (i 0) l)) (s (ix2 (i 0) 0)) (scaled d e g (i 0)) (i 1)

/-- The same with the branch's factor. -/
def share (φ : EReal) (m : Mat 4128 4096) : Mat 4128 4096 := fun i => φ * m i

/-- One row's share of the scale's gradient, and of the shift's. -/
def gTerm (d e x : Mat 4128 4096) (l : Fin 4096) (R : Fin 4128) : EReal := incoming d e R l * x (ix2 R l)
def bTerm (d e : Mat 4128 4096) (l : Fin 4096) (R : Fin 4128) : EReal := incoming d e R l

/-- The sum of the first `n` rows' shares. -/
def upto (f : Fin 4128 → EReal) (n : ℕ) : EReal := ∑ k ∈ Finset.range n, if h : k < 4128 then f ⟨k, h⟩ else 0

theorem upto_add (f : Fin 4128 → EReal) (t : ℕ) (h : t * 96 + 96 ≤ 4128) :
    upto f (t * 96 + 96) = upto f (t * 96) + ∑ r : Fin 96, f (RowBlocks.row t h r) := by
  unfold upto
  rw [Finset.sum_range_add]
  refine congrArg (_ + ·) ?_
  rw [Finset.sum_range]
  exact Finset.sum_congr rfl fun r _ => dif_pos _

theorem upto_all (f : Fin 4128 → EReal) : upto f 4128 = ∑ R : Fin 4128, f R := by
  unfold upto
  rw [Finset.sum_range]
  exact Finset.sum_congr rfl fun R _ => dif_pos R.isLt

/-- The two sums over all rows. -/
def gSum (d e x : Mat 4128 4096) : Mat 1 4096 := fun i => ∑ R, gTerm d e x (i 1) R
def bSum (d e : Mat 4128 4096) : Mat 1 4096 := fun i => ∑ R, bTerm d e (i 1) R

end Cert.NormRows

end
-- ==== Proof.NormBlock.lean ====
/-
  The two normalisation calls at one block of 96 rows: what each value that a body computes is at one row and column.
-/
module

public import proofs.«01_k».proof.Proof.Gen.NormIdeal.Frame
public import proofs.«01_k».proof.Proof.NormRows
public import Idealize.ShloMosaic.Lib.Pointwise
public import Idealize.ShloMosaic.Lib.Tactic

@[expose] public section

set_option maxRecDepth 16384

noncomputable section

open Idealize.ShloMosaic Idealize.SL.Sem

namespace Cert.NormIdeal.Norm

open Cert.NormIdeal Cert.NormIdeal.Gen Cert.NormMath Cert.NormRows Cert.Products

/-- The factor on the branch. -/
abbrev factor : EReal := Ideal.ofBits .f32 0x3F000000#32

variable (a b d e x : Vec Ideal S96x4096 .f32) (s : Vec Ideal S96x1 .f32) (g o v : Vec Ideal S1x4096 .f32) (r : Fin 96) (l : Fin 4096)

theorem pay1 : k0_pay1 a b (ix2 r l) = centred (mix (n := 96) factor a b r) l := by
  unfold centred mean mix
  pointwise [k0_pay1]

theorem pay2 : k0_pay2 a b (ix2 r 0) = rstd (mix (n := 96) factor a b r) := by
  unfold rstd spread mean
  simp only [← pay1]
  pointwise [k0_pay2]

theorem pay3 : k0_pay3 a b (ix2 r l) = hat (mix (n := 96) factor a b r) l := by
  unfold hat
  rw [← pay1, ← pay2]
  pointwise [k0_pay3]

theorem pay4 : k0_pay4 a b g o (ix2 r l) = hat (mix (n := 96) factor a b r) l * g (ix2 0 l) + o (ix2 0 l) := by
  rw [← pay3]
  pointwise [k0_pay4]

theorem back5 : k1_pay5 d e (ix2 r l) = incoming (n := 96) d e r l := by
  unfold incoming
  pointwise [k1_pay5]

theorem back7 : k1_pay7 d e x s g (ix2 r l) = gradOf (fun l => x (ix2 r l)) (s (ix2 r 0)) (scaled (n := 96) d e g r) l := by
  unfold gradOf mean scaled
  simp only [← back5]
  pointwise [k1_pay7, k1_pay6]

theorem back8 : k1_pay8 d e x s g (ix2 r l) = factor * gradOf (fun l => x (ix2 r l)) (s (ix2 r 0)) (scaled (n := 96) d e g r) l := by
  rw [← back7]
  pointwise [k1_pay8]

theorem back3 : k1_pay3 (k1_pay5 d e) (k1_pay6 x) v (ix2 0 l) = v (ix2 0 l) + ∑ r : Fin 96, incoming (n := 96) d e r l * x (ix2 r l) := by
  simp only [← back5]
  pointwise [k1_pay3, k1_pay6]

theorem back4 : k1_pay4 (k1_pay5 d e) v (ix2 0 l) = v (ix2 0 l) + ∑ r : Fin 96, incoming (n := 96) d e r l := by
  simp only [← back5]
  pointwise [k1_pay4]

theorem zero1 : k1_pay1 (F := Ideal) (ix2 0 l) = 0 := by pointwise [k1_pay1]

theorem zero2 : k1_pay2 (F := Ideal) (ix2 0 l) = 0 := by pointwise [k1_pay2]

end Cert.NormIdeal.Norm

end
-- ==== Proof.NormFwd.lean ====
/-
  The normalisation's forward call, whole: its four result arrays from the four arrays it reads.
-/
module

public import proofs.«01_k».proof.Proof.NormBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormIdeal.Norm

open Cert.NormIdeal Cert.NormIdeal.Gen Cert.NormMath Cert.NormRows Cert.Products

variable (V : (c : Dev nD) → (b : Ref sig .tc) → Buf (Elt Ideal) ((c : Thread nD τ).loc b)) (c : Dev nD)

theorem inside0 (t : Fin cfg0.N) : t.val * 96 + 96 ≤ 4128 := by
  have : t.val < 43 := lt_of_lt_of_eq t.isLt (show cfg0.N = 43 from N_0)
  omega

/-- The grid point that writes a row. -/
def point0 (R : Fin 4128) : Fin cfg0.N := ⟨R.val / 96, by rw [show cfg0.N = 43 from N_0]; omega⟩

theorem at0_0 : ∀ t : Fin cfg0.N, win0_0.index t 0 = t.val ∧ win0_0.index t 1 = 0 :=
  show ∀ t : Fin grid0.N, _ by decide +kernel
theorem at0_1 : ∀ t : Fin cfg0.N, win0_1.index t 0 = t.val ∧ win0_1.index t 1 = 0 :=
  show ∀ t : Fin grid0.N, _ by decide +kernel
theorem at0_2 : ∀ t : Fin cfg0.N, win0_2.index t 0 = 0 ∧ win0_2.index t 1 = 0 :=
  show ∀ t : Fin grid0.N, _ by decide +kernel
theorem at0_3 : ∀ t : Fin cfg0.N, win0_3.index t 0 = 0 ∧ win0_3.index t 1 = 0 :=
  show ∀ t : Fin grid0.N, _ by decide +kernel
theorem at0_4 : ∀ t : Fin cfg0.N, win0_4.index t 0 = t.val ∧ win0_4.index t 1 = 0 :=
  show ∀ t : Fin grid0.N, _ by decide +kernel
theorem at0_5 : ∀ t : Fin cfg0.N, win0_5.index t 0 = t.val ∧ win0_5.index t 1 = 0 :=
  show ∀ t : Fin grid0.N, _ by decide +kernel
theorem at0_6 : ∀ t : Fin cfg0.N, win0_6.index t 0 = t.val ∧ win0_6.index t 1 = 0 :=
  show ∀ t : Fin grid0.N, _ by decide +kernel
theorem at0_7 : ∀ t : Fin cfg0.N, win0_7.index t 0 = t.val ∧ win0_7.index t 1 = 0 :=
  show ∀ t : Fin grid0.N, _ by decide +kernel

theorem blk0_0 (t : Fin cfg0.N) (r : Fin 96) (l : Fin 4096) :
    iblk0 V c 0 t (ix2 r l) = (V c main_arg0 : Mat 4128 4096) (ix2 (RowBlocks.row t.val (inside0 t) r) l) := by
  unfold iblk0
  rw [View.read_apply]
  exact congrArg (V c main_arg0) (funext fun a => Fin.ext (RowBlocks.lies (win0_0.index t) (inside0 t) (at0_0 t) r l a))

theorem blk0_1 (t : Fin cfg0.N) (r : Fin 96) (l : Fin 4096) :
    iblk0 V c 1 t (ix2 r l) = (V c main_arg1 : Mat 4128 4096) (ix2 (RowBlocks.row t.val (inside0 t) r) l) := by
  unfold iblk0
  rw [View.read_apply]
  exact congrArg (V c main_arg1) (funext fun a => Fin.ext (RowBlocks.lies (win0_1.index t) (inside0 t) (at0_1 t) r l a))

theorem blk0_2 (t : Fin cfg0.N) (l : Fin 4096) :
    iblk0 V c 2 t (ix2 0 l) = (V c main_arg2 : Mat 1 4096) (ix2 0 l) := by
  unfold iblk0
  rw [View.read_apply]
  exact congrArg (V c main_arg2) (funext fun a => Fin.ext (RowBlocks.lies (win0_2.index t) (t := 0) (by decide : 0 * 1 + 1 ≤ 1) (at0_2 t) 0 l a))

theorem blk0_3 (t : Fin cfg0.N) (l : Fin 4096) :
    iblk0 V c 3 t (ix2 0 l) = (V c main_arg3 : Mat 1 4096) (ix2 0 l) := by
  unfold iblk0
  rw [View.read_apply]
  exact congrArg (V c main_arg3) (funext fun a => Fin.ext (RowBlocks.lies (win0_3.index t) (t := 0) (by decide : 0 * 1 + 1 ≤ 1) (at0_3 t) 0 l a))

theorem mix_block (t : Fin cfg0.N) (r : Fin 96) :
    mix (n := 96) factor (iblk0 V c 0 t) (iblk0 V c 1 t) r = mix factor (V c main_arg0) (V c main_arg1) (RowBlocks.row t.val (inside0 t) r) := by
  funext l
  unfold mix
  rw [blk0_0 V c t r l, blk0_1 V c t r l]

/-! ## The four arrays -/

theorem final0_4 : (dat0 V c).arrAt 4 cfg0.N = normed factor (V c main_arg0) (V c main_arg1) (V c main_arg2) (V c main_arg3) :=
  (dat0 V c).arrAt_eq_of_cover 4 _ (fun t _ => by
    show (cfg0.win 4).cut (grid0.coords t) ((dat0 V c).after 4 t) = _
    rw [after0_4]
    unfold out0_4
    rw [View.canon_unit_zero origin]
    simp only [View.ld_unit_zero (S := S96x4096) origin, View.ld_unit_zero (S := S1x4096) origin]
    funext j
    obtain ⟨r, l, rfl⟩ : ∃ (r : Fin 96) (l : Fin 4096), j = ix2 r l := index_eq j
    rw [View.read_apply, show ((cfg0.win 4).blk t).view.emb (ix2 r l) = ix2 (RowBlocks.row t.val (inside0 t) r) l from
      funext fun a => Fin.ext (RowBlocks.lies (win0_4.index t) (inside0 t) (at0_4 t) r l a)]
    refine (pay4 _ _ _ _ r l).trans ?_
    rw [mix_block, blk0_2 V c t l, blk0_3 V c t l]
    rfl) fun i =>
    ⟨point0 (i 0), flush0_4 _, by
      show i ∈ ((View.whole main_v0_0).slice (win0_4.rect (point0 (i 0)))).set
      rw [View.set_slice_whole, Rect.mem_set_unit]
      exact RowBlocks.holds (by decide) (win0_4.index (point0 (i 0))) i (at0_4 (point0 (i 0)))⟩

theorem final0_5 : (dat0 V c).arrAt 5 cfg0.N = normed factor (V c main_arg0) (V c main_arg1) (V c main_arg2) (V c main_arg3) :=
  (dat0 V c).arrAt_eq_of_cover 5 _ (fun t _ => by
    show (cfg0.win 5).cut (grid0.coords t) ((dat0 V c).after 5 t) = _
    rw [after0_5]
    unfold out0_5
    rw [View.canon_unit_zero origin]
    simp only [View.ld_unit_zero (S := S96x4096) origin, View.ld_unit_zero (S := S1x4096) origin]
    funext j
    obtain ⟨r, l, rfl⟩ : ∃ (r : Fin 96) (l : Fin 4096), j = ix2 r l := index_eq j
    rw [View.read_apply, show ((cfg0.win 5).blk t).view.emb (ix2 r l) = ix2 (RowBlocks.row t.val (inside0 t) r) l from
      funext fun a => Fin.ext (RowBlocks.lies (win0_5.index t) (inside0 t) (at0_5 t) r l a)]
    refine (pay4 _ _ _ _ r l).trans ?_
    rw [mix_block, blk0_2 V c t l, blk0_3 V c t l]
    rfl) fun i =>
    ⟨point0 (i 0), flush0_5 _, by
      show i ∈ ((View.whole main_v0_1).slice (win0_5.rect (point0 (i 0)))).set
      rw [View.set_slice_whole, Rect.mem_set_unit]
      exact RowBlocks.holds (by decide) (win0_5.index (point0 (i 0))) i (at0_5 (point0 (i 0)))⟩

theorem final0_6 : (dat0 V c).arrAt 6 cfg0.N = hats factor (V c main_arg0) (V c main_arg1) :=
  (dat0 V c).arrAt_eq_of_cover 6 _ (fun t _ => by
    show (cfg0.win 6).cut (grid0.coords t) ((dat0 V c).after 6 t) = _
    rw [after0_6]
    unfold out0_6
    rw [View.canon_unit_zero origin]
    simp only [View.ld_unit_zero (S := S96x4096) origin, View.ld_unit_zero (S := S1x4096) origin]
    funext j
    obtain ⟨r, l, rfl⟩ : ∃ (r : Fin 96) (l : Fin 4096), j = ix2 r l := index_eq j
    rw [View.read_apply, show ((cfg0.win 6).blk t).view.emb (ix2 r l) = ix2 (RowBlocks.row t.val (inside0 t) r) l from
      funext fun a => Fin.ext (RowBlocks.lies (win0_6.index t) (inside0 t) (at0_6 t) r l a)]
    exact (pay3 _ _ r l).trans (congrArg (hat · l) (mix_block V c t r))) fun i =>
    ⟨point0 (i 0), flush0_6 _, by
      show i ∈ ((View.whole main_v0_2).slice (win0_6.rect (point0 (i 0)))).set
      rw [View.set_slice_whole, Rect.mem_set_unit]
      exact RowBlocks.holds (by decide) (win0_6.index (point0 (i 0))) i (at0_6 (point0 (i 0)))⟩

theorem final0_7 : (dat0 V c).arrAt 7 cfg0.N = rstds factor (V c main_arg0) (V c main_arg1) :=
  (dat0 V c).arrAt_eq_of_cover 7 _ (fun t _ => by
    show (cfg0.win 7).cut (grid0.coords t) ((dat0 V c).after 7 t) = _
    rw [after0_7]
    unfold out0_7
    rw [View.canon_unit_zero origin]
    simp only [View.ld_unit_zero (S := S96x4096) origin, View.ld_unit_zero (S := S1x4096) origin]
    funext j
    obtain ⟨r, l, rfl⟩ : ∃ (r : Fin 96) (l : Fin 1), j = ix2 r l := index_eq j
    obtain rfl : l = 0 := Subsingleton.elim _ _
    rw [View.read_apply, show ((cfg0.win 7).blk t).view.emb (ix2 r 0) = ix2 (RowBlocks.row t.val (inside0 t) r) 0 from
      funext fun a => Fin.ext (RowBlocks.lies (win0_7.index t) (inside0 t) (at0_7 t) r 0 a)]
    exact (pay2 _ _ r).trans (congrArg rstd (mix_block V c t r))) fun i =>
    ⟨point0 (i 0), flush0_7 _, by
      show i ∈ ((View.whole main_v0_3).slice (win0_7.rect (point0 (i 0)))).set
      rw [View.set_slice_whole, Rect.mem_set_unit]
      exact RowBlocks.holds (by decide) (win0_7.index (point0 (i 0))) i (at0_7 (point0 (i 0)))⟩

end Cert.NormIdeal.Norm

end
-- ==== Proof.NormBwd.lean ====
/-
  The normalisation's backward call, whole: its four result arrays from the five arrays it reads. The scale's and the
  shift's gradients stay in place over the grid, and each point adds its 96 rows.
-/
module

public import proofs.«01_k».proof.Proof.NormBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormIdeal.Norm

open Cert.NormIdeal Cert.NormIdeal.Gen Cert.NormMath Cert.NormRows Cert.Products

section Body

variable (d0 : Dev nD) (i : grid1.Coords)
  (a0 : Memref sig .tc .vmem S96x4096 .f32) (h0 : a0.IsWhole)
  (a1 : Memref sig .tc .vmem S96x4096 .f32) (h1 : a1.IsWhole)
  (a2 : Memref sig .tc .vmem S96x4096 .f32) (h2 : a2.IsWhole)
  (a3 : Memref sig .tc .vmem S96x1 .f32) (h3 : a3.IsWhole)
  (a4 : Memref sig .tc .vmem S1x4096 .f32) (h4 : a4.IsWhole)
  (a5 : Memref sig .tc .vmem S96x4096 .f32) (h5 : a5.IsWhole)
  (a6 : Memref sig .tc .vmem S96x4096 .bf16) (h6 : a6.IsWhole)
  (a7 : Memref sig .tc .vmem S1x4096 .f32) (h7 : a7.IsWhole)
  (a8 : Memref sig .tc .vmem S1x4096 .f32) (h8 : a8.IsWhole)
  (x0 x1 x2 : Vec Ideal S96x4096 .f32) (x3 : Vec Ideal S96x1 .f32) (x4 o7 o8 : Vec Ideal S1x4096 .f32)

theorem out5_A (hc : cond1_0 i) : out1_A_5 (F := Ideal) d0 i a0 h0 a1 h1 a2 h2 a3 h3 a4 h4 a5 h5 a6 h6 a7 h7 a8 h8 hc x0 x1 x2 x3 x4 = k1_pay7 x0 x1 x2 x3 x4 := by
  unfold out1_A_5
  rw [View.read_writes_eq_canon]
  · unfold kernelRun1_A
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_A_5

theorem out6_A (hc : cond1_0 i) : out1_A_6 (F := Ideal) d0 i a0 h0 a1 h1 a2 h2 a3 h3 a4 h4 a5 h5 a6 h6 a7 h7 a8 h8 hc x0 x1 x2 x3 x4 = k1_pay8 x0 x1 x2 x3 x4 := by
  unfold out1_A_6
  rw [View.read_writes_eq_canon]
  · unfold kernelRun1_A
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_A_6

theorem out7_A (hc : cond1_0 i) : out1_A_7 (F := Ideal) d0 i a0 h0 a1 h1 a2 h2 a3 h3 a4 h4 a5 h5 a6 h6 a7 h7 a8 h8 hc x0 x1 x2 x3 x4 = k1_pay3 (k1_pay5 x0 x1) (k1_pay6 x2) (k1_pay1 (F := Ideal)) := by
  unfold out1_A_7
  rw [View.read_writes_eq_canon]
  · unfold kernelRun1_A
    dsimp only
    sl_unfold_words
    rw [View.canon_cons_unit_zero origin]
    simp only [View.readAt_eq_ld, Memref.IsWhole.read_unread, View.readCov_unit_zero (S := S1x4096) _ origin, View.ld_unit_zero (S := S96x4096) origin, View.ld_unit_zero (S := S1x4096) origin, View.ld_unit_zero (S := S96x1) origin]
  · intro; apply cover1_A_7

theorem out8_A (hc : cond1_0 i) : out1_A_8 (F := Ideal) d0 i a0 h0 a1 h1 a2 h2 a3 h3 a4 h4 a5 h5 a6 h6 a7 h7 a8 h8 hc x0 x1 x2 x3 x4 = k1_pay4 (k1_pay5 x0 x1) (k1_pay2 (F := Ideal)) := by
  unfold out1_A_8
  rw [View.read_writes_eq_canon]
  · unfold kernelRun1_A
    dsimp only
    sl_unfold_words
    rw [View.canon_cons_unit_zero origin]
    simp only [View.readAt_eq_ld, Memref.IsWhole.read_unread, View.readCov_unit_zero (S := S1x4096) _ origin, View.ld_unit_zero (S := S96x4096) origin, View.ld_unit_zero (S := S1x4096) origin, View.ld_unit_zero (S := S96x1) origin]
  · intro; apply cover1_A_8

theorem out5_B (hc : ¬ cond1_0 i) : out1_B_5 (F := Ideal) d0 i a0 h0 a1 h1 a2 h2 a3 h3 a4 h4 a5 h5 a6 h6 a7 h7 a8 h8 hc x0 x1 x2 x3 x4 o7 o8 = k1_pay7 x0 x1 x2 x3 x4 := by
  unfold out1_B_5
  rw [View.read_writes_eq_canon]
  · unfold kernelRun1_B
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_B_5

theorem out6_B (hc : ¬ cond1_0 i) : out1_B_6 (F := Ideal) d0 i a0 h0 a1 h1 a2 h2 a3 h3 a4 h4 a5 h5 a6 h6 a7 h7 a8 h8 hc x0 x1 x2 x3 x4 o7 o8 = k1_pay8 x0 x1 x2 x3 x4 := by
  unfold out1_B_6
  rw [View.read_writes_eq_canon]
  · unfold kernelRun1_B
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_B_6

theorem out7_B (hc : ¬ cond1_0 i) : out1_B_7 (F := Ideal) d0 i a0 h0 a1 h1 a2 h2 a3 h3 a4 h4 a5 h5 a6 h6 a7 h7 a8 h8 hc x0 x1 x2 x3 x4 o7 o8 = k1_pay3 (k1_pay5 x0 x1) (k1_pay6 x2) o7 := by
  unfold out1_B_7
  rw [View.read_writes_eq_canon]
  · unfold kernelRun1_B
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_B_7

theorem out8_B (hc : ¬ cond1_0 i) : out1_B_8 (F := Ideal) d0 i a0 h0 a1 h1 a2 h2 a3 h3 a4 h4 a5 h5 a6 h6 a7 h7 a8 h8 hc x0 x1 x2 x3 x4 o7 o8 = k1_pay4 (k1_pay5 x0 x1) o8 := by
  unfold out1_B_8
  rw [View.read_writes_eq_canon]
  · unfold kernelRun1_B
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_B_8

end Body

variable (V : (c : Dev nD) → (b : Ref sig .tc) → Buf (Elt Ideal) ((c : Thread nD τ).loc b)) (c : Dev nD)

theorem inside1 (t : Fin cfg1.N) : t.val * 96 + 96 ≤ 4128 := by
  have : t.val < 43 := lt_of_lt_of_eq t.isLt (show cfg1.N = 43 from N_1)
  omega

/-- The grid point that writes a row. -/
def point1 (R : Fin 4128) : Fin cfg1.N := ⟨R.val / 96, by rw [show cfg1.N = 43 from N_1]; omega⟩

theorem at1_0 : ∀ t : Fin cfg1.N, win1_0.index t 0 = t.val ∧ win1_0.index t 1 = 0 :=
  show ∀ t : Fin grid1.N, _ by decide +kernel
theorem at1_1 : ∀ t : Fin cfg1.N, win1_1.index t 0 = t.val ∧ win1_1.index t 1 = 0 :=
  show ∀ t : Fin grid1.N, _ by decide +kernel
theorem at1_2 : ∀ t : Fin cfg1.N, win1_2.index t 0 = t.val ∧ win1_2.index t 1 = 0 :=
  show ∀ t : Fin grid1.N, _ by decide +kernel
theorem at1_3 : ∀ t : Fin cfg1.N, win1_3.index t 0 = t.val ∧ win1_3.index t 1 = 0 :=
  show ∀ t : Fin grid1.N, _ by decide +kernel
theorem at1_4 : ∀ t : Fin cfg1.N, win1_4.index t 0 = 0 ∧ win1_4.index t 1 = 0 :=
  show ∀ t : Fin grid1.N, _ by decide +kernel
theorem at1_5 : ∀ t : Fin cfg1.N, win1_5.index t 0 = t.val ∧ win1_5.index t 1 = 0 :=
  show ∀ t : Fin grid1.N, _ by decide +kernel
theorem at1_6 : ∀ t : Fin cfg1.N, win1_6.index t 0 = t.val ∧ win1_6.index t 1 = 0 :=
  show ∀ t : Fin grid1.N, _ by decide +kernel
theorem at1_7 : ∀ t : Fin cfg1.N, win1_7.index t 0 = 0 ∧ win1_7.index t 1 = 0 :=
  show ∀ t : Fin grid1.N, _ by decide +kernel
theorem at1_8 : ∀ t : Fin cfg1.N, win1_8.index t 0 = 0 ∧ win1_8.index t 1 = 0 :=
  show ∀ t : Fin grid1.N, _ by decide +kernel

theorem blk1_0 (t : Fin cfg1.N) (r : Fin 96) (l : Fin 4096) :
    iblk1 V c 0 t (ix2 r l) = (V c main_arg4 : Mat 4128 4096) (ix2 (RowBlocks.row t.val (inside1 t) r) l) := by
  unfold iblk1
  rw [View.read_apply]
  exact congrArg (V c main_arg4) (funext fun a => Fin.ext (RowBlocks.lies (win1_0.index t) (inside1 t) (at1_0 t) r l a))

theorem blk1_1 (t : Fin cfg1.N) (r : Fin 96) (l : Fin 4096) :
    iblk1 V c 1 t (ix2 r l) = (V c main_arg5 : Mat 4128 4096) (ix2 (RowBlocks.row t.val (inside1 t) r) l) := by
  unfold iblk1
  rw [View.read_apply]
  exact congrArg (V c main_arg5) (funext fun a => Fin.ext (RowBlocks.lies (win1_1.index t) (inside1 t) (at1_1 t) r l a))

theorem blk1_2 (t : Fin cfg1.N) (r : Fin 96) (l : Fin 4096) :
    iblk1 V c 2 t (ix2 r l) = (V c main_v0_2 : Mat 4128 4096) (ix2 (RowBlocks.row t.val (inside1 t) r) l) := by
  unfold iblk1
  rw [View.read_apply]
  exact congrArg (V c main_v0_2) (funext fun a => Fin.ext (RowBlocks.lies (win1_2.index t) (inside1 t) (at1_2 t) r l a))

theorem blk1_3 (t : Fin cfg1.N) (r : Fin 96) :
    iblk1 V c 3 t (ix2 r 0) = (V c main_v0_3 : Mat 4128 1) (ix2 (RowBlocks.row t.val (inside1 t) r) 0) := by
  unfold iblk1
  rw [View.read_apply]
  exact congrArg (V c main_v0_3) (funext fun a => Fin.ext (RowBlocks.lies (win1_3.index t) (inside1 t) (at1_3 t) r 0 a))

theorem blk1_4 (t : Fin cfg1.N) (l : Fin 4096) :
    iblk1 V c 4 t (ix2 0 l) = (V c main_arg2 : Mat 1 4096) (ix2 0 l) := by
  unfold iblk1
  rw [View.read_apply]
  exact congrArg (V c main_arg2) (funext fun a => Fin.ext (RowBlocks.lies (win1_4.index t) (t := 0) (by decide : 0 * 1 + 1 ≤ 1) (at1_4 t) 0 l a))

theorem in_block (t : Fin cfg1.N) (r : Fin 96) :
    incoming (n := 96) (iblk1 V c 0 t) (iblk1 V c 1 t) r = incoming (V c main_arg4) (V c main_arg5) (RowBlocks.row t.val (inside1 t) r) := by
  funext l
  unfold incoming
  rw [blk1_0 V c t r l, blk1_1 V c t r l]

/-- A block of the gradient at the sum. -/
theorem back_block (t : Fin cfg1.N) (r : Fin 96) (l : Fin 4096) :
    gradOf (fun l => iblk1 V c 2 t (ix2 r l)) (iblk1 V c 3 t (ix2 r 0)) (scaled (n := 96) (iblk1 V c 0 t) (iblk1 V c 1 t) (iblk1 V c 4 t) r) l
      = back (V c main_arg4) (V c main_arg5) (V c main_v0_2) (V c main_v0_3) (V c main_arg2) (ix2 (RowBlocks.row t.val (inside1 t) r) l) := by
  unfold scaled
  rw [in_block, blk1_3 V c t r, funext fun l => blk1_2 V c t r l, funext fun l => congrArg (_ * ·) (blk1_4 V c t l)]
  rfl

/-- After a grid point, the two sums cover the rows up to it. -/
theorem sums (l : Fin 4096) : ∀ (n : ℕ) (hn : n < cfg1.N),
    (outsAt1 V c n hn).2.2.1 (ix2 0 l) = upto (gTerm (V c main_arg4) (V c main_arg5) (V c main_v0_2) l) (n * 96 + 96)
      ∧ (outsAt1 V c n hn).2.2.2 (ix2 0 l) = upto (bTerm (V c main_arg4) (V c main_arg5) l) (n * 96 + 96) := by
  have g : ∀ t : Fin cfg1.N, (∑ r : Fin 96, incoming (n := 96) (iblk1 V c 0 t) (iblk1 V c 1 t) r l * iblk1 V c 2 t (ix2 r l))
      = ∑ r : Fin 96, gTerm (V c main_arg4) (V c main_arg5) (V c main_v0_2) l (RowBlocks.row t.val (inside1 t) r) := fun t =>
    Finset.sum_congr rfl fun r _ => by rw [in_block, blk1_2 V c t r l]; rfl
  have b : ∀ t : Fin cfg1.N, (∑ r : Fin 96, incoming (n := 96) (iblk1 V c 0 t) (iblk1 V c 1 t) r l)
      = ∑ r : Fin 96, bTerm (V c main_arg4) (V c main_arg5) l (RowBlocks.row t.val (inside1 t) r) := fun t =>
    Finset.sum_congr rfl fun r _ => by rw [in_block]; rfl
  intro n
  induction n with
  | zero =>
    intro hn
    rw [outsAt1_A V c ⟨0, hn⟩ rfl]
    dsimp only
    rw [out7_A, out8_A, back3, back4, zero1, zero2, g, b, upto_add _ 0 (by decide), upto_add _ 0 (by decide)]
    exact ⟨rfl, rfl⟩
  | succ n ih =>
    intro hn
    have hm : ¬ (n + 1) % 43 = 0 := by have := inside1 ⟨n + 1, hn⟩; dsimp only at this; omega
    have hi := ih (Nat.lt_of_succ_lt hn)
    have hs := inside1 ⟨n + 1, hn⟩
    rw [outsAt1_B V c ⟨n + 1, hn⟩ hm]
    dsimp only
    rw [out7_B, out8_B, back3, back4, g, b, upto_add _ (n + 1) hs, upto_add _ (n + 1) hs, Nat.succ_mul]
    exact ⟨congrArg (· + _) hi.1, congrArg (· + _) hi.2⟩

/-! ## The four arrays -/

theorem left5 (t : Fin cfg1.N) : (dat1 V c).after 5 t = k1_pay7 (iblk1 V c 0 t) (iblk1 V c 1 t) (iblk1 V c 2 t) (iblk1 V c 3 t) (iblk1 V c 4 t) := by
  rw [after1_5]
  by_cases h : t.val % 43 = 0
  · rw [outsAt1_A V c t h]
    dsimp only
    rw [out5_A]
  · rw [outsAt1_B V c t h]
    dsimp only
    rw [out5_B]

theorem final1_5 : (dat1 V c).arrAt 5 cfg1.N = back (V c main_arg4) (V c main_arg5) (V c main_v0_2) (V c main_v0_3) (V c main_arg2) :=
  (dat1 V c).arrAt_eq_of_cover 5 _ (fun t _ => by
    show (cfg1.win 5).cut (grid1.coords t) ((dat1 V c).after 5 t) = _
    rw [left5]
    funext j
    obtain ⟨r, l, rfl⟩ : ∃ (r : Fin 96) (l : Fin 4096), j = ix2 r l := index_eq j
    rw [View.read_apply, show ((cfg1.win 5).blk t).view.emb (ix2 r l) = ix2 (RowBlocks.row t.val (inside1 t) r) l from
      funext fun a => Fin.ext (RowBlocks.lies (win1_5.index t) (inside1 t) (at1_5 t) r l a)]
    exact (back7 _ _ _ _ _ r l).trans (back_block V c t r l)) fun i =>
    ⟨point1 (i 0), flush1_5 _, by
      show i ∈ ((View.whole main_v1_0).slice (win1_5.rect (point1 (i 0)))).set
      rw [View.set_slice_whole, Rect.mem_set_unit]
      exact RowBlocks.holds (by decide) (win1_5.index (point1 (i 0))) i (at1_5 (point1 (i 0)))⟩

theorem left6 (t : Fin cfg1.N) : (dat1 V c).after 6 t = k1_pay8 (iblk1 V c 0 t) (iblk1 V c 1 t) (iblk1 V c 2 t) (iblk1 V c 3 t) (iblk1 V c 4 t) := by
  rw [after1_6]
  by_cases h : t.val % 43 = 0
  · rw [outsAt1_A V c t h]
    dsimp only
    rw [out6_A]
  · rw [outsAt1_B V c t h]
    dsimp only
    rw [out6_B]

theorem final1_6 : (dat1 V c).arrAt 6 cfg1.N = share factor (back (V c main_arg4) (V c main_arg5) (V c main_v0_2) (V c main_v0_3) (V c main_arg2)) :=
  (dat1 V c).arrAt_eq_of_cover 6 _ (fun t _ => by
    show (cfg1.win 6).cut (grid1.coords t) ((dat1 V c).after 6 t) = _
    rw [left6]
    funext j
    obtain ⟨r, l, rfl⟩ : ∃ (r : Fin 96) (l : Fin 4096), j = ix2 r l := index_eq j
    rw [View.read_apply, show ((cfg1.win 6).blk t).view.emb (ix2 r l) = ix2 (RowBlocks.row t.val (inside1 t) r) l from
      funext fun a => Fin.ext (RowBlocks.lies (win1_6.index t) (inside1 t) (at1_6 t) r l a)]
    exact (back8 _ _ _ _ _ r l).trans (congrArg (_ * ·) (back_block V c t r l))) fun i =>
    ⟨point1 (i 0), flush1_6 _, by
      show i ∈ ((View.whole main_v1_1).slice (win1_6.rect (point1 (i 0)))).set
      rw [View.set_slice_whole, Rect.mem_set_unit]
      exact RowBlocks.holds (by decide) (win1_6.index (point1 (i 0))) i (at1_6 (point1 (i 0)))⟩

theorem final1_7 : (dat1 V c).arrAt 7 cfg1.N = gSum (V c main_arg4) (V c main_arg5) (V c main_v0_2) :=
  (dat1 V c).arrAt_eq_of_cover 7 _ (fun t hf => by
    have ht : t.val = 42 := by have := (flush1_7 t).mp hf; have := inside1 t; omega
    show (cfg1.win 7).cut (grid1.coords t) ((dat1 V c).after 7 t) = _
    rw [after1_7]
    funext j
    obtain ⟨r, l, rfl⟩ : ∃ (r : Fin 1) (l : Fin 4096), j = ix2 r l := index_eq j
    obtain rfl : r = 0 := Subsingleton.elim _ _
    rw [View.read_apply, show ((cfg1.win 7).blk t).view.emb (ix2 0 l) = ix2 0 l from
      funext fun a => Fin.ext (RowBlocks.lies (win1_7.index t) (t := 0) (by decide : 0 * 1 + 1 ≤ 1) (at1_7 t) 0 l a)]
    refine (sums V c l t.val t.isLt).1.trans ?_
    rw [ht]
    exact upto_all _) fun i =>
    ⟨point1 4127, (flush1_7 _).mpr rfl, by
      show i ∈ ((View.whole main_v1_2).slice (win1_7.rect (point1 4127))).set
      rw [View.set_slice_whole, Rect.mem_set_unit]
      exact RowBlocks.holds (by decide) (win1_7.index (point1 4127)) i (by
        rw [show (i 0).val / 1 = 0 by have : (i 0).val < 1 := (i 0).isLt; omega]; exact at1_7 (point1 4127))⟩

theorem final1_8 : (dat1 V c).arrAt 8 cfg1.N = bSum (V c main_arg4) (V c main_arg5) :=
  (dat1 V c).arrAt_eq_of_cover 8 _ (fun t hf => by
    have ht : t.val = 42 := by have := (flush1_8 t).mp hf; have := inside1 t; omega
    show (cfg1.win 8).cut (grid1.coords t) ((dat1 V c).after 8 t) = _
    rw [after1_8]
    funext j
    obtain ⟨r, l, rfl⟩ : ∃ (r : Fin 1) (l : Fin 4096), j = ix2 r l := index_eq j
    obtain rfl : r = 0 := Subsingleton.elim _ _
    rw [View.read_apply, show ((cfg1.win 8).blk t).view.emb (ix2 0 l) = ix2 0 l from
      funext fun a => Fin.ext (RowBlocks.lies (win1_8.index t) (t := 0) (by decide : 0 * 1 + 1 ≤ 1) (at1_8 t) 0 l a)]
    refine (sums V c l t.val t.isLt).2.trans ?_
    rw [ht]
    exact upto_all _) fun i =>
    ⟨point1 4127, (flush1_8 _).mpr rfl, by
      show i ∈ ((View.whole main_v1_3).slice (win1_8.rect (point1 4127))).set
      rw [View.set_slice_whole, Rect.mem_set_unit]
      exact RowBlocks.holds (by decide) (win1_8.index (point1 4127)) i (by
        rw [show (i 0).val / 1 = 0 by have : (i 0).val < 1 := (i 0).isLt; omega]; exact at1_8 (point1 4127))⟩

end Cert.NormIdeal.Norm

end
-- ==== Proof.NormRun.lean ====
/-
  The run of the two calls of a normalisation: what the forward call saves goes to the backward call.
-/
module

public import proofs.«01_k».proof.Proof.NormFwd
public import proofs.«01_k».proof.Proof.NormBwd
public import Idealize.ShloMosaic.Lib.Tactic

@[expose] public section

set_option maxRecDepth 16384

noncomputable section

namespace Cert.NormIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.NormIdeal Cert.NormIdeal.Gen Cert.Products Cert.NormRows Cert.NormIdeal.Norm

local notation "𝕄" => MT nD τ sig Unit (Elt Ideal) ℕ (UR sig nD τ) ℕ

variable (m : (ℓ : Loc nD τ sig) → Buf (Elt Ideal) ℓ) (ρ : Dev nD → PrngReg)

/-! ## The arguments, and what the calls leave, from the arguments -/

abbrev arg0 (c : Dev nD) : Mat 4128 4096 := m (c.tc.loc main_arg0)
abbrev arg1 (c : Dev nD) : Mat 4128 4096 := m (c.tc.loc main_arg1)
abbrev arg2 (c : Dev nD) : Mat 1 4096 := m (c.tc.loc main_arg2)
abbrev arg3 (c : Dev nD) : Mat 1 4096 := m (c.tc.loc main_arg3)
abbrev arg4 (c : Dev nD) : Mat 4128 4096 := m (c.tc.loc main_arg4)
abbrev arg5 (c : Dev nD) : Mat 4128 4096 := m (c.tc.loc main_arg5)
/-- The normalised rows, scaled and shifted. -/
def rows (c : Dev nD) : Mat 4128 4096 := normed factor (arg0 m c) (arg1 m c) (arg2 m c) (arg3 m c)

/-- The normalised rows. -/
def saved (c : Dev nD) : Mat 4128 4096 := hats factor (arg0 m c) (arg1 m c)

/-- One over each row's deviation. -/
def savedDev (c : Dev nD) : Mat 4128 1 := rstds factor (arg0 m c) (arg1 m c)

/-- The gradient of the residual. -/
def dr (c : Dev nD) : Mat 4128 4096 := back (arg4 m c) (arg5 m c) (saved m c) (savedDev m c) (arg2 m c)

/-- Its share with the factor, the gradient of the branch. -/
def drHalf (c : Dev nD) : Mat 4128 4096 := share factor (dr m c)

/-- The scale's gradient. -/
def gs (c : Dev nD) : Mat 1 4096 := gSum (arg4 m c) (arg5 m c) (saved m c)

/-- The shift's gradient. -/
def bs (c : Dev nD) : Mat 1 4096 := bSum (arg4 m c) (arg5 m c)

/-! ## What each array holds when a call ends -/

theorem v0_0_1 (c : Dev nD) : W1 m ρ c (Proc.devRef .tc main_v0_0) = rows m c :=
  (W1_arr m ρ c 4).trans (Norm.final0_4 (V0 m ρ) c)

theorem v0_1_1 (c : Dev nD) : W1 m ρ c (Proc.devRef .tc main_v0_1) = rows m c :=
  (W1_arr m ρ c 5).trans (Norm.final0_5 (V0 m ρ) c)

theorem v0_2_1 (c : Dev nD) : W1 m ρ c (Proc.devRef .tc main_v0_2) = saved m c :=
  (W1_arr m ρ c 6).trans (Norm.final0_6 (V0 m ρ) c)

theorem v0_3_1 (c : Dev nD) : W1 m ρ c (Proc.devRef .tc main_v0_3) = savedDev m c :=
  (W1_arr m ρ c 7).trans (Norm.final0_7 (V0 m ρ) c)

theorem v0_0_2 (c : Dev nD) : W2 m ρ c (Proc.devRef .tc main_v0_0) = rows m c :=
  (W2_of m ρ c main_v0_0 (by decide +kernel)).trans (v0_0_1 m ρ c)

theorem v0_1_2 (c : Dev nD) : W2 m ρ c (Proc.devRef .tc main_v0_1) = rows m c :=
  (W2_of m ρ c main_v0_1 (by decide +kernel)).trans (v0_1_1 m ρ c)

theorem kept2 (c : Dev nD) : V1 m ρ c main_arg2 = arg2 m c := W1_args m ρ c _ (by simp [argRefs])
theorem kept4 (c : Dev nD) : V1 m ρ c main_arg4 = arg4 m c := W1_args m ρ c _ (by simp [argRefs])
theorem kept5 (c : Dev nD) : V1 m ρ c main_arg5 = arg5 m c := W1_args m ρ c _ (by simp [argRefs])
theorem keptRows (c : Dev nD) : V1 m ρ c main_v0_2 = saved m c := v0_2_1 m ρ c
theorem keptDev (c : Dev nD) : V1 m ρ c main_v0_3 = savedDev m c := v0_3_1 m ρ c

theorem v1_0_2 (c : Dev nD) : W2 m ρ c (Proc.devRef .tc main_v1_0) = dr m c :=
  (W2_arr m ρ c 5).trans ((Norm.final1_5 (V1 m ρ) c).trans (by rw [kept4, kept5, keptRows, keptDev, kept2]; rfl))

theorem v1_1_2 (c : Dev nD) : W2 m ρ c (Proc.devRef .tc main_v1_1) = drHalf m c :=
  (W2_arr m ρ c 6).trans ((Norm.final1_6 (V1 m ρ) c).trans (by rw [kept4, kept5, keptRows, keptDev, kept2]; rfl))

theorem v1_2_2 (c : Dev nD) : W2 m ρ c (Proc.devRef .tc main_v1_2) = gs m c :=
  (W2_arr m ρ c 7).trans ((Norm.final1_7 (V1 m ρ) c).trans (by rw [kept4, kept5, keptRows]; rfl))

theorem v1_3_2 (c : Dev nD) : W2 m ρ c (Proc.devRef .tc main_v1_3) = bs m c :=
  (W2_arr m ρ c 8).trans ((Norm.final1_8 (V1 m ρ) c).trans (by rw [kept4, kept5]; rfl))

/-! ## The run -/

set_option backward.isDefEq.respectTransparency.types false in
/-- Every run ends, with the results at these functions of the arguments and the arguments kept. -/
theorem run : θ_run defs (onTc (τ := τ) (main (F := Ideal))) ⟨m, fun _ => 0, ρ⟩ (fun r => ∀ c : Dev nD,
      r.2.mem (c.tc.loc main_v0_0) = rows m c
      ∧ r.2.mem (c.tc.loc main_v0_1) = rows m c
      ∧ r.2.mem (c.tc.loc main_v1_0) = dr m c
      ∧ r.2.mem (c.tc.loc main_v1_1) = drHalf m c
      ∧ r.2.mem (c.tc.loc main_v1_2) = gs m c
      ∧ r.2.mem (c.tc.loc main_v1_3) = bs m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => fun c =>
      ⟨(h c _ (mem_uc main_v0_0 (by decide))).trans (v0_0_2 m ρ c),
       (h c _ (mem_uc main_v0_1 (by decide))).trans (v0_1_2 m ρ c),
       (h c _ (mem_uc main_v1_0 (by decide))).trans (v1_0_2 m ρ c),
       (h c _ (mem_uc main_v1_1 (by decide))).trans (v1_1_2 m ρ c),
       (h c _ (mem_uc main_v1_2 (by decide))).trans (v1_2_2 m ρ c),
       (h c _ (mem_uc main_v1_3 (by decide))).trans (v1_3_2 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Cert.NormIdeal.Run

end
-- ==== Proof.NormReference.lean ====
/-
  The reference of the normalisation, read entry by entry: the normalised rows, and the gradient that automatic
  differentiation writes, which is the kernel's where the incoming gradient and the scale are real numbers.
-/
module

public import proofs.«01_k».proof.Proof.Gen.NormRefIdeal.Read
public import proofs.«01_k».proof.Proof.NormRows

@[expose] public section

set_option maxRecDepth 16384

noncomputable section

open Idealize.ShloMosaic

namespace Cert.NormRefIdeal.Reference

open Cert.NormRefIdeal Cert.NormRefIdeal.Read Cert.NormMath Cert.NormRows Cert.Products

/-- The factor on the branch. -/
abbrev factor : EReal := Ideal.ofBits .f32 0x3F000000#32

variable (A B D E : Mat 4128 4096) (g o : Mat 1 4096)

theorem from_zero (x : EReal) : Ideal.ofBits .f32 0x00000000#32 + x = x := by
  rw [show Ideal.ofBits .f32 0x00000000#32 = 0 by simp [Ideal.ofBits, Ideal.ieee], zero_add]

theorem first_row (i : (⟨2, ![4128, 4096]⟩ : Shape).Idx) : idx_main_v26 i = ix2 0 (i 1) := by
  funext a
  match a with
  | ⟨0, _⟩ => rfl
  | ⟨1, _⟩ => rfl

theorem r4 (i : S4128x4096.Idx) : val_main_v4 (F := Ideal) A B i = mix factor A B (i 0) (i 1) := by
  obtain ⟨r, l, rfl⟩ : ∃ (r : Fin 4128) (l : Fin 4096), i = ix2 r l := index_eq i
  rw [val_main_v4_apply, val_main_v3_apply, val_main_v1_apply, val_main_v2_apply, val_main_v0_apply]
  rfl

theorem r9 (i : S4128x4096.Idx) : val_main_v9 (F := Ideal) A B i = mean (mix factor A B (i 0)) := by
  rw [val_main_v9_apply, val_main_v8_apply, val_main_v7_apply, val_main_v6_apply, val_main_v5_apply]
  exact congrArg (Ideal.div · _) ((from_zero _).trans (Finset.sum_congr rfl fun k _ => r4 A B _))

theorem r10 (i : S4128x4096.Idx) : val_main_v10 (F := Ideal) A B i = centred (mix factor A B (i 0)) (i 1) := by
  rw [val_main_v10_apply, r4, r9]
  rfl

theorem r19 (i : S4128x1.Idx) : val_main_v19 (F := Ideal) A B i = spread (mix factor A B (i 0)) := by
  rw [val_main_v19_apply, val_main_v18_apply, val_main_v17_apply, val_main_v16_apply, val_main_v15_apply, val_main_v14_apply]
  exact congrArg (fun s => Ideal.div s _ + _) ((from_zero _).trans (Finset.sum_congr rfl fun k _ => by
    rw [val_main_v11_apply, r10]; rfl))

theorem r20 (i : S4128x1.Idx) : val_main_v20 (F := Ideal) A B i = rstd (mix factor A B (i 0)) := by
  rw [val_main_v20_apply, r19]
  rfl

theorem r25 (i : S4128x4096.Idx) : val_main_v25 (F := Ideal) A B i = hat (mix factor A B (i 0)) (i 1) := by
  rw [val_main_v25_apply, val_main_v24_apply, r10, r20]
  rfl

/-- The normalised rows, scaled and shifted. -/
theorem value (i : S4128x4096.Idx) : val_main_v29 (F := Ideal) A B g o i = normed factor A B g o i := by
  rw [val_main_v29_apply, val_main_v28_apply, val_main_v27_apply, val_main_v26_apply, r25, first_row,
    show idx_main_v28 i = ix2 0 (i 1) from first_row i]
  rfl

theorem r32 (i : S4128x4096.Idx) : val_main_v32 (F := Ideal) D E i = incoming D E (i 0) (i 1) := by
  obtain ⟨r, l, rfl⟩ : ∃ (r : Fin 4128) (l : Fin 4096), i = ix2 r l := index_eq i
  rw [val_main_v32_apply, val_main_v31_apply, val_main_v30_apply]
  rfl

/-- The shift's gradient. -/
theorem shift_grad (i : S1x4096.Idx) : val_main_v34 (F := Ideal) D E i = bSum D E i := by
  obtain ⟨r, l, rfl⟩ : ∃ (r : Fin 1) (l : Fin 4096), i = ix2 r l := index_eq i
  obtain rfl : r = 0 := Subsingleton.elim _ _
  rw [val_main_v34_apply, val_main_v33_apply]
  refine (from_zero _).trans (Finset.sum_congr rfl fun k _ => (r32 D E _).trans ?_)
  exact congrArg (incoming D E k) (Fin.ext (show 0 * 4096 + l.val = l.val by omega))

/-- The scale's gradient. -/
theorem scale_grad (i : S1x4096.Idx) : val_main_v37 (F := Ideal) A B D E i = gSum D E (hats factor A B) i := by
  obtain ⟨r, l, rfl⟩ : ∃ (r : Fin 1) (l : Fin 4096), i = ix2 r l := index_eq i
  obtain rfl : r = 0 := Subsingleton.elim _ _
  rw [val_main_v37_apply, val_main_v36_apply]
  refine (from_zero _).trans (Finset.sum_congr rfl fun k _ => ?_)
  rw [val_main_v35_apply, r25, r32]
  refine (mul_comm (hat (mix factor A B k) _) (incoming D E k _)).trans ?_
  exact congrArg (fun q => incoming D E k q * hat (mix factor A B k) q) (Fin.ext (show 0 * 4096 + l.val = l.val by omega))

theorem r39 (i : S4128x4096.Idx) : val_main_v39 (F := Ideal) g D E i = scaled D E g (i 0) (i 1) := by
  rw [val_main_v39_apply, val_main_v38_apply, r32, show idx_main_v38 i = ix2 0 (i 1) from first_row i]
  rfl

theorem row42 (i : S4128x4096.Idx) (k : Fin 4096) :
    idx_main_v41 (idx_main_v42 (idx_main_v48 (idx_main_v49 i) 0)) k = ix2 (i 0) k := by
  funext a
  match a with
  | ⟨0, _⟩ => exact Fin.ext (show (i 0).val * 1 + 0 = (i 0).val by omega)
  | ⟨1, _⟩ => rfl

theorem r49 (i : S4128x4096.Idx) : val_main_v49 (F := Ideal) A B g D E i
    = Ideal.div ((∑ k : Fin 4096, centred (mix factor A B (i 0)) k * scaled D E g (i 0) k)
        * (Ideal.ofBits .f32 0xBF000000#32 * Ideal.div (rstd (mix factor A B (i 0))) (spread (mix factor A B (i 0))))) (Ideal.ofBits .f32 0x45800000#32) := by
  rw [val_main_v49_apply, val_main_v48_apply, Fin.sum_univ_one, val_main_v47_apply, val_main_v46_apply, val_main_v45_apply,
    val_main_v42_apply, val_main_v41_apply, val_main_v23_apply, val_main_v22_apply, val_main_v21_apply, r20, r19]
  refine (from_zero _).trans (congrArg (fun s => Ideal.div (s * _) _) ((from_zero _).trans (Finset.sum_congr rfl fun k _ => ?_)))
  rw [val_main_v40_apply, r10, r39]
  exact congrArg (fun q : S4128x4096.Idx => centred (mix factor A B (q 0)) (q 1) * scaled D E g (q 0) (q 1)) (row42 i k)

theorem r51 (i : S4128x4096.Idx) : val_main_v51 (F := Ideal) A B g D E i = gradCentred (mix factor A B (i 0)) (scaled D E g (i 0)) (i 1) := by
  rw [val_main_v51_apply, val_main_v50_apply, val_main_v44_apply, val_main_v43_apply, val_main_v13_apply, val_main_v12_apply,
    r49, r39, r20, r10]
  rfl

theorem r59 (i : S4128x4096.Idx) : val_main_v59 (F := Ideal) A B g D E i = gradAuto (mix factor A B (i 0)) (scaled D E g (i 0)) (i 1) := by
  rw [val_main_v59_apply, val_main_v58_apply, val_main_v57_apply, Fin.sum_univ_one, val_main_v56_apply, val_main_v55_apply,
    val_main_v54_apply, val_main_v53_apply, r51]
  refine congrArg (_ + ·) ((from_zero _).trans (congrArg (Ideal.div · _) ((from_zero _).trans (Finset.sum_congr rfl fun k _ => ?_))))
  rw [val_main_v52_apply, r51]
  exact congrArg (fun q : S4128x4096.Idx => -gradCentred (mix factor A B (q 0)) (scaled D E g (q 0)) (q 1)) (row42 i k)

end Cert.NormRefIdeal.Reference

end
-- ==== Proof.NormPre.lean ====
/-
  The precondition of the normalisation's claims, read off: the scale and the two incoming gradients are real numbers, and so
  is the gradient of the normalised rows.
-/
module

public import proofs.«01_k».proof.Pre_norm_finite
public import proofs.«01_k».proof.Proof.FfnPre
public import proofs.«01_k».proof.Proof.NormRows

@[expose] public section

set_option maxRecDepth 16384

noncomputable section

open Idealize.ShloMosaic

namespace Cert.NormPre

open Cert.Products Cert.FfnMath Cert.Pre_norm_finite Cert.NormRows

theorem of_pre [Cert.Pre_norm_finite.Facts] (x0 x1 : FVec Ideal S4128x4096 .f32) (x2 x3 : FVec Ideal S1x4096 .f32)
    (x4 x5 : FVec Ideal S4128x4096 .f32) (h : Cert.Pre_norm_finite.fn (F := Ideal) x0 x1 x2 x3 x4 x5 = fun _ => 1#1) :
    RealMat (a := 1) (b := 4096) x2 ∧ RealMat (a := 4128) (b := 4096) x4 ∧ RealMat (a := 4128) (b := 4096) x5 := by
  have h := congrFun h (fun a => a.elim0)
  simp only [Cert.Pre_norm_finite.fn] at h
  obtain ⟨h01, h2⟩ := IntOp.andi_eq_one.1 h
  obtain ⟨h0, h1⟩ := IntOp.andi_eq_one.1 h01
  exact ⟨fun i => FfnPre.real_of_below (Host.reduce_andi_all _ _ _ _ _ h0 i),
    fun i => FfnPre.real_of_below (Host.reduce_andi_all _ _ _ _ _ h1 i),
    fun i => FfnPre.real_of_below (Host.reduce_andi_all _ _ _ _ _ h2 i)⟩

/-- The factor on the residual path is a real number. -/
theorem factor_real : Fin' (Ideal.ofBits .f32 0x3F9837F0#32) := by
  refine ⟨9975792 * ((2 : ℝ) ^ 23)⁻¹, ?_⟩
  simp [Ideal.ofBits, Ideal.ieee]

theorem scaled_real (d e : Mat 4128 4096) (g : Mat 1 4096) (hd : RealMat d) (he : RealMat e) (hg : RealMat g) (r : Fin 4128) (l : Fin 4096) :
    Fin' (scaled d e g r l) := ((factor_real.mul (hd _)).add (he _)).mul (hg _)

end Cert.NormPre

end
-- ==== Proof.NormClaim.lean ====
/-
  The claims about a normalisation's two calls, from their run, the reading of the reference, and the precondition that the
  scale and the incoming gradients are real numbers.
-/
module

public import proofs.«01_k».proof.Defs
public import proofs.«01_k».proof.Proof.Gen.Norm.Frame
public import proofs.«01_k».proof.Proof.Gen.NormRefIdeal.Run
public import proofs.«01_k».proof.Proof.NormRun
public import proofs.«01_k».proof.Proof.NormReference
public import proofs.«01_k».proof.Proof.NormPre
public import proofs.«01_k».proof.Proof.Gen.Pre_norm_finite
public import Idealize.ShloMosaic.Adequacy
public import Idealize.ShloMosaic.Init

@[expose] public section

set_option maxRecDepth 16384

noncomputable section

namespace Cert.Proof

open Idealize.ShloMosaic Idealize.SL.Sem Cert.NormRows Cert.NormRefIdeal.Reference

theorem normFrame : Cert.quiescent_Norm := fun m ρ _ => Cert.Norm.Gen.frame m ρ

theorem normIdealFrame : Cert.quiescent_NormIdeal := fun m ρ _ => Cert.NormIdeal.Gen.frame m ρ

theorem normIdealFrameNone : Cert.quiescent_NormIdeal_pre_none := fun m ρ _ => Cert.NormIdeal.Gen.frame m ρ

theorem normRefFrame : Cert.quiescent_NormRefIdeal := fun m ρ _ =>
  (θ_run Cert.NormRefIdeal.defs _ _).mono
    (fun r h => ⟨fun c => (h c).2.2.2.2.2.2, sem_eq_zero_of_no_sems (by decide) r.2⟩)
    (Cert.NormRefIdeal.Value.run (F := Ideal) m ρ)

theorem normRefFramePre : Cert.quiescent_NormRefIdeal_pre_norm_finite := fun m ρ _ => normRefFrame m ρ trivial

/-- The gradient with what the forward call saved is automatic differentiation's, where the incoming row is real. -/
theorem norm_back (A B d e : Products.Mat 4128 4096) (g : Products.Mat 1 4096) (hd : FfnMath.RealMat d) (he : FfnMath.RealMat e)
    (hg : FfnMath.RealMat g) (i) : NormRefIdeal.Read.val_main_v59 (F := Ideal) A B g d e i = back d e (hats factor A B) (rstds factor A B) g i :=
  (r59 A B d e g i).trans (congrFun (NormMath.gradAuto_eq _ _ (NormPre.scaled_real d e g hd he hg (i 0))) (i 1))

/-- The kernel's two calls and the plain normalisation with its `jax.vjp` leave the same six results, over the extended
    reals, where the scale and the incoming gradients are real numbers. -/
theorem normValue : Cert.algebraic_NormIdeal_NormRefIdeal := fun m ρ m' ρ' hpre hag =>
  ⟨fun c => NormIdeal.Run.rows m c, fun c => NormIdeal.Run.rows m c, fun c => NormIdeal.Run.dr m c,
   fun c => NormIdeal.Run.drHalf m c, fun c => NormIdeal.Run.gs m c, fun c => NormIdeal.Run.bs m c,
   (θ_run Cert.NormIdeal.defs _ _).mono (fun r h c => h c) (Cert.NormIdeal.Run.run m ρ),
   (θ_run Cert.NormRefIdeal.defs _ _).mono
     (fun r h c => by
       obtain ⟨h0, h1, h2, h3, h4, h5, hk⟩ := h c
       obtain ⟨e0, e1, e2, e3, e4, e5⟩ := hag c
       obtain ⟨fg, fd, fe⟩ := NormPre.of_pre _ _ _ _ _ _ (hpre c)
       refine ⟨h0.trans ?_, h1.trans ?_, h2.trans ?_, h3.trans ?_, h4.trans ?_, h5.trans ?_, hk⟩
       · rw [NormRefIdeal.Read.val_main_v29_eq, e0, e1, e2, e3]
         exact funext fun i => value _ _ _ _ i
       · rw [NormRefIdeal.Read.val_main_v60_eq, e0, e1, e2, e3]
         exact funext fun i => value _ _ _ _ i
       · rw [NormRefIdeal.Read.val_main_v59_eq, e0, e1, e2, e4, e5]
         exact funext fun i => norm_back _ _ _ _ _ fd fe fg i
       · rw [NormRefIdeal.Read.val_main_v63_eq, e0, e1, e2, e4, e5]
         exact funext fun i => congrArg (factor * ·) (norm_back _ _ _ _ _ fd fe fg i)
       · rw [NormRefIdeal.Read.val_main_v37_eq, e0, e1, e4, e5]
         exact funext fun i => scale_grad _ _ _ _ i
       · rw [NormRefIdeal.Read.val_main_v34_eq, e4, e5]
         exact funext fun i => shift_grad _ _ i)
     (Cert.NormRefIdeal.Value.run m' ρ')⟩

end Cert.Proof

end
-- ==== Proof.NormWholeBlock.lean ====
/-
  The two calls of the normalisation after the mixer at one block of 96 rows: what each value that a body computes is at one row and column.
-/
module

public import proofs.«01_k».proof.Proof.Gen.NormWholeIdeal.Frame
public import proofs.«01_k».proof.Proof.NormRows
public import Idealize.ShloMosaic.Lib.Pointwise
public import Idealize.ShloMosaic.Lib.Tactic

@[expose] public section

set_option maxRecDepth 16384

noncomputable section

open Idealize.ShloMosaic Idealize.SL.Sem

namespace Cert.NormWholeIdeal.Norm

open Cert.NormWholeIdeal Cert.NormWholeIdeal.Gen Cert.NormMath Cert.NormRows Cert.Products

/-- The factor on the branch. -/
abbrev factor : EReal := Ideal.ofBits .f32 0x3F800000#32

variable (a b d e x : Vec Ideal S96x4096 .f32) (s : Vec Ideal S96x1 .f32) (g o v : Vec Ideal S1x4096 .f32) (r : Fin 96) (l : Fin 4096)

theorem pay1 : k0_pay1 a b (ix2 r l) = centred (mix (n := 96) factor a b r) l := by
  unfold centred mean mix
  pointwise [k0_pay1]

theorem pay2 : k0_pay2 a b (ix2 r 0) = rstd (mix (n := 96) factor a b r) := by
  unfold rstd spread mean
  simp only [← pay1]
  pointwise [k0_pay2]

theorem pay3 : k0_pay3 a b (ix2 r l) = hat (mix (n := 96) factor a b r) l := by
  unfold hat
  rw [← pay1, ← pay2]
  pointwise [k0_pay3]

theorem pay4 : k0_pay4 a b g o (ix2 r l) = hat (mix (n := 96) factor a b r) l * g (ix2 0 l) + o (ix2 0 l) := by
  rw [← pay3]
  pointwise [k0_pay4]

theorem back5 : k1_pay5 d e (ix2 r l) = incoming (n := 96) d e r l := by
  unfold incoming
  pointwise [k1_pay5]

theorem back7 : k1_pay7 d e x s g (ix2 r l) = gradOf (fun l => x (ix2 r l)) (s (ix2 r 0)) (scaled (n := 96) d e g r) l := by
  unfold gradOf mean scaled
  simp only [← back5]
  pointwise [k1_pay7, k1_pay6]

theorem back8 : k1_pay8 d e x s g (ix2 r l) = factor * gradOf (fun l => x (ix2 r l)) (s (ix2 r 0)) (scaled (n := 96) d e g r) l := by
  rw [← back7]
  pointwise [k1_pay8]

theorem back3 : k1_pay3 (k1_pay5 d e) (k1_pay6 x) v (ix2 0 l) = v (ix2 0 l) + ∑ r : Fin 96, incoming (n := 96) d e r l * x (ix2 r l) := by
  simp only [← back5]
  pointwise [k1_pay3, k1_pay6]

theorem back4 : k1_pay4 (k1_pay5 d e) v (ix2 0 l) = v (ix2 0 l) + ∑ r : Fin 96, incoming (n := 96) d e r l := by
  simp only [← back5]
  pointwise [k1_pay4]

theorem zero1 : k1_pay1 (F := Ideal) (ix2 0 l) = 0 := by pointwise [k1_pay1]

theorem zero2 : k1_pay2 (F := Ideal) (ix2 0 l) = 0 := by pointwise [k1_pay2]

end Cert.NormWholeIdeal.Norm

end
-- ==== Proof.NormWholeFwd.lean ====
/-
  The forward call of the normalisation after the mixer, whole: its four result arrays from the four arrays it reads.
-/
module

public import proofs.«01_k».proof.Proof.NormWholeBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormWholeIdeal.Norm

open Cert.NormWholeIdeal Cert.NormWholeIdeal.Gen Cert.NormMath Cert.NormRows Cert.Products

variable (V : (c : Dev nD) → (b : Ref sig .tc) → Buf (Elt Ideal) ((c : Thread nD τ).loc b)) (c : Dev nD)

theorem inside0 (t : Fin cfg0.N) : t.val * 96 + 96 ≤ 4128 := by
  have : t.val < 43 := lt_of_lt_of_eq t.isLt (show cfg0.N = 43 from N_0)
  omega

/-- The grid point that writes a row. -/
def point0 (R : Fin 4128) : Fin cfg0.N := ⟨R.val / 96, by rw [show cfg0.N = 43 from N_0]; omega⟩

theorem at0_0 : ∀ t : Fin cfg0.N, win0_0.index t 0 = t.val ∧ win0_0.index t 1 = 0 :=
  show ∀ t : Fin grid0.N, _ by decide +kernel
theorem at0_1 : ∀ t : Fin cfg0.N, win0_1.index t 0 = t.val ∧ win0_1.index t 1 = 0 :=
  show ∀ t : Fin grid0.N, _ by decide +kernel
theorem at0_2 : ∀ t : Fin cfg0.N, win0_2.index t 0 = 0 ∧ win0_2.index t 1 = 0 :=
  show ∀ t : Fin grid0.N, _ by decide +kernel
theorem at0_3 : ∀ t : Fin cfg0.N, win0_3.index t 0 = 0 ∧ win0_3.index t 1 = 0 :=
  show ∀ t : Fin grid0.N, _ by decide +kernel
theorem at0_4 : ∀ t : Fin cfg0.N, win0_4.index t 0 = t.val ∧ win0_4.index t 1 = 0 :=
  show ∀ t : Fin grid0.N, _ by decide +kernel
theorem at0_5 : ∀ t : Fin cfg0.N, win0_5.index t 0 = t.val ∧ win0_5.index t 1 = 0 :=
  show ∀ t : Fin grid0.N, _ by decide +kernel
theorem at0_6 : ∀ t : Fin cfg0.N, win0_6.index t 0 = t.val ∧ win0_6.index t 1 = 0 :=
  show ∀ t : Fin grid0.N, _ by decide +kernel
theorem at0_7 : ∀ t : Fin cfg0.N, win0_7.index t 0 = t.val ∧ win0_7.index t 1 = 0 :=
  show ∀ t : Fin grid0.N, _ by decide +kernel

theorem blk0_0 (t : Fin cfg0.N) (r : Fin 96) (l : Fin 4096) :
    iblk0 V c 0 t (ix2 r l) = (V c main_arg0 : Mat 4128 4096) (ix2 (RowBlocks.row t.val (inside0 t) r) l) := by
  unfold iblk0
  rw [View.read_apply]
  exact congrArg (V c main_arg0) (funext fun a => Fin.ext (RowBlocks.lies (win0_0.index t) (inside0 t) (at0_0 t) r l a))

theorem blk0_1 (t : Fin cfg0.N) (r : Fin 96) (l : Fin 4096) :
    iblk0 V c 1 t (ix2 r l) = (V c main_arg1 : Mat 4128 4096) (ix2 (RowBlocks.row t.val (inside0 t) r) l) := by
  unfold iblk0
  rw [View.read_apply]
  exact congrArg (V c main_arg1) (funext fun a => Fin.ext (RowBlocks.lies (win0_1.index t) (inside0 t) (at0_1 t) r l a))

theorem blk0_2 (t : Fin cfg0.N) (l : Fin 4096) :
    iblk0 V c 2 t (ix2 0 l) = (V c main_arg2 : Mat 1 4096) (ix2 0 l) := by
  unfold iblk0
  rw [View.read_apply]
  exact congrArg (V c main_arg2) (funext fun a => Fin.ext (RowBlocks.lies (win0_2.index t) (t := 0) (by decide : 0 * 1 + 1 ≤ 1) (at0_2 t) 0 l a))

theorem blk0_3 (t : Fin cfg0.N) (l : Fin 4096) :
    iblk0 V c 3 t (ix2 0 l) = (V c main_arg3 : Mat 1 4096) (ix2 0 l) := by
  unfold iblk0
  rw [View.read_apply]
  exact congrArg (V c main_arg3) (funext fun a => Fin.ext (RowBlocks.lies (win0_3.index t) (t := 0) (by decide : 0 * 1 + 1 ≤ 1) (at0_3 t) 0 l a))

theorem mix_block (t : Fin cfg0.N) (r : Fin 96) :
    mix (n := 96) factor (iblk0 V c 0 t) (iblk0 V c 1 t) r = mix factor (V c main_arg0) (V c main_arg1) (RowBlocks.row t.val (inside0 t) r) := by
  funext l
  unfold mix
  rw [blk0_0 V c t r l, blk0_1 V c t r l]

/-! ## The four arrays -/

theorem final0_4 : (dat0 V c).arrAt 4 cfg0.N = normed factor (V c main_arg0) (V c main_arg1) (V c main_arg2) (V c main_arg3) :=
  (dat0 V c).arrAt_eq_of_cover 4 _ (fun t _ => by
    show (cfg0.win 4).cut (grid0.coords t) ((dat0 V c).after 4 t) = _
    rw [after0_4]
    unfold out0_4
    rw [View.canon_unit_zero origin]
    simp only [View.ld_unit_zero (S := S96x4096) origin, View.ld_unit_zero (S := S1x4096) origin]
    funext j
    obtain ⟨r, l, rfl⟩ : ∃ (r : Fin 96) (l : Fin 4096), j = ix2 r l := index_eq j
    rw [View.read_apply, show ((cfg0.win 4).blk t).view.emb (ix2 r l) = ix2 (RowBlocks.row t.val (inside0 t) r) l from
      funext fun a => Fin.ext (RowBlocks.lies (win0_4.index t) (inside0 t) (at0_4 t) r l a)]
    refine (pay4 _ _ _ _ r l).trans ?_
    rw [mix_block, blk0_2 V c t l, blk0_3 V c t l]
    rfl) fun i =>
    ⟨point0 (i 0), flush0_4 _, by
      show i ∈ ((View.whole main_v0_0).slice (win0_4.rect (point0 (i 0)))).set
      rw [View.set_slice_whole, Rect.mem_set_unit]
      exact RowBlocks.holds (by decide) (win0_4.index (point0 (i 0))) i (at0_4 (point0 (i 0)))⟩

theorem final0_5 : (dat0 V c).arrAt 5 cfg0.N = normed factor (V c main_arg0) (V c main_arg1) (V c main_arg2) (V c main_arg3) :=
  (dat0 V c).arrAt_eq_of_cover 5 _ (fun t _ => by
    show (cfg0.win 5).cut (grid0.coords t) ((dat0 V c).after 5 t) = _
    rw [after0_5]
    unfold out0_5
    rw [View.canon_unit_zero origin]
    simp only [View.ld_unit_zero (S := S96x4096) origin, View.ld_unit_zero (S := S1x4096) origin]
    funext j
    obtain ⟨r, l, rfl⟩ : ∃ (r : Fin 96) (l : Fin 4096), j = ix2 r l := index_eq j
    rw [View.read_apply, show ((cfg0.win 5).blk t).view.emb (ix2 r l) = ix2 (RowBlocks.row t.val (inside0 t) r) l from
      funext fun a => Fin.ext (RowBlocks.lies (win0_5.index t) (inside0 t) (at0_5 t) r l a)]
    refine (pay4 _ _ _ _ r l).trans ?_
    rw [mix_block, blk0_2 V c t l, blk0_3 V c t l]
    rfl) fun i =>
    ⟨point0 (i 0), flush0_5 _, by
      show i ∈ ((View.whole main_v0_1).slice (win0_5.rect (point0 (i 0)))).set
      rw [View.set_slice_whole, Rect.mem_set_unit]
      exact RowBlocks.holds (by decide) (win0_5.index (point0 (i 0))) i (at0_5 (point0 (i 0)))⟩

theorem final0_6 : (dat0 V c).arrAt 6 cfg0.N = hats factor (V c main_arg0) (V c main_arg1) :=
  (dat0 V c).arrAt_eq_of_cover 6 _ (fun t _ => by
    show (cfg0.win 6).cut (grid0.coords t) ((dat0 V c).after 6 t) = _
    rw [after0_6]
    unfold out0_6
    rw [View.canon_unit_zero origin]
    simp only [View.ld_unit_zero (S := S96x4096) origin, View.ld_unit_zero (S := S1x4096) origin]
    funext j
    obtain ⟨r, l, rfl⟩ : ∃ (r : Fin 96) (l : Fin 4096), j = ix2 r l := index_eq j
    rw [View.read_apply, show ((cfg0.win 6).blk t).view.emb (ix2 r l) = ix2 (RowBlocks.row t.val (inside0 t) r) l from
      funext fun a => Fin.ext (RowBlocks.lies (win0_6.index t) (inside0 t) (at0_6 t) r l a)]
    exact (pay3 _ _ r l).trans (congrArg (hat · l) (mix_block V c t r))) fun i =>
    ⟨point0 (i 0), flush0_6 _, by
      show i ∈ ((View.whole main_v0_2).slice (win0_6.rect (point0 (i 0)))).set
      rw [View.set_slice_whole, Rect.mem_set_unit]
      exact RowBlocks.holds (by decide) (win0_6.index (point0 (i 0))) i (at0_6 (point0 (i 0)))⟩

theorem final0_7 : (dat0 V c).arrAt 7 cfg0.N = rstds factor (V c main_arg0) (V c main_arg1) :=
  (dat0 V c).arrAt_eq_of_cover 7 _ (fun t _ => by
    show (cfg0.win 7).cut (grid0.coords t) ((dat0 V c).after 7 t) = _
    rw [after0_7]
    unfold out0_7
    rw [View.canon_unit_zero origin]
    simp only [View.ld_unit_zero (S := S96x4096) origin, View.ld_unit_zero (S := S1x4096) origin]
    funext j
    obtain ⟨r, l, rfl⟩ : ∃ (r : Fin 96) (l : Fin 1), j = ix2 r l := index_eq j
    obtain rfl : l = 0 := Subsingleton.elim _ _
    rw [View.read_apply, show ((cfg0.win 7).blk t).view.emb (ix2 r 0) = ix2 (RowBlocks.row t.val (inside0 t) r) 0 from
      funext fun a => Fin.ext (RowBlocks.lies (win0_7.index t) (inside0 t) (at0_7 t) r 0 a)]
    exact (pay2 _ _ r).trans (congrArg rstd (mix_block V c t r))) fun i =>
    ⟨point0 (i 0), flush0_7 _, by
      show i ∈ ((View.whole main_v0_3).slice (win0_7.rect (point0 (i 0)))).set
      rw [View.set_slice_whole, Rect.mem_set_unit]
      exact RowBlocks.holds (by decide) (win0_7.index (point0 (i 0))) i (at0_7 (point0 (i 0)))⟩

end Cert.NormWholeIdeal.Norm

end
-- ==== Proof.NormWholeBwd.lean ====
/-
  The backward call of the normalisation after the mixer, whole: its four result arrays from the five arrays it reads. The scale's and the
  shift's gradients stay in place over the grid, and each point adds its 96 rows.
-/
module

public import proofs.«01_k».proof.Proof.NormWholeBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormWholeIdeal.Norm

open Cert.NormWholeIdeal Cert.NormWholeIdeal.Gen Cert.NormMath Cert.NormRows Cert.Products

section Body

variable (d0 : Dev nD) (i : grid1.Coords)
  (a0 : Memref sig .tc .vmem S96x4096 .f32) (h0 : a0.IsWhole)
  (a1 : Memref sig .tc .vmem S96x4096 .f32) (h1 : a1.IsWhole)
  (a2 : Memref sig .tc .vmem S96x4096 .f32) (h2 : a2.IsWhole)
  (a3 : Memref sig .tc .vmem S96x1 .f32) (h3 : a3.IsWhole)
  (a4 : Memref sig .tc .vmem S1x4096 .f32) (h4 : a4.IsWhole)
  (a5 : Memref sig .tc .vmem S96x4096 .f32) (h5 : a5.IsWhole)
  (a6 : Memref sig .tc .vmem S96x4096 .bf16) (h6 : a6.IsWhole)
  (a7 : Memref sig .tc .vmem S1x4096 .f32) (h7 : a7.IsWhole)
  (a8 : Memref sig .tc .vmem S1x4096 .f32) (h8 : a8.IsWhole)
  (x0 x1 x2 : Vec Ideal S96x4096 .f32) (x3 : Vec Ideal S96x1 .f32) (x4 o7 o8 : Vec Ideal S1x4096 .f32)

theorem out5_A (hc : cond1_0 i) : out1_A_5 (F := Ideal) d0 i a0 h0 a1 h1 a2 h2 a3 h3 a4 h4 a5 h5 a6 h6 a7 h7 a8 h8 hc x0 x1 x2 x3 x4 = k1_pay7 x0 x1 x2 x3 x4 := by
  unfold out1_A_5
  rw [View.read_writes_eq_canon]
  · unfold kernelRun1_A
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_A_5

theorem out6_A (hc : cond1_0 i) : out1_A_6 (F := Ideal) d0 i a0 h0 a1 h1 a2 h2 a3 h3 a4 h4 a5 h5 a6 h6 a7 h7 a8 h8 hc x0 x1 x2 x3 x4 = k1_pay8 x0 x1 x2 x3 x4 := by
  unfold out1_A_6
  rw [View.read_writes_eq_canon]
  · unfold kernelRun1_A
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_A_6

theorem out7_A (hc : cond1_0 i) : out1_A_7 (F := Ideal) d0 i a0 h0 a1 h1 a2 h2 a3 h3 a4 h4 a5 h5 a6 h6 a7 h7 a8 h8 hc x0 x1 x2 x3 x4 = k1_pay3 (k1_pay5 x0 x1) (k1_pay6 x2) (k1_pay1 (F := Ideal)) := by
  unfold out1_A_7
  rw [View.read_writes_eq_canon]
  · unfold kernelRun1_A
    dsimp only
    sl_unfold_words
    rw [View.canon_cons_unit_zero origin]
    simp only [View.readAt_eq_ld, Memref.IsWhole.read_unread, View.readCov_unit_zero (S := S1x4096) _ origin, View.ld_unit_zero (S := S96x4096) origin, View.ld_unit_zero (S := S1x4096) origin, View.ld_unit_zero (S := S96x1) origin]
  · intro; apply cover1_A_7

theorem out8_A (hc : cond1_0 i) : out1_A_8 (F := Ideal) d0 i a0 h0 a1 h1 a2 h2 a3 h3 a4 h4 a5 h5 a6 h6 a7 h7 a8 h8 hc x0 x1 x2 x3 x4 = k1_pay4 (k1_pay5 x0 x1) (k1_pay2 (F := Ideal)) := by
  unfold out1_A_8
  rw [View.read_writes_eq_canon]
  · unfold kernelRun1_A
    dsimp only
    sl_unfold_words
    rw [View.canon_cons_unit_zero origin]
    simp only [View.readAt_eq_ld, Memref.IsWhole.read_unread, View.readCov_unit_zero (S := S1x4096) _ origin, View.ld_unit_zero (S := S96x4096) origin, View.ld_unit_zero (S := S1x4096) origin, View.ld_unit_zero (S := S96x1) origin]
  · intro; apply cover1_A_8

theorem out5_B (hc : ¬ cond1_0 i) : out1_B_5 (F := Ideal) d0 i a0 h0 a1 h1 a2 h2 a3 h3 a4 h4 a5 h5 a6 h6 a7 h7 a8 h8 hc x0 x1 x2 x3 x4 o7 o8 = k1_pay7 x0 x1 x2 x3 x4 := by
  unfold out1_B_5
  rw [View.read_writes_eq_canon]
  · unfold kernelRun1_B
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_B_5

theorem out6_B (hc : ¬ cond1_0 i) : out1_B_6 (F := Ideal) d0 i a0 h0 a1 h1 a2 h2 a3 h3 a4 h4 a5 h5 a6 h6 a7 h7 a8 h8 hc x0 x1 x2 x3 x4 o7 o8 = k1_pay8 x0 x1 x2 x3 x4 := by
  unfold out1_B_6
  rw [View.read_writes_eq_canon]
  · unfold kernelRun1_B
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_B_6

theorem out7_B (hc : ¬ cond1_0 i) : out1_B_7 (F := Ideal) d0 i a0 h0 a1 h1 a2 h2 a3 h3 a4 h4 a5 h5 a6 h6 a7 h7 a8 h8 hc x0 x1 x2 x3 x4 o7 o8 = k1_pay3 (k1_pay5 x0 x1) (k1_pay6 x2) o7 := by
  unfold out1_B_7
  rw [View.read_writes_eq_canon]
  · unfold kernelRun1_B
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_B_7

theorem out8_B (hc : ¬ cond1_0 i) : out1_B_8 (F := Ideal) d0 i a0 h0 a1 h1 a2 h2 a3 h3 a4 h4 a5 h5 a6 h6 a7 h7 a8 h8 hc x0 x1 x2 x3 x4 o7 o8 = k1_pay4 (k1_pay5 x0 x1) o8 := by
  unfold out1_B_8
  rw [View.read_writes_eq_canon]
  · unfold kernelRun1_B
    dsimp only
    sl_unfold_words
    rw [View.canon_cons_unit_zero origin]
    simp only [View.readAt_eq_ld, Memref.IsWhole.read_unread, View.ld_unit_zero (S := S96x4096) origin, View.ld_unit_zero (S := S1x4096) origin, View.ld_unit_zero (S := S96x1) origin]
  · intro; apply cover1_B_8

end Body

variable (V : (c : Dev nD) → (b : Ref sig .tc) → Buf (Elt Ideal) ((c : Thread nD τ).loc b)) (c : Dev nD)

theorem inside1 (t : Fin cfg1.N) : t.val * 96 + 96 ≤ 4128 := by
  have : t.val < 43 := lt_of_lt_of_eq t.isLt (show cfg1.N = 43 from N_1)
  omega

/-- The grid point that writes a row. -/
def point1 (R : Fin 4128) : Fin cfg1.N := ⟨R.val / 96, by rw [show cfg1.N = 43 from N_1]; omega⟩

theorem at1_0 : ∀ t : Fin cfg1.N, win1_0.index t 0 = t.val ∧ win1_0.index t 1 = 0 :=
  show ∀ t : Fin grid1.N, _ by decide +kernel
theorem at1_1 : ∀ t : Fin cfg1.N, win1_1.index t 0 = t.val ∧ win1_1.index t 1 = 0 :=
  show ∀ t : Fin grid1.N, _ by decide +kernel
theorem at1_2 : ∀ t : Fin cfg1.N, win1_2.index t 0 = t.val ∧ win1_2.index t 1 = 0 :=
  show ∀ t : Fin grid1.N, _ by decide +kernel
theorem at1_3 : ∀ t : Fin cfg1.N, win1_3.index t 0 = t.val ∧ win1_3.index t 1 = 0 :=
  show ∀ t : Fin grid1.N, _ by decide +kernel
theorem at1_4 : ∀ t : Fin cfg1.N, win1_4.index t 0 = 0 ∧ win1_4.index t 1 = 0 :=
  show ∀ t : Fin grid1.N, _ by decide +kernel
theorem at1_5 : ∀ t : Fin cfg1.N, win1_5.index t 0 = t.val ∧ win1_5.index t 1 = 0 :=
  show ∀ t : Fin grid1.N, _ by decide +kernel
theorem at1_6 : ∀ t : Fin cfg1.N, win1_6.index t 0 = t.val ∧ win1_6.index t 1 = 0 :=
  show ∀ t : Fin grid1.N, _ by decide +kernel
theorem at1_7 : ∀ t : Fin cfg1.N, win1_7.index t 0 = 0 ∧ win1_7.index t 1 = 0 :=
  show ∀ t : Fin grid1.N, _ by decide +kernel
theorem at1_8 : ∀ t : Fin cfg1.N, win1_8.index t 0 = 0 ∧ win1_8.index t 1 = 0 :=
  show ∀ t : Fin grid1.N, _ by decide +kernel

theorem blk1_0 (t : Fin cfg1.N) (r : Fin 96) (l : Fin 4096) :
    iblk1 V c 0 t (ix2 r l) = (V c main_arg4 : Mat 4128 4096) (ix2 (RowBlocks.row t.val (inside1 t) r) l) := by
  unfold iblk1
  rw [View.read_apply]
  exact congrArg (V c main_arg4) (funext fun a => Fin.ext (RowBlocks.lies (win1_0.index t) (inside1 t) (at1_0 t) r l a))

theorem blk1_1 (t : Fin cfg1.N) (r : Fin 96) (l : Fin 4096) :
    iblk1 V c 1 t (ix2 r l) = (V c main_arg5 : Mat 4128 4096) (ix2 (RowBlocks.row t.val (inside1 t) r) l) := by
  unfold iblk1
  rw [View.read_apply]
  exact congrArg (V c main_arg5) (funext fun a => Fin.ext (RowBlocks.lies (win1_1.index t) (inside1 t) (at1_1 t) r l a))

theorem blk1_2 (t : Fin cfg1.N) (r : Fin 96) (l : Fin 4096) :
    iblk1 V c 2 t (ix2 r l) = (V c main_v0_2 : Mat 4128 4096) (ix2 (RowBlocks.row t.val (inside1 t) r) l) := by
  unfold iblk1
  rw [View.read_apply]
  exact congrArg (V c main_v0_2) (funext fun a => Fin.ext (RowBlocks.lies (win1_2.index t) (inside1 t) (at1_2 t) r l a))

theorem blk1_3 (t : Fin cfg1.N) (r : Fin 96) :
    iblk1 V c 3 t (ix2 r 0) = (V c main_v0_3 : Mat 4128 1) (ix2 (RowBlocks.row t.val (inside1 t) r) 0) := by
  unfold iblk1
  rw [View.read_apply]
  exact congrArg (V c main_v0_3) (funext fun a => Fin.ext (RowBlocks.lies (win1_3.index t) (inside1 t) (at1_3 t) r 0 a))

theorem blk1_4 (t : Fin cfg1.N) (l : Fin 4096) :
    iblk1 V c 4 t (ix2 0 l) = (V c main_arg2 : Mat 1 4096) (ix2 0 l) := by
  unfold iblk1
  rw [View.read_apply]
  exact congrArg (V c main_arg2) (funext fun a => Fin.ext (RowBlocks.lies (win1_4.index t) (t := 0) (by decide : 0 * 1 + 1 ≤ 1) (at1_4 t) 0 l a))

theorem in_block (t : Fin cfg1.N) (r : Fin 96) :
    incoming (n := 96) (iblk1 V c 0 t) (iblk1 V c 1 t) r = incoming (V c main_arg4) (V c main_arg5) (RowBlocks.row t.val (inside1 t) r) := by
  funext l
  unfold incoming
  rw [blk1_0 V c t r l, blk1_1 V c t r l]

/-- A block of the gradient at the sum. -/
theorem back_block (t : Fin cfg1.N) (r : Fin 96) (l : Fin 4096) :
    gradOf (fun l => iblk1 V c 2 t (ix2 r l)) (iblk1 V c 3 t (ix2 r 0)) (scaled (n := 96) (iblk1 V c 0 t) (iblk1 V c 1 t) (iblk1 V c 4 t) r) l
      = back (V c main_arg4) (V c main_arg5) (V c main_v0_2) (V c main_v0_3) (V c main_arg2) (ix2 (RowBlocks.row t.val (inside1 t) r) l) := by
  unfold scaled
  rw [in_block, blk1_3 V c t r, funext fun l => blk1_2 V c t r l, funext fun l => congrArg (_ * ·) (blk1_4 V c t l)]
  rfl

/-- After a grid point, the two sums cover the rows up to it. -/
theorem sums (l : Fin 4096) : ∀ (n : ℕ) (hn : n < cfg1.N),
    (outsAt1 V c n hn).2.2.1 (ix2 0 l) = upto (gTerm (V c main_arg4) (V c main_arg5) (V c main_v0_2) l) (n * 96 + 96)
      ∧ (outsAt1 V c n hn).2.2.2 (ix2 0 l) = upto (bTerm (V c main_arg4) (V c main_arg5) l) (n * 96 + 96) := by
  have g : ∀ t : Fin cfg1.N, (∑ r : Fin 96, incoming (n := 96) (iblk1 V c 0 t) (iblk1 V c 1 t) r l * iblk1 V c 2 t (ix2 r l))
      = ∑ r : Fin 96, gTerm (V c main_arg4) (V c main_arg5) (V c main_v0_2) l (RowBlocks.row t.val (inside1 t) r) := fun t =>
    Finset.sum_congr rfl fun r _ => by rw [in_block, blk1_2 V c t r l]; rfl
  have b : ∀ t : Fin cfg1.N, (∑ r : Fin 96, incoming (n := 96) (iblk1 V c 0 t) (iblk1 V c 1 t) r l)
      = ∑ r : Fin 96, bTerm (V c main_arg4) (V c main_arg5) l (RowBlocks.row t.val (inside1 t) r) := fun t =>
    Finset.sum_congr rfl fun r _ => by rw [in_block]; rfl
  intro n
  induction n with
  | zero =>
    intro hn
    rw [outsAt1_A V c ⟨0, hn⟩ rfl]
    dsimp only
    rw [out7_A, out8_A, back3, back4, zero1, zero2, g, b, upto_add _ 0 (by decide), upto_add _ 0 (by decide)]
    exact ⟨rfl, rfl⟩
  | succ n ih =>
    intro hn
    have hm : ¬ (n + 1) % 43 = 0 := by have := inside1 ⟨n + 1, hn⟩; dsimp only at this; omega
    have hi := ih (Nat.lt_of_succ_lt hn)
    have hs := inside1 ⟨n + 1, hn⟩
    rw [outsAt1_B V c ⟨n + 1, hn⟩ hm]
    dsimp only
    rw [out7_B, out8_B, back3, back4, g, b, upto_add _ (n + 1) hs, upto_add _ (n + 1) hs, Nat.succ_mul]
    exact ⟨congrArg (· + _) hi.1, congrArg (· + _) hi.2⟩

/-! ## The four arrays -/

theorem left5 (t : Fin cfg1.N) : (dat1 V c).after 5 t = k1_pay7 (iblk1 V c 0 t) (iblk1 V c 1 t) (iblk1 V c 2 t) (iblk1 V c 3 t) (iblk1 V c 4 t) := by
  rw [after1_5]
  by_cases h : t.val % 43 = 0
  · rw [outsAt1_A V c t h]
    dsimp only
    rw [out5_A]
  · rw [outsAt1_B V c t h]
    dsimp only
    rw [out5_B]

theorem final1_5 : (dat1 V c).arrAt 5 cfg1.N = back (V c main_arg4) (V c main_arg5) (V c main_v0_2) (V c main_v0_3) (V c main_arg2) :=
  (dat1 V c).arrAt_eq_of_cover 5 _ (fun t _ => by
    show (cfg1.win 5).cut (grid1.coords t) ((dat1 V c).after 5 t) = _
    rw [left5]
    funext j
    obtain ⟨r, l, rfl⟩ : ∃ (r : Fin 96) (l : Fin 4096), j = ix2 r l := index_eq j
    rw [View.read_apply, show ((cfg1.win 5).blk t).view.emb (ix2 r l) = ix2 (RowBlocks.row t.val (inside1 t) r) l from
      funext fun a => Fin.ext (RowBlocks.lies (win1_5.index t) (inside1 t) (at1_5 t) r l a)]
    exact (back7 _ _ _ _ _ r l).trans (back_block V c t r l)) fun i =>
    ⟨point1 (i 0), flush1_5 _, by
      show i ∈ ((View.whole main_v1_0).slice (win1_5.rect (point1 (i 0)))).set
      rw [View.set_slice_whole, Rect.mem_set_unit]
      exact RowBlocks.holds (by decide) (win1_5.index (point1 (i 0))) i (at1_5 (point1 (i 0)))⟩

theorem left6 (t : Fin cfg1.N) : (dat1 V c).after 6 t = k1_pay8 (iblk1 V c 0 t) (iblk1 V c 1 t) (iblk1 V c 2 t) (iblk1 V c 3 t) (iblk1 V c 4 t) := by
  rw [after1_6]
  by_cases h : t.val % 43 = 0
  · rw [outsAt1_A V c t h]
    dsimp only
    rw [out6_A]
  · rw [outsAt1_B V c t h]
    dsimp only
    rw [out6_B]

theorem final1_6 : (dat1 V c).arrAt 6 cfg1.N = share factor (back (V c main_arg4) (V c main_arg5) (V c main_v0_2) (V c main_v0_3) (V c main_arg2)) :=
  (dat1 V c).arrAt_eq_of_cover 6 _ (fun t _ => by
    show (cfg1.win 6).cut (grid1.coords t) ((dat1 V c).after 6 t) = _
    rw [left6]
    funext j
    obtain ⟨r, l, rfl⟩ : ∃ (r : Fin 96) (l : Fin 4096), j = ix2 r l := index_eq j
    rw [View.read_apply, show ((cfg1.win 6).blk t).view.emb (ix2 r l) = ix2 (RowBlocks.row t.val (inside1 t) r) l from
      funext fun a => Fin.ext (RowBlocks.lies (win1_6.index t) (inside1 t) (at1_6 t) r l a)]
    exact (back8 _ _ _ _ _ r l).trans (congrArg (_ * ·) (back_block V c t r l))) fun i =>
    ⟨point1 (i 0), flush1_6 _, by
      show i ∈ ((View.whole main_v1_1).slice (win1_6.rect (point1 (i 0)))).set
      rw [View.set_slice_whole, Rect.mem_set_unit]
      exact RowBlocks.holds (by decide) (win1_6.index (point1 (i 0))) i (at1_6 (point1 (i 0)))⟩

theorem final1_7 : (dat1 V c).arrAt 7 cfg1.N = gSum (V c main_arg4) (V c main_arg5) (V c main_v0_2) :=
  (dat1 V c).arrAt_eq_of_cover 7 _ (fun t hf => by
    have ht : t.val = 42 := by have := (flush1_7 t).mp hf; have := inside1 t; omega
    show (cfg1.win 7).cut (grid1.coords t) ((dat1 V c).after 7 t) = _
    rw [after1_7]
    funext j
    obtain ⟨r, l, rfl⟩ : ∃ (r : Fin 1) (l : Fin 4096), j = ix2 r l := index_eq j
    obtain rfl : r = 0 := Subsingleton.elim _ _
    rw [View.read_apply, show ((cfg1.win 7).blk t).view.emb (ix2 0 l) = ix2 0 l from
      funext fun a => Fin.ext (RowBlocks.lies (win1_7.index t) (t := 0) (by decide : 0 * 1 + 1 ≤ 1) (at1_7 t) 0 l a)]
    refine (sums V c l t.val t.isLt).1.trans ?_
    rw [ht]
    exact upto_all _) fun i =>
    ⟨point1 4127, (flush1_7 _).mpr rfl, by
      show i ∈ ((View.whole main_v1_2).slice (win1_7.rect (point1 4127))).set
      rw [View.set_slice_whole, Rect.mem_set_unit]
      exact RowBlocks.holds (by decide) (win1_7.index (point1 4127)) i (by
        rw [show (i 0).val / 1 = 0 by have : (i 0).val < 1 := (i 0).isLt; omega]; exact at1_7 (point1 4127))⟩

theorem final1_8 : (dat1 V c).arrAt 8 cfg1.N = bSum (V c main_arg4) (V c main_arg5) :=
  (dat1 V c).arrAt_eq_of_cover 8 _ (fun t hf => by
    have ht : t.val = 42 := by have := (flush1_8 t).mp hf; have := inside1 t; omega
    show (cfg1.win 8).cut (grid1.coords t) ((dat1 V c).after 8 t) = _
    rw [after1_8]
    funext j
    obtain ⟨r, l, rfl⟩ : ∃ (r : Fin 1) (l : Fin 4096), j = ix2 r l := index_eq j
    obtain rfl : r = 0 := Subsingleton.elim _ _
    rw [View.read_apply, show ((cfg1.win 8).blk t).view.emb (ix2 0 l) = ix2 0 l from
      funext fun a => Fin.ext (RowBlocks.lies (win1_8.index t) (t := 0) (by decide : 0 * 1 + 1 ≤ 1) (at1_8 t) 0 l a)]
    refine (sums V c l t.val t.isLt).2.trans ?_
    rw [ht]
    exact upto_all _) fun i =>
    ⟨point1 4127, (flush1_8 _).mpr rfl, by
      show i ∈ ((View.whole main_v1_3).slice (win1_8.rect (point1 4127))).set
      rw [View.set_slice_whole, Rect.mem_set_unit]
      exact RowBlocks.holds (by decide) (win1_8.index (point1 4127)) i (by
        rw [show (i 0).val / 1 = 0 by have : (i 0).val < 1 := (i 0).isLt; omega]; exact at1_8 (point1 4127))⟩

end Cert.NormWholeIdeal.Norm

end
-- ==== Proof.NormWholeRun.lean ====
/-
  The run of the two calls of the normalisation after the mixer: what the forward call saves goes to the backward call.
-/
module

public import proofs.«01_k».proof.Proof.NormWholeFwd
public import proofs.«01_k».proof.Proof.NormWholeBwd
public import Idealize.ShloMosaic.Lib.Tactic

@[expose] public section

set_option maxRecDepth 16384

noncomputable section

namespace Cert.NormWholeIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.NormWholeIdeal Cert.NormWholeIdeal.Gen Cert.Products Cert.NormRows Cert.NormWholeIdeal.Norm

local notation "𝕄" => MT nD τ sig Unit (Elt Ideal) ℕ (UR sig nD τ) ℕ

variable (m : (ℓ : Loc nD τ sig) → Buf (Elt Ideal) ℓ) (ρ : Dev nD → PrngReg)

/-! ## The arguments, and what the calls leave, from the arguments -/

abbrev arg0 (c : Dev nD) : Mat 4128 4096 := m (c.tc.loc main_arg0)
abbrev arg1 (c : Dev nD) : Mat 4128 4096 := m (c.tc.loc main_arg1)
abbrev arg2 (c : Dev nD) : Mat 1 4096 := m (c.tc.loc main_arg2)
abbrev arg3 (c : Dev nD) : Mat 1 4096 := m (c.tc.loc main_arg3)
abbrev arg4 (c : Dev nD) : Mat 4128 4096 := m (c.tc.loc main_arg4)
abbrev arg5 (c : Dev nD) : Mat 4128 4096 := m (c.tc.loc main_arg5)
/-- The normalised rows, scaled and shifted. -/
def rows (c : Dev nD) : Mat 4128 4096 := normed factor (arg0 m c) (arg1 m c) (arg2 m c) (arg3 m c)

/-- The normalised rows. -/
def saved (c : Dev nD) : Mat 4128 4096 := hats factor (arg0 m c) (arg1 m c)

/-- One over each row's deviation. -/
def savedDev (c : Dev nD) : Mat 4128 1 := rstds factor (arg0 m c) (arg1 m c)

/-- The gradient of the residual. -/
def dr (c : Dev nD) : Mat 4128 4096 := back (arg4 m c) (arg5 m c) (saved m c) (savedDev m c) (arg2 m c)

/-- Its share with the factor, the gradient of the branch. -/
def drHalf (c : Dev nD) : Mat 4128 4096 := share factor (dr m c)

/-- The scale's gradient. -/
def gs (c : Dev nD) : Mat 1 4096 := gSum (arg4 m c) (arg5 m c) (saved m c)

/-- The shift's gradient. -/
def bs (c : Dev nD) : Mat 1 4096 := bSum (arg4 m c) (arg5 m c)

/-! ## What each array holds when a call ends -/

theorem v0_0_1 (c : Dev nD) : W1 m ρ c (Proc.devRef .tc main_v0_0) = rows m c :=
  (W1_arr m ρ c 4).trans (Norm.final0_4 (V0 m ρ) c)

theorem v0_1_1 (c : Dev nD) : W1 m ρ c (Proc.devRef .tc main_v0_1) = rows m c :=
  (W1_arr m ρ c 5).trans (Norm.final0_5 (V0 m ρ) c)

theorem v0_2_1 (c : Dev nD) : W1 m ρ c (Proc.devRef .tc main_v0_2) = saved m c :=
  (W1_arr m ρ c 6).trans (Norm.final0_6 (V0 m ρ) c)

theorem v0_3_1 (c : Dev nD) : W1 m ρ c (Proc.devRef .tc main_v0_3) = savedDev m c :=
  (W1_arr m ρ c 7).trans (Norm.final0_7 (V0 m ρ) c)

theorem v0_0_2 (c : Dev nD) : W2 m ρ c (Proc.devRef .tc main_v0_0) = rows m c :=
  (W2_of m ρ c main_v0_0 (by decide +kernel)).trans (v0_0_1 m ρ c)

theorem v0_1_2 (c : Dev nD) : W2 m ρ c (Proc.devRef .tc main_v0_1) = rows m c :=
  (W2_of m ρ c main_v0_1 (by decide +kernel)).trans (v0_1_1 m ρ c)

theorem kept2 (c : Dev nD) : V1 m ρ c main_arg2 = arg2 m c := W1_args m ρ c _ (by simp [argRefs])
theorem kept4 (c : Dev nD) : V1 m ρ c main_arg4 = arg4 m c := W1_args m ρ c _ (by simp [argRefs])
theorem kept5 (c : Dev nD) : V1 m ρ c main_arg5 = arg5 m c := W1_args m ρ c _ (by simp [argRefs])
theorem keptRows (c : Dev nD) : V1 m ρ c main_v0_2 = saved m c := v0_2_1 m ρ c
theorem keptDev (c : Dev nD) : V1 m ρ c main_v0_3 = savedDev m c := v0_3_1 m ρ c

theorem v1_0_2 (c : Dev nD) : W2 m ρ c (Proc.devRef .tc main_v1_0) = dr m c :=
  (W2_arr m ρ c 5).trans ((Norm.final1_5 (V1 m ρ) c).trans (by rw [kept4, kept5, keptRows, keptDev, kept2]; rfl))

theorem v1_1_2 (c : Dev nD) : W2 m ρ c (Proc.devRef .tc main_v1_1) = drHalf m c :=
  (W2_arr m ρ c 6).trans ((Norm.final1_6 (V1 m ρ) c).trans (by rw [kept4, kept5, keptRows, keptDev, kept2]; rfl))

theorem v1_2_2 (c : Dev nD) : W2 m ρ c (Proc.devRef .tc main_v1_2) = gs m c :=
  (W2_arr m ρ c 7).trans ((Norm.final1_7 (V1 m ρ) c).trans (by rw [kept4, kept5, keptRows]; rfl))

theorem v1_3_2 (c : Dev nD) : W2 m ρ c (Proc.devRef .tc main_v1_3) = bs m c :=
  (W2_arr m ρ c 8).trans ((Norm.final1_8 (V1 m ρ) c).trans (by rw [kept4, kept5]; rfl))

/-! ## The run -/

set_option backward.isDefEq.respectTransparency.types false in
/-- Every run ends, with the results at these functions of the arguments and the arguments kept. -/
theorem run : θ_run defs (onTc (τ := τ) (main (F := Ideal))) ⟨m, fun _ => 0, ρ⟩ (fun r => ∀ c : Dev nD,
      r.2.mem (c.tc.loc main_v0_0) = rows m c
      ∧ r.2.mem (c.tc.loc main_v0_1) = rows m c
      ∧ r.2.mem (c.tc.loc main_v1_0) = dr m c
      ∧ r.2.mem (c.tc.loc main_v1_1) = drHalf m c
      ∧ r.2.mem (c.tc.loc main_v1_2) = gs m c
      ∧ r.2.mem (c.tc.loc main_v1_3) = bs m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => fun c =>
      ⟨(h c _ (mem_uc main_v0_0 (by decide))).trans (v0_0_2 m ρ c),
       (h c _ (mem_uc main_v0_1 (by decide))).trans (v0_1_2 m ρ c),
       (h c _ (mem_uc main_v1_0 (by decide))).trans (v1_0_2 m ρ c),
       (h c _ (mem_uc main_v1_1 (by decide))).trans (v1_1_2 m ρ c),
       (h c _ (mem_uc main_v1_2 (by decide))).trans (v1_2_2 m ρ c),
       (h c _ (mem_uc main_v1_3 (by decide))).trans (v1_3_2 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Cert.NormWholeIdeal.Run

end
-- ==== Proof.NormWholeReference.lean ====
/-
  The reference of the normalisation after the mixer, read entry by entry: the normalised rows, and the gradient that automatic
  differentiation writes, which is the kernel's where the incoming gradient and the scale are real numbers.
-/
module

public import proofs.«01_k».proof.Proof.Gen.NormWholeRefIdeal.Read
public import proofs.«01_k».proof.Proof.NormRows

@[expose] public section

set_option maxRecDepth 16384

noncomputable section

open Idealize.ShloMosaic

namespace Cert.NormWholeRefIdeal.Reference

open Cert.NormWholeRefIdeal Cert.NormWholeRefIdeal.Read Cert.NormMath Cert.NormRows Cert.Products

/-- The factor on the branch. -/
abbrev factor : EReal := Ideal.ofBits .f32 0x3F800000#32

variable (A B D E : Mat 4128 4096) (g o : Mat 1 4096)

theorem from_zero (x : EReal) : Ideal.ofBits .f32 0x00000000#32 + x = x := by
  rw [show Ideal.ofBits .f32 0x00000000#32 = 0 by simp [Ideal.ofBits, Ideal.ieee], zero_add]

theorem first_row (i : (⟨2, ![4128, 4096]⟩ : Shape).Idx) : idx_main_v24 i = ix2 0 (i 1) := by
  funext a
  match a with
  | ⟨0, _⟩ => rfl
  | ⟨1, _⟩ => rfl

theorem factor_eq : factor = 1 := by
  simp [factor, Ideal.ofBits, Ideal.ieee]
  rw [← EReal.coe_mul]
  norm_num

theorem r2 (i : S4128x4096.Idx) : val_main_v2 (F := Ideal) A B i = mix factor A B (i 0) (i 1) := by
  obtain ⟨r, l, rfl⟩ : ∃ (r : Fin 4128) (l : Fin 4096), i = ix2 r l := index_eq i
  rw [val_main_v2_apply, val_main_v1_apply, val_main_v0_apply]
  unfold mix
  rw [factor_eq, one_mul]
  rfl

theorem r7 (i : S4128x4096.Idx) : val_main_v7 (F := Ideal) A B i = mean (mix factor A B (i 0)) := by
  rw [val_main_v7_apply, val_main_v6_apply, val_main_v5_apply, val_main_v4_apply, val_main_v3_apply]
  exact congrArg (Ideal.div · _) ((from_zero _).trans (Finset.sum_congr rfl fun k _ => r2 A B _))

theorem r8 (i : S4128x4096.Idx) : val_main_v8 (F := Ideal) A B i = centred (mix factor A B (i 0)) (i 1) := by
  rw [val_main_v8_apply, r2, r7]
  rfl

theorem r17 (i : S4128x1.Idx) : val_main_v17 (F := Ideal) A B i = spread (mix factor A B (i 0)) := by
  rw [val_main_v17_apply, val_main_v16_apply, val_main_v15_apply, val_main_v14_apply, val_main_v13_apply, val_main_v12_apply]
  exact congrArg (fun s => Ideal.div s _ + _) ((from_zero _).trans (Finset.sum_congr rfl fun k _ => by
    rw [val_main_v9_apply, r8]; rfl))

theorem r18 (i : S4128x1.Idx) : val_main_v18 (F := Ideal) A B i = rstd (mix factor A B (i 0)) := by
  rw [val_main_v18_apply, r17]
  rfl

theorem r23 (i : S4128x4096.Idx) : val_main_v23 (F := Ideal) A B i = hat (mix factor A B (i 0)) (i 1) := by
  rw [val_main_v23_apply, val_main_v22_apply, r8, r18]
  rfl

/-- The normalised rows, scaled and shifted. -/
theorem value (i : S4128x4096.Idx) : val_main_v27 (F := Ideal) A B g o i = normed factor A B g o i := by
  rw [val_main_v27_apply, val_main_v26_apply, val_main_v25_apply, val_main_v24_apply, r23, first_row,
    show idx_main_v26 i = ix2 0 (i 1) from first_row i]
  rfl

theorem r30 (i : S4128x4096.Idx) : val_main_v30 (F := Ideal) D E i = incoming D E (i 0) (i 1) := by
  obtain ⟨r, l, rfl⟩ : ∃ (r : Fin 4128) (l : Fin 4096), i = ix2 r l := index_eq i
  rw [val_main_v30_apply, val_main_v29_apply, val_main_v28_apply]
  rfl

/-- The shift's gradient. -/
theorem shift_grad (i : S1x4096.Idx) : val_main_v32 (F := Ideal) D E i = bSum D E i := by
  obtain ⟨r, l, rfl⟩ : ∃ (r : Fin 1) (l : Fin 4096), i = ix2 r l := index_eq i
  obtain rfl : r = 0 := Subsingleton.elim _ _
  rw [val_main_v32_apply, val_main_v31_apply]
  refine (from_zero _).trans (Finset.sum_congr rfl fun k _ => (r30 D E _).trans ?_)
  exact congrArg (incoming D E k) (Fin.ext (show 0 * 4096 + l.val = l.val by omega))

/-- The scale's gradient. -/
theorem scale_grad (i : S1x4096.Idx) : val_main_v35 (F := Ideal) A B D E i = gSum D E (hats factor A B) i := by
  obtain ⟨r, l, rfl⟩ : ∃ (r : Fin 1) (l : Fin 4096), i = ix2 r l := index_eq i
  obtain rfl : r = 0 := Subsingleton.elim _ _
  rw [val_main_v35_apply, val_main_v34_apply]
  refine (from_zero _).trans (Finset.sum_congr rfl fun k _ => ?_)
  rw [val_main_v33_apply, r23, r30]
  refine (mul_comm (hat (mix factor A B k) _) (incoming D E k _)).trans ?_
  exact congrArg (fun q => incoming D E k q * hat (mix factor A B k) q) (Fin.ext (show 0 * 4096 + l.val = l.val by omega))

theorem r37 (i : S4128x4096.Idx) : val_main_v37 (F := Ideal) g D E i = scaled D E g (i 0) (i 1) := by
  rw [val_main_v37_apply, val_main_v36_apply, r30, show idx_main_v36 i = ix2 0 (i 1) from first_row i]
  rfl

theorem row40 (i : S4128x4096.Idx) (k : Fin 4096) :
    idx_main_v39 (idx_main_v40 (idx_main_v46 (idx_main_v47 i) 0)) k = ix2 (i 0) k := by
  funext a
  match a with
  | ⟨0, _⟩ => exact Fin.ext (show (i 0).val * 1 + 0 = (i 0).val by omega)
  | ⟨1, _⟩ => rfl

theorem r47 (i : S4128x4096.Idx) : val_main_v47 (F := Ideal) A B g D E i
    = Ideal.div ((∑ k : Fin 4096, centred (mix factor A B (i 0)) k * scaled D E g (i 0) k)
        * (Ideal.ofBits .f32 0xBF000000#32 * Ideal.div (rstd (mix factor A B (i 0))) (spread (mix factor A B (i 0))))) (Ideal.ofBits .f32 0x45800000#32) := by
  rw [val_main_v47_apply, val_main_v46_apply, Fin.sum_univ_one, val_main_v45_apply, val_main_v44_apply, val_main_v43_apply,
    val_main_v40_apply, val_main_v39_apply, val_main_v21_apply, val_main_v20_apply, val_main_v19_apply, r18, r17]
  refine (from_zero _).trans (congrArg (fun s => Ideal.div (s * _) _) ((from_zero _).trans (Finset.sum_congr rfl fun k _ => ?_)))
  rw [val_main_v38_apply, r8, r37]
  exact congrArg (fun q : S4128x4096.Idx => centred (mix factor A B (q 0)) (q 1) * scaled D E g (q 0) (q 1)) (row40 i k)

theorem r49 (i : S4128x4096.Idx) : val_main_v49 (F := Ideal) A B g D E i = gradCentred (mix factor A B (i 0)) (scaled D E g (i 0)) (i 1) := by
  rw [val_main_v49_apply, val_main_v48_apply, val_main_v42_apply, val_main_v41_apply, val_main_v11_apply, val_main_v10_apply,
    r47, r37, r18, r8]
  rfl

theorem r57 (i : S4128x4096.Idx) : val_main_v57 (F := Ideal) A B g D E i = gradAuto (mix factor A B (i 0)) (scaled D E g (i 0)) (i 1) := by
  rw [val_main_v57_apply, val_main_v56_apply, val_main_v55_apply, Fin.sum_univ_one, val_main_v54_apply, val_main_v53_apply,
    val_main_v52_apply, val_main_v51_apply, r49]
  refine congrArg (_ + ·) ((from_zero _).trans (congrArg (Ideal.div · _) ((from_zero _).trans (Finset.sum_congr rfl fun k _ => ?_))))
  rw [val_main_v50_apply, r49]
  exact congrArg (fun q : S4128x4096.Idx => -gradCentred (mix factor A B (q 0)) (scaled D E g (q 0)) (q 1)) (row40 i k)

end Cert.NormWholeRefIdeal.Reference

end
-- ==== Proof.NormWholeClaim.lean ====
/-
  The claims about the two calls of the normalisation after the mixer, from their run, the reading of the reference, and the precondition that the
  scale and the incoming gradients are real numbers.
-/
module

public import proofs.«01_k».proof.Defs
public import proofs.«01_k».proof.Proof.Gen.NormWhole.Frame
public import proofs.«01_k».proof.Proof.Gen.NormWholeRefIdeal.Run
public import proofs.«01_k».proof.Proof.NormWholeRun
public import proofs.«01_k».proof.Proof.NormWholeReference
public import proofs.«01_k».proof.Proof.NormPre
public import proofs.«01_k».proof.Proof.Gen.Pre_norm_finite
public import Idealize.ShloMosaic.Adequacy
public import Idealize.ShloMosaic.Init

@[expose] public section

set_option maxRecDepth 16384

noncomputable section

namespace Cert.Proof

open Idealize.ShloMosaic Idealize.SL.Sem Cert.NormRows Cert.NormWholeRefIdeal.Reference

theorem normWholeFrame : Cert.quiescent_NormWhole := fun m ρ _ => Cert.NormWhole.Gen.frame m ρ

theorem normWholeIdealFrame : Cert.quiescent_NormWholeIdeal := fun m ρ _ => Cert.NormWholeIdeal.Gen.frame m ρ

theorem normWholeIdealFrameNone : Cert.quiescent_NormWholeIdeal_pre_none := fun m ρ _ => Cert.NormWholeIdeal.Gen.frame m ρ

theorem normWholeRefFrame : Cert.quiescent_NormWholeRefIdeal := fun m ρ _ =>
  (θ_run Cert.NormWholeRefIdeal.defs _ _).mono
    (fun r h => ⟨fun c => (h c).2.2.2.2.2.2, sem_eq_zero_of_no_sems (by decide) r.2⟩)
    (Cert.NormWholeRefIdeal.Value.run (F := Ideal) m ρ)

theorem normWholeRefFramePre : Cert.quiescent_NormWholeRefIdeal_pre_norm_finite := fun m ρ _ => normWholeRefFrame m ρ trivial

/-- The gradient with what the forward call saved is automatic differentiation's, where the incoming row is real. -/
theorem norm_whole_back (A B d e : Products.Mat 4128 4096) (g : Products.Mat 1 4096) (hd : FfnMath.RealMat d) (he : FfnMath.RealMat e)
    (hg : FfnMath.RealMat g) (i) : NormWholeRefIdeal.Read.val_main_v57 (F := Ideal) A B g d e i = back d e (hats factor A B) (rstds factor A B) g i :=
  (r57 A B d e g i).trans (congrFun (NormMath.gradAuto_eq _ _ (NormPre.scaled_real d e g hd he hg (i 0))) (i 1))

/-- The kernel's two calls and the plain normalisation with its `jax.vjp` leave the same six results, over the extended
    reals, where the scale and the incoming gradients are real numbers. -/
theorem normWholeValue : Cert.algebraic_NormWholeIdeal_NormWholeRefIdeal := fun m ρ m' ρ' hpre hag =>
  ⟨fun c => NormWholeIdeal.Run.rows m c, fun c => NormWholeIdeal.Run.rows m c, fun c => NormWholeIdeal.Run.dr m c,
   fun c => NormWholeIdeal.Run.drHalf m c, fun c => NormWholeIdeal.Run.gs m c, fun c => NormWholeIdeal.Run.bs m c,
   (θ_run Cert.NormWholeIdeal.defs _ _).mono (fun r h c => h c) (Cert.NormWholeIdeal.Run.run m ρ),
   (θ_run Cert.NormWholeRefIdeal.defs _ _).mono
     (fun r h c => by
       obtain ⟨h0, h1, h2, h3, h4, h5, hk⟩ := h c
       obtain ⟨e0, e1, e2, e3, e4, e5⟩ := hag c
       obtain ⟨fg, fd, fe⟩ := NormPre.of_pre _ _ _ _ _ _ (hpre c)
       refine ⟨h0.trans ?_, h1.trans ?_, h2.trans ?_, h3.trans ?_, h4.trans ?_, h5.trans ?_, hk⟩
       · rw [NormWholeRefIdeal.Read.val_main_v27_eq, e0, e1, e2, e3]
         exact funext fun i => value _ _ _ _ i
       · rw [NormWholeRefIdeal.Read.val_main_v58_eq, e0, e1, e2, e3]
         exact funext fun i => value _ _ _ _ i
       · rw [NormWholeRefIdeal.Read.val_main_v57_eq, e0, e1, e2, e4, e5]
         exact funext fun i => norm_whole_back _ _ _ _ _ fd fe fg i
       · rw [NormWholeRefIdeal.Read.val_main_v59_eq, e0, e1, e2, e4, e5]
         exact funext fun i => (norm_whole_back _ _ _ _ _ fd fe fg i).trans ((one_mul _).symm.trans (congrArg (· * NormWholeIdeal.Run.dr m c i) factor_eq.symm))
       · rw [NormWholeRefIdeal.Read.val_main_v35_eq, e0, e1, e4, e5]
         exact funext fun i => scale_grad _ _ _ _ i
       · rw [NormWholeRefIdeal.Read.val_main_v32_eq, e4, e5]
         exact funext fun i => shift_grad _ _ i)
     (Cert.NormWholeRefIdeal.Value.run m' ρ')⟩

end Cert.Proof

end
-- ==== Proof.lean ====
module

public import proofs.«01_k».proof.Defs
public import proofs.«01_k».proof.Proof.ConvClaim
public import proofs.«01_k».proof.Proof.FfnFwdClaim
public import proofs.«01_k».proof.Proof.FfnBwdClaim
public import proofs.«01_k».proof.Proof.MixerClaim
public import proofs.«01_k».proof.Proof.FfnHalvesClaim
public import proofs.«01_k».proof.Proof.AdamWClaim
public import proofs.«01_k».proof.Proof.InputGradClaim
public import proofs.«01_k».proof.Proof.NormClaim
public import proofs.«01_k».proof.Proof.NormWholeClaim

@[expose] public section

noncomputable section

namespace Cert.Proof

theorem claim : Cert.Claim :=
  ⟨Cert.ConvBwd.Gen.facts, Cert.ConvBwdIdeal.Gen.facts, Cert.ConvRefIdeal.Gen.facts,
   Cert.FfnFwd.Gen.facts, Cert.FfnFwdIdeal.Gen.facts, Cert.FfnFwdRefIdeal.Gen.facts,
   Cert.FfnBwd.Gen.facts, Cert.FfnBwdIdeal.Gen.facts, Cert.FfnBwdRefIdeal.Gen.facts,
   Cert.Mixer.Gen.facts, Cert.MixerIdeal.Gen.facts, Cert.MixerRefIdeal.Gen.facts,
   Cert.FfnHalves.Gen.facts, Cert.FfnHalvesIdeal.Gen.facts,
   Cert.AdamW.Gen.facts, Cert.AdamWIdeal.Gen.facts, Cert.AdamWRefIdeal.Gen.facts,
   Cert.InputGrad.Gen.facts, Cert.InputGradIdeal.Gen.facts, Cert.InputGradRefIdeal.Gen.facts,
   Cert.Norm.Gen.facts, Cert.NormIdeal.Gen.facts, Cert.NormRefIdeal.Gen.facts,
   Cert.NormWhole.Gen.facts, Cert.NormWholeIdeal.Gen.facts, Cert.NormWholeRefIdeal.Gen.facts, Cert.Pre_finite.Gen.facts, Cert.Pre_norm_finite.Gen.facts,
   convFrame, convIdealFrame, convRefFrame, ffnFwdFrame, ffnFwdIdealFrame, ffnFwdRefFrame,
   ffnBwdFrame, ffnBwdIdealFrame, ffnBwdIdealFrameNone, ffnBwdRefFrame, ffnBwdRefFramePre,
   mixerFrame, mixerIdealFrame, mixerRefFrame, ffnHalvesFrame, ffnHalvesIdealFrame,
   adamwFrame, adamwIdealFrame, adamwRefFrame, inputGradFrame, inputGradIdealFrame, inputGradRefFrame,
   normFrame, normIdealFrame, normIdealFrameNone, normRefFrame, normRefFramePre,
   normWholeFrame, normWholeIdealFrame, normWholeIdealFrameNone, normWholeRefFrame, normWholeRefFramePre,
   trivial, convValue, trivial, ffnFwdValue, trivial, ffnBwdValue, trivial, mixerValue,
   trivial, ffnHalvesValue, trivial, adamwValue, trivial, inputGradValue, trivial, normValue,
   trivial, normWholeValue⟩

end Cert.Proof

end
